-- ==== Defs.lean ====
def Pre_Dispatch [hPre_routed : Cert.Pre_routed.Facts] (m : (ℓ : Loc Cert.Dispatch.nD Cert.Dispatch.τ Cert.Dispatch.sig) → Buf (Elt Bits) ℓ) : Prop :=
  ∀ c : Dev Cert.Dispatch.nD,
    (Cert.Pre_routed.fn (F := Bits) (m ((c.tc : Thread Cert.Dispatch.nD Cert.Dispatch.τ).loc Cert.Dispatch.main_arg0)) (m ((c.tc : Thread Cert.Dispatch.nD Cert.Dispatch.τ).loc Cert.Dispatch.main_arg1)) (m ((c.tc : Thread Cert.Dispatch.nD Cert.Dispatch.τ).loc Cert.Dispatch.main_arg2)) (m ((c.tc : Thread Cert.Dispatch.nD Cert.Dispatch.τ).loc Cert.Dispatch.main_arg3))) = (fun _ => 1#1)

def Pre_DispatchIdeal [hPre_routed : Cert.Pre_routed.Facts] (m : (ℓ : Loc Cert.DispatchIdeal.nD Cert.DispatchIdeal.τ Cert.DispatchIdeal.sig) → Buf (Elt Ideal) ℓ) : Prop :=
  ∀ c : Dev Cert.DispatchIdeal.nD,
    (Cert.Pre_routed.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1)) (m ((c.tc : Thread Cert.DispatchIdeal.nD Cert.DispatchIdeal.τ).loc Cert.DispatchIdeal.main_arg2)) (m ((c.tc : Thread Cert.DispatchIdeal.nD Cert.DispatchIdeal.τ).loc Cert.DispatchIdeal.main_arg3))) = (fun _ => 1#1)

def Pre_GatherIdeal [hPre_routed : Cert.Pre_routed.Facts] (m : (ℓ : Loc Cert.GatherIdeal.nD Cert.GatherIdeal.τ Cert.GatherIdeal.sig) → Buf (Elt Ideal) ℓ) : Prop :=
  ∀ c : Dev Cert.GatherIdeal.nD,
    (Cert.Pre_routed.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2)) (m ((c.tc : Thread Cert.GatherIdeal.nD Cert.GatherIdeal.τ).loc Cert.GatherIdeal.main_arg3))) = (fun _ => 1#1)

def Pre_Gather [hPre_routed : Cert.Pre_routed.Facts] (m : (ℓ : Loc Cert.Gather.nD Cert.Gather.τ Cert.Gather.sig) → Buf (Elt Bits) ℓ) : Prop :=
  ∀ c : Dev Cert.Gather.nD,
    (Cert.Pre_routed.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2)) (m ((c.tc : Thread Cert.Gather.nD Cert.Gather.τ).loc Cert.Gather.main_arg3))) = (fun _ => 1#1)

def Pre_Dislat [hPre_routed_lat : Cert.Pre_routed_lat.Facts] (m : (ℓ : Loc Cert.Dislat.nD Cert.Dislat.τ Cert.Dislat.sig) → Buf (Elt Bits) ℓ) : Prop :=
  ∀ c : Dev Cert.Dislat.nD,
    (Cert.Pre_routed_lat.fn (F := Bits) (m ((c.tc : Thread Cert.Dislat.nD Cert.Dislat.τ).loc Cert.Dislat.main_arg0)) (m ((c.tc : Thread Cert.Dislat.nD Cert.Dislat.τ).loc Cert.Dislat.main_arg1)) (m ((c.tc : Thread Cert.Dislat.nD Cert.Dislat.τ).loc Cert.Dislat.main_arg2)) (m ((c.tc : Thread Cert.Dislat.nD Cert.Dislat.τ).loc Cert.Dislat.main_arg3))) = (fun _ => 1#1)

def Pre_DislatIdeal [hPre_routed_lat : Cert.Pre_routed_lat.Facts] (m : (ℓ : Loc Cert.DislatIdeal.nD Cert.DislatIdeal.τ Cert.DislatIdeal.sig) → Buf (Elt Ideal) ℓ) : Prop :=
  ∀ c : Dev Cert.DislatIdeal.nD,
    (Cert.Pre_routed_lat.fn (F := Ideal) (m ((c.tc : Thread Cert.DislatIdeal.nD Cert.DislatIdeal.τ).loc Cert.DislatIdeal.main_arg0)) (m ((c.tc : Thread Cert.DislatIdeal.nD Cert.DislatIdeal.τ).loc Cert.DislatIdeal.main_arg1)) (m ((c.tc : Thread Cert.DislatIdeal.nD Cert.DislatIdeal.τ).loc Cert.DislatIdeal.main_arg2)) (m ((c.tc : Thread Cert.DislatIdeal.nD Cert.DislatIdeal.τ).loc Cert.DislatIdeal.main_arg3))) = (fun _ => 1#1)

def Pre_GatlatIdeal [hPre_routed_lat : Cert.Pre_routed_lat.Facts] (m : (ℓ : Loc Cert.GatlatIdeal.nD Cert.GatlatIdeal.τ Cert.GatlatIdeal.sig) → Buf (Elt Ideal) ℓ) : Prop :=
  ∀ c : Dev Cert.GatlatIdeal.nD,
    (Cert.Pre_routed_lat.fn (F := Ideal) (m ((c.tc : Thread Cert.GatlatIdeal.nD Cert.GatlatIdeal.τ).loc Cert.GatlatIdeal.main_arg0)) (m ((c.tc : Thread Cert.GatlatIdeal.nD Cert.GatlatIdeal.τ).loc Cert.GatlatIdeal.main_arg1)) (m ((c.tc : Thread Cert.GatlatIdeal.nD Cert.GatlatIdeal.τ).loc Cert.GatlatIdeal.main_arg2)) (m ((c.tc : Thread Cert.GatlatIdeal.nD Cert.GatlatIdeal.τ).loc Cert.GatlatIdeal.main_arg3))) = (fun _ => 1#1)

def Pre_Gatlat [hPre_routed_lat : Cert.Pre_routed_lat.Facts] (m : (ℓ : Loc Cert.Gatlat.nD Cert.Gatlat.τ Cert.Gatlat.sig) → Buf (Elt Bits) ℓ) : Prop :=
  ∀ c : Dev Cert.Gatlat.nD,
    (Cert.Pre_routed_lat.fn (F := Bits) (m ((c.tc : Thread Cert.Gatlat.nD Cert.Gatlat.τ).loc Cert.Gatlat.main_arg0)) (m ((c.tc : Thread Cert.Gatlat.nD Cert.Gatlat.τ).loc Cert.Gatlat.main_arg1)) (m ((c.tc : Thread Cert.Gatlat.nD Cert.Gatlat.τ).loc Cert.Gatlat.main_arg2)) (m ((c.tc : Thread Cert.Gatlat.nD Cert.Gatlat.τ).loc Cert.Gatlat.main_arg3))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_MoeIdeal (m : (ℓ : Loc Cert.MoeIdeal.nD Cert.MoeIdeal.τ Cert.MoeIdeal.sig) → Buf (Elt Ideal) ℓ) : Prop :=
  True

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_StatesIdeal (m : (ℓ : Loc Cert.StatesIdeal.nD Cert.StatesIdeal.τ Cert.StatesIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_TurnedIdeal (m : (ℓ : Loc Cert.TurnedIdeal.nD Cert.TurnedIdeal.τ Cert.TurnedIdeal.sig) → Buf (Elt Ideal) ℓ) : Prop :=
  True

def Pre_Combine [hPre_assigned : Cert.Pre_assigned.Facts] (m : (ℓ : Loc Cert.Combine.nD Cert.Combine.τ Cert.Combine.sig) → Buf (Elt Bits) ℓ) : Prop :=
  ∀ c : Dev Cert.Combine.nD,
    (Cert.Pre_assigned.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5)) (m ((c.tc : Thread Cert.Combine.nD Cert.Combine.τ).loc Cert.Combine.main_arg6))) = (fun _ => 1#1)

def Pre_CombineIdeal [hPre_assigned : Cert.Pre_assigned.Facts] (m : (ℓ : Loc Cert.CombineIdeal.nD Cert.CombineIdeal.τ Cert.CombineIdeal.sig) → Buf (Elt Ideal) ℓ) : Prop :=
  ∀ c : Dev Cert.CombineIdeal.nD,
    (Cert.Pre_assigned.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6))) = (fun _ => 1#1)

def Pre_ScatteredIdeal [hPre_assigned : Cert.Pre_assigned.Facts] (m : (ℓ : Loc Cert.ScatteredIdeal.nD Cert.ScatteredIdeal.τ Cert.ScatteredIdeal.sig) → Buf (Elt Ideal) ℓ) : Prop :=
  ∀ c : Dev Cert.ScatteredIdeal.nD,
    (Cert.Pre_assigned.fn (F := Ideal) (m ((c.tc : Thread Cert.ScatteredIdeal.nD Cert.ScatteredIdeal.τ).loc Cert.ScatteredIdeal.main_arg0)) (m ((c.tc : Thread Cert.ScatteredIdeal.nD Cert.ScatteredIdeal.τ).loc Cert.ScatteredIdeal.main_arg1)) (m ((c.tc : Thread Cert.ScatteredIdeal.nD Cert.ScatteredIdeal.τ).loc Cert.ScatteredIdeal.main_arg2)) (m ((c.tc : Thread Cert.ScatteredIdeal.nD Cert.ScatteredIdeal.τ).loc Cert.ScatteredIdeal.main_arg3)) (m ((c.tc : Thread Cert.ScatteredIdeal.nD Cert.ScatteredIdeal.τ).loc Cert.ScatteredIdeal.main_arg4)) (m ((c.tc : Thread Cert.ScatteredIdeal.nD Cert.ScatteredIdeal.τ).loc Cert.ScatteredIdeal.main_arg5)) (m ((c.tc : Thread Cert.ScatteredIdeal.nD Cert.ScatteredIdeal.τ).loc Cert.ScatteredIdeal.main_arg6))) = (fun _ => 1#1)

def quiescent_Dispatch [hDispatch : Cert.Dispatch.Facts] [hPre_routed : Cert.Pre_routed.Facts] : Prop :=
  ∀ (m : (ℓ : Loc Cert.Dispatch.nD Cert.Dispatch.τ Cert.Dispatch.sig) → Buf (Elt Bits) ℓ) (g : Dev Cert.Dispatch.nD → PrngReg), Pre_Dispatch m →
    θ_run (Cert.Dispatch.defs (F := Bits)) (onTc (τ := Cert.Dispatch.τ) (Cert.Dispatch.main (F := Bits))) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1)
      ∧ r.2.mem ((c.tc : Thread Cert.Dispatch.nD Cert.Dispatch.τ).loc Cert.Dispatch.main_arg2) = m ((c.tc : Thread Cert.Dispatch.nD Cert.Dispatch.τ).loc Cert.Dispatch.main_arg2)
      ∧ r.2.mem ((c.tc : Thread Cert.Dispatch.nD Cert.Dispatch.τ).loc Cert.Dispatch.main_arg3) = m ((c.tc : Thread Cert.Dispatch.nD Cert.Dispatch.τ).loc Cert.Dispatch.main_arg3))
      ∧ r.2.sem = fun _ => 0)

def quiescent_DispatchIdeal [hDispatchIdeal : Cert.DispatchIdeal.Facts] [hPre_routed : Cert.Pre_routed.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
      ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2)
      ∧ r.2.mem ((c.tc : Thread Cert.DispatchIdeal.nD Cert.DispatchIdeal.τ).loc Cert.DispatchIdeal.main_arg3) = m ((c.tc : Thread Cert.DispatchIdeal.nD Cert.DispatchIdeal.τ).loc Cert.DispatchIdeal.main_arg3))
      ∧ r.2.sem = fun _ => 0)

def quiescent_GatherIdeal [hGatherIdeal : Cert.GatherIdeal.Facts] [hPre_routed : Cert.Pre_routed.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ r.2.sem = fun _ => 0)

def quiescent_Gather [hGather : Cert.Gather.Facts] [hPre_routed : Cert.Pre_routed.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3))
      ∧ r.2.sem = fun _ => 0)

def quiescent_Dislat [hDislat : Cert.Dislat.Facts] [hPre_routed_lat : Cert.Pre_routed_lat.Facts] : Prop :=
  ∀ (m : (ℓ : Loc Cert.Dislat.nD Cert.Dislat.τ Cert.Dislat.sig) → Buf (Elt Bits) ℓ) (g : Dev Cert.Dislat.nD → PrngReg), Pre_Dislat m →
    θ_run (Cert.Dislat.defs (F := Bits)) (onTc (τ := Cert.Dislat.τ) (Cert.Dislat.main (F := Bits))) ⟨m, fun _ => 0, g⟩ (fun r => (∀ c : Dev Cert.Dislat.nD,
      r.2.mem ((c.tc : Thread Cert.Dislat.nD Cert.Dislat.τ).loc Cert.Dislat.main_arg0) = m ((c.tc : Thread Cert.Dislat.nD Cert.Dislat.τ).loc Cert.Dislat.main_arg0)
      ∧ r.2.mem ((c.tc : Thread Cert.Dislat.nD Cert.Dislat.τ).loc Cert.Dislat.main_arg1) = m ((c.tc : Thread Cert.Dislat.nD Cert.Dislat.τ).loc Cert.Dislat.main_arg1)
      ∧ r.2.mem ((c.tc : Thread Cert.Dislat.nD Cert.Dislat.τ).loc Cert.Dislat.main_arg2) = m ((c.tc : Thread Cert.Dislat.nD Cert.Dislat.τ).loc Cert.Dislat.main_arg2)
      ∧ r.2.mem ((c.tc : Thread Cert.Dislat.nD Cert.Dislat.τ).loc Cert.Dislat.main_arg3) = m ((c.tc : Thread Cert.Dislat.nD Cert.Dislat.τ).loc Cert.Dislat.main_arg3))
      ∧ r.2.sem = fun _ => 0)

def quiescent_DislatIdeal [hDislatIdeal : Cert.DislatIdeal.Facts] [hPre_routed_lat : Cert.Pre_routed_lat.Facts] : Prop :=
  ∀ (m : (ℓ : Loc Cert.DislatIdeal.nD Cert.DislatIdeal.τ Cert.DislatIdeal.sig) → Buf (Elt Ideal) ℓ) (g : Dev Cert.DislatIdeal.nD → PrngReg), Pre_DislatIdeal m →
    θ_run (Cert.DislatIdeal.defs (F := Ideal)) (onTc (τ := Cert.DislatIdeal.τ) (Cert.DislatIdeal.main (F := Ideal))) ⟨m, fun _ => 0, g⟩ (fun r => (∀ c : Dev Cert.DislatIdeal.nD,
      r.2.mem ((c.tc : Thread Cert.DislatIdeal.nD Cert.DislatIdeal.τ).loc Cert.DislatIdeal.main_arg0) = m ((c.tc : Thread Cert.DislatIdeal.nD Cert.DislatIdeal.τ).loc Cert.DislatIdeal.main_arg0)
      ∧ r.2.mem ((c.tc : Thread Cert.DislatIdeal.nD Cert.DislatIdeal.τ).loc Cert.DislatIdeal.main_arg1) = m ((c.tc : Thread Cert.DislatIdeal.nD Cert.DislatIdeal.τ).loc Cert.DislatIdeal.main_arg1)
      ∧ r.2.mem ((c.tc : Thread Cert.DislatIdeal.nD Cert.DislatIdeal.τ).loc Cert.DislatIdeal.main_arg2) = m ((c.tc : Thread Cert.DislatIdeal.nD Cert.DislatIdeal.τ).loc Cert.DislatIdeal.main_arg2)
      ∧ r.2.mem ((c.tc : Thread Cert.DislatIdeal.nD Cert.DislatIdeal.τ).loc Cert.DislatIdeal.main_arg3) = m ((c.tc : Thread Cert.DislatIdeal.nD Cert.DislatIdeal.τ).loc Cert.DislatIdeal.main_arg3))
      ∧ r.2.sem = fun _ => 0)

def quiescent_GatlatIdeal [hGatlatIdeal : Cert.GatlatIdeal.Facts] [hPre_routed_lat : Cert.Pre_routed_lat.Facts] : Prop :=
  ∀ (m : (ℓ : Loc Cert.GatlatIdeal.nD Cert.GatlatIdeal.τ Cert.GatlatIdeal.sig) → Buf (Elt Ideal) ℓ) (g : Dev Cert.GatlatIdeal.nD → PrngReg), Pre_GatlatIdeal m →
    θ_run (Cert.GatlatIdeal.defs (F := Ideal)) (onTc (τ := Cert.GatlatIdeal.τ) (Cert.GatlatIdeal.main (F := Ideal))) ⟨m, fun _ => 0, g⟩ (fun r => (∀ c : Dev Cert.GatlatIdeal.nD,
      r.2.mem ((c.tc : Thread Cert.GatlatIdeal.nD Cert.GatlatIdeal.τ).loc Cert.GatlatIdeal.main_arg0) = m ((c.tc : Thread Cert.GatlatIdeal.nD Cert.GatlatIdeal.τ).loc Cert.GatlatIdeal.main_arg0)
      ∧ r.2.mem ((c.tc : Thread Cert.GatlatIdeal.nD Cert.GatlatIdeal.τ).loc Cert.GatlatIdeal.main_arg1) = m ((c.tc : Thread Cert.GatlatIdeal.nD Cert.GatlatIdeal.τ).loc Cert.GatlatIdeal.main_arg1)
      ∧ r.2.mem ((c.tc : Thread Cert.GatlatIdeal.nD Cert.GatlatIdeal.τ).loc Cert.GatlatIdeal.main_arg2) = m ((c.tc : Thread Cert.GatlatIdeal.nD Cert.GatlatIdeal.τ).loc Cert.GatlatIdeal.main_arg2)
      ∧ r.2.mem ((c.tc : Thread Cert.GatlatIdeal.nD Cert.GatlatIdeal.τ).loc Cert.GatlatIdeal.main_arg3) = m ((c.tc : Thread Cert.GatlatIdeal.nD Cert.GatlatIdeal.τ).loc Cert.GatlatIdeal.main_arg3))
      ∧ r.2.sem = fun _ => 0)

def quiescent_Gatlat [hGatlat : Cert.Gatlat.Facts] [hPre_routed_lat : Cert.Pre_routed_lat.Facts] : Prop :=
  ∀ (m : (ℓ : Loc Cert.Gatlat.nD Cert.Gatlat.τ Cert.Gatlat.sig) → Buf (Elt Bits) ℓ) (g : Dev Cert.Gatlat.nD → PrngReg), Pre_Gatlat m →
    θ_run (Cert.Gatlat.defs (F := Bits)) (onTc (τ := Cert.Gatlat.τ) (Cert.Gatlat.main (F := Bits))) ⟨m, fun _ => 0, g⟩ (fun r => (∀ c : Dev Cert.Gatlat.nD,
      r.2.mem ((c.tc : Thread Cert.Gatlat.nD Cert.Gatlat.τ).loc Cert.Gatlat.main_arg0) = m ((c.tc : Thread Cert.Gatlat.nD Cert.Gatlat.τ).loc Cert.Gatlat.main_arg0)
      ∧ r.2.mem ((c.tc : Thread Cert.Gatlat.nD Cert.Gatlat.τ).loc Cert.Gatlat.main_arg1) = m ((c.tc : Thread Cert.Gatlat.nD Cert.Gatlat.τ).loc Cert.Gatlat.main_arg1)
      ∧ r.2.mem ((c.tc : Thread Cert.Gatlat.nD Cert.Gatlat.τ).loc Cert.Gatlat.main_arg2) = m ((c.tc : Thread Cert.Gatlat.nD Cert.Gatlat.τ).loc Cert.Gatlat.main_arg2)
      ∧ r.2.mem ((c.tc : Thread Cert.Gatlat.nD Cert.Gatlat.τ).loc Cert.Gatlat.main_arg3) = m ((c.tc : Thread Cert.Gatlat.nD Cert.Gatlat.τ).loc Cert.Gatlat.main_arg3))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2)
      ∧ r.2.mem ((c.tc : Thread Cert.Context.nD Cert.Context.τ).loc Cert.Context.main_arg3) = m ((c.tc : Thread Cert.Context.nD Cert.Context.τ).loc Cert.Context.main_arg3)
      ∧ r.2.mem ((c.tc : Thread Cert.Context.nD Cert.Context.τ).loc Cert.Context.main_arg4) = m ((c.tc : Thread Cert.Context.nD Cert.Context.τ).loc Cert.Context.main_arg4)
      ∧ r.2.mem ((c.tc : Thread Cert.Context.nD Cert.Context.τ).loc Cert.Context.main_arg5) = m ((c.tc : Thread Cert.Context.nD Cert.Context.τ).loc Cert.Context.main_arg5)
      ∧ r.2.mem ((c.tc : Thread Cert.Context.nD Cert.Context.τ).loc Cert.Context.main_arg6) = m ((c.tc : Thread Cert.Context.nD Cert.Context.τ).loc Cert.Context.main_arg6))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
      ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
      ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6))
      ∧ r.2.sem = fun _ => 0)

def quiescent_StatesIdeal [hStatesIdeal : Cert.StatesIdeal.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
      ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
      ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
      ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4)
      ∧ r.2.mem ((c.tc : Thread Cert.StatesIdeal.nD Cert.StatesIdeal.τ).loc Cert.StatesIdeal.main_arg5) = m ((c.tc : Thread Cert.StatesIdeal.nD Cert.StatesIdeal.τ).loc Cert.StatesIdeal.main_arg5)
      ∧ r.2.mem ((c.tc : Thread Cert.StatesIdeal.nD Cert.StatesIdeal.τ).loc Cert.StatesIdeal.main_arg6) = m ((c.tc : Thread Cert.StatesIdeal.nD Cert.StatesIdeal.τ).loc Cert.StatesIdeal.main_arg6))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5)
      ∧ r.2.mem ((c.tc : Thread Cert.Latent.nD Cert.Latent.τ).loc Cert.Latent.main_arg6) = m ((c.tc : Thread Cert.Latent.nD Cert.Latent.τ).loc Cert.Latent.main_arg6))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ r.2.sem = fun _ => 0)

def quiescent_TurnedIdeal [hTurnedIdeal : Cert.TurnedIdeal.Facts] : Prop :=
  ∀ (m : (ℓ : Loc Cert.TurnedIdeal.nD Cert.TurnedIdeal.τ Cert.TurnedIdeal.sig) → Buf (Elt Ideal) ℓ) (g : Dev Cert.TurnedIdeal.nD → PrngReg), Pre_TurnedIdeal m →
    θ_run (Cert.TurnedIdeal.defs (F := Ideal)) (onTc (τ := Cert.TurnedIdeal.τ) (Cert.TurnedIdeal.main (F := Ideal))) ⟨m, fun _ => 0, g⟩ (fun r => (∀ c : Dev Cert.TurnedIdeal.nD,
      r.2.mem ((c.tc : Thread Cert.TurnedIdeal.nD Cert.TurnedIdeal.τ).loc Cert.TurnedIdeal.main_arg0) = m ((c.tc : Thread Cert.TurnedIdeal.nD Cert.TurnedIdeal.τ).loc Cert.TurnedIdeal.main_arg0)
      ∧ r.2.mem ((c.tc : Thread Cert.TurnedIdeal.nD Cert.TurnedIdeal.τ).loc Cert.TurnedIdeal.main_arg1) = m ((c.tc : Thread Cert.TurnedIdeal.nD Cert.TurnedIdeal.τ).loc Cert.TurnedIdeal.main_arg1)
      ∧ r.2.mem ((c.tc : Thread Cert.TurnedIdeal.nD Cert.TurnedIdeal.τ).loc Cert.TurnedIdeal.main_arg2) = m ((c.tc : Thread Cert.TurnedIdeal.nD Cert.TurnedIdeal.τ).loc Cert.TurnedIdeal.main_arg2)
      ∧ r.2.mem ((c.tc : Thread Cert.TurnedIdeal.nD Cert.TurnedIdeal.τ).loc Cert.TurnedIdeal.main_arg3) = m ((c.tc : Thread Cert.TurnedIdeal.nD Cert.TurnedIdeal.τ).loc Cert.TurnedIdeal.main_arg3)
      ∧ r.2.mem ((c.tc : Thread Cert.TurnedIdeal.nD Cert.TurnedIdeal.τ).loc Cert.TurnedIdeal.main_arg4) = m ((c.tc : Thread Cert.TurnedIdeal.nD Cert.TurnedIdeal.τ).loc Cert.TurnedIdeal.main_arg4)
      ∧ r.2.mem ((c.tc : Thread Cert.TurnedIdeal.nD Cert.TurnedIdeal.τ).loc Cert.TurnedIdeal.main_arg5) = m ((c.tc : Thread Cert.TurnedIdeal.nD Cert.TurnedIdeal.τ).loc Cert.TurnedIdeal.main_arg5)
      ∧ r.2.mem ((c.tc : Thread Cert.TurnedIdeal.nD Cert.TurnedIdeal.τ).loc Cert.TurnedIdeal.main_arg6) = m ((c.tc : Thread Cert.TurnedIdeal.nD Cert.TurnedIdeal.τ).loc Cert.TurnedIdeal.main_arg6))
      ∧ r.2.sem = fun _ => 0)

def quiescent_Combine [hCombine : Cert.Combine.Facts] [hPre_assigned : Cert.Pre_assigned.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6))
      ∧ r.2.sem = fun _ => 0)

def quiescent_CombineIdeal [hCombineIdeal : Cert.CombineIdeal.Facts] [hPre_assigned : Cert.Pre_assigned.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ r.2.sem = fun _ => 0)

def quiescent_ScatteredIdeal [hScatteredIdeal : Cert.ScatteredIdeal.Facts] [hPre_assigned : Cert.Pre_assigned.Facts] : Prop :=
  ∀ (m : (ℓ : Loc Cert.ScatteredIdeal.nD Cert.ScatteredIdeal.τ Cert.ScatteredIdeal.sig) → Buf (Elt Ideal) ℓ) (g : Dev Cert.ScatteredIdeal.nD → PrngReg), Pre_ScatteredIdeal m →
    θ_run (Cert.ScatteredIdeal.defs (F := Ideal)) (onTc (τ := Cert.ScatteredIdeal.τ) (Cert.ScatteredIdeal.main (F := Ideal))) ⟨m, fun _ => 0, g⟩ (fun r => (∀ c : Dev Cert.ScatteredIdeal.nD,
      r.2.mem ((c.tc : Thread Cert.ScatteredIdeal.nD Cert.ScatteredIdeal.τ).loc Cert.ScatteredIdeal.main_arg0) = m ((c.tc : Thread Cert.ScatteredIdeal.nD Cert.ScatteredIdeal.τ).loc Cert.ScatteredIdeal.main_arg0)
      ∧ r.2.mem ((c.tc : Thread Cert.ScatteredIdeal.nD Cert.ScatteredIdeal.τ).loc Cert.ScatteredIdeal.main_arg1) = m ((c.tc : Thread Cert.ScatteredIdeal.nD Cert.ScatteredIdeal.τ).loc Cert.ScatteredIdeal.main_arg1)
      ∧ r.2.mem ((c.tc : Thread Cert.ScatteredIdeal.nD Cert.ScatteredIdeal.τ).loc Cert.ScatteredIdeal.main_arg2) = m ((c.tc : Thread Cert.ScatteredIdeal.nD Cert.ScatteredIdeal.τ).loc Cert.ScatteredIdeal.main_arg2)
      ∧ r.2.mem ((c.tc : Thread Cert.ScatteredIdeal.nD Cert.ScatteredIdeal.τ).loc Cert.ScatteredIdeal.main_arg3) = m ((c.tc : Thread Cert.ScatteredIdeal.nD Cert.ScatteredIdeal.τ).loc Cert.ScatteredIdeal.main_arg3)
      ∧ r.2.mem ((c.tc : Thread Cert.ScatteredIdeal.nD Cert.ScatteredIdeal.τ).loc Cert.ScatteredIdeal.main_arg4) = m ((c.tc : Thread Cert.ScatteredIdeal.nD Cert.ScatteredIdeal.τ).loc Cert.ScatteredIdeal.main_arg4)
      ∧ r.2.mem ((c.tc : Thread Cert.ScatteredIdeal.nD Cert.ScatteredIdeal.τ).loc Cert.ScatteredIdeal.main_arg5) = m ((c.tc : Thread Cert.ScatteredIdeal.nD Cert.ScatteredIdeal.τ).loc Cert.ScatteredIdeal.main_arg5)
      ∧ r.2.mem ((c.tc : Thread Cert.ScatteredIdeal.nD Cert.ScatteredIdeal.τ).loc Cert.ScatteredIdeal.main_arg6) = m ((c.tc : Thread Cert.ScatteredIdeal.nD Cert.ScatteredIdeal.τ).loc Cert.ScatteredIdeal.main_arg6))
      ∧ r.2.sem = fun _ => 0)

def preserves_Dispatch_DispatchIdeal : Prop :=
  True

def algebraic_DispatchIdeal_GatherIdeal [hDispatchIdeal : Cert.DispatchIdeal.Facts] [hGatherIdeal : Cert.GatherIdeal.Facts] [hPre_routed : Cert.Pre_routed.Facts] : Prop :=
  ∀ (m : (ℓ : Loc Cert.DispatchIdeal.nD Cert.DispatchIdeal.τ Cert.DispatchIdeal.sig) → Buf (Elt Ideal) ℓ) (g : Dev Cert.DispatchIdeal.nD → PrngReg)
    (m' : (ℓ : Loc Cert.GatherIdeal.nD Cert.GatherIdeal.τ Cert.GatherIdeal.sig) → Buf (Elt Ideal) ℓ) (g' : Dev Cert.GatherIdeal.nD → PrngReg), Pre_DispatchIdeal m →
    (∀ c : Dev Cert.DispatchIdeal.nD,
      m' ((c.tc : Thread Cert.GatherIdeal.nD Cert.GatherIdeal.τ).loc Cert.GatherIdeal.main_arg0) = m ((c.tc : Thread Cert.DispatchIdeal.nD Cert.DispatchIdeal.τ).loc Cert.DispatchIdeal.main_arg0)
      ∧ m' ((c.tc : Thread Cert.GatherIdeal.nD Cert.GatherIdeal.τ).loc Cert.GatherIdeal.main_arg1) = m ((c.tc : Thread Cert.DispatchIdeal.nD Cert.DispatchIdeal.τ).loc Cert.DispatchIdeal.main_arg1)
      ∧ m' ((c.tc : Thread Cert.GatherIdeal.nD Cert.GatherIdeal.τ).loc Cert.GatherIdeal.main_arg2) = m ((c.tc : Thread Cert.DispatchIdeal.nD Cert.DispatchIdeal.τ).loc Cert.DispatchIdeal.main_arg2)
      ∧ m' ((c.tc : Thread Cert.GatherIdeal.nD Cert.GatherIdeal.τ).loc Cert.GatherIdeal.main_arg3) = m ((c.tc : Thread Cert.DispatchIdeal.nD Cert.DispatchIdeal.τ).loc Cert.DispatchIdeal.main_arg3)) →
    ∃ (v0 : (c : Dev Cert.DispatchIdeal.nD) → Buf (Elt Ideal) ((c.tc : Thread Cert.DispatchIdeal.nD Cert.DispatchIdeal.τ).loc Cert.DispatchIdeal.main_v0)),
      θ_run (Cert.DispatchIdeal.defs (F := Ideal)) (onTc (τ := Cert.DispatchIdeal.τ) (Cert.DispatchIdeal.main (F := Ideal))) ⟨m, fun _ => 0, g⟩ (fun r => ∀ c : Dev Cert.DispatchIdeal.nD,
          r.2.mem ((c.tc : Thread Cert.DispatchIdeal.nD Cert.DispatchIdeal.τ).loc Cert.DispatchIdeal.main_v0) = v0 c
          ∧ r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
          ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
          ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2)
          ∧ r.2.mem ((c.tc : Thread Cert.DispatchIdeal.nD Cert.DispatchIdeal.τ).loc Cert.DispatchIdeal.main_arg3) = m ((c.tc : Thread Cert.DispatchIdeal.nD Cert.DispatchIdeal.τ).loc Cert.DispatchIdeal.main_arg3))
      ∧ θ_run (Cert.GatherIdeal.defs (F := Ideal)) (onTc (τ := Cert.GatherIdeal.τ) (Cert.GatherIdeal.main (F := Ideal))) ⟨m', fun _ => 0, g'⟩ (fun r => ∀ c : Dev Cert.GatherIdeal.nD,
          r.2.mem ((c.tc : Thread Cert.GatherIdeal.nD Cert.GatherIdeal.τ).loc Cert.GatherIdeal.main_v7) = v0 c
          ∧ r.2.mem ((c.tc : Thread Cert.GatherIdeal.nD Cert.GatherIdeal.τ).loc Cert.GatherIdeal.main_arg0) = m' ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m' ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m' ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m' ((c.tc : Thread Cert.GatherIdeal.nD Cert.GatherIdeal.τ).loc Cert.GatherIdeal.main_arg3))

def bitexact_Dispatch_Gather [hDispatch : Cert.Dispatch.Facts] [hGather : Cert.Gather.Facts] [hPre_routed : Cert.Pre_routed.Facts] : Prop :=
  ∀ (m : (ℓ : Loc Cert.Dispatch.nD Cert.Dispatch.τ Cert.Dispatch.sig) → Buf (Elt Bits) ℓ) (g : Dev Cert.Dispatch.nD → PrngReg)
    (m' : (ℓ : Loc Cert.Gather.nD Cert.Gather.τ Cert.Gather.sig) → Buf (Elt Bits) ℓ) (g' : Dev Cert.Gather.nD → PrngReg), Pre_Dispatch m →
    (∀ c : Dev Cert.Dispatch.nD,
      m' ((c.tc : Thread Cert.Gather.nD Cert.Gather.τ).loc Cert.Gather.main_arg0) = m ((c.tc : Thread Cert.Dispatch.nD Cert.Dispatch.τ).loc Cert.Dispatch.main_arg0)
      ∧ m' ((c.tc : Thread Cert.Gather.nD Cert.Gather.τ).loc Cert.Gather.main_arg1) = m ((c.tc : Thread Cert.Dispatch.nD Cert.Dispatch.τ).loc Cert.Dispatch.main_arg1)
      ∧ m' ((c.tc : Thread Cert.Gather.nD Cert.Gather.τ).loc Cert.Gather.main_arg2) = m ((c.tc : Thread Cert.Dispatch.nD Cert.Dispatch.τ).loc Cert.Dispatch.main_arg2)
      ∧ m' ((c.tc : Thread Cert.Gather.nD Cert.Gather.τ).loc Cert.Gather.main_arg3) = m ((c.tc : Thread Cert.Dispatch.nD Cert.Dispatch.τ).loc Cert.Dispatch.main_arg3)) →
    ∃ (v0 : (c : Dev Cert.Dispatch.nD) → Buf (Elt Bits) ((c.tc : Thread Cert.Dispatch.nD Cert.Dispatch.τ).loc Cert.Dispatch.main_v0)),
      θ_run (Cert.Dispatch.defs (F := Bits)) (onTc (τ := Cert.Dispatch.τ) (Cert.Dispatch.main (F := Bits))) ⟨m, fun _ => 0, g⟩ (fun r => ∀ c : Dev Cert.Dispatch.nD,
          r.2.mem ((c.tc : Thread Cert.Dispatch.nD Cert.Dispatch.τ).loc Cert.Dispatch.main_v0) = v0 c
          ∧ r.2.mem ((c.tc : Thread Cert.Dispatch.nD Cert.Dispatch.τ).loc Cert.Dispatch.main_arg0) = m ((c.tc : Thread Cert.Dispatch.nD Cert.Dispatch.τ).loc Cert.Dispatch.main_arg0)
          ∧ r.2.mem ((c.tc : Thread Cert.Dispatch.nD Cert.Dispatch.τ).loc Cert.Dispatch.main_arg1) = m ((c.tc : Thread Cert.Dispatch.nD Cert.Dispatch.τ).loc Cert.Dispatch.main_arg1)
          ∧ r.2.mem ((c.tc : Thread Cert.Dispatch.nD Cert.Dispatch.τ).loc Cert.Dispatch.main_arg2) = m ((c.tc : Thread Cert.Dispatch.nD Cert.Dispatch.τ).loc Cert.Dispatch.main_arg2)
          ∧ r.2.mem ((c.tc : Thread Cert.Dispatch.nD Cert.Dispatch.τ).loc Cert.Dispatch.main_arg3) = m ((c.tc : Thread Cert.Dispatch.nD Cert.Dispatch.τ).loc Cert.Dispatch.main_arg3))
      ∧ θ_run (Cert.Gather.defs (F := Bits)) (onTc (τ := Cert.Gather.τ) (Cert.Gather.main (F := Bits))) ⟨m', fun _ => 0, g'⟩ (fun r => ∀ c : Dev Cert.Gather.nD,
          r.2.mem ((c.tc : Thread Cert.Gather.nD Cert.Gather.τ).loc Cert.Gather.main_v7) = v0 c
          ∧ r.2.mem ((c.tc : Thread Cert.Gather.nD Cert.Gather.τ).loc Cert.Gather.main_arg0) = m' ((c.tc : Thread Cert.Gather.nD Cert.Gather.τ).loc Cert.Gather.main_arg0)
          ∧ r.2.mem ((c.tc : Thread Cert.Gather.nD Cert.Gather.τ).loc Cert.Gather.main_arg1) = m' ((c.tc : Thread Cert.Gather.nD Cert.Gather.τ).loc Cert.Gather.main_arg1)
          ∧ r.2.mem ((c.tc : Thread Cert.Gather.nD Cert.Gather.τ).loc Cert.Gather.main_arg2) = m' ((c.tc : Thread Cert.Gather.nD Cert.Gather.τ).loc Cert.Gather.main_arg2)
          ∧ r.2.mem ((c.tc : Thread Cert.Gather.nD Cert.Gather.τ).loc Cert.Gather.main_arg3) = m' ((c.tc : Thread Cert.Gather.nD Cert.Gather.τ).loc Cert.Gather.main_arg3))

def preserves_Dislat_DislatIdeal : Prop :=
  True

def algebraic_DislatIdeal_GatlatIdeal [hDislatIdeal : Cert.DislatIdeal.Facts] [hGatlatIdeal : Cert.GatlatIdeal.Facts] [hPre_routed_lat : Cert.Pre_routed_lat.Facts] : Prop :=
  ∀ (m : (ℓ : Loc Cert.DislatIdeal.nD Cert.DislatIdeal.τ Cert.DislatIdeal.sig) → Buf (Elt Ideal) ℓ) (g : Dev Cert.DislatIdeal.nD → PrngReg)
    (m' : (ℓ : Loc Cert.GatlatIdeal.nD Cert.GatlatIdeal.τ Cert.GatlatIdeal.sig) → Buf (Elt Ideal) ℓ) (g' : Dev Cert.GatlatIdeal.nD → PrngReg), Pre_DislatIdeal m →
    (∀ c : Dev Cert.DislatIdeal.nD,
      m' ((c.tc : Thread Cert.GatlatIdeal.nD Cert.GatlatIdeal.τ).loc Cert.GatlatIdeal.main_arg0) = m ((c.tc : Thread Cert.DislatIdeal.nD Cert.DislatIdeal.τ).loc Cert.DislatIdeal.main_arg0)
      ∧ m' ((c.tc : Thread Cert.GatlatIdeal.nD Cert.GatlatIdeal.τ).loc Cert.GatlatIdeal.main_arg1) = m ((c.tc : Thread Cert.DislatIdeal.nD Cert.DislatIdeal.τ).loc Cert.DislatIdeal.main_arg1)
      ∧ m' ((c.tc : Thread Cert.GatlatIdeal.nD Cert.GatlatIdeal.τ).loc Cert.GatlatIdeal.main_arg2) = m ((c.tc : Thread Cert.DislatIdeal.nD Cert.DislatIdeal.τ).loc Cert.DislatIdeal.main_arg2)
      ∧ m' ((c.tc : Thread Cert.GatlatIdeal.nD Cert.GatlatIdeal.τ).loc Cert.GatlatIdeal.main_arg3) = m ((c.tc : Thread Cert.DislatIdeal.nD Cert.DislatIdeal.τ).loc Cert.DislatIdeal.main_arg3)) →
    ∃ (v0 : (c : Dev Cert.DislatIdeal.nD) → Buf (Elt Ideal) ((c.tc : Thread Cert.DislatIdeal.nD Cert.DislatIdeal.τ).loc Cert.DislatIdeal.main_v0)),
      θ_run (Cert.DislatIdeal.defs (F := Ideal)) (onTc (τ := Cert.DislatIdeal.τ) (Cert.DislatIdeal.main (F := Ideal))) ⟨m, fun _ => 0, g⟩ (fun r => ∀ c : Dev Cert.DislatIdeal.nD,
          r.2.mem ((c.tc : Thread Cert.DislatIdeal.nD Cert.DislatIdeal.τ).loc Cert.DislatIdeal.main_v0) = v0 c
          ∧ r.2.mem ((c.tc : Thread Cert.DislatIdeal.nD Cert.DislatIdeal.τ).loc Cert.DislatIdeal.main_arg0) = m ((c.tc : Thread Cert.DislatIdeal.nD Cert.DislatIdeal.τ).loc Cert.DislatIdeal.main_arg0)
          ∧ r.2.mem ((c.tc : Thread Cert.DislatIdeal.nD Cert.DislatIdeal.τ).loc Cert.DislatIdeal.main_arg1) = m ((c.tc : Thread Cert.DislatIdeal.nD Cert.DislatIdeal.τ).loc Cert.DislatIdeal.main_arg1)
          ∧ r.2.mem ((c.tc : Thread Cert.DislatIdeal.nD Cert.DislatIdeal.τ).loc Cert.DislatIdeal.main_arg2) = m ((c.tc : Thread Cert.DislatIdeal.nD Cert.DislatIdeal.τ).loc Cert.DislatIdeal.main_arg2)
          ∧ r.2.mem ((c.tc : Thread Cert.DislatIdeal.nD Cert.DislatIdeal.τ).loc Cert.DislatIdeal.main_arg3) = m ((c.tc : Thread Cert.DislatIdeal.nD Cert.DislatIdeal.τ).loc Cert.DislatIdeal.main_arg3))
      ∧ θ_run (Cert.GatlatIdeal.defs (F := Ideal)) (onTc (τ := Cert.GatlatIdeal.τ) (Cert.GatlatIdeal.main (F := Ideal))) ⟨m', fun _ => 0, g'⟩ (fun r => ∀ c : Dev Cert.GatlatIdeal.nD,
          r.2.mem ((c.tc : Thread Cert.GatlatIdeal.nD Cert.GatlatIdeal.τ).loc Cert.GatlatIdeal.main_v7) = v0 c
          ∧ r.2.mem ((c.tc : Thread Cert.GatlatIdeal.nD Cert.GatlatIdeal.τ).loc Cert.GatlatIdeal.main_arg0) = m' ((c.tc : Thread Cert.GatlatIdeal.nD Cert.GatlatIdeal.τ).loc Cert.GatlatIdeal.main_arg0)
          ∧ r.2.mem ((c.tc : Thread Cert.GatlatIdeal.nD Cert.GatlatIdeal.τ).loc Cert.GatlatIdeal.main_arg1) = m' ((c.tc : Thread Cert.GatlatIdeal.nD Cert.GatlatIdeal.τ).loc Cert.GatlatIdeal.main_arg1)
          ∧ r.2.mem ((c.tc : Thread Cert.GatlatIdeal.nD Cert.GatlatIdeal.τ).loc Cert.GatlatIdeal.main_arg2) = m' ((c.tc : Thread Cert.GatlatIdeal.nD Cert.GatlatIdeal.τ).loc Cert.GatlatIdeal.main_arg2)
          ∧ r.2.mem ((c.tc : Thread Cert.GatlatIdeal.nD Cert.GatlatIdeal.τ).loc Cert.GatlatIdeal.main_arg3) = m' ((c.tc : Thread Cert.GatlatIdeal.nD Cert.GatlatIdeal.τ).loc Cert.GatlatIdeal.main_arg3))

def bitexact_Dislat_Gatlat [hDislat : Cert.Dislat.Facts] [hGatlat : Cert.Gatlat.Facts] [hPre_routed_lat : Cert.Pre_routed_lat.Facts] : Prop :=
  ∀ (m : (ℓ : Loc Cert.Dislat.nD Cert.Dislat.τ Cert.Dislat.sig) → Buf (Elt Bits) ℓ) (g : Dev Cert.Dislat.nD → PrngReg)
    (m' : (ℓ : Loc Cert.Gatlat.nD Cert.Gatlat.τ Cert.Gatlat.sig) → Buf (Elt Bits) ℓ) (g' : Dev Cert.Gatlat.nD → PrngReg), Pre_Dislat m →
    (∀ c : Dev Cert.Dislat.nD,
      m' ((c.tc : Thread Cert.Gatlat.nD Cert.Gatlat.τ).loc Cert.Gatlat.main_arg0) = m ((c.tc : Thread Cert.Dislat.nD Cert.Dislat.τ).loc Cert.Dislat.main_arg0)
      ∧ m' ((c.tc : Thread Cert.Gatlat.nD Cert.Gatlat.τ).loc Cert.Gatlat.main_arg1) = m ((c.tc : Thread Cert.Dislat.nD Cert.Dislat.τ).loc Cert.Dislat.main_arg1)
      ∧ m' ((c.tc : Thread Cert.Gatlat.nD Cert.Gatlat.τ).loc Cert.Gatlat.main_arg2) = m ((c.tc : Thread Cert.Dislat.nD Cert.Dislat.τ).loc Cert.Dislat.main_arg2)
      ∧ m' ((c.tc : Thread Cert.Gatlat.nD Cert.Gatlat.τ).loc Cert.Gatlat.main_arg3) = m ((c.tc : Thread Cert.Dislat.nD Cert.Dislat.τ).loc Cert.Dislat.main_arg3)) →
    ∃ (v0 : (c : Dev Cert.Dislat.nD) → Buf (Elt Bits) ((c.tc : Thread Cert.Dislat.nD Cert.Dislat.τ).loc Cert.Dislat.main_v0)),
      θ_run (Cert.Dislat.defs (F := Bits)) (onTc (τ := Cert.Dislat.τ) (Cert.Dislat.main (F := Bits))) ⟨m, fun _ => 0, g⟩ (fun r => ∀ c : Dev Cert.Dislat.nD,
          r.2.mem ((c.tc : Thread Cert.Dislat.nD Cert.Dislat.τ).loc Cert.Dislat.main_v0) = v0 c
          ∧ r.2.mem ((c.tc : Thread Cert.Dislat.nD Cert.Dislat.τ).loc Cert.Dislat.main_arg0) = m ((c.tc : Thread Cert.Dislat.nD Cert.Dislat.τ).loc Cert.Dislat.main_arg0)
          ∧ r.2.mem ((c.tc : Thread Cert.Dislat.nD Cert.Dislat.τ).loc Cert.Dislat.main_arg1) = m ((c.tc : Thread Cert.Dislat.nD Cert.Dislat.τ).loc Cert.Dislat.main_arg1)
          ∧ r.2.mem ((c.tc : Thread Cert.Dislat.nD Cert.Dislat.τ).loc Cert.Dislat.main_arg2) = m ((c.tc : Thread Cert.Dislat.nD Cert.Dislat.τ).loc Cert.Dislat.main_arg2)
          ∧ r.2.mem ((c.tc : Thread Cert.Dislat.nD Cert.Dislat.τ).loc Cert.Dislat.main_arg3) = m ((c.tc : Thread Cert.Dislat.nD Cert.Dislat.τ).loc Cert.Dislat.main_arg3))
      ∧ θ_run (Cert.Gatlat.defs (F := Bits)) (onTc (τ := Cert.Gatlat.τ) (Cert.Gatlat.main (F := Bits))) ⟨m', fun _ => 0, g'⟩ (fun r => ∀ c : Dev Cert.Gatlat.nD,
          r.2.mem ((c.tc : Thread Cert.Gatlat.nD Cert.Gatlat.τ).loc Cert.Gatlat.main_v7) = v0 c
          ∧ r.2.mem ((c.tc : Thread Cert.Gatlat.nD Cert.Gatlat.τ).loc Cert.Gatlat.main_arg0) = m' ((c.tc : Thread Cert.Gatlat.nD Cert.Gatlat.τ).loc Cert.Gatlat.main_arg0)
          ∧ r.2.mem ((c.tc : Thread Cert.Gatlat.nD Cert.Gatlat.τ).loc Cert.Gatlat.main_arg1) = m' ((c.tc : Thread Cert.Gatlat.nD Cert.Gatlat.τ).loc Cert.Gatlat.main_arg1)
          ∧ r.2.mem ((c.tc : Thread Cert.Gatlat.nD Cert.Gatlat.τ).loc Cert.Gatlat.main_arg2) = m' ((c.tc : Thread Cert.Gatlat.nD Cert.Gatlat.τ).loc Cert.Gatlat.main_arg2)
          ∧ r.2.mem ((c.tc : Thread Cert.Gatlat.nD Cert.Gatlat.τ).loc Cert.Gatlat.main_arg3) = m' ((c.tc : Thread Cert.Gatlat.nD Cert.Gatlat.τ).loc Cert.Gatlat.main_arg3))

def preserves_Experts_ExpertsIdeal : Prop :=
  True

def algebraic_ExpertsIdeal_MoeIdeal [hExpertsIdeal : Cert.ExpertsIdeal.Facts] [hMoeIdeal : Cert.MoeIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.MoeIdeal.nD Cert.MoeIdeal.τ Cert.MoeIdeal.sig) → Buf (Elt Ideal) ℓ) (g' : Dev Cert.MoeIdeal.nD → PrngReg), Pre_ExpertsIdeal m →
    (∀ c : Dev Cert.ExpertsIdeal.nD,
      m' ((c.tc : Thread Cert.MoeIdeal.nD Cert.MoeIdeal.τ).loc Cert.MoeIdeal.main_arg0) = m ((c.tc : Thread Cert.ExpertsIdeal.nD Cert.ExpertsIdeal.τ).loc Cert.ExpertsIdeal.main_arg0)
      ∧ m' ((c.tc : Thread Cert.MoeIdeal.nD Cert.MoeIdeal.τ).loc Cert.MoeIdeal.main_arg1) = m ((c.tc : Thread Cert.ExpertsIdeal.nD Cert.ExpertsIdeal.τ).loc Cert.ExpertsIdeal.main_arg1)
      ∧ m' ((c.tc : Thread Cert.MoeIdeal.nD Cert.MoeIdeal.τ).loc Cert.MoeIdeal.main_arg2) = m ((c.tc : Thread Cert.ExpertsIdeal.nD Cert.ExpertsIdeal.τ).loc Cert.ExpertsIdeal.main_arg2)
      ∧ m' ((c.tc : Thread Cert.MoeIdeal.nD Cert.MoeIdeal.τ).loc Cert.MoeIdeal.main_arg3) = m ((c.tc : Thread Cert.ExpertsIdeal.nD Cert.ExpertsIdeal.τ).loc Cert.ExpertsIdeal.main_arg3)
      ∧ m' ((c.tc : Thread Cert.MoeIdeal.nD Cert.MoeIdeal.τ).loc Cert.MoeIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0_0)) (v1 : (c : Dev Cert.ExpertsIdeal.nD) → Buf (Elt Ideal) ((c.tc : Thread Cert.ExpertsIdeal.nD Cert.ExpertsIdeal.τ).loc Cert.ExpertsIdeal.main_v0_1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0_0) = v0 c
          ∧ r.2.mem ((c.tc : Thread Cert.ExpertsIdeal.nD Cert.ExpertsIdeal.τ).loc Cert.ExpertsIdeal.main_v0_1) = v1 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.MoeIdeal.defs (F := Ideal)) (onTc (τ := Cert.MoeIdeal.τ) (Cert.MoeIdeal.main (F := Ideal))) ⟨m', fun _ => 0, g'⟩ (fun r => ∀ c : Dev Cert.MoeIdeal.nD,
          r.2.mem ((c.tc : Thread Cert.MoeIdeal.nD Cert.MoeIdeal.τ).loc Cert.MoeIdeal.main_v26) = v0 c
          ∧ r.2.mem ((c.tc : Thread Cert.MoeIdeal.nD Cert.MoeIdeal.τ).loc Cert.MoeIdeal.main_v28) = v1 c
          ∧ r.2.mem ((c.tc : Thread Cert.MoeIdeal.nD Cert.MoeIdeal.τ).loc Cert.MoeIdeal.main_arg0) = m' ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m' ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m' ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m' ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m' ((c.tc : Thread Cert.MoeIdeal.nD Cert.MoeIdeal.τ).loc Cert.MoeIdeal.main_arg4))

def preserves_Context_ContextIdeal : Prop :=
  True

def algebraic_ContextIdeal_StatesIdeal [hContextIdeal : Cert.ContextIdeal.Facts] [hStatesIdeal : Cert.StatesIdeal.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.StatesIdeal.nD Cert.StatesIdeal.τ Cert.StatesIdeal.sig) → Buf (Elt Ideal) ℓ) (g' : Dev Cert.StatesIdeal.nD → PrngReg), Pre_ContextIdeal m →
    (∀ c : Dev Cert.ContextIdeal.nD,
      m' ((c.tc : Thread Cert.StatesIdeal.nD Cert.StatesIdeal.τ).loc Cert.StatesIdeal.main_arg0) = m ((c.tc : Thread Cert.ContextIdeal.nD Cert.ContextIdeal.τ).loc Cert.ContextIdeal.main_arg0)
      ∧ m' ((c.tc : Thread Cert.StatesIdeal.nD Cert.StatesIdeal.τ).loc Cert.StatesIdeal.main_arg1) = m ((c.tc : Thread Cert.ContextIdeal.nD Cert.ContextIdeal.τ).loc Cert.ContextIdeal.main_arg1)
      ∧ m' ((c.tc : Thread Cert.StatesIdeal.nD Cert.StatesIdeal.τ).loc Cert.StatesIdeal.main_arg2) = m ((c.tc : Thread Cert.ContextIdeal.nD Cert.ContextIdeal.τ).loc Cert.ContextIdeal.main_arg2)
      ∧ m' ((c.tc : Thread Cert.StatesIdeal.nD Cert.StatesIdeal.τ).loc Cert.StatesIdeal.main_arg3) = m ((c.tc : Thread Cert.ContextIdeal.nD Cert.ContextIdeal.τ).loc Cert.ContextIdeal.main_arg3)
      ∧ m' ((c.tc : Thread Cert.StatesIdeal.nD Cert.StatesIdeal.τ).loc Cert.StatesIdeal.main_arg4) = m ((c.tc : Thread Cert.ContextIdeal.nD Cert.ContextIdeal.τ).loc Cert.ContextIdeal.main_arg4)
      ∧ m' ((c.tc : Thread Cert.StatesIdeal.nD Cert.StatesIdeal.τ).loc Cert.StatesIdeal.main_arg5) = m ((c.tc : Thread Cert.ContextIdeal.nD Cert.ContextIdeal.τ).loc Cert.ContextIdeal.main_arg5)
      ∧ m' ((c.tc : Thread Cert.StatesIdeal.nD Cert.StatesIdeal.τ).loc Cert.StatesIdeal.main_arg6) = m ((c.tc : Thread Cert.ContextIdeal.nD Cert.ContextIdeal.τ).loc Cert.ContextIdeal.main_arg6)) →
    ∃ (v0 : (c : Dev Cert.ContextIdeal.nD) → Buf (Elt Ideal) ((c.tc : Thread Cert.ContextIdeal.nD Cert.ContextIdeal.τ).loc Cert.ContextIdeal.main_v12_0)) (v1 : (c : Dev Cert.ContextIdeal.nD) → Buf (Elt Ideal) ((c.tc : Thread Cert.ContextIdeal.nD Cert.ContextIdeal.τ).loc Cert.ContextIdeal.main_v13)) (v2 : (c : Dev Cert.ContextIdeal.nD) → Buf (Elt Ideal) ((c.tc : Thread Cert.ContextIdeal.nD Cert.ContextIdeal.τ).loc Cert.ContextIdeal.main_v14)) (v3 : (c : Dev Cert.ContextIdeal.nD) → Buf (Elt Ideal) ((c.tc : Thread Cert.ContextIdeal.nD Cert.ContextIdeal.τ).loc Cert.ContextIdeal.main_v12_3)) (v4 : (c : Dev Cert.ContextIdeal.nD) → Buf (Elt Ideal) ((c.tc : Thread Cert.ContextIdeal.nD Cert.ContextIdeal.τ).loc Cert.ContextIdeal.main_v12_4)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v12_0) = v0 c
          ∧ r.2.mem ((c.tc : Thread Cert.ContextIdeal.nD Cert.ContextIdeal.τ).loc Cert.ContextIdeal.main_v13) = v1 c
          ∧ r.2.mem ((c.tc : Thread Cert.ContextIdeal.nD Cert.ContextIdeal.τ).loc Cert.ContextIdeal.main_v14) = v2 c
          ∧ r.2.mem ((c.tc : Thread Cert.ContextIdeal.nD Cert.ContextIdeal.τ).loc Cert.ContextIdeal.main_v12_3) = v3 c
          ∧ r.2.mem ((c.tc : Thread Cert.ContextIdeal.nD Cert.ContextIdeal.τ).loc Cert.ContextIdeal.main_v12_4) = v4 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
          ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
          ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
          ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
          ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6))
      ∧ θ_run (Cert.StatesIdeal.defs (F := Ideal)) (onTc (τ := Cert.StatesIdeal.τ) (Cert.StatesIdeal.main (F := Ideal))) ⟨m', fun _ => 0, g'⟩ (fun r => ∀ c : Dev Cert.StatesIdeal.nD,
          r.2.mem ((c.tc : Thread Cert.StatesIdeal.nD Cert.StatesIdeal.τ).loc Cert.StatesIdeal.main_v42) = v0 c
          ∧ r.2.mem ((c.tc : Thread Cert.StatesIdeal.nD Cert.StatesIdeal.τ).loc Cert.StatesIdeal.main_v44) = v1 c
          ∧ r.2.mem ((c.tc : Thread Cert.StatesIdeal.nD Cert.StatesIdeal.τ).loc Cert.StatesIdeal.main_v46) = v2 c
          ∧ r.2.mem ((c.tc : Thread Cert.StatesIdeal.nD Cert.StatesIdeal.τ).loc Cert.StatesIdeal.main_v47) = v3 c
          ∧ r.2.mem ((c.tc : Thread Cert.StatesIdeal.nD Cert.StatesIdeal.τ).loc Cert.StatesIdeal.main_v48) = v4 c
          ∧ r.2.mem ((c.tc : Thread Cert.StatesIdeal.nD Cert.StatesIdeal.τ).loc Cert.StatesIdeal.main_arg0) = m' ((c.tc : Thread Cert.StatesIdeal.nD Cert.StatesIdeal.τ).loc Cert.StatesIdeal.main_arg0)
          ∧ r.2.mem ((c.tc : Thread Cert.StatesIdeal.nD Cert.StatesIdeal.τ).loc Cert.StatesIdeal.main_arg1) = m' ((c.tc : Thread Cert.StatesIdeal.nD Cert.StatesIdeal.τ).loc Cert.StatesIdeal.main_arg1)
          ∧ r.2.mem ((c.tc : Thread Cert.StatesIdeal.nD Cert.StatesIdeal.τ).loc Cert.StatesIdeal.main_arg2) = m' ((c.tc : Thread Cert.StatesIdeal.nD Cert.StatesIdeal.τ).loc Cert.StatesIdeal.main_arg2)
          ∧ r.2.mem ((c.tc : Thread Cert.StatesIdeal.nD Cert.StatesIdeal.τ).loc Cert.StatesIdeal.main_arg3) = m' ((c.tc : Thread Cert.StatesIdeal.nD Cert.StatesIdeal.τ).loc Cert.StatesIdeal.main_arg3)
          ∧ r.2.mem ((c.tc : Thread Cert.StatesIdeal.nD Cert.StatesIdeal.τ).loc Cert.StatesIdeal.main_arg4) = m' ((c.tc : Thread Cert.StatesIdeal.nD Cert.StatesIdeal.τ).loc Cert.StatesIdeal.main_arg4)
          ∧ r.2.mem ((c.tc : Thread Cert.StatesIdeal.nD Cert.StatesIdeal.τ).loc Cert.StatesIdeal.main_arg5) = m' ((c.tc : Thread Cert.StatesIdeal.nD Cert.StatesIdeal.τ).loc Cert.StatesIdeal.main_arg5)
          ∧ r.2.mem ((c.tc : Thread Cert.StatesIdeal.nD Cert.StatesIdeal.τ).loc Cert.StatesIdeal.main_arg6) = m' ((c.tc : Thread Cert.StatesIdeal.nD Cert.StatesIdeal.τ).loc Cert.StatesIdeal.main_arg6))

def preserves_Latent_LatentIdeal : Prop :=
  True

def algebraic_LatentIdeal_TurnedIdeal [hLatentIdeal : Cert.LatentIdeal.Facts] [hTurnedIdeal : Cert.TurnedIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.TurnedIdeal.nD Cert.TurnedIdeal.τ Cert.TurnedIdeal.sig) → Buf (Elt Ideal) ℓ) (g' : Dev Cert.TurnedIdeal.nD → PrngReg), Pre_LatentIdeal m →
    (∀ c : Dev Cert.LatentIdeal.nD,
      m' ((c.tc : Thread Cert.TurnedIdeal.nD Cert.TurnedIdeal.τ).loc Cert.TurnedIdeal.main_arg0) = m ((c.tc : Thread Cert.LatentIdeal.nD Cert.LatentIdeal.τ).loc Cert.LatentIdeal.main_arg0)
      ∧ m' ((c.tc : Thread Cert.TurnedIdeal.nD Cert.TurnedIdeal.τ).loc Cert.TurnedIdeal.main_arg1) = m ((c.tc : Thread Cert.LatentIdeal.nD Cert.LatentIdeal.τ).loc Cert.LatentIdeal.main_arg1)
      ∧ m' ((c.tc : Thread Cert.TurnedIdeal.nD Cert.TurnedIdeal.τ).loc Cert.TurnedIdeal.main_arg2) = m ((c.tc : Thread Cert.LatentIdeal.nD Cert.LatentIdeal.τ).loc Cert.LatentIdeal.main_arg2)
      ∧ m' ((c.tc : Thread Cert.TurnedIdeal.nD Cert.TurnedIdeal.τ).loc Cert.TurnedIdeal.main_arg3) = m ((c.tc : Thread Cert.LatentIdeal.nD Cert.LatentIdeal.τ).loc Cert.LatentIdeal.main_arg3)
      ∧ m' ((c.tc : Thread Cert.TurnedIdeal.nD Cert.TurnedIdeal.τ).loc Cert.TurnedIdeal.main_arg4) = m ((c.tc : Thread Cert.LatentIdeal.nD Cert.LatentIdeal.τ).loc Cert.LatentIdeal.main_arg4)
      ∧ m' ((c.tc : Thread Cert.TurnedIdeal.nD Cert.TurnedIdeal.τ).loc Cert.TurnedIdeal.main_arg5) = m ((c.tc : Thread Cert.LatentIdeal.nD Cert.LatentIdeal.τ).loc Cert.LatentIdeal.main_arg5)
      ∧ m' ((c.tc : Thread Cert.TurnedIdeal.nD Cert.TurnedIdeal.τ).loc Cert.TurnedIdeal.main_arg6) = m ((c.tc : Thread Cert.LatentIdeal.nD Cert.LatentIdeal.τ).loc Cert.LatentIdeal.main_arg6)) →
    ∃ (v0 : (c : Dev Cert.LatentIdeal.nD) → Buf (Elt Ideal) ((c.tc : Thread Cert.LatentIdeal.nD Cert.LatentIdeal.τ).loc Cert.LatentIdeal.main_v47_0)) (v1 : (c : Dev Cert.LatentIdeal.nD) → Buf (Elt Ideal) ((c.tc : Thread Cert.LatentIdeal.nD Cert.LatentIdeal.τ).loc Cert.LatentIdeal.main_v47_1)) (v2 : (c : Dev Cert.LatentIdeal.nD) → Buf (Elt Ideal) ((c.tc : Thread Cert.LatentIdeal.nD Cert.LatentIdeal.τ).loc Cert.LatentIdeal.main_v47_2)) (v3 : (c : Dev Cert.LatentIdeal.nD) → Buf (Elt Ideal) ((c.tc : Thread Cert.LatentIdeal.nD Cert.LatentIdeal.τ).loc Cert.LatentIdeal.main_v47_3)) (v4 : (c : Dev Cert.LatentIdeal.nD) → Buf (Elt Ideal) ((c.tc : Thread Cert.LatentIdeal.nD Cert.LatentIdeal.τ).loc Cert.LatentIdeal.main_v47_4)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v47_0) = v0 c
          ∧ r.2.mem ((c.tc : Thread Cert.LatentIdeal.nD Cert.LatentIdeal.τ).loc Cert.LatentIdeal.main_v47_1) = v1 c
          ∧ r.2.mem ((c.tc : Thread Cert.LatentIdeal.nD Cert.LatentIdeal.τ).loc Cert.LatentIdeal.main_v47_2) = v2 c
          ∧ r.2.mem ((c.tc : Thread Cert.LatentIdeal.nD Cert.LatentIdeal.τ).loc Cert.LatentIdeal.main_v47_3) = v3 c
          ∧ r.2.mem ((c.tc : Thread Cert.LatentIdeal.nD Cert.LatentIdeal.τ).loc Cert.LatentIdeal.main_v47_4) = v4 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
          ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ θ_run (Cert.TurnedIdeal.defs (F := Ideal)) (onTc (τ := Cert.TurnedIdeal.τ) (Cert.TurnedIdeal.main (F := Ideal))) ⟨m', fun _ => 0, g'⟩ (fun r => ∀ c : Dev Cert.TurnedIdeal.nD,
          r.2.mem ((c.tc : Thread Cert.TurnedIdeal.nD Cert.TurnedIdeal.τ).loc Cert.TurnedIdeal.main_v107) = v0 c
          ∧ r.2.mem ((c.tc : Thread Cert.TurnedIdeal.nD Cert.TurnedIdeal.τ).loc Cert.TurnedIdeal.main_v156) = v1 c
          ∧ r.2.mem ((c.tc : Thread Cert.TurnedIdeal.nD Cert.TurnedIdeal.τ).loc Cert.TurnedIdeal.main_v157) = v2 c
          ∧ r.2.mem ((c.tc : Thread Cert.TurnedIdeal.nD Cert.TurnedIdeal.τ).loc Cert.TurnedIdeal.main_v158) = v3 c
          ∧ r.2.mem ((c.tc : Thread Cert.TurnedIdeal.nD Cert.TurnedIdeal.τ).loc Cert.TurnedIdeal.main_v159) = v4 c
          ∧ r.2.mem ((c.tc : Thread Cert.TurnedIdeal.nD Cert.TurnedIdeal.τ).loc Cert.TurnedIdeal.main_arg0) = m' ((c.tc : Thread Cert.TurnedIdeal.nD Cert.TurnedIdeal.τ).loc Cert.TurnedIdeal.main_arg0)
          ∧ r.2.mem ((c.tc : Thread Cert.TurnedIdeal.nD Cert.TurnedIdeal.τ).loc Cert.TurnedIdeal.main_arg1) = m' ((c.tc : Thread Cert.TurnedIdeal.nD Cert.TurnedIdeal.τ).loc Cert.TurnedIdeal.main_arg1)
          ∧ r.2.mem ((c.tc : Thread Cert.TurnedIdeal.nD Cert.TurnedIdeal.τ).loc Cert.TurnedIdeal.main_arg2) = m' ((c.tc : Thread Cert.TurnedIdeal.nD Cert.TurnedIdeal.τ).loc Cert.TurnedIdeal.main_arg2)
          ∧ r.2.mem ((c.tc : Thread Cert.TurnedIdeal.nD Cert.TurnedIdeal.τ).loc Cert.TurnedIdeal.main_arg3) = m' ((c.tc : Thread Cert.TurnedIdeal.nD Cert.TurnedIdeal.τ).loc Cert.TurnedIdeal.main_arg3)
          ∧ r.2.mem ((c.tc : Thread Cert.TurnedIdeal.nD Cert.TurnedIdeal.τ).loc Cert.TurnedIdeal.main_arg4) = m' ((c.tc : Thread Cert.TurnedIdeal.nD Cert.TurnedIdeal.τ).loc Cert.TurnedIdeal.main_arg4)
          ∧ r.2.mem ((c.tc : Thread Cert.TurnedIdeal.nD Cert.TurnedIdeal.τ).loc Cert.TurnedIdeal.main_arg5) = m' ((c.tc : Thread Cert.TurnedIdeal.nD Cert.TurnedIdeal.τ).loc Cert.TurnedIdeal.main_arg5)
          ∧ r.2.mem ((c.tc : Thread Cert.TurnedIdeal.nD Cert.TurnedIdeal.τ).loc Cert.TurnedIdeal.main_arg6) = m' ((c.tc : Thread Cert.TurnedIdeal.nD Cert.TurnedIdeal.τ).loc Cert.TurnedIdeal.main_arg6))

def preserves_Combine_CombineIdeal : Prop :=
  True

def algebraic_CombineIdeal_ScatteredIdeal [hCombineIdeal : Cert.CombineIdeal.Facts] [hScatteredIdeal : Cert.ScatteredIdeal.Facts] [hPre_assigned : Cert.Pre_assigned.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.ScatteredIdeal.nD Cert.ScatteredIdeal.τ Cert.ScatteredIdeal.sig) → Buf (Elt Ideal) ℓ) (g' : Dev Cert.ScatteredIdeal.nD → PrngReg), Pre_CombineIdeal m →
    (∀ c : Dev Cert.CombineIdeal.nD,
      m' ((c.tc : Thread Cert.ScatteredIdeal.nD Cert.ScatteredIdeal.τ).loc Cert.ScatteredIdeal.main_arg0) = m ((c.tc : Thread Cert.CombineIdeal.nD Cert.CombineIdeal.τ).loc Cert.CombineIdeal.main_arg0)
      ∧ m' ((c.tc : Thread Cert.ScatteredIdeal.nD Cert.ScatteredIdeal.τ).loc Cert.ScatteredIdeal.main_arg1) = m ((c.tc : Thread Cert.CombineIdeal.nD Cert.CombineIdeal.τ).loc Cert.CombineIdeal.main_arg1)
      ∧ m' ((c.tc : Thread Cert.ScatteredIdeal.nD Cert.ScatteredIdeal.τ).loc Cert.ScatteredIdeal.main_arg2) = m ((c.tc : Thread Cert.CombineIdeal.nD Cert.CombineIdeal.τ).loc Cert.CombineIdeal.main_arg2)
      ∧ m' ((c.tc : Thread Cert.ScatteredIdeal.nD Cert.ScatteredIdeal.τ).loc Cert.ScatteredIdeal.main_arg3) = m ((c.tc : Thread Cert.CombineIdeal.nD Cert.CombineIdeal.τ).loc Cert.CombineIdeal.main_arg3)
      ∧ m' ((c.tc : Thread Cert.ScatteredIdeal.nD Cert.ScatteredIdeal.τ).loc Cert.ScatteredIdeal.main_arg4) = m ((c.tc : Thread Cert.CombineIdeal.nD Cert.CombineIdeal.τ).loc Cert.CombineIdeal.main_arg4)
      ∧ m' ((c.tc : Thread Cert.ScatteredIdeal.nD Cert.ScatteredIdeal.τ).loc Cert.ScatteredIdeal.main_arg5) = m ((c.tc : Thread Cert.CombineIdeal.nD Cert.CombineIdeal.τ).loc Cert.CombineIdeal.main_arg5)
      ∧ m' ((c.tc : Thread Cert.ScatteredIdeal.nD Cert.ScatteredIdeal.τ).loc Cert.ScatteredIdeal.main_arg6) = m ((c.tc : Thread Cert.CombineIdeal.nD Cert.CombineIdeal.τ).loc Cert.CombineIdeal.main_arg6)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ θ_run (Cert.ScatteredIdeal.defs (F := Ideal)) (onTc (τ := Cert.ScatteredIdeal.τ) (Cert.ScatteredIdeal.main (F := Ideal))) ⟨m', fun _ => 0, g'⟩ (fun r => ∀ c : Dev Cert.ScatteredIdeal.nD,
          r.2.mem ((c.tc : Thread Cert.ScatteredIdeal.nD Cert.ScatteredIdeal.τ).loc Cert.ScatteredIdeal.main_v27) = v0 c
          ∧ r.2.mem ((c.tc : Thread Cert.ScatteredIdeal.nD Cert.ScatteredIdeal.τ).loc Cert.ScatteredIdeal.main_arg0) = m' ((c.tc : Thread Cert.ScatteredIdeal.nD Cert.ScatteredIdeal.τ).loc Cert.ScatteredIdeal.main_arg0)
          ∧ r.2.mem ((c.tc : Thread Cert.ScatteredIdeal.nD Cert.ScatteredIdeal.τ).loc Cert.ScatteredIdeal.main_arg1) = m' ((c.tc : Thread Cert.ScatteredIdeal.nD Cert.ScatteredIdeal.τ).loc Cert.ScatteredIdeal.main_arg1)
          ∧ r.2.mem ((c.tc : Thread Cert.ScatteredIdeal.nD Cert.ScatteredIdeal.τ).loc Cert.ScatteredIdeal.main_arg2) = m' ((c.tc : Thread Cert.ScatteredIdeal.nD Cert.ScatteredIdeal.τ).loc Cert.ScatteredIdeal.main_arg2)
          ∧ r.2.mem ((c.tc : Thread Cert.ScatteredIdeal.nD Cert.ScatteredIdeal.τ).loc Cert.ScatteredIdeal.main_arg3) = m' ((c.tc : Thread Cert.ScatteredIdeal.nD Cert.ScatteredIdeal.τ).loc Cert.ScatteredIdeal.main_arg3)
          ∧ r.2.mem ((c.tc : Thread Cert.ScatteredIdeal.nD Cert.ScatteredIdeal.τ).loc Cert.ScatteredIdeal.main_arg4) = m' ((c.tc : Thread Cert.ScatteredIdeal.nD Cert.ScatteredIdeal.τ).loc Cert.ScatteredIdeal.main_arg4)
          ∧ r.2.mem ((c.tc : Thread Cert.ScatteredIdeal.nD Cert.ScatteredIdeal.τ).loc Cert.ScatteredIdeal.main_arg5) = m' ((c.tc : Thread Cert.ScatteredIdeal.nD Cert.ScatteredIdeal.τ).loc Cert.ScatteredIdeal.main_arg5)
          ∧ r.2.mem ((c.tc : Thread Cert.ScatteredIdeal.nD Cert.ScatteredIdeal.τ).loc Cert.ScatteredIdeal.main_arg6) = m' ((c.tc : Thread Cert.ScatteredIdeal.nD Cert.ScatteredIdeal.τ).loc Cert.ScatteredIdeal.main_arg6))

def Claim : Prop :=
  ∃ (hDispatch : Cert.Dispatch.Facts) (hDispatchIdeal : Cert.DispatchIdeal.Facts) (hGatherIdeal : Cert.GatherIdeal.Facts) (hGather : Cert.Gather.Facts) (hDislat : Cert.Dislat.Facts) (hDislatIdeal : Cert.DislatIdeal.Facts) (hGatlatIdeal : Cert.GatlatIdeal.Facts) (hGatlat : Cert.Gatlat.Facts) (hExperts : Cert.Experts.Facts) (hExpertsIdeal : Cert.ExpertsIdeal.Facts) (hMoeIdeal : Cert.MoeIdeal.Facts) (hContext : Cert.Context.Facts) (hContextIdeal : Cert.ContextIdeal.Facts) (hStatesIdeal : Cert.StatesIdeal.Facts) (hLatent : Cert.Latent.Facts) (hLatentIdeal : Cert.LatentIdeal.Facts) (hTurnedIdeal : Cert.TurnedIdeal.Facts) (hCombine : Cert.Combine.Facts) (hCombineIdeal : Cert.CombineIdeal.Facts) (hScatteredIdeal : Cert.ScatteredIdeal.Facts) (hPre_routed : Cert.Pre_routed.Facts) (hPre_routed_lat : Cert.Pre_routed_lat.Facts) (hPre_assigned : Cert.Pre_assigned.Facts),
    quiescent_Dispatch (hDispatch := hDispatch) (hPre_routed := hPre_routed)
    ∧ quiescent_DispatchIdeal (hDispatchIdeal := hDispatchIdeal) (hPre_routed := hPre_routed)
    ∧ quiescent_GatherIdeal (hGatherIdeal := hGatherIdeal) (hPre_routed := hPre_routed)
    ∧ quiescent_Gather (hGather := hGather) (hPre_routed := hPre_routed)
    ∧ quiescent_Dislat (hDislat := hDislat) (hPre_routed_lat := hPre_routed_lat)
    ∧ quiescent_DislatIdeal (hDislatIdeal := hDislatIdeal) (hPre_routed_lat := hPre_routed_lat)
    ∧ quiescent_GatlatIdeal (hGatlatIdeal := hGatlatIdeal) (hPre_routed_lat := hPre_routed_lat)
    ∧ quiescent_Gatlat (hGatlat := hGatlat) (hPre_routed_lat := hPre_routed_lat)
    ∧ quiescent_Experts (hExperts := hExperts)
    ∧ quiescent_ExpertsIdeal (hExpertsIdeal := hExpertsIdeal)
    ∧ quiescent_MoeIdeal (hMoeIdeal := hMoeIdeal)
    ∧ quiescent_Context (hContext := hContext)
    ∧ quiescent_ContextIdeal (hContextIdeal := hContextIdeal)
    ∧ quiescent_StatesIdeal (hStatesIdeal := hStatesIdeal)
    ∧ quiescent_Latent (hLatent := hLatent)
    ∧ quiescent_LatentIdeal (hLatentIdeal := hLatentIdeal)
    ∧ quiescent_TurnedIdeal (hTurnedIdeal := hTurnedIdeal)
    ∧ quiescent_Combine (hCombine := hCombine) (hPre_assigned := hPre_assigned)
    ∧ quiescent_CombineIdeal (hCombineIdeal := hCombineIdeal) (hPre_assigned := hPre_assigned)
    ∧ quiescent_ScatteredIdeal (hScatteredIdeal := hScatteredIdeal) (hPre_assigned := hPre_assigned)
    ∧ preserves_Dispatch_DispatchIdeal
    ∧ algebraic_DispatchIdeal_GatherIdeal (hDispatchIdeal := hDispatchIdeal) (hGatherIdeal := hGatherIdeal) (hPre_routed := hPre_routed)
    ∧ bitexact_Dispatch_Gather (hDispatch := hDispatch) (hGather := hGather) (hPre_routed := hPre_routed)
    ∧ preserves_Dislat_DislatIdeal
    ∧ algebraic_DislatIdeal_GatlatIdeal (hDislatIdeal := hDislatIdeal) (hGatlatIdeal := hGatlatIdeal) (hPre_routed_lat := hPre_routed_lat)
    ∧ bitexact_Dislat_Gatlat (hDislat := hDislat) (hGatlat := hGatlat) (hPre_routed_lat := hPre_routed_lat)
    ∧ preserves_Experts_ExpertsIdeal
    ∧ algebraic_ExpertsIdeal_MoeIdeal (hExpertsIdeal := hExpertsIdeal) (hMoeIdeal := hMoeIdeal)
    ∧ preserves_Context_ContextIdeal
    ∧ algebraic_ContextIdeal_StatesIdeal (hContextIdeal := hContextIdeal) (hStatesIdeal := hStatesIdeal)
    ∧ preserves_Latent_LatentIdeal
    ∧ algebraic_LatentIdeal_TurnedIdeal (hLatentIdeal := hLatentIdeal) (hTurnedIdeal := hTurnedIdeal)
    ∧ preserves_Combine_CombineIdeal
    ∧ algebraic_CombineIdeal_ScatteredIdeal (hCombineIdeal := hCombineIdeal) (hScatteredIdeal := hScatteredIdeal) (hPre_assigned := hPre_assigned)
-- ==== Pre_assigned.lean ====
abbrev S1x8192 : Shape := ⟨2, ![1, 8192]⟩
abbrev S16x8192 : Shape := ⟨2, ![16, 8192]⟩
abbrev S16x1024 : Shape := ⟨2, ![16, 1024]⟩
abbrev S16384x2048 : Shape := ⟨2, ![16384, 2048]⟩
abbrev S8192x2048 : Shape := ⟨2, ![8192, 2048]⟩
abbrev S8x12288 : Shape := ⟨2, ![8, 12288]⟩
abbrev S2048 : Shape := ⟨1, ![2048]⟩
abbrev S16384 : Shape := ⟨1, ![16384]⟩
abbrev S_ : Shape := ⟨0, ![]⟩
abbrev S16x8192x1 : Shape := ⟨3, ![16, 8192, 1]⟩
abbrev S15x8192 : Shape := ⟨2, ![15, 8192]⟩
abbrev S16x16384 : Shape := ⟨2, ![16, 16384]⟩
abbrev S16384x1 : Shape := ⟨2, ![16384, 1]⟩
abbrev S1x16384 : Shape := ⟨2, ![1, 16384]⟩

class Facts : Prop where
  shapeCasts_S16x1024_S16384 : S16x1024.ShapeCasts S16384
  bcast_S1x8192_S16x8192_0_1 : S1x8192.BroadcastsInDim S16x8192 (![0, 1] : Fin 2 → Fin S16x8192.rank)
  bcast_S_S1x8192 : S_.BroadcastsInDim S1x8192 (![] : Fin 0 → Fin S1x8192.rank)
  reducesTo_S1x8192_S_d0_1 : S1x8192.ReducesTo [0, 1] S_
  h_S_ : 0 < S_.numel
  bcast_S_S16384 : S_.BroadcastsInDim S16384 (![] : Fin 0 → Fin S16384.rank)
  reducesTo_S16384_S_d0 : S16384.ReducesTo [0] S_
  bcast_S_S16x8192 : S_.BroadcastsInDim S16x8192 (![] : Fin 0 → Fin S16x8192.rank)
  reducesTo_S16x8192_S_d0_1 : S16x8192.ReducesTo [0, 1] S_
  bcast_S16x8192_S16x8192x1_0_1 : S16x8192.BroadcastsInDim S16x8192x1 (![0, 1] : Fin 2 → Fin S16x8192x1.rank)
  slices_S16x8192_S15x8192_1_0 : S16x8192.Slices ![1, 0] S15x8192
  slices_S16x8192_S15x8192_0_0 : S16x8192.Slices ![0, 0] S15x8192
  bcast_S_S15x8192 : S_.BroadcastsInDim S15x8192 (![] : Fin 0 → Fin S15x8192.rank)
  reducesTo_S15x8192_S_d0_1 : S15x8192.ReducesTo [0, 1] S_
  bcast_S16384_S16384x1_0 : S16384.BroadcastsInDim S16384x1 (![0] : Fin 1 → Fin S16384x1.rank)
  bcast_S1x16384_S16x16384_0_1 : S1x16384.BroadcastsInDim S16x16384 (![0, 1] : Fin 2 → Fin S16x16384.rank)
  reducesTo_S16x16384_S16384_d0 : S16x16384.ReducesTo [0] S16384
  gather_S16384_S16x8192x1_S16x8192_n_0_n_n_0_2_1_wf : GatherDims.WF S16384 S16x8192x1 S16x8192 [] [0] [] [0] [] 2 ![1]
  gather_S16x8192_S16384x1_S16x16384_0_1_n_n_1_1_161_wf : GatherDims.WF S16x8192 S16384x1 S16x16384 [0] [1] [] [1] [] 1 ![16, 1]
  gather_S1x8192_S16384x1_S1x16384_0_1_n_n_1_1_11_wf : GatherDims.WF S1x8192 S16384x1 S1x16384 [0] [1] [] [1] [] 1 ![1, 1]

variable [Facts]

def gather_S16384_S16x8192x1_S16x8192_n_0_n_n_0_2_1 : GatherDims S16384 S16x8192x1 S16x8192 where
  offsetDims := []
  collapsedSliceDims := [0]
  operandBatchingDims := []
  startIndicesBatchingDims := []
  startIndexMap := [0]
  indexVectorDim := 2
  sliceSizes := ![1]
  wf := gather_S16384_S16x8192x1_S16x8192_n_0_n_n_0_2_1_wf
def gather_S16x8192_S16384x1_S16x16384_0_1_n_n_1_1_161 : GatherDims S16x8192 S16384x1 S16x16384 where
  offsetDims := [0]
  collapsedSliceDims := [1]
  operandBatchingDims := []
  startIndicesBatchingDims := []
  startIndexMap := [1]
  indexVectorDim := 1
  sliceSizes := ![16, 1]
  wf := gather_S16x8192_S16384x1_S16x16384_0_1_n_n_1_1_161_wf
def gather_S1x8192_S16384x1_S1x16384_0_1_n_n_1_1_11 : GatherDims S1x8192 S16384x1 S1x16384 where
  offsetDims := [0]
  collapsedSliceDims := [1]
  operandBatchingDims := []
  startIndicesBatchingDims := []
  startIndexMap := [1]
  indexVectorDim := 1
  sliceSizes := ![1, 1]
  wf := gather_S1x8192_S16384x1_S1x16384_0_1_n_n_1_1_11_wf
def fn_where {F : FTy → Type} [FloatOps F] (arg0 : IVec S16x8192 1) (arg1 : IVec S16x8192 1) (arg2 : IVec S_ 1) : IVec S16x8192 1 :=
  let v0 : IVec S16x8192 1 := broadcastInDim S16x8192 ![] bcast_S_S16x8192 arg2
  let v1 : IVec S16x8192 1 := select arg0 arg1 v0
  v1

def fn_clip {F : FTy → Type} [FloatOps F] (arg0 : IVec S16x8192 32) (arg1 : IVec S_ 32) (arg2 : IVec S_ 32) : IVec S16x8192 32 :=
  let v0 : IVec S_ 32 := id arg1
  let v1 : IVec S16x8192 32 := broadcastInDim S16x8192 ![] bcast_S_S16x8192 v0
  let v2 : IVec S16x8192 32 := maxsi v1 arg0
  let v3 : IVec S_ 32 := id arg2
  let v4 : IVec S16x8192 32 := broadcastInDim S16x8192 ![] bcast_S_S16x8192 v3
  let v5 : IVec S16x8192 32 := minsi v4 v2
  v5

def fn_where_0 {F : FTy → Type} [FloatOps F] (arg0 : IVec S15x8192 1) (arg1 : IVec S15x8192 1) (arg2 : IVec S_ 1) : IVec S15x8192 1 :=
  let v0 : IVec S15x8192 1 := broadcastInDim S15x8192 ![] bcast_S_S15x8192 arg2
  let v1 : IVec S15x8192 1 := select arg0 arg1 v0
  v1

def fn_clip_1 {F : FTy → Type} [FloatOps F] (arg0 : IVec S16384 32) (arg1 : IVec S_ 32) (arg2 : IVec S_ 32) : IVec S16384 32 :=
  let v0 : IVec S_ 32 := id arg1
  let v1 : IVec S16384 32 := broadcastInDim S16384 ![] bcast_S_S16384 v0
  let v2 : IVec S16384 32 := maxsi v1 arg0
  let v3 : IVec S_ 32 := id arg2
  let v4 : IVec S16384 32 := broadcastInDim S16384 ![] bcast_S_S16384 v3
  let v5 : IVec S16384 32 := minsi v4 v2
  v5

def fn_part3 {F : FTy → Type} [FloatOps F] (main_arg0 : IVec S1x8192 32) (main_arg1 : IVec S16x8192 32) (main_v10 : IVec S_ 1) (main_v16 : IVec S_ 1) (main_v23 : IVec S_ 1) (main_v34 : IVec S_ 1) (main_v40 : IVec S_ 1) (main_v41 : IVec S16384 32) (main_v42 : IVec S16x16384 32) (main_v43 : IVec S16x16384 32) (main_v49 : IVec S16384x1 32) : IVec S_ 1 :=
  let main_v50 : IVec S16x16384 32 := (fun x i => Host.gather gather_S16x8192_S16384x1_S16x16384_0_1_n_n_1_1_161 x i) main_arg1 main_v49
  let main_v51 : IVec S16x16384 1 := cmpi .eq main_v50 main_v42
  let main_c_21 : IVec S_ 32 := constantI S_ 32 0#32
  let main_v52 : IVec S16384 32 := broadcastInDim S16384 ![] bcast_S_S16384 main_c_21
  let main_v53 : IVec S16384 1 := cmpi .slt main_v41 main_v52
  let main_c_22 : IVec S_ 32 := constantI S_ 32 8192#32
  let main_v54 : IVec S16384 32 := broadcastInDim S16384 ![] bcast_S_S16384 main_c_22
  let main_v55 : IVec S16384 32 := addi main_v41 main_v54
  let main_v56 : IVec S16384 32 := select main_v53 main_v55 main_v41
  let main_v57 : IVec S16384x1 32 := broadcastInDim S16384x1 ![0] bcast_S16384_S16384x1_0 main_v56
  let main_v58 : IVec S1x16384 32 := (fun x i => Host.gather gather_S1x8192_S16384x1_S1x16384_0_1_n_n_1_1_11 x i) main_arg0 main_v57
  let main_v59 : IVec S16x16384 32 := broadcastInDim S16x16384 ![0, 1] bcast_S1x16384_S16x16384_0_1 main_v58
  let main_v60 : IVec S16x16384 1 := cmpi .slt main_v43 main_v59
  let main_v61 : IVec S16x16384 1 := andi main_v51 main_v60
  let main_c_23 : IVec S_ 1 := constantI S_ 1 0#1
  let main_v62 : IVec S16384 1 := (fun x v => Host.reduce IntOp.ori x v reducesTo_S16x16384_S16384_d0 h_S_) main_v61 main_c_23
  let main_c_24 : IVec S_ 1 := constantI S_ 1 1#1
  let main_v63 : IVec S_ 1 := (fun x v => Host.reduce IntOp.andi x v reducesTo_S16384_S_d0 h_S_) main_v62 main_c_24
  let main_v64 : IVec S_ 1 := andi main_v10 main_v16
  let main_v65 : IVec S_ 1 := andi main_v64 main_v23
  let main_v66 : IVec S_ 1 := andi main_v65 main_v34
  let main_v67 : IVec S_ 1 := andi main_v66 main_v40
  let main_v68 : IVec S_ 1 := andi main_v67 main_v63
  main_v68

def fn_part2 {F : FTy → Type} [FloatOps F] (main_arg0 : IVec S1x8192 32) (main_arg1 : IVec S16x8192 32) (main_v0 : IVec S16384 32) (main_v4 : IVec S16x8192 1) (main_v10 : IVec S_ 1) (main_v16 : IVec S_ 1) (main_v23 : IVec S_ 1) (main_v32 : IVec S16x8192 1) (main_c_13 : IVec S_ 1) : IVec S_ 1 :=
  let main_v33 : IVec S16x8192 1 := fn_where (F := F) main_v4 main_v32 main_c_13
  let main_c_14 : IVec S_ 1 := constantI S_ 1 1#1
  let main_v34 : IVec S_ 1 := (fun x v => Host.reduce IntOp.andi x v reducesTo_S16x8192_S_d0_1 h_S_) main_v33 main_c_14
  let main_v35 : IVec S15x8192 1 := (extractStridedSlice S15x8192 ![1, 0] · slices_S16x8192_S15x8192_1_0) main_v4
  let main_v36 : IVec S15x8192 32 := (extractStridedSlice S15x8192 ![0, 0] · slices_S16x8192_S15x8192_0_0) main_arg1
  let main_v37 : IVec S15x8192 32 := (extractStridedSlice S15x8192 ![1, 0] · slices_S16x8192_S15x8192_1_0) main_arg1
  let main_v38 : IVec S15x8192 1 := cmpi .slt main_v36 main_v37
  let main_c_15 : IVec S_ 1 := constantI S_ 1 1#1
  let main_v39 : IVec S15x8192 1 := fn_where_0 (F := F) main_v35 main_v38 main_c_15
  let main_c_16 : IVec S_ 1 := constantI S_ 1 1#1
  let main_v40 : IVec S_ 1 := (fun x v => Host.reduce IntOp.andi x v reducesTo_S15x8192_S_d0_1 h_S_) main_v39 main_c_16
  let main_c_17 : IVec S_ 32 := constantI S_ 32 0#32
  let main_c_18 : IVec S_ 32 := constantI S_ 32 8191#32
  let main_v41 : IVec S16384 32 := fn_clip_1 (F := F) main_v0 main_c_17 main_c_18
  let main_v42 : IVec S16x16384 32 := iotaInDim S16x16384 32 1
  let main_v43 : IVec S16x16384 32 := iotaInDim S16x16384 32 0
  let main_c_19 : IVec S_ 32 := constantI S_ 32 0#32
  let main_v44 : IVec S16384 32 := broadcastInDim S16384 ![] bcast_S_S16384 main_c_19
  let main_v45 : IVec S16384 1 := cmpi .slt main_v41 main_v44
  let main_c_20 : IVec S_ 32 := constantI S_ 32 8192#32
  let main_v46 : IVec S16384 32 := broadcastInDim S16384 ![] bcast_S_S16384 main_c_20
  let main_v47 : IVec S16384 32 := addi main_v41 main_v46
  let main_v48 : IVec S16384 32 := select main_v45 main_v47 main_v41
  let main_v49 : IVec S16384x1 32 := broadcastInDim S16384x1 ![0] bcast_S16384_S16384x1_0 main_v48
  fn_part3 (F := F) main_arg0 main_arg1 main_v10 main_v16 main_v23 main_v34 main_v40 main_v41 main_v42 main_v43 main_v49

def fn_part1 {F : FTy → Type} [FloatOps F] (main_arg0 : IVec S1x8192 32) (main_arg1 : IVec S16x8192 32) (main_v0 : IVec S16384 32) (main_v2 : IVec S16x8192 32) (main_v4 : IVec S16x8192 1) (main_v10 : IVec S_ 1) (main_v16 : IVec S_ 1) (main_c_5 : IVec S_ 32) : IVec S_ 1 :=
  let main_v17 : IVec S16x8192 32 := broadcastInDim S16x8192 ![] bcast_S_S16x8192 main_c_5
  let main_v18 : IVec S16x8192 1 := cmpi .sge main_arg1 main_v17
  let main_c_6 : IVec S_ 32 := constantI S_ 32 16384#32
  let main_v19 : IVec S16x8192 32 := broadcastInDim S16x8192 ![] bcast_S_S16x8192 main_c_6
  let main_v20 : IVec S16x8192 1 := cmpi .slt main_arg1 main_v19
  let main_v21 : IVec S16x8192 1 := andi main_v18 main_v20
  let main_c_7 : IVec S_ 1 := constantI S_ 1 1#1
  let main_v22 : IVec S16x8192 1 := fn_where (F := F) main_v4 main_v21 main_c_7
  let main_c_8 : IVec S_ 1 := constantI S_ 1 1#1
  let main_v23 : IVec S_ 1 := (fun x v => Host.reduce IntOp.andi x v reducesTo_S16x8192_S_d0_1 h_S_) main_v22 main_c_8
  let main_c_9 : IVec S_ 32 := constantI S_ 32 0#32
  let main_c_10 : IVec S_ 32 := constantI S_ 32 16383#32
  let main_v24 : IVec S16x8192 32 := fn_clip (F := F) main_arg1 main_c_9 main_c_10
  let main_c_11 : IVec S_ 32 := constantI S_ 32 0#32
  let main_v25 : IVec S16x8192 32 := broadcastInDim S16x8192 ![] bcast_S_S16x8192 main_c_11
  let main_v26 : IVec S16x8192 1 := cmpi .slt main_v24 main_v25
  let main_c_12 : IVec S_ 32 := constantI S_ 32 16384#32
  let main_v27 : IVec S16x8192 32 := broadcastInDim S16x8192 ![] bcast_S_S16x8192 main_c_12
  let main_v28 : IVec S16x8192 32 := addi main_v24 main_v27
  let main_v29 : IVec S16x8192 32 := select main_v26 main_v28 main_v24
  let main_v30 : IVec S16x8192x1 32 := broadcastInDim S16x8192x1 ![0, 1] bcast_S16x8192_S16x8192x1_0_1 main_v29
  let main_v31 : IVec S16x8192 32 := (fun x i => Host.gather gather_S16384_S16x8192x1_S16x8192_n_0_n_n_0_2_1 x i) main_v0 main_v30
  let main_v32 : IVec S16x8192 1 := cmpi .eq main_v31 main_v2
  let main_c_13 : IVec S_ 1 := constantI S_ 1 1#1
  fn_part2 (F := F) main_arg0 main_arg1 main_v0 main_v4 main_v10 main_v16 main_v23 main_v32 main_c_13

def fn {F : FTy → Type} [FloatOps F] (main_arg0 : IVec S1x8192 32) (main_arg1 : IVec S16x8192 32) (main_arg2 : IVec S16x1024 32) (main_arg3 : FVec F S16384x2048 .f32) (main_arg4 : FVec F S8192x2048 .f32) (main_arg5 : FVec F S8x12288 .f32) (main_arg6 : FVec F S2048 .f32) : IVec S_ 1 :=
  let main_v0 : IVec S16384 32 := shapeCast S16384 main_arg2 shapeCasts_S16x1024_S16384
  let main_v1 : IVec S16x8192 32 := iotaInDim S16x8192 32 0
  let main_v2 : IVec S16x8192 32 := iotaInDim S16x8192 32 1
  let main_v3 : IVec S16x8192 32 := broadcastInDim S16x8192 ![0, 1] bcast_S1x8192_S16x8192_0_1 main_arg0
  let main_v4 : IVec S16x8192 1 := cmpi .slt main_v1 main_v3
  let main_c : IVec S_ 32 := constantI S_ 32 0#32
  let main_v5 : IVec S1x8192 32 := broadcastInDim S1x8192 ![] bcast_S_S1x8192 main_c
  let main_v6 : IVec S1x8192 1 := cmpi .sge main_arg0 main_v5
  let main_c_0 : IVec S_ 32 := constantI S_ 32 16#32
  let main_v7 : IVec S1x8192 32 := broadcastInDim S1x8192 ![] bcast_S_S1x8192 main_c_0
  let main_v8 : IVec S1x8192 1 := cmpi .sle main_arg0 main_v7
  let main_v9 : IVec S1x8192 1 := andi main_v6 main_v8
  let main_c_1 : IVec S_ 1 := constantI S_ 1 1#1
  let main_v10 : IVec S_ 1 := (fun x v => Host.reduce IntOp.andi x v reducesTo_S1x8192_S_d0_1 h_S_) main_v9 main_c_1
  let main_c_2 : IVec S_ 32 := constantI S_ 32 0#32
  let main_v11 : IVec S16384 32 := broadcastInDim S16384 ![] bcast_S_S16384 main_c_2
  let main_v12 : IVec S16384 1 := cmpi .sge main_v0 main_v11
  let main_c_3 : IVec S_ 32 := constantI S_ 32 8192#32
  let main_v13 : IVec S16384 32 := broadcastInDim S16384 ![] bcast_S_S16384 main_c_3
  let main_v14 : IVec S16384 1 := cmpi .slt main_v0 main_v13
  let main_v15 : IVec S16384 1 := andi main_v12 main_v14
  let main_c_4 : IVec S_ 1 := constantI S_ 1 1#1
  let main_v16 : IVec S_ 1 := (fun x v => Host.reduce IntOp.andi x v reducesTo_S16384_S_d0 h_S_) main_v15 main_c_4
  let main_c_5 : IVec S_ 32 := constantI S_ 32 0#32
  fn_part1 (F := F) main_arg0 main_arg1 main_v0 main_v2 main_v4 main_v10 main_v16 main_c_5
-- ==== Pre_routed.lean ====
abbrev S1x8192 : Shape := ⟨2, ![1, 8192]⟩
abbrev S16x8192 : Shape := ⟨2, ![16, 8192]⟩
abbrev S8192x1152 : Shape := ⟨2, ![8192, 1152]⟩
abbrev S16x1024 : Shape := ⟨2, ![16, 1024]⟩
abbrev S16384 : Shape := ⟨1, ![16384]⟩
abbrev S_ : Shape := ⟨0, ![]⟩
abbrev S16x8192x1 : Shape := ⟨3, ![16, 8192, 1]⟩
abbrev S15x8192 : Shape := ⟨2, ![15, 8192]⟩
abbrev S16x16384 : Shape := ⟨2, ![16, 16384]⟩
abbrev S16384x1 : Shape := ⟨2, ![16384, 1]⟩
abbrev S1x16384 : Shape := ⟨2, ![1, 16384]⟩

class Facts : Prop where
  shapeCasts_S16x1024_S16384 : S16x1024.ShapeCasts S16384
  bcast_S1x8192_S16x8192_0_1 : S1x8192.BroadcastsInDim S16x8192 (![0, 1] : Fin 2 → Fin S16x8192.rank)
  bcast_S_S1x8192 : S_.BroadcastsInDim S1x8192 (![] : Fin 0 → Fin S1x8192.rank)
  reducesTo_S1x8192_S_d0_1 : S1x8192.ReducesTo [0, 1] S_
  h_S_ : 0 < S_.numel
  bcast_S_S16384 : S_.BroadcastsInDim S16384 (![] : Fin 0 → Fin S16384.rank)
  reducesTo_S16384_S_d0 : S16384.ReducesTo [0] S_
  bcast_S_S16x8192 : S_.BroadcastsInDim S16x8192 (![] : Fin 0 → Fin S16x8192.rank)
  reducesTo_S16x8192_S_d0_1 : S16x8192.ReducesTo [0, 1] S_
  bcast_S16x8192_S16x8192x1_0_1 : S16x8192.BroadcastsInDim S16x8192x1 (![0, 1] : Fin 2 → Fin S16x8192x1.rank)
  slices_S16x8192_S15x8192_1_0 : S16x8192.Slices ![1, 0] S15x8192
  slices_S16x8192_S15x8192_0_0 : S16x8192.Slices ![0, 0] S15x8192
  bcast_S_S15x8192 : S_.BroadcastsInDim S15x8192 (![] : Fin 0 → Fin S15x8192.rank)
  reducesTo_S15x8192_S_d0_1 : S15x8192.ReducesTo [0, 1] S_
  bcast_S16384_S16384x1_0 : S16384.BroadcastsInDim S16384x1 (![0] : Fin 1 → Fin S16384x1.rank)
  bcast_S1x16384_S16x16384_0_1 : S1x16384.BroadcastsInDim S16x16384 (![0, 1] : Fin 2 → Fin S16x16384.rank)
  reducesTo_S16x16384_S16384_d0 : S16x16384.ReducesTo [0] S16384
  gather_S16384_S16x8192x1_S16x8192_n_0_n_n_0_2_1_wf : GatherDims.WF S16384 S16x8192x1 S16x8192 [] [0] [] [0] [] 2 ![1]
  gather_S16x8192_S16384x1_S16x16384_0_1_n_n_1_1_161_wf : GatherDims.WF S16x8192 S16384x1 S16x16384 [0] [1] [] [1] [] 1 ![16, 1]
  gather_S1x8192_S16384x1_S1x16384_0_1_n_n_1_1_11_wf : GatherDims.WF S1x8192 S16384x1 S1x16384 [0] [1] [] [1] [] 1 ![1, 1]

variable [Facts]

def gather_S16384_S16x8192x1_S16x8192_n_0_n_n_0_2_1 : GatherDims S16384 S16x8192x1 S16x8192 where
  offsetDims := []
  collapsedSliceDims := [0]
  operandBatchingDims := []
  startIndicesBatchingDims := []
  startIndexMap := [0]
  indexVectorDim := 2
  sliceSizes := ![1]
  wf := gather_S16384_S16x8192x1_S16x8192_n_0_n_n_0_2_1_wf
def gather_S16x8192_S16384x1_S16x16384_0_1_n_n_1_1_161 : GatherDims S16x8192 S16384x1 S16x16384 where
  offsetDims := [0]
  collapsedSliceDims := [1]
  operandBatchingDims := []
  startIndicesBatchingDims := []
  startIndexMap := [1]
  indexVectorDim := 1
  sliceSizes := ![16, 1]
  wf := gather_S16x8192_S16384x1_S16x16384_0_1_n_n_1_1_161_wf
def gather_S1x8192_S16384x1_S1x16384_0_1_n_n_1_1_11 : GatherDims S1x8192 S16384x1 S1x16384 where
  offsetDims := [0]
  collapsedSliceDims := [1]
  operandBatchingDims := []
  startIndicesBatchingDims := []
  startIndexMap := [1]
  indexVectorDim := 1
  sliceSizes := ![1, 1]
  wf := gather_S1x8192_S16384x1_S1x16384_0_1_n_n_1_1_11_wf
def fn_where {F : FTy → Type} [FloatOps F] (arg0 : IVec S16x8192 1) (arg1 : IVec S16x8192 1) (arg2 : IVec S_ 1) : IVec S16x8192 1 :=
  let v0 : IVec S16x8192 1 := broadcastInDim S16x8192 ![] bcast_S_S16x8192 arg2
  let v1 : IVec S16x8192 1 := select arg0 arg1 v0
  v1

def fn_clip {F : FTy → Type} [FloatOps F] (arg0 : IVec S16x8192 32) (arg1 : IVec S_ 32) (arg2 : IVec S_ 32) : IVec S16x8192 32 :=
  let v0 : IVec S_ 32 := id arg1
  let v1 : IVec S16x8192 32 := broadcastInDim S16x8192 ![] bcast_S_S16x8192 v0
  let v2 : IVec S16x8192 32 := maxsi v1 arg0
  let v3 : IVec S_ 32 := id arg2
  let v4 : IVec S16x8192 32 := broadcastInDim S16x8192 ![] bcast_S_S16x8192 v3
  let v5 : IVec S16x8192 32 := minsi v4 v2
  v5

def fn_where_0 {F : FTy → Type} [FloatOps F] (arg0 : IVec S15x8192 1) (arg1 : IVec S15x8192 1) (arg2 : IVec S_ 1) : IVec S15x8192 1 :=
  let v0 : IVec S15x8192 1 := broadcastInDim S15x8192 ![] bcast_S_S15x8192 arg2
  let v1 : IVec S15x8192 1 := select arg0 arg1 v0
  v1

def fn_clip_1 {F : FTy → Type} [FloatOps F] (arg0 : IVec S16384 32) (arg1 : IVec S_ 32) (arg2 : IVec S_ 32) : IVec S16384 32 :=
  let v0 : IVec S_ 32 := id arg1
  let v1 : IVec S16384 32 := broadcastInDim S16384 ![] bcast_S_S16384 v0
  let v2 : IVec S16384 32 := maxsi v1 arg0
  let v3 : IVec S_ 32 := id arg2
  let v4 : IVec S16384 32 := broadcastInDim S16384 ![] bcast_S_S16384 v3
  let v5 : IVec S16384 32 := minsi v4 v2
  v5

def fn_part3 {F : FTy → Type} [FloatOps F] (main_arg0 : IVec S1x8192 32) (main_arg1 : IVec S16x8192 32) (main_v10 : IVec S_ 1) (main_v16 : IVec S_ 1) (main_v23 : IVec S_ 1) (main_v34 : IVec S_ 1) (main_v40 : IVec S_ 1) (main_v41 : IVec S16384 32) (main_v42 : IVec S16x16384 32) (main_v43 : IVec S16x16384 32) (main_v49 : IVec S16384x1 32) : IVec S_ 1 :=
  let main_v50 : IVec S16x16384 32 := (fun x i => Host.gather gather_S16x8192_S16384x1_S16x16384_0_1_n_n_1_1_161 x i) main_arg1 main_v49
  let main_v51 : IVec S16x16384 1 := cmpi .eq main_v50 main_v42
  let main_c_21 : IVec S_ 32 := constantI S_ 32 0#32
  let main_v52 : IVec S16384 32 := broadcastInDim S16384 ![] bcast_S_S16384 main_c_21
  let main_v53 : IVec S16384 1 := cmpi .slt main_v41 main_v52
  let main_c_22 : IVec S_ 32 := constantI S_ 32 8192#32
  let main_v54 : IVec S16384 32 := broadcastInDim S16384 ![] bcast_S_S16384 main_c_22
  let main_v55 : IVec S16384 32 := addi main_v41 main_v54
  let main_v56 : IVec S16384 32 := select main_v53 main_v55 main_v41
  let main_v57 : IVec S16384x1 32 := broadcastInDim S16384x1 ![0] bcast_S16384_S16384x1_0 main_v56
  let main_v58 : IVec S1x16384 32 := (fun x i => Host.gather gather_S1x8192_S16384x1_S1x16384_0_1_n_n_1_1_11 x i) main_arg0 main_v57
  let main_v59 : IVec S16x16384 32 := broadcastInDim S16x16384 ![0, 1] bcast_S1x16384_S16x16384_0_1 main_v58
  let main_v60 : IVec S16x16384 1 := cmpi .slt main_v43 main_v59
  let main_v61 : IVec S16x16384 1 := andi main_v51 main_v60
  let main_c_23 : IVec S_ 1 := constantI S_ 1 0#1
  let main_v62 : IVec S16384 1 := (fun x v => Host.reduce IntOp.ori x v reducesTo_S16x16384_S16384_d0 h_S_) main_v61 main_c_23
  let main_c_24 : IVec S_ 1 := constantI S_ 1 1#1
  let main_v63 : IVec S_ 1 := (fun x v => Host.reduce IntOp.andi x v reducesTo_S16384_S_d0 h_S_) main_v62 main_c_24
  let main_v64 : IVec S_ 1 := andi main_v10 main_v16
  let main_v65 : IVec S_ 1 := andi main_v64 main_v23
  let main_v66 : IVec S_ 1 := andi main_v65 main_v34
  let main_v67 : IVec S_ 1 := andi main_v66 main_v40
  let main_v68 : IVec S_ 1 := andi main_v67 main_v63
  main_v68

def fn_part2 {F : FTy → Type} [FloatOps F] (main_arg0 : IVec S1x8192 32) (main_arg1 : IVec S16x8192 32) (main_v0 : IVec S16384 32) (main_v4 : IVec S16x8192 1) (main_v10 : IVec S_ 1) (main_v16 : IVec S_ 1) (main_v23 : IVec S_ 1) (main_v32 : IVec S16x8192 1) (main_c_13 : IVec S_ 1) : IVec S_ 1 :=
  let main_v33 : IVec S16x8192 1 := fn_where (F := F) main_v4 main_v32 main_c_13
  let main_c_14 : IVec S_ 1 := constantI S_ 1 1#1
  let main_v34 : IVec S_ 1 := (fun x v => Host.reduce IntOp.andi x v reducesTo_S16x8192_S_d0_1 h_S_) main_v33 main_c_14
  let main_v35 : IVec S15x8192 1 := (extractStridedSlice S15x8192 ![1, 0] · slices_S16x8192_S15x8192_1_0) main_v4
  let main_v36 : IVec S15x8192 32 := (extractStridedSlice S15x8192 ![0, 0] · slices_S16x8192_S15x8192_0_0) main_arg1
  let main_v37 : IVec S15x8192 32 := (extractStridedSlice S15x8192 ![1, 0] · slices_S16x8192_S15x8192_1_0) main_arg1
  let main_v38 : IVec S15x8192 1 := cmpi .slt main_v36 main_v37
  let main_c_15 : IVec S_ 1 := constantI S_ 1 1#1
  let main_v39 : IVec S15x8192 1 := fn_where_0 (F := F) main_v35 main_v38 main_c_15
  let main_c_16 : IVec S_ 1 := constantI S_ 1 1#1
  let main_v40 : IVec S_ 1 := (fun x v => Host.reduce IntOp.andi x v reducesTo_S15x8192_S_d0_1 h_S_) main_v39 main_c_16
  let main_c_17 : IVec S_ 32 := constantI S_ 32 0#32
  let main_c_18 : IVec S_ 32 := constantI S_ 32 8191#32
  let main_v41 : IVec S16384 32 := fn_clip_1 (F := F) main_v0 main_c_17 main_c_18
  let main_v42 : IVec S16x16384 32 := iotaInDim S16x16384 32 1
  let main_v43 : IVec S16x16384 32 := iotaInDim S16x16384 32 0
  let main_c_19 : IVec S_ 32 := constantI S_ 32 0#32
  let main_v44 : IVec S16384 32 := broadcastInDim S16384 ![] bcast_S_S16384 main_c_19
  let main_v45 : IVec S16384 1 := cmpi .slt main_v41 main_v44
  let main_c_20 : IVec S_ 32 := constantI S_ 32 8192#32
  let main_v46 : IVec S16384 32 := broadcastInDim S16384 ![] bcast_S_S16384 main_c_20
  let main_v47 : IVec S16384 32 := addi main_v41 main_v46
  let main_v48 : IVec S16384 32 := select main_v45 main_v47 main_v41
  let main_v49 : IVec S16384x1 32 := broadcastInDim S16384x1 ![0] bcast_S16384_S16384x1_0 main_v48
  fn_part3 (F := F) main_arg0 main_arg1 main_v10 main_v16 main_v23 main_v34 main_v40 main_v41 main_v42 main_v43 main_v49

def fn_part1 {F : FTy → Type} [FloatOps F] (main_arg0 : IVec S1x8192 32) (main_arg1 : IVec S16x8192 32) (main_v0 : IVec S16384 32) (main_v2 : IVec S16x8192 32) (main_v4 : IVec S16x8192 1) (main_v10 : IVec S_ 1) (main_v16 : IVec S_ 1) (main_c_5 : IVec S_ 32) : IVec S_ 1 :=
  let main_v17 : IVec S16x8192 32 := broadcastInDim S16x8192 ![] bcast_S_S16x8192 main_c_5
  let main_v18 : IVec S16x8192 1 := cmpi .sge main_arg1 main_v17
  let main_c_6 : IVec S_ 32 := constantI S_ 32 16384#32
  let main_v19 : IVec S16x8192 32 := broadcastInDim S16x8192 ![] bcast_S_S16x8192 main_c_6
  let main_v20 : IVec S16x8192 1 := cmpi .slt main_arg1 main_v19
  let main_v21 : IVec S16x8192 1 := andi main_v18 main_v20
  let main_c_7 : IVec S_ 1 := constantI S_ 1 1#1
  let main_v22 : IVec S16x8192 1 := fn_where (F := F) main_v4 main_v21 main_c_7
  let main_c_8 : IVec S_ 1 := constantI S_ 1 1#1
  let main_v23 : IVec S_ 1 := (fun x v => Host.reduce IntOp.andi x v reducesTo_S16x8192_S_d0_1 h_S_) main_v22 main_c_8
  let main_c_9 : IVec S_ 32 := constantI S_ 32 0#32
  let main_c_10 : IVec S_ 32 := constantI S_ 32 16383#32
  let main_v24 : IVec S16x8192 32 := fn_clip (F := F) main_arg1 main_c_9 main_c_10
  let main_c_11 : IVec S_ 32 := constantI S_ 32 0#32
  let main_v25 : IVec S16x8192 32 := broadcastInDim S16x8192 ![] bcast_S_S16x8192 main_c_11
  let main_v26 : IVec S16x8192 1 := cmpi .slt main_v24 main_v25
  let main_c_12 : IVec S_ 32 := constantI S_ 32 16384#32
  let main_v27 : IVec S16x8192 32 := broadcastInDim S16x8192 ![] bcast_S_S16x8192 main_c_12
  let main_v28 : IVec S16x8192 32 := addi main_v24 main_v27
  let main_v29 : IVec S16x8192 32 := select main_v26 main_v28 main_v24
  let main_v30 : IVec S16x8192x1 32 := broadcastInDim S16x8192x1 ![0, 1] bcast_S16x8192_S16x8192x1_0_1 main_v29
  let main_v31 : IVec S16x8192 32 := (fun x i => Host.gather gather_S16384_S16x8192x1_S16x8192_n_0_n_n_0_2_1 x i) main_v0 main_v30
  let main_v32 : IVec S16x8192 1 := cmpi .eq main_v31 main_v2
  let main_c_13 : IVec S_ 1 := constantI S_ 1 1#1
  fn_part2 (F := F) main_arg0 main_arg1 main_v0 main_v4 main_v10 main_v16 main_v23 main_v32 main_c_13

def fn {F : FTy → Type} [FloatOps F] (main_arg0 : IVec S1x8192 32) (main_arg1 : IVec S16x8192 32) (main_arg2 : IVec S8192x1152 32) (main_arg3 : IVec S16x1024 32) : IVec S_ 1 :=
  let main_v0 : IVec S16384 32 := shapeCast S16384 main_arg3 shapeCasts_S16x1024_S16384
  let main_v1 : IVec S16x8192 32 := iotaInDim S16x8192 32 0
  let main_v2 : IVec S16x8192 32 := iotaInDim S16x8192 32 1
  let main_v3 : IVec S16x8192 32 := broadcastInDim S16x8192 ![0, 1] bcast_S1x8192_S16x8192_0_1 main_arg0
  let main_v4 : IVec S16x8192 1 := cmpi .slt main_v1 main_v3
  let main_c : IVec S_ 32 := constantI S_ 32 0#32
  let main_v5 : IVec S1x8192 32 := broadcastInDim S1x8192 ![] bcast_S_S1x8192 main_c
  let main_v6 : IVec S1x8192 1 := cmpi .sge main_arg0 main_v5
  let main_c_0 : IVec S_ 32 := constantI S_ 32 16#32
  let main_v7 : IVec S1x8192 32 := broadcastInDim S1x8192 ![] bcast_S_S1x8192 main_c_0
  let main_v8 : IVec S1x8192 1 := cmpi .sle main_arg0 main_v7
  let main_v9 : IVec S1x8192 1 := andi main_v6 main_v8
  let main_c_1 : IVec S_ 1 := constantI S_ 1 1#1
  let main_v10 : IVec S_ 1 := (fun x v => Host.reduce IntOp.andi x v reducesTo_S1x8192_S_d0_1 h_S_) main_v9 main_c_1
  let main_c_2 : IVec S_ 32 := constantI S_ 32 0#32
  let main_v11 : IVec S16384 32 := broadcastInDim S16384 ![] bcast_S_S16384 main_c_2
  let main_v12 : IVec S16384 1 := cmpi .sge main_v0 main_v11
  let main_c_3 : IVec S_ 32 := constantI S_ 32 8192#32
  let main_v13 : IVec S16384 32 := broadcastInDim S16384 ![] bcast_S_S16384 main_c_3
  let main_v14 : IVec S16384 1 := cmpi .slt main_v0 main_v13
  let main_v15 : IVec S16384 1 := andi main_v12 main_v14
  let main_c_4 : IVec S_ 1 := constantI S_ 1 1#1
  let main_v16 : IVec S_ 1 := (fun x v => Host.reduce IntOp.andi x v reducesTo_S16384_S_d0 h_S_) main_v15 main_c_4
  let main_c_5 : IVec S_ 32 := constantI S_ 32 0#32
  fn_part1 (F := F) main_arg0 main_arg1 main_v0 main_v2 main_v4 main_v10 main_v16 main_c_5
-- ==== Pre_routed_lat.lean ====
abbrev S1x4096 : Shape := ⟨2, ![1, 4096]⟩
abbrev S16x4096 : Shape := ⟨2, ![16, 4096]⟩
abbrev S4096x1152 : Shape := ⟨2, ![4096, 1152]⟩
abbrev S16x512 : Shape := ⟨2, ![16, 512]⟩
abbrev S8192 : Shape := ⟨1, ![8192]⟩
abbrev S_ : Shape := ⟨0, ![]⟩
abbrev S16x4096x1 : Shape := ⟨3, ![16, 4096, 1]⟩
abbrev S15x4096 : Shape := ⟨2, ![15, 4096]⟩
abbrev S16x8192 : Shape := ⟨2, ![16, 8192]⟩
abbrev S8192x1 : Shape := ⟨2, ![8192, 1]⟩
abbrev S1x8192 : Shape := ⟨2, ![1, 8192]⟩

class Facts : Prop where
  shapeCasts_S16x512_S8192 : S16x512.ShapeCasts S8192
  bcast_S1x4096_S16x4096_0_1 : S1x4096.BroadcastsInDim S16x4096 (![0, 1] : Fin 2 → Fin S16x4096.rank)
  bcast_S_S1x4096 : S_.BroadcastsInDim S1x4096 (![] : Fin 0 → Fin S1x4096.rank)
  reducesTo_S1x4096_S_d0_1 : S1x4096.ReducesTo [0, 1] S_
  h_S_ : 0 < S_.numel
  bcast_S_S8192 : S_.BroadcastsInDim S8192 (![] : Fin 0 → Fin S8192.rank)
  reducesTo_S8192_S_d0 : S8192.ReducesTo [0] S_
  bcast_S_S16x4096 : S_.BroadcastsInDim S16x4096 (![] : Fin 0 → Fin S16x4096.rank)
  reducesTo_S16x4096_S_d0_1 : S16x4096.ReducesTo [0, 1] S_
  bcast_S16x4096_S16x4096x1_0_1 : S16x4096.BroadcastsInDim S16x4096x1 (![0, 1] : Fin 2 → Fin S16x4096x1.rank)
  slices_S16x4096_S15x4096_1_0 : S16x4096.Slices ![1, 0] S15x4096
  slices_S16x4096_S15x4096_0_0 : S16x4096.Slices ![0, 0] S15x4096
  bcast_S_S15x4096 : S_.BroadcastsInDim S15x4096 (![] : Fin 0 → Fin S15x4096.rank)
  reducesTo_S15x4096_S_d0_1 : S15x4096.ReducesTo [0, 1] S_
  bcast_S8192_S8192x1_0 : S8192.BroadcastsInDim S8192x1 (![0] : Fin 1 → Fin S8192x1.rank)
  bcast_S1x8192_S16x8192_0_1 : S1x8192.BroadcastsInDim S16x8192 (![0, 1] : Fin 2 → Fin S16x8192.rank)
  reducesTo_S16x8192_S8192_d0 : S16x8192.ReducesTo [0] S8192
  gather_S8192_S16x4096x1_S16x4096_n_0_n_n_0_2_1_wf : GatherDims.WF S8192 S16x4096x1 S16x4096 [] [0] [] [0] [] 2 ![1]
  gather_S16x4096_S8192x1_S16x8192_0_1_n_n_1_1_161_wf : GatherDims.WF S16x4096 S8192x1 S16x8192 [0] [1] [] [1] [] 1 ![16, 1]
  gather_S1x4096_S8192x1_S1x8192_0_1_n_n_1_1_11_wf : GatherDims.WF S1x4096 S8192x1 S1x8192 [0] [1] [] [1] [] 1 ![1, 1]

variable [Facts]

def gather_S8192_S16x4096x1_S16x4096_n_0_n_n_0_2_1 : GatherDims S8192 S16x4096x1 S16x4096 where
  offsetDims := []
  collapsedSliceDims := [0]
  operandBatchingDims := []
  startIndicesBatchingDims := []
  startIndexMap := [0]
  indexVectorDim := 2
  sliceSizes := ![1]
  wf := gather_S8192_S16x4096x1_S16x4096_n_0_n_n_0_2_1_wf
def gather_S16x4096_S8192x1_S16x8192_0_1_n_n_1_1_161 : GatherDims S16x4096 S8192x1 S16x8192 where
  offsetDims := [0]
  collapsedSliceDims := [1]
  operandBatchingDims := []
  startIndicesBatchingDims := []
  startIndexMap := [1]
  indexVectorDim := 1
  sliceSizes := ![16, 1]
  wf := gather_S16x4096_S8192x1_S16x8192_0_1_n_n_1_1_161_wf
def gather_S1x4096_S8192x1_S1x8192_0_1_n_n_1_1_11 : GatherDims S1x4096 S8192x1 S1x8192 where
  offsetDims := [0]
  collapsedSliceDims := [1]
  operandBatchingDims := []
  startIndicesBatchingDims := []
  startIndexMap := [1]
  indexVectorDim := 1
  sliceSizes := ![1, 1]
  wf := gather_S1x4096_S8192x1_S1x8192_0_1_n_n_1_1_11_wf
def fn_where {F : FTy → Type} [FloatOps F] (arg0 : IVec S16x4096 1) (arg1 : IVec S16x4096 1) (arg2 : IVec S_ 1) : IVec S16x4096 1 :=
  let v0 : IVec S16x4096 1 := broadcastInDim S16x4096 ![] bcast_S_S16x4096 arg2
  let v1 : IVec S16x4096 1 := select arg0 arg1 v0
  v1

def fn_clip {F : FTy → Type} [FloatOps F] (arg0 : IVec S16x4096 32) (arg1 : IVec S_ 32) (arg2 : IVec S_ 32) : IVec S16x4096 32 :=
  let v0 : IVec S_ 32 := id arg1
  let v1 : IVec S16x4096 32 := broadcastInDim S16x4096 ![] bcast_S_S16x4096 v0
  let v2 : IVec S16x4096 32 := maxsi v1 arg0
  let v3 : IVec S_ 32 := id arg2
  let v4 : IVec S16x4096 32 := broadcastInDim S16x4096 ![] bcast_S_S16x4096 v3
  let v5 : IVec S16x4096 32 := minsi v4 v2
  v5

def fn_where_0 {F : FTy → Type} [FloatOps F] (arg0 : IVec S15x4096 1) (arg1 : IVec S15x4096 1) (arg2 : IVec S_ 1) : IVec S15x4096 1 :=
  let v0 : IVec S15x4096 1 := broadcastInDim S15x4096 ![] bcast_S_S15x4096 arg2
  let v1 : IVec S15x4096 1 := select arg0 arg1 v0
  v1

def fn_clip_1 {F : FTy → Type} [FloatOps F] (arg0 : IVec S8192 32) (arg1 : IVec S_ 32) (arg2 : IVec S_ 32) : IVec S8192 32 :=
  let v0 : IVec S_ 32 := id arg1
  let v1 : IVec S8192 32 := broadcastInDim S8192 ![] bcast_S_S8192 v0
  let v2 : IVec S8192 32 := maxsi v1 arg0
  let v3 : IVec S_ 32 := id arg2
  let v4 : IVec S8192 32 := broadcastInDim S8192 ![] bcast_S_S8192 v3
  let v5 : IVec S8192 32 := minsi v4 v2
  v5

def fn_part3 {F : FTy → Type} [FloatOps F] (main_arg0 : IVec S1x4096 32) (main_arg1 : IVec S16x4096 32) (main_v10 : IVec S_ 1) (main_v16 : IVec S_ 1) (main_v23 : IVec S_ 1) (main_v34 : IVec S_ 1) (main_v40 : IVec S_ 1) (main_v41 : IVec S8192 32) (main_v42 : IVec S16x8192 32) (main_v43 : IVec S16x8192 32) (main_v49 : IVec S8192x1 32) : IVec S_ 1 :=
  let main_v50 : IVec S16x8192 32 := (fun x i => Host.gather gather_S16x4096_S8192x1_S16x8192_0_1_n_n_1_1_161 x i) main_arg1 main_v49
  let main_v51 : IVec S16x8192 1 := cmpi .eq main_v50 main_v42
  let main_c_21 : IVec S_ 32 := constantI S_ 32 0#32
  let main_v52 : IVec S8192 32 := broadcastInDim S8192 ![] bcast_S_S8192 main_c_21
  let main_v53 : IVec S8192 1 := cmpi .slt main_v41 main_v52
  let main_c_22 : IVec S_ 32 := constantI S_ 32 4096#32
  let main_v54 : IVec S8192 32 := broadcastInDim S8192 ![] bcast_S_S8192 main_c_22
  let main_v55 : IVec S8192 32 := addi main_v41 main_v54
  let main_v56 : IVec S8192 32 := select main_v53 main_v55 main_v41
  let main_v57 : IVec S8192x1 32 := broadcastInDim S8192x1 ![0] bcast_S8192_S8192x1_0 main_v56
  let main_v58 : IVec S1x8192 32 := (fun x i => Host.gather gather_S1x4096_S8192x1_S1x8192_0_1_n_n_1_1_11 x i) main_arg0 main_v57
  let main_v59 : IVec S16x8192 32 := broadcastInDim S16x8192 ![0, 1] bcast_S1x8192_S16x8192_0_1 main_v58
  let main_v60 : IVec S16x8192 1 := cmpi .slt main_v43 main_v59
  let main_v61 : IVec S16x8192 1 := andi main_v51 main_v60
  let main_c_23 : IVec S_ 1 := constantI S_ 1 0#1
  let main_v62 : IVec S8192 1 := (fun x v => Host.reduce IntOp.ori x v reducesTo_S16x8192_S8192_d0 h_S_) main_v61 main_c_23
  let main_c_24 : IVec S_ 1 := constantI S_ 1 1#1
  let main_v63 : IVec S_ 1 := (fun x v => Host.reduce IntOp.andi x v reducesTo_S8192_S_d0 h_S_) main_v62 main_c_24
  let main_v64 : IVec S_ 1 := andi main_v10 main_v16
  let main_v65 : IVec S_ 1 := andi main_v64 main_v23
  let main_v66 : IVec S_ 1 := andi main_v65 main_v34
  let main_v67 : IVec S_ 1 := andi main_v66 main_v40
  let main_v68 : IVec S_ 1 := andi main_v67 main_v63
  main_v68

def fn_part2 {F : FTy → Type} [FloatOps F] (main_arg0 : IVec S1x4096 32) (main_arg1 : IVec S16x4096 32) (main_v0 : IVec S8192 32) (main_v4 : IVec S16x4096 1) (main_v10 : IVec S_ 1) (main_v16 : IVec S_ 1) (main_v23 : IVec S_ 1) (main_v32 : IVec S16x4096 1) (main_c_13 : IVec S_ 1) : IVec S_ 1 :=
  let main_v33 : IVec S16x4096 1 := fn_where (F := F) main_v4 main_v32 main_c_13
  let main_c_14 : IVec S_ 1 := constantI S_ 1 1#1
  let main_v34 : IVec S_ 1 := (fun x v => Host.reduce IntOp.andi x v reducesTo_S16x4096_S_d0_1 h_S_) main_v33 main_c_14
  let main_v35 : IVec S15x4096 1 := (extractStridedSlice S15x4096 ![1, 0] · slices_S16x4096_S15x4096_1_0) main_v4
  let main_v36 : IVec S15x4096 32 := (extractStridedSlice S15x4096 ![0, 0] · slices_S16x4096_S15x4096_0_0) main_arg1
  let main_v37 : IVec S15x4096 32 := (extractStridedSlice S15x4096 ![1, 0] · slices_S16x4096_S15x4096_1_0) main_arg1
  let main_v38 : IVec S15x4096 1 := cmpi .slt main_v36 main_v37
  let main_c_15 : IVec S_ 1 := constantI S_ 1 1#1
  let main_v39 : IVec S15x4096 1 := fn_where_0 (F := F) main_v35 main_v38 main_c_15
  let main_c_16 : IVec S_ 1 := constantI S_ 1 1#1
  let main_v40 : IVec S_ 1 := (fun x v => Host.reduce IntOp.andi x v reducesTo_S15x4096_S_d0_1 h_S_) main_v39 main_c_16
  let main_c_17 : IVec S_ 32 := constantI S_ 32 0#32
  let main_c_18 : IVec S_ 32 := constantI S_ 32 4095#32
  let main_v41 : IVec S8192 32 := fn_clip_1 (F := F) main_v0 main_c_17 main_c_18
  let main_v42 : IVec S16x8192 32 := iotaInDim S16x8192 32 1
  let main_v43 : IVec S16x8192 32 := iotaInDim S16x8192 32 0
  let main_c_19 : IVec S_ 32 := constantI S_ 32 0#32
  let main_v44 : IVec S8192 32 := broadcastInDim S8192 ![] bcast_S_S8192 main_c_19
  let main_v45 : IVec S8192 1 := cmpi .slt main_v41 main_v44
  let main_c_20 : IVec S_ 32 := constantI S_ 32 4096#32
  let main_v46 : IVec S8192 32 := broadcastInDim S8192 ![] bcast_S_S8192 main_c_20
  let main_v47 : IVec S8192 32 := addi main_v41 main_v46
  let main_v48 : IVec S8192 32 := select main_v45 main_v47 main_v41
  let main_v49 : IVec S8192x1 32 := broadcastInDim S8192x1 ![0] bcast_S8192_S8192x1_0 main_v48
  fn_part3 (F := F) main_arg0 main_arg1 main_v10 main_v16 main_v23 main_v34 main_v40 main_v41 main_v42 main_v43 main_v49

def fn_part1 {F : FTy → Type} [FloatOps F] (main_arg0 : IVec S1x4096 32) (main_arg1 : IVec S16x4096 32) (main_v0 : IVec S8192 32) (main_v2 : IVec S16x4096 32) (main_v4 : IVec S16x4096 1) (main_v10 : IVec S_ 1) (main_v16 : IVec S_ 1) (main_c_5 : IVec S_ 32) : IVec S_ 1 :=
  let main_v17 : IVec S16x4096 32 := broadcastInDim S16x4096 ![] bcast_S_S16x4096 main_c_5
  let main_v18 : IVec S16x4096 1 := cmpi .sge main_arg1 main_v17
  let main_c_6 : IVec S_ 32 := constantI S_ 32 8192#32
  let main_v19 : IVec S16x4096 32 := broadcastInDim S16x4096 ![] bcast_S_S16x4096 main_c_6
  let main_v20 : IVec S16x4096 1 := cmpi .slt main_arg1 main_v19
  let main_v21 : IVec S16x4096 1 := andi main_v18 main_v20
  let main_c_7 : IVec S_ 1 := constantI S_ 1 1#1
  let main_v22 : IVec S16x4096 1 := fn_where (F := F) main_v4 main_v21 main_c_7
  let main_c_8 : IVec S_ 1 := constantI S_ 1 1#1
  let main_v23 : IVec S_ 1 := (fun x v => Host.reduce IntOp.andi x v reducesTo_S16x4096_S_d0_1 h_S_) main_v22 main_c_8
  let main_c_9 : IVec S_ 32 := constantI S_ 32 0#32
  let main_c_10 : IVec S_ 32 := constantI S_ 32 8191#32
  let main_v24 : IVec S16x4096 32 := fn_clip (F := F) main_arg1 main_c_9 main_c_10
  let main_c_11 : IVec S_ 32 := constantI S_ 32 0#32
  let main_v25 : IVec S16x4096 32 := broadcastInDim S16x4096 ![] bcast_S_S16x4096 main_c_11
  let main_v26 : IVec S16x4096 1 := cmpi .slt main_v24 main_v25
  let main_c_12 : IVec S_ 32 := constantI S_ 32 8192#32
  let main_v27 : IVec S16x4096 32 := broadcastInDim S16x4096 ![] bcast_S_S16x4096 main_c_12
  let main_v28 : IVec S16x4096 32 := addi main_v24 main_v27
  let main_v29 : IVec S16x4096 32 := select main_v26 main_v28 main_v24
  let main_v30 : IVec S16x4096x1 32 := broadcastInDim S16x4096x1 ![0, 1] bcast_S16x4096_S16x4096x1_0_1 main_v29
  let main_v31 : IVec S16x4096 32 := (fun x i => Host.gather gather_S8192_S16x4096x1_S16x4096_n_0_n_n_0_2_1 x i) main_v0 main_v30
  let main_v32 : IVec S16x4096 1 := cmpi .eq main_v31 main_v2
  let main_c_13 : IVec S_ 1 := constantI S_ 1 1#1
  fn_part2 (F := F) main_arg0 main_arg1 main_v0 main_v4 main_v10 main_v16 main_v23 main_v32 main_c_13

def fn {F : FTy → Type} [FloatOps F] (main_arg0 : IVec S1x4096 32) (main_arg1 : IVec S16x4096 32) (main_arg2 : IVec S4096x1152 32) (main_arg3 : IVec S16x512 32) : IVec S_ 1 :=
  let main_v0 : IVec S8192 32 := shapeCast S8192 main_arg3 shapeCasts_S16x512_S8192
  let main_v1 : IVec S16x4096 32 := iotaInDim S16x4096 32 0
  let main_v2 : IVec S16x4096 32 := iotaInDim S16x4096 32 1
  let main_v3 : IVec S16x4096 32 := broadcastInDim S16x4096 ![0, 1] bcast_S1x4096_S16x4096_0_1 main_arg0
  let main_v4 : IVec S16x4096 1 := cmpi .slt main_v1 main_v3
  let main_c : IVec S_ 32 := constantI S_ 32 0#32
  let main_v5 : IVec S1x4096 32 := broadcastInDim S1x4096 ![] bcast_S_S1x4096 main_c
  let main_v6 : IVec S1x4096 1 := cmpi .sge main_arg0 main_v5
  let main_c_0 : IVec S_ 32 := constantI S_ 32 16#32
  let main_v7 : IVec S1x4096 32 := broadcastInDim S1x4096 ![] bcast_S_S1x4096 main_c_0
  let main_v8 : IVec S1x4096 1 := cmpi .sle main_arg0 main_v7
  let main_v9 : IVec S1x4096 1 := andi main_v6 main_v8
  let main_c_1 : IVec S_ 1 := constantI S_ 1 1#1
  let main_v10 : IVec S_ 1 := (fun x v => Host.reduce IntOp.andi x v reducesTo_S1x4096_S_d0_1 h_S_) main_v9 main_c_1
  let main_c_2 : IVec S_ 32 := constantI S_ 32 0#32
  let main_v11 : IVec S8192 32 := broadcastInDim S8192 ![] bcast_S_S8192 main_c_2
  let main_v12 : IVec S8192 1 := cmpi .sge main_v0 main_v11
  let main_c_3 : IVec S_ 32 := constantI S_ 32 4096#32
  let main_v13 : IVec S8192 32 := broadcastInDim S8192 ![] bcast_S_S8192 main_c_3
  let main_v14 : IVec S8192 1 := cmpi .slt main_v0 main_v13
  let main_v15 : IVec S8192 1 := andi main_v12 main_v14
  let main_c_4 : IVec S_ 1 := constantI S_ 1 1#1
  let main_v16 : IVec S_ 1 := (fun x v => Host.reduce IntOp.andi x v reducesTo_S8192_S_d0 h_S_) main_v15 main_c_4
  let main_c_5 : IVec S_ 32 := constantI S_ 32 0#32
  fn_part1 (F := F) main_arg0 main_arg1 main_v0 main_v2 main_v4 main_v10 main_v16 main_c_5
-- ==== Dispatch.lean ====
abbrev S1x8192 : Shape := ⟨2, ![1, 8192]⟩
abbrev S16x8192 : Shape := ⟨2, ![16, 8192]⟩
abbrev S8192x1152 : Shape := ⟨2, ![8192, 1152]⟩
abbrev S16x1024 : Shape := ⟨2, ![16, 1024]⟩
abbrev S16384x1152 : Shape := ⟨2, ![16384, 1152]⟩
abbrev S1x512 : Shape := ⟨2, ![1, 512]⟩
abbrev S16x512 : Shape := ⟨2, ![16, 512]⟩
abbrev S_ : Shape := ⟨0, ![]⟩
abbrev S1x1 : Shape := ⟨2, ![1, 1]⟩
abbrev S1x1152 : Shape := ⟨2, ![1, 1152]⟩

abbrev nBuf : Space → Nat
  | .hbm => 5
  | .vmem => 0
  | .smem => 4
  | _ => 0

abbrev bufTy : (tb : Table) → Fin (tcTables nBuf tb) → BufTy
  | .hbm, ⟨0, _⟩ => ⟨S1x8192, .i32⟩
  | .hbm, ⟨1, _⟩ => ⟨S16x8192, .i32⟩
  | .hbm, ⟨2, _⟩ => ⟨S8192x1152, .i32⟩
  | .hbm, ⟨3, _⟩ => ⟨S16x1024, .i32⟩
  | .hbm, ⟨4, _⟩ => ⟨S16384x1152, .i32⟩
  | .local _ .smem, ⟨0, _⟩ => ⟨S1x512, .i32⟩
  | .local _ .smem, ⟨1, _⟩ => ⟨S1x512, .i32⟩
  | .local _ .smem, ⟨2, _⟩ => ⟨S16x512, .i32⟩
  | .local _ .smem, ⟨3, _⟩ => ⟨S16x512, .i32⟩
  | _, _ => ⟨S1x8192, .i32⟩

abbrev bufScoped : (cs : CoreSpace) → Fin (nBuf (.core cs)) → Bool
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_0 : BitVec 32 := 0#32
  let c512_i32_1 : BitVec 32 := 512#32
  let v1 : BitVec 32 := Scalar.addi c0_i32_0 c512_i32_1
  let c1_i32 : BitVec 32 := 1#32
  ⟨c0_i32_0, v1, c1_i32⟩
def k0_off1 (k0_t1 : Fin k0_t1_loop.trips) : Fin 2 → Nat :=
  let c0 : Index := 0#32
  let c0_i32_0 : BitVec 32 := 0#32
  let c1_i32 : BitVec 32 := 1#32
  let arg6 : BitVec 32 := Scf.iv c0_i32_0 c1_i32 k0_t1
  let v8 : Index := Scalar.indexCast arg6
  ![0, v8.toNat]
@[reducible] def k0_t2_loop (v9 : BitVec 32) : Scf.Loop 32 :=
  let c0_i32_9 : BitVec 32 := 0#32
  let v10 : BitVec 32 := Scalar.subi v9 c0_i32_9
  let c1_i32_10 : BitVec 32 := 1#32
  let v12 : BitVec 32 := Scalar.divsi v10 c1_i32_10
  let v13 : BitVec 32 := Scalar.muli v12 c1_i32_10
  let v14 : BitVec 32 := Scalar.addi c0_i32_9 v13
  let c1_i32_11 : BitVec 32 := 1#32
  ⟨c0_i32_9, v14, c1_i32_11⟩

def k0_off2 (k0_t1 : Fin k0_t1_loop.trips) (v9 : BitVec 32) (k0_t2 : Fin (k0_t2_loop v9).trips) : Fin 2 → Nat :=
  let c0_i32_9 : BitVec 32 := 0#32
  let c1_i32_11 : BitVec 32 := 1#32
  let arg8 : BitVec 32 := Scf.iv c0_i32_9 c1_i32_11 k0_t2
  let v17 : Index := Scalar.indexCast arg8
  let c0_i32_0 : BitVec 32 := 0#32
  let c1_i32 : BitVec 32 := 1#32
  let arg6 : BitVec 32 := Scf.iv c0_i32_0 c1_i32 k0_t1
  let v18 : Index := Scalar.indexCast arg6
  ![v17.toNat, v18.toNat]
def k0_off3 (v19 : BitVec 32) : Fin 2 → Nat :=
  let c0_i32_13 : BitVec 32 := 0#32
  ![v19.toNat, 0]

def k0_chk2 (v19 : BitVec 32) : Prop :=
  (∀ a, (k0_off3 v19) a + S1x1152.size a ≤ S16384x1152.size a)
theorem k0_off3_inb : ∀ (v19 : BitVec 32) (k0_hw2 : k0_chk2 v19), ∀ a, (k0_off3 v19) a + S1x1152.size a ≤ S16384x1152.size a := fun v19 k0_hw2 => k0_hw2

def k0_off4 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_0 : BitVec 32 := 0#32
  let c1_i32 : BitVec 32 := 1#32
  let arg6 : BitVec 32 := Scf.iv c0_i32_0 c1_i32 k0_t1
  let v16 : BitVec 32 := Scalar.addi v0 arg6
  let c0_i32_14 : BitVec 32 := 0#32
  ![v16.toNat, 0]
@[reducible] def k0_t3_loop (v9 : BitVec 32) : Scf.Loop 32 :=
  let c0_i32_9 : BitVec 32 := 0#32
  let v10 : BitVec 32 := Scalar.subi v9 c0_i32_9
  let c1_i32_10 : BitVec 32 := 1#32
  let v12 : BitVec 32 := Scalar.divsi v10 c1_i32_10
  let v13 : BitVec 32 := Scalar.muli v12 c1_i32_10
  let v14 : BitVec 32 := Scalar.addi c0_i32_9 v13
  let v11 : BitVec 32 := Scalar.addi c0_i32_9 v10
  let c1_i32_12 : BitVec 32 := 1#32
  ⟨v14, v11, c1_i32_12⟩
def k0_off5 (k0_t1 : Fin k0_t1_loop.trips) (v9 : BitVec 32) (k0_t3 : Fin (k0_t3_loop v9).trips) : Fin 2 → Nat :=
  let c0_i32_9 : BitVec 32 := 0#32
  let v10 : BitVec 32 := Scalar.subi v9 c0_i32_9
  let c1_i32_10 : BitVec 32 := 1#32
  let v12 : BitVec 32 := Scalar.divsi v10 c1_i32_10
  let v13 : BitVec 32 := Scalar.muli v12 c1_i32_10
  let v14 : BitVec 32 := Scalar.addi c0_i32_9 v13
  let c1_i32_12 : BitVec 32 := 1#32
  let arg8 : BitVec 32 := Scf.iv v14 c1_i32_12 k0_t3
  let v17 : Index := Scalar.indexCast arg8
  let c0_i32_0 : BitVec 32 := 0#32
  let c1_i32 : BitVec 32 := 1#32
  let arg6 : BitVec 32 := Scf.iv c0_i32_0 c1_i32 k0_t1
  let v18 : Index := Scalar.indexCast arg6
  ![v17.toNat, v18.toNat]

def k0_chk1 (k0_t1 : Fin k0_t1_loop.trips) (v9 : BitVec 32) : Prop :=
  ((k0_t2_loop v9).OK) ∧
  (∀ k0_t2 : Fin (k0_t2_loop v9).trips, ∀ a, (k0_off2 k0_t1 v9 k0_t2) a + S1x1.size a ≤ S16x512.size a) ∧
  ((k0_t3_loop v9).OK) ∧
  (∀ k0_t3 : Fin (k0_t3_loop v9).trips, ∀ a, (k0_off5 k0_t1 v9 k0_t3) a + S1x1.size a ≤ S16x512.size a)
theorem k0_t2_ok : ∀ (k0_t1 : Fin k0_t1_loop.trips) (v9 : BitVec 32) (k0_hw1 : k0_chk1 k0_t1 v9), (k0_t2_loop v9).OK := fun k0_t1 v9 k0_hw1 => k0_hw1.1
theorem k0_off2_inb : ∀ (k0_t1 : Fin k0_t1_loop.trips) (v9 : BitVec 32) (k0_hw1 : k0_chk1 k0_t1 v9) (k0_t2 : Fin (k0_t2_loop v9).trips), ∀ a, (k0_off2 k0_t1 v9 k0_t2) a + S1x1.size a ≤ S16x512.size a := fun k0_t1 v9 k0_hw1 k0_t2 => k0_hw1.2.1 k0_t2
theorem k0_t3_ok : ∀ (k0_t1 : Fin k0_t1_loop.trips) (v9 : BitVec 32) (k0_hw1 : k0_chk1 k0_t1 v9), (k0_t3_loop v9).OK := fun k0_t1 v9 k0_hw1 => k0_hw1.2.2.1
theorem k0_off5_inb : ∀ (k0_t1 : Fin k0_t1_loop.trips) (v9 : BitVec 32) (k0_hw1 : k0_chk1 k0_t1 v9) (k0_t3 : Fin (k0_t3_loop v9).trips), ∀ a, (k0_off5 k0_t1 v9 k0_t3) a + S1x1.size a ≤ S16x512.size a := fun k0_t1 v9 k0_hw1 k0_t3 => k0_hw1.2.2.2 k0_t3

def k0_off6 (v19 : BitVec 32) : Fin 2 → Nat :=
  let c0_i32_13 : BitVec 32 := 0#32
  ![v19.toNat, 0]

def k0_chk3 (v19 : BitVec 32) : Prop :=
  (∀ a, (k0_off6 v19) a + S1x1152.size a ≤ S16384x1152.size a)
theorem k0_off6_inb : ∀ (v19 : BitVec 32) (k0_hw3 : k0_chk3 v19), ∀ a, (k0_off6 v19) a + S1x1152.size a ≤ S16384x1152.size a := fun v19 k0_hw3 => k0_hw3

def k0_off7 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_0 : BitVec 32 := 0#32
  let c1_i32 : BitVec 32 := 1#32
  let arg6 : BitVec 32 := Scf.iv c0_i32_0 c1_i32 k0_t1
  let v16 : BitVec 32 := Scalar.addi v0 arg6
  let c0_i32_14 : BitVec 32 := 0#32
  ![v16.toNat, 0]
@[reducible] def k0_t4_loop (v2 : BitVec 32) : Scf.Loop 32 :=
  let c0_i32_4 : BitVec 32 := 0#32
  let v3 : BitVec 32 := Scalar.subi v2 c0_i32_4
  let c1_i32_5 : BitVec 32 := 1#32
  let v5 : BitVec 32 := Scalar.divsi v3 c1_i32_5
  let v6 : BitVec 32 := Scalar.muli v5 c1_i32_5
  let v7 : BitVec 32 := Scalar.addi c0_i32_4 v6
  let c1_i32_6 : BitVec 32 := 1#32
  ⟨c0_i32_4, v7, c1_i32_6⟩

@[reducible] def k0_t5_loop (v2 : BitVec 32) : Scf.Loop 32 :=
  let c0_i32_4 : BitVec 32 := 0#32
  let v3 : BitVec 32 := Scalar.subi v2 c0_i32_4
  let c1_i32_5 : BitVec 32 := 1#32
  let v5 : BitVec 32 := Scalar.divsi v3 c1_i32_5
  let v6 : BitVec 32 := Scalar.muli v5 c1_i32_5
  let v7 : BitVec 32 := Scalar.addi c0_i32_4 v6
  let v4 : BitVec 32 := Scalar.addi c0_i32_4 v3
  let c1_i32_7 : BitVec 32 := 1#32
  ⟨v7, v4, c1_i32_7⟩

def k0_chk4 (v2 : BitVec 32) : Prop :=
  ((k0_t4_loop v2).OK) ∧
  ((k0_t5_loop v2).OK)
theorem k0_t4_ok : ∀ (v2 : BitVec 32) (k0_hw4 : k0_chk4 v2), (k0_t4_loop v2).OK := fun v2 k0_hw4 => k0_hw4.1
theorem k0_t5_ok : ∀ (v2 : BitVec 32) (k0_hw4 : k0_chk4 v2), (k0_t5_loop v2).OK := fun v2 k0_hw4 => k0_hw4.2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .smem S1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S16x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GatherIdeal.lean ====
abbrev S1x8192 : Shape := ⟨2, ![1, 8192]⟩
abbrev S16x8192 : Shape := ⟨2, ![16, 8192]⟩
abbrev S8192x1152 : Shape := ⟨2, ![8192, 1152]⟩
abbrev S16x1024 : Shape := ⟨2, ![16, 1024]⟩
abbrev S16384 : Shape := ⟨1, ![16384]⟩
abbrev S_ : Shape := ⟨0, ![]⟩
abbrev S16384x1 : Shape := ⟨2, ![16384, 1]⟩
abbrev S16384x1152 : Shape := ⟨2, ![16384, 1152]⟩

abbrev nBuf : Space → Nat
  | .hbm => 14
  | .vmem => 0
  | .smem => 0
  | _ => 0

abbrev bufTy : (tb : Table) → Fin (tcTables nBuf tb) → BufTy
  | .hbm, ⟨0, _⟩ => ⟨S1x8192, .i32⟩
  | .hbm, ⟨1, _⟩ => ⟨S16x8192, .i32⟩
  | .hbm, ⟨2, _⟩ => ⟨S8192x1152, .i32⟩
  | .hbm, ⟨3, _⟩ => ⟨S16x1024, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x1152, .i32⟩
  | _, _ => ⟨S1x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Gather.lean ====
abbrev S1x8192 : Shape := ⟨2, ![1, 8192]⟩
abbrev S16x8192 : Shape := ⟨2, ![16, 8192]⟩
abbrev S8192x1152 : Shape := ⟨2, ![8192, 1152]⟩
abbrev S16x1024 : Shape := ⟨2, ![16, 1024]⟩
abbrev S16384 : Shape := ⟨1, ![16384]⟩
abbrev S_ : Shape := ⟨0, ![]⟩
abbrev S16384x1 : Shape := ⟨2, ![16384, 1]⟩
abbrev S16384x1152 : Shape := ⟨2, ![16384, 1152]⟩

abbrev nBuf : Space → Nat
  | .hbm => 14
  | .vmem => 0
  | .smem => 0
  | _ => 0

abbrev bufTy : (tb : Table) → Fin (tcTables nBuf tb) → BufTy
  | .hbm, ⟨0, _⟩ => ⟨S1x8192, .i32⟩
  | .hbm, ⟨1, _⟩ => ⟨S16x8192, .i32⟩
  | .hbm, ⟨2, _⟩ => ⟨S8192x1152, .i32⟩
  | .hbm, ⟨3, _⟩ => ⟨S16x1024, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x1152, .i32⟩
  | _, _ => ⟨S1x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Dislat.lean ====
abbrev S1x4096 : Shape := ⟨2, ![1, 4096]⟩
abbrev S16x4096 : Shape := ⟨2, ![16, 4096]⟩
abbrev S4096x1152 : Shape := ⟨2, ![4096, 1152]⟩
abbrev S16x512 : Shape := ⟨2, ![16, 512]⟩
abbrev S8192x1152 : Shape := ⟨2, ![8192, 1152]⟩
abbrev S1x512 : Shape := ⟨2, ![1, 512]⟩
abbrev S_ : Shape := ⟨0, ![]⟩
abbrev S1x1 : Shape := ⟨2, ![1, 1]⟩
abbrev S1x1152 : Shape := ⟨2, ![1, 1152]⟩

abbrev nBuf : Space → Nat
  | .hbm => 5
  | .vmem => 0
  | .smem => 4
  | _ => 0

abbrev bufTy : (tb : Table) → Fin (tcTables nBuf tb) → BufTy
  | .hbm, ⟨0, _⟩ => ⟨S1x4096, .i32⟩
  | .hbm, ⟨1, _⟩ => ⟨S16x4096, .i32⟩
  | .hbm, ⟨2, _⟩ => ⟨S4096x1152, .i32⟩
  | .hbm, ⟨3, _⟩ => ⟨S16x512, .i32⟩
  | .hbm, ⟨4, _⟩ => ⟨S8192x1152, .i32⟩
  | .local _ .smem, ⟨0, _⟩ => ⟨S1x512, .i32⟩
  | .local _ .smem, ⟨1, _⟩ => ⟨S1x512, .i32⟩
  | .local _ .smem, ⟨2, _⟩ => ⟨S16x512, .i32⟩
  | .local _ .smem, ⟨3, _⟩ => ⟨S16x512, .i32⟩
  | _, _ => ⟨S1x4096, .i32⟩

abbrev bufScoped : (cs : CoreSpace) → Fin (nBuf (.core cs)) → Bool
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_0 : BitVec 32 := 0#32
  let c512_i32_1 : BitVec 32 := 512#32
  let v1 : BitVec 32 := Scalar.addi c0_i32_0 c512_i32_1
  let c1_i32 : BitVec 32 := 1#32
  ⟨c0_i32_0, v1, c1_i32⟩
def k0_off1 (k0_t1 : Fin k0_t1_loop.trips) : Fin 2 → Nat :=
  let c0 : Index := 0#32
  let c0_i32_0 : BitVec 32 := 0#32
  let c1_i32 : BitVec 32 := 1#32
  let arg6 : BitVec 32 := Scf.iv c0_i32_0 c1_i32 k0_t1
  let v8 : Index := Scalar.indexCast arg6
  ![0, v8.toNat]
@[reducible] def k0_t2_loop (v9 : BitVec 32) : Scf.Loop 32 :=
  let c0_i32_9 : BitVec 32 := 0#32
  let v10 : BitVec 32 := Scalar.subi v9 c0_i32_9
  let c1_i32_10 : BitVec 32 := 1#32
  let v12 : BitVec 32 := Scalar.divsi v10 c1_i32_10
  let v13 : BitVec 32 := Scalar.muli v12 c1_i32_10
  let v14 : BitVec 32 := Scalar.addi c0_i32_9 v13
  let c1_i32_11 : BitVec 32 := 1#32
  ⟨c0_i32_9, v14, c1_i32_11⟩

def k0_off2 (k0_t1 : Fin k0_t1_loop.trips) (v9 : BitVec 32) (k0_t2 : Fin (k0_t2_loop v9).trips) : Fin 2 → Nat :=
  let c0_i32_9 : BitVec 32 := 0#32
  let c1_i32_11 : BitVec 32 := 1#32
  let arg8 : BitVec 32 := Scf.iv c0_i32_9 c1_i32_11 k0_t2
  let v17 : Index := Scalar.indexCast arg8
  let c0_i32_0 : BitVec 32 := 0#32
  let c1_i32 : BitVec 32 := 1#32
  let arg6 : BitVec 32 := Scf.iv c0_i32_0 c1_i32 k0_t1
  let v18 : Index := Scalar.indexCast arg6
  ![v17.toNat, v18.toNat]
def k0_off3 (v19 : BitVec 32) : Fin 2 → Nat :=
  let c0_i32_13 : BitVec 32 := 0#32
  ![v19.toNat, 0]

def k0_chk2 (v19 : BitVec 32) : Prop :=
  (∀ a, (k0_off3 v19) a + S1x1152.size a ≤ S8192x1152.size a)
theorem k0_off3_inb : ∀ (v19 : BitVec 32) (k0_hw2 : k0_chk2 v19), ∀ a, (k0_off3 v19) a + S1x1152.size a ≤ S8192x1152.size a := fun v19 k0_hw2 => k0_hw2

def k0_off4 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_0 : BitVec 32 := 0#32
  let c1_i32 : BitVec 32 := 1#32
  let arg6 : BitVec 32 := Scf.iv c0_i32_0 c1_i32 k0_t1
  let v16 : BitVec 32 := Scalar.addi v0 arg6
  let c0_i32_14 : BitVec 32 := 0#32
  ![v16.toNat, 0]
@[reducible] def k0_t3_loop (v9 : BitVec 32) : Scf.Loop 32 :=
  let c0_i32_9 : BitVec 32 := 0#32
  let v10 : BitVec 32 := Scalar.subi v9 c0_i32_9
  let c1_i32_10 : BitVec 32 := 1#32
  let v12 : BitVec 32 := Scalar.divsi v10 c1_i32_10
  let v13 : BitVec 32 := Scalar.muli v12 c1_i32_10
  let v14 : BitVec 32 := Scalar.addi c0_i32_9 v13
  let v11 : BitVec 32 := Scalar.addi c0_i32_9 v10
  let c1_i32_12 : BitVec 32 := 1#32
  ⟨v14, v11, c1_i32_12⟩
def k0_off5 (k0_t1 : Fin k0_t1_loop.trips) (v9 : BitVec 32) (k0_t3 : Fin (k0_t3_loop v9).trips) : Fin 2 → Nat :=
  let c0_i32_9 : BitVec 32 := 0#32
  let v10 : BitVec 32 := Scalar.subi v9 c0_i32_9
  let c1_i32_10 : BitVec 32 := 1#32
  let v12 : BitVec 32 := Scalar.divsi v10 c1_i32_10
  let v13 : BitVec 32 := Scalar.muli v12 c1_i32_10
  let v14 : BitVec 32 := Scalar.addi c0_i32_9 v13
  let c1_i32_12 : BitVec 32 := 1#32
  let arg8 : BitVec 32 := Scf.iv v14 c1_i32_12 k0_t3
  let v17 : Index := Scalar.indexCast arg8
  let c0_i32_0 : BitVec 32 := 0#32
  let c1_i32 : BitVec 32 := 1#32
  let arg6 : BitVec 32 := Scf.iv c0_i32_0 c1_i32 k0_t1
  let v18 : Index := Scalar.indexCast arg6
  ![v17.toNat, v18.toNat]

def k0_chk1 (k0_t1 : Fin k0_t1_loop.trips) (v9 : BitVec 32) : Prop :=
  ((k0_t2_loop v9).OK) ∧
  (∀ k0_t2 : Fin (k0_t2_loop v9).trips, ∀ a, (k0_off2 k0_t1 v9 k0_t2) a + S1x1.size a ≤ S16x512.size a) ∧
  ((k0_t3_loop v9).OK) ∧
  (∀ k0_t3 : Fin (k0_t3_loop v9).trips, ∀ a, (k0_off5 k0_t1 v9 k0_t3) a + S1x1.size a ≤ S16x512.size a)
theorem k0_t2_ok : ∀ (k0_t1 : Fin k0_t1_loop.trips) (v9 : BitVec 32) (k0_hw1 : k0_chk1 k0_t1 v9), (k0_t2_loop v9).OK := fun k0_t1 v9 k0_hw1 => k0_hw1.1
theorem k0_off2_inb : ∀ (k0_t1 : Fin k0_t1_loop.trips) (v9 : BitVec 32) (k0_hw1 : k0_chk1 k0_t1 v9) (k0_t2 : Fin (k0_t2_loop v9).trips), ∀ a, (k0_off2 k0_t1 v9 k0_t2) a + S1x1.size a ≤ S16x512.size a := fun k0_t1 v9 k0_hw1 k0_t2 => k0_hw1.2.1 k0_t2
theorem k0_t3_ok : ∀ (k0_t1 : Fin k0_t1_loop.trips) (v9 : BitVec 32) (k0_hw1 : k0_chk1 k0_t1 v9), (k0_t3_loop v9).OK := fun k0_t1 v9 k0_hw1 => k0_hw1.2.2.1
theorem k0_off5_inb : ∀ (k0_t1 : Fin k0_t1_loop.trips) (v9 : BitVec 32) (k0_hw1 : k0_chk1 k0_t1 v9) (k0_t3 : Fin (k0_t3_loop v9).trips), ∀ a, (k0_off5 k0_t1 v9 k0_t3) a + S1x1.size a ≤ S16x512.size a := fun k0_t1 v9 k0_hw1 k0_t3 => k0_hw1.2.2.2 k0_t3

def k0_off6 (v19 : BitVec 32) : Fin 2 → Nat :=
  let c0_i32_13 : BitVec 32 := 0#32
  ![v19.toNat, 0]

def k0_chk3 (v19 : BitVec 32) : Prop :=
  (∀ a, (k0_off6 v19) a + S1x1152.size a ≤ S8192x1152.size a)
theorem k0_off6_inb : ∀ (v19 : BitVec 32) (k0_hw3 : k0_chk3 v19), ∀ a, (k0_off6 v19) a + S1x1152.size a ≤ S8192x1152.size a := fun v19 k0_hw3 => k0_hw3

def k0_off7 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_0 : BitVec 32 := 0#32
  let c1_i32 : BitVec 32 := 1#32
  let arg6 : BitVec 32 := Scf.iv c0_i32_0 c1_i32 k0_t1
  let v16 : BitVec 32 := Scalar.addi v0 arg6
  let c0_i32_14 : BitVec 32 := 0#32
  ![v16.toNat, 0]
@[reducible] def k0_t4_loop (v2 : BitVec 32) : Scf.Loop 32 :=
  let c0_i32_4 : BitVec 32 := 0#32
  let v3 : BitVec 32 := Scalar.subi v2 c0_i32_4
  let c1_i32_5 : BitVec 32 := 1#32
  let v5 : BitVec 32 := Scalar.divsi v3 c1_i32_5
  let v6 : BitVec 32 := Scalar.muli v5 c1_i32_5
  let v7 : BitVec 32 := Scalar.addi c0_i32_4 v6
  let c1_i32_6 : BitVec 32 := 1#32
  ⟨c0_i32_4, v7, c1_i32_6⟩

@[reducible] def k0_t5_loop (v2 : BitVec 32) : Scf.Loop 32 :=
  let c0_i32_4 : BitVec 32 := 0#32
  let v3 : BitVec 32 := Scalar.subi v2 c0_i32_4
  let c1_i32_5 : BitVec 32 := 1#32
  let v5 : BitVec 32 := Scalar.divsi v3 c1_i32_5
  let v6 : BitVec 32 := Scalar.muli v5 c1_i32_5
  let v7 : BitVec 32 := Scalar.addi c0_i32_4 v6
  let v4 : BitVec 32 := Scalar.addi c0_i32_4 v3
  let c1_i32_7 : BitVec 32 := 1#32
  ⟨v7, v4, c1_i32_7⟩

def k0_chk4 (v2 : BitVec 32) : Prop :=
  ((k0_t4_loop v2).OK) ∧
  ((k0_t5_loop v2).OK)
theorem k0_t4_ok : ∀ (v2 : BitVec 32) (k0_hw4 : k0_chk4 v2), (k0_t4_loop v2).OK := fun v2 k0_hw4 => k0_hw4.1
theorem k0_t5_ok : ∀ (v2 : BitVec 32) (k0_hw4 : k0_chk4 v2), (k0_t5_loop v2).OK := fun v2 k0_hw4 => k0_hw4.2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .smem S1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S16x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Gatlat.lean ====
abbrev S1x4096 : Shape := ⟨2, ![1, 4096]⟩
abbrev S16x4096 : Shape := ⟨2, ![16, 4096]⟩
abbrev S4096x1152 : Shape := ⟨2, ![4096, 1152]⟩
abbrev S16x512 : Shape := ⟨2, ![16, 512]⟩
abbrev S8192 : Shape := ⟨1, ![8192]⟩
abbrev S_ : Shape := ⟨0, ![]⟩
abbrev S8192x1 : Shape := ⟨2, ![8192, 1]⟩
abbrev S8192x1152 : Shape := ⟨2, ![8192, 1152]⟩

abbrev nBuf : Space → Nat
  | .hbm => 14
  | .vmem => 0
  | .smem => 0
  | _ => 0

abbrev bufTy : (tb : Table) → Fin (tcTables nBuf tb) → BufTy
  | .hbm, ⟨0, _⟩ => ⟨S1x4096, .i32⟩
  | .hbm, ⟨1, _⟩ => ⟨S16x4096, .i32⟩
  | .hbm, ⟨2, _⟩ => ⟨S4096x1152, .i32⟩
  | .hbm, ⟨3, _⟩ => ⟨S16x512, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x1152, .i32⟩
  | _, _ => ⟨S1x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Experts.lean ====
abbrev S16384x1152 : Shape := ⟨2, ![16384, 1152]⟩
abbrev S8192x1152 : Shape := ⟨2, ![8192, 1152]⟩
abbrev S16x2048x2048 : Shape := ⟨3, ![16, 2048, 2048]⟩
abbrev S16384x2048 : Shape := ⟨2, ![16384, 2048]⟩
abbrev S8192x2048 : Shape := ⟨2, ![8192, 2048]⟩
abbrev S1024x1152 : Shape := ⟨2, ![1024, 1152]⟩
abbrev S512x1152 : Shape := ⟨2, ![512, 1152]⟩
abbrev S1x2048x256 : Shape := ⟨3, ![1, 2048, 256]⟩
abbrev S1024x256 : Shape := ⟨2, ![1024, 256]⟩
abbrev S512x256 : Shape := ⟨2, ![512, 256]⟩
abbrev S1536x2048 : Shape := ⟨2, ![1536, 2048]⟩
abbrev S8x1536x256 : Shape := ⟨3, ![8, 1536, 256]⟩
abbrev S1536x1 : Shape := ⟨2, ![1536, 1]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S2048x256 : Shape := ⟨2, ![2048, 256]⟩
abbrev S1536x256 : Shape := ⟨2, ![1536, 256]⟩
abbrev S1x1536x256 : Shape := ⟨3, ![1, 1536, 256]⟩
abbrev S256x256 : Shape := ⟨2, ![256, 256]⟩

abbrev nBuf : Space → Nat
  | .hbm => 7
  | .vmem => 17
  | .smem => 0
  | _ => 0

abbrev bufTy : (tb : Table) → Fin (tcTables nBuf tb) → BufTy
  | .hbm, ⟨0, _⟩ => ⟨S16384x1152, .i32⟩
  | .hbm, ⟨1, _⟩ => ⟨S8192x1152, .i32⟩
  | .hbm, ⟨2, _⟩ => ⟨S16x2048x2048, .f32⟩
  | .hbm, ⟨3, _⟩ => ⟨S16x2048x2048, .f32⟩
  | .hbm, ⟨4, _⟩ => ⟨S16x2048x2048, .f32⟩
  | .hbm, ⟨5, _⟩ => ⟨S16384x2048, .f32⟩
  | .hbm, ⟨6, _⟩ => ⟨S8192x2048, .f32⟩
  | .local _ .vmem, ⟨0, _⟩ => ⟨S1024x1152, .i32⟩
  | .local _ .vmem, ⟨1, _⟩ => ⟨S1024x1152, .i32⟩
  | .local _ .vmem, ⟨2, _⟩ => ⟨S512x1152, .i32⟩
  | .local _ .vmem, ⟨3, _⟩ => ⟨S512x1152, .i32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1024x256, .f32⟩
  | .local _ .vmem, ⟨11, _⟩ => ⟨S1024x256, .f32⟩
  | .local _ .vmem, ⟨12, _⟩ => ⟨S512x256, .f32⟩
  | .local _ .vmem, ⟨13, _⟩ => ⟨S512x256, .f32⟩
  | .local _ .vmem, ⟨14, _⟩ => ⟨S1536x2048, .bf16⟩
  | .local _ .vmem, ⟨15, _⟩ => ⟨S8x1536x256, .bf16⟩
  | .local _ .vmem, ⟨16, _⟩ => ⟨S1536x1, .f32⟩
  | _, _ => ⟨S16384x1152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg1 : BitVec 32 := BitVec.ofNat 32 (i 1).val
  let v22 : Index := Scalar.indexCast arg1
  let c0_12 : Index := 0#32
  let c0_13 : Index := 0#32
  ![v22.toNat, 0, 0]
def k0_cond3 (i : grid0.Coords) : BitVec 1 :=
  let arg1 : BitVec 32 := BitVec.ofNat 32 (i 1).val
  let c8_i32_2 : BitVec 32 := 8#32
  let v6 : BitVec 1 := Scalar.cmpi .sge arg1 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x1152 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1152 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MoeIdeal.lean ====
abbrev S16384x1152 : Shape := ⟨2, ![16384, 1152]⟩
abbrev S8192x1152 : Shape := ⟨2, ![8192, 1152]⟩
abbrev S16x2048x2048 : Shape := ⟨3, ![16, 2048, 2048]⟩
abbrev S16x1024x1152 : Shape := ⟨3, ![16, 1024, 1152]⟩
abbrev S16x512x1152 : Shape := ⟨3, ![16, 512, 1152]⟩
abbrev S16x1536x1152 : Shape := ⟨3, ![16, 1536, 1152]⟩
abbrev S16x1536x1024 : Shape := ⟨3, ![16, 1536, 1024]⟩
abbrev S_ : Shape := ⟨0, ![]⟩
abbrev S16x1536x2048 : Shape := ⟨3, ![16, 1536, 2048]⟩
abbrev S16x1536x16 : Shape := ⟨3, ![16, 1536, 16]⟩
abbrev S16x16x1536 : Shape := ⟨3, ![16, 16, 1536]⟩
abbrev S256x1536 : Shape := ⟨2, ![256, 1536]⟩
abbrev S16x1536 : Shape := ⟨2, ![16, 1536]⟩
abbrev S16x1536x1 : Shape := ⟨3, ![16, 1536, 1]⟩
abbrev S16x1024x2048 : Shape := ⟨3, ![16, 1024, 2048]⟩
abbrev S16384x2048 : Shape := ⟨2, ![16384, 2048]⟩
abbrev S16x512x2048 : Shape := ⟨3, ![16, 512, 2048]⟩
abbrev S8192x2048 : Shape := ⟨2, ![8192, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16384x1152, .i32⟩
  | .hbm, ⟨1, _⟩ => ⟨S8192x1152, .i32⟩
  | .hbm, ⟨2, _⟩ => ⟨S16x2048x2048, .f32⟩
  | .hbm, ⟨3, _⟩ => ⟨S16x2048x2048, .f32⟩
  | .hbm, ⟨4, _⟩ => ⟨S16x2048x2048, .f32⟩
  | .hbm, ⟨5, _⟩ => ⟨S16x1024x1152, .i32⟩
  | .hbm, ⟨6, _⟩ => ⟨S16x512x1152, .i32⟩
  | .hbm, ⟨7, _⟩ => ⟨S16x1536x1152, .i32⟩
  | .hbm, ⟨8, _⟩ => ⟨S16x1536x1024, .i32⟩
  | .hbm, ⟨9, _⟩ => ⟨S_, .i32⟩
  | .hbm, ⟨10, _⟩ => ⟨S16x1536x1024, .i32⟩
  | .hbm, ⟨11, _⟩ => ⟨S16x1536x1024, .i32⟩
  | .hbm, ⟨12, _⟩ => ⟨S16x1536x1024, .f32⟩
  | .hbm, ⟨13, _⟩ => ⟨S16x1536x1024, .i32⟩
  | .hbm, ⟨14, _⟩ => ⟨S_, .i32⟩
  | .hbm, ⟨15, _⟩ => ⟨S16x1536x1024, .i32⟩
  | .hbm, ⟨16, _⟩ => ⟨S16x1536x1024, .i32⟩
  | .hbm, ⟨17, _⟩ => ⟨S16x1536x1024, .f32⟩
  | .hbm, ⟨18, _⟩ => ⟨S16x1536x2048, .f32⟩
  | .hbm, ⟨19, _⟩ => ⟨S16x1536x16, .i32⟩
  | .hbm, ⟨20, _⟩ => ⟨S16x1536x16, .f32⟩
  | .hbm, ⟨21, _⟩ => ⟨S16x16x1536, .f32⟩
  | .hbm, ⟨22, _⟩ => ⟨S256x1536, .f32⟩
  | .hbm, ⟨23, _⟩ => ⟨S16x1536, .f32⟩
  | .hbm, ⟨24, _⟩ => ⟨S16x1536x2048, .f32⟩
  | .hbm, ⟨25, _⟩ => ⟨S16x1536x2048, .f32⟩
  | .hbm, ⟨26, _⟩ => ⟨S16x1536x2048, .f32⟩
  | .hbm, ⟨27, _⟩ => ⟨S_, .f32⟩
  | .hbm, ⟨28, _⟩ => ⟨S16x1536x2048, .f32⟩
  | .hbm, ⟨29, _⟩ => ⟨S16x1536x2048, .f32⟩
  | .hbm, ⟨30, _⟩ => ⟨S_, .f32⟩
  | .hbm, ⟨31, _⟩ => ⟨S16x1536x2048, .f32⟩
  | .hbm, ⟨32, _⟩ => ⟨S16x1536x2048, .f32⟩
  | .hbm, ⟨33, _⟩ => ⟨S16x1536x2048, .f32⟩
  | .hbm, ⟨34, _⟩ => ⟨S16x1536x2048, .f32⟩
  | .hbm, ⟨35, _⟩ => ⟨S16x1536x2048, .f32⟩
  | .hbm, ⟨36, _⟩ => ⟨S16x1536x2048, .f32⟩
  | .hbm, ⟨37, _⟩ => ⟨S16x1536x1, .f32⟩
  | .hbm, ⟨38, _⟩ => ⟨S16x1536x2048, .f32⟩
  | .hbm, ⟨39, _⟩ => ⟨S16x1536x2048, .f32⟩
  | .hbm, ⟨40, _⟩ => ⟨S16x1024x2048, .f32⟩
  | .hbm, ⟨41, _⟩ => ⟨S16384x2048, .f32⟩
  | .hbm, ⟨42, _⟩ => ⟨S16x512x2048, .f32⟩
  | .hbm, ⟨43, _⟩ => ⟨S8192x2048, .f32⟩
  | _, _ => ⟨S16384x1152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Context.lean ====
abbrev S32x256x2048 : Shape := ⟨3, ![32, 256, 2048]⟩
abbrev S4x2048 : Shape := ⟨2, ![4, 2048]⟩
abbrev S2048 : Shape := ⟨1, ![2048]⟩
abbrev S1x2048x12288 : Shape := ⟨3, ![1, 2048, 12288]⟩
abbrev S1x12288 : Shape := ⟨2, ![1, 12288]⟩
abbrev S1x2048 : Shape := ⟨2, ![1, 2048]⟩
abbrev S1x2048x3584 : Shape := ⟨3, ![1, 2048, 3584]⟩
abbrev S_ : Shape := ⟨0, ![]⟩
abbrev S3x2048 : Shape := ⟨2, ![3, 2048]⟩
abbrev S8x2048 : Shape := ⟨2, ![8, 2048]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩
abbrev S2048x3584 : Shape := ⟨2, ![2048, 3584]⟩
abbrev S8192x2048 : Shape := ⟨2, ![8192, 2048]⟩
abbrev S8192x1024 : Shape := ⟨2, ![8192, 1024]⟩
abbrev S8192x256 : Shape := ⟨2, ![8192, 256]⟩
abbrev S256x2048 : Shape := ⟨2, ![256, 2048]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x3584 : Shape := ⟨2, ![256, 3584]⟩
abbrev S32x1x256x2x128 : Shape := ⟨5, ![32, 1, 256, 2, 128]⟩

abbrev nBuf : Space → Nat
  | .hbm => 27
  | .vmem => 22
  | .smem => 0
  | _ => 0

abbrev bufTy : (tb : Table) → Fin (tcTables nBuf tb) → BufTy
  | .hbm, ⟨0, _⟩ => ⟨S32x256x2048, .f32⟩
  | .hbm, ⟨1, _⟩ => ⟨S4x2048, .f32⟩
  | .hbm, ⟨2, _⟩ => ⟨S2048, .f32⟩
  | .hbm, ⟨3, _⟩ => ⟨S1x2048x12288, .f32⟩
  | .hbm, ⟨4, _⟩ => ⟨S1x12288, .f32⟩
  | .hbm, ⟨5, _⟩ => ⟨S1x2048, .f32⟩
  | .hbm, ⟨6, _⟩ => ⟨S1x2048x3584, .f32⟩
  | .hbm, ⟨7, _⟩ => ⟨S1x2048, .f32⟩
  | .hbm, ⟨8, _⟩ => ⟨S_, .f32⟩
  | .hbm, ⟨9, _⟩ => ⟨S3x2048, .f32⟩
  | .hbm, ⟨10, _⟩ => ⟨S8x2048, .f32⟩
  | .hbm, ⟨11, _⟩ => ⟨S2048x12288, .f32⟩
  | .hbm, ⟨12, _⟩ => ⟨S12288, .f32⟩
  | .hbm, ⟨13, _⟩ => ⟨S1x12288, .f32⟩
  | .hbm, ⟨14, _⟩ => ⟨S8x12288, .f32⟩
  | .hbm, ⟨15, _⟩ => ⟨S2048x3584, .f32⟩
  | .hbm, ⟨16, _⟩ => ⟨S2048x3584, .bf16⟩
  | .hbm, ⟨17, _⟩ => ⟨S8192x2048, .f32⟩
  | .hbm, ⟨18, _⟩ => ⟨S2048, .f32⟩
  | .hbm, ⟨19, _⟩ => ⟨S1x2048, .f32⟩
  | .hbm, ⟨20, _⟩ => ⟨S8192x1024, .bf16⟩
  | .hbm, ⟨21, _⟩ => ⟨S8192x256, .f32⟩
  | .hbm, ⟨22, _⟩ => ⟨S8192x256, .f32⟩
  | .hbm, ⟨23, _⟩ => ⟨S8192x1024, .f32⟩
  | .hbm, ⟨24, _⟩ => ⟨S8192x1024, .f32⟩
  | .hbm, ⟨25, _⟩ => ⟨S32x1x256x2x128, .f32⟩
  | .hbm, ⟨26, _⟩ => ⟨S32x1x256x2x128, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S256x2048, .f32⟩
  | .local _ .vmem, ⟨8, _⟩ => ⟨S256x2048, .f32⟩
  | .local _ .vmem, ⟨9, _⟩ => ⟨S8x12288, .f32⟩
  | .local _ .vmem, ⟨10, _⟩ => ⟨S1x2048, .f32⟩
  | .local _ .vmem, ⟨11, _⟩ => ⟨S2048x3584, .bf16⟩
  | .local _ .vmem, ⟨12, _⟩ => ⟨S256x1024, .bf16⟩
  | .local _ .vmem, ⟨13, _⟩ => ⟨S256x1024, .bf16⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x12288 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x3584 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== StatesIdeal.lean ====
abbrev S32x256x2048 : Shape := ⟨3, ![32, 256, 2048]⟩
abbrev S4x2048 : Shape := ⟨2, ![4, 2048]⟩
abbrev S2048 : Shape := ⟨1, ![2048]⟩
abbrev S1x2048x12288 : Shape := ⟨3, ![1, 2048, 12288]⟩
abbrev S1x12288 : Shape := ⟨2, ![1, 12288]⟩
abbrev S1x2048 : Shape := ⟨2, ![1, 2048]⟩
abbrev S1x2048x3584 : Shape := ⟨3, ![1, 2048, 3584]⟩
abbrev S_ : Shape := ⟨0, ![]⟩
abbrev S2048x12288 : Shape := ⟨2, ![2048, 12288]⟩
abbrev S12288 : Shape := ⟨1, ![12288]⟩
abbrev S1x1x12288 : Shape := ⟨3, ![1, 1, 12288]⟩
abbrev S1x1x2048 : Shape := ⟨3, ![1, 1, 2048]⟩
abbrev S32x256 : Shape := ⟨2, ![32, 256]⟩
abbrev S32x256x1 : Shape := ⟨3, ![32, 256, 1]⟩
abbrev S2048x3584 : Shape := ⟨2, ![2048, 3584]⟩
abbrev S32x256x3584 : Shape := ⟨3, ![32, 256, 3584]⟩
abbrev S32x256x1024 : Shape := ⟨3, ![32, 256, 1024]⟩
abbrev S32x256x256 : Shape := ⟨3, ![32, 256, 256]⟩
abbrev S8192x1024 : Shape := ⟨2, ![8192, 1024]⟩
abbrev S32x256x2x128 : Shape := ⟨4, ![32, 256, 2, 128]⟩
abbrev S32x1x256x2x128 : Shape := ⟨5, ![32, 1, 256, 2, 128]⟩

abbrev nBuf : Space → Nat
  | .hbm => 68
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S4x2048, .f32⟩
  | .hbm, ⟨2, _⟩ => ⟨S2048, .f32⟩
  | .hbm, ⟨3, _⟩ => ⟨S1x2048x12288, .f32⟩
  | .hbm, ⟨4, _⟩ => ⟨S1x12288, .f32⟩
  | .hbm, ⟨5, _⟩ => ⟨S1x2048, .f32⟩
  | .hbm, ⟨6, _⟩ => ⟨S1x2048x3584, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S2048x12288, .f32⟩
  | .hbm, ⟨18, _⟩ => ⟨S1x12288, .f32⟩
  | .hbm, ⟨19, _⟩ => ⟨S12288, .f32⟩
  | .hbm, ⟨20, _⟩ => ⟨S1x12288, .f32⟩
  | .hbm, ⟨21, _⟩ => ⟨S1x12288, .f32⟩
  | .hbm, ⟨22, _⟩ => ⟨S1x1x12288, .f32⟩
  | .hbm, ⟨23, _⟩ => ⟨S1x1x2048, .f32⟩
  | .hbm, ⟨24, _⟩ => ⟨S1x1x2048, .f32⟩
  | .hbm, ⟨25, _⟩ => ⟨S1x1x2048, .f32⟩
  | .hbm, ⟨26, _⟩ => ⟨S1x1x2048, .f32⟩
  | .hbm, ⟨27, _⟩ => ⟨S1x1x2048, .f32⟩
  | .hbm, ⟨28, _⟩ => ⟨S1x1x2048, .f32⟩
  | .hbm, ⟨29, _⟩ => ⟨S32x256x2048, .f32⟩
  | .hbm, ⟨30, _⟩ => ⟨S_, .f32⟩
  | .hbm, ⟨31, _⟩ => ⟨S32x256, .f32⟩
  | .hbm, ⟨32, _⟩ => ⟨S32x256x1, .f32⟩
  | .hbm, ⟨33, _⟩ => ⟨S_, .f32⟩
  | .hbm, ⟨34, _⟩ => ⟨S32x256x1, .f32⟩
  | .hbm, ⟨35, _⟩ => ⟨S32x256x1, .f32⟩
  | .hbm, ⟨36, _⟩ => ⟨S_, .f32⟩
  | .hbm, ⟨37, _⟩ => ⟨S32x256x1, .f32⟩
  | .hbm, ⟨38, _⟩ => ⟨S32x256x1, .f32⟩
  | .hbm, ⟨39, _⟩ => ⟨S32x256x1, .f32⟩
  | .hbm, ⟨40, _⟩ => ⟨S32x256x2048, .f32⟩
  | .hbm, ⟨41, _⟩ => ⟨S32x256x2048, .f32⟩
  | .hbm, ⟨42, _⟩ => ⟨S2048, .f32⟩
  | .hbm, ⟨43, _⟩ => ⟨S1x1x2048, .f32⟩
  | .hbm, ⟨44, _⟩ => ⟨S32x256x2048, .f32⟩
  | .hbm, ⟨45, _⟩ => ⟨S32x256x2048, .f32⟩
  | .hbm, ⟨46, _⟩ => ⟨S_, .f32⟩
  | .hbm, ⟨47, _⟩ => ⟨S1x1x2048, .f32⟩
  | .hbm, ⟨48, _⟩ => ⟨S1x1x2048, .f32⟩
  | .hbm, ⟨49, _⟩ => ⟨S32x256x2048, .f32⟩
  | .hbm, ⟨50, _⟩ => ⟨S32x256x2048, .f32⟩
  | .hbm, ⟨51, _⟩ => ⟨S32x256x2048, .f32⟩
  | .hbm, ⟨52, _⟩ => ⟨S32x256x2048, .f32⟩
  | .hbm, ⟨53, _⟩ => ⟨S2048x3584, .f32⟩
  | .hbm, ⟨54, _⟩ => ⟨S32x256x3584, .f32⟩
  | .hbm, ⟨55, _⟩ => ⟨S32x256x1024, .f32⟩
  | .hbm, ⟨56, _⟩ => ⟨S32x256x256, .f32⟩
  | .hbm, ⟨57, _⟩ => ⟨S32x256x256, .f32⟩
  | .hbm, ⟨58, _⟩ => ⟨S32x256x1024, .f32⟩
  | .hbm, ⟨59, _⟩ => ⟨S32x256x1024, .f32⟩
  | .hbm, ⟨60, _⟩ => ⟨S8192x1024, .f32⟩
  | .hbm, ⟨61, _⟩ => ⟨S8192x1024, .bf16⟩
  | .hbm, ⟨62, _⟩ => ⟨S32x256x2x128, .f32⟩
  | .hbm, ⟨63, _⟩ => ⟨S32x1x256x2x128, .f32⟩
  | .hbm, ⟨64, _⟩ => ⟨S32x256x2x128, .f32⟩
  | .hbm, ⟨65, _⟩ => ⟨S32x1x256x2x128, .f32⟩
  | .hbm, ⟨66, _⟩ => ⟨S8192x1024, .f32⟩
  | .hbm, ⟨67, _⟩ => ⟨S8192x1024, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Latent.lean ====
abbrev S4x1024x2048 : Shape := ⟨3, ![4, 1024, 2048]⟩
abbrev S4x2048 : Shape := ⟨2, ![4, 2048]⟩
abbrev S2048 : Shape := ⟨1, ![2048]⟩
abbrev S1x2048x12288 : Shape := ⟨3, ![1, 2048, 12288]⟩
abbrev S1x12288 : Shape := ⟨2, ![1, 12288]⟩
abbrev S1x2048 : Shape := ⟨2, ![1, 2048]⟩
abbrev S1x2048x3584 : Shape := ⟨3, ![1, 2048, 3584]⟩
abbrev S_ : Shape := ⟨0, ![]⟩
abbrev S3x2048 : Shape := ⟨2, ![3, 2048]⟩
abbrev S8x2048 : Shape := ⟨2, ![8, 2048]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩
abbrev S2048x3584 : Shape := ⟨2, ![2048, 3584]⟩
abbrev S4096x2048 : Shape := ⟨2, ![4096, 2048]⟩
abbrev S1024 : Shape := ⟨1, ![1024]⟩
abbrev S32 : Shape := ⟨1, ![32]⟩
abbrev S1024x1 : Shape := ⟨2, ![1024, 1]⟩
abbrev S1x32 : Shape := ⟨2, ![1, 32]⟩
abbrev S1024x32 : Shape := ⟨2, ![1024, 32]⟩
abbrev S1024x128 : Shape := ⟨2, ![1024, 128]⟩
abbrev S4096x1024 : Shape := ⟨2, ![4096, 1024]⟩
abbrev S4096x256 : Shape := ⟨2, ![4096, 256]⟩
abbrev S256x2048 : Shape := ⟨2, ![256, 2048]⟩
abbrev S256x128 : Shape := ⟨2, ![256, 128]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x3584 : Shape := ⟨2, ![256, 3584]⟩

abbrev nBuf : Space → Nat
  | .hbm => 102
  | .vmem => 26
  | .smem => 0
  | _ => 0

abbrev bufTy : (tb : Table) → Fin (tcTables nBuf tb) → BufTy
  | .hbm, ⟨0, _⟩ => ⟨S4x1024x2048, .f32⟩
  | .hbm, ⟨1, _⟩ => ⟨S4x2048, .f32⟩
  | .hbm, ⟨2, _⟩ => ⟨S2048, .f32⟩
  | .hbm, ⟨3, _⟩ => ⟨S1x2048x12288, .f32⟩
  | .hbm, ⟨4, _⟩ => ⟨S1x12288, .f32⟩
  | .hbm, ⟨5, _⟩ => ⟨S1x2048, .f32⟩
  | .hbm, ⟨6, _⟩ => ⟨S1x2048x3584, .f32⟩
  | .hbm, ⟨7, _⟩ => ⟨S1x2048, .f32⟩
  | .hbm, ⟨8, _⟩ => ⟨S_, .f32⟩
  | .hbm, ⟨9, _⟩ => ⟨S3x2048, .f32⟩
  | .hbm, ⟨10, _⟩ => ⟨S8x2048, .f32⟩
  | .hbm, ⟨11, _⟩ => ⟨S2048x12288, .f32⟩
  | .hbm, ⟨12, _⟩ => ⟨S12288, .f32⟩
  | .hbm, ⟨13, _⟩ => ⟨S1x12288, .f32⟩
  | .hbm, ⟨14, _⟩ => ⟨S8x12288, .f32⟩
  | .hbm, ⟨15, _⟩ => ⟨S2048x3584, .f32⟩
  | .hbm, ⟨16, _⟩ => ⟨S2048x3584, .bf16⟩
  | .hbm, ⟨17, _⟩ => ⟨S4096x2048, .f32⟩
  | .hbm, ⟨18, _⟩ => ⟨S2048, .f32⟩
  | .hbm, ⟨19, _⟩ => ⟨S1x2048, .f32⟩
  | .hbm, ⟨20, _⟩ => ⟨S1024, .i32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .i32⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S1024, .i32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S1024, .i32⟩
  | .hbm, ⟨44, _⟩ => ⟨S1024, .i32⟩
  | .hbm, ⟨45, _⟩ => ⟨S_, .i32⟩
  | .hbm, ⟨46, _⟩ => ⟨S1024, .i32⟩
  | .hbm, ⟨47, _⟩ => ⟨S1024, .i1⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S1024, .f32⟩
  | .hbm, ⟨54, _⟩ => ⟨S1024x1, .f32⟩
  | .hbm, ⟨55, _⟩ => ⟨S1x32, .f32⟩
  | .hbm, ⟨56, _⟩ => ⟨S1024x32, .f32⟩
  | .hbm, ⟨57, _⟩ => ⟨S1024x32, .f32⟩
  | .hbm, ⟨58, _⟩ => ⟨S1024x32, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S_, .i32⟩
  | .hbm, ⟨68, _⟩ => ⟨S1024, .i32⟩
  | .hbm, ⟨69, _⟩ => ⟨S1024, .i1⟩
  | .hbm, ⟨70, _⟩ => ⟨S_, .i32⟩
  | .hbm, ⟨71, _⟩ => ⟨S1024, .i32⟩
  | .hbm, ⟨72, _⟩ => ⟨S1024, .i1⟩
  | .hbm, ⟨73, _⟩ => ⟨S_, .i32⟩
  | .hbm, ⟨74, _⟩ => ⟨S_, .i1⟩
  | .hbm, ⟨75, _⟩ => ⟨S1024, .i1⟩
  | .hbm, ⟨76, _⟩ => ⟨S1024, .i1⟩
  | .hbm, ⟨77, _⟩ => ⟨S1024, .i1⟩
  | .hbm, ⟨78, _⟩ => ⟨S1024, .i32⟩
  | .hbm, ⟨79, _⟩ => ⟨S1024, .i32⟩
  | .hbm, ⟨80, _⟩ => ⟨S1024, .i32⟩
  | .hbm, ⟨81, _⟩ => ⟨S1024, .f32⟩
  | .hbm, ⟨82, _⟩ => ⟨S1024x1, .f32⟩
  | .hbm, ⟨83, _⟩ => ⟨S1x32, .f32⟩
  | .hbm, ⟨84, _⟩ => ⟨S1024x32, .f32⟩
  | .hbm, ⟨85, _⟩ => ⟨S1024x32, .f32⟩
  | .hbm, ⟨86, _⟩ => ⟨S1024x32, .f32⟩
  | .hbm, ⟨87, _⟩ => ⟨S1024x32, .f32⟩
  | .hbm, ⟨88, _⟩ => ⟨S1024x32, .f32⟩
  | .hbm, ⟨89, _⟩ => ⟨S1024x128, .f32⟩
  | .hbm, ⟨90, _⟩ => ⟨S1024x32, .f32⟩
  | .hbm, ⟨91, _⟩ => ⟨S1024x32, .f32⟩
  | .hbm, ⟨92, _⟩ => ⟨S1024x32, .f32⟩
  | .hbm, ⟨93, _⟩ => ⟨S1024x32, .f32⟩
  | .hbm, ⟨94, _⟩ => ⟨S1024x32, .f32⟩
  | .hbm, ⟨95, _⟩ => ⟨S1024x32, .f32⟩
  | .hbm, ⟨96, _⟩ => ⟨S1024x128, .f32⟩
  | .hbm, ⟨97, _⟩ => ⟨S4096x1024, .bf16⟩
  | .hbm, ⟨98, _⟩ => ⟨S4096x256, .f32⟩
  | .hbm, ⟨99, _⟩ => ⟨S4096x256, .f32⟩
  | .hbm, ⟨100, _⟩ => ⟨S4096x1024, .f32⟩
  | .hbm, ⟨101, _⟩ => ⟨S4096x1024, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S256x2048, .f32⟩
  | .local _ .vmem, ⟨8, _⟩ => ⟨S256x2048, .f32⟩
  | .local _ .vmem, ⟨9, _⟩ => ⟨S8x12288, .f32⟩
  | .local _ .vmem, ⟨10, _⟩ => ⟨S1x2048, .f32⟩
  | .local _ .vmem, ⟨11, _⟩ => ⟨S2048x3584, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x1024, .bf16⟩
  | .local _ .vmem, ⟨17, _⟩ => ⟨S256x1024, .bf16⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_4 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_1 : Ref sig .tc := ⟨.hbm, 67, rfl⟩
abbrev main_call1_v5 : Ref sig .tc := ⟨.hbm, 68, rfl⟩
abbrev main_call1_v6 : Ref sig .tc := ⟨.hbm, 69, rfl⟩
abbrev main_call1_c_2 : Ref sig .tc := ⟨.hbm, 70, rfl⟩
abbrev main_call1_v7 : Ref sig .tc := ⟨.hbm, 71, rfl⟩
abbrev main_call1_v8 : Ref sig .tc := ⟨.hbm, 72, rfl⟩
abbrev main_call1_c_3 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47_0 : Ref sig .tc := ⟨.hbm, 97, rfl⟩
abbrev main_v47_1 : Ref sig .tc := ⟨.hbm, 98, rfl⟩
abbrev main_v47_2 : Ref sig .tc := ⟨.hbm, 99, rfl⟩
abbrev main_v47_3 : Ref sig .tc := ⟨.hbm, 100, rfl⟩
abbrev main_v47_4 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def k1_off1 (i : grid1.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v18 : Index := Scalar.indexCast v17
  let c0 : Index := 0#32
  ![v18.toNat, 0]
def k1_off2 (i : grid1.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v21 : Index := Scalar.indexCast v17
  let c2048 : Index := 2048#32
  ![v21.toNat, 2048]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_5 (i : grid1.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x12288 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x3584 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== TurnedIdeal.lean ====
abbrev S4x1024x2048 : Shape := ⟨3, ![4, 1024, 2048]⟩
abbrev S4x2048 : Shape := ⟨2, ![4, 2048]⟩
abbrev S2048 : Shape := ⟨1, ![2048]⟩
abbrev S1x2048x12288 : Shape := ⟨3, ![1, 2048, 12288]⟩
abbrev S1x12288 : Shape := ⟨2, ![1, 12288]⟩
abbrev S1x2048 : Shape := ⟨2, ![1, 2048]⟩
abbrev S1x2048x3584 : Shape := ⟨3, ![1, 2048, 3584]⟩
abbrev S_ : Shape := ⟨0, ![]⟩
abbrev S2048x12288 : Shape := ⟨2, ![2048, 12288]⟩
abbrev S4x12288 : Shape := ⟨2, ![4, 12288]⟩
abbrev S12288 : Shape := ⟨1, ![12288]⟩
abbrev S4x1x12288 : Shape := ⟨3, ![4, 1, 12288]⟩
abbrev S4x1x2048 : Shape := ⟨3, ![4, 1, 2048]⟩
abbrev S4x1024 : Shape := ⟨2, ![4, 1024]⟩
abbrev S4x1024x1 : Shape := ⟨3, ![4, 1024, 1]⟩
abbrev S1x1x2048 : Shape := ⟨3, ![1, 1, 2048]⟩
abbrev S2048x3584 : Shape := ⟨2, ![2048, 3584]⟩
abbrev S4x1024x3584 : Shape := ⟨3, ![4, 1024, 3584]⟩
abbrev S4x1024x1024 : Shape := ⟨3, ![4, 1024, 1024]⟩
abbrev S4x1024x256 : Shape := ⟨3, ![4, 1024, 256]⟩
abbrev S16 : Shape := ⟨1, ![16]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S32 : Shape := ⟨1, ![32]⟩
abbrev S4x1024x8x128 : Shape := ⟨4, ![4, 1024, 8, 128]⟩
abbrev S4x1024x8x64 : Shape := ⟨4, ![4, 1024, 8, 64]⟩
abbrev S1024x1 : Shape := ⟨2, ![1024, 1]⟩
abbrev S1x32 : Shape := ⟨2, ![1, 32]⟩
abbrev S1024x32 : Shape := ⟨2, ![1024, 32]⟩
abbrev S1x1024x1x32 : Shape := ⟨4, ![1, 1024, 1, 32]⟩
abbrev S4x1024x8x32 : Shape := ⟨4, ![4, 1024, 8, 32]⟩
abbrev S4096x1024 : Shape := ⟨2, ![4096, 1024]⟩
abbrev S4x1024x2x128 : Shape := ⟨4, ![4, 1024, 2, 128]⟩
abbrev S4x1024x2x64 : Shape := ⟨4, ![4, 1024, 2, 64]⟩
abbrev S4x1024x2x32 : Shape := ⟨4, ![4, 1024, 2, 32]⟩
abbrev S4096x256 : Shape := ⟨2, ![4096, 256]⟩

abbrev nBuf : Space → Nat
  | .hbm => 183
  | .vmem => 0
  | .smem => 0
  | _ => 0

abbrev hbmTy0_0 (i : Nat) : BufTy := match i % 128 with
  | 0 => ⟨S4x1024x2048, .f32⟩
  | 1 => ⟨S4x2048, .f32⟩
  | 2 => ⟨S2048, .f32⟩
  | 3 => ⟨S1x2048x12288, .f32⟩
  | 4 => ⟨S1x12288, .f32⟩
  | 5 => ⟨S1x2048, .f32⟩
  | 6 => ⟨S1x2048x3584, .f32⟩
  | 7 => ⟨S4x2048, .f32⟩
  | 8 => ⟨S4x2048, .f32⟩
  | 9 => ⟨S_, .f32⟩
  | 10 => ⟨S4x2048, .f32⟩
  | 11 => ⟨S4x2048, .f32⟩
  | 12 => ⟨S_, .f32⟩
  | 13 => ⟨S4x2048, .f32⟩
  | 14 => ⟨S4x2048, .f32⟩
  | 15 => ⟨S4x2048, .f32⟩
  | 16 => ⟨S2048x12288, .f32⟩
  | 17 => ⟨S4x12288, .f32⟩
  | 18 => ⟨S12288, .f32⟩
  | 19 => ⟨S1x12288, .f32⟩
  | 20 => ⟨S4x12288, .f32⟩
  | 21 => ⟨S4x12288, .f32⟩
  | 22 => ⟨S4x1x12288, .f32⟩
  | 23 => ⟨S4x1x2048, .f32⟩
  | 24 => ⟨S4x1x2048, .f32⟩
  | 25 => ⟨S4x1x2048, .f32⟩
  | 26 => ⟨S4x1x2048, .f32⟩
  | 27 => ⟨S4x1x2048, .f32⟩
  | 28 => ⟨S4x1x2048, .f32⟩
  | 29 => ⟨S4x1024x2048, .f32⟩
  | 30 => ⟨S_, .f32⟩
  | 31 => ⟨S4x1024, .f32⟩
  | 32 => ⟨S4x1024x1, .f32⟩
  | 33 => ⟨S_, .f32⟩
  | 34 => ⟨S4x1024x1, .f32⟩
  | 35 => ⟨S4x1024x1, .f32⟩
  | 36 => ⟨S_, .f32⟩
  | 37 => ⟨S4x1024x1, .f32⟩
  | 38 => ⟨S4x1024x1, .f32⟩
  | 39 => ⟨S4x1024x1, .f32⟩
  | 40 => ⟨S4x1024x2048, .f32⟩
  | 41 => ⟨S4x1024x2048, .f32⟩
  | 42 => ⟨S2048, .f32⟩
  | 43 => ⟨S1x1x2048, .f32⟩
  | 44 => ⟨S4x1024x2048, .f32⟩
  | 45 => ⟨S4x1024x2048, .f32⟩
  | 46 => ⟨S_, .f32⟩
  | 47 => ⟨S4x1x2048, .f32⟩
  | 48 => ⟨S4x1x2048, .f32⟩
  | 49 => ⟨S4x1024x2048, .f32⟩
  | 50 => ⟨S4x1024x2048, .f32⟩
  | 51 => ⟨S4x1024x2048, .f32⟩
  | 52 => ⟨S4x1024x2048, .f32⟩
  | 53 => ⟨S2048x3584, .f32⟩
  | 54 => ⟨S4x1024x3584, .f32⟩
  | 55 => ⟨S4x1024x1024, .f32⟩
  | 56 => ⟨S4x1024x256, .f32⟩
  | 57 => ⟨S4x1024x256, .f32⟩
  | 58 => ⟨S4x1024x1024, .f32⟩
  | 59 => ⟨S4x1024x1024, .f32⟩
  | 60 => ⟨S16, .i32⟩
  | 61 => ⟨S16x64, .i32⟩
  | 62 => ⟨S1024, .i32⟩
  | 63 => ⟨S64, .i32⟩
  | 64 => ⟨S1x64, .i32⟩
  | 65 => ⟨S16x64, .i32⟩
  | 66 => ⟨S1024, .i32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S4x1024x8x128, .f32⟩
  | 82 => ⟨S4x1024x8x64, .f32⟩
  | 83 => ⟨S1024, .f32⟩
  | 84 => ⟨S1024x1, .f32⟩
  | 85 => ⟨S1x32, .f32⟩
  | 86 => ⟨S1024x32, .f32⟩
  | 87 => ⟨S1024x32, .f32⟩
  | 88 => ⟨S1024x32, .f32⟩
  | 89 => ⟨S1x1024x1x32, .f32⟩
  | 90 => ⟨S1x1024x1x32, .f32⟩
  | 91 => ⟨S1x1024x1x32, .f32⟩
  | 92 => ⟨S4x1024x8x32, .f32⟩
  | 93 => ⟨S4x1024x8x32, .f32⟩
  | 94 => ⟨S4x1024x8x32, .f32⟩
  | 95 => ⟨S4x1024x8x32, .f32⟩
  | 96 => ⟨S4x1024x8x32, .f32⟩
  | 97 => ⟨S4x1024x8x32, .f32⟩
  | 98 => ⟨S4x1024x8x32, .f32⟩
  | 99 => ⟨S4x1024x8x32, .f32⟩
  | 100 => ⟨S4x1024x8x32, .f32⟩
  | 101 => ⟨S4x1024x8x32, .f32⟩
  | 102 => ⟨S4x1024x8x32, .f32⟩
  | 103 => ⟨S4x1024x8x32, .f32⟩
  | 104 => ⟨S4x1024x8x64, .f32⟩
  | 105 => ⟨S4x1024x8x64, .f32⟩
  | 106 => ⟨S1024, .f32⟩
  | 107 => ⟨S1024x1, .f32⟩
  | 108 => ⟨S1x32, .f32⟩
  | 109 => ⟨S1024x32, .f32⟩
  | 110 => ⟨S1024x32, .f32⟩
  | 111 => ⟨S1024x32, .f32⟩
  | 112 => ⟨S1x1024x1x32, .f32⟩
  | 113 => ⟨S1x1024x1x32, .f32⟩
  | 114 => ⟨S1x1024x1x32, .f32⟩
  | 115 => ⟨S4x1024x8x32, .f32⟩
  | 116 => ⟨S4x1024x8x32, .f32⟩
  | 117 => ⟨S4x1024x8x32, .f32⟩
  | 118 => ⟨S4x1024x8x32, .f32⟩
  | 119 => ⟨S4x1024x8x32, .f32⟩
  | 120 => ⟨S4x1024x8x32, .f32⟩
  | 121 => ⟨S4x1024x8x32, .f32⟩
  | 122 => ⟨S4x1024x8x32, .f32⟩
  | 123 => ⟨S4x1024x8x32, .f32⟩
  | 124 => ⟨S4x1024x8x32, .f32⟩
  | 125 => ⟨S4x1024x8x32, .f32⟩
  | 126 => ⟨S4x1024x8x32, .f32⟩
  | 127 => ⟨S4x1024x8x64, .f32⟩
  | _ => ⟨S4x1024x2048, .f32⟩

abbrev hbmTy0_1 (i : Nat) : BufTy := match i % 128 with
  | 0 => ⟨S4x1024x8x128, .f32⟩
  | 1 => ⟨S4096x1024, .f32⟩
  | 2 => ⟨S4096x1024, .bf16⟩
  | 3 => ⟨S4x1024x2x128, .f32⟩
  | 4 => ⟨S4x1024x2x64, .f32⟩
  | 5 => ⟨S1024, .f32⟩
  | 6 => ⟨S1024x1, .f32⟩
  | 7 => ⟨S1x32, .f32⟩
  | 8 => ⟨S1024x32, .f32⟩
  | 9 => ⟨S1024x32, .f32⟩
  | 10 => ⟨S1024x32, .f32⟩
  | 11 => ⟨S1x1024x1x32, .f32⟩
  | 12 => ⟨S1x1024x1x32, .f32⟩
  | 13 => ⟨S1x1024x1x32, .f32⟩
  | 14 => ⟨S4x1024x2x32, .f32⟩
  | 15 => ⟨S4x1024x2x32, .f32⟩
  | 16 => ⟨S4x1024x2x32, .f32⟩
  | 17 => ⟨S4x1024x2x32, .f32⟩
  | 18 => ⟨S4x1024x2x32, .f32⟩
  | 19 => ⟨S4x1024x2x32, .f32⟩
  | 20 => ⟨S4x1024x2x32, .f32⟩
  | 21 => ⟨S4x1024x2x32, .f32⟩
  | 22 => ⟨S4x1024x2x32, .f32⟩
  | 23 => ⟨S4x1024x2x32, .f32⟩
  | 24 => ⟨S4x1024x2x32, .f32⟩
  | 25 => ⟨S4x1024x2x32, .f32⟩
  | 26 => ⟨S4x1024x2x64, .f32⟩
  | 27 => ⟨S4x1024x2x64, .f32⟩
  | 28 => ⟨S1024, .f32⟩
  | 29 => ⟨S1024x1, .f32⟩
  | 30 => ⟨S1x32, .f32⟩
  | 31 => ⟨S1024x32, .f32⟩
  | 32 => ⟨S1024x32, .f32⟩
  | 33 => ⟨S1024x32, .f32⟩
  | 34 => ⟨S1x1024x1x32, .f32⟩
  | 35 => ⟨S1x1024x1x32, .f32⟩
  | 36 => ⟨S1x1024x1x32, .f32⟩
  | 37 => ⟨S4x1024x2x32, .f32⟩
  | 38 => ⟨S4x1024x2x32, .f32⟩
  | 39 => ⟨S4x1024x2x32, .f32⟩
  | 40 => ⟨S4x1024x2x32, .f32⟩
  | 41 => ⟨S4x1024x2x32, .f32⟩
  | 42 => ⟨S4x1024x2x32, .f32⟩
  | 43 => ⟨S4x1024x2x32, .f32⟩
  | 44 => ⟨S4x1024x2x32, .f32⟩
  | 45 => ⟨S4x1024x2x32, .f32⟩
  | 46 => ⟨S4x1024x2x32, .f32⟩
  | 47 => ⟨S4x1024x2x32, .f32⟩
  | 48 => ⟨S4x1024x2x32, .f32⟩
  | 49 => ⟨S4x1024x2x64, .f32⟩
  | 50 => ⟨S4x1024x2x128, .f32⟩
  | 51 => ⟨S4096x256, .f32⟩
  | 52 => ⟨S4096x256, .f32⟩
  | 53 => ⟨S4096x1024, .f32⟩
  | 54 => ⟨S4096x1024, .f32⟩
  | _ => ⟨S4x1024x2048, .f32⟩

abbrev hbmTy (i : Nat) : BufTy := match i / 128 with
  | 0 => hbmTy0_0 i
  | 1 => hbmTy0_1 i
  | _ => ⟨S4x1024x2048, .f32⟩

abbrev bufTy : (tb : Table) → Fin (tcTables nBuf tb) → BufTy
  | .hbm, ⟨i, _⟩ => hbmTy i
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_3 : Ref sig .tc := ⟨.hbm, 68, rfl⟩
abbrev main_v49 : Ref sig .tc := ⟨.hbm, 69, rfl⟩
abbrev main_v50 : Ref sig .tc := ⟨.hbm, 70, rfl⟩
abbrev main_cst_4 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_5 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩

abbrev nD : Nat := 1
abbrev τ : Topo := Topo.v7x

variable {F : FTy → Type} [FloatOps F]
-- ==== Combine.lean ====
abbrev S1x8192 : Shape := ⟨2, ![1, 8192]⟩
abbrev S16x8192 : Shape := ⟨2, ![16, 8192]⟩
abbrev S16x1024 : Shape := ⟨2, ![16, 1024]⟩
abbrev S16384x2048 : Shape := ⟨2, ![16384, 2048]⟩
abbrev S8192x2048 : Shape := ⟨2, ![8192, 2048]⟩
abbrev S8x12288 : Shape := ⟨2, ![8, 12288]⟩
abbrev S2048 : Shape := ⟨1, ![2048]⟩
abbrev S8192x1 : Shape := ⟨2, ![8192, 1]⟩
abbrev S1x2048 : Shape := ⟨2, ![1, 2048]⟩
abbrev S1x128 : Shape := ⟨2, ![1, 128]⟩
abbrev S16x128 : Shape := ⟨2, ![16, 128]⟩
abbrev S128x1 : Shape := ⟨2, ![128, 1]⟩
abbrev S128x2048 : Shape := ⟨2, ![128, 2048]⟩
abbrev S16x128x2048 : Shape := ⟨3, ![16, 128, 2048]⟩
abbrev S_ : Shape := ⟨0, ![]⟩
abbrev S1x1 : Shape := ⟨2, ![1, 1]⟩
abbrev S1x1x2048 : Shape := ⟨3, ![1, 1, 2048]⟩
abbrev S1x128x2048 : Shape := ⟨3, ![1, 128, 2048]⟩
abbrev S128 : Shape := ⟨1, ![128]⟩

abbrev nBuf : Space → Nat
  | .hbm => 10
  | .vmem => 9
  | .smem => 4
  | _ => 0

abbrev bufTy : (tb : Table) → Fin (tcTables nBuf tb) → BufTy
  | .hbm, ⟨0, _⟩ => ⟨S1x8192, .i32⟩
  | .hbm, ⟨1, _⟩ => ⟨S16x8192, .i32⟩
  | .hbm, ⟨2, _⟩ => ⟨S16x1024, .i32⟩
  | .hbm, ⟨3, _⟩ => ⟨S16384x2048, .f32⟩
  | .hbm, ⟨4, _⟩ => ⟨S8192x2048, .f32⟩
  | .hbm, ⟨5, _⟩ => ⟨S8x12288, .f32⟩
  | .hbm, ⟨6, _⟩ => ⟨S2048, .f32⟩
  | .hbm, ⟨7, _⟩ => ⟨S8192x1, .i32⟩
  | .hbm, ⟨8, _⟩ => ⟨S1x2048, .f32⟩
  | .hbm, ⟨9, _⟩ => ⟨S8192x2048, .f32⟩
  | .local _ .vmem, ⟨0, _⟩ => ⟨S128x1, .i32⟩
  | .local _ .vmem, ⟨1, _⟩ => ⟨S128x1, .i32⟩
  | .local _ .vmem, ⟨2, _⟩ => ⟨S128x2048, .f32⟩
  | .local _ .vmem, ⟨3, _⟩ => ⟨S128x2048, .f32⟩
  | .local _ .vmem, ⟨4, _⟩ => ⟨S8x12288, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | .local _ .vmem, ⟨8, _⟩ => ⟨S16x128x2048, .f32⟩
  | .local _ .smem, ⟨0, _⟩ => ⟨S1x128, .i32⟩
  | .local _ .smem, ⟨1, _⟩ => ⟨S1x128, .i32⟩
  | .local _ .smem, ⟨2, _⟩ => ⟨S16x128, .i32⟩
  | .local _ .smem, ⟨3, _⟩ => ⟨S16x128, .i32⟩
  | _, _ => ⟨S1x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_3 : BitVec 32 := 0#32
  let c128_i32 : BitVec 32 := 128#32
  let v3 : BitVec 32 := Scalar.addi c0_i32_3 c128_i32
  let c1_i32 : BitVec 32 := 1#32
  ⟨c0_i32_3, v3, c1_i32⟩
def k0_off1 (k0_t1 : Fin k0_t1_loop.trips) : Fin 2 → Nat :=
  let c0_25 : Index := 0#32
  let c0_i32_3 : BitVec 32 := 0#32
  let c1_i32 : BitVec 32 := 1#32
  let arg11 : BitVec 32 := Scf.iv c0_i32_3 c1_i32 k0_t1
  let v40 : Index := Scalar.indexCast arg11
  ![0, v40.toNat]
@[reducible] def k0_t2_loop (v41 : BitVec 32) : Scf.Loop 32 :=
  let c0_i32_27 : BitVec 32 := 0#32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let c1_i32_29 : BitVec 32 := 1#32
  ⟨c0_i32_27, v46, c1_i32_29⟩

def k0_off2 (k0_t1 : Fin k0_t1_loop.trips) (v41 : BitVec 32) (k0_t2 : Fin (k0_t2_loop v41).trips) : Fin 2 → Nat :=
  let c0_i32_27 : BitVec 32 := 0#32
  let c1_i32_29 : BitVec 32 := 1#32
  let arg14 : BitVec 32 := Scf.iv c0_i32_27 c1_i32_29 k0_t2
  let v49 : Index := Scalar.indexCast arg14
  let c0_i32_3 : BitVec 32 := 0#32
  let c1_i32 : BitVec 32 := 1#32
  let arg11 : BitVec 32 := Scf.iv c0_i32_3 c1_i32 k0_t1
  let v50 : Index := Scalar.indexCast arg11
  ![v49.toNat, v50.toNat]
def k0_off3 (k0_t1 : Fin k0_t1_loop.trips) (v41 : BitVec 32) (k0_t2 : Fin (k0_t2_loop v41).trips) : Fin 3 → Nat :=
  let c0_i32_27 : BitVec 32 := 0#32
  let c1_i32_29 : BitVec 32 := 1#32
  let arg14 : BitVec 32 := Scf.iv c0_i32_27 c1_i32_29 k0_t2
  let c0_i32_3 : BitVec 32 := 0#32
  let c1_i32 : BitVec 32 := 1#32
  let arg11 : BitVec 32 := Scf.iv c0_i32_3 c1_i32 k0_t1
  let c0_i32_31 : BitVec 32 := 0#32
  ![arg14.toNat, arg11.toNat, 0]
def k0_off4 (v51 : BitVec 32) : Fin 2 → Nat :=
  let c0_i32_32 : BitVec 32 := 0#32
  ![v51.toNat, 0]

def k0_chk2 (v51 : BitVec 32) : Prop :=
  (∀ a, (k0_off4 v51) a + S1x2048.size a ≤ S16384x2048.size a)
theorem k0_off4_inb : ∀ (v51 : BitVec 32) (k0_hw2 : k0_chk2 v51), ∀ a, (k0_off4 v51) a + S1x2048.size a ≤ S16384x2048.size a := fun v51 k0_hw2 => k0_hw2

@[reducible] def k0_t3_loop (v41 : BitVec 32) : Scf.Loop 32 :=
  let c0_i32_27 : BitVec 32 := 0#32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let v43 : BitVec 32 := Scalar.addi c0_i32_27 v42
  let c1_i32_30 : BitVec 32 := 1#32
  ⟨v46, v43, c1_i32_30⟩
def k0_off5 (k0_t1 : Fin k0_t1_loop.trips) (v41 : BitVec 32) (k0_t3 : Fin (k0_t3_loop v41).trips) : Fin 2 → Nat :=
  let c0_i32_27 : BitVec 32 := 0#32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let c1_i32_30 : BitVec 32 := 1#32
  let arg14 : BitVec 32 := Scf.iv v46 c1_i32_30 k0_t3
  let v49 : Index := Scalar.indexCast arg14
  let c0_i32_3 : BitVec 32 := 0#32
  let c1_i32 : BitVec 32 := 1#32
  let arg11 : BitVec 32 := Scf.iv c0_i32_3 c1_i32 k0_t1
  let v50 : Index := Scalar.indexCast arg11
  ![v49.toNat, v50.toNat]
def k0_off6 (k0_t1 : Fin k0_t1_loop.trips) (v41 : BitVec 32) (k0_t3 : Fin (k0_t3_loop v41).trips) : Fin 3 → Nat :=
  let c0_i32_27 : BitVec 32 := 0#32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let c1_i32_30 : BitVec 32 := 1#32
  let arg14 : BitVec 32 := Scf.iv v46 c1_i32_30 k0_t3
  let c0_i32_3 : BitVec 32 := 0#32
  let c1_i32 : BitVec 32 := 1#32
  let arg11 : BitVec 32 := Scf.iv c0_i32_3 c1_i32 k0_t1
  let c0_i32_31 : BitVec 32 := 0#32
  ![arg14.toNat, arg11.toNat, 0]

def k0_chk1 (k0_t1 : Fin k0_t1_loop.trips) (v41 : BitVec 32) : Prop :=
  ((k0_t2_loop v41).OK) ∧
  (∀ k0_t2 : Fin (k0_t2_loop v41).trips, ∀ a, (k0_off2 k0_t1 v41 k0_t2) a + S1x1.size a ≤ S16x128.size a) ∧
  (∀ k0_t2 : Fin (k0_t2_loop v41).trips, ∀ a, (k0_off3 k0_t1 v41 k0_t2) a + S1x1x2048.size a ≤ S16x128x2048.size a) ∧
  ((k0_t3_loop v41).OK) ∧
  (∀ k0_t3 : Fin (k0_t3_loop v41).trips, ∀ a, (k0_off5 k0_t1 v41 k0_t3) a + S1x1.size a ≤ S16x128.size a) ∧
  (∀ k0_t3 : Fin (k0_t3_loop v41).trips, ∀ a, (k0_off6 k0_t1 v41 k0_t3) a + S1x1x2048.size a ≤ S16x128x2048.size a)
theorem k0_t2_ok : ∀ (k0_t1 : Fin k0_t1_loop.trips) (v41 : BitVec 32) (k0_hw1 : k0_chk1 k0_t1 v41), (k0_t2_loop v41).OK := fun k0_t1 v41 k0_hw1 => k0_hw1.1
theorem k0_off2_inb : ∀ (k0_t1 : Fin k0_t1_loop.trips) (v41 : BitVec 32) (k0_hw1 : k0_chk1 k0_t1 v41) (k0_t2 : Fin (k0_t2_loop v41).trips), ∀ a, (k0_off2 k0_t1 v41 k0_t2) a + S1x1.size a ≤ S16x128.size a := fun k0_t1 v41 k0_hw1 k0_t2 => k0_hw1.2.1 k0_t2
theorem k0_off3_inb : ∀ (k0_t1 : Fin k0_t1_loop.trips) (v41 : BitVec 32) (k0_hw1 : k0_chk1 k0_t1 v41) (k0_t2 : Fin (k0_t2_loop v41).trips), ∀ a, (k0_off3 k0_t1 v41 k0_t2) a + S1x1x2048.size a ≤ S16x128x2048.size a := fun k0_t1 v41 k0_hw1 k0_t2 => k0_hw1.2.2.1 k0_t2
theorem k0_t3_ok : ∀ (k0_t1 : Fin k0_t1_loop.trips) (v41 : BitVec 32) (k0_hw1 : k0_chk1 k0_t1 v41), (k0_t3_loop v41).OK := fun k0_t1 v41 k0_hw1 => k0_hw1.2.2.2.1
theorem k0_off5_inb : ∀ (k0_t1 : Fin k0_t1_loop.trips) (v41 : BitVec 32) (k0_hw1 : k0_chk1 k0_t1 v41) (k0_t3 : Fin (k0_t3_loop v41).trips), ∀ a, (k0_off5 k0_t1 v41 k0_t3) a + S1x1.size a ≤ S16x128.size a := fun k0_t1 v41 k0_hw1 k0_t3 => k0_hw1.2.2.2.2.1 k0_t3
theorem k0_off6_inb : ∀ (k0_t1 : Fin k0_t1_loop.trips) (v41 : BitVec 32) (k0_hw1 : k0_chk1 k0_t1 v41) (k0_t3 : Fin (k0_t3_loop v41).trips), ∀ a, (k0_off6 k0_t1 v41 k0_t3) a + S1x1x2048.size a ≤ S16x128x2048.size a := fun k0_t1 v41 k0_hw1 k0_t3 => k0_hw1.2.2.2.2.2 k0_t3

def k0_off7 (v51 : BitVec 32) : Fin 2 → Nat :=
  let c0_i32_32 : BitVec 32 := 0#32
  ![v51.toNat, 0]

def k0_chk3 (v51 : BitVec 32) : Prop :=
  (∀ a, (k0_off7 v51) a + S1x2048.size a ≤ S16384x2048.size a)
theorem k0_off7_inb : ∀ (v51 : BitVec 32) (k0_hw3 : k0_chk3 v51), ∀ a, (k0_off7 v51) a + S1x2048.size a ≤ S16384x2048.size a := fun v51 k0_hw3 => k0_hw3

@[reducible] def k0_t4_loop (v4_0 : BitVec 32) : Scf.Loop 32 :=
  let c0_i32_6 : BitVec 32 := 0#32
  let v5 : BitVec 32 := Scalar.subi v4_0 c0_i32_6
  let c1_i32_7 : BitVec 32 := 1#32
  let v7 : BitVec 32 := Scalar.divsi v5 c1_i32_7
  let v8 : BitVec 32 := Scalar.muli v7 c1_i32_7
  let v9 : BitVec 32 := Scalar.addi c0_i32_6 v8
  let c1_i32_8 : BitVec 32 := 1#32
  ⟨c0_i32_6, v9, c1_i32_8⟩

@[reducible] def k0_t5_loop (v4_0 : BitVec 32) : Scf.Loop 32 :=
  let c0_i32_6 : BitVec 32 := 0#32
  let v5 : BitVec 32 := Scalar.subi v4_0 c0_i32_6
  let c1_i32_7 : BitVec 32 := 1#32
  let v7 : BitVec 32 := Scalar.divsi v5 c1_i32_7
  let v8 : BitVec 32 := Scalar.muli v7 c1_i32_7
  let v9 : BitVec 32 := Scalar.addi c0_i32_6 v8
  let v6 : BitVec 32 := Scalar.addi c0_i32_6 v5
  let c1_i32_9 : BitVec 32 := 1#32
  ⟨v9, v6, c1_i32_9⟩

def k0_chk4 (v4_0 : BitVec 32) : Prop :=
  ((k0_t4_loop v4_0).OK) ∧
  ((k0_t5_loop v4_0).OK)
theorem k0_t4_ok : ∀ (v4_0 : BitVec 32) (k0_hw4 : k0_chk4 v4_0), (k0_t4_loop v4_0).OK := fun v4_0 k0_hw4 => k0_hw4.1
theorem k0_t5_ok : ∀ (v4_0 : BitVec 32) (k0_hw4 : k0_chk4 v4_0), (k0_t5_loop v4_0).OK := fun v4_0 k0_hw4 => k0_hw4.2

@[reducible] def k0_t6_loop (v4_1 : BitVec 32) : Scf.Loop 32 :=
  let c0_i32_11 : BitVec 32 := 0#32
  let v13 : BitVec 32 := Scalar.subi v4_1 c0_i32_11
  let c1_i32_12 : BitVec 32 := 1#32
  let v15 : BitVec 32 := Scalar.divsi v13 c1_i32_12
  let v16 : BitVec 32 := Scalar.muli v15 c1_i32_12
  let v17 : BitVec 32 := Scalar.addi c0_i32_11 v16
  let c1_i32_13 : BitVec 32 := 1#32
  ⟨c0_i32_11, v17, c1_i32_13⟩

def k0_off8 (v4_1 : BitVec 32) (k0_t6 : Fin (k0_t6_loop v4_1).trips) : Fin 3 → Nat :=
  let c0_i32_11 : BitVec 32 := 0#32
  let c1_i32_13 : BitVec 32 := 1#32
  let arg11 : BitVec 32 := Scf.iv c0_i32_11 c1_i32_13 k0_t6
  let v42 : Index := Scalar.indexCast arg11
  let c0_25 : Index := 0#32
  let c0_26 : Index := 0#32
  ![v42.toNat, 0, 0]
@[reducible] def k0_t7_loop (v4_1 : BitVec 32) : Scf.Loop 32 :=
  let c0_i32_11 : BitVec 32 := 0#32
  let v13 : BitVec 32 := Scalar.subi v4_1 c0_i32_11
  let c1_i32_12 : BitVec 32 := 1#32
  let v15 : BitVec 32 := Scalar.divsi v13 c1_i32_12
  let v16 : BitVec 32 := Scalar.muli v15 c1_i32_12
  let v17 : BitVec 32 := Scalar.addi c0_i32_11 v16
  let v14 : BitVec 32 := Scalar.addi c0_i32_11 v13
  let c1_i32_14 : BitVec 32 := 1#32
  ⟨v17, v14, c1_i32_14⟩
def k0_off9 (v4_1 : BitVec 32) (k0_t7 : Fin (k0_t7_loop v4_1).trips) : Fin 3 → Nat :=
  let c0_i32_11 : BitVec 32 := 0#32
  let v13 : BitVec 32 := Scalar.subi v4_1 c0_i32_11
  let c1_i32_12 : BitVec 32 := 1#32
  let v15 : BitVec 32 := Scalar.divsi v13 c1_i32_12
  let v16 : BitVec 32 := Scalar.muli v15 c1_i32_12
  let v17 : BitVec 32 := Scalar.addi c0_i32_11 v16
  let c1_i32_14 : BitVec 32 := 1#32
  let arg11 : BitVec 32 := Scf.iv v17 c1_i32_14 k0_t7
  let v42 : Index := Scalar.indexCast arg11
  let c0_25 : Index := 0#32
  let c0_26 : Index := 0#32
  ![v42.toNat, 0, 0]

def k0_chk5 (v4_1 : BitVec 32) : Prop :=
  ((k0_t6_loop v4_1).OK) ∧
  (∀ k0_t6 : Fin (k0_t6_loop v4_1).trips, ∀ a, (k0_off8 v4_1 k0_t6) a + S1x128x2048.size a ≤ S16x128x2048.size a) ∧
  ((k0_t7_loop v4_1).OK) ∧
  (∀ k0_t7 : Fin (k0_t7_loop v4_1).trips, ∀ a, (k0_off9 v4_1 k0_t7) a + S1x128x2048.size a ≤ S16x128x2048.size a)
theorem k0_t6_ok : ∀ (v4_1 : BitVec 32) (k0_hw5 : k0_chk5 v4_1), (k0_t6_loop v4_1).OK := fun v4_1 k0_hw5 => k0_hw5.1
theorem k0_off8_inb : ∀ (v4_1 : BitVec 32) (k0_hw5 : k0_chk5 v4_1) (k0_t6 : Fin (k0_t6_loop v4_1).trips), ∀ a, (k0_off8 v4_1 k0_t6) a + S1x128x2048.size a ≤ S16x128x2048.size a := fun v4_1 k0_hw5 k0_t6 => k0_hw5.2.1 k0_t6
theorem k0_t7_ok : ∀ (v4_1 : BitVec 32) (k0_hw5 : k0_chk5 v4_1), (k0_t7_loop v4_1).OK := fun v4_1 k0_hw5 => k0_hw5.2.2.1
theorem k0_off9_inb : ∀ (v4_1 : BitVec 32) (k0_hw5 : k0_chk5 v4_1) (k0_t7 : Fin (k0_t7_loop v4_1).trips), ∀ a, (k0_off9 v4_1 k0_t7) a + S1x128x2048.size a ≤ S16x128x2048.size a := fun v4_1 k0_hw5 k0_t7 => k0_hw5.2.2.2 k0_t7

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ScatteredIdeal.lean ====
abbrev S1x8192 : Shape := ⟨2, ![1, 8192]⟩
abbrev S16x8192 : Shape := ⟨2, ![16, 8192]⟩
abbrev S16x1024 : Shape := ⟨2, ![16, 1024]⟩
abbrev S16384x2048 : Shape := ⟨2, ![16384, 2048]⟩
abbrev S8192x2048 : Shape := ⟨2, ![8192, 2048]⟩
abbrev S8x12288 : Shape := ⟨2, ![8, 12288]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S1x8192, .i32⟩
  | .hbm, ⟨1, _⟩ => ⟨S16x8192, .i32⟩
  | .hbm, ⟨2, _⟩ => ⟨S16x1024, .i32⟩
  | .hbm, ⟨3, _⟩ => ⟨S16384x2048, .f32⟩
  | .hbm, ⟨4, _⟩ => ⟨S8192x2048, .f32⟩
  | .hbm, ⟨5, _⟩ => ⟨S8x12288, .f32⟩
  | .hbm, ⟨6, _⟩ => ⟨S2048, .f32⟩
  | .hbm, ⟨7, _⟩ => ⟨S_, .f32⟩
  | .hbm, ⟨8, _⟩ => ⟨S8192x2048, .f32⟩
  | .hbm, ⟨9, _⟩ => ⟨S16384, .i32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S8192x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | _, _ => ⟨S1x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Route.lean ====
/-
  The numbering of the row copies. A window of tokens starts at token `b`; its copies are issued token by token and,
  within a token, slot by slot, so the slots they fill make a list. What the routing tables promise makes that list
  free of repetitions, and its members are exactly the slots whose token lies in the window.
-/
module

public import Mathlib.Data.List.Nodup
public import Mathlib.Data.List.Basic
public import Mathlib.Tactic.Ring
public import Mathlib.Tactic.Linarith

@[expose] public section

namespace Cert.Hand

/-- The routing tables: how many slots a token has, which slots these are, and which token a slot belongs to. -/
structure Tables where
  cnt : ℕ → ℕ
  dst : ℕ → ℕ → ℕ
  idx : ℕ → ℕ

/-- The two directions of the tables agree: `dst` lists, for every token, the slots `idx` gives it, each once. -/
structure Tables.OK (T : Tables) : Prop where
  cnt_le : ∀ n < 8192, T.cnt n ≤ 16
  dst_lt : ∀ n < 8192, ∀ k < T.cnt n, T.dst k n < 16384
  fed : ∀ n < 8192, ∀ k < T.cnt n, T.idx (T.dst k n) = n
  inj : ∀ n < 8192, ∀ k < T.cnt n, ∀ k' < T.cnt n, T.dst k n = T.dst k' n → k = k'
  full : ∀ s < 16384, T.idx s < 8192 ∧ ∃ k < T.cnt (T.idx s), T.dst k (T.idx s) = s

namespace Tables

variable (T : Tables)

/-- The slots of token `n`, in the order of issue. -/
def row (n : ℕ) : List ℕ := (List.range (T.cnt n)).map fun k => T.dst k n

/-- The slots of the first `a` tokens of the window that starts at token `b`. -/
def slots (b a : ℕ) : List ℕ := (List.range a).flatMap fun a' => T.row (b + a')

theorem row_length (n : ℕ) : (T.row n).length = T.cnt n := by simp [row]

@[simp] theorem slots_zero (b : ℕ) : T.slots b 0 = [] := rfl

theorem slots_succ (b a : ℕ) : T.slots b (a + 1) = T.slots b a ++ T.row (b + a) := by
  simp [slots, List.range_succ, List.flatMap_append]

theorem slots_succ_length (b a : ℕ) : (T.slots b (a + 1)).length = (T.slots b a).length + T.cnt (b + a) := by
  rw [slots_succ, List.length_append, row_length]

theorem slots_prefix (b : ℕ) {a A : ℕ} (h : a ≤ A) : T.slots b a <+: T.slots b A := by
  induction A, h using Nat.le_induction with
  | base => exact List.prefix_rfl
  | succ A _ ih => exact ih.trans (by rw [slots_succ]; exact List.prefix_append _ _)

theorem number_lt (b : ℕ) {a A k : ℕ} (h : a < A) (hk : k < T.cnt (b + a)) :
    (T.slots b a).length + k < (T.slots b A).length := by
  have := (T.slots_prefix b (Nat.succ_le_of_lt h)).length_le
  rw [Nat.succ_eq_add_one, slots_succ_length] at this
  omega

/-- The copy numbered `k` after the copies of the first `a` tokens fills slot `dst k (b + a)`. -/
theorem number_get (b : ℕ) {a A k : ℕ} (h : a < A) (hk : k < T.cnt (b + a))
    (hlt : (T.slots b a).length + k < (T.slots b A).length) :
    (T.slots b A)[(T.slots b a).length + k] = T.dst k (b + a) := by
  obtain ⟨l, hl⟩ := T.slots_prefix b (Nat.succ_le_of_lt h)
  have e : T.slots b A = T.slots b a ++ (T.row (b + a) ++ l) := by
    rw [← hl, Nat.succ_eq_add_one, slots_succ, List.append_assoc]
  have hr : k < (T.row (b + a)).length := by rw [row_length]; exact hk
  have : (T.slots b A)[(T.slots b a).length + k]? = some (T.dst k (b + a)) := by
    rw [e, List.getElem?_append_right (by omega), Nat.add_sub_cancel_left, List.getElem?_append_left hr]
    simp [row, hk]
  exact (List.getElem_eq_iff hlt).mpr this

variable {T} (h : T.OK)
include h

theorem OK.slots_length_le {b a : ℕ} (hb : b + a ≤ 8192) : (T.slots b a).length ≤ 16 * a := by
  induction a with
  | zero => simp
  | succ a ih =>
    rw [slots_succ_length]
    have := ih (by omega)
    have := h.cnt_le (b + a) (by omega)
    omega

theorem OK.mem_row {n s : ℕ} (hn : n < 8192) : s ∈ T.row n ↔ s < 16384 ∧ T.idx s = n := by
  simp only [row, List.mem_map, List.mem_range]
  constructor
  · rintro ⟨k, hk, rfl⟩
    exact ⟨h.dst_lt n hn k hk, h.fed n hn k hk⟩
  · rintro ⟨hs, rfl⟩
    obtain ⟨-, k, hk, e⟩ := h.full s hs
    exact ⟨k, hk, e⟩

theorem OK.mem_slots {b a s : ℕ} (hb : b + a ≤ 8192) :
    s ∈ T.slots b a ↔ s < 16384 ∧ b ≤ T.idx s ∧ T.idx s < b + a := by
  simp only [slots, List.mem_flatMap, List.mem_range]
  constructor
  · rintro ⟨a', ha', hs⟩
    obtain ⟨hs, e⟩ := (h.mem_row (by omega)).mp hs
    exact ⟨hs, by omega, by omega⟩
  · rintro ⟨hs, h1, h2⟩
    exact ⟨T.idx s - b, by omega, (h.mem_row (by omega)).mpr ⟨hs, by omega⟩⟩

theorem OK.slots_nodup {b a : ℕ} (hb : b + a ≤ 8192) : (T.slots b a).Nodup := by
  induction a with
  | zero => simp
  | succ a ih =>
    rw [slots_succ]
    refine List.Nodup.append (ih (by omega)) ?_ ?_
    · refine List.Nodup.map_on ?_ List.nodup_range
      intro k hk k' hk' e
      exact h.inj (b + a) (by omega) k (List.mem_range.mp hk) k' (List.mem_range.mp hk') e
    · intro s hs hs'
      have h1 := (h.mem_slots (by omega)).mp hs
      have h2 := (h.mem_row (by omega)).mp hs'
      omega

end Tables

end Cert.Hand
-- ==== Proof.Words.lean ====
/-
  What the dispatch kernel computes on words: how often its loops run for a count read from the table, and where the
  offsets of its accesses lie.
-/
module

public import proofs.«01_k».proof.Proof.Gen.DispatchIdeal.Skeleton
public import Idealize.ShloMosaic.Lib.LoopRemainder
public import Idealize.ShloMosaic.Lib.Tactic

@[expose] public section

namespace Cert.Hand

open Cert.DispatchIdeal Cert.DispatchIdeal.Gen
open Idealize.ShloMosaic

/-- A word below `2^31` read as an integer. -/
theorem toInt_of_small {v : BitVec 32} (h : v.toNat < 2147483648) : v.toInt = v.toNat := by
  rw [BitVec.toInt_eq_toNat_cond]; split <;> omega

theorem ub_word (v : BitVec 32) :
    Scalar.addi 0#32 (Scalar.muli (Scalar.divsi (Scalar.subi v 0#32) 1#32) 1#32) = v := by
  rw [Scalar.muli_divsi_one]; simp [Scalar.addi, Scalar.subi, IntOp.addi, IntOp.subi]

/-- A loop from 0 to a word by steps of 1 runs as often as the word says. -/
theorem unit_trips {v : BitVec 32} (h : v.toNat < 2147483648) : Scf.trips 0#32 v 1#32 = v.toNat := by
  have h1 : (1#32 : BitVec 32).toInt = 1 := by decide
  have h0 : (0#32 : BitVec 32).toInt = 0 := by decide
  have h2 := toInt_of_small h
  unfold Scf.trips
  simp only [h1, h0, h2]
  omega

theorem unit_ok (v : BitVec 32) : Scf.OK 0#32 v 1#32 := by
  have := Affine.word_range v
  exact Affine.ok (Affine.ofNat 0 ⟨rfl, by decide⟩) (Affine.word _) (Affine.ofNat 1 ⟨rfl, by decide⟩) ⟨by decide, by omega⟩

theorem t2_trips {v : BitVec 32} (h : v.toNat < 2147483648) : (k0_t2_loop v).trips = v.toNat := by
  show Scf.trips 0#32 (Scalar.addi 0#32 (Scalar.muli (Scalar.divsi (Scalar.subi v 0#32) 1#32) 1#32)) 1#32 = _
  rw [ub_word, unit_trips h]

theorem t2_ok (v : BitVec 32) : (k0_t2_loop v).OK := by
  show Scf.OK 0#32 (Scalar.addi 0#32 (Scalar.muli (Scalar.divsi (Scalar.subi v 0#32) 1#32) 1#32)) 1#32
  rw [ub_word]; exact unit_ok v

theorem t4_trips {v : BitVec 32} (h : v.toNat < 2147483648) : (k0_t4_loop v).trips = v.toNat := by
  show Scf.trips 0#32 (Scalar.addi 0#32 (Scalar.muli (Scalar.divsi (Scalar.subi v 0#32) 1#32) 1#32)) 1#32 = _
  rw [ub_word, unit_trips h]

theorem t1_trips : k0_t1_loop.trips = 512 := by decide

/-- The induction variable of trip `k`. -/
theorem iv_word {k : ℕ} (h : k < 2147483648) : (Scf.iv 0#32 1#32 k).toNat = k := by
  simp [Scf.iv, BitVec.toNat_ofNat]
  omega

theorem off2_eq (a : Fin k0_t1_loop.trips) (v : BitVec 32) (hv : v.toNat < 2147483648) (k : Fin (k0_t2_loop v).trips) :
    k0_off2 a v k = ![k.val, a.val] := by
  have h1 := k.isLt
  have h2 := a.isLt
  have e1 := t2_trips hv
  have e2 := t1_trips
  have i1 := iv_word (k := k.val) (by omega)
  have i2 := iv_word (k := a.val) (by omega)
  show ![(Scf.iv 0#32 1#32 k.val).toNat, (Scf.iv 0#32 1#32 a.val).toNat] = _
  rw [i1, i2]

theorem off3_eq (v : BitVec 32) : k0_off3 v = ![v.toNat, 0] := rfl

/-- The side condition after the count's load: the loops are loops and their loads stay inside the table. -/
theorem chk1 (a : Fin k0_t1_loop.trips) (v : BitVec 32) (hv : v.toNat ≤ 16) : k0_chk1 a v := by
  have h2 := a.isLt
  have e2 := t1_trips
  refine ⟨t2_ok v, fun k x => ?_, Scf.rem_ok _ _, fun k => (Scf.rem_no_trip _ _ k).elim⟩
  have h1 := k.isLt
  have e1 := t2_trips (v := v) (by omega)
  rw [off2_eq a v (by omega) k]
  fin_cases x
  · show k.val + 1 ≤ 16; omega
  · show a.val + 1 ≤ 512; omega

theorem chk2 (v : BitVec 32) (hv : v.toNat < 16384) : k0_chk2 v := by
  intro x
  rw [off3_eq]
  fin_cases x
  · show v.toNat + 1 ≤ 16384; omega
  · show 0 + 1152 ≤ 1152; omega

end Cert.Hand
-- ==== Proof.Rows.lean ====
/-
  One row of the dispatch: the copy of a token's packed row into a slot of the result. The rows of both arrays as sets
  of elements, and the rule that issues one copy as the next transfer of a batch.
-/
module

public import proofs.«01_k».proof.Proof.Route
public import proofs.«01_k».proof.Proof.Words
public import proofs.«01_k».proof.Proof.Gen.DispatchIdeal.Launch
public import proofs.«01_k».proof.Proof.Gen.DispatchIdeal.Points
public import Idealize.ShloMosaic.Lib.Pipeline.Routed
public import Idealize.ShloMosaic.Lib.Batch
public import Idealize.ShloMosaic.Lib.Ring
public import Idealize.ShloMosaic.Lib.ValueIdx
public import Idealize.ShloMosaic.Lib.Tactic

@[expose] public section

noncomputable section

namespace Cert.Hand

open Cert.DispatchIdeal Cert.DispatchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The resources of the run: the pipeline library's beside the transfers' counters. -/
local notation "𝕄" => MT nD τ sig Unit (Elt F) ℕ (Pipeline.UC sig nD τ) ℕ

/-- Where the transfers' counters live in it. -/
abbrev EC : UEmb Counters 𝕄 := countersEmb (U := Pipeline.UC sig nD τ)

/-- The elements of row `n` of the packed activations, and of row `s` of the result. -/
def inRow (n : ℕ) : Finset S8192x1152.Idx := Finset.univ.filter fun y => (y 0).val = n
def outRow (s : ℕ) : Finset S16384x1152.Idx := Finset.univ.filter fun y => (y 0).val = s

theorem mem_inRow {n : ℕ} {y : S8192x1152.Idx} : y ∈ inRow n ↔ (y 0).val = n := by simp [inRow]
theorem mem_outRow {s : ℕ} {y : S16384x1152.Idx} : y ∈ outRow s ↔ (y 0).val = s := by simp [outRow]

theorem outRow_disjoint {s s' : ℕ} (h : s ≠ s') : Disjoint (outRow s) (outRow s') := by
  rw [Finset.disjoint_left]; intro y h1 h2; rw [mem_outRow] at h1 h2; exact h (h1.symm.trans h2)

/-- The rows as the kernel slices them. -/
theorem in_set {n : ℕ} (h : ∀ a, (![n, 0] : Fin 2 → ℕ) a + S1x1152.size a ≤ S8192x1152.size a) :
    (Rect.unit (s := S8192x1152) ![n, 0] S1x1152.size h).set = inRow n := by
  ext y
  rw [Rect.mem_set_unit, mem_inRow]
  have h2 : (y 1).val < 1152 := (y 1).isLt
  constructor
  · intro H; have a0 : n ≤ (y 0).val ∧ (y 0).val < n + 1 := H 0; omega
  · intro H a; fin_cases a
    · show n ≤ (y 0).val ∧ (y 0).val < n + 1; omega
    · show 0 ≤ (y 1).val ∧ (y 1).val < 0 + 1152; omega

theorem out_set {s : ℕ} (h : ∀ a, (![s, 0] : Fin 2 → ℕ) a + S1x1152.size a ≤ S16384x1152.size a) :
    (Rect.unit (s := S16384x1152) ![s, 0] S1x1152.size h).set = outRow s := by
  ext y
  rw [Rect.mem_set_unit, mem_outRow]
  have h2 : (y 1).val < 1152 := (y 1).isLt
  constructor
  · intro H; have a0 : s ≤ (y 0).val ∧ (y 0).val < s + 1 := H 0; omega
  · intro H a; fin_cases a
    · show s ≤ (y 0).val ∧ (y 0).val < s + 1; omega
    · show 0 ≤ (y 1).val ∧ (y 1).val < 0 + 1152; omega

/-- Row `n` of the packed activations and row `s` of the result, as the kernel names them. -/
def inMem (n : ℕ) (h : ∀ a, (![n, 0] : Fin 2 → ℕ) a + S1x1152.size a ≤ S8192x1152.size a) : Memref sig .tc .hbm S1x1152 .i32 :=
  (Memref.whole main_arg2).slice (Rect.unit (s := S8192x1152) ![n, 0] S1x1152.size h) (fun _ => rfl)
def outMem (s : ℕ) (h : ∀ a, (![s, 0] : Fin 2 → ℕ) a + S1x1152.size a ≤ S16384x1152.size a) : Memref sig .tc .hbm S1x1152 .i32 :=
  (Memref.whole main_v0).slice (Rect.unit (s := S16384x1152) ![s, 0] S1x1152.size h) (fun _ => rfl)

theorem inMem_set {n : ℕ} (h) : (inMem n h).view.set = inRow n := (View.set_slice_whole _ _).trans (in_set h)
theorem outMem_set {s : ℕ} (h) : (outMem s h).view.set = outRow s := (View.set_slice_whole _ _).trans (out_set h)

/-- Row `n` of the packed activations, copied into every row of a result. -/
def spread (fp : S8192x1152.Idx → BitVec 32) (n : ℕ) (hn : n < 8192) : S16384x1152.Idx → BitVec 32 :=
  fun y => fp (ix2 (⟨n, hn⟩ : Fin 8192) (y 1 : Fin 1152))

/-- What the copy leaves in the slot's row. -/
theorem copied {n s : ℕ} (h h') (hn : n < 8192) (fp : S8192x1152.Idx → BitVec 32) (f0 : S16384x1152.Idx → BitVec 32) :
    ∀ y ∈ outRow s, (outMem s h').view.write (Elt F) f0 ((inMem n h).view.read (Elt F) fp) Finset.univ y = spread fp n hn y := by
  intro y hy
  rw [← outMem_set h'] at hy
  obtain ⟨x, -, rfl⟩ := Finset.mem_map.mp hy
  have e := View.write_emb_of_mem (v := (outMem s h').view) (Val := Elt F) f0 ((inMem n h).view.read (Elt F) fp) (Finset.mem_univ x)
  refine e.trans ?_
  unfold spread
  show fp _ = fp _
  congr 1
  funext a
  fin_cases a
  · apply Fin.ext
    have : (x 0).val < 1 := (x 0).isLt
    show n + 1 * (x 0).val = n
    omega
  · rfl

/-- What one copy's number stands for: the slot's row of the result and a share of the token's packed row. -/
def piece (c : Dev nD) (fp : S8192x1152.Idx → BitVec 32) (f : S16384x1152.Idx → BitVec 32) (s n t : ℕ) : sProp 𝕄 :=
  iprop((((c : Thread nD τ).loc main_v0) ↦[outRow s]{fullShare} f)
    ∗ (((c : Thread nD τ).loc main_arg2) ↦[inRow n]{Transfers.shareTokN fullShare t} fp))

instance piece_storable (c : Dev nD) (fp f) (s n t : ℕ) : BI.Storable (upEmb : UEmb _ 𝕄) (piece (F := F) c fp f s n t) := by
  unfold piece; infer_instance

/-- What one row's copy adds to the semaphore. -/
def amt : ℕ := (outMem 0 inb_S16384x1152_S1x1152_0_0).view.dmaCredit
theorem amt_pos : 0 < amt := View.dmaCredit_pos _ (by decide)
theorem out_amount {s : ℕ} (h) : (outMem s h).view.dmaCredit = amt := rfl

/-- One copy, issued as transfer `j` of a batch. -/
theorem wp_issue (c : Dev nD) {n s : ℕ} (h h') (hn : n < 8192) (fp : S8192x1152.Idx → BitVec 32) (f0 f1 : S16384x1152.Idx → BitVec 32)
    (hf : ∀ y ∈ outRow s, f1 y = spread fp n hn y)
    {N t : ℕ} {D : Fin N → sProp 𝕄} {j : ℕ} (hj : j < N) (hD : D ⟨j, hj⟩ = piece c fp f1 s n t)
    {α : Type} {Q : α → sProp 𝕄} {k : PUnit → Prog (TpuEff nD τ sig (Elt F) Λ₀ .tc) α} {hsrc hdst hsem} :
    iprop(piece c fp f0 s n t ∗ Transfers.Batch EC (c : Thread nD τ) (.dma cc0_scratch0.sem) () amt D j 0)
      ⊢ iprop((Transfers.Batch EC (c : Thread nD τ) (.dma cc0_scratch0.sem) () amt D (j + 1) 0 -∗ wp frame (wpE (defs₀ (F := F)) Variants.none (c : Thread nD τ) none) Set.univ (k ⟨⟩) Q)
        -∗ wp frame (wpE (defs₀ (F := F)) Variants.none (c : Thread nD τ) none) Set.univ
          (.op (.enqueueDma (inMem n h) (.here (outMem s h')) (.dma cc0_scratch0.sem) hsrc hdst hsem) k) Q) := by
  have key := Transfers.wp_dmaBatch (Lvl := ℕ) (defs := defs₀ (F := F)) (Q := Q) EC Variants.none (c : Thread nD τ) none (src := inMem n h) (dst := outMem s h') (via := .same)
    (sm := .dma cc0_scratch0.sem) (hsrc := hsrc) (hdst := hdst) (hsem := hsem) (k := k) (q := Transfers.shareTokN fullShare t) (fs := fp)
    (Sd := (outMem s h').view.set) (fd := f0) (D := D) (j := j) (u := 0) () amt (out_amount h') (Finset.Subset.refl _) hj (Nat.zero_le _)
    (by
      rw [hD, inMem_set, outMem_set]
      unfold piece
      refine sep_mono (Entails.of_eq (pointsTo_congr fun y hy => ?_)) .rfl
      rw [hf y hy]
      exact copied h h' hn fp f0 y hy)
  rw [inMem_set, outMem_set] at key
  unfold piece
  iintro ⟨⟨Ho, Hi⟩, HB⟩
  iapply key
  isplitl [Hi]; · iexact Hi
  isplitl [Ho]; · iexact Ho
  iexact HB

/-- The same at the offsets the kernel computes. -/
theorem wp_issue_at (c : Dev nD) {n s : ℕ} {o o' : Fin 2 → ℕ} (ho : o = ![n, 0]) (ho' : o' = ![s, 0]) (h h') (hn : n < 8192)
    (fp : S8192x1152.Idx → BitVec 32) (f0 f1 : S16384x1152.Idx → BitVec 32)
    (hf : ∀ y ∈ outRow s, f1 y = spread fp n hn y)
    {N t : ℕ} {D : Fin N → sProp 𝕄} {j : ℕ} (hj : j < N) (hD : D ⟨j, hj⟩ = piece c fp f1 s n t)
    {α : Type} {Q : α → sProp 𝕄} {k : PUnit → Prog (TpuEff nD τ sig (Elt F) Λ₀ .tc) α} {hsrc hdst hsem} :
    iprop(piece c fp f0 s n t ∗ Transfers.Batch EC (c : Thread nD τ) (.dma cc0_scratch0.sem) () amt D j 0)
      ⊢ iprop((Transfers.Batch EC (c : Thread nD τ) (.dma cc0_scratch0.sem) () amt D (j + 1) 0 -∗ wp frame (wpE (defs₀ (F := F)) Variants.none (c : Thread nD τ) none) Set.univ (k ⟨⟩) Q)
        -∗ wp frame (wpE (defs₀ (F := F)) Variants.none (c : Thread nD τ) none) Set.univ
          (.op (.enqueueDma ((Memref.whole main_arg2).slice (Rect.unit (s := S8192x1152) o S1x1152.size h) (fun _ => rfl))
            (.here ((Memref.whole main_v0).slice (Rect.unit (s := S16384x1152) o' S1x1152.size h') (fun _ => rfl)))
            (.dma cc0_scratch0.sem) hsrc hdst hsem) k) Q) := by
  subst ho ho'
  exact wp_issue c h h' hn fp f0 f1 hf hj hD

end Cert.Hand
-- ==== Proof.Issue.lean ====
/-
  The two nested loops of one grid point that issue its copies: token by token, and within a token slot by slot, each
  copy the next transfer of one batch.
-/
module

public import proofs.«01_k».proof.Proof.Rows
public import proofs.«01_k».proof.Proof.Gen.DispatchIdeal.Loops

@[expose] public section

noncomputable section

namespace Cert.Hand

open Cert.DispatchIdeal Cert.DispatchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UC sig nD τ) ℕ

/-- The copies of a window are pieces by number. -/
def pieces (c : Dev nD) (T : Tables) (b : ℕ) (fp : S8192x1152.Idx → BitVec 32) (f : S16384x1152.Idx → BitVec 32) :
    Fin (T.slots b 512).length → sProp 𝕄 :=
  fun j => piece c fp f (T.slots b 512)[j.val] (T.idx (T.slots b 512)[j.val]) j.val

instance pieces_storable (c : Dev nD) (T : Tables) (b : ℕ) (fp f) (j) : BI.Storable (upEmb : UEmb _ 𝕄) (pieces (F := F) c T b fp f j) := by
  unfold pieces; infer_instance

/-- The batch of a window's copies with `j` issued and `u` units awaited. -/
def flight (c : Dev nD) (T : Tables) (b : ℕ) (fp : S8192x1152.Idx → BitVec 32) (f : S16384x1152.Idx → BitVec 32) (j u : ℕ) : sProp 𝕄 :=
  Transfers.Batch EC (c : Thread nD τ) (.dma cc0_scratch0.sem) () amt (pieces c T b fp f) j u

/-- A table's block in its staging buffer. -/
def held {s : Shape} (c : Dev nD) (a : Memref sig .tc .smem s .i32) (g : Buf (Elt F) (a.view.loc (c : Thread nD τ))) : sProp 𝕄 :=
  iprop(a.view.loc (c : Thread nD τ) ↦[a.view.set]{fullShare} g)

/-- What the tables' blocks of a window hold. -/
structure Blocks (T : Tables) (b : ℕ) (d0 : S1x512.Idx → BitVec 32) (d1 : S16x512.Idx → BitVec 32) : Prop where
  cnt : ∀ a (ha : a < 512), (d0 (ix2 (0 : Fin 1) (⟨a, ha⟩ : Fin 512))).toNat = T.cnt (b + a)
  dst : ∀ k (hk : k < 16) a (ha : a < 512), k < T.cnt (b + a) →
    (d1 (ix2 (⟨k, hk⟩ : Fin 16) (⟨a, ha⟩ : Fin 512))).toNat = T.dst k (b + a)

section Loops

variable (c : Dev nD) (T : Tables) (i : grid0.Coords)
  (arg1 : Memref sig .tc .smem S1x512 .i32) (harg1 : arg1.IsWhole) (arg2 : Memref sig .tc .smem S16x512 .i32) (harg2 : arg2.IsWhole)
  (harg3 : (Memref.whole main_arg2 : Memref sig .tc .hbm S8192x1152 .i32).IsWhole)
  (harg4 : (Memref.whole main_v0 : Memref sig .tc .hbm S16384x1152 .i32).IsWhole)
  (g0 : Buf (Elt F) (arg1.view.loc (c : Thread nD τ))) (g1 : Buf (Elt F) (arg2.view.loc (c : Thread nD τ)))
  (fp : S8192x1152.Idx → BitVec 32) (f0 f1 : S16384x1152.Idx → BitVec 32)

/-- The first token of the point's window. -/
abbrev base (i : grid0.Coords) : ℕ := 512 * (i 0).val

theorem base_le : base i + 512 ≤ 8192 := by
  have : (i 0).val < 16 := (i 0).isLt
  unfold base; omega

/-- The rows of the window's slots after the copies. -/
def Filled : Prop := ∀ y : S16384x1152.Idx, ∀ hn : T.idx (y 0).val < 8192,
  base i ≤ T.idx (y 0).val → T.idx (y 0).val < base i + 512 → f1 y = spread fp (T.idx (y 0).val) hn y

/-- Copy `k` of token `a`, issued as the next transfer of the window's batch. -/
theorem wp_issue_slot (hT : T.OK) (hf : Filled T i fp f1) {a k : ℕ} (ha : a < 512) (hk : k < T.cnt (base i + a))
    {o o' : Fin 2 → ℕ} (ho : o = ![base i + a, 0]) (ho' : o' = ![T.dst k (base i + a), 0]) (h h')
    {α : Type} {Q : α → sProp 𝕄} {kk : PUnit → Prog (TpuEff nD τ sig (Elt F) Λ₀ .tc) α} {hsrc hdst hsem} :
    iprop(pieces c T (base i) fp f0 ⟨(T.slots (base i) a).length + k, T.number_lt (base i) ha hk⟩
        ∗ flight c T (base i) fp f1 ((T.slots (base i) a).length + k) 0)
      ⊢ iprop((flight c T (base i) fp f1 ((T.slots (base i) a).length + k + 1) 0
          -∗ wp frame (wpE (defs₀ (F := F)) Variants.none (c : Thread nD τ) none) Set.univ (kk ⟨⟩) Q)
        -∗ wp frame (wpE (defs₀ (F := F)) Variants.none (c : Thread nD τ) none) Set.univ
          (.op (.enqueueDma ((Memref.whole main_arg2).slice (Rect.unit (s := S8192x1152) o S1x1152.size h) (fun _ => rfl))
            (.here ((Memref.whole main_v0).slice (Rect.unit (s := S16384x1152) o' S1x1152.size h') (fun _ => rfl)))
            (.dma cc0_scratch0.sem) hsrc hdst hsem) kk) Q) := by
  have hb := base_le i
  have hget := T.number_get (base i) (A := 512) ha hk (T.number_lt (base i) ha hk)
  have hfed := hT.fed (base i + a) (by omega) k hk
  have hpc (f) : pieces (F := F) c T (base i) fp f ⟨(T.slots (base i) a).length + k, T.number_lt (base i) ha hk⟩
      = piece c fp f (T.dst k (base i + a)) (base i + a) ((T.slots (base i) a).length + k) := by
    unfold pieces; simp only [hget, hfed]
  rw [hpc]
  unfold flight
  exact wp_issue_at c ho ho' h h' (by omega) fp f0 f1 (fun y hy => by
      rw [mem_outRow] at hy
      have := hf y (by rw [hy, hfed]; omega) (by rw [hy, hfed]; omega) (by rw [hy, hfed]; omega)
      rw [this]; unfold spread; simp only [hy, hfed]) (T.number_lt (base i) ha hk) (hpc f1)

/-- Before copy `k` of token `a`. -/
def slotInv (a : ℕ) (k : ℕ) (_ : Unit) : sProp 𝕄 :=
  iprop(flight c T (base i) fp f1 ((T.slots (base i) a).length + k) 0
    ∗ bigSep (Ring.rangeSet (T.slots (base i) 512).length ((T.slots (base i) a).length + k) (T.slots (base i) 512).length) (pieces c T (base i) fp f0)
    ∗ held c arg2 g1)

theorem slot_step (hT : T.OK) (hB : Blocks T (base i) (arg1.view.read (Elt F) g0) (arg2.view.read (Elt F) g1))
    (hf : Filled T i fp f1) (a : Fin k0_t1_loop.trips) (v9 : BitVec 32) (hv9 : v9.toNat = T.cnt (base i + a.val)) (hw1 : k0_chk1 a v9)
    (k : Fin (k0_t2_loop v9).trips) (acc : Unit) :
    slotInv c T i arg2 g1 fp f0 f1 a.val k.val acc
      ⊢ wp frame (wpE (defs₀ (F := F)) Variants.none (c : Thread nD τ) none) Set.univ
        (k0_t2_body i arg1 harg1 arg2 harg2 (Memref.whole main_arg2) harg3 (Memref.whole main_v0) harg4 cc0_scratch0 a v9 hw1 k acc)
        (slotInv c T i arg2 g1 fp f0 f1 a.val (k.val + 1)) := by
  have ha : a.val < 512 := lt_of_lt_of_eq a.isLt t1_trips
  have hb := base_le i
  have hc16 := hT.cnt_le (base i + a.val) (by omega)
  have hk : k.val < T.cnt (base i + a.val) := lt_of_lt_of_eq k.isLt ((t2_trips (by omega)).trans hv9)
  have hlt := T.number_lt (base i) (A := 512) ha hk
  have hget := T.number_get (base i) (A := 512) ha hk hlt
  unfold slotInv held
  rw [Ring.bigSep_rangeSet_head hlt hlt]
  iintro ⟨HB, ⟨Hp, HPs⟩, H2⟩
  sl_unfold [k0_t2_body]
  sl_exec
  have hs : (slot_step.sl.r c arg2 g1 a v9 hw1 k).toNat = T.dst k.val (base i + a.val) := by
    unfold slot_step.sl.r
    rw [← hB.dst k.val (by omega) a.val ha hk]
    congr 1
    show arg2.view.read (Elt F) g1 _ = arg2.view.read (Elt F) g1 _
    congr 1
    funext x
    apply Fin.ext
    have e := off2_eq a v9 (by omega) k
    fin_cases x
    · show k0_off2 a v9 k 0 + 1 * 0 = k.val
      rw [e]; rfl
    · show k0_off2 a v9 k 1 + 1 * 0 = a.val
      rw [e]; rfl
  have hlt' := hT.dst_lt (base i + a.val) (by omega) k.val hk
  have hfed := hT.fed (base i + a.val) (by omega) k.val hk
  iapply (wp_assume Variants.none (c : Thread nD τ) none Set.univ (chk2 _ (by rw [hs]; exact hlt')))
  sl_exec
  iapply (wp_issue_slot c T i fp f0 f1 hT hf ha hk (k0_off4_eq i a) ((off3_eq _).trans (by rw [hs])) _ _) $$ [Hp HB]
  · isplitl [Hp] <;> iassumption
  iintro HB
  sl_step
  isplitl [HB]; · iexact HB
  isplitl [HPs]; · iexact HPs
  iexact H2

/-- Before token `a`: the carried total counts the copies issued. -/
def tokInv (a : ℕ) (total : BitVec 32) : sProp 𝕄 :=
  iprop(⌜total.toNat = (T.slots (base i) a).length⌝
    ∗ flight c T (base i) fp f1 (T.slots (base i) a).length 0
    ∗ bigSep (Ring.rangeSet (T.slots (base i) 512).length (T.slots (base i) a).length (T.slots (base i) 512).length) (pieces c T (base i) fp f0)
    ∗ held c arg1 g0 ∗ held c arg2 g1)

theorem tok_step (hT : T.OK) (hB : Blocks T (base i) (arg1.view.read (Elt F) g0) (arg2.view.read (Elt F) g1))
    (hf : Filled T i fp f1) (a : Fin k0_t1_loop.trips) (total : BitVec 32) :
    tokInv c T i arg1 arg2 g0 g1 fp f0 f1 a.val total
      ⊢ wp frame (wpE (defs₀ (F := F)) Variants.none (c : Thread nD τ) none) Set.univ
        (k0_t1_body i arg1 harg1 arg2 harg2 (Memref.whole main_arg2) harg3 (Memref.whole main_v0) harg4 cc0_scratch0 a total)
        (tokInv c T i arg1 arg2 g0 g1 fp f0 f1 (a.val + 1)) := by
  have ha : a.val < 512 := lt_of_lt_of_eq a.isLt t1_trips
  have hb := base_le i
  have hc16 := hT.cnt_le (base i + a.val) (by omega)
  have hlen := hT.slots_length_le (b := base i) (a := a.val) (by omega)
  have hsucc := T.slots_succ_length (base i) a.val
  unfold tokInv
  iintro ⟨%htot, HB, HPs, H1, H2⟩
  unfold held
  sl_unfold [k0_t1_body]
  sl_exec
  have hs : (tok_step.sl.r c arg1 g0 a).toNat = T.cnt (base i + a.val) := by
    unfold tok_step.sl.r
    rw [← hB.cnt a.val ha]
    congr 1
    show arg1.view.read (Elt F) g0 _ = arg1.view.read (Elt F) g0 _
    congr 1
    funext x
    apply Fin.ext
    have e := k0_off1_eq a
    fin_cases x
    · show k0_off1 a 0 + 1 * 0 = 0
      rw [e]; rfl
    · show k0_off1 a 1 + 1 * 0 = a.val
      rw [e]; rfl
  have hw := chk1 a (tok_step.sl.r c arg1 g0 a) (by omega)
  iapply (wp_assume Variants.none (c : Thread nD τ) none Set.univ hw)
  sl_exec
  sl_for (slotInv c T i arg2 g1 fp f0 f1 a.val) $$ [HB HPs H2]
  · intro k acc
    exact slot_step c T i arg1 harg1 arg2 harg2 harg3 harg4 g0 g1 fp f0 f1 hT hB hf a _ hs hw k acc
  · unfold slotInv held
    isplitl [HB]; · iexact HB
    isplitl [HPs]; · iexact HPs
    iexact H2
  iintro %acc HL
  sl_exec
  sl_step
  have hadd : (tok_step.sl.v15 c arg1 g0 a total).toNat = (T.slots (base i) (a.val + 1)).length := by
    unfold tok_step.sl.v15
    show (total + tok_step.sl.r c arg1 g0 a).toNat = _
    rw [BitVec.toNat_add, htot, hs, hsucc]
    omega
  ihave HL' := (show slotInv c T i arg2 g1 fp f0 f1 a.val (k0_t2_loop (tok_step.sl.r c arg1 g0 a)).trips acc
      ⊢ iprop(flight c T (base i) fp f1 (T.slots (base i) (a.val + 1)).length 0
    ∗ bigSep (Ring.rangeSet (T.slots (base i) 512).length (T.slots (base i) (a.val + 1)).length (T.slots (base i) 512).length) (pieces c T (base i) fp f0)
    ∗ held c arg2 g1) from by
      unfold slotInv
      rw [t2_trips (by omega), hs, hsucc]) $$ HL
  icases HL' with ⟨HB, HPs, H2⟩
  unfold held
  isplitr; · ipureintro; exact hadd
  isplitl [HB]; · iexact HB
  isplitl [HPs]; · iexact HPs
  isplitl [H1]; · iexact H1
  iexact H2

/-- After `k` waits of the drain. -/
def drainInv (k : ℕ) (_ : Unit) : sProp 𝕄 :=
  iprop(flight c T (base i) fp f1 (T.slots (base i) 512).length (k * amt) ∗ ∃ W, owes (c : Thread nD τ) 0 W)

theorem drain_step (v2 : BitVec 32) (hv2 : v2.toNat = (T.slots (base i) 512).length) (hlt : v2.toNat < 2147483648) (hw4 : k0_chk4 v2)
    (k : Fin (k0_t4_loop v2).trips) (acc : Unit) :
    drainInv c T i fp f1 k.val acc
      ⊢ wp frame (wpE (defs₀ (F := F)) Variants.none (c : Thread nD τ) none) Set.univ
        (k0_t4_body i arg1 harg1 arg2 harg2 (Memref.whole main_arg2) harg3 (Memref.whole main_v0) harg4 cc0_scratch0 v2 hw4 k acc)
        (drainInv c T i fp f1 (k.val + 1)) := by
  have hk : k.val < (T.slots (base i) 512).length := lt_of_lt_of_eq k.isLt ((t4_trips hlt).trans hv2)
  have hu : k.val * amt + 1 * amt ≤ amt * (T.slots (base i) 512).length := by
    rw [← Nat.add_mul, Nat.mul_comm]; exact Nat.mul_le_mul_left _ hk
  unfold drainInv
  iintro ⟨HB, ⟨%W, HW⟩⟩
  sl_unfold [k0_t4_body]
  sl_exec
  unfold flight
  iapply (Transfers.wp_waitBatchMul (Lvl := ℕ) (defs := defs₀ (F := F)) EC Variants.none (c : Thread nD τ) none () (N := amt) 1
    ((out_amount inb_S16384x1152_S1x1152_0_0).trans (Nat.one_mul _).symm) hu) $$ [HB HW]
  · isplitl [HB] <;> iassumption
  iintro ⟨HB, HW⟩
  sl_step
  isplitl [HB]
  · rw [Nat.add_mul]; iexact HB
  iexists _; iexact HW

end Loops

end Cert.Hand
-- ==== Proof.Body.lean ====
/-
  One grid point of the dispatch: the result and the packed activations are cut into the pieces of the window's copies,
  the copies issued and awaited, and the pieces put back.
-/
module

public import proofs.«01_k».proof.Proof.Issue

@[expose] public section

noncomputable section

namespace Cert.Hand

open Cert.DispatchIdeal Cert.DispatchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UC sig nD τ) ℕ

section Cut

variable (c : Dev nD) (T : Tables) (b : ℕ) (fp : S8192x1152.Idx → BitVec 32) (f : S16384x1152.Idx → BitVec 32)

/-- The rows of the window's slots. -/
def winRows : Finset S16384x1152.Idx :=
  (Finset.univ : Finset (Fin (T.slots b 512).length)).biUnion fun j => outRow (T.slots b 512)[j.val]

/-- What no copy of the window needs: the other rows of the result, the other rows of each copy's share of the
    packed activations, and what is left of their share. -/
def rest : sProp 𝕄 :=
  iprop((((c : Thread nD τ).loc main_v0) ↦[Finset.univ \ winRows T b]{fullShare} f)
    ∗ (((c : Thread nD τ).loc main_arg2) ↦{Transfers.shareDrop fullShare (T.slots b 512).length} fp)
    ∗ bigSep Finset.univ fun j : Fin (T.slots b 512).length =>
        ((c : Thread nD τ).loc main_arg2) ↦[Finset.univ \ inRow (T.idx (T.slots b 512)[j.val])]{Transfers.shareTokN fullShare j.val} fp)

theorem cut_out (hnd : (T.slots b 512).Nodup) :
    (((c : Thread nD τ).loc main_v0) ↦{fullShare} f : sProp 𝕄)
      = iprop((bigSep Finset.univ fun j : Fin (T.slots b 512).length => ((c : Thread nD τ).loc main_v0) ↦[outRow (T.slots b 512)[j.val]]{fullShare} f)
          ∗ (((c : Thread nD τ).loc main_v0) ↦[Finset.univ \ winRows T b]{fullShare} f)) := by
  have h1 := pointsTo_split_subset (Ix := Unit) (Name := ℕ) (U := Pipeline.UC sig nD τ) (Lvl := ℕ) (Val := Elt F)
    (ℓ := (c : Thread nD τ).loc main_v0) (q := fullShare) (f := f) (Finset.subset_univ (winRows T b))
  refine (Entails.antisymm h1.1 h1.2).trans ?_
  congr 1
  refine pointsTo_biUnion (ℓ := (c : Thread nD τ).loc main_v0) (Finset.univ : Finset (Fin (T.slots b 512).length)) _ ?_
  intro j _ j' _ hne
  refine outRow_disjoint fun e => hne (Fin.ext ?_)
  exact (List.Nodup.getElem_inj_iff hnd).mp e

theorem cut_in :
    (((c : Thread nD τ).loc main_arg2) ↦{fullShare} fp : sProp 𝕄)
      = iprop((((c : Thread nD τ).loc main_arg2) ↦{Transfers.shareDrop fullShare (T.slots b 512).length} fp)
        ∗ ((bigSep Finset.univ fun j : Fin (T.slots b 512).length =>
          ((c : Thread nD τ).loc main_arg2) ↦[inRow (T.idx (T.slots b 512)[j.val])]{Transfers.shareTokN fullShare j.val} fp)
        ∗ bigSep Finset.univ fun j : Fin (T.slots b 512).length =>
          ((c : Thread nD τ).loc main_arg2) ↦[Finset.univ \ inRow (T.idx (T.slots b 512)[j.val])]{Transfers.shareTokN fullShare j.val} fp)) := by
  have h1 := Transfers.pointsTo_toks_range (Ix := Unit) (Name := ℕ) (U := Pipeline.UC sig nD τ) (Lvl := ℕ) (Val := Elt F)
    (ℓ := (c : Thread nD τ).loc main_arg2) (S := Finset.univ) (f := fp) fullShare (T.slots b 512).length
  refine (Entails.antisymm h1.1 h1.2).trans ?_
  congr 1
  refine (Ring.bigSep_fin_eq_range (T.slots b 512).length (fun j => ((c : Thread nD τ).loc main_arg2) ↦{Transfers.shareTokN fullShare j.val} fp) _
    (fun _ _ => rfl)).symm.trans ?_
  refine (bigSep_congr fun j _ => ?_).trans (bigSep_sep _ _ _)
  have h2 := pointsTo_split_subset (Ix := Unit) (Name := ℕ) (U := Pipeline.UC sig nD τ) (Lvl := ℕ) (Val := Elt F)
    (ℓ := (c : Thread nD τ).loc main_arg2) (q := Transfers.shareTokN fullShare j.val) (f := fp)
    (Finset.subset_univ (inRow (T.idx (T.slots b 512)[j.val])))
  exact Entails.antisymm h2.1 h2.2

theorem pieces_eq :
    (bigSep Finset.univ (pieces c T b fp f) : sProp 𝕄)
      = iprop((bigSep Finset.univ fun j : Fin (T.slots b 512).length => ((c : Thread nD τ).loc main_v0) ↦[outRow (T.slots b 512)[j.val]]{fullShare} f)
        ∗ bigSep Finset.univ fun j : Fin (T.slots b 512).length =>
          ((c : Thread nD τ).loc main_arg2) ↦[inRow (T.idx (T.slots b 512)[j.val])]{Transfers.shareTokN fullShare j.val} fp) :=
  bigSep_sep Finset.univ _ _

theorem cut (hnd : (T.slots b 512).Nodup) :
    iprop((((c : Thread nD τ).loc main_arg2) ↦{fullShare} fp) ∗ (((c : Thread nD τ).loc main_v0) ↦{fullShare} f))
      ⊢ (iprop(bigSep Finset.univ (pieces c T b fp f) ∗ rest c T b fp f) : sProp 𝕄) := by
  rw [cut_out c T b f hnd, cut_in c T b fp, pieces_eq]
  unfold rest
  iintro ⟨⟨Hd, Hi, Hir⟩, Ho, Hor⟩
  isplitl [Hi Ho]
  · isplitl [Ho] <;> iassumption
  isplitl [Hor]; · iexact Hor
  isplitl [Hd] <;> iassumption

theorem uncut (hnd : (T.slots b 512).Nodup) :
    (iprop(bigSep Finset.univ (pieces c T b fp f) ∗ rest c T b fp f) : sProp 𝕄)
      ⊢ iprop((((c : Thread nD τ).loc main_arg2) ↦{fullShare} fp) ∗ (((c : Thread nD τ).loc main_v0) ↦{fullShare} f)) := by
  rw [cut_out c T b f hnd, cut_in c T b fp, pieces_eq]
  unfold rest
  iintro ⟨⟨Ho, Hi⟩, Hor, Hd, Hir⟩
  isplitl [Hi Hir Hd]
  · isplitl [Hd]; · iexact Hd
    isplitl [Hi] <;> iassumption
  isplitl [Ho] <;> iassumption

theorem rest_congr {f f' : S16384x1152.Idx → BitVec 32} (h : ∀ y, y ∉ winRows T b → f y = f' y) :
    (rest c T b fp f : sProp 𝕄) = rest c T b fp f' := by
  unfold rest
  rw [pointsTo_congr fun y hy => h y (Finset.mem_sdiff.mp hy).2]

theorem mem_winRows (hT : T.OK) (hb : b + 512 ≤ 8192) (y : S16384x1152.Idx) :
    y ∈ winRows T b ↔ b ≤ T.idx (y 0).val ∧ T.idx (y 0).val < b + 512 := by
  have hy : (y 0).val < 16384 := (y 0).isLt
  have hm := hT.mem_slots (s := (y 0).val) hb
  unfold winRows
  simp only [Finset.mem_biUnion, Finset.mem_univ, true_and, mem_outRow]
  constructor
  · rintro ⟨j, e⟩
    exact (hm.mp (e ▸ List.getElem_mem _)).2
  · intro h
    obtain ⟨j, hj, e⟩ := List.mem_iff_getElem.mp (hm.mpr ⟨hy, h⟩)
    exact ⟨⟨j, hj⟩, e.symm⟩

end Cut

section Body

variable (c : Dev nD) (T : Tables) (i : grid0.Coords)
  (arg1 : Memref sig .tc .smem S1x512 .i32) (harg1 : arg1.IsWhole) (arg2 : Memref sig .tc .smem S16x512 .i32) (harg2 : arg2.IsWhole)
  (harg3 : (Memref.whole main_arg2 : Memref sig .tc .hbm S8192x1152 .i32).IsWhole)
  (harg4 : (Memref.whole main_v0 : Memref sig .tc .hbm S16384x1152 .i32).IsWhole)
  (g0 : Buf (Elt F) (arg1.view.loc (c : Thread nD τ))) (g1 : Buf (Elt F) (arg2.view.loc (c : Thread nD τ)))
  (fp : S8192x1152.Idx → BitVec 32) (f0 f1 : S16384x1152.Idx → BitVec 32)

/-- ONE GRID POINT: from the tables' blocks, the packed activations, the result at `f0` and the semaphore at zero, the
    body runs to the same with the result at `f1`. -/
theorem body_run (hT : T.OK) (hB : Blocks T (base i) (arg1.view.read (Elt F) g0) (arg2.view.read (Elt F) g1))
    (hf : Filled T i fp f1) (hold : ∀ y : S16384x1152.Idx, ¬ (base i ≤ T.idx (y 0).val ∧ T.idx (y 0).val < base i + 512) → f1 y = f0 y)
    (W : Waits sig Unit) :
    iprop(held c arg1 g0 ∗ held c arg2 g1 ∗ (((c : Thread nD τ).loc main_arg2) ↦{fullShare} fp)
        ∗ (((c : Thread nD τ).loc main_v0) ↦{fullShare} f0) ∗ semVal ((c : Thread nD τ), SemLoc.dma cc0_scratch0.sem) 0
        ∗ owes (c : Thread nD τ) 0 W)
      ⊢ wp frame (wpE (defs₀ (F := F)) Variants.none (c : Thread nD τ) none) Set.univ
        (cc0_dispatch i arg1 harg1 arg2 harg2 (Memref.whole main_arg2) harg3 (Memref.whole main_v0) harg4 cc0_scratch0)
        (fun _ => iprop(held c arg1 g0 ∗ held c arg2 g1 ∗ (((c : Thread nD τ).loc main_arg2) ↦{fullShare} fp)
        ∗ (((c : Thread nD τ).loc main_v0) ↦{fullShare} f1) ∗ semVal ((c : Thread nD τ), SemLoc.dma cc0_scratch0.sem) 0
        ∗ ∃ W', owes (c : Thread nD τ) 0 W')) := by
  have hb := base_le i
  have hnd := hT.slots_nodup (b := base i) (a := 512) hb
  have hlen := hT.slots_length_le (b := base i) (a := 512) hb
  rw [cc0_dispatch_eq_skeleton]
  iintro ⟨H1, H2, Hp, Ho, Hs, HW⟩
  ihave Hc := (cut c T (base i) fp f0 hnd) $$ [Hp Ho]
  · isplitl [Hp] <;> iassumption
  icases Hc with ⟨HPs, Hr⟩
  imod (Transfers.batch_alloc' (Lvl := ℕ) EC (c : Thread nD τ) () amt (pieces c T (base i) fp f1) (sm := .dma cc0_scratch0.sem) (E := Set.univ)) $$ Hs with HB
  sl_unfold [cc0_dispatch_skel]
  sl_for (tokInv c T i arg1 arg2 g0 g1 fp f0 f1) $$ [HB HPs H1 H2]
  · intro k acc
    exact tok_step c T i arg1 harg1 arg2 harg2 harg3 harg4 g0 g1 fp f0 f1 hT hB hf k acc
  · unfold tokInv
    isplitr; · ipureintro; rfl
    isplitl [HB]; · unfold flight; iexact HB
    isplitl [HPs]
    · rw [T.slots_zero, List.length_nil, Ring.rangeSet_univ]; iexact HPs
    isplitl [H1] <;> iassumption
  iintro %v2 HL
  ihave HL' := (show tokInv c T i arg1 arg2 g0 g1 fp f0 f1 k0_t1_loop.trips v2
      ⊢ iprop(⌜v2.toNat = (T.slots (base i) 512).length⌝ ∗ flight c T (base i) fp f1 (T.slots (base i) 512).length 0
        ∗ held c arg1 g0 ∗ held c arg2 g1) from by
      unfold tokInv
      rw [t1_trips]
      iintro ⟨Hv, HB, -, H1, H2⟩
      isplitl [Hv]; · iexact Hv
      isplitl [HB]; · iexact HB
      isplitl [H1] <;> iassumption) $$ HL
  icases HL' with ⟨%hv2, HB, H1, H2⟩
  sl_exec
  sl_for (drainInv c T i fp f1) $$ [HB HW]
  · intro k acc
    exact drain_step c T i arg1 harg1 arg2 harg2 harg3 harg4 fp f1 v2 hv2 (by omega) _ k acc
  · unfold drainInv
    isplitl [HB]
    · rw [Nat.zero_mul]; iexact HB
    iexists W; iexact HW
  iintro %acc HL
  ihave HL' := (show drainInv c T i fp f1 (k0_t4_loop v2).trips acc
      ⊢ iprop(Transfers.Batch EC (c : Thread nD τ) (.dma cc0_scratch0.sem) () amt (pieces c T (base i) fp f1)
          (T.slots (base i) 512).length (amt * (T.slots (base i) 512).length) ∗ ∃ W, owes (c : Thread nD τ) 0 W) from by
      unfold drainInv flight
      rw [t4_trips (by omega), hv2, Nat.mul_comm]) $$ HL
  icases HL' with ⟨HB, HW⟩
  imod (Transfers.batch_collect' EC (c : Thread nD τ) amt_pos) $$ HB with ⟨HPs, Hs⟩
  sl_exec
  sl_step
  ihave Hr' := (show rest c T (base i) fp f0 ⊢ rest c T (base i) fp f1 from by
      rw [rest_congr c T (base i) fp fun y hy => (hold y fun h => hy ((mem_winRows T (base i) hT hb y).mpr h)).symm]) $$ Hr
  ihave Hc := (uncut c T (base i) fp f1 hnd) $$ [HPs Hr']
  · isplitl [HPs] <;> iassumption
  icases Hc with ⟨Hp, Ho⟩
  isplitl [H1]; · iexact H1
  isplitl [H2]; · iexact H2
  isplitl [Hp]; · iexact Hp
  isplitl [Ho]; · iexact Ho
  isplitl [Hs]; · iexact Hs
  iexact HW

end Body

end Cert.Hand
-- ==== Proof.Run.lean ====
/-
  The run of the dispatch: at every grid point the window's rows are copied, so that after the last the result holds
  at every slot its token's row, the packed activations are as they were and the semaphore is at zero.
-/
module

public import proofs.«01_k».proof.Proof.Body
public import proofs.«01_k».proof.Proof.Gen.DispatchIdeal.Frame
public import Idealize.ShloMosaic.Lib.Pipeline.Routed
public import Idealize.ShloMosaic.Lib.Pipeline.Value

@[expose] public section

noncomputable section

namespace Cert.Hand

open Cert.DispatchIdeal Cert.DispatchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UC sig nD τ) ℕ

/-! ## The tables of a memory -/

/-- The routing tables three integer arrays hold. -/
def tab (a0 : S1x8192.Idx → BitVec 32) (a1 : S16x8192.Idx → BitVec 32) (a3 : S16x1024.Idx → BitVec 32) : Tables where
  cnt n := if h : n < 8192 then (a0 (ix2 (0 : Fin 1) (⟨n, h⟩ : Fin 8192))).toNat else 0
  dst k n := if h : k < 16 ∧ n < 8192 then (a1 (ix2 (⟨k, h.1⟩ : Fin 16) (⟨n, h.2⟩ : Fin 8192))).toNat else 0
  idx s := if h : s < 16384 then (a3 (ix2 (⟨s / 1024, by omega⟩ : Fin 16) (⟨s % 1024, by omega⟩ : Fin 1024))).toNat else 0

/-- The result once the tokens below `b` are copied. -/
def upTo (T : Tables) (fp : S8192x1152.Idx → BitVec 32) (f0 : S16384x1152.Idx → BitVec 32) (b : ℕ) : S16384x1152.Idx → BitVec 32 :=
  fun y => if h : T.idx (y 0).val < b ∧ T.idx (y 0).val < 8192 then spread fp (T.idx (y 0).val) h.2 y else f0 y

theorem upTo_zero (T : Tables) (fp : S8192x1152.Idx → BitVec 32) (f0 : S16384x1152.Idx → BitVec 32) : upTo T fp f0 0 = f0 := by
  funext y; unfold upTo; rw [dif_neg (by omega)]

/-! ## The proof data -/

variable (m : (ℓ : Loc nD τ sig) → Buf (Elt F) ℓ) (ρ : Dev nD → PrngReg)

abbrev mCnt (c : Dev nD) : S1x8192.Idx → BitVec 32 := m ((c : Thread nD τ).loc main_arg0)
abbrev mDst (c : Dev nD) : S16x8192.Idx → BitVec 32 := m ((c : Thread nD τ).loc main_arg1)
abbrev mRows (c : Dev nD) : S8192x1152.Idx → BitVec 32 := m ((c : Thread nD τ).loc main_arg2)
abbrev mTok (c : Dev nD) : S16x1024.Idx → BitVec 32 := m ((c : Thread nD τ).loc main_arg3)
abbrev mOut (c : Dev nD) : S16384x1152.Idx → BitVec 32 := m ((c : Thread nD τ).loc main_v0)
/-- Core `c`'s tables. -/
abbrev mTab (c : Dev nD) : Tables := tab (mCnt m c) (mDst m c) (mTok m c)
/-- The result before grid point `t`. -/
abbrev outAt (c : Dev nD) (t : ℕ) : S16384x1152.Idx → BitVec 32 := upTo (mTab m c) (mRows m c) (mOut m c) (512 * t)

/-- What the body holds before grid point `t` beside the windows. -/
def Mid (c : Dev nD) (t : ℕ) (_ : t ≤ cfg0.N) : sProp 𝕄 :=
  iprop((((c : Thread nD τ).loc main_arg2) ↦{fullShare} mRows m c) ∗ (((c : Thread nD τ).loc main_v0) ↦{fullShare} outAt m c t)
    ∗ semVal ((c : Thread nD τ), SemLoc.dma cc0_scratch0.sem) 0 ∗ ∃ r, prngReg c r)

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
  Φ t := Mid m c t.val (Nat.le_of_lt_succ t.isLt)
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans (by unfold Dat.fetched Dat.blockOf iblk; rw [A_eq]; rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]) t d).trans (by unfold Dat.fetched Dat.blockOf iblk; rw [A_eq]; rfl)

theorem Phi_castSucc (c : Dev nD) (t : Fin cfg0.N) : (dats m 0 c).Φ t.castSucc = Mid m c t.val (Nat.le_of_lt t.isLt) := by
  dsimp only [dats]; exact Pipeline.Dat.Φ_castSucc (Mid m c) t
theorem Phi_succ (c : Dev nD) (t : Fin cfg0.N) : (dats m 0 c).Φ t.succ = Mid m c (t.val + 1) t.isLt := by
  dsimp only [dats]; rfl

/-! ## The blocks -/

theorem coord_eq : ∀ t : Fin cfg0.N, ((grid0.coords t) 0).val = t.val := by decide
theorem index0 : ∀ t : Fin cfg0.N, (cfg0.win 0).index t (0 : Fin 2) = 0 ∧ (cfg0.win 0).index t (1 : Fin 2) = t.val := by decide
theorem index1 : ∀ t : Fin cfg0.N, (cfg0.win 1).index t (0 : Fin 2) = 0 ∧ (cfg0.win 1).index t (1 : Fin 2) = t.val := by decide

theorem iblk0_eq (c : Dev nD) (t : Fin cfg0.N) (a : ℕ) (ha : a < 512) (hn : 512 * t.val + a < 8192) :
    iblk m c 0 t (ix2 (0 : Fin 1) (⟨a, ha⟩ : Fin 512)) = mCnt m c (ix2 (0 : Fin 1) (⟨512 * t.val + a, hn⟩ : Fin 8192)) := by
  unfold iblk
  refine congrArg (m ((c : Thread nD τ).loc main_arg0)) ?_
  funext b
  apply Fin.ext
  have h := (cfg0.win 0).rect_emb_val t (ix2 (0 : Fin 1) (⟨a, ha⟩ : Fin 512)) b
  refine h.trans ?_
  match b with
  | ⟨0, _⟩ => exact (congrArg (fun z => z * 1 + 0) (index0 t).1).trans rfl
  | ⟨1, _⟩ => exact (congrArg (fun z => z * 512 + a) (index0 t).2).trans (by show t.val * 512 + a = 512 * t.val + a; omega)

theorem iblk1_eq (c : Dev nD) (t : Fin cfg0.N) (k : ℕ) (hk : k < 16) (a : ℕ) (ha : a < 512) (hn : 512 * t.val + a < 8192) :
    iblk m c 1 t (ix2 (⟨k, hk⟩ : Fin 16) (⟨a, ha⟩ : Fin 512)) = mDst m c (ix2 (⟨k, hk⟩ : Fin 16) (⟨512 * t.val + a, hn⟩ : Fin 8192)) := by
  unfold iblk
  refine congrArg (m ((c : Thread nD τ).loc main_arg1)) ?_
  funext b
  apply Fin.ext
  have h := (cfg0.win 1).rect_emb_val t (ix2 (⟨k, hk⟩ : Fin 16) (⟨a, ha⟩ : Fin 512)) b
  refine h.trans ?_
  match b with
  | ⟨0, _⟩ => exact (congrArg (fun z => z * 16 + k) (index1 t).1).trans (by show 0 * 16 + k = k; omega)
  | ⟨1, _⟩ => exact (congrArg (fun z => z * 512 + a) (index1 t).2).trans (by show t.val * 512 + a = 512 * t.val + a; omega)

theorem base_eq (t : Fin cfg0.N) : base (grid0.coords t) = 512 * t.val := by unfold base; rw [coord_eq]

theorem blocks (c : Dev nD) (t : Fin cfg0.N) : Blocks (mTab m c) (base (grid0.coords t)) (iblk m c 0 t) (iblk m c 1 t) := by
  have hN : t.val < 16 := lt_of_lt_of_eq t.isLt N_0
  rw [base_eq]
  constructor
  · intro a ha
    rw [iblk0_eq m c t a ha (by omega)]
    show _ = (tab _ _ _).cnt _
    unfold tab; dsimp only
    rw [dif_pos (by omega : 512 * t.val + a < 8192)]
  · intro k hk a ha _
    rw [iblk1_eq m c t k hk a ha (by omega)]
    show _ = (tab _ _ _).dst _ _
    unfold tab; dsimp only
    rw [dif_pos (⟨hk, by omega⟩ : k < 16 ∧ 512 * t.val + a < 8192)]

/-! ## The body's triple -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (hT : (mTab m c).OK) (t : Fin cfg0.N) :
    bodyPre m c t ⊢ wp frame (wpE (defs₀ (F := F)) Variants.none c none) Set.univ (bodyAt0 t) (fun _ => bodyPost m c t) := by
  unfold bodyPre bodyPost bodyAt0
  rw [Phi_castSucc, Phi_succ, after0, after1]
  unfold Dat.owesAt Pipeline.owesWithin Mid
  rw [show (dats m 0 c).owed t.castSucc = 0 from rfl, show (dats m 0 c).owed t.succ = 0 from rfl]
  iintro ⟨⟨Hp, Ho, Hs, Hg⟩, ⟨%W, -, HW⟩, ⟨%d0, H0⟩, ⟨%d1, H1⟩⟩
  ihave H0' := (show owns (c : Thread nD τ) (st0_0 t) fullShare ((dats m 0 c).before 0 t d0)
      ⊢ iprop(∃ g0, ⌜(st0_0 t).view.read (Elt F) g0 = iblk m c 0 t⌝ ∗ held c (st0_0 t) g0) from by
    rw [before0]; unfold owns held; exact .rfl) $$ H0
  ihave H1' := (show owns (c : Thread nD τ) (st0_1 t) fullShare ((dats m 0 c).before 1 t d1)
      ⊢ iprop(∃ g1, ⌜(st0_1 t).view.read (Elt F) g1 = iblk m c 1 t⌝ ∗ held c (st0_1 t) g1) from by
    rw [before1]; unfold owns held; exact .rfl) $$ H1
  icases H0' with ⟨%g0, %hg0, H0⟩
  icases H1' with ⟨%g1, %hg1, H1⟩
  have hB := blocks m c t
  have hN : t.val < 16 := lt_of_lt_of_eq t.isLt N_0
  have hb := base_eq t
  rw [← hg0, ← hg1] at hB
  ihave Hwp := (body_run c (mTab m c) (grid0.coords t) _ (hstage0_0 ((cfg0.slots t 0).cast nbuf0_0)) _ (hstage0_1 ((cfg0.slots t 1).cast nbuf0_1))
    (Memref.isWhole_whole _) (Memref.isWhole_whole _) g0 g1 (mRows m c) (outAt m c t.val) (outAt m c (t.val + 1)) hT hB
    (by
      intro y hn h1 h2
      unfold outAt upTo
      rw [dif_pos ⟨by omega, hn⟩])
    (by
      intro y h
      unfold outAt upTo
      by_cases h1 : (mTab m c).idx (y 0).val < 512 * t.val ∧ (mTab m c).idx (y 0).val < 8192
      · rw [dif_pos h1, dif_pos ⟨by omega, h1.2⟩]
      · rw [dif_neg h1, dif_neg (by omega)])
    W) $$ [H0 H1 Hp Ho Hs HW]
  · isplitl [H0]; · iexact H0
    isplitl [H1]; · iexact H1
    isplitl [Hp]; · iexact Hp
    isplitl [Ho]; · iexact Ho
    isplitl [Hs] <;> iassumption
  iapply (wp_wand_r Idealize.ShloMosaic.frame (wpE (defs₀ (F := F)) Variants.none (c : Thread nD τ) none) (E := Set.univ))
  isplitl [Hwp]; · iexact Hwp
  iintro %_ ⟨H0, H1, Hp, Ho, Hs, ⟨%W', HW'⟩⟩
  isplitl [Hp Ho Hs Hg]
  · isplitl [Hp]; · iexact Hp
    isplitl [Ho]; · iexact Ho
    isplitl [Hs] <;> iassumption
  isplitl [HW']
  · iexists W'; isplitr; · ipureintro; exact fun _ _ => Or.inl trivial
    iexact HW'
  isplitl [H0]
  · iapply (show held c (st0_0 t) g0 ⊢ owns (c : Thread nD τ) (st0_0 t) fullShare (iblk m c 0 t) from by
      unfold owns held
      iintro H
      iexists g0
      isplitr; · ipureintro; exact hg0
      iexact H)
    iexact H0
  · iapply (show held c (st0_1 t) g1 ⊢ owns (c : Thread nD τ) (st0_1 t) fullShare (iblk m c 1 t) from by
      unfold owns held
      iintro H
      iexists g1
      isplitr; · ipureintro; exact hg1
      iexact H)
    iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) (hT : (mTab m c).OK) :
    BodyObligation (dats (F := F) m 0 c) (defs₀ (F := F)) Variants.none () Set.univ := fun t => by
  rw [bigSep_W0, bigSep_W0, defs₀_row]
  exact triple_restated (sound_body m c hT t) rfl .rfl fun _ => .rfl

/-! ## The run -/

abbrev osem0 : Fin 1 → SemLoc sig := fun _ => SemLoc.dma cc0_scratch0.sem
theorem ownSemFacts0 : Pipeline.OwnSemFacts spec0 osem0 := by decide
theorem ownSems00_eq (c : Dev nD) :
    (Pipeline.ownSems0 (Ix := Unit) (Name := ℕ) (U := Pipeline.UC sig nD τ) (Lvl := ℕ) (Val := Elt F) osem0 c : sProp 𝕄)
      = semVal ((c : Thread nD τ), SemLoc.dma cc0_scratch0.sem) 0 := by
  rw [Pipeline.ownSems0_eq_of_list c osem0 [0] (by decide) (by decide)]; rfl

/-- The two buffers the body's own copies touch. -/
def R0 : Finset (Ref sig .tc) := {main_arg2, main_v0}

/-- Their contents at the end. -/
def endAt (c : Dev nD) (b : Ref sig .tc) : Buf (Elt F) ((c : Thread nD τ).loc b) :=
  if h : b = main_v0 then h ▸ outAt m c 16 else V m c b

theorem routed0_eq (c : Dev nD) (W : (b : Ref sig .tc) → Buf (Elt F) ((c.tc : Thread nD τ).loc b)) :
    (Pipeline.routed R0 c W : sProp 𝕄)
      = iprop((((c : Thread nD τ).loc main_arg2) ↦{fullShare} W main_arg2) ∗ (((c : Thread nD τ).loc main_v0) ↦{fullShare} W main_v0)) := by
  unfold Pipeline.routed
  rw [BI.bigSep_eq_bigSepL_of_eq [main_arg2, main_v0] (by decide) (by decide)]; rfl

theorem hin (c : Dev nD) : Pipeline.Ends spec0 osem0 R0 c (V m c) ⊢ (dats m 0 c).Φ 0 := by
  rw [show (dats m 0 c).Φ 0 = Mid m c 0 (Nat.zero_le _) from rfl]
  unfold Pipeline.Ends Mid
  rw [routed0_eq, ownSems00_eq, show outAt m c 0 = mOut m c from upTo_zero _ _ _]
  iintro ⟨⟨Hp, Ho⟩, Hs, -, Hg⟩
  isplitl [Hp]; · iexact Hp
  isplitl [Ho]; · iexact Ho
  isplitl [Hs] <;> iassumption

theorem hout (c : Dev nD) : (dats m 0 c).Φ (Fin.last cfg0.N) ⊢ Pipeline.Ends spec0 osem0 R0 c (endAt m c) := by
  rw [show (dats m 0 c).Φ (Fin.last cfg0.N) = Mid m c cfg0.N (Nat.le_refl _) from rfl]
  unfold Pipeline.Ends Mid
  rw [routed0_eq, ownSems00_eq, scopedRest0_eq, show cfg0.N = 16 from N_0,
    show endAt m c main_arg2 = V m c main_arg2 from dif_neg (by decide), show endAt m c main_v0 = outAt m c 16 from dif_pos rfl]
  iintro ⟨Hp, Ho, Hs, Hg⟩
  isplitl [Hp Ho]
  · isplitl [Hp] <;> iassumption
  isplitl [Hs]; · iexact Hs
  isplitr; · iempintro
  iexact Hg

set_option backward.isDefEq.respectTransparency.types false in
theorem run_main (hT : ∀ c, (mTab m c).OK) :
    θ_run defs (onTc (τ := τ) (main (F := F))) (s₀ m ρ)
      (fun r => Pipeline.RoutedPost cfgs (dats m) 0 R0 (V m) (endAt m) r ∧ r.2.sem = fun _ => 0) :=
  Pipeline.θ_run_frame_routed (Q' := _) cfgs (dats m) (0 : Fin 1) launch0 ownSemFacts0 defs₀ Variants.none m ρ main
    (hbody := fun c => (body_obligation m c (hT c)).loose) (hshare := fun c => (dats m 0 c).share_full fun _ => rfl)
    (howed := fun _ _ => rfl) (V := V m)
    (hmain := Pipeline.hmain_region cfgs 0 defs₀ Variants.none m main fun c => (main_chain c).trans rfl) (hA := A_eq m)
    (R := R0) (hR := by decide) (Y := endAt m) (hin := hin m) (hout := hout m) (hQ' := fun _ h => h)

/-- THE RUN, read at the program's arrays. -/
theorem run (hT : ∀ c, (mTab m c).OK) :
    θ_run defs (onTc (τ := τ) (main (F := F))) ⟨m, fun _ => 0, ρ⟩ (fun r => (∀ c : Dev nD,
      r.2.mem ((c.tc : Thread nD τ).loc main_v0) = outAt m c 16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hz⟩ => ⟨fun c => ⟨((h c).2.1 main_v0 (by decide)).trans (dif_pos rfl),
      ((h c).1 0).trans (((dats m 0 c).arrAt_in 0 rfl _).trans (A_eq m c 0)),
      ((h c).1 1).trans (((dats m 0 c).arrAt_in 1 rfl _).trans (A_eq m c 1)),
      ((h c).2.1 main_arg2 (by decide)).trans (dif_neg (by decide)),
      (h c).2.2 main_arg3 (Finset.mem_sdiff.mpr ⟨Pipeline.mem_restRefs_of main_arg3 (by decide) (by decide), by decide⟩)⟩, hz⟩)
    (run_main m ρ hT)

end Cert.Hand
-- ==== Proof.Pre.lean ====
/-
  What the precondition says: the three integer arrays are the routing tables of one assignment of tokens to slots.
-/
module

public import proofs.«01_k».proof.Pre_routed
public import proofs.«01_k».proof.Proof.Run
public import Idealize.ShloMosaic.Lib.Routing.Ops
public import Idealize.ShloMosaic.Lib.Routing.OpsOrder
public import Idealize.ShloMosaic.Lib.ReduceAll

@[expose] public section

noncomputable section

namespace Cert.Hand

open Idealize.ShloMosaic Idealize.ShloMosaic.ValueIdx Idealize.ShloMosaic.Routing

/-! ## Words -/

theorem small_of_range {w : BitVec 32} {N : ℕ} (hN : N < 2147483648)
    (h0 : IntOp.cmpi .sge w 0#32 = 1#1) (h1 : IntOp.cmpi .slt w (BitVec.ofNat 32 N) = 1#1) : w.toNat < N := by
  unfold IntOp.cmpi at h0 h1
  rw [StableHlo.Predicate.ofBool_eq_one_iff] at h0 h1
  simp only [BitVec.sle, BitVec.slt, decide_eq_true_eq] at h0 h1
  rw [StableHlo.Predicate.toInt_ofNat_small N (by omega)] at h1
  rw [show (0#32 : BitVec 32).toInt = 0 from by decide, BitVec.toInt_eq_toNat_cond] at h0
  rw [BitVec.toInt_eq_toNat_cond] at h1
  split at h1 <;> omega

theorem le_of_range {w : BitVec 32} {N : ℕ} (hN : N < 2147483647)
    (h0 : IntOp.cmpi .sge w 0#32 = 1#1) (h1 : IntOp.cmpi .sle w (BitVec.ofNat 32 N) = 1#1) : w.toNat ≤ N := by
  unfold IntOp.cmpi at h0 h1
  rw [StableHlo.Predicate.ofBool_eq_one_iff] at h0 h1
  simp only [BitVec.sle, decide_eq_true_eq] at h0 h1
  rw [StableHlo.Predicate.toInt_ofNat_small N (by omega)] at h1
  rw [show (0#32 : BitVec 32).toInt = 0 from by decide, BitVec.toInt_eq_toNat_cond] at h0
  rw [BitVec.toInt_eq_toNat_cond] at h1
  split at h1 <;> omega

/-- Clipping a word within the bounds leaves it. -/
theorem clip_word {w : BitVec 32} {N : ℕ} (hN : N < 2147483648) (hw : w.toNat ≤ N) :
    IntOp.minsi (BitVec.ofNat 32 N) (IntOp.maxsi 0#32 w) = w := by
  have hw' : w.toInt = w.toNat := StableHlo.Predicate.toInt_eq_toNat_of_lt (by omega)
  have h1 : IntOp.maxsi 0#32 w = w := by
    unfold IntOp.maxsi
    rw [if_neg]
    simp only [BitVec.slt, decide_eq_true_eq, hw']
    rw [show (0#32 : BitVec 32).toInt = 0 from by decide]
    omega
  rw [h1]
  unfold IntOp.minsi
  rw [if_neg]
  simp only [BitVec.slt, decide_eq_true_eq, hw']
  rw [StableHlo.Predicate.toInt_ofNat_small N (by omega)]
  omega

/-- An index that is not negative is not wrapped. -/
theorem wrap_word {w u : BitVec 32} (hw : w.toNat < 2147483648) : Scalar.select (IntOp.cmpi .slt w 0#32) u w = w := by
  unfold Scalar.select
  rw [if_neg]
  intro h
  have := (StableHlo.Predicate.slt_iff_toNat (a := w) (b := 0#32) (by omega) (by decide)).mp h
  simp at this

theorem lt_iff {a b : BitVec 32} (ha : a.toNat < 2147483648) (hb : b.toNat < 2147483648) :
    IntOp.cmpi .slt a b = 1#1 ↔ a.toNat < b.toNat :=
  StableHlo.Predicate.slt_iff_toNat (by omega) (by omega)

theorem and_one {a b : BitVec 1} : IntOp.andi a b = 1#1 ↔ a = 1#1 ∧ b = 1#1 := by revert a b; decide

theorem sel_one {c a : BitVec 1} (h : Scalar.select c a 1#1 = 1#1) (hc : c = 1#1) : a = 1#1 := by
  unfold Scalar.select at h; exact (if_pos hc).symm.trans h

theorem toNat_ofNat_small {n : ℕ} (h : n < 2147483648) : (BitVec.ofNat 32 n).toNat = n := by
  rw [BitVec.toNat_ofNat]; omega

/-! ## Gathers -/

/-- The dimension numbers of `table[:, idx]`. -/
abbrev colDims (K N B : ℕ) (wf : GatherDims.WF ⟨2, ![K, N]⟩ ⟨2, ![B, 1]⟩ ⟨2, ![K, B]⟩ [0] [1] [] [1] [] 1 ![K, 1]) :
    GatherDims ⟨2, ![K, N]⟩ ⟨2, ![B, 1]⟩ ⟨2, ![K, B]⟩ where
  offsetDims := [0]
  collapsedSliceDims := [1]
  operandBatchingDims := []
  startIndicesBatchingDims := []
  startIndexMap := [1]
  indexVectorDim := 1
  sliceSizes := ![K, 1]
  wf := wf

/-- `table[:, idx]` at `(k, s)` is the table at row `k` and the column that `idx` holds at `s`. -/
theorem gather_cols {α : Type} {K N B : ℕ} (wf : GatherDims.WF ⟨2, ![K, N]⟩ ⟨2, ![B, 1]⟩ ⟨2, ![K, B]⟩ [0] [1] [] [1] [] 1 ![K, 1])
    (x : (⟨2, ![K, N]⟩ : Shape).Idx → α) (idx : IVec ⟨2, ![B, 1]⟩ 32) (k : Fin K) (s : Fin B) (n : Fin N)
    (hn : (idx (ix2 s (0 : Fin 1))).toNat = n.val) (hN : N < 2147483648) :
    Host.gather (colDims K N B wf) x idx (ix2 k s) = x (ix2 k n) := by
  unfold Host.gather
  congr 1
  funext a
  refine Fin.ext ?_
  show (colDims K N B wf).start (ix2 k s) idx a + (colDims K N B wf).batchCoord (ix2 k s) a + (colDims K N B wf).offCoord (ix2 k s) a = _
  rw [GatherDims.batchCoord_eq_zero _ _ _ List.not_mem_nil, Nat.add_zero]
  have hlt := n.isLt
  match a with
  | ⟨0, _⟩ =>
    have hst : (colDims K N B wf).start (ix2 k s) idx (0 : Fin 2) = 0 := by
      unfold GatherDims.start
      exact dif_neg (show (0 : Fin 2) ∉ [(1 : Fin 2)] from by decide)
    refine (congrArg (fun z => z + _) hst).trans ?_
    rw [Nat.zero_add]
    unfold GatherDims.offCoord
    refine (dif_pos ((GatherDims.mem_sKept _ _).mpr ⟨(by decide : (0 : Fin 2) ∉ [(1 : Fin 2)]), List.not_mem_nil⟩)).trans ?_
    rfl
  | ⟨1, _⟩ =>
    have hoff : (colDims K N B wf).offCoord (ix2 k s) (1 : Fin 2) = 0 :=
      GatherDims.offCoord_eq_zero _ _ _ (fun h => ((GatherDims.mem_sKept _ _).mp h).1 (List.mem_singleton.mpr rfl))
    refine (congrArg (fun z => _ + z) hoff).trans ?_
    rw [Nat.add_zero]
    have hsi : (colDims K N B wf).siIdx (ix2 k s) ⟨List.idxOf (1 : Fin 2) (colDims K N B wf).startIndexMap,
        List.idxOf_lt_length_iff.2 (List.mem_singleton.mpr rfl)⟩ = ix2 s (0 : Fin 1) := by
      funext b; refine Fin.ext ?_
      match b with
      | ⟨0, _⟩ => rfl
      | ⟨1, _⟩ => rfl
    unfold GatherDims.start
    refine (dif_pos (show (1 : Fin 2) ∈ (colDims K N B wf).startIndexMap from List.mem_singleton.mpr rfl)).trans ?_
    refine (congrArg (fun z => min (idx z).toInt.toNat (N - 1)) hsi).trans ?_
    show min (idx (ix2 s (0 : Fin 1))).toInt.toNat (N - 1) = n.val
    rw [StableHlo.Predicate.toInt_eq_toNat_of_lt (by omega), hn]
    simp; omega

/-! ## The precondition -/

section

variable [hF : Cert.Pre_routed.Facts]

open Cert.Pre_routed Cert.Pre_routed.Facts

variable (a0 : S1x8192.Idx → BitVec 32) (a1 : S16x8192.Idx → BitVec 32) (a2 : S8192x1152.Idx → BitVec 32) (a3 : S16x1024.Idx → BitVec 32)

/-- The routed tokens, flat. -/
abbrev flat : IVec S16384 32 := shapeCast S16384 a3 shapeCasts_S16x1024_S16384

/-- Which entries of `dst` count. -/
abbrev active : IVec S16x8192 1 := cmpi .slt (iotaInDim S16x8192 32 0) (broadcastInDim S16x8192 ![0, 1] bcast_S1x8192_S16x8192_0_1 a0)

theorem flat_toNat {s : ℕ} (hs : s < 16384) : (flat a3 (ix1 ⟨s, hs⟩)).toNat = (tab a0 a1 a3).idx s := by
  unfold flat
  rw [cast21 (a := 16) (b := 1024) (n := 16384) a3 _ ⟨s / 1024, by omega⟩ ⟨s % 1024, by omega⟩ ⟨s, hs⟩ (by show s = s / 1024 * 1024 + s % 1024; omega)]
  show _ = dite _ _ _
  rw [dif_pos hs]

theorem cnt_toNat {n : ℕ} (hn : n < 8192) : (a0 (ix2 (0 : Fin 1) ⟨n, hn⟩)).toNat = (tab a0 a1 a3).cnt n := by
  show _ = dite _ _ _
  rw [dif_pos hn]

theorem dst_toNat {k n : ℕ} (hk : k < 16) (hn : n < 8192) : (a1 (ix2 ⟨k, hk⟩ ⟨n, hn⟩)).toNat = (tab a0 a1 a3).dst k n := by
  show _ = dite _ _ _
  rw [dif_pos ⟨hk, hn⟩]

theorem active_word (k : Fin 16) (n : Fin 8192) :
    active a0 (ix2 k n) = IntOp.cmpi .slt (BitVec.ofNat 32 k.val) (a0 (ix2 (0 : Fin 1) n)) := by
  refine congrArg (IntOp.cmpi .slt (BitVec.ofNat 32 k.val)) ?_
  refine broadcastInDim_apply _ _ a0 _ _ fun a => ?_
  match a with
  | ⟨0, _⟩ => rfl
  | ⟨1, _⟩ => rfl

/-- An index clipped into `[0, hi]` and then wrapped, as array indexing does it. -/
abbrev clipWrap (hi N w : BitVec 32) : BitVec 32 :=
  Scalar.select (IntOp.cmpi .slt (IntOp.minsi hi (IntOp.maxsi 0#32 w)) 0#32) (IntOp.addi (IntOp.minsi hi (IntOp.maxsi 0#32 w)) N)
    (IntOp.minsi hi (IntOp.maxsi 0#32 w))

theorem clipWrap_eq {w N : BitVec 32} {n : ℕ} (hn : n < 2147483648) (hw : w.toNat ≤ n) : clipWrap (BitVec.ofNat 32 n) N w = w := by
  unfold clipWrap
  rw [clip_word hn hw, wrap_word (by omega)]

/-- The tokens found at the slots `dst` lists. -/
abbrev fedBack : IVec S16x8192 32 :=
  Host.gather gather_S16384_S16x8192x1_S16x8192_n_0_n_n_0_2_1 (flat a3)
    (broadcastInDim S16x8192x1 ![0, 1] bcast_S16x8192_S16x8192x1_0_1 (fun j => clipWrap 16383#32 16384#32 (a1 j)))

/-- The token of every slot, as a column of indices. -/
abbrev tokCol : IVec S16384x1 32 :=
  broadcastInDim S16384x1 ![0] bcast_S16384_S16384x1_0 (fun j => clipWrap 8191#32 8192#32 (flat a3 j))

/-- The `dst` lists of the slots' tokens. -/
abbrev dstAt : IVec S16x16384 32 := Host.gather gather_S16x8192_S16384x1_S16x16384_0_1_n_n_1_1_161 a1 (tokCol a3)

/-- The counts of the slots' tokens. -/
abbrev cntAt : IVec S1x16384 32 := Host.gather gather_S1x8192_S16384x1_S1x16384_0_1_n_n_1_1_11 a0 (tokCol a3)

/-- Where a slot is on its token's list. -/
abbrev listed : IVec S16x16384 1 :=
  andi (cmpi .eq (dstAt a1 a3) (iotaInDim S16x16384 32 1))
    (cmpi .slt (iotaInDim S16x16384 32 0) (broadcastInDim S16x16384 ![0, 1] bcast_S1x16384_S16x16384_0_1 (cntAt a0 a3)))

theorem parts {F : FTy → Type} [FloatOps F] (h : Cert.Pre_routed.fn (F := F) a0 a1 a2 a3 = fun _ => 1#1) :
    (∀ n : S1x8192.Idx, IntOp.cmpi .sge (a0 n) 0#32 = 1#1 ∧ IntOp.cmpi .sle (a0 n) 16#32 = 1#1) ∧
    (∀ s : S16384.Idx, IntOp.cmpi .sge (flat a3 s) 0#32 = 1#1 ∧ IntOp.cmpi .slt (flat a3 s) 8192#32 = 1#1) ∧
    (∀ j : S16x8192.Idx, active a0 j = 1#1 → IntOp.cmpi .sge (a1 j) 0#32 = 1#1 ∧ IntOp.cmpi .slt (a1 j) 16384#32 = 1#1) ∧
    (∀ j : S16x8192.Idx, active a0 j = 1#1 → IntOp.cmpi .eq (fedBack a1 a3 j) (iotaInDim S16x8192 32 1 j) = 1#1) ∧
    (∀ j : S15x8192.Idx, extractStridedSlice S15x8192 ![1, 0] (active a0) slices_S16x8192_S15x8192_1_0 j = 1#1 →
      IntOp.cmpi .slt (extractStridedSlice S15x8192 ![0, 0] a1 slices_S16x8192_S15x8192_0_0 j)
        (extractStridedSlice S15x8192 ![1, 0] a1 slices_S16x8192_S15x8192_1_0 j) = 1#1) ∧
    (∀ s : S16384.Idx, Host.reduce IntOp.ori (listed a0 a1 a3) (constantI S_ 1 0#1) reducesTo_S16x16384_S16384_d0 h_S_ s = 1#1) := by
  have : Subsingleton S_.Idx := ⟨fun a b => funext fun x => x.elim0⟩
  have h0 := congrFun h ix0
  unfold fn fn_part1 fn_part2 fn_part3 fn_where fn_where_0 fn_clip fn_clip_1 at h0
  dsimp only at h0
  obtain ⟨h0, e6⟩ := and_one.mp (show IntOp.andi _ _ = 1#1 from h0)
  obtain ⟨h0, e5⟩ := and_one.mp (show IntOp.andi _ _ = 1#1 from h0)
  obtain ⟨h0, e4⟩ := and_one.mp (show IntOp.andi _ _ = 1#1 from h0)
  obtain ⟨h0, e3⟩ := and_one.mp (show IntOp.andi _ _ = 1#1 from h0)
  obtain ⟨e1, e2⟩ := and_one.mp (show IntOp.andi _ _ = 1#1 from h0)
  refine ⟨fun n => ?_, fun s => ?_, fun j hj => ?_, fun j hj => ?_, fun j hj => ?_, fun s => ?_⟩
  · exact and_one.mp (Host.reduce_andi_all _ _ _ _ _ e1 n)
  · exact and_one.mp (Host.reduce_andi_all _ _ _ _ _ e2 s)
  · exact and_one.mp (sel_one (Host.reduce_andi_all _ _ _ _ _ e3 j) hj)
  · exact sel_one (Host.reduce_andi_all _ _ _ _ _ e4 j) hj
  · exact sel_one (Host.reduce_andi_all _ _ _ _ _ e5 j) hj
  · exact Host.reduce_andi_all _ _ _ _ _ e6 s

theorem fedBack_word {k : ℕ} {n : ℕ} (hk : k < 16) (hn : n < 8192) {s : ℕ} (hs : s < 16384)
    (hd : (a1 (ix2 ⟨k, hk⟩ ⟨n, hn⟩)).toNat = s) : fedBack a1 a3 (ix2 ⟨k, hk⟩ ⟨n, hn⟩) = flat a3 (ix1 ⟨s, hs⟩) := by
  refine (gather_take_apply (N := 16384) (R := 16) (C := 8192) (by decide) _ (flat a3) _ (ix2 ⟨k, hk⟩ ⟨n, hn⟩)).trans ?_
  refine congrArg (fun i : Fin 16384 => flat a3 (ix1 i)) (Fin.ext ?_)
  have hv : (broadcastInDim S16x8192x1 ![0, 1] bcast_S16x8192_S16x8192x1_0_1 (fun j => clipWrap 16383#32 16384#32 (a1 j)) :
      IVec S16x8192x1 32) (takeIdx (ix2 ⟨k, hk⟩ ⟨n, hn⟩)) = a1 (ix2 ⟨k, hk⟩ ⟨n, hn⟩) := by
    refine (broadcastInDim_apply _ _ _ _ (ix2 (⟨k, hk⟩ : Fin 16) (⟨n, hn⟩ : Fin 8192)) fun a => ?_).trans
      (clipWrap_eq (n := 16383) (by decide) (by omega))
    match a with
    | ⟨0, _⟩ => rfl
    | ⟨1, _⟩ => rfl
  show min (BitVec.toInt _).toNat (16384 - 1) = s
  rw [hv, StableHlo.Predicate.toInt_eq_toNat_of_lt (by omega), hd]
  simp; omega

theorem tokCol_toNat {s n : ℕ} (hs : s < 16384) (hn : n < 8192) (h : (flat a3 (ix1 ⟨s, hs⟩)).toNat = n) :
    (tokCol a3 (ix2 ⟨s, hs⟩ (0 : Fin 1))).toNat = n := by
  have e : tokCol a3 (ix2 ⟨s, hs⟩ (0 : Fin 1)) = flat a3 (ix1 ⟨s, hs⟩) :=
    (bcCol (n := 16384) _ _ ⟨s, hs⟩).trans (clipWrap_eq (n := 8191) (by decide) (by omega))
  rw [e, h]

theorem dstAt_word {k s n : ℕ} (hk : k < 16) (hs : s < 16384) (hn : n < 8192) (h : (flat a3 (ix1 ⟨s, hs⟩)).toNat = n) :
    dstAt a1 a3 (ix2 ⟨k, hk⟩ ⟨s, hs⟩) = a1 (ix2 ⟨k, hk⟩ ⟨n, hn⟩) :=
  gather_cols (K := 16) (N := 8192) (B := 16384) _ a1 _ ⟨k, hk⟩ ⟨s, hs⟩ ⟨n, hn⟩ (tokCol_toNat a3 hs hn h) (by decide)

theorem cntAt_word {s n : ℕ} (hs : s < 16384) (hn : n < 8192) (h : (flat a3 (ix1 ⟨s, hs⟩)).toNat = n) :
    cntAt a0 a3 (ix2 (0 : Fin 1) ⟨s, hs⟩) = a0 (ix2 (0 : Fin 1) ⟨n, hn⟩) :=
  gather_cols (K := 1) (N := 8192) (B := 16384) _ a0 _ (0 : Fin 1) ⟨s, hs⟩ ⟨n, hn⟩ (tokCol_toNat a3 hs hn h) (by decide)

theorem listed_iff {k s n : ℕ} (hk : k < 16) (hs : s < 16384) (hn : n < 8192) (h : (flat a3 (ix1 ⟨s, hs⟩)).toNat = n)
    (e : listed a0 a1 a3 (ix2 ⟨k, hk⟩ ⟨s, hs⟩) = 1#1) (hc : (a0 (ix2 (0 : Fin 1) ⟨n, hn⟩)).toNat ≤ 16) :
    (a1 (ix2 ⟨k, hk⟩ ⟨n, hn⟩)).toNat = s ∧ k < (a0 (ix2 (0 : Fin 1) ⟨n, hn⟩)).toNat := by
  obtain ⟨e1, e2⟩ := and_one.mp (show IntOp.andi _ _ = 1#1 from e)
  have e1 : IntOp.cmpi .eq (dstAt a1 a3 (ix2 ⟨k, hk⟩ ⟨s, hs⟩)) (BitVec.ofNat 32 s) = 1#1 := e1
  rw [dstAt_word a1 a3 hk hs hn h] at e1
  have e1 := StableHlo.Predicate.cmpi_eq_iff.mp e1
  have hb : (broadcastInDim S16x16384 ![0, 1] bcast_S1x16384_S16x16384_0_1 (cntAt a0 a3) : IVec S16x16384 32) (ix2 ⟨k, hk⟩ ⟨s, hs⟩)
      = a0 (ix2 (0 : Fin 1) ⟨n, hn⟩) := by
    refine (broadcastInDim_apply _ _ _ _ (ix2 (0 : Fin 1) (⟨s, hs⟩ : Fin 16384)) fun a => ?_).trans (cntAt_word a0 a3 hs hn h)
    match a with
    | ⟨0, _⟩ => rfl
    | ⟨1, _⟩ => rfl
  have e2 : IntOp.cmpi .slt (BitVec.ofNat 32 k) ((broadcastInDim S16x16384 ![0, 1] bcast_S1x16384_S16x16384_0_1 (cntAt a0 a3) :
    IVec S16x16384 32) (ix2 ⟨k, hk⟩ ⟨s, hs⟩)) = 1#1 := e2
  rw [hb, lt_iff (by rw [toNat_ofNat_small (by omega)]; omega) (by omega), toNat_ofNat_small (by omega)] at e2
  rw [e1, toNat_ofNat_small (by omega)]
  exact ⟨rfl, e2⟩

/-- The precondition makes the tables those of one assignment. -/
theorem tables_ok {F : FTy → Type} [FloatOps F] (h : Cert.Pre_routed.fn (F := F) a0 a1 a2 a3 = fun _ => 1#1) : (tab a0 a1 a3).OK := by
  obtain ⟨e1, e2, e3, e4, e5, e6⟩ := parts a0 a1 a2 a3 h
  have hcnt : ∀ n : Fin 8192, (a0 (ix2 (0 : Fin 1) n)).toNat ≤ 16 := fun n => le_of_range (N := 16) (by decide) (e1 _).1 (e1 _).2
  have hflat : ∀ s : Fin 16384, (flat a3 (ix1 s)).toNat < 8192 := fun s => small_of_range (N := 8192) (by decide) (e2 _).1 (e2 _).2
  have hact : ∀ (k : Fin 16) (n : Fin 8192), k.val < (a0 (ix2 (0 : Fin 1) n)).toNat → active a0 (ix2 k n) = 1#1 := fun k n hk => by
    have := hcnt n
    rw [active_word, lt_iff (by rw [toNat_ofNat_small (by omega)]; omega) (by omega), toNat_ofNat_small (by omega)]
    exact hk
  have hdst : ∀ (k : Fin 16) (n : Fin 8192), k.val < (a0 (ix2 (0 : Fin 1) n)).toNat → (a1 (ix2 k n)).toNat < 16384 := fun k n hk =>
    small_of_range (N := 16384) (by decide) (e3 _ (hact k n hk)).1 (e3 _ (hact k n hk)).2
  have hcle : ∀ n < 8192, (tab a0 a1 a3).cnt n ≤ 16 := fun n hn => by rw [← cnt_toNat a0 a1 a3 hn]; exact hcnt _
  have hdlt : ∀ n < 8192, ∀ k < (tab a0 a1 a3).cnt n, (tab a0 a1 a3).dst k n < 16384 := fun n hn k hk => by
    have := hcle n hn
    rw [← dst_toNat a0 a1 a3 (show k < 16 by omega) hn]
    exact hdst ⟨k, by omega⟩ ⟨n, hn⟩ (by rw [cnt_toNat a0 a1 a3 hn]; exact hk)
  have hrise : ∀ n < 8192, ∀ k, k + 1 < (tab a0 a1 a3).cnt n → (tab a0 a1 a3).dst k n < (tab a0 a1 a3).dst (k + 1) n := fun n hn k hk => by
    have := hcle n hn
    have hk1 : k + 1 < 16 := by omega
    have hk0 : k < 16 := by omega
    have ha := hact ⟨k + 1, hk1⟩ ⟨n, hn⟩ (by rw [cnt_toNat a0 a1 a3 hn]; exact hk)
    have s1 : ∀ {α : Type} (v : S16x8192.Idx → α), extractStridedSlice S15x8192 ![1, 0] v slices_S16x8192_S15x8192_1_0
        (ix2 (⟨k, by omega⟩ : Fin 15) (⟨n, hn⟩ : Fin 8192)) = v (ix2 (⟨k + 1, hk1⟩ : Fin 16) (⟨n, hn⟩ : Fin 8192)) := fun v => by
      unfold extractStridedSlice
      refine congrArg v (funext fun a => Fin.ext ?_)
      match a with
      | ⟨0, _⟩ => exact Nat.add_comm 1 k
      | ⟨1, _⟩ => exact Nat.zero_add n
    have s0 : extractStridedSlice S15x8192 ![0, 0] a1 slices_S16x8192_S15x8192_0_0
        (ix2 (⟨k, by omega⟩ : Fin 15) (⟨n, hn⟩ : Fin 8192)) = a1 (ix2 (⟨k, hk0⟩ : Fin 16) (⟨n, hn⟩ : Fin 8192)) := by
      unfold extractStridedSlice
      refine congrArg a1 (funext fun a => Fin.ext ?_)
      match a with
      | ⟨0, _⟩ => exact Nat.zero_add k
      | ⟨1, _⟩ => exact Nat.zero_add n
    have h5 := e5 (ix2 (⟨k, by omega⟩ : Fin 15) (⟨n, hn⟩ : Fin 8192)) ((s1 _).trans ha)
    rw [s0, s1] at h5
    have b0 : (a1 (ix2 (⟨k, hk0⟩ : Fin 16) (⟨n, hn⟩ : Fin 8192))).toNat < 16384 := by
      rw [dst_toNat a0 a1 a3 hk0 hn]; exact hdlt n hn k (by omega)
    have b1 : (a1 (ix2 (⟨k + 1, hk1⟩ : Fin 16) (⟨n, hn⟩ : Fin 8192))).toNat < 16384 := by
      rw [dst_toNat a0 a1 a3 hk1 hn]; exact hdlt n hn (k + 1) hk
    rw [lt_iff (by omega) (by omega), dst_toNat a0 a1 a3 hk0 hn, dst_toNat a0 a1 a3 hk1 hn] at h5
    exact h5
  have hmono : ∀ n < 8192, ∀ k d, k + (d + 1) < (tab a0 a1 a3).cnt n → (tab a0 a1 a3).dst k n < (tab a0 a1 a3).dst (k + (d + 1)) n := by
    intro n hn k d
    induction d with
    | zero => exact hrise n hn k
    | succ d ih => exact fun hk => (ih (by omega)).trans (hrise n hn (k + (d + 1)) hk)
  refine ⟨hcle, hdlt, fun n hn k hk => ?_, fun n hn k hk k' hk' e => ?_, fun s hs => ?_⟩
  · have := hcle n hn
    have hk16 : k < 16 := by omega
    have h4 := e4 (ix2 (⟨k, hk16⟩ : Fin 16) (⟨n, hn⟩ : Fin 8192)) (hact _ _ (by rw [cnt_toNat a0 a1 a3 hn]; exact hk))
    rw [fedBack_word a1 a3 hk16 hn (hdlt n hn k hk) (dst_toNat a0 a1 a3 hk16 hn)] at h4
    have h4 := StableHlo.Predicate.cmpi_eq_iff.mp h4
    rw [← flat_toNat a0 a1 a3 (hdlt n hn k hk), h4]
    exact toNat_ofNat_small (n := n) (by omega)
  · rcases Nat.lt_trichotomy k k' with hlt | rfl | hlt
    · have := hmono n hn k (k' - k - 1) (by omega)
      rw [show k + (k' - k - 1 + 1) = k' by omega] at this
      omega
    · rfl
    · have := hmono n hn k' (k - k' - 1) (by omega)
      rw [show k' + (k - k' - 1 + 1) = k by omega] at this
      omega
  · have hn : (tab a0 a1 a3).idx s < 8192 := by rw [← flat_toNat a0 a1 a3 hs]; exact hflat _
    refine ⟨hn, ?_⟩
    have h6 := e6 (ix1 ⟨s, hs⟩)
    rw [Host.reduce_eq_fold] at h6
    obtain ⟨i, hi, hl⟩ := (fold_ori _ _).mp h6
    have hd := congrArg (fun z : S16384.Idx => (z 0).val) (Finset.mem_filter.mp hi).2
    have hi1 : (i 1).val = s := (Shape.ReducesTo.drop_apply_val_of_eq reducesTo_S16x16384_S16384_d0 i (0 : Fin 1) (1 : Fin 2)).symm.trans hd
    have hik : i = ix2 (⟨(i 0).val, (i 0).isLt⟩ : Fin 16) (⟨s, hs⟩ : Fin 16384) := by
      funext a
      match a with
      | ⟨0, _⟩ => rfl
      | ⟨1, _⟩ => exact Fin.ext hi1
    rw [hik] at hl
    have hl := listed_iff a0 a1 a3 (i 0).isLt hs hn (flat_toNat a0 a1 a3 hs) hl (hcnt _)
    refine ⟨(i 0).val, ?_, ?_⟩
    · rw [← cnt_toNat a0 a1 a3 hn]; exact hl.2
    · rw [← dst_toNat a0 a1 a3 (i 0).isLt hn]; exact hl.1

end

end Cert.Hand
-- ==== Proof.Gathered.lean ====
/-
  The reference: the row of each slot's token. Its run, and its result as the rows the dispatch leaves.
-/
module

public import proofs.«01_k».proof.GatherIdeal
public import proofs.«01_k».proof.Proof.Gen.GatherIdeal
public import proofs.«01_k».proof.Proof.Gen.GatherIdeal.Run
public import proofs.«01_k».proof.Proof.Pre

@[expose] public section

noncomputable section

namespace Cert.Hand

open Idealize.ShloMosaic Idealize.ShloMosaic.ValueIdx Idealize.ShloMosaic.Routing Idealize.SL.Sem

section

variable {F : FTy → Type} [FloatOps F]

open Cert.GatherIdeal Cert.GatherIdeal.Facts Cert.GatherIdeal.Facts₀

/-- The reference's result: `rows[tokens]`. -/
def gathered (rows : S8192x1152.Idx → BitVec 32) (tok : S16x1024.Idx → BitVec 32) : S16384x1152.Idx → BitVec 32 :=
  Host.gather gather_S8192x1152_S16384x1_S16384x1152_1_0_n_n_0_1_11152 rows
    (broadcastInDim S16384x1 ![0] bcast_S16384_S16384x1_0 (fun j => Scalar.select
      (IntOp.cmpi .slt (shapeCast S16384 tok shapeCasts_S16x1024_S16384 j) 0#32)
      (IntOp.addi (shapeCast S16384 tok shapeCasts_S16x1024_S16384 j) 8192#32)
      (shapeCast S16384 tok shapeCasts_S16x1024_S16384 j)))

theorem gather_run (m : (ℓ : Loc nD τ sig) → Buf (Elt F) ℓ) (g : Dev nD → PrngReg) :
    θ_run (defs (F := F)) (onTc (τ := τ) (main (F := F))) ⟨m, fun _ => 0, g⟩ (fun r =>
      (∀ c : Dev nD, r.2.mem ((c.tc : Thread nD τ).loc main_v7)
          = gathered (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run (defs (F := F)) _ _).mono (fun r h => ⟨fun c => h c, sem_eq_zero_of_no_sems (by decide) r.2⟩)
    (Cert.GatherIdeal.Value.run (F := F) m g)

end

/-- With the tables of one assignment, the reference's rows are those the dispatch leaves, whatever the output held before. -/
theorem gathered_eq (a0 : Cert.DispatchIdeal.S1x8192.Idx → BitVec 32) (a1 : Cert.DispatchIdeal.S16x8192.Idx → BitVec 32)
    (rows : Cert.DispatchIdeal.S8192x1152.Idx → BitVec 32) (tok : Cert.DispatchIdeal.S16x1024.Idx → BitVec 32)
    (f0 : Cert.DispatchIdeal.S16384x1152.Idx → BitVec 32) (hT : (tab a0 a1 tok).OK) :
    upTo (tab a0 a1 tok) rows f0 (512 * 16) = gathered rows tok := by
  funext y
  have hs : (y 0).val < 16384 := (y 0).isLt
  obtain ⟨hn, -⟩ := hT.full _ hs
  have hcast : shapeCast Cert.GatherIdeal.S16384 tok Cert.GatherIdeal.Facts₀.shapeCasts_S16x1024_S16384 (ix1 ⟨(y 0).val, hs⟩)
      = BitVec.ofNat 32 ((tab a0 a1 tok).idx (y 0).val) := by
    rw [cast21 (a := 16) (b := 1024) (n := 16384) tok _ ⟨(y 0).val / 1024, by omega⟩ ⟨(y 0).val % 1024, by omega⟩ ⟨(y 0).val, hs⟩
      (by show (y 0).val = (y 0).val / 1024 * 1024 + (y 0).val % 1024; omega)]
    have : (tab a0 a1 tok).idx (y 0).val = (tok (ix2 ⟨(y 0).val / 1024, by omega⟩ ⟨(y 0).val % 1024, by omega⟩)).toNat := by
      show dite _ _ _ = _
      rw [dif_pos hs]
    rw [this, BitVec.ofNat_toNat, BitVec.setWidth_eq]
  unfold upTo
  rw [dif_pos ⟨by omega, hn⟩]
  refine Eq.symm ((congrArg (gathered rows tok) (show y = ix2 (⟨(y 0).val, hs⟩ : Fin 16384) (y 1 : Fin 1152) from eq_ix2 y)).trans ?_)
  refine gather_row (nb := 8192) (B := 1152) (n := 16384) _ rfl rfl rfl rfl rfl rows _ ⟨(y 0).val, hs⟩ (y 1) ⟨_, hn⟩ ?_ (by decide)
  refine (bcCol (n := 16384) _ _ _).trans ?_
  rw [hcast, wrap_word (by rw [toNat_ofNat_small (by omega)]; omega)]

end Cert.Hand
-- ==== Proof.Twin.lean ====
/-
  The dispatch and its idealization are the same program text: a run of one is a run of the other, over any float values.
-/
module

public import proofs.«01_k».proof.Dispatch
public import proofs.«01_k».proof.DispatchIdeal
public import proofs.«01_k».proof.Proof.Gen.Dispatch
public import proofs.«01_k».proof.Proof.Gen.DispatchIdeal

@[expose] public section

noncomputable section

namespace Cert.Hand

open Idealize.ShloMosaic Idealize.SL.Sem

variable {F : FTy → Type} [FloatOps F]

theorem body_twin (t : Fin Cert.Dispatch.grid0.N) (s) :
    Cert.Dispatch.defs₀ (F := F) .tc 0 (t, s) = Cert.DispatchIdeal.defs₀ (F := F) .tc 0 (t, s) := rfl

theorem defs₀_twin : Cert.Dispatch.defs₀ (F := F) = Cert.DispatchIdeal.defs₀ (F := F) := by
  funext p ℓ a
  match p, ℓ, a with
  | .tc, 0, (t, s) => exact body_twin t s
  | .scScalar _, _, _ => rfl
  | .scVector _ _, _, _ => rfl

theorem defs_twin : Cert.Dispatch.defs (F := F) = Cert.DispatchIdeal.defs (F := F) :=
  congrArg (Pipeline.defs (Cert.DispatchIdeal.pcfgs (F := F))) defs₀_twin

theorem θ_twin (s : MemSt Cert.DispatchIdeal.nD Cert.DispatchIdeal.τ Cert.DispatchIdeal.sig (Elt F))
    (Q : PUnit × MemSt Cert.DispatchIdeal.nD Cert.DispatchIdeal.τ Cert.DispatchIdeal.sig (Elt F) → Prop) :
    θ_run (Cert.Dispatch.defs (F := F)) (onTc (τ := Cert.Dispatch.τ) (Cert.Dispatch.main (F := F))) s Q
      = θ_run (Cert.DispatchIdeal.defs (F := F)) (onTc (τ := Cert.DispatchIdeal.τ) (Cert.DispatchIdeal.main (F := F))) s Q :=
  congrArg (fun d => θ_run d (onTc (τ := Cert.DispatchIdeal.τ) (Cert.DispatchIdeal.main (F := F))) s Q) defs_twin

end Cert.Hand
-- ==== Proof.DRoute.lean ====
/-
  The numbering of the row copies. A window of tokens starts at token `b`; its copies are issued token by token and,
  within a token, slot by slot, so the slots they fill make a list. What the routing tables promise makes that list
  free of repetitions, and its members are exactly the slots whose token lies in the window.
-/
module

public import Mathlib.Data.List.Nodup
public import Mathlib.Data.List.Basic
public import Mathlib.Tactic.Ring
public import Mathlib.Tactic.Linarith

@[expose] public section

namespace Cert.HandL

/-- The routing tables: how many slots a token has, which slots these are, and which token a slot belongs to. -/
structure Tables where
  cnt : ℕ → ℕ
  dst : ℕ → ℕ → ℕ
  idx : ℕ → ℕ

/-- The two directions of the tables agree: `dst` lists, for every token, the slots `idx` gives it, each once. -/
structure Tables.OK (T : Tables) : Prop where
  cnt_le : ∀ n < 4096, T.cnt n ≤ 16
  dst_lt : ∀ n < 4096, ∀ k < T.cnt n, T.dst k n < 8192
  fed : ∀ n < 4096, ∀ k < T.cnt n, T.idx (T.dst k n) = n
  inj : ∀ n < 4096, ∀ k < T.cnt n, ∀ k' < T.cnt n, T.dst k n = T.dst k' n → k = k'
  full : ∀ s < 8192, T.idx s < 4096 ∧ ∃ k < T.cnt (T.idx s), T.dst k (T.idx s) = s

namespace Tables

variable (T : Tables)

/-- The slots of token `n`, in the order of issue. -/
def row (n : ℕ) : List ℕ := (List.range (T.cnt n)).map fun k => T.dst k n

/-- The slots of the first `a` tokens of the window that starts at token `b`. -/
def slots (b a : ℕ) : List ℕ := (List.range a).flatMap fun a' => T.row (b + a')

theorem row_length (n : ℕ) : (T.row n).length = T.cnt n := by simp [row]

@[simp] theorem slots_zero (b : ℕ) : T.slots b 0 = [] := rfl

theorem slots_succ (b a : ℕ) : T.slots b (a + 1) = T.slots b a ++ T.row (b + a) := by
  simp [slots, List.range_succ, List.flatMap_append]

theorem slots_succ_length (b a : ℕ) : (T.slots b (a + 1)).length = (T.slots b a).length + T.cnt (b + a) := by
  rw [slots_succ, List.length_append, row_length]

theorem slots_prefix (b : ℕ) {a A : ℕ} (h : a ≤ A) : T.slots b a <+: T.slots b A := by
  induction A, h using Nat.le_induction with
  | base => exact List.prefix_rfl
  | succ A _ ih => exact ih.trans (by rw [slots_succ]; exact List.prefix_append _ _)

theorem number_lt (b : ℕ) {a A k : ℕ} (h : a < A) (hk : k < T.cnt (b + a)) :
    (T.slots b a).length + k < (T.slots b A).length := by
  have := (T.slots_prefix b (Nat.succ_le_of_lt h)).length_le
  rw [Nat.succ_eq_add_one, slots_succ_length] at this
  omega

/-- The copy numbered `k` after the copies of the first `a` tokens fills slot `dst k (b + a)`. -/
theorem number_get (b : ℕ) {a A k : ℕ} (h : a < A) (hk : k < T.cnt (b + a))
    (hlt : (T.slots b a).length + k < (T.slots b A).length) :
    (T.slots b A)[(T.slots b a).length + k] = T.dst k (b + a) := by
  obtain ⟨l, hl⟩ := T.slots_prefix b (Nat.succ_le_of_lt h)
  have e : T.slots b A = T.slots b a ++ (T.row (b + a) ++ l) := by
    rw [← hl, Nat.succ_eq_add_one, slots_succ, List.append_assoc]
  have hr : k < (T.row (b + a)).length := by rw [row_length]; exact hk
  have : (T.slots b A)[(T.slots b a).length + k]? = some (T.dst k (b + a)) := by
    rw [e, List.getElem?_append_right (by omega), Nat.add_sub_cancel_left, List.getElem?_append_left hr]
    simp [row, hk]
  exact (List.getElem_eq_iff hlt).mpr this

variable {T} (h : T.OK)
include h

theorem OK.slots_length_le {b a : ℕ} (hb : b + a ≤ 4096) : (T.slots b a).length ≤ 16 * a := by
  induction a with
  | zero => simp
  | succ a ih =>
    rw [slots_succ_length]
    have := ih (by omega)
    have := h.cnt_le (b + a) (by omega)
    omega

theorem OK.mem_row {n s : ℕ} (hn : n < 4096) : s ∈ T.row n ↔ s < 8192 ∧ T.idx s = n := by
  simp only [row, List.mem_map, List.mem_range]
  constructor
  · rintro ⟨k, hk, rfl⟩
    exact ⟨h.dst_lt n hn k hk, h.fed n hn k hk⟩
  · rintro ⟨hs, rfl⟩
    obtain ⟨-, k, hk, e⟩ := h.full s hs
    exact ⟨k, hk, e⟩

theorem OK.mem_slots {b a s : ℕ} (hb : b + a ≤ 4096) :
    s ∈ T.slots b a ↔ s < 8192 ∧ b ≤ T.idx s ∧ T.idx s < b + a := by
  simp only [slots, List.mem_flatMap, List.mem_range]
  constructor
  · rintro ⟨a', ha', hs⟩
    obtain ⟨hs, e⟩ := (h.mem_row (by omega)).mp hs
    exact ⟨hs, by omega, by omega⟩
  · rintro ⟨hs, h1, h2⟩
    exact ⟨T.idx s - b, by omega, (h.mem_row (by omega)).mpr ⟨hs, by omega⟩⟩

theorem OK.slots_nodup {b a : ℕ} (hb : b + a ≤ 4096) : (T.slots b a).Nodup := by
  induction a with
  | zero => simp
  | succ a ih =>
    rw [slots_succ]
    refine List.Nodup.append (ih (by omega)) ?_ ?_
    · refine List.Nodup.map_on ?_ List.nodup_range
      intro k hk k' hk' e
      exact h.inj (b + a) (by omega) k (List.mem_range.mp hk) k' (List.mem_range.mp hk') e
    · intro s hs hs'
      have h1 := (h.mem_slots (by omega)).mp hs
      have h2 := (h.mem_row (by omega)).mp hs'
      omega

end Tables

end Cert.HandL
-- ==== Proof.DWords.lean ====
/-
  What the latents' dispatch computes on words: how often its loops run for a count read from the table, and where the
  offsets of its accesses lie.
-/
module

public import proofs.«01_k».proof.Proof.Gen.DislatIdeal.Skeleton
public import Idealize.ShloMosaic.Lib.LoopRemainder
public import Idealize.ShloMosaic.Lib.Tactic

@[expose] public section

namespace Cert.HandL

open Cert.DislatIdeal Cert.DislatIdeal.Gen
open Idealize.ShloMosaic

/-- A word below `2^31` read as an integer. -/
theorem toInt_of_small {v : BitVec 32} (h : v.toNat < 2147483648) : v.toInt = v.toNat := by
  rw [BitVec.toInt_eq_toNat_cond]; split <;> omega

theorem ub_word (v : BitVec 32) :
    Scalar.addi 0#32 (Scalar.muli (Scalar.divsi (Scalar.subi v 0#32) 1#32) 1#32) = v := by
  rw [Scalar.muli_divsi_one]; simp [Scalar.addi, Scalar.subi, IntOp.addi, IntOp.subi]

/-- A loop from 0 to a word by steps of 1 runs as often as the word says. -/
theorem unit_trips {v : BitVec 32} (h : v.toNat < 2147483648) : Scf.trips 0#32 v 1#32 = v.toNat := by
  have h1 : (1#32 : BitVec 32).toInt = 1 := by decide
  have h0 : (0#32 : BitVec 32).toInt = 0 := by decide
  have h2 := toInt_of_small h
  unfold Scf.trips
  simp only [h1, h0, h2]
  omega

theorem unit_ok (v : BitVec 32) : Scf.OK 0#32 v 1#32 := by
  have := Affine.word_range v
  exact Affine.ok (Affine.ofNat 0 ⟨rfl, by decide⟩) (Affine.word _) (Affine.ofNat 1 ⟨rfl, by decide⟩) ⟨by decide, by omega⟩

theorem t2_trips {v : BitVec 32} (h : v.toNat < 2147483648) : (k0_t2_loop v).trips = v.toNat := by
  show Scf.trips 0#32 (Scalar.addi 0#32 (Scalar.muli (Scalar.divsi (Scalar.subi v 0#32) 1#32) 1#32)) 1#32 = _
  rw [ub_word, unit_trips h]

theorem t2_ok (v : BitVec 32) : (k0_t2_loop v).OK := by
  show Scf.OK 0#32 (Scalar.addi 0#32 (Scalar.muli (Scalar.divsi (Scalar.subi v 0#32) 1#32) 1#32)) 1#32
  rw [ub_word]; exact unit_ok v

theorem t4_trips {v : BitVec 32} (h : v.toNat < 2147483648) : (k0_t4_loop v).trips = v.toNat := by
  show Scf.trips 0#32 (Scalar.addi 0#32 (Scalar.muli (Scalar.divsi (Scalar.subi v 0#32) 1#32) 1#32)) 1#32 = _
  rw [ub_word, unit_trips h]

theorem t1_trips : k0_t1_loop.trips = 512 := by decide

/-- The induction variable of trip `k`. -/
theorem iv_word {k : ℕ} (h : k < 2147483648) : (Scf.iv 0#32 1#32 k).toNat = k := by
  simp [Scf.iv, BitVec.toNat_ofNat]
  omega

theorem off2_eq (a : Fin k0_t1_loop.trips) (v : BitVec 32) (hv : v.toNat < 2147483648) (k : Fin (k0_t2_loop v).trips) :
    k0_off2 a v k = ![k.val, a.val] := by
  have h1 := k.isLt
  have h2 := a.isLt
  have e1 := t2_trips hv
  have e2 := t1_trips
  have i1 := iv_word (k := k.val) (by omega)
  have i2 := iv_word (k := a.val) (by omega)
  show ![(Scf.iv 0#32 1#32 k.val).toNat, (Scf.iv 0#32 1#32 a.val).toNat] = _
  rw [i1, i2]

theorem off3_eq (v : BitVec 32) : k0_off3 v = ![v.toNat, 0] := rfl

/-- The side condition after the count's load: the loops are loops and their loads stay inside the table. -/
theorem chk1 (a : Fin k0_t1_loop.trips) (v : BitVec 32) (hv : v.toNat ≤ 16) : k0_chk1 a v := by
  have h2 := a.isLt
  have e2 := t1_trips
  refine ⟨t2_ok v, fun k x => ?_, Scf.rem_ok _ _, fun k => (Scf.rem_no_trip _ _ k).elim⟩
  have h1 := k.isLt
  have e1 := t2_trips (v := v) (by omega)
  rw [off2_eq a v (by omega) k]
  fin_cases x
  · show k.val + 1 ≤ 16; omega
  · show a.val + 1 ≤ 512; omega

theorem chk2 (v : BitVec 32) (hv : v.toNat < 8192) : k0_chk2 v := by
  intro x
  rw [off3_eq]
  fin_cases x
  · show v.toNat + 1 ≤ 8192; omega
  · show 0 + 1152 ≤ 1152; omega

end Cert.HandL
-- ==== Proof.DRows.lean ====
/-
  One row of the dispatch: the copy of a token's packed row into a slot of the result. The rows of both arrays as sets
  of elements, and the rule that issues one copy as the next transfer of a batch.
-/
module

public import proofs.«01_k».proof.Proof.DRoute
public import proofs.«01_k».proof.Proof.DWords
public import proofs.«01_k».proof.Proof.Gen.DislatIdeal.Launch
public import proofs.«01_k».proof.Proof.Gen.DislatIdeal.Points
public import Idealize.ShloMosaic.Lib.Pipeline.Routed
public import Idealize.ShloMosaic.Lib.Batch
public import Idealize.ShloMosaic.Lib.Ring
public import Idealize.ShloMosaic.Lib.ValueIdx
public import Idealize.ShloMosaic.Lib.Tactic

@[expose] public section

noncomputable section

namespace Cert.HandL

open Cert.DislatIdeal Cert.DislatIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The resources of the run: the pipeline library's beside the transfers' counters. -/
local notation "𝕄" => MT nD τ sig Unit (Elt F) ℕ (Pipeline.UC sig nD τ) ℕ

/-- Where the transfers' counters live in it. -/
abbrev EC : UEmb Counters 𝕄 := countersEmb (U := Pipeline.UC sig nD τ)

/-- The elements of row `n` of the packed activations, and of row `s` of the result. -/
def inRow (n : ℕ) : Finset S4096x1152.Idx := Finset.univ.filter fun y => (y 0).val = n
def outRow (s : ℕ) : Finset S8192x1152.Idx := Finset.univ.filter fun y => (y 0).val = s

theorem mem_inRow {n : ℕ} {y : S4096x1152.Idx} : y ∈ inRow n ↔ (y 0).val = n := by simp [inRow]
theorem mem_outRow {s : ℕ} {y : S8192x1152.Idx} : y ∈ outRow s ↔ (y 0).val = s := by simp [outRow]

theorem outRow_disjoint {s s' : ℕ} (h : s ≠ s') : Disjoint (outRow s) (outRow s') := by
  rw [Finset.disjoint_left]; intro y h1 h2; rw [mem_outRow] at h1 h2; exact h (h1.symm.trans h2)

/-- The rows as the kernel slices them. -/
theorem in_set {n : ℕ} (h : ∀ a, (![n, 0] : Fin 2 → ℕ) a + S1x1152.size a ≤ S4096x1152.size a) :
    (Rect.unit (s := S4096x1152) ![n, 0] S1x1152.size h).set = inRow n := by
  ext y
  rw [Rect.mem_set_unit, mem_inRow]
  have h2 : (y 1).val < 1152 := (y 1).isLt
  constructor
  · intro H; have a0 : n ≤ (y 0).val ∧ (y 0).val < n + 1 := H 0; omega
  · intro H a; fin_cases a
    · show n ≤ (y 0).val ∧ (y 0).val < n + 1; omega
    · show 0 ≤ (y 1).val ∧ (y 1).val < 0 + 1152; omega

theorem out_set {s : ℕ} (h : ∀ a, (![s, 0] : Fin 2 → ℕ) a + S1x1152.size a ≤ S8192x1152.size a) :
    (Rect.unit (s := S8192x1152) ![s, 0] S1x1152.size h).set = outRow s := by
  ext y
  rw [Rect.mem_set_unit, mem_outRow]
  have h2 : (y 1).val < 1152 := (y 1).isLt
  constructor
  · intro H; have a0 : s ≤ (y 0).val ∧ (y 0).val < s + 1 := H 0; omega
  · intro H a; fin_cases a
    · show s ≤ (y 0).val ∧ (y 0).val < s + 1; omega
    · show 0 ≤ (y 1).val ∧ (y 1).val < 0 + 1152; omega

/-- Row `n` of the packed activations and row `s` of the result, as the kernel names them. -/
def inMem (n : ℕ) (h : ∀ a, (![n, 0] : Fin 2 → ℕ) a + S1x1152.size a ≤ S4096x1152.size a) : Memref sig .tc .hbm S1x1152 .i32 :=
  (Memref.whole main_arg2).slice (Rect.unit (s := S4096x1152) ![n, 0] S1x1152.size h) (fun _ => rfl)
def outMem (s : ℕ) (h : ∀ a, (![s, 0] : Fin 2 → ℕ) a + S1x1152.size a ≤ S8192x1152.size a) : Memref sig .tc .hbm S1x1152 .i32 :=
  (Memref.whole main_v0).slice (Rect.unit (s := S8192x1152) ![s, 0] S1x1152.size h) (fun _ => rfl)

theorem inMem_set {n : ℕ} (h) : (inMem n h).view.set = inRow n := (View.set_slice_whole _ _).trans (in_set h)
theorem outMem_set {s : ℕ} (h) : (outMem s h).view.set = outRow s := (View.set_slice_whole _ _).trans (out_set h)

/-- Row `n` of the packed activations, copied into every row of a result. -/
def spread (fp : S4096x1152.Idx → BitVec 32) (n : ℕ) (hn : n < 4096) : S8192x1152.Idx → BitVec 32 :=
  fun y => fp (ix2 (⟨n, hn⟩ : Fin 4096) (y 1 : Fin 1152))

/-- What the copy leaves in the slot's row. -/
theorem copied {n s : ℕ} (h h') (hn : n < 4096) (fp : S4096x1152.Idx → BitVec 32) (f0 : S8192x1152.Idx → BitVec 32) :
    ∀ y ∈ outRow s, (outMem s h').view.write (Elt F) f0 ((inMem n h).view.read (Elt F) fp) Finset.univ y = spread fp n hn y := by
  intro y hy
  rw [← outMem_set h'] at hy
  obtain ⟨x, -, rfl⟩ := Finset.mem_map.mp hy
  have e := View.write_emb_of_mem (v := (outMem s h').view) (Val := Elt F) f0 ((inMem n h).view.read (Elt F) fp) (Finset.mem_univ x)
  refine e.trans ?_
  unfold spread
  show fp _ = fp _
  congr 1
  funext a
  fin_cases a
  · apply Fin.ext
    have : (x 0).val < 1 := (x 0).isLt
    show n + 1 * (x 0).val = n
    omega
  · rfl

/-- What one copy's number stands for: the slot's row of the result and a share of the token's packed row. -/
def piece (c : Dev nD) (fp : S4096x1152.Idx → BitVec 32) (f : S8192x1152.Idx → BitVec 32) (s n t : ℕ) : sProp 𝕄 :=
  iprop((((c : Thread nD τ).loc main_v0) ↦[outRow s]{fullShare} f)
    ∗ (((c : Thread nD τ).loc main_arg2) ↦[inRow n]{Transfers.shareTokN fullShare t} fp))

instance piece_storable (c : Dev nD) (fp f) (s n t : ℕ) : BI.Storable (upEmb : UEmb _ 𝕄) (piece (F := F) c fp f s n t) := by
  unfold piece; infer_instance

/-- What one row's copy adds to the semaphore. -/
def amt : ℕ := (outMem 0 inb_S8192x1152_S1x1152_0_0).view.dmaCredit
theorem amt_pos : 0 < amt := View.dmaCredit_pos _ (by decide)
theorem out_amount {s : ℕ} (h) : (outMem s h).view.dmaCredit = amt := rfl

/-- One copy, issued as transfer `j` of a batch. -/
theorem wp_issue (c : Dev nD) {n s : ℕ} (h h') (hn : n < 4096) (fp : S4096x1152.Idx → BitVec 32) (f0 f1 : S8192x1152.Idx → BitVec 32)
    (hf : ∀ y ∈ outRow s, f1 y = spread fp n hn y)
    {N t : ℕ} {D : Fin N → sProp 𝕄} {j : ℕ} (hj : j < N) (hD : D ⟨j, hj⟩ = piece c fp f1 s n t)
    {α : Type} {Q : α → sProp 𝕄} {k : PUnit → Prog (TpuEff nD τ sig (Elt F) Λ₀ .tc) α} {hsrc hdst hsem} :
    iprop(piece c fp f0 s n t ∗ Transfers.Batch EC (c : Thread nD τ) (.dma cc0_scratch0.sem) () amt D j 0)
      ⊢ iprop((Transfers.Batch EC (c : Thread nD τ) (.dma cc0_scratch0.sem) () amt D (j + 1) 0 -∗ wp frame (wpE (defs₀ (F := F)) Variants.none (c : Thread nD τ) none) Set.univ (k ⟨⟩) Q)
        -∗ wp frame (wpE (defs₀ (F := F)) Variants.none (c : Thread nD τ) none) Set.univ
          (.op (.enqueueDma (inMem n h) (.here (outMem s h')) (.dma cc0_scratch0.sem) hsrc hdst hsem) k) Q) := by
  have key := Transfers.wp_dmaBatch (Lvl := ℕ) (defs := defs₀ (F := F)) (Q := Q) EC Variants.none (c : Thread nD τ) none (src := inMem n h) (dst := outMem s h') (via := .same)
    (sm := .dma cc0_scratch0.sem) (hsrc := hsrc) (hdst := hdst) (hsem := hsem) (k := k) (q := Transfers.shareTokN fullShare t) (fs := fp)
    (Sd := (outMem s h').view.set) (fd := f0) (D := D) (j := j) (u := 0) () amt (out_amount h') (Finset.Subset.refl _) hj (Nat.zero_le _)
    (by
      rw [hD, inMem_set, outMem_set]
      unfold piece
      refine sep_mono (Entails.of_eq (pointsTo_congr fun y hy => ?_)) .rfl
      rw [hf y hy]
      exact copied h h' hn fp f0 y hy)
  rw [inMem_set, outMem_set] at key
  unfold piece
  iintro ⟨⟨Ho, Hi⟩, HB⟩
  iapply key
  isplitl [Hi]; · iexact Hi
  isplitl [Ho]; · iexact Ho
  iexact HB

/-- The same at the offsets the kernel computes. -/
theorem wp_issue_at (c : Dev nD) {n s : ℕ} {o o' : Fin 2 → ℕ} (ho : o = ![n, 0]) (ho' : o' = ![s, 0]) (h h') (hn : n < 4096)
    (fp : S4096x1152.Idx → BitVec 32) (f0 f1 : S8192x1152.Idx → BitVec 32)
    (hf : ∀ y ∈ outRow s, f1 y = spread fp n hn y)
    {N t : ℕ} {D : Fin N → sProp 𝕄} {j : ℕ} (hj : j < N) (hD : D ⟨j, hj⟩ = piece c fp f1 s n t)
    {α : Type} {Q : α → sProp 𝕄} {k : PUnit → Prog (TpuEff nD τ sig (Elt F) Λ₀ .tc) α} {hsrc hdst hsem} :
    iprop(piece c fp f0 s n t ∗ Transfers.Batch EC (c : Thread nD τ) (.dma cc0_scratch0.sem) () amt D j 0)
      ⊢ iprop((Transfers.Batch EC (c : Thread nD τ) (.dma cc0_scratch0.sem) () amt D (j + 1) 0 -∗ wp frame (wpE (defs₀ (F := F)) Variants.none (c : Thread nD τ) none) Set.univ (k ⟨⟩) Q)
        -∗ wp frame (wpE (defs₀ (F := F)) Variants.none (c : Thread nD τ) none) Set.univ
          (.op (.enqueueDma ((Memref.whole main_arg2).slice (Rect.unit (s := S4096x1152) o S1x1152.size h) (fun _ => rfl))
            (.here ((Memref.whole main_v0).slice (Rect.unit (s := S8192x1152) o' S1x1152.size h') (fun _ => rfl)))
            (.dma cc0_scratch0.sem) hsrc hdst hsem) k) Q) := by
  subst ho ho'
  exact wp_issue c h h' hn fp f0 f1 hf hj hD

end Cert.HandL
-- ==== Proof.DIssue.lean ====
/-
  The two nested loops of one grid point that issue its copies: token by token, and within a token slot by slot, each
  copy the next transfer of one batch.
-/
module

public import proofs.«01_k».proof.Proof.DRows
public import proofs.«01_k».proof.Proof.Gen.DislatIdeal.Loops

@[expose] public section

noncomputable section

namespace Cert.HandL

open Cert.DislatIdeal Cert.DislatIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UC sig nD τ) ℕ

/-- The copies of a window are pieces by number. -/
def pieces (c : Dev nD) (T : Tables) (b : ℕ) (fp : S4096x1152.Idx → BitVec 32) (f : S8192x1152.Idx → BitVec 32) :
    Fin (T.slots b 512).length → sProp 𝕄 :=
  fun j => piece c fp f (T.slots b 512)[j.val] (T.idx (T.slots b 512)[j.val]) j.val

instance pieces_storable (c : Dev nD) (T : Tables) (b : ℕ) (fp f) (j) : BI.Storable (upEmb : UEmb _ 𝕄) (pieces (F := F) c T b fp f j) := by
  unfold pieces; infer_instance

/-- The batch of a window's copies with `j` issued and `u` units awaited. -/
def flight (c : Dev nD) (T : Tables) (b : ℕ) (fp : S4096x1152.Idx → BitVec 32) (f : S8192x1152.Idx → BitVec 32) (j u : ℕ) : sProp 𝕄 :=
  Transfers.Batch EC (c : Thread nD τ) (.dma cc0_scratch0.sem) () amt (pieces c T b fp f) j u

/-- A table's block in its staging buffer. -/
def held {s : Shape} (c : Dev nD) (a : Memref sig .tc .smem s .i32) (g : Buf (Elt F) (a.view.loc (c : Thread nD τ))) : sProp 𝕄 :=
  iprop(a.view.loc (c : Thread nD τ) ↦[a.view.set]{fullShare} g)

/-- What the tables' blocks of a window hold. -/
structure Blocks (T : Tables) (b : ℕ) (d0 : S1x512.Idx → BitVec 32) (d1 : S16x512.Idx → BitVec 32) : Prop where
  cnt : ∀ a (ha : a < 512), (d0 (ix2 (0 : Fin 1) (⟨a, ha⟩ : Fin 512))).toNat = T.cnt (b + a)
  dst : ∀ k (hk : k < 16) a (ha : a < 512), k < T.cnt (b + a) →
    (d1 (ix2 (⟨k, hk⟩ : Fin 16) (⟨a, ha⟩ : Fin 512))).toNat = T.dst k (b + a)

section Loops

variable (c : Dev nD) (T : Tables) (i : grid0.Coords)
  (arg1 : Memref sig .tc .smem S1x512 .i32) (harg1 : arg1.IsWhole) (arg2 : Memref sig .tc .smem S16x512 .i32) (harg2 : arg2.IsWhole)
  (harg3 : (Memref.whole main_arg2 : Memref sig .tc .hbm S4096x1152 .i32).IsWhole)
  (harg4 : (Memref.whole main_v0 : Memref sig .tc .hbm S8192x1152 .i32).IsWhole)
  (g0 : Buf (Elt F) (arg1.view.loc (c : Thread nD τ))) (g1 : Buf (Elt F) (arg2.view.loc (c : Thread nD τ)))
  (fp : S4096x1152.Idx → BitVec 32) (f0 f1 : S8192x1152.Idx → BitVec 32)

/-- The first token of the point's window. -/
abbrev base (i : grid0.Coords) : ℕ := 512 * (i 0).val

theorem base_le : base i + 512 ≤ 4096 := by
  have : (i 0).val < 8 := (i 0).isLt
  unfold base; omega

/-- The rows of the window's slots after the copies. -/
def Filled : Prop := ∀ y : S8192x1152.Idx, ∀ hn : T.idx (y 0).val < 4096,
  base i ≤ T.idx (y 0).val → T.idx (y 0).val < base i + 512 → f1 y = spread fp (T.idx (y 0).val) hn y

/-- Copy `k` of token `a`, issued as the next transfer of the window's batch. -/
theorem wp_issue_slot (hT : T.OK) (hf : Filled T i fp f1) {a k : ℕ} (ha : a < 512) (hk : k < T.cnt (base i + a))
    {o o' : Fin 2 → ℕ} (ho : o = ![base i + a, 0]) (ho' : o' = ![T.dst k (base i + a), 0]) (h h')
    {α : Type} {Q : α → sProp 𝕄} {kk : PUnit → Prog (TpuEff nD τ sig (Elt F) Λ₀ .tc) α} {hsrc hdst hsem} :
    iprop(pieces c T (base i) fp f0 ⟨(T.slots (base i) a).length + k, T.number_lt (base i) ha hk⟩
        ∗ flight c T (base i) fp f1 ((T.slots (base i) a).length + k) 0)
      ⊢ iprop((flight c T (base i) fp f1 ((T.slots (base i) a).length + k + 1) 0
          -∗ wp frame (wpE (defs₀ (F := F)) Variants.none (c : Thread nD τ) none) Set.univ (kk ⟨⟩) Q)
        -∗ wp frame (wpE (defs₀ (F := F)) Variants.none (c : Thread nD τ) none) Set.univ
          (.op (.enqueueDma ((Memref.whole main_arg2).slice (Rect.unit (s := S4096x1152) o S1x1152.size h) (fun _ => rfl))
            (.here ((Memref.whole main_v0).slice (Rect.unit (s := S8192x1152) o' S1x1152.size h') (fun _ => rfl)))
            (.dma cc0_scratch0.sem) hsrc hdst hsem) kk) Q) := by
  have hb := base_le i
  have hget := T.number_get (base i) (A := 512) ha hk (T.number_lt (base i) ha hk)
  have hfed := hT.fed (base i + a) (by omega) k hk
  have hpc (f) : pieces (F := F) c T (base i) fp f ⟨(T.slots (base i) a).length + k, T.number_lt (base i) ha hk⟩
      = piece c fp f (T.dst k (base i + a)) (base i + a) ((T.slots (base i) a).length + k) := by
    unfold pieces; simp only [hget, hfed]
  rw [hpc]
  unfold flight
  exact wp_issue_at c ho ho' h h' (by omega) fp f0 f1 (fun y hy => by
      rw [mem_outRow] at hy
      have := hf y (by rw [hy, hfed]; omega) (by rw [hy, hfed]; omega) (by rw [hy, hfed]; omega)
      rw [this]; unfold spread; simp only [hy, hfed]) (T.number_lt (base i) ha hk) (hpc f1)

/-- Before copy `k` of token `a`. -/
def slotInv (a : ℕ) (k : ℕ) (_ : Unit) : sProp 𝕄 :=
  iprop(flight c T (base i) fp f1 ((T.slots (base i) a).length + k) 0
    ∗ bigSep (Ring.rangeSet (T.slots (base i) 512).length ((T.slots (base i) a).length + k) (T.slots (base i) 512).length) (pieces c T (base i) fp f0)
    ∗ held c arg2 g1)

theorem slot_step (hT : T.OK) (hB : Blocks T (base i) (arg1.view.read (Elt F) g0) (arg2.view.read (Elt F) g1))
    (hf : Filled T i fp f1) (a : Fin k0_t1_loop.trips) (v9 : BitVec 32) (hv9 : v9.toNat = T.cnt (base i + a.val)) (hw1 : k0_chk1 a v9)
    (k : Fin (k0_t2_loop v9).trips) (acc : Unit) :
    slotInv c T i arg2 g1 fp f0 f1 a.val k.val acc
      ⊢ wp frame (wpE (defs₀ (F := F)) Variants.none (c : Thread nD τ) none) Set.univ
        (k0_t2_body i arg1 harg1 arg2 harg2 (Memref.whole main_arg2) harg3 (Memref.whole main_v0) harg4 cc0_scratch0 a v9 hw1 k acc)
        (slotInv c T i arg2 g1 fp f0 f1 a.val (k.val + 1)) := by
  have ha : a.val < 512 := lt_of_lt_of_eq a.isLt t1_trips
  have hb := base_le i
  have hc16 := hT.cnt_le (base i + a.val) (by omega)
  have hk : k.val < T.cnt (base i + a.val) := lt_of_lt_of_eq k.isLt ((t2_trips (by omega)).trans hv9)
  have hlt := T.number_lt (base i) (A := 512) ha hk
  have hget := T.number_get (base i) (A := 512) ha hk hlt
  unfold slotInv held
  rw [Ring.bigSep_rangeSet_head hlt hlt]
  iintro ⟨HB, ⟨Hp, HPs⟩, H2⟩
  sl_unfold [k0_t2_body]
  sl_exec
  have hs : (slot_step.sl.r c arg2 g1 a v9 hw1 k).toNat = T.dst k.val (base i + a.val) := by
    unfold slot_step.sl.r
    rw [← hB.dst k.val (by omega) a.val ha hk]
    congr 1
    show arg2.view.read (Elt F) g1 _ = arg2.view.read (Elt F) g1 _
    congr 1
    funext x
    apply Fin.ext
    have e := off2_eq a v9 (by omega) k
    fin_cases x
    · show k0_off2 a v9 k 0 + 1 * 0 = k.val
      rw [e]; rfl
    · show k0_off2 a v9 k 1 + 1 * 0 = a.val
      rw [e]; rfl
  have hlt' := hT.dst_lt (base i + a.val) (by omega) k.val hk
  have hfed := hT.fed (base i + a.val) (by omega) k.val hk
  iapply (wp_assume Variants.none (c : Thread nD τ) none Set.univ (chk2 _ (by rw [hs]; exact hlt')))
  sl_exec
  iapply (wp_issue_slot c T i fp f0 f1 hT hf ha hk (k0_off4_eq i a) ((off3_eq _).trans (by rw [hs])) _ _) $$ [Hp HB]
  · isplitl [Hp] <;> iassumption
  iintro HB
  sl_step
  isplitl [HB]; · iexact HB
  isplitl [HPs]; · iexact HPs
  iexact H2

/-- Before token `a`: the carried total counts the copies issued. -/
def tokInv (a : ℕ) (total : BitVec 32) : sProp 𝕄 :=
  iprop(⌜total.toNat = (T.slots (base i) a).length⌝
    ∗ flight c T (base i) fp f1 (T.slots (base i) a).length 0
    ∗ bigSep (Ring.rangeSet (T.slots (base i) 512).length (T.slots (base i) a).length (T.slots (base i) 512).length) (pieces c T (base i) fp f0)
    ∗ held c arg1 g0 ∗ held c arg2 g1)

theorem tok_step (hT : T.OK) (hB : Blocks T (base i) (arg1.view.read (Elt F) g0) (arg2.view.read (Elt F) g1))
    (hf : Filled T i fp f1) (a : Fin k0_t1_loop.trips) (total : BitVec 32) :
    tokInv c T i arg1 arg2 g0 g1 fp f0 f1 a.val total
      ⊢ wp frame (wpE (defs₀ (F := F)) Variants.none (c : Thread nD τ) none) Set.univ
        (k0_t1_body i arg1 harg1 arg2 harg2 (Memref.whole main_arg2) harg3 (Memref.whole main_v0) harg4 cc0_scratch0 a total)
        (tokInv c T i arg1 arg2 g0 g1 fp f0 f1 (a.val + 1)) := by
  have ha : a.val < 512 := lt_of_lt_of_eq a.isLt t1_trips
  have hb := base_le i
  have hc16 := hT.cnt_le (base i + a.val) (by omega)
  have hlen := hT.slots_length_le (b := base i) (a := a.val) (by omega)
  have hsucc := T.slots_succ_length (base i) a.val
  unfold tokInv
  iintro ⟨%htot, HB, HPs, H1, H2⟩
  unfold held
  sl_unfold [k0_t1_body]
  sl_exec
  have hs : (tok_step.sl.r c arg1 g0 a).toNat = T.cnt (base i + a.val) := by
    unfold tok_step.sl.r
    rw [← hB.cnt a.val ha]
    congr 1
    show arg1.view.read (Elt F) g0 _ = arg1.view.read (Elt F) g0 _
    congr 1
    funext x
    apply Fin.ext
    have e := k0_off1_eq a
    fin_cases x
    · show k0_off1 a 0 + 1 * 0 = 0
      rw [e]; rfl
    · show k0_off1 a 1 + 1 * 0 = a.val
      rw [e]; rfl
  have hw := chk1 a (tok_step.sl.r c arg1 g0 a) (by omega)
  iapply (wp_assume Variants.none (c : Thread nD τ) none Set.univ hw)
  sl_exec
  sl_for (slotInv c T i arg2 g1 fp f0 f1 a.val) $$ [HB HPs H2]
  · intro k acc
    exact slot_step c T i arg1 harg1 arg2 harg2 harg3 harg4 g0 g1 fp f0 f1 hT hB hf a _ hs hw k acc
  · unfold slotInv held
    isplitl [HB]; · iexact HB
    isplitl [HPs]; · iexact HPs
    iexact H2
  iintro %acc HL
  sl_exec
  sl_step
  have hadd : (tok_step.sl.v15 c arg1 g0 a total).toNat = (T.slots (base i) (a.val + 1)).length := by
    unfold tok_step.sl.v15
    show (total + tok_step.sl.r c arg1 g0 a).toNat = _
    rw [BitVec.toNat_add, htot, hs, hsucc]
    omega
  ihave HL' := (show slotInv c T i arg2 g1 fp f0 f1 a.val (k0_t2_loop (tok_step.sl.r c arg1 g0 a)).trips acc
      ⊢ iprop(flight c T (base i) fp f1 (T.slots (base i) (a.val + 1)).length 0
    ∗ bigSep (Ring.rangeSet (T.slots (base i) 512).length (T.slots (base i) (a.val + 1)).length (T.slots (base i) 512).length) (pieces c T (base i) fp f0)
    ∗ held c arg2 g1) from by
      unfold slotInv
      rw [t2_trips (by omega), hs, hsucc]) $$ HL
  icases HL' with ⟨HB, HPs, H2⟩
  unfold held
  isplitr; · ipureintro; exact hadd
  isplitl [HB]; · iexact HB
  isplitl [HPs]; · iexact HPs
  isplitl [H1]; · iexact H1
  iexact H2

/-- After `k` waits of the drain. -/
def drainInv (k : ℕ) (_ : Unit) : sProp 𝕄 :=
  iprop(flight c T (base i) fp f1 (T.slots (base i) 512).length (k * amt) ∗ ∃ W, owes (c : Thread nD τ) 0 W)

theorem drain_step (v2 : BitVec 32) (hv2 : v2.toNat = (T.slots (base i) 512).length) (hlt : v2.toNat < 2147483648) (hw4 : k0_chk4 v2)
    (k : Fin (k0_t4_loop v2).trips) (acc : Unit) :
    drainInv c T i fp f1 k.val acc
      ⊢ wp frame (wpE (defs₀ (F := F)) Variants.none (c : Thread nD τ) none) Set.univ
        (k0_t4_body i arg1 harg1 arg2 harg2 (Memref.whole main_arg2) harg3 (Memref.whole main_v0) harg4 cc0_scratch0 v2 hw4 k acc)
        (drainInv c T i fp f1 (k.val + 1)) := by
  have hk : k.val < (T.slots (base i) 512).length := lt_of_lt_of_eq k.isLt ((t4_trips hlt).trans hv2)
  have hu : k.val * amt + 1 * amt ≤ amt * (T.slots (base i) 512).length := by
    rw [← Nat.add_mul, Nat.mul_comm]; exact Nat.mul_le_mul_left _ hk
  unfold drainInv
  iintro ⟨HB, ⟨%W, HW⟩⟩
  sl_unfold [k0_t4_body]
  sl_exec
  unfold flight
  iapply (Transfers.wp_waitBatchMul (Lvl := ℕ) (defs := defs₀ (F := F)) EC Variants.none (c : Thread nD τ) none () (N := amt) 1
    ((out_amount inb_S8192x1152_S1x1152_0_0).trans (Nat.one_mul _).symm) hu) $$ [HB HW]
  · isplitl [HB] <;> iassumption
  iintro ⟨HB, HW⟩
  sl_step
  isplitl [HB]
  · rw [Nat.add_mul]; iexact HB
  iexists _; iexact HW

end Loops

end Cert.HandL
-- ==== Proof.DBody.lean ====
/-
  One grid point of the dispatch: the result and the packed activations are cut into the pieces of the window's copies,
  the copies issued and awaited, and the pieces put back.
-/
module

public import proofs.«01_k».proof.Proof.DIssue

@[expose] public section

noncomputable section

namespace Cert.HandL

open Cert.DislatIdeal Cert.DislatIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UC sig nD τ) ℕ

section Cut

variable (c : Dev nD) (T : Tables) (b : ℕ) (fp : S4096x1152.Idx → BitVec 32) (f : S8192x1152.Idx → BitVec 32)

/-- The rows of the window's slots. -/
def winRows : Finset S8192x1152.Idx :=
  (Finset.univ : Finset (Fin (T.slots b 512).length)).biUnion fun j => outRow (T.slots b 512)[j.val]

/-- What no copy of the window needs: the other rows of the result, the other rows of each copy's share of the
    packed activations, and what is left of their share. -/
def rest : sProp 𝕄 :=
  iprop((((c : Thread nD τ).loc main_v0) ↦[Finset.univ \ winRows T b]{fullShare} f)
    ∗ (((c : Thread nD τ).loc main_arg2) ↦{Transfers.shareDrop fullShare (T.slots b 512).length} fp)
    ∗ bigSep Finset.univ fun j : Fin (T.slots b 512).length =>
        ((c : Thread nD τ).loc main_arg2) ↦[Finset.univ \ inRow (T.idx (T.slots b 512)[j.val])]{Transfers.shareTokN fullShare j.val} fp)

theorem cut_out (hnd : (T.slots b 512).Nodup) :
    (((c : Thread nD τ).loc main_v0) ↦{fullShare} f : sProp 𝕄)
      = iprop((bigSep Finset.univ fun j : Fin (T.slots b 512).length => ((c : Thread nD τ).loc main_v0) ↦[outRow (T.slots b 512)[j.val]]{fullShare} f)
          ∗ (((c : Thread nD τ).loc main_v0) ↦[Finset.univ \ winRows T b]{fullShare} f)) := by
  have h1 := pointsTo_split_subset (Ix := Unit) (Name := ℕ) (U := Pipeline.UC sig nD τ) (Lvl := ℕ) (Val := Elt F)
    (ℓ := (c : Thread nD τ).loc main_v0) (q := fullShare) (f := f) (Finset.subset_univ (winRows T b))
  refine (Entails.antisymm h1.1 h1.2).trans ?_
  congr 1
  refine pointsTo_biUnion (ℓ := (c : Thread nD τ).loc main_v0) (Finset.univ : Finset (Fin (T.slots b 512).length)) _ ?_
  intro j _ j' _ hne
  refine outRow_disjoint fun e => hne (Fin.ext ?_)
  exact (List.Nodup.getElem_inj_iff hnd).mp e

theorem cut_in :
    (((c : Thread nD τ).loc main_arg2) ↦{fullShare} fp : sProp 𝕄)
      = iprop((((c : Thread nD τ).loc main_arg2) ↦{Transfers.shareDrop fullShare (T.slots b 512).length} fp)
        ∗ ((bigSep Finset.univ fun j : Fin (T.slots b 512).length =>
          ((c : Thread nD τ).loc main_arg2) ↦[inRow (T.idx (T.slots b 512)[j.val])]{Transfers.shareTokN fullShare j.val} fp)
        ∗ bigSep Finset.univ fun j : Fin (T.slots b 512).length =>
          ((c : Thread nD τ).loc main_arg2) ↦[Finset.univ \ inRow (T.idx (T.slots b 512)[j.val])]{Transfers.shareTokN fullShare j.val} fp)) := by
  have h1 := Transfers.pointsTo_toks_range (Ix := Unit) (Name := ℕ) (U := Pipeline.UC sig nD τ) (Lvl := ℕ) (Val := Elt F)
    (ℓ := (c : Thread nD τ).loc main_arg2) (S := Finset.univ) (f := fp) fullShare (T.slots b 512).length
  refine (Entails.antisymm h1.1 h1.2).trans ?_
  congr 1
  refine (Ring.bigSep_fin_eq_range (T.slots b 512).length (fun j => ((c : Thread nD τ).loc main_arg2) ↦{Transfers.shareTokN fullShare j.val} fp) _
    (fun _ _ => rfl)).symm.trans ?_
  refine (bigSep_congr fun j _ => ?_).trans (bigSep_sep _ _ _)
  have h2 := pointsTo_split_subset (Ix := Unit) (Name := ℕ) (U := Pipeline.UC sig nD τ) (Lvl := ℕ) (Val := Elt F)
    (ℓ := (c : Thread nD τ).loc main_arg2) (q := Transfers.shareTokN fullShare j.val) (f := fp)
    (Finset.subset_univ (inRow (T.idx (T.slots b 512)[j.val])))
  exact Entails.antisymm h2.1 h2.2

theorem pieces_eq :
    (bigSep Finset.univ (pieces c T b fp f) : sProp 𝕄)
      = iprop((bigSep Finset.univ fun j : Fin (T.slots b 512).length => ((c : Thread nD τ).loc main_v0) ↦[outRow (T.slots b 512)[j.val]]{fullShare} f)
        ∗ bigSep Finset.univ fun j : Fin (T.slots b 512).length =>
          ((c : Thread nD τ).loc main_arg2) ↦[inRow (T.idx (T.slots b 512)[j.val])]{Transfers.shareTokN fullShare j.val} fp) :=
  bigSep_sep Finset.univ _ _

theorem cut (hnd : (T.slots b 512).Nodup) :
    iprop((((c : Thread nD τ).loc main_arg2) ↦{fullShare} fp) ∗ (((c : Thread nD τ).loc main_v0) ↦{fullShare} f))
      ⊢ (iprop(bigSep Finset.univ (pieces c T b fp f) ∗ rest c T b fp f) : sProp 𝕄) := by
  rw [cut_out c T b f hnd, cut_in c T b fp, pieces_eq]
  unfold rest
  iintro ⟨⟨Hd, Hi, Hir⟩, Ho, Hor⟩
  isplitl [Hi Ho]
  · isplitl [Ho] <;> iassumption
  isplitl [Hor]; · iexact Hor
  isplitl [Hd] <;> iassumption

theorem uncut (hnd : (T.slots b 512).Nodup) :
    (iprop(bigSep Finset.univ (pieces c T b fp f) ∗ rest c T b fp f) : sProp 𝕄)
      ⊢ iprop((((c : Thread nD τ).loc main_arg2) ↦{fullShare} fp) ∗ (((c : Thread nD τ).loc main_v0) ↦{fullShare} f)) := by
  rw [cut_out c T b f hnd, cut_in c T b fp, pieces_eq]
  unfold rest
  iintro ⟨⟨Ho, Hi⟩, Hor, Hd, Hir⟩
  isplitl [Hi Hir Hd]
  · isplitl [Hd]; · iexact Hd
    isplitl [Hi] <;> iassumption
  isplitl [Ho] <;> iassumption

theorem rest_congr {f f' : S8192x1152.Idx → BitVec 32} (h : ∀ y, y ∉ winRows T b → f y = f' y) :
    (rest c T b fp f : sProp 𝕄) = rest c T b fp f' := by
  unfold rest
  rw [pointsTo_congr fun y hy => h y (Finset.mem_sdiff.mp hy).2]

theorem mem_winRows (hT : T.OK) (hb : b + 512 ≤ 4096) (y : S8192x1152.Idx) :
    y ∈ winRows T b ↔ b ≤ T.idx (y 0).val ∧ T.idx (y 0).val < b + 512 := by
  have hy : (y 0).val < 8192 := (y 0).isLt
  have hm := hT.mem_slots (s := (y 0).val) hb
  unfold winRows
  simp only [Finset.mem_biUnion, Finset.mem_univ, true_and, mem_outRow]
  constructor
  · rintro ⟨j, e⟩
    exact (hm.mp (e ▸ List.getElem_mem _)).2
  · intro h
    obtain ⟨j, hj, e⟩ := List.mem_iff_getElem.mp (hm.mpr ⟨hy, h⟩)
    exact ⟨⟨j, hj⟩, e.symm⟩

end Cut

section Body

variable (c : Dev nD) (T : Tables) (i : grid0.Coords)
  (arg1 : Memref sig .tc .smem S1x512 .i32) (harg1 : arg1.IsWhole) (arg2 : Memref sig .tc .smem S16x512 .i32) (harg2 : arg2.IsWhole)
  (harg3 : (Memref.whole main_arg2 : Memref sig .tc .hbm S4096x1152 .i32).IsWhole)
  (harg4 : (Memref.whole main_v0 : Memref sig .tc .hbm S8192x1152 .i32).IsWhole)
  (g0 : Buf (Elt F) (arg1.view.loc (c : Thread nD τ))) (g1 : Buf (Elt F) (arg2.view.loc (c : Thread nD τ)))
  (fp : S4096x1152.Idx → BitVec 32) (f0 f1 : S8192x1152.Idx → BitVec 32)

/-- ONE GRID POINT: from the tables' blocks, the packed activations, the result at `f0` and the semaphore at zero, the
    body runs to the same with the result at `f1`. -/
theorem body_run (hT : T.OK) (hB : Blocks T (base i) (arg1.view.read (Elt F) g0) (arg2.view.read (Elt F) g1))
    (hf : Filled T i fp f1) (hold : ∀ y : S8192x1152.Idx, ¬ (base i ≤ T.idx (y 0).val ∧ T.idx (y 0).val < base i + 512) → f1 y = f0 y)
    (W : Waits sig Unit) :
    iprop(held c arg1 g0 ∗ held c arg2 g1 ∗ (((c : Thread nD τ).loc main_arg2) ↦{fullShare} fp)
        ∗ (((c : Thread nD τ).loc main_v0) ↦{fullShare} f0) ∗ semVal ((c : Thread nD τ), SemLoc.dma cc0_scratch0.sem) 0
        ∗ owes (c : Thread nD τ) 0 W)
      ⊢ wp frame (wpE (defs₀ (F := F)) Variants.none (c : Thread nD τ) none) Set.univ
        (cc0_dispatch i arg1 harg1 arg2 harg2 (Memref.whole main_arg2) harg3 (Memref.whole main_v0) harg4 cc0_scratch0)
        (fun _ => iprop(held c arg1 g0 ∗ held c arg2 g1 ∗ (((c : Thread nD τ).loc main_arg2) ↦{fullShare} fp)
        ∗ (((c : Thread nD τ).loc main_v0) ↦{fullShare} f1) ∗ semVal ((c : Thread nD τ), SemLoc.dma cc0_scratch0.sem) 0
        ∗ ∃ W', owes (c : Thread nD τ) 0 W')) := by
  have hb := base_le i
  have hnd := hT.slots_nodup (b := base i) (a := 512) hb
  have hlen := hT.slots_length_le (b := base i) (a := 512) hb
  rw [cc0_dispatch_eq_skeleton]
  iintro ⟨H1, H2, Hp, Ho, Hs, HW⟩
  ihave Hc := (cut c T (base i) fp f0 hnd) $$ [Hp Ho]
  · isplitl [Hp] <;> iassumption
  icases Hc with ⟨HPs, Hr⟩
  imod (Transfers.batch_alloc' (Lvl := ℕ) EC (c : Thread nD τ) () amt (pieces c T (base i) fp f1) (sm := .dma cc0_scratch0.sem) (E := Set.univ)) $$ Hs with HB
  sl_unfold [cc0_dispatch_skel]
  sl_for (tokInv c T i arg1 arg2 g0 g1 fp f0 f1) $$ [HB HPs H1 H2]
  · intro k acc
    exact tok_step c T i arg1 harg1 arg2 harg2 harg3 harg4 g0 g1 fp f0 f1 hT hB hf k acc
  · unfold tokInv
    isplitr; · ipureintro; rfl
    isplitl [HB]; · unfold flight; iexact HB
    isplitl [HPs]
    · rw [T.slots_zero, List.length_nil, Ring.rangeSet_univ]; iexact HPs
    isplitl [H1] <;> iassumption
  iintro %v2 HL
  ihave HL' := (show tokInv c T i arg1 arg2 g0 g1 fp f0 f1 k0_t1_loop.trips v2
      ⊢ iprop(⌜v2.toNat = (T.slots (base i) 512).length⌝ ∗ flight c T (base i) fp f1 (T.slots (base i) 512).length 0
        ∗ held c arg1 g0 ∗ held c arg2 g1) from by
      unfold tokInv
      rw [t1_trips]
      iintro ⟨Hv, HB, -, H1, H2⟩
      isplitl [Hv]; · iexact Hv
      isplitl [HB]; · iexact HB
      isplitl [H1] <;> iassumption) $$ HL
  icases HL' with ⟨%hv2, HB, H1, H2⟩
  sl_exec
  sl_for (drainInv c T i fp f1) $$ [HB HW]
  · intro k acc
    exact drain_step c T i arg1 harg1 arg2 harg2 harg3 harg4 fp f1 v2 hv2 (by omega) _ k acc
  · unfold drainInv
    isplitl [HB]
    · rw [Nat.zero_mul]; iexact HB
    iexists W; iexact HW
  iintro %acc HL
  ihave HL' := (show drainInv c T i fp f1 (k0_t4_loop v2).trips acc
      ⊢ iprop(Transfers.Batch EC (c : Thread nD τ) (.dma cc0_scratch0.sem) () amt (pieces c T (base i) fp f1)
          (T.slots (base i) 512).length (amt * (T.slots (base i) 512).length) ∗ ∃ W, owes (c : Thread nD τ) 0 W) from by
      unfold drainInv flight
      rw [t4_trips (by omega), hv2, Nat.mul_comm]) $$ HL
  icases HL' with ⟨HB, HW⟩
  imod (Transfers.batch_collect' EC (c : Thread nD τ) amt_pos) $$ HB with ⟨HPs, Hs⟩
  sl_exec
  sl_step
  ihave Hr' := (show rest c T (base i) fp f0 ⊢ rest c T (base i) fp f1 from by
      rw [rest_congr c T (base i) fp fun y hy => (hold y fun h => hy ((mem_winRows T (base i) hT hb y).mpr h)).symm]) $$ Hr
  ihave Hc := (uncut c T (base i) fp f1 hnd) $$ [HPs Hr']
  · isplitl [HPs] <;> iassumption
  icases Hc with ⟨Hp, Ho⟩
  isplitl [H1]; · iexact H1
  isplitl [H2]; · iexact H2
  isplitl [Hp]; · iexact Hp
  isplitl [Ho]; · iexact Ho
  isplitl [Hs]; · iexact Hs
  iexact HW

end Body

end Cert.HandL
-- ==== Proof.DRun.lean ====
/-
  The run of the dispatch: at every grid point the window's rows are copied, so that after the last the result holds
  at every slot its token's row, the packed activations are as they were and the semaphore is at zero.
-/
module

public import proofs.«01_k».proof.Proof.DBody
public import proofs.«01_k».proof.Proof.Gen.DislatIdeal.Frame
public import Idealize.ShloMosaic.Lib.Pipeline.Routed
public import Idealize.ShloMosaic.Lib.Pipeline.Value

@[expose] public section

noncomputable section

namespace Cert.HandL

open Cert.DislatIdeal Cert.DislatIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UC sig nD τ) ℕ

/-! ## The tables of a memory -/

/-- The routing tables three integer arrays hold. -/
def tab (a0 : S1x4096.Idx → BitVec 32) (a1 : S16x4096.Idx → BitVec 32) (a3 : S16x512.Idx → BitVec 32) : Tables where
  cnt n := if h : n < 4096 then (a0 (ix2 (0 : Fin 1) (⟨n, h⟩ : Fin 4096))).toNat else 0
  dst k n := if h : k < 16 ∧ n < 4096 then (a1 (ix2 (⟨k, h.1⟩ : Fin 16) (⟨n, h.2⟩ : Fin 4096))).toNat else 0
  idx s := if h : s < 8192 then (a3 (ix2 (⟨s / 512, by omega⟩ : Fin 16) (⟨s % 512, by omega⟩ : Fin 512))).toNat else 0

/-- The result once the tokens below `b` are copied. -/
def upTo (T : Tables) (fp : S4096x1152.Idx → BitVec 32) (f0 : S8192x1152.Idx → BitVec 32) (b : ℕ) : S8192x1152.Idx → BitVec 32 :=
  fun y => if h : T.idx (y 0).val < b ∧ T.idx (y 0).val < 4096 then spread fp (T.idx (y 0).val) h.2 y else f0 y

theorem upTo_zero (T : Tables) (fp : S4096x1152.Idx → BitVec 32) (f0 : S8192x1152.Idx → BitVec 32) : upTo T fp f0 0 = f0 := by
  funext y; unfold upTo; rw [dif_neg (by omega)]

/-! ## The proof data -/

variable (m : (ℓ : Loc nD τ sig) → Buf (Elt F) ℓ) (ρ : Dev nD → PrngReg)

abbrev mCnt (c : Dev nD) : S1x4096.Idx → BitVec 32 := m ((c : Thread nD τ).loc main_arg0)
abbrev mDst (c : Dev nD) : S16x4096.Idx → BitVec 32 := m ((c : Thread nD τ).loc main_arg1)
abbrev mRows (c : Dev nD) : S4096x1152.Idx → BitVec 32 := m ((c : Thread nD τ).loc main_arg2)
abbrev mTok (c : Dev nD) : S16x512.Idx → BitVec 32 := m ((c : Thread nD τ).loc main_arg3)
abbrev mOut (c : Dev nD) : S8192x1152.Idx → BitVec 32 := m ((c : Thread nD τ).loc main_v0)
/-- Core `c`'s tables. -/
abbrev mTab (c : Dev nD) : Tables := tab (mCnt m c) (mDst m c) (mTok m c)
/-- The result before grid point `t`. -/
abbrev outAt (c : Dev nD) (t : ℕ) : S8192x1152.Idx → BitVec 32 := upTo (mTab m c) (mRows m c) (mOut m c) (512 * t)

/-- What the body holds before grid point `t` beside the windows. -/
def Mid (c : Dev nD) (t : ℕ) (_ : t ≤ cfg0.N) : sProp 𝕄 :=
  iprop((((c : Thread nD τ).loc main_arg2) ↦{fullShare} mRows m c) ∗ (((c : Thread nD τ).loc main_v0) ↦{fullShare} outAt m c t)
    ∗ semVal ((c : Thread nD τ), SemLoc.dma cc0_scratch0.sem) 0 ∗ ∃ r, prngReg c r)

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
  Φ t := Mid m c t.val (Nat.le_of_lt_succ t.isLt)
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans (by unfold Dat.fetched Dat.blockOf iblk; rw [A_eq]; rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]) t d).trans (by unfold Dat.fetched Dat.blockOf iblk; rw [A_eq]; rfl)

theorem Phi_castSucc (c : Dev nD) (t : Fin cfg0.N) : (dats m 0 c).Φ t.castSucc = Mid m c t.val (Nat.le_of_lt t.isLt) := by
  dsimp only [dats]; exact Pipeline.Dat.Φ_castSucc (Mid m c) t
theorem Phi_succ (c : Dev nD) (t : Fin cfg0.N) : (dats m 0 c).Φ t.succ = Mid m c (t.val + 1) t.isLt := by
  dsimp only [dats]; rfl

/-! ## The blocks -/

theorem coord_eq : ∀ t : Fin cfg0.N, ((grid0.coords t) 0).val = t.val := by decide
theorem index0 : ∀ t : Fin cfg0.N, (cfg0.win 0).index t (0 : Fin 2) = 0 ∧ (cfg0.win 0).index t (1 : Fin 2) = t.val := by decide
theorem index1 : ∀ t : Fin cfg0.N, (cfg0.win 1).index t (0 : Fin 2) = 0 ∧ (cfg0.win 1).index t (1 : Fin 2) = t.val := by decide

theorem iblk0_eq (c : Dev nD) (t : Fin cfg0.N) (a : ℕ) (ha : a < 512) (hn : 512 * t.val + a < 4096) :
    iblk m c 0 t (ix2 (0 : Fin 1) (⟨a, ha⟩ : Fin 512)) = mCnt m c (ix2 (0 : Fin 1) (⟨512 * t.val + a, hn⟩ : Fin 4096)) := by
  unfold iblk
  refine congrArg (m ((c : Thread nD τ).loc main_arg0)) ?_
  funext b
  apply Fin.ext
  have h := (cfg0.win 0).rect_emb_val t (ix2 (0 : Fin 1) (⟨a, ha⟩ : Fin 512)) b
  refine h.trans ?_
  match b with
  | ⟨0, _⟩ => exact (congrArg (fun z => z * 1 + 0) (index0 t).1).trans rfl
  | ⟨1, _⟩ => exact (congrArg (fun z => z * 512 + a) (index0 t).2).trans (by show t.val * 512 + a = 512 * t.val + a; omega)

theorem iblk1_eq (c : Dev nD) (t : Fin cfg0.N) (k : ℕ) (hk : k < 16) (a : ℕ) (ha : a < 512) (hn : 512 * t.val + a < 4096) :
    iblk m c 1 t (ix2 (⟨k, hk⟩ : Fin 16) (⟨a, ha⟩ : Fin 512)) = mDst m c (ix2 (⟨k, hk⟩ : Fin 16) (⟨512 * t.val + a, hn⟩ : Fin 4096)) := by
  unfold iblk
  refine congrArg (m ((c : Thread nD τ).loc main_arg1)) ?_
  funext b
  apply Fin.ext
  have h := (cfg0.win 1).rect_emb_val t (ix2 (⟨k, hk⟩ : Fin 16) (⟨a, ha⟩ : Fin 512)) b
  refine h.trans ?_
  match b with
  | ⟨0, _⟩ => exact (congrArg (fun z => z * 16 + k) (index1 t).1).trans (by show 0 * 16 + k = k; omega)
  | ⟨1, _⟩ => exact (congrArg (fun z => z * 512 + a) (index1 t).2).trans (by show t.val * 512 + a = 512 * t.val + a; omega)

theorem base_eq (t : Fin cfg0.N) : base (grid0.coords t) = 512 * t.val := by unfold base; rw [coord_eq]

theorem blocks (c : Dev nD) (t : Fin cfg0.N) : Blocks (mTab m c) (base (grid0.coords t)) (iblk m c 0 t) (iblk m c 1 t) := by
  have hN : t.val < 8 := lt_of_lt_of_eq t.isLt N_0
  rw [base_eq]
  constructor
  · intro a ha
    rw [iblk0_eq m c t a ha (by omega)]
    show _ = (tab _ _ _).cnt _
    unfold tab; dsimp only
    rw [dif_pos (by omega : 512 * t.val + a < 4096)]
  · intro k hk a ha _
    rw [iblk1_eq m c t k hk a ha (by omega)]
    show _ = (tab _ _ _).dst _ _
    unfold tab; dsimp only
    rw [dif_pos (⟨hk, by omega⟩ : k < 16 ∧ 512 * t.val + a < 4096)]

/-! ## The body's triple -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (hT : (mTab m c).OK) (t : Fin cfg0.N) :
    bodyPre m c t ⊢ wp frame (wpE (defs₀ (F := F)) Variants.none c none) Set.univ (bodyAt0 t) (fun _ => bodyPost m c t) := by
  unfold bodyPre bodyPost bodyAt0
  rw [Phi_castSucc, Phi_succ, after0, after1]
  unfold Dat.owesAt Pipeline.owesWithin Mid
  rw [show (dats m 0 c).owed t.castSucc = 0 from rfl, show (dats m 0 c).owed t.succ = 0 from rfl]
  iintro ⟨⟨Hp, Ho, Hs, Hg⟩, ⟨%W, -, HW⟩, ⟨%d0, H0⟩, ⟨%d1, H1⟩⟩
  ihave H0' := (show owns (c : Thread nD τ) (st0_0 t) fullShare ((dats m 0 c).before 0 t d0)
      ⊢ iprop(∃ g0, ⌜(st0_0 t).view.read (Elt F) g0 = iblk m c 0 t⌝ ∗ held c (st0_0 t) g0) from by
    rw [before0]; unfold owns held; exact .rfl) $$ H0
  ihave H1' := (show owns (c : Thread nD τ) (st0_1 t) fullShare ((dats m 0 c).before 1 t d1)
      ⊢ iprop(∃ g1, ⌜(st0_1 t).view.read (Elt F) g1 = iblk m c 1 t⌝ ∗ held c (st0_1 t) g1) from by
    rw [before1]; unfold owns held; exact .rfl) $$ H1
  icases H0' with ⟨%g0, %hg0, H0⟩
  icases H1' with ⟨%g1, %hg1, H1⟩
  have hB := blocks m c t
  have hN : t.val < 8 := lt_of_lt_of_eq t.isLt N_0
  have hb := base_eq t
  rw [← hg0, ← hg1] at hB
  ihave Hwp := (body_run c (mTab m c) (grid0.coords t) _ (hstage0_0 ((cfg0.slots t 0).cast nbuf0_0)) _ (hstage0_1 ((cfg0.slots t 1).cast nbuf0_1))
    (Memref.isWhole_whole _) (Memref.isWhole_whole _) g0 g1 (mRows m c) (outAt m c t.val) (outAt m c (t.val + 1)) hT hB
    (by
      intro y hn h1 h2
      unfold outAt upTo
      rw [dif_pos ⟨by omega, hn⟩])
    (by
      intro y h
      unfold outAt upTo
      by_cases h1 : (mTab m c).idx (y 0).val < 512 * t.val ∧ (mTab m c).idx (y 0).val < 4096
      · rw [dif_pos h1, dif_pos ⟨by omega, h1.2⟩]
      · rw [dif_neg h1, dif_neg (by omega)])
    W) $$ [H0 H1 Hp Ho Hs HW]
  · isplitl [H0]; · iexact H0
    isplitl [H1]; · iexact H1
    isplitl [Hp]; · iexact Hp
    isplitl [Ho]; · iexact Ho
    isplitl [Hs] <;> iassumption
  iapply (wp_wand_r Idealize.ShloMosaic.frame (wpE (defs₀ (F := F)) Variants.none (c : Thread nD τ) none) (E := Set.univ))
  isplitl [Hwp]; · iexact Hwp
  iintro %_ ⟨H0, H1, Hp, Ho, Hs, ⟨%W', HW'⟩⟩
  isplitl [Hp Ho Hs Hg]
  · isplitl [Hp]; · iexact Hp
    isplitl [Ho]; · iexact Ho
    isplitl [Hs] <;> iassumption
  isplitl [HW']
  · iexists W'; isplitr; · ipureintro; exact fun _ _ => Or.inl trivial
    iexact HW'
  isplitl [H0]
  · iapply (show held c (st0_0 t) g0 ⊢ owns (c : Thread nD τ) (st0_0 t) fullShare (iblk m c 0 t) from by
      unfold owns held
      iintro H
      iexists g0
      isplitr; · ipureintro; exact hg0
      iexact H)
    iexact H0
  · iapply (show held c (st0_1 t) g1 ⊢ owns (c : Thread nD τ) (st0_1 t) fullShare (iblk m c 1 t) from by
      unfold owns held
      iintro H
      iexists g1
      isplitr; · ipureintro; exact hg1
      iexact H)
    iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) (hT : (mTab m c).OK) :
    BodyObligation (dats (F := F) m 0 c) (defs₀ (F := F)) Variants.none () Set.univ := fun t => by
  rw [bigSep_W0, bigSep_W0, defs₀_row]
  exact triple_restated (sound_body m c hT t) rfl .rfl fun _ => .rfl

/-! ## The run -/

abbrev osem0 : Fin 1 → SemLoc sig := fun _ => SemLoc.dma cc0_scratch0.sem
theorem ownSemFacts0 : Pipeline.OwnSemFacts spec0 osem0 := by decide
theorem ownSems00_eq (c : Dev nD) :
    (Pipeline.ownSems0 (Ix := Unit) (Name := ℕ) (U := Pipeline.UC sig nD τ) (Lvl := ℕ) (Val := Elt F) osem0 c : sProp 𝕄)
      = semVal ((c : Thread nD τ), SemLoc.dma cc0_scratch0.sem) 0 := by
  rw [Pipeline.ownSems0_eq_of_list c osem0 [0] (by decide) (by decide)]; rfl

/-- The two buffers the body's own copies touch. -/
def R0 : Finset (Ref sig .tc) := {main_arg2, main_v0}

/-- Their contents at the end. -/
def endAt (c : Dev nD) (b : Ref sig .tc) : Buf (Elt F) ((c : Thread nD τ).loc b) :=
  if h : b = main_v0 then h ▸ outAt m c 8 else V m c b

theorem routed0_eq (c : Dev nD) (W : (b : Ref sig .tc) → Buf (Elt F) ((c.tc : Thread nD τ).loc b)) :
    (Pipeline.routed R0 c W : sProp 𝕄)
      = iprop((((c : Thread nD τ).loc main_arg2) ↦{fullShare} W main_arg2) ∗ (((c : Thread nD τ).loc main_v0) ↦{fullShare} W main_v0)) := by
  unfold Pipeline.routed
  rw [BI.bigSep_eq_bigSepL_of_eq [main_arg2, main_v0] (by decide) (by decide)]; rfl

theorem hin (c : Dev nD) : Pipeline.Ends spec0 osem0 R0 c (V m c) ⊢ (dats m 0 c).Φ 0 := by
  rw [show (dats m 0 c).Φ 0 = Mid m c 0 (Nat.zero_le _) from rfl]
  unfold Pipeline.Ends Mid
  rw [routed0_eq, ownSems00_eq, show outAt m c 0 = mOut m c from upTo_zero _ _ _]
  iintro ⟨⟨Hp, Ho⟩, Hs, -, Hg⟩
  isplitl [Hp]; · iexact Hp
  isplitl [Ho]; · iexact Ho
  isplitl [Hs] <;> iassumption

theorem hout (c : Dev nD) : (dats m 0 c).Φ (Fin.last cfg0.N) ⊢ Pipeline.Ends spec0 osem0 R0 c (endAt m c) := by
  rw [show (dats m 0 c).Φ (Fin.last cfg0.N) = Mid m c cfg0.N (Nat.le_refl _) from rfl]
  unfold Pipeline.Ends Mid
  rw [routed0_eq, ownSems00_eq, scopedRest0_eq, show cfg0.N = 8 from N_0,
    show endAt m c main_arg2 = V m c main_arg2 from dif_neg (by decide), show endAt m c main_v0 = outAt m c 8 from dif_pos rfl]
  iintro ⟨Hp, Ho, Hs, Hg⟩
  isplitl [Hp Ho]
  · isplitl [Hp] <;> iassumption
  isplitl [Hs]; · iexact Hs
  isplitr; · iempintro
  iexact Hg

set_option backward.isDefEq.respectTransparency.types false in
theorem run_main (hT : ∀ c, (mTab m c).OK) :
    θ_run defs (onTc (τ := τ) (main (F := F))) (s₀ m ρ)
      (fun r => Pipeline.RoutedPost cfgs (dats m) 0 R0 (V m) (endAt m) r ∧ r.2.sem = fun _ => 0) :=
  Pipeline.θ_run_frame_routed (Q' := _) cfgs (dats m) (0 : Fin 1) launch0 ownSemFacts0 defs₀ Variants.none m ρ main
    (hbody := fun c => (body_obligation m c (hT c)).loose) (hshare := fun c => (dats m 0 c).share_full fun _ => rfl)
    (howed := fun _ _ => rfl) (V := V m)
    (hmain := Pipeline.hmain_region cfgs 0 defs₀ Variants.none m main fun c => (main_chain c).trans rfl) (hA := A_eq m)
    (R := R0) (hR := by decide) (Y := endAt m) (hin := hin m) (hout := hout m) (hQ' := fun _ h => h)

/-- THE RUN, read at the program's arrays. -/
theorem run (hT : ∀ c, (mTab m c).OK) :
    θ_run defs (onTc (τ := τ) (main (F := F))) ⟨m, fun _ => 0, ρ⟩ (fun r => (∀ c : Dev nD,
      r.2.mem ((c.tc : Thread nD τ).loc main_v0) = outAt m c 8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hz⟩ => ⟨fun c => ⟨((h c).2.1 main_v0 (by decide)).trans (dif_pos rfl),
      ((h c).1 0).trans (((dats m 0 c).arrAt_in 0 rfl _).trans (A_eq m c 0)),
      ((h c).1 1).trans (((dats m 0 c).arrAt_in 1 rfl _).trans (A_eq m c 1)),
      ((h c).2.1 main_arg2 (by decide)).trans (dif_neg (by decide)),
      (h c).2.2 main_arg3 (Finset.mem_sdiff.mpr ⟨Pipeline.mem_restRefs_of main_arg3 (by decide) (by decide), by decide⟩)⟩, hz⟩)
    (run_main m ρ hT)

end Cert.HandL
-- ==== Proof.DPre.lean ====
/-
  What the precondition says: the three integer arrays are the routing tables of one assignment of tokens to slots.
-/
module

public import proofs.«01_k».proof.Pre_routed_lat
public import proofs.«01_k».proof.Proof.DRun
public import Idealize.ShloMosaic.Lib.Routing.Ops
public import Idealize.ShloMosaic.Lib.Routing.OpsOrder
public import Idealize.ShloMosaic.Lib.ReduceAll

@[expose] public section

noncomputable section

namespace Cert.HandL

open Idealize.ShloMosaic Idealize.ShloMosaic.ValueIdx Idealize.ShloMosaic.Routing

/-! ## Words -/

theorem small_of_range {w : BitVec 32} {N : ℕ} (hN : N < 2147483648)
    (h0 : IntOp.cmpi .sge w 0#32 = 1#1) (h1 : IntOp.cmpi .slt w (BitVec.ofNat 32 N) = 1#1) : w.toNat < N := by
  unfold IntOp.cmpi at h0 h1
  rw [StableHlo.Predicate.ofBool_eq_one_iff] at h0 h1
  simp only [BitVec.sle, BitVec.slt, decide_eq_true_eq] at h0 h1
  rw [StableHlo.Predicate.toInt_ofNat_small N (by omega)] at h1
  rw [show (0#32 : BitVec 32).toInt = 0 from by decide, BitVec.toInt_eq_toNat_cond] at h0
  rw [BitVec.toInt_eq_toNat_cond] at h1
  split at h1 <;> omega

theorem le_of_range {w : BitVec 32} {N : ℕ} (hN : N < 2147483647)
    (h0 : IntOp.cmpi .sge w 0#32 = 1#1) (h1 : IntOp.cmpi .sle w (BitVec.ofNat 32 N) = 1#1) : w.toNat ≤ N := by
  unfold IntOp.cmpi at h0 h1
  rw [StableHlo.Predicate.ofBool_eq_one_iff] at h0 h1
  simp only [BitVec.sle, decide_eq_true_eq] at h0 h1
  rw [StableHlo.Predicate.toInt_ofNat_small N (by omega)] at h1
  rw [show (0#32 : BitVec 32).toInt = 0 from by decide, BitVec.toInt_eq_toNat_cond] at h0
  rw [BitVec.toInt_eq_toNat_cond] at h1
  split at h1 <;> omega

/-- Clipping a word within the bounds leaves it. -/
theorem clip_word {w : BitVec 32} {N : ℕ} (hN : N < 2147483648) (hw : w.toNat ≤ N) :
    IntOp.minsi (BitVec.ofNat 32 N) (IntOp.maxsi 0#32 w) = w := by
  have hw' : w.toInt = w.toNat := StableHlo.Predicate.toInt_eq_toNat_of_lt (by omega)
  have h1 : IntOp.maxsi 0#32 w = w := by
    unfold IntOp.maxsi
    rw [if_neg]
    simp only [BitVec.slt, decide_eq_true_eq, hw']
    rw [show (0#32 : BitVec 32).toInt = 0 from by decide]
    omega
  rw [h1]
  unfold IntOp.minsi
  rw [if_neg]
  simp only [BitVec.slt, decide_eq_true_eq, hw']
  rw [StableHlo.Predicate.toInt_ofNat_small N (by omega)]
  omega

/-- An index that is not negative is not wrapped. -/
theorem wrap_word {w u : BitVec 32} (hw : w.toNat < 2147483648) : Scalar.select (IntOp.cmpi .slt w 0#32) u w = w := by
  unfold Scalar.select
  rw [if_neg]
  intro h
  have := (StableHlo.Predicate.slt_iff_toNat (a := w) (b := 0#32) (by omega) (by decide)).mp h
  simp at this

theorem lt_iff {a b : BitVec 32} (ha : a.toNat < 2147483648) (hb : b.toNat < 2147483648) :
    IntOp.cmpi .slt a b = 1#1 ↔ a.toNat < b.toNat :=
  StableHlo.Predicate.slt_iff_toNat (by omega) (by omega)

theorem and_one {a b : BitVec 1} : IntOp.andi a b = 1#1 ↔ a = 1#1 ∧ b = 1#1 := by revert a b; decide

theorem sel_one {c a : BitVec 1} (h : Scalar.select c a 1#1 = 1#1) (hc : c = 1#1) : a = 1#1 := by
  unfold Scalar.select at h; exact (if_pos hc).symm.trans h

theorem toNat_ofNat_small {n : ℕ} (h : n < 2147483648) : (BitVec.ofNat 32 n).toNat = n := by
  rw [BitVec.toNat_ofNat]; omega

/-! ## Gathers -/

/-- The dimension numbers of `table[:, idx]`. -/
abbrev colDims (K N B : ℕ) (wf : GatherDims.WF ⟨2, ![K, N]⟩ ⟨2, ![B, 1]⟩ ⟨2, ![K, B]⟩ [0] [1] [] [1] [] 1 ![K, 1]) :
    GatherDims ⟨2, ![K, N]⟩ ⟨2, ![B, 1]⟩ ⟨2, ![K, B]⟩ where
  offsetDims := [0]
  collapsedSliceDims := [1]
  operandBatchingDims := []
  startIndicesBatchingDims := []
  startIndexMap := [1]
  indexVectorDim := 1
  sliceSizes := ![K, 1]
  wf := wf

/-- `table[:, idx]` at `(k, s)` is the table at row `k` and the column that `idx` holds at `s`. -/
theorem gather_cols {α : Type} {K N B : ℕ} (wf : GatherDims.WF ⟨2, ![K, N]⟩ ⟨2, ![B, 1]⟩ ⟨2, ![K, B]⟩ [0] [1] [] [1] [] 1 ![K, 1])
    (x : (⟨2, ![K, N]⟩ : Shape).Idx → α) (idx : IVec ⟨2, ![B, 1]⟩ 32) (k : Fin K) (s : Fin B) (n : Fin N)
    (hn : (idx (ix2 s (0 : Fin 1))).toNat = n.val) (hN : N < 2147483648) :
    Host.gather (colDims K N B wf) x idx (ix2 k s) = x (ix2 k n) := by
  unfold Host.gather
  congr 1
  funext a
  refine Fin.ext ?_
  show (colDims K N B wf).start (ix2 k s) idx a + (colDims K N B wf).batchCoord (ix2 k s) a + (colDims K N B wf).offCoord (ix2 k s) a = _
  rw [GatherDims.batchCoord_eq_zero _ _ _ List.not_mem_nil, Nat.add_zero]
  have hlt := n.isLt
  match a with
  | ⟨0, _⟩ =>
    have hst : (colDims K N B wf).start (ix2 k s) idx (0 : Fin 2) = 0 := by
      unfold GatherDims.start
      exact dif_neg (show (0 : Fin 2) ∉ [(1 : Fin 2)] from by decide)
    refine (congrArg (fun z => z + _) hst).trans ?_
    rw [Nat.zero_add]
    unfold GatherDims.offCoord
    refine (dif_pos ((GatherDims.mem_sKept _ _).mpr ⟨(by decide : (0 : Fin 2) ∉ [(1 : Fin 2)]), List.not_mem_nil⟩)).trans ?_
    rfl
  | ⟨1, _⟩ =>
    have hoff : (colDims K N B wf).offCoord (ix2 k s) (1 : Fin 2) = 0 :=
      GatherDims.offCoord_eq_zero _ _ _ (fun h => ((GatherDims.mem_sKept _ _).mp h).1 (List.mem_singleton.mpr rfl))
    refine (congrArg (fun z => _ + z) hoff).trans ?_
    rw [Nat.add_zero]
    have hsi : (colDims K N B wf).siIdx (ix2 k s) ⟨List.idxOf (1 : Fin 2) (colDims K N B wf).startIndexMap,
        List.idxOf_lt_length_iff.2 (List.mem_singleton.mpr rfl)⟩ = ix2 s (0 : Fin 1) := by
      funext b; refine Fin.ext ?_
      match b with
      | ⟨0, _⟩ => rfl
      | ⟨1, _⟩ => rfl
    unfold GatherDims.start
    refine (dif_pos (show (1 : Fin 2) ∈ (colDims K N B wf).startIndexMap from List.mem_singleton.mpr rfl)).trans ?_
    refine (congrArg (fun z => min (idx z).toInt.toNat (N - 1)) hsi).trans ?_
    show min (idx (ix2 s (0 : Fin 1))).toInt.toNat (N - 1) = n.val
    rw [StableHlo.Predicate.toInt_eq_toNat_of_lt (by omega), hn]
    simp; omega

/-! ## The precondition -/

section

variable [hF : Cert.Pre_routed_lat.Facts]

open Cert.Pre_routed_lat Cert.Pre_routed_lat.Facts

variable (a0 : S1x4096.Idx → BitVec 32) (a1 : S16x4096.Idx → BitVec 32) (a2 : S4096x1152.Idx → BitVec 32) (a3 : S16x512.Idx → BitVec 32)

/-- The routed tokens, flat. -/
abbrev flat : IVec S8192 32 := shapeCast S8192 a3 shapeCasts_S16x512_S8192

/-- Which entries of `dst` count. -/
abbrev active : IVec S16x4096 1 := cmpi .slt (iotaInDim S16x4096 32 0) (broadcastInDim S16x4096 ![0, 1] bcast_S1x4096_S16x4096_0_1 a0)

theorem flat_toNat {s : ℕ} (hs : s < 8192) : (flat a3 (ix1 ⟨s, hs⟩)).toNat = (tab a0 a1 a3).idx s := by
  unfold flat
  rw [cast21 (a := 16) (b := 512) (n := 8192) a3 _ ⟨s / 512, by omega⟩ ⟨s % 512, by omega⟩ ⟨s, hs⟩ (by show s = s / 512 * 512 + s % 512; omega)]
  show _ = dite _ _ _
  rw [dif_pos hs]

theorem cnt_toNat {n : ℕ} (hn : n < 4096) : (a0 (ix2 (0 : Fin 1) ⟨n, hn⟩)).toNat = (tab a0 a1 a3).cnt n := by
  show _ = dite _ _ _
  rw [dif_pos hn]

theorem dst_toNat {k n : ℕ} (hk : k < 16) (hn : n < 4096) : (a1 (ix2 ⟨k, hk⟩ ⟨n, hn⟩)).toNat = (tab a0 a1 a3).dst k n := by
  show _ = dite _ _ _
  rw [dif_pos ⟨hk, hn⟩]

theorem active_word (k : Fin 16) (n : Fin 4096) :
    active a0 (ix2 k n) = IntOp.cmpi .slt (BitVec.ofNat 32 k.val) (a0 (ix2 (0 : Fin 1) n)) := by
  refine congrArg (IntOp.cmpi .slt (BitVec.ofNat 32 k.val)) ?_
  refine broadcastInDim_apply _ _ a0 _ _ fun a => ?_
  match a with
  | ⟨0, _⟩ => rfl
  | ⟨1, _⟩ => rfl

/-- An index clipped into `[0, hi]` and then wrapped, as array indexing does it. -/
abbrev clipWrap (hi N w : BitVec 32) : BitVec 32 :=
  Scalar.select (IntOp.cmpi .slt (IntOp.minsi hi (IntOp.maxsi 0#32 w)) 0#32) (IntOp.addi (IntOp.minsi hi (IntOp.maxsi 0#32 w)) N)
    (IntOp.minsi hi (IntOp.maxsi 0#32 w))

theorem clipWrap_eq {w N : BitVec 32} {n : ℕ} (hn : n < 2147483648) (hw : w.toNat ≤ n) : clipWrap (BitVec.ofNat 32 n) N w = w := by
  unfold clipWrap
  rw [clip_word hn hw, wrap_word (by omega)]

/-- The tokens found at the slots `dst` lists. -/
abbrev fedBack : IVec S16x4096 32 :=
  Host.gather gather_S8192_S16x4096x1_S16x4096_n_0_n_n_0_2_1 (flat a3)
    (broadcastInDim S16x4096x1 ![0, 1] bcast_S16x4096_S16x4096x1_0_1 (fun j => clipWrap 8191#32 8192#32 (a1 j)))

/-- The token of every slot, as a column of indices. -/
abbrev tokCol : IVec S8192x1 32 :=
  broadcastInDim S8192x1 ![0] bcast_S8192_S8192x1_0 (fun j => clipWrap 4095#32 4096#32 (flat a3 j))

/-- The `dst` lists of the slots' tokens. -/
abbrev dstAt : IVec S16x8192 32 := Host.gather gather_S16x4096_S8192x1_S16x8192_0_1_n_n_1_1_161 a1 (tokCol a3)

/-- The counts of the slots' tokens. -/
abbrev cntAt : IVec S1x8192 32 := Host.gather gather_S1x4096_S8192x1_S1x8192_0_1_n_n_1_1_11 a0 (tokCol a3)

/-- Where a slot is on its token's list. -/
abbrev listed : IVec S16x8192 1 :=
  andi (cmpi .eq (dstAt a1 a3) (iotaInDim S16x8192 32 1))
    (cmpi .slt (iotaInDim S16x8192 32 0) (broadcastInDim S16x8192 ![0, 1] bcast_S1x8192_S16x8192_0_1 (cntAt a0 a3)))

theorem parts {F : FTy → Type} [FloatOps F] (h : Cert.Pre_routed_lat.fn (F := F) a0 a1 a2 a3 = fun _ => 1#1) :
    (∀ n : S1x4096.Idx, IntOp.cmpi .sge (a0 n) 0#32 = 1#1 ∧ IntOp.cmpi .sle (a0 n) 16#32 = 1#1) ∧
    (∀ s : S8192.Idx, IntOp.cmpi .sge (flat a3 s) 0#32 = 1#1 ∧ IntOp.cmpi .slt (flat a3 s) 4096#32 = 1#1) ∧
    (∀ j : S16x4096.Idx, active a0 j = 1#1 → IntOp.cmpi .sge (a1 j) 0#32 = 1#1 ∧ IntOp.cmpi .slt (a1 j) 8192#32 = 1#1) ∧
    (∀ j : S16x4096.Idx, active a0 j = 1#1 → IntOp.cmpi .eq (fedBack a1 a3 j) (iotaInDim S16x4096 32 1 j) = 1#1) ∧
    (∀ j : S15x4096.Idx, extractStridedSlice S15x4096 ![1, 0] (active a0) slices_S16x4096_S15x4096_1_0 j = 1#1 →
      IntOp.cmpi .slt (extractStridedSlice S15x4096 ![0, 0] a1 slices_S16x4096_S15x4096_0_0 j)
        (extractStridedSlice S15x4096 ![1, 0] a1 slices_S16x4096_S15x4096_1_0 j) = 1#1) ∧
    (∀ s : S8192.Idx, Host.reduce IntOp.ori (listed a0 a1 a3) (constantI S_ 1 0#1) reducesTo_S16x8192_S8192_d0 h_S_ s = 1#1) := by
  have : Subsingleton S_.Idx := ⟨fun a b => funext fun x => x.elim0⟩
  have h0 := congrFun h ix0
  unfold fn fn_part1 fn_part2 fn_part3 fn_where fn_where_0 fn_clip fn_clip_1 at h0
  dsimp only at h0
  obtain ⟨h0, e6⟩ := and_one.mp (show IntOp.andi _ _ = 1#1 from h0)
  obtain ⟨h0, e5⟩ := and_one.mp (show IntOp.andi _ _ = 1#1 from h0)
  obtain ⟨h0, e4⟩ := and_one.mp (show IntOp.andi _ _ = 1#1 from h0)
  obtain ⟨h0, e3⟩ := and_one.mp (show IntOp.andi _ _ = 1#1 from h0)
  obtain ⟨e1, e2⟩ := and_one.mp (show IntOp.andi _ _ = 1#1 from h0)
  refine ⟨fun n => ?_, fun s => ?_, fun j hj => ?_, fun j hj => ?_, fun j hj => ?_, fun s => ?_⟩
  · exact and_one.mp (Host.reduce_andi_all _ _ _ _ _ e1 n)
  · exact and_one.mp (Host.reduce_andi_all _ _ _ _ _ e2 s)
  · exact and_one.mp (sel_one (Host.reduce_andi_all _ _ _ _ _ e3 j) hj)
  · exact sel_one (Host.reduce_andi_all _ _ _ _ _ e4 j) hj
  · exact sel_one (Host.reduce_andi_all _ _ _ _ _ e5 j) hj
  · exact Host.reduce_andi_all _ _ _ _ _ e6 s

theorem fedBack_word {k : ℕ} {n : ℕ} (hk : k < 16) (hn : n < 4096) {s : ℕ} (hs : s < 8192)
    (hd : (a1 (ix2 ⟨k, hk⟩ ⟨n, hn⟩)).toNat = s) : fedBack a1 a3 (ix2 ⟨k, hk⟩ ⟨n, hn⟩) = flat a3 (ix1 ⟨s, hs⟩) := by
  refine (gather_take_apply (N := 8192) (R := 16) (C := 4096) (by decide) _ (flat a3) _ (ix2 ⟨k, hk⟩ ⟨n, hn⟩)).trans ?_
  refine congrArg (fun i : Fin 8192 => flat a3 (ix1 i)) (Fin.ext ?_)
  have hv : (broadcastInDim S16x4096x1 ![0, 1] bcast_S16x4096_S16x4096x1_0_1 (fun j => clipWrap 8191#32 8192#32 (a1 j)) :
      IVec S16x4096x1 32) (takeIdx (ix2 ⟨k, hk⟩ ⟨n, hn⟩)) = a1 (ix2 ⟨k, hk⟩ ⟨n, hn⟩) := by
    refine (broadcastInDim_apply _ _ _ _ (ix2 (⟨k, hk⟩ : Fin 16) (⟨n, hn⟩ : Fin 4096)) fun a => ?_).trans
      (clipWrap_eq (n := 8191) (by decide) (by omega))
    match a with
    | ⟨0, _⟩ => rfl
    | ⟨1, _⟩ => rfl
  show min (BitVec.toInt _).toNat (8192 - 1) = s
  rw [hv, StableHlo.Predicate.toInt_eq_toNat_of_lt (by omega), hd]
  simp; omega

theorem tokCol_toNat {s n : ℕ} (hs : s < 8192) (hn : n < 4096) (h : (flat a3 (ix1 ⟨s, hs⟩)).toNat = n) :
    (tokCol a3 (ix2 ⟨s, hs⟩ (0 : Fin 1))).toNat = n := by
  have e : tokCol a3 (ix2 ⟨s, hs⟩ (0 : Fin 1)) = flat a3 (ix1 ⟨s, hs⟩) :=
    (bcCol (n := 8192) _ _ ⟨s, hs⟩).trans (clipWrap_eq (n := 4095) (by decide) (by omega))
  rw [e, h]

theorem dstAt_word {k s n : ℕ} (hk : k < 16) (hs : s < 8192) (hn : n < 4096) (h : (flat a3 (ix1 ⟨s, hs⟩)).toNat = n) :
    dstAt a1 a3 (ix2 ⟨k, hk⟩ ⟨s, hs⟩) = a1 (ix2 ⟨k, hk⟩ ⟨n, hn⟩) :=
  gather_cols (K := 16) (N := 4096) (B := 8192) _ a1 _ ⟨k, hk⟩ ⟨s, hs⟩ ⟨n, hn⟩ (tokCol_toNat a3 hs hn h) (by decide)

theorem cntAt_word {s n : ℕ} (hs : s < 8192) (hn : n < 4096) (h : (flat a3 (ix1 ⟨s, hs⟩)).toNat = n) :
    cntAt a0 a3 (ix2 (0 : Fin 1) ⟨s, hs⟩) = a0 (ix2 (0 : Fin 1) ⟨n, hn⟩) :=
  gather_cols (K := 1) (N := 4096) (B := 8192) _ a0 _ (0 : Fin 1) ⟨s, hs⟩ ⟨n, hn⟩ (tokCol_toNat a3 hs hn h) (by decide)

theorem listed_iff {k s n : ℕ} (hk : k < 16) (hs : s < 8192) (hn : n < 4096) (h : (flat a3 (ix1 ⟨s, hs⟩)).toNat = n)
    (e : listed a0 a1 a3 (ix2 ⟨k, hk⟩ ⟨s, hs⟩) = 1#1) (hc : (a0 (ix2 (0 : Fin 1) ⟨n, hn⟩)).toNat ≤ 16) :
    (a1 (ix2 ⟨k, hk⟩ ⟨n, hn⟩)).toNat = s ∧ k < (a0 (ix2 (0 : Fin 1) ⟨n, hn⟩)).toNat := by
  obtain ⟨e1, e2⟩ := and_one.mp (show IntOp.andi _ _ = 1#1 from e)
  have e1 : IntOp.cmpi .eq (dstAt a1 a3 (ix2 ⟨k, hk⟩ ⟨s, hs⟩)) (BitVec.ofNat 32 s) = 1#1 := e1
  rw [dstAt_word a1 a3 hk hs hn h] at e1
  have e1 := StableHlo.Predicate.cmpi_eq_iff.mp e1
  have hb : (broadcastInDim S16x8192 ![0, 1] bcast_S1x8192_S16x8192_0_1 (cntAt a0 a3) : IVec S16x8192 32) (ix2 ⟨k, hk⟩ ⟨s, hs⟩)
      = a0 (ix2 (0 : Fin 1) ⟨n, hn⟩) := by
    refine (broadcastInDim_apply _ _ _ _ (ix2 (0 : Fin 1) (⟨s, hs⟩ : Fin 8192)) fun a => ?_).trans (cntAt_word a0 a3 hs hn h)
    match a with
    | ⟨0, _⟩ => rfl
    | ⟨1, _⟩ => rfl
  have e2 : IntOp.cmpi .slt (BitVec.ofNat 32 k) ((broadcastInDim S16x8192 ![0, 1] bcast_S1x8192_S16x8192_0_1 (cntAt a0 a3) :
    IVec S16x8192 32) (ix2 ⟨k, hk⟩ ⟨s, hs⟩)) = 1#1 := e2
  rw [hb, lt_iff (by rw [toNat_ofNat_small (by omega)]; omega) (by omega), toNat_ofNat_small (by omega)] at e2
  rw [e1, toNat_ofNat_small (by omega)]
  exact ⟨rfl, e2⟩

/-- The precondition makes the tables those of one assignment. -/
theorem tables_ok {F : FTy → Type} [FloatOps F] (h : Cert.Pre_routed_lat.fn (F := F) a0 a1 a2 a3 = fun _ => 1#1) : (tab a0 a1 a3).OK := by
  obtain ⟨e1, e2, e3, e4, e5, e6⟩ := parts a0 a1 a2 a3 h
  have hcnt : ∀ n : Fin 4096, (a0 (ix2 (0 : Fin 1) n)).toNat ≤ 16 := fun n => le_of_range (N := 16) (by decide) (e1 _).1 (e1 _).2
  have hflat : ∀ s : Fin 8192, (flat a3 (ix1 s)).toNat < 4096 := fun s => small_of_range (N := 4096) (by decide) (e2 _).1 (e2 _).2
  have hact : ∀ (k : Fin 16) (n : Fin 4096), k.val < (a0 (ix2 (0 : Fin 1) n)).toNat → active a0 (ix2 k n) = 1#1 := fun k n hk => by
    have := hcnt n
    rw [active_word, lt_iff (by rw [toNat_ofNat_small (by omega)]; omega) (by omega), toNat_ofNat_small (by omega)]
    exact hk
  have hdst : ∀ (k : Fin 16) (n : Fin 4096), k.val < (a0 (ix2 (0 : Fin 1) n)).toNat → (a1 (ix2 k n)).toNat < 8192 := fun k n hk =>
    small_of_range (N := 8192) (by decide) (e3 _ (hact k n hk)).1 (e3 _ (hact k n hk)).2
  have hcle : ∀ n < 4096, (tab a0 a1 a3).cnt n ≤ 16 := fun n hn => by rw [← cnt_toNat a0 a1 a3 hn]; exact hcnt _
  have hdlt : ∀ n < 4096, ∀ k < (tab a0 a1 a3).cnt n, (tab a0 a1 a3).dst k n < 8192 := fun n hn k hk => by
    have := hcle n hn
    rw [← dst_toNat a0 a1 a3 (show k < 16 by omega) hn]
    exact hdst ⟨k, by omega⟩ ⟨n, hn⟩ (by rw [cnt_toNat a0 a1 a3 hn]; exact hk)
  have hrise : ∀ n < 4096, ∀ k, k + 1 < (tab a0 a1 a3).cnt n → (tab a0 a1 a3).dst k n < (tab a0 a1 a3).dst (k + 1) n := fun n hn k hk => by
    have := hcle n hn
    have hk1 : k + 1 < 16 := by omega
    have hk0 : k < 16 := by omega
    have ha := hact ⟨k + 1, hk1⟩ ⟨n, hn⟩ (by rw [cnt_toNat a0 a1 a3 hn]; exact hk)
    have s1 : ∀ {α : Type} (v : S16x4096.Idx → α), extractStridedSlice S15x4096 ![1, 0] v slices_S16x4096_S15x4096_1_0
        (ix2 (⟨k, by omega⟩ : Fin 15) (⟨n, hn⟩ : Fin 4096)) = v (ix2 (⟨k + 1, hk1⟩ : Fin 16) (⟨n, hn⟩ : Fin 4096)) := fun v => by
      unfold extractStridedSlice
      refine congrArg v (funext fun a => Fin.ext ?_)
      match a with
      | ⟨0, _⟩ => exact Nat.add_comm 1 k
      | ⟨1, _⟩ => exact Nat.zero_add n
    have s0 : extractStridedSlice S15x4096 ![0, 0] a1 slices_S16x4096_S15x4096_0_0
        (ix2 (⟨k, by omega⟩ : Fin 15) (⟨n, hn⟩ : Fin 4096)) = a1 (ix2 (⟨k, hk0⟩ : Fin 16) (⟨n, hn⟩ : Fin 4096)) := by
      unfold extractStridedSlice
      refine congrArg a1 (funext fun a => Fin.ext ?_)
      match a with
      | ⟨0, _⟩ => exact Nat.zero_add k
      | ⟨1, _⟩ => exact Nat.zero_add n
    have h5 := e5 (ix2 (⟨k, by omega⟩ : Fin 15) (⟨n, hn⟩ : Fin 4096)) ((s1 _).trans ha)
    rw [s0, s1] at h5
    have b0 : (a1 (ix2 (⟨k, hk0⟩ : Fin 16) (⟨n, hn⟩ : Fin 4096))).toNat < 8192 := by
      rw [dst_toNat a0 a1 a3 hk0 hn]; exact hdlt n hn k (by omega)
    have b1 : (a1 (ix2 (⟨k + 1, hk1⟩ : Fin 16) (⟨n, hn⟩ : Fin 4096))).toNat < 8192 := by
      rw [dst_toNat a0 a1 a3 hk1 hn]; exact hdlt n hn (k + 1) hk
    rw [lt_iff (by omega) (by omega), dst_toNat a0 a1 a3 hk0 hn, dst_toNat a0 a1 a3 hk1 hn] at h5
    exact h5
  have hmono : ∀ n < 4096, ∀ k d, k + (d + 1) < (tab a0 a1 a3).cnt n → (tab a0 a1 a3).dst k n < (tab a0 a1 a3).dst (k + (d + 1)) n := by
    intro n hn k d
    induction d with
    | zero => exact hrise n hn k
    | succ d ih => exact fun hk => (ih (by omega)).trans (hrise n hn (k + (d + 1)) hk)
  refine ⟨hcle, hdlt, fun n hn k hk => ?_, fun n hn k hk k' hk' e => ?_, fun s hs => ?_⟩
  · have := hcle n hn
    have hk16 : k < 16 := by omega
    have h4 := e4 (ix2 (⟨k, hk16⟩ : Fin 16) (⟨n, hn⟩ : Fin 4096)) (hact _ _ (by rw [cnt_toNat a0 a1 a3 hn]; exact hk))
    rw [fedBack_word a1 a3 hk16 hn (hdlt n hn k hk) (dst_toNat a0 a1 a3 hk16 hn)] at h4
    have h4 := StableHlo.Predicate.cmpi_eq_iff.mp h4
    rw [← flat_toNat a0 a1 a3 (hdlt n hn k hk), h4]
    exact toNat_ofNat_small (n := n) (by omega)
  · rcases Nat.lt_trichotomy k k' with hlt | rfl | hlt
    · have := hmono n hn k (k' - k - 1) (by omega)
      rw [show k + (k' - k - 1 + 1) = k' by omega] at this
      omega
    · rfl
    · have := hmono n hn k' (k - k' - 1) (by omega)
      rw [show k' + (k - k' - 1 + 1) = k by omega] at this
      omega
  · have hn : (tab a0 a1 a3).idx s < 4096 := by rw [← flat_toNat a0 a1 a3 hs]; exact hflat _
    refine ⟨hn, ?_⟩
    have h6 := e6 (ix1 ⟨s, hs⟩)
    rw [Host.reduce_eq_fold] at h6
    obtain ⟨i, hi, hl⟩ := (fold_ori _ _).mp h6
    have hd := congrArg (fun z : S8192.Idx => (z 0).val) (Finset.mem_filter.mp hi).2
    have hi1 : (i 1).val = s := (Shape.ReducesTo.drop_apply_val_of_eq reducesTo_S16x8192_S8192_d0 i (0 : Fin 1) (1 : Fin 2)).symm.trans hd
    have hik : i = ix2 (⟨(i 0).val, (i 0).isLt⟩ : Fin 16) (⟨s, hs⟩ : Fin 8192) := by
      funext a
      match a with
      | ⟨0, _⟩ => rfl
      | ⟨1, _⟩ => exact Fin.ext hi1
    rw [hik] at hl
    have hl := listed_iff a0 a1 a3 (i 0).isLt hs hn (flat_toNat a0 a1 a3 hs) hl (hcnt _)
    refine ⟨(i 0).val, ?_, ?_⟩
    · rw [← cnt_toNat a0 a1 a3 hn]; exact hl.2
    · rw [← dst_toNat a0 a1 a3 (i 0).isLt hn]; exact hl.1

end

end Cert.HandL
-- ==== Proof.DGathered.lean ====
/-
  The reference: the row of each slot's token. Its run, and its result as the rows the dispatch leaves.
-/
module

public import proofs.«01_k».proof.GatlatIdeal
public import proofs.«01_k».proof.Proof.Gen.GatlatIdeal
public import proofs.«01_k».proof.Proof.Gen.GatlatIdeal.Run
public import proofs.«01_k».proof.Proof.DPre

@[expose] public section

noncomputable section

namespace Cert.HandL

open Idealize.ShloMosaic Idealize.ShloMosaic.ValueIdx Idealize.ShloMosaic.Routing Idealize.SL.Sem

section

variable {F : FTy → Type} [FloatOps F]

open Cert.GatlatIdeal Cert.GatlatIdeal.Facts Cert.GatlatIdeal.Facts₀

/-- The reference's result: `rows[tokens]`. -/
def gathered (rows : S4096x1152.Idx → BitVec 32) (tok : S16x512.Idx → BitVec 32) : S8192x1152.Idx → BitVec 32 :=
  Host.gather gather_S4096x1152_S8192x1_S8192x1152_1_0_n_n_0_1_11152 rows
    (broadcastInDim S8192x1 ![0] bcast_S8192_S8192x1_0 (fun j => Scalar.select
      (IntOp.cmpi .slt (shapeCast S8192 tok shapeCasts_S16x512_S8192 j) 0#32)
      (IntOp.addi (shapeCast S8192 tok shapeCasts_S16x512_S8192 j) 4096#32)
      (shapeCast S8192 tok shapeCasts_S16x512_S8192 j)))

theorem gather_run (m : (ℓ : Loc nD τ sig) → Buf (Elt F) ℓ) (g : Dev nD → PrngReg) :
    θ_run (defs (F := F)) (onTc (τ := τ) (main (F := F))) ⟨m, fun _ => 0, g⟩ (fun r =>
      (∀ c : Dev nD, r.2.mem ((c.tc : Thread nD τ).loc main_v7)
          = gathered (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run (defs (F := F)) _ _).mono (fun r h => ⟨fun c => h c, sem_eq_zero_of_no_sems (by decide) r.2⟩)
    (Cert.GatlatIdeal.Value.run (F := F) m g)

end

/-- With the tables of one assignment, the reference's rows are those the dispatch leaves, whatever the output held before. -/
theorem gathered_eq (a0 : Cert.DislatIdeal.S1x4096.Idx → BitVec 32) (a1 : Cert.DislatIdeal.S16x4096.Idx → BitVec 32)
    (rows : Cert.DislatIdeal.S4096x1152.Idx → BitVec 32) (tok : Cert.DislatIdeal.S16x512.Idx → BitVec 32)
    (f0 : Cert.DislatIdeal.S8192x1152.Idx → BitVec 32) (hT : (tab a0 a1 tok).OK) :
    upTo (tab a0 a1 tok) rows f0 (512 * 8) = gathered rows tok := by
  funext y
  have hs : (y 0).val < 8192 := (y 0).isLt
  obtain ⟨hn, -⟩ := hT.full _ hs
  have hcast : shapeCast Cert.GatlatIdeal.S8192 tok Cert.GatlatIdeal.Facts₀.shapeCasts_S16x512_S8192 (ix1 ⟨(y 0).val, hs⟩)
      = BitVec.ofNat 32 ((tab a0 a1 tok).idx (y 0).val) := by
    rw [cast21 (a := 16) (b := 512) (n := 8192) tok _ ⟨(y 0).val / 512, by omega⟩ ⟨(y 0).val % 512, by omega⟩ ⟨(y 0).val, hs⟩
      (by show (y 0).val = (y 0).val / 512 * 512 + (y 0).val % 512; omega)]
    have : (tab a0 a1 tok).idx (y 0).val = (tok (ix2 ⟨(y 0).val / 512, by omega⟩ ⟨(y 0).val % 512, by omega⟩)).toNat := by
      show dite _ _ _ = _
      rw [dif_pos hs]
    rw [this, BitVec.ofNat_toNat, BitVec.setWidth_eq]
  unfold upTo
  rw [dif_pos ⟨by omega, hn⟩]
  refine Eq.symm ((congrArg (gathered rows tok) (show y = ix2 (⟨(y 0).val, hs⟩ : Fin 8192) (y 1 : Fin 1152) from eq_ix2 y)).trans ?_)
  refine gather_row (nb := 4096) (B := 1152) (n := 8192) _ rfl rfl rfl rfl rfl rows _ ⟨(y 0).val, hs⟩ (y 1) ⟨_, hn⟩ ?_ (by decide)
  refine (bcCol (n := 8192) _ _ _).trans ?_
  rw [hcast, wrap_word (by rw [toNat_ofNat_small (by omega)]; omega)]

end Cert.HandL
-- ==== Proof.DTwin.lean ====
/-
  The dispatch and its idealization are the same program text: a run of one is a run of the other, over any float values.
-/
module

public import proofs.«01_k».proof.Dislat
public import proofs.«01_k».proof.DislatIdeal
public import proofs.«01_k».proof.Proof.Gen.Dislat
public import proofs.«01_k».proof.Proof.Gen.DislatIdeal

@[expose] public section

noncomputable section

namespace Cert.HandL

open Idealize.ShloMosaic Idealize.SL.Sem

variable {F : FTy → Type} [FloatOps F]

theorem body_twin (t : Fin Cert.Dislat.grid0.N) (s) :
    Cert.Dislat.defs₀ (F := F) .tc 0 (t, s) = Cert.DislatIdeal.defs₀ (F := F) .tc 0 (t, s) := rfl

theorem defs₀_twin : Cert.Dislat.defs₀ (F := F) = Cert.DislatIdeal.defs₀ (F := F) := by
  funext p ℓ a
  match p, ℓ, a with
  | .tc, 0, (t, s) => exact body_twin t s
  | .scScalar _, _, _ => rfl
  | .scVector _ _, _, _ => rfl

theorem defs_twin : Cert.Dislat.defs (F := F) = Cert.DislatIdeal.defs (F := F) :=
  congrArg (Pipeline.defs (Cert.DislatIdeal.pcfgs (F := F))) defs₀_twin

theorem θ_twin (s : MemSt Cert.DislatIdeal.nD Cert.DislatIdeal.τ Cert.DislatIdeal.sig (Elt F))
    (Q : PUnit × MemSt Cert.DislatIdeal.nD Cert.DislatIdeal.τ Cert.DislatIdeal.sig (Elt F) → Prop) :
    θ_run (Cert.Dislat.defs (F := F)) (onTc (τ := Cert.Dislat.τ) (Cert.Dislat.main (F := F))) s Q
      = θ_run (Cert.DislatIdeal.defs (F := F)) (onTc (τ := Cert.DislatIdeal.τ) (Cert.DislatIdeal.main (F := F))) s Q :=
  congrArg (fun d => θ_run d (onTc (τ := Cert.DislatIdeal.τ) (Cert.DislatIdeal.main (F := F))) s Q) defs_twin

end Cert.HandL
-- ==== Proof.EBody.lean ====
module

public import proofs.«01_k».proof.Proof.Gen.ExpertsIdeal.Frame
public import proofs.«01_k».proof.Proof.Gen.ExpertsIdeal.Skeleton
public import Idealize.ShloMosaic.Lib.Pipeline.Frame
public import Idealize.ShloMosaic.Lib.Tactic
public import Idealize.ShloMosaic.Lib.ValueIdx
public import Idealize.ShloMosaic.Lib.Pipeline.ValueKit.Tiles

@[expose] public section

noncomputable section

namespace Cert.Moe

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The three scratch buffers: the rows, the hidden tiles and the gates. -/
abbrev scX : Memref sig .tc .vmem S1536x2048 .bf16 := Memref.whole cc0_scratch0
abbrev scH : Memref sig .tc .vmem S8x1536x256 .bf16 := Memref.whole cc0_scratch1
abbrev scG : Memref sig .tc .vmem S1536x1 .f32 := Memref.whole cc0_scratch2

theorem first_true (i : grid0.Coords) (hs : (i 1).val = 0) :
    Scalar.cmpi .ne (Scalar.extui (Scalar.cmpi .eq (BitVec.ofNat 32 (i 1).val) 0#32) : BitVec 32) 0#32 = 1#1 := by
  rw [hs]; decide

/-- The gates of the second source's rows, over the expert's number alone. -/
def gateLow (e : BitVec 32) (v51 : Vec F S512x128 .i32) : FVec F S512x1 .f32 :=
  shapeCast S512x1 (shapeCast S512x1 (multiReduction .add [1] S512
    (select (cmpi .eq (iota .tc S512x128 32 [1] iota_S512x128_d1_w32) (broadcast S512x128 e))
      (bitcastToFloat .f32 v51 : FVec F S512x128 .f32) (broadcast S512x128 (Scalar.ofBits .f32 0x00000000#32)))
    0x00000000#32 reduces_S512x128_S512 (.inl rfl) rfl) shapeCasts_S512_S512x1) shapeCasts_S512x1_S512x1

/-- The word a row and a column of the tile come from: the row's word of the first or the second source,
    at the column taken modulo the half width. -/
def wordX (x0 : Vec F S1024x1152 .i32) (x1 : Vec F S512x1152 .i32) : S1536x2048.Idx → BitVec 32 := fun y =>
  if h : (y 0).val < 1024 then x0 (ix2 ⟨(y 0).val, h⟩ ⟨(y 1).val % 1024, by have := Nat.mod_lt (y 1).val (show 0 < 1024 by decide); omega⟩)
  else x1 (ix2 ⟨(y 0).val - 1024, by have := (y 0).isLt; simp only [Shape.size] at this; change (y 0).val < 1536 at this; omega⟩
    ⟨(y 1).val % 1024, by have := Nat.mod_lt (y 1).val (show 0 < 1024 by decide); omega⟩)

/-- The rows unpacked: the low half of the word in the first half of the columns, the high half in the second. -/
def rowsX (x0 : Vec F S1024x1152 .i32) (x1 : Vec F S512x1152 .i32) : FVec F S1536x2048 .bf16 := fun y =>
  FloatOps.truncf .bf16 bitsLt_bf16_f32 (FloatOps.ofBits .f32
    (if (y 1).val < 1024 then IntOp.shli .vector (wordX x0 x1 y) 16#32 else IntOp.andi (wordX x0 x1 y) 4294901760#32))

/-- The affinity words of the two sources' rows. -/
def laneC (x0 : Vec F S1024x1152 .i32) : Vec F S1024x128 .i32 :=
  fun z => x0 (ix2 (z 0) ⟨1024 + (z 1).val, by have := (z 1).isLt; change (z 1).val < 128 at this; omega⟩)
def laneL (x1 : Vec F S512x1152 .i32) : Vec F S512x128 .i32 :=
  fun z => x1 (ix2 (z 0) ⟨1024 + (z 1).val, by have := (z 1).isLt; change (z 1).val < 128 at this; omega⟩)

/-- The rows' gates: the lane of the row's affinities the expert's number names. -/
def gatesX (e : BitVec 32) (x0 : Vec F S1024x1152 .i32) (x1 : Vec F S512x1152 .i32) : FVec F S1536x1 .f32 := fun y =>
  if h : (y 0).val < 1024 then
    k0_pay9 (F := F) e (laneC x0) (ix2 ⟨(y 0).val, h⟩ 0)
  else
    gateLow (F := F) e (laneL x1)
      (ix2 ⟨(y 0).val - 1024, by have := (y 0).isLt; change (y 0).val < 1536 at this; omega⟩ 0)

/-- The hidden tiles after one more is stored at slab `s`. -/
def updH (s : ℕ) (h : Vec F S8x1536x256 .bf16) (p : FVec F S1x1536x256 .bf16) : Vec F S8x1536x256 .bf16 := fun y =>
  if (y 0).val = s then p (ix3 0 (y 1) (y 2)) else h y

theorem emb_unit_val {S : Shape} (off size : Fin S.rank → Nat) (inb) (x : (Rect.unit (s := S) off size inb).shape.Idx) (a : Fin S.rank) :
    (((Rect.unit off size inb).emb x) a : Nat) = off a + x a := Rect.idx_unit_val off size inb x a

theorem rowsX_lo0 (x0 : Vec F S1024x1152 .i32) (x1 : Vec F S512x1152 .i32) (y : S1536x2048.Idx) (z : S1024x1152.Idx)
    (h0 : (y 0).val < 1024) (h1 : (y 1).val < 1024) (z0 : (z 0).val = (y 0).val) (z1 : (z 1).val = (y 1).val) :
    rowsX x0 x1 y = FloatOps.truncf .bf16 bitsLt_bf16_f32 (FloatOps.ofBits .f32 (IntOp.shli .vector (x0 z) 16#32)) := by
  have hz : wordX x0 x1 y = x0 z := by
    unfold wordX; rw [dif_pos h0]
    refine congrArg x0 (funext fun a => Fin.ext ?_)
    match a with
    | 0 => exact z0.symm
    | 1 => exact (Nat.mod_eq_of_lt h1).trans z1.symm
  unfold rowsX; rw [if_pos h1, hz]

theorem rowsX_hi0 (x0 : Vec F S1024x1152 .i32) (x1 : Vec F S512x1152 .i32) (y : S1536x2048.Idx) (z : S1024x1152.Idx)
    (h0 : (y 0).val < 1024) (h1 : ¬ (y 1).val < 1024) (z0 : (z 0).val = (y 0).val) (z1 : (z 1).val + 1024 = (y 1).val) :
    rowsX x0 x1 y = FloatOps.truncf .bf16 bitsLt_bf16_f32 (FloatOps.ofBits .f32 (IntOp.andi (x0 z) 4294901760#32)) := by
  have hy : (y 1).val < 2048 := (y 1).isLt
  have hz : wordX x0 x1 y = x0 z := by
    unfold wordX; rw [dif_pos h0]
    refine congrArg x0 (funext fun a => Fin.ext ?_)
    match a with
    | 0 => exact z0.symm
    | 1 => show (y 1).val % 1024 = (z 1).val; omega
  unfold rowsX; rw [if_neg h1, hz]

theorem rowsX_lo1 (x0 : Vec F S1024x1152 .i32) (x1 : Vec F S512x1152 .i32) (y : S1536x2048.Idx) (z : S512x1152.Idx)
    (h0 : ¬ (y 0).val < 1024) (h1 : (y 1).val < 1024) (z0 : (z 0).val + 1024 = (y 0).val) (z1 : (z 1).val = (y 1).val) :
    rowsX x0 x1 y = FloatOps.truncf .bf16 bitsLt_bf16_f32 (FloatOps.ofBits .f32 (IntOp.shli .vector (x1 z) 16#32)) := by
  have hz : wordX x0 x1 y = x1 z := by
    unfold wordX; rw [dif_neg h0]
    refine congrArg x1 (funext fun a => Fin.ext ?_)
    match a with
    | 0 => show (y 0).val - 1024 = (z 0).val; omega
    | 1 => exact (Nat.mod_eq_of_lt h1).trans z1.symm
  unfold rowsX; rw [if_pos h1, hz]

theorem rowsX_hi1 (x0 : Vec F S1024x1152 .i32) (x1 : Vec F S512x1152 .i32) (y : S1536x2048.Idx) (z : S512x1152.Idx)
    (h0 : ¬ (y 0).val < 1024) (h1 : ¬ (y 1).val < 1024) (z0 : (z 0).val + 1024 = (y 0).val) (z1 : (z 1).val + 1024 = (y 1).val) :
    rowsX x0 x1 y = FloatOps.truncf .bf16 bitsLt_bf16_f32 (FloatOps.ofBits .f32 (IntOp.andi (x1 z) 4294901760#32)) := by
  have hy : (y 1).val < 2048 := (y 1).isLt
  have hz : wordX x0 x1 y = x1 z := by
    unfold wordX; rw [dif_neg h0]
    refine congrArg x1 (funext fun a => Fin.ext ?_)
    match a with
    | 0 => show (y 0).val - 1024 = (z 0).val; omega
    | 1 => show (y 1).val % 1024 = (z 1).val; omega
  unfold rowsX; rw [if_neg h1, hz]

/-- A stored slab read back: the slab's number holds the payload, every other slab what it held. -/
theorem read_slab (c : Dev nD) (s : ℕ) (off : Fin 3 → ℕ) (ho : off = ![s, 0, 0]) (inb) (fh : scH.view.ty.Contents (Elt F))
    (h : Vec F S8x1536x256 .bf16) (eh : View.read (Elt F) scH.view fh = h) (p : FVec F S1x1536x256 .bf16) :
    View.read (Elt F) scH.view (scH.view.writes (Elt F) fh
      [(⟨Rect.unit (s := S8x1536x256) off ![1, 1536, 256] inb, p⟩ : View.Piece (Elt F) S8x1536x256 .bf16)]) = updH s h p := by
  subst ho
  funext y
  have y1 : (y 1).val < 1536 := (y 1).isLt
  have y2 : (y 2).val < 256 := (y 2).isLt
  by_cases hs : (y 0).val = s
  · refine View.read_writes_apply_of_pieces _ _ (updH s h p) _ ?_ y ?_
    · rintro q hq x
      obtain rfl := List.mem_singleton.mp hq
      have hx0 : (x 0).val = 0 := by have := (x 0).isLt; change (x 0).val < 1 at this; omega
      unfold updH
      rw [if_pos (by refine (emb_unit_val (S := S8x1536x256) ![s, 0, 0] ![1, 1536, 256] inb x 0).trans ?_; show s + (x 0).val = s; omega)]
      refine congrArg p (funext fun a => Fin.ext ?_)
      match a with
      | 0 => exact hx0
      | 1 => exact ((emb_unit_val (S := S8x1536x256) ![s, 0, 0] ![1, 1536, 256] inb x 1).trans (Nat.zero_add _)).symm
      | 2 => exact ((emb_unit_val (S := S8x1536x256) ![s, 0, 0] ![1, 1536, 256] inb x 2).trans (Nat.zero_add _)).symm
    · refine ⟨_, List.mem_singleton.mpr rfl, ?_⟩
      rw [Rect.mem_set_unit]
      intro a
      match a with
      | 0 => exact ⟨hs.ge, by show (y 0).val < s + 1; omega⟩
      | 1 => exact ⟨Nat.zero_le _, by show (y 1).val < 0 + 1536; omega⟩
      | 2 => exact ⟨Nat.zero_le _, by show (y 2).val < 0 + 256; omega⟩
  · rw [View.read_writes_apply_of_forall_not_mem]
    · unfold updH; rw [if_neg hs, eh]
    · intro q hq
      obtain rfl := List.mem_singleton.mp hq
      rw [Rect.mem_set_unit]
      intro hm
      have := hm 0
      have h0 : s ≤ (y 0).val ∧ (y 0).val < s + 1 := this
      omega

theorem zero2 : ∀ a : Fin 2, (![0, 0] : Fin 2 → ℕ) a = 0 := by decide

theorem zero3 : ∀ a : Fin 3, (![0, 0, 0] : Fin 3 → ℕ) a = 0 := by decide

set_option maxHeartbeats 1000000 in
theorem run_A (c : Dev nD) (i : grid0.Coords) (hs : (i 1).val = 0) (h2 : k0_cond2 i = 1#1) (h3 : ¬ k0_cond3 i = 1#1)
    (arg2 : Memref sig .tc .vmem S1024x1152 .i32) (harg2 : arg2.IsWhole) (arg3 : Memref sig .tc .vmem S512x1152 .i32) (harg3 : arg3.IsWhole)
    (arg4 : Memref sig .tc .vmem S1x2048x256 .f32) (harg4 : arg4.IsWhole) (arg5 : Memref sig .tc .vmem S1x2048x256 .f32) (harg5 : arg5.IsWhole)
    (arg6 : Memref sig .tc .vmem S1x2048x256 .f32) (harg6 : arg6.IsWhole) (arg7 : Memref sig .tc .vmem S1024x256 .f32) (harg7 : arg7.IsWhole)
    (arg8 : Memref sig .tc .vmem S512x256 .f32) (harg8 : arg8.IsWhole)
    (x0 : Vec F S1024x1152 .i32) (x1 : Vec F S512x1152 .i32) (wg wu : Vec F S1x2048x256 .f32) (x : Vec F S1536x2048 .bf16)
    (h : Vec F S8x1536x256 .bf16) (g : Vec F S1536x1 .f32) (K : PUnit → sProp 𝕄) :
    iprop(owns (c : Thread nD τ) arg2 fullShare x0 ∗ owns (c : Thread nD τ) arg3 fullShare x1
        ∗ owns (c : Thread nD τ) arg4 fullShare wg ∗ owns (c : Thread nD τ) arg5 fullShare wu
        ∗ owns (c : Thread nD τ) scX fullShare x ∗ owns (c : Thread nD τ) scH fullShare h ∗ owns (c : Thread nD τ) scG fullShare g
        ∗ (iprop(owns (c : Thread nD τ) arg2 fullShare x0 ∗ owns (c : Thread nD τ) arg3 fullShare x1
            ∗ owns (c : Thread nD τ) arg4 fullShare wg ∗ owns (c : Thread nD τ) arg5 fullShare wu
            ∗ owns (c : Thread nD τ) scX fullShare (rowsX x0 x1)
            ∗ owns (c : Thread nD τ) scH fullShare (updH 0 h (k0_pay3 (rowsX x0 x1) wg wu))
            ∗ owns (c : Thread nD τ) scG fullShare (gatesX (BitVec.ofNat 32 (i 0).val) x0 x1)) -∗ K ⟨⟩))
      ⊢ wp frame (wpE (defs₀ (F := F)) Variants.none c none) Set.univ
          (cc0_experts i arg2 harg2 arg3 harg3 arg4 harg4 arg5 harg5 arg6 harg6 arg7 harg7 arg8 harg8
            scX (Memref.isWhole_whole _) scH (Memref.isWhole_whole _) scG (Memref.isWhole_whole _)) K := by
  have h1 := first_true i hs
  unfold cc0_experts
  simp only [k0_part1_eq_skeleton, k0_part2_eq_skeleton]
  unfold k0_part1_skel k0_part2_skel
  unfold owns
  iintro ⟨⟨%f2, %e2, H2⟩, ⟨%f3, %e3, H3⟩, ⟨%f4, %e4, H4⟩, ⟨%f5, %e5, H5⟩, ⟨%fx, %ex, HX⟩, ⟨%fh, %eh, HH⟩, ⟨%fg, %eg, HG⟩, Hk⟩
  sl_exec (disch := first | sl_exact h1 | sl_exact h2 | sl_exact h3)
  sl_step
  iapply Hk
  have hX : ∀ p ∈ run_A.sl.HX_4 c arg2 arg3 f2 f3, ∀ x, p.2 x = rowsX x0 x1 (p.1.emb x) := by
    sl_unfold_run_names
    simp only [List.forall_mem_cons]
    refine ⟨fun x => ?_, fun x => ?_, fun x => ?_, fun x => ?_, fun p hp => absurd hp List.not_mem_nil⟩
    all_goals
      have v0 := emb_unit_val _ _ _ x 0
      have v1 := emb_unit_val _ _ _ x 1
    · have l0 : (x 0).val < 512 := (x 0).isLt
      have l1 : (x 1).val < 1024 := (x 1).isLt
      have v0 : _ = 1024 + (x 0).val := v0
      have v1 : _ = 1024 + (x 1).val := v1
      refine Eq.trans ?_ (rowsX_hi1 x0 x1 _ (ix2 ⟨(x 0).val, l0⟩ ⟨(x 1).val, by omega⟩) (by rw [v0]; omega) (by rw [v1]; omega)
        (by rw [v0]; exact Nat.add_comm _ _) (by rw [v1]; exact Nat.add_comm _ _)).symm
      rw [shapeCast_self, View.readAt_eq_ld, e3]
      exact congrArg (fun w => FloatOps.truncf (F := F) .bf16 bitsLt_bf16_f32 (FloatOps.ofBits .f32 (IntOp.andi w 4294901760#32)))
        (View.ld_unit_apply_of x1 _ _ _ x _ fun a => by match a with | 0 => exact (Nat.zero_add _).symm | 1 => exact (Nat.zero_add _).symm)
    · have l0 : (x 0).val < 512 := (x 0).isLt
      have l1 : (x 1).val < 1024 := (x 1).isLt
      have v0 : _ = 1024 + (x 0).val := v0
      have v1 : _ = 0 + (x 1).val := v1
      refine Eq.trans ?_ (rowsX_lo1 x0 x1 _ (ix2 ⟨(x 0).val, l0⟩ ⟨(x 1).val, by omega⟩) (by rw [v0]; omega) (by rw [v1]; omega)
        (by rw [v0]; exact Nat.add_comm _ _) (by rw [v1]; exact (Nat.zero_add _).symm)).symm
      unfold k0_pay10
      rw [shapeCast_self, View.readAt_eq_ld, e3]
      exact congrArg (fun w => FloatOps.truncf (F := F) .bf16 bitsLt_bf16_f32 (FloatOps.ofBits .f32 (IntOp.shli .vector w 16#32)))
        (View.ld_unit_apply_of x1 _ _ _ x _ fun a => by match a with | 0 => exact (Nat.zero_add _).symm | 1 => exact (Nat.zero_add _).symm)
    · have l0 : (x 0).val < 1024 := (x 0).isLt
      have l1 : (x 1).val < 1024 := (x 1).isLt
      have v0 : _ = 0 + (x 0).val := v0
      have v1 : _ = 1024 + (x 1).val := v1
      refine Eq.trans ?_ (rowsX_hi0 x0 x1 _ (ix2 ⟨(x 0).val, l0⟩ ⟨(x 1).val, by omega⟩) (by rw [v0]; omega) (by rw [v1]; omega)
        (by rw [v0]; exact (Nat.zero_add _).symm) (by rw [v1]; exact Nat.add_comm _ _)).symm
      unfold k0_pay8
      rw [shapeCast_self, View.readAt_eq_ld, e2]
      exact congrArg (fun w => FloatOps.truncf (F := F) .bf16 bitsLt_bf16_f32 (FloatOps.ofBits .f32 (IntOp.andi w 4294901760#32)))
        (View.ld_unit_apply_of x0 _ _ _ x _ fun a => by match a with | 0 => exact (Nat.zero_add _).symm | 1 => exact (Nat.zero_add _).symm)
    · have l0 : (x 0).val < 1024 := (x 0).isLt
      have l1 : (x 1).val < 1024 := (x 1).isLt
      have v0 : _ = 0 + (x 0).val := v0
      have v1 : _ = 0 + (x 1).val := v1
      refine Eq.trans ?_ (rowsX_lo0 x0 x1 _ (ix2 ⟨(x 0).val, l0⟩ ⟨(x 1).val, by omega⟩) (by rw [v0]; omega) (by rw [v1]; omega)
        (by rw [v0]; exact (Nat.zero_add _).symm) (by rw [v1]; exact (Nat.zero_add _).symm)).symm
      unfold k0_pay7
      rw [shapeCast_self, View.readAt_eq_ld, e2]
      exact congrArg (fun w => FloatOps.truncf (F := F) .bf16 bitsLt_bf16_f32 (FloatOps.ofBits .f32 (IntOp.shli .vector w 16#32)))
        (View.ld_unit_apply_of x0 _ _ _ x _ fun a => by match a with | 0 => exact (Nat.zero_add _).symm | 1 => exact (Nat.zero_add _).symm)
  have hc : ∀ y, ∃ p ∈ run_A.sl.HX_4 c arg2 arg3 f2 f3, y ∈ p.1.set := by
    sl_unfold_run_names
    intro y
    have y0 : (y 0).val < 1536 := (y 0).isLt
    have y1 : (y 1).val < 2048 := (y 1).isLt
    by_cases h0 : (y 0).val < 1024 <;> by_cases h1 : (y 1).val < 1024
    · refine ⟨_, List.mem_cons_of_mem _ (List.mem_cons_of_mem _ (List.mem_cons_of_mem _ List.mem_cons_self)), ?_⟩
      rw [Rect.mem_set_unit]
      intro a
      match a with
      | 0 => exact ⟨Nat.zero_le _, by show (y 0).val < 0 + 1024; omega⟩
      | 1 => exact ⟨Nat.zero_le _, by show (y 1).val < 0 + 1024; omega⟩
    · refine ⟨_, List.mem_cons_of_mem _ (List.mem_cons_of_mem _ List.mem_cons_self), ?_⟩
      rw [Rect.mem_set_unit]
      intro a
      match a with
      | 0 => exact ⟨Nat.zero_le _, by show (y 0).val < 0 + 1024; omega⟩
      | 1 => exact ⟨by show 1024 ≤ (y 1).val; omega, by show (y 1).val < 1024 + 1024; omega⟩
    · refine ⟨_, List.mem_cons_of_mem _ List.mem_cons_self, ?_⟩
      rw [Rect.mem_set_unit]
      intro a
      match a with
      | 0 => exact ⟨by show 1024 ≤ (y 0).val; omega, by show (y 0).val < 1024 + 512; omega⟩
      | 1 => exact ⟨Nat.zero_le _, by show (y 1).val < 0 + 1024; omega⟩
    · refine ⟨_, List.mem_cons_self, ?_⟩
      rw [Rect.mem_set_unit]
      intro a
      match a with
      | 0 => exact ⟨by show 1024 ≤ (y 0).val; omega, by show (y 0).val < 1024 + 512; omega⟩
      | 1 => exact ⟨by show 1024 ≤ (y 1).val; omega, by show (y 1).val < 1024 + 1024; omega⟩
  have hv : run_A.sl.v9 c arg2 arg3 f2 f3 = rowsX x0 x1 := by
    funext j
    have hall := fun y => View.read_writes_apply_of_pieces scX.view scX.view.junk _ _ hX y (hc y)
    unfold run_A.sl.v9 View.readCov
    rw [View.readAt_eq_ld, funext hall]
    exact congrFun (View.ld_unit_lit _ _ zero2) j
  isplitl [H2]; · iexists f2; isplitr [H2]; · ipureintro; exact e2
                  · iexact H2
  isplitl [H3]; · iexists f3; isplitr [H3]; · ipureintro; exact e3
                  · iexact H3
  isplitl [H4]; · iexists f4; isplitr [H4]; · ipureintro; exact e4
                  · iexact H4
  isplitl [H5]; · iexists f5; isplitr [H5]; · ipureintro; exact e5
                  · iexact H5
  isplitl [HX]
  · iexists _
    isplitr [HX]
    rotate_left
    · iexact HX
    · ipureintro
      funext y
      exact View.read_writes_apply_of_pieces _ _ _ _ hX y (hc y)
  isplitl [HH]
  · iexists _
    isplitr [HH]
    rotate_left
    · iexact HH
    · ipureintro
      rw [hv, View.readAt_eq_ld, View.readAt_eq_ld, e4, e5, View.ld_unit_lit _ _ zero3, View.ld_unit_lit _ _ zero3]
      exact read_slab c 0 _ (by rw [k0_off1_eq, hs]) _ fh h eh _
  iexists _
  isplitr [HG]
  rotate_left
  · iexact HG
  · ipureintro
    have r0 : (View.readAt (Elt F) arg2.view (Rect.unit (s := S1024x1152) ![0, 1024] S1024x128.size inb_S1024x1152_S1024x128_0_1024).toLoadRect f2
        : Vec F S1024x128 .i32) = laneC x0 := by
      funext z
      rw [View.readAt_eq_ld, e2]
      exact View.ld_unit_apply_of x0 _ _ _ z _ fun a => by match a with | 0 => exact (Nat.zero_add _).symm | 1 => rfl
    have r1 : (View.readAt (Elt F) arg3.view (Rect.unit (s := S512x1152) ![0, 1024] S512x128.size inb_S512x1152_S512x128_0_1024).toLoadRect f3
        : Vec F S512x128 .i32) = laneL x1 := by
      funext z
      rw [View.readAt_eq_ld, e3]
      exact View.ld_unit_apply_of x1 _ _ _ z _ fun a => by match a with | 0 => exact (Nat.zero_add _).symm | 1 => rfl
    funext y
    refine View.read_writes_apply_of_pieces (Val := Elt F) (e := .f32) scG.view fg (gatesX (BitVec.ofNat 32 (i 0).val) x0 x1) _ ?_ y ?_
    · refine List.forall_mem_cons.mpr ⟨fun x => ?_, List.forall_mem_cons.mpr ⟨fun x => ?_, fun p hp => absurd hp List.not_mem_nil⟩⟩
      · have l0 : (x 0).val < 512 := (x 0).isLt
        have l1 : (x 1).val = 0 := by have := (x 1).isLt; change (x 1).val < 1 at this; omega
        have v0 : _ = 1024 + (x 0).val := emb_unit_val (S := S1536x1) ![1024, 0] ![512, 1] inb_S1536x1_S512x1_1024_0 x 0
        refine (congrFun (congrArg (gateLow (F := F) (BitVec.ofNat 32 (i 0).val)) r1) x).trans ?_
        unfold gatesX
        rw [dif_neg (by rw [v0]; omega)]
        refine congrArg (gateLow (F := F) _ _) (funext fun a => Fin.ext ?_)
        match a with
        | 0 => show (x 0).val = _ - 1024; rw [v0]; omega
        | 1 => exact l1
      · have l0 : (x 0).val < 1024 := (x 0).isLt
        have l1 : (x 1).val = 0 := by have := (x 1).isLt; change (x 1).val < 1 at this; omega
        have v0 : _ = 0 + (x 0).val := emb_unit_val (S := S1536x1) ![0, 0] ![1024, 1] inb_S1536x1_S1024x1_0_0 x 0
        refine (congrFun (congrArg (k0_pay9 (F := F) (BitVec.ofNat 32 (i 0).val)) r0) x).trans ?_
        unfold gatesX
        rw [dif_pos (by rw [v0]; omega)]
        refine congrArg (k0_pay9 (F := F) _ _) (funext fun a => Fin.ext ?_)
        match a with
        | 0 => exact ((Nat.zero_add _).symm.trans v0.symm)
        | 1 => exact l1
    · have y0 : (y 0).val < 1536 := (y 0).isLt
      have y1 : (y 1).val < 1 := (y 1).isLt
      by_cases h0 : (y 0).val < 1024
      · refine ⟨_, List.mem_cons_of_mem _ List.mem_cons_self, ?_⟩
        rw [Rect.mem_set_unit]
        intro a
        match a with
        | 0 => exact ⟨Nat.zero_le _, by show (y 0).val < 0 + 1024; omega⟩
        | 1 => exact ⟨Nat.zero_le _, by show (y 1).val < 0 + 1; omega⟩
      · refine ⟨_, List.mem_cons_self, ?_⟩
        rw [Rect.mem_set_unit]
        intro a
        match a with
        | 0 => exact ⟨by show 1024 ≤ (y 0).val; omega, by show (y 0).val < 1024 + 512; omega⟩
        | 1 => exact ⟨Nat.zero_le _, by show (y 1).val < 0 + 1; omega⟩

theorem other_point (i : grid0.Coords) (hs : (i 1).val ≠ 0) :
    ¬ Scalar.cmpi .ne (Scalar.extui (Scalar.cmpi .eq (BitVec.ofNat 32 (i 1).val) 0#32) : BitVec 32) 0#32 = 1#1 := by
  have hlt : (i 1).val < 16 := (i 1).isLt
  generalize (i 1).val = n at hs hlt
  interval_cases n <;> first | exact absurd rfl hs | decide

/-- Slab `j` of the hidden tiles. -/
def slab (h : Vec F S8x1536x256 .bf16) (j : Fin 8) : Vec F S1x1536x256 .bf16 := fun y => h (ix3 j (y 1) (y 2))

theorem read_slab_at (fh : scH.view.ty.Contents (Elt F)) (h : Vec F S8x1536x256 .bf16) (eh : View.read (Elt F) scH.view fh = h)
    (j : Fin 8) (off : Fin 3 → ℕ) (ho : off = ![j.val, 0, 0]) (inb) :
    (View.readAt (Elt F) scH.view (Rect.unit (s := S8x1536x256) off S1x1536x256.size inb).toLoadRect fh : Vec F S1x1536x256 .bf16) = slab h j := by
  subst ho
  funext z
  rw [View.readAt_eq_ld, eh]
  refine View.ld_unit_apply_of h _ _ _ z _ fun a => ?_
  have z0 : (z 0).val < 1 := (z 0).isLt
  match a with
  | 0 => show j.val = j.val + (z 0).val; omega
  | 1 => exact (Nat.zero_add _).symm
  | 2 => exact (Nat.zero_add _).symm

/-- A store through the whole of a buffer leaves its payload. -/
theorem read_store_whole {S : Shape} {e : EltTy} (v : View sig .tc .vmem S e) (f : v.ty.Contents (Elt F)) (off : Fin S.rank → ℕ)
    (ho : ∀ a, off a = 0) (inb) (w : S.Idx → Elt F e) :
    View.read (Elt F) v (v.writes (Elt F) f [(⟨Rect.unit (s := S) off S.size inb, w⟩ : View.Piece (Elt F) S e)]) = w := by
  obtain rfl : off = fun _ => 0 := funext ho
  funext y
  refine View.read_writes_apply_of_pieces _ _ w _ ?_ y ?_
  · rintro q hq x
    obtain rfl := List.mem_singleton.mp hq
    refine congrArg w (funext fun a => Fin.ext ?_)
    exact ((emb_unit_val (S := S) (fun _ => 0) S.size inb x a).trans (Nat.zero_add _)).symm
  · refine ⟨_, List.mem_singleton.mpr rfl, ?_⟩
    rw [Rect.mem_set_unit]
    exact fun a => ⟨Nat.zero_le _, by rw [Nat.zero_add]; exact (y a).isLt⟩

theorem run_B (c : Dev nD) (i : grid0.Coords) (hs : (i 1).val ≠ 0) (h2 : k0_cond2 i = 1#1) (h3 : ¬ k0_cond3 i = 1#1)
    (arg2 : Memref sig .tc .vmem S1024x1152 .i32) (harg2 : arg2.IsWhole) (arg3 : Memref sig .tc .vmem S512x1152 .i32) (harg3 : arg3.IsWhole)
    (arg4 : Memref sig .tc .vmem S1x2048x256 .f32) (harg4 : arg4.IsWhole) (arg5 : Memref sig .tc .vmem S1x2048x256 .f32) (harg5 : arg5.IsWhole)
    (arg6 : Memref sig .tc .vmem S1x2048x256 .f32) (harg6 : arg6.IsWhole) (arg7 : Memref sig .tc .vmem S1024x256 .f32) (harg7 : arg7.IsWhole)
    (arg8 : Memref sig .tc .vmem S512x256 .f32) (harg8 : arg8.IsWhole)
    (wg wu : Vec F S1x2048x256 .f32) (x : Vec F S1536x2048 .bf16) (h : Vec F S8x1536x256 .bf16) (K : PUnit → sProp 𝕄) :
    iprop(owns (c : Thread nD τ) arg4 fullShare wg ∗ owns (c : Thread nD τ) arg5 fullShare wu
        ∗ owns (c : Thread nD τ) scX fullShare x ∗ owns (c : Thread nD τ) scH fullShare h
        ∗ (iprop(owns (c : Thread nD τ) arg4 fullShare wg ∗ owns (c : Thread nD τ) arg5 fullShare wu
            ∗ owns (c : Thread nD τ) scX fullShare x
            ∗ owns (c : Thread nD τ) scH fullShare (updH (i 1).val h (k0_pay3 x wg wu))) -∗ K ⟨⟩))
      ⊢ wp frame (wpE (defs₀ (F := F)) Variants.none c none) Set.univ
          (cc0_experts i arg2 harg2 arg3 harg3 arg4 harg4 arg5 harg5 arg6 harg6 arg7 harg7 arg8 harg8
            scX (Memref.isWhole_whole _) scH (Memref.isWhole_whole _) scG (Memref.isWhole_whole _)) K := by
  have h1 := other_point i hs
  unfold cc0_experts
  simp only [k0_part1_eq_skeleton, k0_part2_eq_skeleton]
  unfold k0_part1_skel k0_part2_skel
  unfold owns
  iintro ⟨⟨%f4, %e4, H4⟩, ⟨%f5, %e5, H5⟩, ⟨%fx, %ex, HX⟩, ⟨%fh, %eh, HH⟩, Hk⟩
  sl_exec (disch := first | sl_exact h1 | sl_exact h2 | sl_exact h3)
  sl_step
  iapply Hk
  isplitl [H4]; · iexists f4; isplitr [H4]; · ipureintro; exact e4
                  · iexact H4
  isplitl [H5]; · iexists f5; isplitr [H5]; · ipureintro; exact e5
                  · iexact H5
  isplitl [HX]; · iexists fx; isplitr [HX]; · ipureintro; exact ex
                  · iexact HX
  iexists _
  isplitr [HH]
  rotate_left
  · iexact HH
  · ipureintro
    rw [View.readAt_eq_ld, View.readAt_eq_ld, View.readAt_eq_ld, e4, e5, ex, View.ld_unit_lit _ _ zero2, View.ld_unit_lit _ _ zero3,
      View.ld_unit_lit _ _ zero3]
    exact read_slab c _ _ (k0_off1_eq i) _ fh h eh _

/-- What the second phase stores in the two outputs. -/
def outC (wd : Vec F S1x2048x256 .f32) (s : Fin 8 → Vec F S1x1536x256 .bf16) (g : Vec F S1536x1 .f32) : FVec F S1024x256 .f32 :=
  k0_pay5 (k0_pay12 wd) (k0_pay13 wd (s 0) (s 1) (s 2) (s 3) (s 4) (s 5)) (s 6) (s 7) g
def outL (wd : Vec F S1x2048x256 .f32) (s : Fin 8 → Vec F S1x1536x256 .bf16) (g : Vec F S1536x1 .f32) : FVec F S512x256 .f32 :=
  k0_pay6 (k0_pay12 wd) (k0_pay13 wd (s 0) (s 1) (s 2) (s 3) (s 4) (s 5)) (s 6) (s 7) g

set_option maxHeartbeats 1000000 in
theorem run_C (c : Dev nD) (i : grid0.Coords) (hs : (i 1).val ≠ 0) (h2 : ¬ k0_cond2 i = 1#1) (h3 : k0_cond3 i = 1#1)
    (arg2 : Memref sig .tc .vmem S1024x1152 .i32) (harg2 : arg2.IsWhole) (arg3 : Memref sig .tc .vmem S512x1152 .i32) (harg3 : arg3.IsWhole)
    (arg4 : Memref sig .tc .vmem S1x2048x256 .f32) (harg4 : arg4.IsWhole) (arg5 : Memref sig .tc .vmem S1x2048x256 .f32) (harg5 : arg5.IsWhole)
    (arg6 : Memref sig .tc .vmem S1x2048x256 .f32) (harg6 : arg6.IsWhole) (arg7 : Memref sig .tc .vmem S1024x256 .f32) (harg7 : arg7.IsWhole)
    (arg8 : Memref sig .tc .vmem S512x256 .f32) (harg8 : arg8.IsWhole)
    (wd : Vec F S1x2048x256 .f32) (h : Vec F S8x1536x256 .bf16) (g : Vec F S1536x1 .f32) (o7 : Vec F S1024x256 .f32)
    (o8 : Vec F S512x256 .f32) (K : PUnit → sProp 𝕄) :
    iprop(owns (c : Thread nD τ) arg6 fullShare wd ∗ owns (c : Thread nD τ) arg7 fullShare o7 ∗ owns (c : Thread nD τ) arg8 fullShare o8
        ∗ owns (c : Thread nD τ) scH fullShare h ∗ owns (c : Thread nD τ) scG fullShare g
        ∗ (iprop(owns (c : Thread nD τ) arg6 fullShare wd ∗ owns (c : Thread nD τ) arg7 fullShare (outC wd (slab h) g)
            ∗ owns (c : Thread nD τ) arg8 fullShare (outL wd (slab h) g)
            ∗ owns (c : Thread nD τ) scH fullShare h ∗ owns (c : Thread nD τ) scG fullShare g) -∗ K ⟨⟩))
      ⊢ wp frame (wpE (defs₀ (F := F)) Variants.none c none) Set.univ
          (cc0_experts i arg2 harg2 arg3 harg3 arg4 harg4 arg5 harg5 arg6 harg6 arg7 harg7 arg8 harg8
            scX (Memref.isWhole_whole _) scH (Memref.isWhole_whole _) scG (Memref.isWhole_whole _)) K := by
  have h1 := other_point i hs
  unfold cc0_experts
  simp only [k0_part1_eq_skeleton, k0_part2_eq_skeleton]
  unfold k0_part1_skel k0_part2_skel
  unfold owns
  iintro ⟨⟨%f6, %e6, H6⟩, ⟨%f7, %e7, H7⟩, ⟨%f8, %e8, H8⟩, ⟨%fh, %eh, HH⟩, ⟨%fg, %eg, HG⟩, Hk⟩
  sl_exec (disch := first | sl_exact h1 | sl_exact h2 | sl_exact h3)
  sl_step
  iapply Hk
  have s0 := read_slab_at fh h eh 0 _ rfl inb_S8x1536x256_S1x1536x256_0_0_0
  have s1 := read_slab_at fh h eh 1 _ rfl inb_S8x1536x256_S1x1536x256_1_0_0
  have s2 := read_slab_at fh h eh 2 _ rfl inb_S8x1536x256_S1x1536x256_2_0_0
  have s3 := read_slab_at fh h eh 3 _ rfl inb_S8x1536x256_S1x1536x256_3_0_0
  have s4 := read_slab_at fh h eh 4 _ rfl inb_S8x1536x256_S1x1536x256_4_0_0
  have s5 := read_slab_at fh h eh 5 _ rfl inb_S8x1536x256_S1x1536x256_5_0_0
  have s6 := read_slab_at fh h eh 6 _ rfl inb_S8x1536x256_S1x1536x256_6_0_0
  have s7 := read_slab_at fh h eh 7 _ rfl inb_S8x1536x256_S1x1536x256_7_0_0
  have eW : (View.readAt (Elt F) arg6.view (Rect.unit (s := S1x2048x256) ![0, 0, 0] S1x2048x256.size inb_S1x2048x256_S1x2048x256_0_0_0).toLoadRect f6
      : Vec F S1x2048x256 .f32) = wd := by
    rw [View.readAt_eq_ld, e6]; exact View.ld_unit_lit _ _ zero3
  have eG : (View.readAt (Elt F) scG.view (Rect.unit (s := S1536x1) ![0, 0] S1536x1.size inb_S1536x1_S1536x1_0_0).toLoadRect fg
      : Vec F S1536x1 .f32) = g := by
    rw [View.readAt_eq_ld, eg]; exact View.ld_unit_lit _ _ zero2
  isplitl [H6]; · iexists f6; isplitr [H6]; · ipureintro; exact e6
                  · iexact H6
  isplitl [H7]
  · iexists _
    isplitr [H7]
    rotate_left
    · iexact H7
    · ipureintro
      refine (read_store_whole arg7.view f7 _ zero2 _ _).trans ?_
      unfold outC
      rw [← s0, ← s1, ← s2, ← s3, ← s4, ← s5, ← s6, ← s7, ← eG, ← eW]
      rfl
  isplitl [H8]
  · iexists _
    isplitr [H8]
    rotate_left
    · iexact H8
    · ipureintro
      refine (read_store_whole arg8.view f8 _ zero2 _ _).trans ?_
      unfold outL
      rw [← s0, ← s1, ← s2, ← s3, ← s4, ← s5, ← s6, ← s7, ← eG, ← eW]
      rfl
  isplitl [HH]; · iexists fh; isplitr [HH]; · ipureintro; exact eh
                  · iexact HH
  iexists fg; isplitr [HG]; · ipureintro; exact eg
  · iexact HG

end Cert.Moe

end
-- ==== Proof.EData.lean ====
module

public import proofs.«01_k».proof.Proof.EBody

@[expose] public section

noncomputable section

namespace Cert.Moe

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem coord0 (t : Fin cfg0.N) : ((cfg0.grid.coords t) 0).val = t.val / 16 := by
  have h := Pipeline.Grid.coords_val (G := grid0) t 0 (S := 16) (B := 16) (by decide) rfl
  refine h.trans ?_
  have : t.val < 256 := t.isLt
  omega
theorem coord1 (t : Fin cfg0.N) : ((cfg0.grid.coords t) 1).val = t.val % 16 := by
  have h := Pipeline.Grid.coords_val (G := grid0) t 1 (S := 1) (B := 16) (by decide) rfl
  refine h.trans ?_
  rw [Nat.div_one]

theorem cond2_iff (i : grid0.Coords) : k0_cond2 i = 1#1 ↔ (i 1).val < 8 := by
  have hlt : (i 1).val < 16 := (i 1).isLt
  unfold k0_cond2
  generalize (i 1).val = n at hlt
  interval_cases n <;> decide
theorem cond3_iff (i : grid0.Coords) : k0_cond3 i = 1#1 ↔ 8 ≤ (i 1).val := by
  have hlt : (i 1).val < 16 := (i 1).isLt
  unfold k0_cond3
  generalize (i 1).val = n at hlt
  interval_cases n <;> decide

/-- The point of a number. -/
def pt (k : ℕ) : Fin cfg0.N := ⟨k % 256, Nat.mod_lt _ (by decide)⟩
theorem pt_val (t : Fin cfg0.N) (k : ℕ) (h : k = t.val) : pt k = t := by
  have : t.val < 256 := t.isLt
  exact Fin.ext (by show k % 256 = t.val; omega)

/-! ## What the scratch holds -/

/-- Expert `e`'s rows, gates and hidden tiles. -/
def XE (c : Dev nD) (e : ℕ) : FVec F S1536x2048 .bf16 := rowsX (F := F) (iblk m c 0 (pt (16 * e))) (iblk m c 1 (pt (16 * e)))
def GE (c : Dev nD) (e : ℕ) : FVec F S1536x1 .f32 :=
  gatesX (F := F) (BitVec.ofNat 32 e) (iblk m c 0 (pt (16 * e))) (iblk m c 1 (pt (16 * e)))
def HE (c : Dev nD) (e : ℕ) (j : Fin 8) : FVec F S1x1536x256 .bf16 :=
  k0_pay3 (F := F) (XE m c e) (iblk m c 2 (pt (16 * e + j.val))) (iblk m c 3 (pt (16 * e + j.val)))

/-- The scratch before point `n`: past an expert's first point its rows and gates, and the hidden tiles stored so far. -/
structure Inv (c : Dev nD) (n : ℕ) (x : Vec F S1536x2048 .bf16) (h : Vec F S8x1536x256 .bf16) (g : Vec F S1536x1 .f32) : Prop where
  rows : n % 16 ≠ 0 → x = XE m c (n / 16)
  gates : n % 16 ≠ 0 → g = GE m c (n / 16)
  tiles : ∀ j : Fin 8, j.val < n % 16 → slab h j = HE m c (n / 16) j

theorem slab_updH_same (s : Fin 8) (h : Vec F S8x1536x256 .bf16) (p : FVec F S1x1536x256 .bf16) : slab (updH s.val h p) s = p := by
  funext y
  unfold slab updH
  rw [if_pos rfl]
  refine congrArg p (funext fun a => Fin.ext ?_)
  have y0 : (y 0).val < 1 := (y 0).isLt
  match a with
  | 0 => show 0 = (y 0).val; omega
  | 1 => rfl
  | 2 => rfl
theorem slab_updH_ne (s : ℕ) (j : Fin 8) (hj : j.val ≠ s) (h : Vec F S8x1536x256 .bf16) (p : FVec F S1x1536x256 .bf16) :
    slab (updH s h p) j = slab h j := by
  funext y
  unfold slab updH
  exact if_neg hj

theorem Inv.first (c : Dev nD) (t : Fin cfg0.N) (hs : t.val % 16 = 0) (h : Vec F S8x1536x256 .bf16) :
    Inv m c (t.val + 1) (rowsX (iblk m c 0 t) (iblk m c 1 t))
      (updH 0 h (k0_pay3 (rowsX (iblk m c 0 t) (iblk m c 1 t)) (iblk m c 2 t) (iblk m c 3 t)))
      (gatesX (BitVec.ofNat 32 ((cfg0.grid.coords t) 0).val) (iblk m c 0 t) (iblk m c 1 t)) := by
  have e : (t.val + 1) / 16 = t.val / 16 := by omega
  have hp : pt (16 * (t.val / 16)) = t := pt_val t _ (by omega)
  refine ⟨fun _ => ?_, fun _ => ?_, fun j hj => ?_⟩
  · rw [e]; unfold XE; rw [hp]
  · rw [e]; unfold GE; rw [hp, coord0]
  · have hj0 : j = 0 := Fin.ext (by show j.val = 0; omega)
    subst hj0
    rw [e]
    refine (slab_updH_same (0 : Fin 8) _ _).trans ?_
    unfold HE XE
    rw [show 16 * (t.val / 16) + (0 : Fin 8).val = 16 * (t.val / 16) from rfl, hp]

theorem Inv.next (c : Dev nD) (t : Fin cfg0.N) (hs : t.val % 16 ≠ 0) (hs8 : t.val % 16 < 8) {x h g} (hi : Inv m c t.val x h g) :
    Inv m c (t.val + 1) x (updH ((cfg0.grid.coords t) 1).val h (k0_pay3 x (iblk m c 2 t) (iblk m c 3 t))) g := by
  have e : (t.val + 1) / 16 = t.val / 16 := by omega
  have e' : (t.val + 1) % 16 = t.val % 16 + 1 := by omega
  refine ⟨fun _ => ?_, fun _ => ?_, fun j hj => ?_⟩
  · rw [e]; exact hi.rows hs
  · rw [e]; exact hi.gates hs
  · rw [e, coord1]
    by_cases hjs : j.val = t.val % 16
    · rw [← hjs, slab_updH_same]
      unfold HE
      rw [pt_val t (16 * (t.val / 16) + j.val) (by omega), hi.rows hs]
    · rw [slab_updH_ne _ _ hjs]
      exact hi.tiles j (by omega)

theorem Inv.later (c : Dev nD) (t : Fin cfg0.N) (hs8 : 8 ≤ t.val % 16) {x h g} (hi : Inv m c t.val x h g) :
    Inv m c (t.val + 1) x h g := by
  refine ⟨fun hn => ?_, fun hn => ?_, fun j hj => ?_⟩ <;> rw [show (t.val + 1) / 16 = t.val / 16 by omega]
  · exact hi.rows (by omega)
  · exact hi.gates (by omega)
  · exact hi.tiles j (by have := j.isLt; omega)

/-! ## The proof data -/

/-- The scratch buffers and the generator register before point `n`. -/
def Phi (c : Dev nD) (n : ℕ) : sProp 𝕄 :=
  iprop(∃ x, ∃ h, ∃ g, ⌜Inv m c n x h g⌝ ∗ owns (c : Thread nD τ) scX fullShare x ∗ owns (c : Thread nD τ) scH fullShare h
    ∗ owns (c : Thread nD τ) scG fullShare g ∗ (∃ r, prngReg c r))

def oC (c : Dev nD) (t : Fin cfg0.N) : FVec F S1024x256 .f32 := outC (F := F) (iblk m c 4 t) (HE m c (t.val / 16)) (GE m c (t.val / 16))
def oL (c : Dev nD) (t : Fin cfg0.N) : FVec F S512x256 .f32 := outL (F := F) (iblk m c 4 t) (HE m c (t.val / 16)) (GE m c (t.val / 16))

def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => oC m c t
    | 6 => fun t => oL m c t
    | ⟨_ + 7, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by dsimp only [dats]

theorem flush5 : ∀ t : Fin cfg0.N, t.val % 16 < 8 → (cfg0.win 5).flush t = false := by decide +kernel
theorem flush6 : ∀ t : Fin cfg0.N, t.val % 16 < 8 → (cfg0.win 6).flush t = false := by decide +kernel

end Cert.Moe

end
-- ==== Proof.EObl.lean ====
module

public import proofs.«01_k».proof.Proof.EData

@[expose] public section

noncomputable section

namespace Cert.Moe

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms5 (t : Fin cfg0.N) : Memref sig .tc .vmem S1024x256 .f32 := win0_5.stage (cfg0.slots t 5)
abbrev ms6 (t : Fin cfg0.N) : Memref sig .tc .vmem S512x256 .f32 := win0_6.stage (cfg0.slots t 6)

/-- What the body is handed at a point, and what it leaves there. -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop(Phi m c (t.val + 1) ∗ (dats m 0 c).owesAt () t.succ
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ (dats m 0 c).leavesExact 5 t ∗ (dats m 0 c).leavesExact 6 t)

theorem idle_lo (c : Dev nD) (t : Fin cfg0.N) (h3 : ¬ k0_cond3 (cfg0.grid.coords t) = 1#1) (hs : t.val % 16 < 8) :
    (dats m 0 c).leavesExact 5 t = iprop(∃ d, owns (c : Thread nD τ) (st0_5 t) fullShare ((dats m 0 c).before 5 t d))
      ∧ (dats m 0 c).leavesExact 6 t = iprop(∃ d, owns (c : Thread nD τ) (st0_6 t) fullShare ((dats m 0 c).before 6 t d)) := by
  have hi : (!(k0_cond3 (cfg0.grid.coords t) == 1#1)) = true := by
    rw [Bool.not_eq_true', beq_eq_false_iff_ne]; exact h3
  exact ⟨(dats m 0 c).leavesExact_idle 5 t hi (flush5 t hs), (dats m 0 c).leavesExact_idle 6 t hi (flush6 t hs)⟩

theorem idle_hi (c : Dev nD) (t : Fin cfg0.N) (h3 : k0_cond3 (cfg0.grid.coords t) = 1#1) :
    (dats m 0 c).leavesExact 5 t = iprop(owns (c : Thread nD τ) (st0_5 t) fullShare (oC m c t))
      ∧ (dats m 0 c).leavesExact 6 t = iprop(owns (c : Thread nD τ) (st0_6 t) fullShare (oL m c t)) := by
  have hi : (!(k0_cond3 (cfg0.grid.coords t) == 1#1)) = false := by rw [h3]; rfl
  have hi5 : cfg0.idle 5 (cfg0.grid.coords t) = false := hi
  have hi6 : cfg0.idle 6 (cfg0.grid.coords t) = false := hi
  constructor
  · unfold Dat.leavesExact; rw [hi5]; rfl
  · unfold Dat.leavesExact; rw [hi6]; rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) rfl (fun _ => rfl) t, before0_1_of m (dats m 0 c) rfl (fun _ => rfl) t,
    before0_2_of m (dats m 0 c) rfl (fun _ => rfl) t, before0_3_of m (dats m 0 c) rfl (fun _ => rfl) t,
    before0_4_of m (dats m 0 c) rfl (fun _ => rfl) t]
  rw [show (dats m 0 c).owesAt () t.succ = (dats m 0 c).owesAt () t.castSucc from rfl]
  by_cases hs : t.val % 16 < 8
  · have h2 : k0_cond2 (cfg0.grid.coords t) = 1#1 := (cond2_iff _).mpr (by rw [coord1]; exact hs)
    have h3 : ¬ k0_cond3 (cfg0.grid.coords t) = 1#1 := fun h => by have := (cond3_iff _).mp h; rw [coord1] at this; omega
    rw [(idle_lo m c t h3 hs).1, (idle_lo m c t h3 hs).2]
    by_cases h0 : t.val % 16 = 0
    · unfold Phi
      iintro ⟨⟨%x, %h, %g, %hI, HX, HH, HG, Hr⟩, HO, ⟨%d0, H0⟩, ⟨%d1, H1⟩, ⟨%d2, H2⟩, ⟨%d3, H3⟩, ⟨%d4, H4⟩, H5, H6⟩
      iapply (run_A c (cfg0.grid.coords t) (by rw [coord1]; exact h0) h2 h3 _ _ _ _ _ _ _ _ _ _ _ _ _ _
        (iblk m c 0 t) (iblk m c 1 t) (iblk m c 2 t) (iblk m c 3 t) x h g _)
      isplitl [H0]; · iexact H0
      isplitl [H1]; · iexact H1
      isplitl [H2]; · iexact H2
      isplitl [H3]; · iexact H3
      isplitl [HX]; · iexact HX
      isplitl [HH]; · iexact HH
      isplitl [HG]; · iexact HG
      iintro ⟨H0, H1, H2, H3, HX, HH, HG⟩
      isplitl [HX HH HG Hr]
      · iexists _, _, _
        isplitr; · ipureintro; exact Inv.first m c t h0 h
        isplitl [HX]; · iexact HX
        isplitl [HH]; · iexact HH
        isplitl [HG]; · iexact HG
        iexact Hr
      isplitl [HO]; · iexact HO
      isplitl [H0]; · iexact H0
      isplitl [H1]; · iexact H1
      isplitl [H2]; · iexact H2
      isplitl [H3]; · iexact H3
      isplitl [H4]; · iexact H4
      isplitl [H5]; · iexact H5
      iexact H6
    · unfold Phi
      iintro ⟨⟨%x, %h, %g, %hI, HX, HH, HG, Hr⟩, HO, ⟨%d0, H0⟩, ⟨%d1, H1⟩, ⟨%d2, H2⟩, ⟨%d3, H3⟩, ⟨%d4, H4⟩, H5, H6⟩
      iapply (run_B c (cfg0.grid.coords t) (by rw [coord1]; exact h0) h2 h3 _ _ _ _ _ _ _ _ _ _ _ _ _ _
        (iblk m c 2 t) (iblk m c 3 t) x h _)
      isplitl [H2]; · iexact H2
      isplitl [H3]; · iexact H3
      isplitl [HX]; · iexact HX
      isplitl [HH]; · iexact HH
      iintro ⟨H2, H3, HX, HH⟩
      isplitl [HX HH HG Hr]
      · iexists _, _, _
        isplitr; · ipureintro; exact Inv.next m c t h0 hs hI
        isplitl [HX]; · iexact HX
        isplitl [HH]; · iexact HH
        isplitl [HG]; · iexact HG
        iexact Hr
      isplitl [HO]; · iexact HO
      isplitl [H0]; · iexact H0
      isplitl [H1]; · iexact H1
      isplitl [H2]; · iexact H2
      isplitl [H3]; · iexact H3
      isplitl [H4]; · iexact H4
      isplitl [H5]; · iexact H5
      iexact H6
  · have h2 : ¬ k0_cond2 (cfg0.grid.coords t) = 1#1 := fun h => by have := (cond2_iff _).mp h; rw [coord1] at this; omega
    have h3 : k0_cond3 (cfg0.grid.coords t) = 1#1 := (cond3_iff _).mpr (by rw [coord1]; omega)
    rw [(idle_hi m c t h3).1, (idle_hi m c t h3).2]
    unfold Phi
    iintro ⟨⟨%x, %h, %g, %hI, HX, HH, HG, Hr⟩, HO, ⟨%d0, H0⟩, ⟨%d1, H1⟩, ⟨%d2, H2⟩, ⟨%d3, H3⟩, ⟨%d4, H4⟩, ⟨%d5, H5⟩, ⟨%d6, H6⟩⟩
    have hslab : slab h = HE m c (t.val / 16) := funext fun j => hI.tiles j (by have := j.isLt; omega)
    have hg : g = GE m c (t.val / 16) := hI.gates (by omega)
    have eC : outC (iblk m c 4 t) (slab h) g = oC m c t := by unfold oC; rw [hslab, hg]
    have eL : outL (iblk m c 4 t) (slab h) g = oL m c t := by unfold oL; rw [hslab, hg]
    iapply (run_C c (cfg0.grid.coords t) (by rw [coord1]; omega) h2 h3 _ _ _ _ _ _ _ _ _ _ _ _ _ _
      (iblk m c 4 t) h g _ _ _)
    isplitl [H4]; · iexact H4
    isplitl [H5]; · iexact H5
    isplitl [H6]; · iexact H6
    isplitl [HH]; · iexact HH
    isplitl [HG]; · iexact HG
    rw [eC, eL]
    iintro ⟨H4, H5, H6, HH, HG⟩
    isplitl [HX HH HG Hr]
    · iexists _, _, _
      isplitr; · ipureintro; exact Inv.later m c t (by omega) hI
      isplitl [HX]; · iexact HX
      isplitl [HH]; · iexact HH
      isplitl [HG]; · iexact HG
      iexact Hr
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : Pipeline.ΦA spec0 c ⊢ ((dats (F := F) m 0 c).Φ 0 : sProp 𝕄) := by
  show _ ⊢ Phi m c 0
  unfold Pipeline.ΦA Phi
  rw [scopedRest0_eq]
  simp only [← owns_whole]
  iintro ⟨⟨⟨%x, HX⟩, ⟨%h, HH⟩, ⟨%g, HG⟩⟩, Hr⟩
  iexists x, h, g
  isplitr; · ipureintro; exact ⟨fun h => absurd rfl h, fun h => absurd rfl h, fun j hj => absurd hj (Nat.not_lt_zero _)⟩
  isplitl [HX]; · iexact HX
  isplitl [HH]; · iexact HH
  isplitl [HG]; · iexact HG
  iexact Hr

theorem phi_out (c : Dev nD) : ((dats (F := F) m 0 c).Φ (Fin.last cfg0.N) : sProp 𝕄) ⊢ Pipeline.ΦA spec0 c := by
  show Phi m c cfg0.N ⊢ _
  unfold Pipeline.ΦA Phi
  rw [scopedRest0_eq]
  simp only [← owns_whole]
  iintro ⟨%x, %h, %g, -, HX, HH, HG, Hr⟩
  isplitr [Hr]
  · isplitl [HX]; · iexists _; iexact HX
    isplitl [HH]; · iexists _; iexact HH
    iexists _; iexact HG
  iexact Hr

theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

end Cert.Moe

end
-- ==== Proof.ESpec.lean ====
module

public import proofs.«01_k».proof.Proof.Gen.MoeIdeal
public import proofs.«01_k».proof.Proof.Gen.MoeIdeal.Run
public import Idealize.ShloMosaic.Lib.ValueIdx
public import Idealize.ShloMosaic.Lib.Pipeline.Value
public import Idealize.ShloMosaic.Lib.IdealHost
public import Idealize.ShloMosaic.Lib.StackMember
public import Idealize.ShloMosaic.PureOps.Ideal.Laws

@[expose] public section

noncomputable section

namespace Cert.Moe

open Cert.MoeIdeal Cert.MoeIdeal.Gen
open Idealize.ShloMosaic Idealize.ShloMosaic.TcCoe Idealize.ShloMosaic.ValueIdx
open scoped BigOperators

/-! ## The layer's mathematics, by coordinates -/

section Math
variable (A0 : S16384x1152.Idx → BitVec 32) (A1 : S8192x1152.Idx → BitVec 32) (Wg Wu Wd : S16x2048x2048.Idx → EReal)

/-- Word `l` of expert `e`'s row `r`: rows below 1024 are the first source's, the others the second's. -/
def word (e : Fin 16) (r : Fin 1536) (l : Fin 1152) : BitVec 32 :=
  if h : r.val < 1024 then A0 (ix2 ⟨1024 * e.val + r.val, by have := e.isLt; omega⟩ l)
  else A1 (ix2 ⟨512 * e.val + (r.val - 1024), by have := e.isLt; have := r.isLt; omega⟩ l)

/-- The row's element `d`: the low half of its word below 1024, the high half from there. -/
def xval (e : Fin 16) (r : Fin 1536) (d : Fin 2048) : EReal :=
  Ideal.ofBits .f32 (if d.val < 1024 then
      IntOp.shli .vector (word A0 A1 e r ⟨d.val % 1024, by have := Nat.mod_lt d.val (show 0 < 1024 by decide); omega⟩) 16#32
    else IntOp.andi (word A0 A1 e r ⟨d.val % 1024, by have := Nat.mod_lt d.val (show 0 < 1024 by decide); omega⟩) 4294901760#32)

/-- The row times column `f` of an expert's matrix. -/
def proj (W : S16x2048x2048.Idx → EReal) (e : Fin 16) (r : Fin 1536) (f : Fin 2048) : EReal :=
  ∑ k : Fin 2048, xval A0 A1 e r k * W (ix3 e k f)

/-- The gated hidden value. -/
def hval (e : Fin 16) (r : Fin 1536) (f : Fin 2048) : EReal :=
  proj A0 A1 Wg e r f * Ideal.logistic (proj A0 A1 Wg e r f) * proj A0 A1 Wu e r f

/-- The row's affinity to the expert. -/
def gval (e : Fin 16) (r : Fin 1536) : EReal :=
  Ideal.ofBits .f32 (word A0 A1 e r ⟨1024 + e.val, by have := e.isLt; omega⟩)

/-- The expert's output at column `d`, weighted. -/
def yval (e : Fin 16) (r : Fin 1536) (d : Fin 2048) : EReal :=
  (∑ f : Fin 2048, hval A0 A1 Wg Wu e r f * Wd (ix3 e f d)) * gval A0 A1 e r

end Math

/-! ## The reference's operations at an index -/

section Ref
variable (A0 : (⟨S16384x1152, .i32⟩ : BufTy).Contents (Elt Ideal)) (A1 : (⟨S8192x1152, .i32⟩ : BufTy).Contents (Elt Ideal))
variable (Wg Wu Wd : (⟨S16x2048x2048, .f32⟩ : BufTy).Contents (Elt Ideal))

def refWords : (⟨S16x1536x1152, .i32⟩ : BufTy).Contents (Elt Ideal) :=
  concatenate S16x1536x1152 1 [⟨S16x1024x1152, shapeCast _ A0 shapeCasts_S16384x1152_S16x1024x1152⟩,
    ⟨S16x512x1152, shapeCast _ A1 shapeCasts_S8192x1152_S16x512x1152⟩] concatenates_S16x1024x1152_S16x512x1152_S16x1536x1152_d1

theorem refWords_apply (e : Fin 16) (r : Fin 1536) (l : Fin 1152) : refWords A0 A1 (ix3 e r l) = word A0 A1 e r l := by
  have he := e.isLt
  have hr := r.isLt
  unfold refWords word
  by_cases h : r.val < 1024
  · rw [dif_pos h]
    refine (concatenate_pair_apply_left 1 _ _ concatenates_S16x1024x1152_S16x512x1152_S16x1536x1152_d1 (ix3 e r l) rfl
      (ix3 e ⟨r.val, h⟩ l) fun b => by match b with | 0 => rfl | 1 => rfl | 2 => rfl).trans ?_
    refine shapeCast_apply A0 shapeCasts_S16384x1152_S16x1024x1152 _ (ix2 ⟨1024 * e.val + r.val, by omega⟩ l) ?_
    rw [Shape.rowMajor_val_three, Shape.rowMajor_val_two]
    show (1024 * e.val + r.val) * 1152 + l.val = (e.val * 1024 + r.val) * 1152 + l.val
    omega
  · rw [dif_neg h]
    refine (concatenate_pair_apply_right 1 _ _ concatenates_S16x1024x1152_S16x512x1152_S16x1536x1152_d1 (ix3 e r l) rfl rfl
      (ix3 e ⟨r.val - 1024, by omega⟩ l) (fun b hb => by
        match b with
        | 0 => rfl
        | 1 => exact absurd rfl hb
        | 2 => rfl) (by show r.val - 1024 + 1024 = r.val; omega)).trans ?_
    refine shapeCast_apply A1 shapeCasts_S8192x1152_S16x512x1152 _ (ix2 ⟨512 * e.val + (r.val - 1024), by omega⟩ l) ?_
    rw [Shape.rowMajor_val_three, Shape.rowMajor_val_two]
    show (512 * e.val + (r.val - 1024)) * 1152 + l.val = (e.val * 512 + (r.val - 1024)) * 1152 + l.val
    omega

def refHalf : (⟨S16x1536x1024, .i32⟩ : BufTy).Contents (Elt Ideal) :=
  extractStridedSlice S16x1536x1024 ![0, 0, 0] (refWords A0 A1) slices_S16x1536x1152_S16x1536x1024_0_0_0

theorem refHalf_apply (e : Fin 16) (r : Fin 1536) (l : Fin 1024) :
    refHalf A0 A1 (ix3 e r l) = word A0 A1 e r ⟨l.val, by have := l.isLt; omega⟩ := by
  unfold refHalf
  refine (extractStridedSlice_apply _ _ slices_S16x1536x1152_S16x1536x1024_0_0_0 (ix3 e r l)
    (ix3 e r ⟨l.val, by have := l.isLt; omega⟩) fun a => ?_).trans (refWords_apply A0 A1 _ _ _)
  match a with
  | 0 => show e.val = 0 + e.val; omega
  | 1 => show r.val = 0 + r.val; omega
  | 2 => show l.val = 0 + l.val; omega

def refX : (⟨S16x1536x2048, .f32⟩ : BufTy).Contents (Elt Ideal) :=
  concatenate S16x1536x2048 2
    [⟨S16x1536x1024, (bitcastToFloat (F := Ideal) .f32 (Host.shli (refHalf A0 A1)
      (broadcastInDim S16x1536x1024 ![] bcast_S_S16x1536x1024 (constantI S_ 32 16#32))))⟩,
     ⟨S16x1536x1024, (bitcastToFloat (F := Ideal) .f32 (andi (refHalf A0 A1)
      (broadcastInDim S16x1536x1024 ![] bcast_S_S16x1536x1024 (constantI S_ 32 4294901760#32))))⟩]
    concatenates_S16x1536x1024_S16x1536x1024_S16x1536x2048_d2

theorem refX_apply (e : Fin 16) (r : Fin 1536) (d : Fin 2048) : refX A0 A1 (ix3 e r d) = xval A0 A1 e r d := by
  have hd := d.isLt
  unfold refX xval
  by_cases h : d.val < 1024
  · rw [if_pos h]
    refine (concatenate_pair_apply_left 2 _ _ concatenates_S16x1536x1024_S16x1536x1024_S16x1536x2048_d2 (ix3 e r d) rfl
      (ix3 e r ⟨d.val, h⟩) fun b => by match b with | 0 => rfl | 1 => rfl | 2 => rfl).trans ?_
    show Ideal.ofBits .f32 (IntOp.shli .host (refHalf A0 A1 (ix3 e r ⟨d.val, h⟩)) 16#32) = _
    rw [shli_host, refHalf_apply]
    congr 3
    exact Fin.ext (Nat.mod_eq_of_lt h).symm
  · rw [if_neg h]
    refine (concatenate_pair_apply_right 2 _ _ concatenates_S16x1536x1024_S16x1536x1024_S16x1536x2048_d2 (ix3 e r d) rfl rfl
      (ix3 e r ⟨d.val - 1024, by omega⟩) (fun b hb => by
        match b with
        | 0 => rfl
        | 1 => rfl
        | 2 => exact absurd rfl hb) (by show d.val - 1024 + 1024 = d.val; omega)).trans ?_
    show Ideal.ofBits .f32 (IntOp.andi (refHalf A0 A1 (ix3 e r ⟨d.val - 1024, by omega⟩)) 4294901760#32) = _
    rw [refHalf_apply]
    congr 3
    exact Fin.ext (by show d.val - 1024 = d.val % 1024; omega)

def refDot (X : (⟨S16x1536x2048, .f32⟩ : BufTy).Contents (Elt Ideal)) (W : (⟨S16x2048x2048, .f32⟩ : BufTy).Contents (Elt Ideal)) :
    (⟨S16x1536x2048, .f32⟩ : BufTy).Contents (Elt Ideal) :=
  Host.dotGeneral (F := Ideal) (φ₁ := .f32) (φ₂ := .f32) dot_S16x1536x2048_S16x2048x2048_S16x1536x2048_2_1_1_2_0_0 none X W

theorem refDot_apply (X : (⟨S16x1536x2048, .f32⟩ : BufTy).Contents (Elt Ideal)) (W : (⟨S16x2048x2048, .f32⟩ : BufTy).Contents (Elt Ideal))
    (e : Fin 16) (r : Fin 1536) (f : Fin 2048) :
    refDot X W (ix3 e r f) = ∑ k : Fin 2048, (X (ix3 e r k) : EReal) * (W (ix3 e k f) : EReal) :=
  StackMember.dotGeneral_stack_apply (φ₁ := .f32) (φ₂ := .f32) dot_S16x1536x2048_S16x2048x2048_S16x1536x2048_2_1_1_2_0_0_wf none X W e r f

theorem refDot_x (W : (⟨S16x2048x2048, .f32⟩ : BufTy).Contents (Elt Ideal)) (e : Fin 16) (r : Fin 1536) (f : Fin 2048) :
    refDot (refX A0 A1) W (ix3 e r f) = proj A0 A1 W e r f := by
  rw [refDot_apply]
  unfold proj
  exact Finset.sum_congr rfl fun k _ => by rw [refX_apply]

def refHid : (⟨S16x1536x2048, .f32⟩ : BufTy).Contents (Elt Ideal) :=
  mulf (F := Ideal) (φ := .f32) (mulf (F := Ideal) (φ := .f32) (refDot (refX A0 A1) Wg) (Host.divf (F := Ideal) (φ := .f32)
      (broadcastInDim S16x1536x2048 ![] bcast_S_S16x1536x2048 (constant (F := Ideal) S_ .f32 0x3F800000#32))
      (addf (F := Ideal) (φ := .f32) (broadcastInDim S16x1536x2048 ![] bcast_S_S16x1536x2048 (constant (F := Ideal) S_ .f32 0x3F800000#32))
        (Host.exp (F := Ideal) (φ := .f32) (Host.negf (F := Ideal) (φ := .f32) (refDot (refX A0 A1) Wg))))))
    (refDot (refX A0 A1) Wu)

theorem refHid_apply (e : Fin 16) (r : Fin 1536) (f : Fin 2048) : refHid A0 A1 Wg Wu (ix3 e r f) = hval A0 A1 Wg Wu e r f := by
  unfold refHid hval
  show (refDot (refX A0 A1) Wg (ix3 e r f) : EReal)
    * Ideal.div (Ideal.ofBits .f32 0x3F800000#32) (Ideal.ofBits .f32 0x3F800000#32 + Ideal.exp (-(refDot (refX A0 A1) Wg (ix3 e r f))))
    * refDot (refX A0 A1) Wu (ix3 e r f) = _
  rw [refDot_x, refDot_x, Ideal.ofBits_one_f32]
  rfl

def refLane : (⟨S256x1536, .f32⟩ : BufTy).Contents (Elt Ideal) :=
  shapeCast _ (transpose S16x16x1536 [0, 2, 1] (bitcastToFloat (F := Ideal) .f32
    (extractStridedSlice S16x1536x16 ![0, 0, 1024] (refWords A0 A1) slices_S16x1536x1152_S16x1536x16_0_0_1024))
    transposes_S16x1536x16_S16x16x1536_0_2_1) shapeCasts_S16x16x1536_S256x1536

theorem refLane_apply (e : Fin 16) (r : Fin 1536) :
    refLane A0 A1 (ix2 ⟨17 * e.val, by have := e.isLt; omega⟩ r) = gval A0 A1 e r := by
  unfold refLane gval
  refine (shapeCast_apply _ shapeCasts_S16x16x1536_S256x1536 _ (ix3 e e r) ?_).trans ?_
  · rw [Shape.rowMajor_val_three, Shape.rowMajor_val_two]
    show (e.val * 16 + e.val) * 1536 + r.val = (17 * e.val) * 1536 + r.val
    omega
  refine (transpose_apply _ _ transposes_S16x1536x16_S16x16x1536_0_2_1 (ix3 e e r) (ix3 e r e) fun b => by
    match b with | 0 => rfl | 1 => rfl | 2 => rfl).trans ?_
  show Ideal.ofBits .f32 (extractStridedSlice S16x1536x16 ![0, 0, 1024] (refWords A0 A1) _ (ix3 e r e)) = _
  refine congrArg (Ideal.ofBits .f32) ((extractStridedSlice_apply _ _ slices_S16x1536x1152_S16x1536x16_0_0_1024 (ix3 e r e)
    (ix3 e r ⟨1024 + e.val, by have := e.isLt; omega⟩) fun a => ?_).trans (refWords_apply A0 A1 _ _ _))
  match a with
  | 0 => show e.val = 0 + e.val; omega
  | 1 => show r.val = 0 + r.val; omega
  | 2 => rfl

def refGate : (⟨S16x1536x2048, .f32⟩ : BufTy).Contents (Elt Ideal) :=
  broadcastInDim S16x1536x2048 ![0, 1, 2] bcast_S16x1536x1_S16x1536x2048_0_1_2 (broadcastInDim S16x1536x1 ![0, 1] bcast_S16x1536_S16x1536x1_0_1
    (Host.slice S16x1536 ![0, 0] ![17, 1] (refLane A0 A1) slicesBy_S256x1536_S16x1536_0s17_0s1))

theorem refGate_apply (e : Fin 16) (r : Fin 1536) (d : Fin 2048) : refGate A0 A1 (ix3 e r d) = gval A0 A1 e r := by
  unfold refGate
  refine (broadcastInDim_apply _ bcast_S16x1536x1_S16x1536x2048_0_1_2 _ (ix3 e r d) (ix3 e r (0 : Fin 1)) fun a => by
    match a with | 0 => rfl | 1 => rfl | 2 => rfl).trans ?_
  refine (broadcastInDim_apply _ bcast_S16x1536_S16x1536x1_0_1 _ (ix3 e r (0 : Fin 1)) (ix2 e r) fun a => by
    match a with | 0 => rfl | 1 => rfl).trans ?_
  refine Eq.trans ?_ (refLane_apply A0 A1 e r)
  unfold Host.slice
  refine congrArg (refLane A0 A1) (funext fun a => Fin.ext ?_)
  match a with
  | 0 => show 0 + 17 * e.val = 17 * e.val; omega
  | 1 => show 0 + 1 * r.val = r.val; omega

def refY : (⟨S16x1536x2048, .f32⟩ : BufTy).Contents (Elt Ideal) :=
  mulf (F := Ideal) (φ := .f32) (refDot (refHid A0 A1 Wg Wu) Wd) (refGate A0 A1)

theorem refY_apply (e : Fin 16) (r : Fin 1536) (d : Fin 2048) : refY A0 A1 Wg Wu Wd (ix3 e r d) = yval A0 A1 Wg Wu Wd e r d := by
  unfold refY yval
  show (refDot (refHid A0 A1 Wg Wu) Wd (ix3 e r d) : EReal) * refGate A0 A1 (ix3 e r d) = _
  rw [refDot_apply, refGate_apply]
  exact congrArg (· * _) (Finset.sum_congr rfl fun f _ => by rw [refHid_apply])

def refOut0 : (⟨S16384x2048, .f32⟩ : BufTy).Contents (Elt Ideal) :=
  shapeCast _ (extractStridedSlice S16x1024x2048 ![0, 0, 0] (refY A0 A1 Wg Wu Wd) slices_S16x1536x2048_S16x1024x2048_0_0_0)
    shapeCasts_S16x1024x2048_S16384x2048
def refOut1 : (⟨S8192x2048, .f32⟩ : BufTy).Contents (Elt Ideal) :=
  shapeCast _ (extractStridedSlice S16x512x2048 ![0, 1024, 0] (refY A0 A1 Wg Wu Wd) slices_S16x1536x2048_S16x512x2048_0_1024_0)
    shapeCasts_S16x512x2048_S8192x2048

theorem refOut0_apply (e : Fin 16) (r : Fin 1024) (d : Fin 2048) :
    refOut0 A0 A1 Wg Wu Wd (ix2 ⟨1024 * e.val + r.val, by have := e.isLt; have := r.isLt; omega⟩ d)
      = yval A0 A1 Wg Wu Wd e ⟨r.val, by have := r.isLt; omega⟩ d := by
  have hr := r.isLt
  unfold refOut0
  refine (shapeCast_apply _ shapeCasts_S16x1024x2048_S16384x2048 _ (ix3 e r d) ?_).trans ?_
  · rw [Shape.rowMajor_val_three, Shape.rowMajor_val_two]
    show (e.val * 1024 + r.val) * 2048 + d.val = (1024 * e.val + r.val) * 2048 + d.val
    omega
  refine (extractStridedSlice_apply _ _ slices_S16x1536x2048_S16x1024x2048_0_0_0 (ix3 e r d)
    (ix3 e ⟨r.val, by omega⟩ d) fun a => ?_).trans (refY_apply A0 A1 Wg Wu Wd _ _ _)
  match a with
  | 0 => show e.val = 0 + e.val; omega
  | 1 => show r.val = 0 + r.val; omega
  | 2 => show d.val = 0 + d.val; omega

theorem refOut1_apply (e : Fin 16) (r : Fin 512) (d : Fin 2048) :
    refOut1 A0 A1 Wg Wu Wd (ix2 ⟨512 * e.val + r.val, by have := e.isLt; have := r.isLt; omega⟩ d)
      = yval A0 A1 Wg Wu Wd e ⟨1024 + r.val, by have := r.isLt; omega⟩ d := by
  have hr := r.isLt
  unfold refOut1
  refine (shapeCast_apply _ shapeCasts_S16x512x2048_S8192x2048 _ (ix3 e r d) ?_).trans ?_
  · rw [Shape.rowMajor_val_three, Shape.rowMajor_val_two]
    show (e.val * 512 + r.val) * 2048 + d.val = (512 * e.val + r.val) * 2048 + d.val
    omega
  refine (extractStridedSlice_apply _ _ slices_S16x1536x2048_S16x512x2048_0_1024_0 (ix3 e r d)
    (ix3 e ⟨1024 + r.val, by omega⟩ d) fun a => ?_).trans (refY_apply A0 A1 Wg Wu Wd _ _ _)
  match a with
  | 0 => show e.val = 0 + e.val; omega
  | 1 => rfl
  | 2 => show d.val = 0 + d.val; omega

end Ref

/-- The reference's results are these terms of its arguments. -/
theorem res0_eq (m : (ℓ : Loc nD τ sig) → Buf (Elt Ideal) ℓ) (c : Dev nD) :
    Cert.MoeIdeal.Value.res_main_v26 (F := Ideal) m c = refOut0 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.MoeIdeal.Value.res_main_v26 refOut0 refY refHid refGate refLane refDot refX refHalf refWords
  rfl
theorem res1_eq (m : (ℓ : Loc nD τ sig) → Buf (Elt Ideal) ℓ) (c : Dev nD) :
    Cert.MoeIdeal.Value.res_main_v28 (F := Ideal) m c = refOut1 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.MoeIdeal.Value.res_main_v28 refOut1 refY refHid refGate refLane refDot refX refHalf refWords
  rfl

end Cert.Moe

end
-- ==== Proof.EPay.lean ====
module

public import proofs.«01_k».proof.Proof.EBody
public import proofs.«01_k».proof.Proof.ESpec
public import Idealize.ShloMosaic.Lib.MatmulPlain
public import Idealize.ShloMosaic.Lib.Pointwise.Sums

@[expose] public section

noncomputable section

namespace Cert.Moe

open Cert.ExpertsIdeal Cert.ExpertsIdeal.Gen
open Idealize.ShloMosaic hiding ix1 ix2 ix3
open Idealize.ShloMosaic.TcCoe Idealize.ShloMosaic.ValueIdx
open scoped BigOperators

/-! ## The kernel's payloads at an index, over the extended reals -/

theorem proj_mat (x : FVec Ideal S1536x2048 .bf16) (w : FVec Ideal S2048x256 .bf16) (r : Fin 1536) (f : Fin 256) :
    matmul dot_S1536x2048_S2048x256_S1536x256_1_0_0_1_n_n none x w (constant (F := Ideal) S1536x256 .f32 0x00000000#32) (ix2 r f)
      = ∑ k : Fin 2048, (x (ix2 r k) : EReal) * (w (ix2 k f) : EReal) := by
  refine (Ideal.matmul_plain_apply (M := 1536) (K := 2048) (N := 256) none x w _ r f).trans ?_
  show Ideal.ofBits .f32 0x00000000#32 + _ = _
  rw [Ideal.ofBits_zero_f32, zero_add]

theorem tile_mat (x : FVec Ideal S1536x256 .bf16) (w : FVec Ideal S256x256 .bf16) (r : Fin 1536) (f : Fin 256) :
    matmul dot_S1536x256_S256x256_S1536x256_1_0_0_1_n_n none x w (constant (F := Ideal) S1536x256 .f32 0x00000000#32) (ix2 r f)
      = ∑ k : Fin 256, (x (ix2 r k) : EReal) * (w (ix2 k f) : EReal) := by
  refine (Ideal.matmul_plain_apply (M := 1536) (K := 256) (N := 256) none x w _ r f).trans ?_
  show Ideal.ofBits .f32 0x00000000#32 + _ = _
  rw [Ideal.ofBits_zero_f32, zero_add]

theorem drop_w (w : Vec Ideal S1x2048x256 .f32) (k : Fin 2048) (f : Fin 256) :
    shapeCast S2048x256 w shapeCasts_S1x2048x256_S2048x256 (ix2 k f) = w (ix3 (0 : Fin 1) k f) :=
  shapeCast_apply w shapeCasts_S1x2048x256_S2048x256 _ _ (by
    rw [Shape.rowMajor_val_three, Shape.rowMajor_val_two]
    show (0 * 2048 + k.val) * 256 + f.val = k.val * 256 + f.val
    omega)
theorem drop_s (s : Vec Ideal S1x1536x256 .bf16) (r : Fin 1536) (k : Fin 256) :
    shapeCast S1536x256 s shapeCasts_S1x1536x256_S1536x256 (ix2 r k) = s (ix3 (0 : Fin 1) r k) :=
  shapeCast_apply s shapeCasts_S1x1536x256_S1536x256 _ _ (by
    rw [Shape.rowMajor_val_three, Shape.rowMajor_val_two]
    show (0 * 1536 + r.val) * 256 + k.val = r.val * 256 + k.val
    omega)

/-- The rows times a weight block. -/
def pcol (x : FVec Ideal S1536x2048 .bf16) (w : Vec Ideal S1x2048x256 .f32) (r : Fin 1536) (f : Fin 256) : EReal :=
  ∑ k : Fin 2048, (x (ix2 r k) : EReal) * (w (ix3 (0 : Fin 1) k f) : EReal)

theorem hid_mat (x : FVec Ideal S1536x2048 .bf16) (w : Vec Ideal S1x2048x256 .f32) (r : Fin 1536) (f : Fin 256) :
    matmul dot_S1536x2048_S2048x256_S1536x256_1_0_0_1_n_n none x
      (truncf (F := Ideal) (φ := .f32) .bf16 (shapeCast S2048x256 w shapeCasts_S1x2048x256_S2048x256) bitsLt_bf16_f32)
      (constant (F := Ideal) S1536x256 .f32 0x00000000#32) (ix2 r f) = pcol x w r f := by
  rw [proj_mat]
  unfold pcol
  refine Finset.sum_congr rfl fun k _ => congrArg (_ * ·) ?_
  exact drop_w w k f

theorem pay3_apply (x : FVec Ideal S1536x2048 .bf16) (wg wu : Vec Ideal S1x2048x256 .f32) (r : Fin 1536) (f : Fin 256) :
    k0_pay3 (F := Ideal) x wg wu (ix3 (0 : Fin 1) r f)
      = pcol x wg r f * Ideal.logistic (pcol x wg r f) * pcol x wu r f := by
  unfold k0_pay3
  refine (shapeCast_apply _ shapeCasts_S1536x256_S1x1536x256 _ (ix2 r f) (by
    rw [Shape.rowMajor_val_three, Shape.rowMajor_val_two]
    show r.val * 256 + f.val = (0 * 1536 + r.val) * 256 + f.val
    omega)).trans ?_
  have hg := hid_mat x wg r f
  have hu := hid_mat x wu r f
  rw [← hg, ← hu]
  rfl

/-- One tile's share of the second product. -/
def tcol (s : Vec Ideal S1x1536x256 .bf16) (wd : Vec Ideal S1x2048x256 .f32) (j : Fin 8) (r : Fin 1536) (d : Fin 256) : EReal :=
  ∑ k : Fin 256, (s (ix3 (0 : Fin 1) r k) : EReal)
    * (wd (ix3 (0 : Fin 1) ⟨j.val * 256 + k.val, by have := j.isLt; have := k.isLt; omega⟩ d) : EReal)

theorem tile_apply (s : Vec Ideal S1x1536x256 .bf16) (wd : Vec Ideal S1x2048x256 .f32) (j : Fin 8) (off : Fin 2 → Nat)
    (h0 : off 0 = j.val * 256) (h1 : off 1 = 0) (hs : S2048x256.Slices off S256x256) (r : Fin 1536) (d : Fin 256) :
    matmul dot_S1536x256_S256x256_S1536x256_1_0_0_1_n_n none
      (shapeCast S1536x256 s shapeCasts_S1x1536x256_S1536x256 : FVec Ideal S1536x256 .bf16)
      (extractStridedSlice S256x256 off (k0_pay12 (F := Ideal) wd) hs)
      (constant (F := Ideal) S1536x256 .f32 0x00000000#32) (ix2 r d) = tcol s wd j r d := by
  rw [tile_mat]
  unfold tcol
  refine Finset.sum_congr rfl fun k _ => congrArg₂ (· * ·) (drop_s s r k) ?_
  refine (extractStridedSlice_apply off _ hs (ix2 k d)
    (ix2 ⟨j.val * 256 + k.val, by have := j.isLt; have := k.isLt; omega⟩ d) fun a => ?_).trans (drop_w wd _ d)
  match a with
  | 0 => show j.val * 256 + k.val = off 0 + k.val; rw [h0]
  | 1 => show d.val = off 1 + d.val; rw [h1]; omega

/-- The eight tiles' shares are the whole second product. -/
theorem tiles_sum (s : Fin 8 → Vec Ideal S1x1536x256 .bf16) (wd : Vec Ideal S1x2048x256 .f32) (r : Fin 1536) (d : Fin 256)
    (H : Fin 2048 → EReal) (hH : ∀ (j : Fin 8) (k : Fin 256), (s j (ix3 (0 : Fin 1) r k) : EReal)
      = H ⟨j.val * 256 + k.val, by have := j.isLt; have := k.isLt; omega⟩) :
    tcol (s 0) wd 0 r d + tcol (s 1) wd 1 r d + tcol (s 2) wd 2 r d + tcol (s 3) wd 3 r d + tcol (s 4) wd 4 r d
      + tcol (s 5) wd 5 r d + tcol (s 6) wd 6 r d + tcol (s 7) wd 7 r d
      = ∑ f : Fin 2048, H f * (wd (ix3 (0 : Fin 1) f d) : EReal) := by
  rw [Fin.sum_univ_tiles 8 256 rfl, Fin.sum_univ_eight]
  have e : ∀ j : Fin 8, tcol (s j) wd j r d = ∑ k : Fin 256, H ⟨j.val * 256 + k.val, by have := j.isLt; have := k.isLt; omega⟩
      * (wd (ix3 (0 : Fin 1) ⟨j.val * 256 + k.val, by have := j.isLt; have := k.isLt; omega⟩ d) : EReal) := fun j => by
    unfold tcol
    exact Finset.sum_congr rfl fun k _ => by rw [hH]
  rw [e 0, e 1, e 2, e 3, e 4, e 5, e 6, e 7]

theorem pay4_apply (s : Fin 8 → Vec Ideal S1x1536x256 .bf16) (wd : Vec Ideal S1x2048x256 .f32) (g : Vec Ideal S1536x1 .f32)
    (r : Fin 1536) (d : Fin 256)
    (H : Fin 2048 → EReal) (hH : ∀ (j : Fin 8) (k : Fin 256), (s j (ix3 (0 : Fin 1) r k) : EReal)
      = H ⟨j.val * 256 + k.val, by have := j.isLt; have := k.isLt; omega⟩) :
    k0_pay4 (F := Ideal) (k0_pay12 wd) (k0_pay13 wd (s 0) (s 1) (s 2) (s 3) (s 4) (s 5)) (s 6) (s 7) g (ix2 r d)
      = (∑ f : Fin 2048, H f * (wd (ix3 (0 : Fin 1) f d) : EReal)) * (g (ix2 r (0 : Fin 1)) : EReal) := by
  rw [← tiles_sum s wd r d H hH,
    ← tile_apply (s 0) wd 0 ![0, 0] rfl rfl slices_S2048x256_o0_0_S256x256 r d,
    ← tile_apply (s 1) wd 1 ![256, 0] rfl rfl slices_S2048x256_o256_0_S256x256 r d,
    ← tile_apply (s 2) wd 2 ![512, 0] rfl rfl slices_S2048x256_o512_0_S256x256 r d,
    ← tile_apply (s 3) wd 3 ![768, 0] rfl rfl slices_S2048x256_o768_0_S256x256 r d,
    ← tile_apply (s 4) wd 4 ![1024, 0] rfl rfl slices_S2048x256_o1024_0_S256x256 r d,
    ← tile_apply (s 5) wd 5 ![1280, 0] rfl rfl slices_S2048x256_o1280_0_S256x256 r d,
    ← tile_apply (s 6) wd 6 ![1536, 0] rfl rfl slices_S2048x256_o1536_0_S256x256 r d,
    ← tile_apply (s 7) wd 7 ![1792, 0] rfl rfl slices_S2048x256_o1792_0_S256x256 r d]
  have hb : broadcastTo S1536x256 g broadcasts_S1536x1_S1536x256 (ix2 r d) = g (ix2 r (0 : Fin 1)) :=
    broadcastTo_apply g broadcasts_S1536x1_S1536x256 _ _ fun a => by match a with | 0 => rfl | 1 => rfl
  rw [← hb]
  unfold k0_pay4 k0_pay13
  rfl

theorem outC_apply (s : Fin 8 → Vec Ideal S1x1536x256 .bf16) (wd : Vec Ideal S1x2048x256 .f32) (g : Vec Ideal S1536x1 .f32)
    (r : Fin 1024) (d : Fin 256)
    (H : Fin 2048 → EReal) (hH : ∀ (j : Fin 8) (k : Fin 256), (s j (ix3 (0 : Fin 1) ⟨r.val, by have := r.isLt; omega⟩ k) : EReal)
      = H ⟨j.val * 256 + k.val, by have := j.isLt; have := k.isLt; omega⟩) :
    outC (F := Ideal) wd s g (ix2 r d)
      = (∑ f : Fin 2048, H f * (wd (ix3 (0 : Fin 1) f d) : EReal)) * (g (ix2 (⟨r.val, by have := r.isLt; omega⟩ : Fin 1536) (0 : Fin 1)) : EReal) := by
  unfold outC k0_pay5
  have h4 := pay4_apply s wd g (⟨r.val, by have := r.isLt; omega⟩ : Fin 1536) d H hH
  rw [← h4]
  refine extractStridedSlice_apply ![0, 0] _ slices_S1536x256_o0_0_S1024x256 (ix2 r d)
    (ix2 (⟨r.val, by have := r.isLt; omega⟩ : Fin 1536) d) fun a => ?_
  match a with
  | 0 => show r.val = 0 + r.val; omega
  | 1 => show d.val = 0 + d.val; omega

theorem outL_apply (s : Fin 8 → Vec Ideal S1x1536x256 .bf16) (wd : Vec Ideal S1x2048x256 .f32) (g : Vec Ideal S1536x1 .f32)
    (r : Fin 512) (d : Fin 256)
    (H : Fin 2048 → EReal) (hH : ∀ (j : Fin 8) (k : Fin 256), (s j (ix3 (0 : Fin 1) ⟨1024 + r.val, by have := r.isLt; omega⟩ k) : EReal)
      = H ⟨j.val * 256 + k.val, by have := j.isLt; have := k.isLt; omega⟩) :
    outL (F := Ideal) wd s g (ix2 r d)
      = (∑ f : Fin 2048, H f * (wd (ix3 (0 : Fin 1) f d) : EReal)) * (g (ix2 (⟨1024 + r.val, by have := r.isLt; omega⟩ : Fin 1536) (0 : Fin 1)) : EReal) := by
  unfold outL k0_pay6
  have h4 := pay4_apply s wd g (⟨1024 + r.val, by have := r.isLt; omega⟩ : Fin 1536) d H hH
  rw [← h4]
  refine extractStridedSlice_apply ![1024, 0] _ slices_S1536x256_o1024_0_S512x256 (ix2 r d)
    (ix2 (⟨1024 + r.val, by have := r.isLt; omega⟩ : Fin 1536) d) fun a => ?_
  match a with
  | 0 => rfl
  | 1 => show d.val = 0 + d.val; omega

/-! ## The gates: a row's lane, picked by summing over the lanes -/

/-- Among 128 lanes one has the expert's number. -/
theorem lane_sum (v : Fin 128 → BitVec 32) (e : Fin 16) :
    (∑ k : Fin 128, Scalar.select (IntOp.cmpi .eq (BitVec.ofNat 32 k.val) (BitVec.ofNat 32 e.val)) (Ideal.ofBits .f32 (v k))
        (Ideal.ofBits .f32 0x00000000#32))
      = Ideal.ofBits .f32 (v ⟨e.val, by have := e.isLt; omega⟩) := by
  have he := e.isLt
  rw [Finset.sum_eq_single (⟨e.val, by omega⟩ : Fin 128)]
  · show Scalar.select (IntOp.cmpi .eq (BitVec.ofNat 32 e.val) (BitVec.ofNat 32 e.val)) _ _ = _
    have : IntOp.cmpi .eq (BitVec.ofNat 32 e.val) (BitVec.ofNat 32 e.val) = 1#1 := by
      simp [IntOp.cmpi]
    rw [this, select_one]
  · intro k _ hk
    have hk128 := k.isLt
    have hne : BitVec.ofNat 32 k.val ≠ BitVec.ofNat 32 e.val := fun h => by
      have := congrArg BitVec.toNat h
      rw [BitVec.toNat_ofNat, BitVec.toNat_ofNat] at this
      exact hk (Fin.ext (by show k.val = e.val; omega))
    have : IntOp.cmpi .eq (BitVec.ofNat 32 k.val) (BitVec.ofNat 32 e.val) = 0#1 := by
      show BitVec.ofBool (BitVec.ofNat 32 k.val == BitVec.ofNat 32 e.val) = 0#1
      rw [beq_eq_false_iff_ne.mpr hne]
      rfl
    rw [this, select_zero, Ideal.ofBits_zero_f32]
  · exact fun h => absurd (Finset.mem_univ _) h

theorem pay9_apply (e : Fin 16) (v : Vec Ideal S1024x128 .i32) (r : Fin 1024) :
    k0_pay9 (F := Ideal) (BitVec.ofNat 32 e.val) v (ix2 r (0 : Fin 1))
      = Ideal.ofBits .f32 (v (ix2 r ⟨e.val, by have := e.isLt; omega⟩)) := by
  unfold k0_pay9
  rw [shapeCast_self]
  refine (shapeCast_apply _ shapeCasts_S1024_S1024x1 _ (ix1 r) (by
    rw [Shape.rowMajor_val_one, Shape.rowMajor_val_two]
    show r.val = r.val * 1 + 0
    omega)).trans ?_
  refine (Ideal.multiReduction_add_single (φ := .f32) _ _ reduces_S1024x128_S1024 (.inl rfl) rfl (ix1 r)).trans ?_
  refine Eq.trans ?_ (lane_sum (fun k => v (ix2 r k)) e)
  refine Finset.sum_congr rfl fun (k : Fin 128) _ => ?_
  have hl : Shape.Reduces.lift reduces_S1024x128_S1024 (ix1 r) k = ix2 r k := funext fun a => Fin.ext (by
    match a with | 0 => rfl | 1 => rfl)
  show Scalar.select (IntOp.cmpi .eq (iota .tc S1024x128 32 [1] iota_S1024x128_d1_w32 _) _) (Ideal.ofBits .f32 (v _)) _ = _
  rw [hl, iota_single_apply]
  rfl

theorem gateLow_apply (e : Fin 16) (v : Vec Ideal S512x128 .i32) (r : Fin 512) :
    gateLow (F := Ideal) (BitVec.ofNat 32 e.val) v (ix2 r (0 : Fin 1))
      = Ideal.ofBits .f32 (v (ix2 r ⟨e.val, by have := e.isLt; omega⟩)) := by
  unfold gateLow
  rw [shapeCast_self]
  refine (shapeCast_apply _ shapeCasts_S512_S512x1 _ (ix1 r) (by
    rw [Shape.rowMajor_val_one, Shape.rowMajor_val_two]
    show r.val = r.val * 1 + 0
    omega)).trans ?_
  refine (Ideal.multiReduction_add_single (φ := .f32) _ _ reduces_S512x128_S512 (.inl rfl) rfl (ix1 r)).trans ?_
  refine Eq.trans ?_ (lane_sum (fun k => v (ix2 r k)) e)
  refine Finset.sum_congr rfl fun (k : Fin 128) _ => ?_
  have hl : Shape.Reduces.lift reduces_S512x128_S512 (ix1 r) k = ix2 r k := funext fun a => Fin.ext (by
    match a with | 0 => rfl | 1 => rfl)
  show Scalar.select (IntOp.cmpi .eq (iota .tc S512x128 32 [1] iota_S512x128_d1_w32 _) _) (Ideal.ofBits .f32 (v _)) _ = _
  rw [hl, iota_single_apply]
  rfl

end Cert.Moe

end
-- ==== Proof.EKernel.lean ====
module

public import proofs.«01_k».proof.Proof.EData
public import proofs.«01_k».proof.Proof.EPay
public import Idealize.ShloMosaic.Lib.Pipeline.ValueKit.Geometry

@[expose] public section

noncomputable section

namespace Cert.Moe

open Cert.ExpertsIdeal Cert.ExpertsIdeal.Gen
open Idealize.ShloMosaic hiding ix1 ix2 ix3
open Idealize.ShloMosaic.TcCoe Idealize.ShloMosaic.ValueIdx
open Idealize.ShloMosaic.Pipeline (Dat)
open scoped BigOperators

variable (m : (ℓ : Loc nD τ sig) → Buf (Elt Ideal) ℓ)

/-! ## The call's arguments -/

def a0 (c : Dev nD) : S16384x1152.Idx → BitVec 32 := m ((c.tc : Thread nD τ).loc main_arg0)
def a1 (c : Dev nD) : S8192x1152.Idx → BitVec 32 := m ((c.tc : Thread nD τ).loc main_arg1)
def a2 (c : Dev nD) : S16x2048x2048.Idx → EReal := m ((c.tc : Thread nD τ).loc main_arg2)
def a3 (c : Dev nD) : S16x2048x2048.Idx → EReal := m ((c.tc : Thread nD τ).loc main_arg3)
def a4 (c : Dev nD) : S16x2048x2048.Idx → EReal := m ((c.tc : Thread nD τ).loc main_arg4)

/-! ## The blocks as reads of the arguments -/

theorem ix_w0 : ∀ t : Fin cfg0.N, (cfg0.win 0).index t = ![t.val / 16, 0] := by decide +kernel
theorem ix_w1 : ∀ t : Fin cfg0.N, (cfg0.win 1).index t = ![t.val / 16, 0] := by decide +kernel
theorem ix_w2 : ∀ t : Fin cfg0.N, (cfg0.win 2).index t = ![t.val / 16, 0, min (t.val % 16) 7] := by decide +kernel
theorem ix_w3 : ∀ t : Fin cfg0.N, (cfg0.win 3).index t = ![t.val / 16, 0, min (t.val % 16) 7] := by decide +kernel
theorem ix_w4 : ∀ t : Fin cfg0.N, (cfg0.win 4).index t = ![t.val / 16, 0, t.val % 16 - 8] := by decide +kernel
theorem ix_w5 : ∀ t : Fin cfg0.N, (cfg0.win 5).index t = ![t.val / 16, t.val % 16 - 8] := by decide +kernel
theorem ix_w6 : ∀ t : Fin cfg0.N, (cfg0.win 6).index t = ![t.val / 16, t.val % 16 - 8] := by decide +kernel

theorem blk0 (c : Dev nD) (t : Fin cfg0.N) (r : Fin 1024) (l : Fin 1152) :
    iblk m c 0 t (ix2 r l) = a0 m c (ix2 ⟨1024 * (t.val / 16) + r.val, by have : t.val < 256 := t.isLt; have := r.isLt; omega⟩ l) := by
  show a0 m c (((cfg0.win 0).rect t).emb (ix2 r l)) = _
  refine congrArg (a0 m c) (funext fun a => Fin.ext ?_)
  refine (Pipeline.Window.rect_emb_val (cfg0.win 0) t _ a (hk := rfl)).trans ?_
  rw [ix_w0]
  match a with
  | 0 => show t.val / 16 * 1024 + r.val = 1024 * (t.val / 16) + r.val; omega
  | 1 => show 0 * 1152 + l.val = l.val; omega
theorem blk1 (c : Dev nD) (t : Fin cfg0.N) (r : Fin 512) (l : Fin 1152) :
    iblk m c 1 t (ix2 r l) = a1 m c (ix2 ⟨512 * (t.val / 16) + r.val, by have : t.val < 256 := t.isLt; have := r.isLt; omega⟩ l) := by
  show a1 m c (((cfg0.win 1).rect t).emb (ix2 r l)) = _
  refine congrArg (a1 m c) (funext fun a => Fin.ext ?_)
  refine (Pipeline.Window.rect_emb_val (cfg0.win 1) t _ a (hk := rfl)).trans ?_
  rw [ix_w1]
  match a with
  | 0 => show t.val / 16 * 512 + r.val = 512 * (t.val / 16) + r.val; omega
  | 1 => show 0 * 1152 + l.val = l.val; omega
theorem blk2 (c : Dev nD) (t : Fin cfg0.N) (k : Fin 2048) (f : Fin 256) :
    iblk m c 2 t (ix3 (0 : Fin 1) k f) = a2 m c (ix3 ⟨t.val / 16, by have : t.val < 256 := t.isLt; omega⟩ k
      ⟨min (t.val % 16) 7 * 256 + f.val, by have := f.isLt; omega⟩) := by
  show a2 m c (((cfg0.win 2).rect t).emb (ix3 (0 : Fin 1) k f)) = _
  refine congrArg (a2 m c) (funext fun a => Fin.ext ?_)
  refine (Pipeline.Window.rect_emb_val (cfg0.win 2) t _ a (hk := rfl)).trans ?_
  rw [ix_w2]
  match a with
  | 0 => show t.val / 16 * 1 + 0 = t.val / 16; omega
  | 1 => show 0 * 2048 + k.val = k.val; omega
  | 2 => rfl
theorem blk3 (c : Dev nD) (t : Fin cfg0.N) (k : Fin 2048) (f : Fin 256) :
    iblk m c 3 t (ix3 (0 : Fin 1) k f) = a3 m c (ix3 ⟨t.val / 16, by have : t.val < 256 := t.isLt; omega⟩ k
      ⟨min (t.val % 16) 7 * 256 + f.val, by have := f.isLt; omega⟩) := by
  show a3 m c (((cfg0.win 3).rect t).emb (ix3 (0 : Fin 1) k f)) = _
  refine congrArg (a3 m c) (funext fun a => Fin.ext ?_)
  refine (Pipeline.Window.rect_emb_val (cfg0.win 3) t _ a (hk := rfl)).trans ?_
  rw [ix_w3]
  match a with
  | 0 => show t.val / 16 * 1 + 0 = t.val / 16; omega
  | 1 => show 0 * 2048 + k.val = k.val; omega
  | 2 => rfl
theorem blk4 (c : Dev nD) (t : Fin cfg0.N) (k : Fin 2048) (f : Fin 256) :
    iblk m c 4 t (ix3 (0 : Fin 1) k f) = a4 m c (ix3 ⟨t.val / 16, by have : t.val < 256 := t.isLt; omega⟩ k
      ⟨(t.val % 16 - 8) * 256 + f.val, by have := f.isLt; omega⟩) := by
  show a4 m c (((cfg0.win 4).rect t).emb (ix3 (0 : Fin 1) k f)) = _
  refine congrArg (a4 m c) (funext fun a => Fin.ext ?_)
  refine (Pipeline.Window.rect_emb_val (cfg0.win 4) t _ a (hk := rfl)).trans ?_
  rw [ix_w4]
  match a with
  | 0 => show t.val / 16 * 1 + 0 = t.val / 16; omega
  | 1 => show 0 * 2048 + k.val = k.val; omega
  | 2 => rfl

/-! ## What a point leaves, by coordinates -/

theorem pt_num (e : Fin 16) (j : ℕ) (hj : j < 16) : (pt (16 * e.val + j)).val = 16 * e.val + j := by
  have := e.isLt
  show (16 * e.val + j) % 256 = _
  omega

theorem word_C (c : Dev nD) (e : Fin 16) (r : Fin 1024) (l : Fin 1152) :
    iblk m c 0 (pt (16 * e.val)) (ix2 r l) = word (a0 m c) (a1 m c) e ⟨r.val, by have := r.isLt; omega⟩ l := by
  rw [blk0]
  unfold word
  rw [dif_pos (show r.val < 1024 from r.isLt)]
  refine congrArg (fun z => a0 m c (ix2 z l)) (Fin.ext ?_)
  have h := pt_num e 0 (by decide)
  show 1024 * ((pt (16 * e.val)).val / 16) + r.val = 1024 * e.val + r.val
  rw [Nat.add_zero] at h
  rw [h]
  omega
theorem word_L (c : Dev nD) (e : Fin 16) (r : Fin 512) (l : Fin 1152) :
    iblk m c 1 (pt (16 * e.val)) (ix2 r l) = word (a0 m c) (a1 m c) e ⟨1024 + r.val, by have := r.isLt; omega⟩ l := by
  rw [blk1]
  unfold word
  rw [dif_neg (show ¬ 1024 + r.val < 1024 by omega)]
  refine congrArg (fun z => a1 m c (ix2 z l)) (Fin.ext ?_)
  have h := pt_num e 0 (by decide)
  show 512 * ((pt (16 * e.val)).val / 16) + r.val = 512 * e.val + (1024 + r.val - 1024)
  rw [Nat.add_zero] at h
  rw [h]
  omega

theorem wordX_apply (c : Dev nD) (e : Fin 16) (r : Fin 1536) (d : Fin 2048) :
    wordX (F := Ideal) (iblk m c 0 (pt (16 * e.val))) (iblk m c 1 (pt (16 * e.val))) (ix2 r d)
      = word (a0 m c) (a1 m c) e r ⟨d.val % 1024, by have := Nat.mod_lt d.val (show 0 < 1024 by decide); omega⟩ := by
  unfold wordX
  by_cases h : r.val < 1024
  · rw [dif_pos (show ((ix2 r d : S1536x2048.Idx) 0).val < 1024 from h)]
    exact word_C m c e ⟨r.val, h⟩ _
  · rw [dif_neg (show ¬ ((ix2 r d : S1536x2048.Idx) 0).val < 1024 from h)]
    have hr := r.isLt
    refine (word_L m c e ⟨r.val - 1024, by omega⟩ _).trans ?_
    exact congrArg (fun z => word (a0 m c) (a1 m c) e z _) (Fin.ext (by show 1024 + (r.val - 1024) = r.val; omega))

theorem XE_apply (c : Dev nD) (e : Fin 16) (r : Fin 1536) (d : Fin 2048) :
    XE m c e.val (ix2 r d) = xval (a0 m c) (a1 m c) e r d := by
  unfold XE rowsX xval
  rw [wordX_apply]
  rfl

theorem GE_apply (c : Dev nD) (e : Fin 16) (r : Fin 1536) :
    GE m c e.val (ix2 r (0 : Fin 1)) = gval (a0 m c) (a1 m c) e r := by
  unfold GE gatesX gval
  by_cases h : r.val < 1024
  · rw [dif_pos (show ((ix2 r (0 : Fin 1) : S1536x1.Idx) 0).val < 1024 from h)]
    refine (pay9_apply e _ ⟨r.val, h⟩).trans ?_
    refine congrArg (Ideal.ofBits .f32) ?_
    exact word_C m c e ⟨r.val, h⟩ _
  · rw [dif_neg (show ¬ ((ix2 r (0 : Fin 1) : S1536x1.Idx) 0).val < 1024 from h)]
    have hr := r.isLt
    refine (gateLow_apply e _ ⟨r.val - 1024, by omega⟩).trans ?_
    refine congrArg (Ideal.ofBits .f32) ?_
    refine (word_L m c e ⟨r.val - 1024, by omega⟩ _).trans ?_
    exact congrArg (fun z => word (a0 m c) (a1 m c) e z _) (Fin.ext (by show 1024 + (r.val - 1024) = r.val; omega))

theorem pcol2 (c : Dev nD) (e : Fin 16) (j : Fin 8) (r : Fin 1536) (f : Fin 256) :
    pcol (XE m c e.val) (iblk m c 2 (pt (16 * e.val + j.val))) r f
      = proj (a0 m c) (a1 m c) (a2 m c) e r ⟨j.val * 256 + f.val, by have := j.isLt; have := f.isLt; omega⟩ := by
  unfold pcol proj
  have h := pt_num e j.val (by have := j.isLt; omega)
  have hj := j.isLt
  refine Finset.sum_congr rfl fun k _ => ?_
  rw [XE_apply, blk2]
  refine congrArg (_ * ·) (congrArg₂ (fun y z => a2 m c (ix3 y k z)) (Fin.ext ?_) (Fin.ext ?_))
  · show (pt (16 * e.val + j.val)).val / 16 = e.val
    rw [h]; omega
  · show min ((pt (16 * e.val + j.val)).val % 16) 7 * 256 + f.val = j.val * 256 + f.val
    rw [h]; omega
theorem pcol3 (c : Dev nD) (e : Fin 16) (j : Fin 8) (r : Fin 1536) (f : Fin 256) :
    pcol (XE m c e.val) (iblk m c 3 (pt (16 * e.val + j.val))) r f
      = proj (a0 m c) (a1 m c) (a3 m c) e r ⟨j.val * 256 + f.val, by have := j.isLt; have := f.isLt; omega⟩ := by
  unfold pcol proj
  have h := pt_num e j.val (by have := j.isLt; omega)
  have hj := j.isLt
  refine Finset.sum_congr rfl fun k _ => ?_
  rw [XE_apply, blk3]
  refine congrArg (_ * ·) (congrArg₂ (fun y z => a3 m c (ix3 y k z)) (Fin.ext ?_) (Fin.ext ?_))
  · show (pt (16 * e.val + j.val)).val / 16 = e.val
    rw [h]; omega
  · show min ((pt (16 * e.val + j.val)).val % 16) 7 * 256 + f.val = j.val * 256 + f.val
    rw [h]; omega

theorem HE_apply (c : Dev nD) (e : Fin 16) (j : Fin 8) (r : Fin 1536) (f : Fin 256) :
    HE m c e.val j (ix3 (0 : Fin 1) r f)
      = hval (a0 m c) (a1 m c) (a2 m c) (a3 m c) e r ⟨j.val * 256 + f.val, by have := j.isLt; have := f.isLt; omega⟩ := by
  unfold HE
  rw [pay3_apply, pcol2, pcol3]
  rfl

/-- A point's expert. -/
def exp (t : Fin cfg0.N) : Fin 16 := ⟨t.val / 16, by have : t.val < 256 := t.isLt; omega⟩

theorem wd_apply (c : Dev nD) (t : Fin cfg0.N) (f : Fin 2048) (d : Fin 256) :
    iblk m c 4 t (ix3 (0 : Fin 1) f d) = a4 m c (ix3 (exp t) f ⟨(t.val % 16 - 8) * 256 + d.val, by have := d.isLt; omega⟩) :=
  blk4 m c t f d

theorem oC_apply (c : Dev nD) (t : Fin cfg0.N) (r : Fin 1024) (d : Fin 256) :
    oC m c t (ix2 r d) = yval (a0 m c) (a1 m c) (a2 m c) (a3 m c) (a4 m c) (exp t) ⟨r.val, by have := r.isLt; omega⟩
      ⟨(t.val % 16 - 8) * 256 + d.val, by have := d.isLt; omega⟩ := by
  unfold oC yval
  refine (outC_apply _ _ _ r d (fun f => hval (a0 m c) (a1 m c) (a2 m c) (a3 m c) (exp t) ⟨r.val, by have := r.isLt; omega⟩ f)
    fun j k => HE_apply m c (exp t) j _ k).trans ?_
  refine congrArg₂ (· * ·) (Finset.sum_congr rfl fun f _ => congrArg (_ * ·) (wd_apply m c t f d)) (GE_apply m c (exp t) _)

theorem oL_apply (c : Dev nD) (t : Fin cfg0.N) (r : Fin 512) (d : Fin 256) :
    oL m c t (ix2 r d) = yval (a0 m c) (a1 m c) (a2 m c) (a3 m c) (a4 m c) (exp t) ⟨1024 + r.val, by have := r.isLt; omega⟩
      ⟨(t.val % 16 - 8) * 256 + d.val, by have := d.isLt; omega⟩ := by
  unfold oL yval
  refine (outL_apply _ _ _ r d (fun f => hval (a0 m c) (a1 m c) (a2 m c) (a3 m c) (exp t) ⟨1024 + r.val, by have := r.isLt; omega⟩ f)
    fun j k => HE_apply m c (exp t) j _ k).trans ?_
  refine congrArg₂ (· * ·) (Finset.sum_congr rfl fun f _ => congrArg (_ * ·) (wd_apply m c t f d)) (GE_apply m c (exp t) _)

/-! ## The final arrays -/

theorem arr5 (c : Dev nD) :
    (dats m 0 c).arrAt 5 cfg0.N = refOut0 (a0 m c) (a1 m c) (a2 m c) (a3 m c) (a4 m c) := by
  refine (dats m 0 c).arrAt_eq_of_covers 5 _ (by decide +kernel) fun t hf y => ?_
  have ht : 8 ≤ t.val % 16 := Nat.le_of_not_lt fun h => by rw [flush5 t h] at hf; exact absurd hf (by decide)
  have htN : t.val < 256 := t.isLt
  have hy0 : (y 0).val < 1024 := (y 0).isLt
  have hy1 : (y 1).val < 256 := (y 1).isLt
  have hy : y = ix2 (⟨(y 0).val, hy0⟩ : Fin 1024) (⟨(y 1).val, hy1⟩ : Fin 256) := ValueIdx.eq_ix2 y
  have hG := refOut0_apply (a0 m c) (a1 m c) (a2 m c) (a3 m c) (a4 m c) (exp t) ⟨(y 0).val, hy0⟩
    ⟨(t.val % 16 - 8) * 256 + (y 1).val, by omega⟩
  have hO := oC_apply m c t ⟨(y 0).val, hy0⟩ ⟨(y 1).val, hy1⟩
  have hL : oC m c t y = _ := (congrArg (oC m c t) hy).trans (hO.trans hG.symm)
  refine hL.trans (congrArg (refOut0 (a0 m c) (a1 m c) (a2 m c) (a3 m c) (a4 m c)) (funext fun a => Fin.ext ?_))
  show _ = (((cfg0.win 5).rect t).emb y a).val
  refine Eq.symm ?_
  refine (Pipeline.Window.rect_emb_val (cfg0.win 5) t _ a (hk := rfl)).trans ?_
  rw [ix_w5]
  match a with
  | 0 => show t.val / 16 * 1024 + (y 0).val = 1024 * (t.val / 16) + (y 0).val; omega
  | 1 => rfl

theorem arr6 (c : Dev nD) :
    (dats m 0 c).arrAt 6 cfg0.N = refOut1 (a0 m c) (a1 m c) (a2 m c) (a3 m c) (a4 m c) := by
  refine (dats m 0 c).arrAt_eq_of_covers 6 _ (by decide +kernel) fun t hf y => ?_
  have ht : 8 ≤ t.val % 16 := Nat.le_of_not_lt fun h => by rw [flush6 t h] at hf; exact absurd hf (by decide)
  have htN : t.val < 256 := t.isLt
  have hy0 : (y 0).val < 512 := (y 0).isLt
  have hy1 : (y 1).val < 256 := (y 1).isLt
  have hy : y = ix2 (⟨(y 0).val, hy0⟩ : Fin 512) (⟨(y 1).val, hy1⟩ : Fin 256) := ValueIdx.eq_ix2 y
  have hG := refOut1_apply (a0 m c) (a1 m c) (a2 m c) (a3 m c) (a4 m c) (exp t) ⟨(y 0).val, hy0⟩
    ⟨(t.val % 16 - 8) * 256 + (y 1).val, by omega⟩
  have hO := oL_apply m c t ⟨(y 0).val, hy0⟩ ⟨(y 1).val, hy1⟩
  have hL : oL m c t y = _ := (congrArg (oL m c t) hy).trans (hO.trans hG.symm)
  refine hL.trans (congrArg (refOut1 (a0 m c) (a1 m c) (a2 m c) (a3 m c) (a4 m c)) (funext fun a => Fin.ext ?_))
  show _ = (((cfg0.win 6).rect t).emb y a).val
  refine Eq.symm ?_
  refine (Pipeline.Window.rect_emb_val (cfg0.win 6) t _ a (hk := rfl)).trans ?_
  rw [ix_w6]
  match a with
  | 0 => show t.val / 16 * 512 + (y 0).val = 512 * (t.val / 16) + (y 0).val; omega
  | 1 => rfl

end Cert.Moe

end
-- ==== Proof.ETwin.lean ====
/-
  The experts call and its idealization are the same program text: a run of one is a run of the other, over any float values.
-/
module

public import proofs.«01_k».proof.Experts
public import proofs.«01_k».proof.ExpertsIdeal
public import proofs.«01_k».proof.Proof.Gen.Experts
public import proofs.«01_k».proof.Proof.Gen.ExpertsIdeal

@[expose] public section

noncomputable section

namespace Cert.Moe

open Idealize.ShloMosaic Idealize.SL.Sem

variable {F : FTy → Type} [FloatOps F]

theorem body_twin (t : Fin Cert.Experts.grid0.N) (s) :
    Cert.Experts.defs₀ (F := F) .tc 0 (t, s) = Cert.ExpertsIdeal.defs₀ (F := F) .tc 0 (t, s) := rfl

theorem defs₀_twin : Cert.Experts.defs₀ (F := F) = Cert.ExpertsIdeal.defs₀ (F := F) := by
  funext p ℓ a
  match p, ℓ, a with
  | .tc, 0, (t, s) => exact body_twin t s
  | .scScalar _, _, _ => rfl
  | .scVector _ _, _, _ => rfl

theorem defs_twin : Cert.Experts.defs (F := F) = Cert.ExpertsIdeal.defs (F := F) :=
  congrArg (Pipeline.defs (Cert.ExpertsIdeal.pcfgs (F := F))) defs₀_twin

theorem θ_twin (s : MemSt Cert.ExpertsIdeal.nD Cert.ExpertsIdeal.τ Cert.ExpertsIdeal.sig (Elt F))
    (Q : PUnit × MemSt Cert.ExpertsIdeal.nD Cert.ExpertsIdeal.τ Cert.ExpertsIdeal.sig (Elt F) → Prop) :
    θ_run (Cert.Experts.defs (F := F)) (onTc (τ := Cert.Experts.τ) (Cert.Experts.main (F := F))) s Q
      = θ_run (Cert.ExpertsIdeal.defs (F := F)) (onTc (τ := Cert.ExpertsIdeal.τ) (Cert.ExpertsIdeal.main (F := F))) s Q :=
  congrArg (fun d => θ_run d (onTc (τ := Cert.ExpertsIdeal.τ) (Cert.ExpertsIdeal.main (F := F))) s Q) defs_twin

end Cert.Moe

end
-- ==== Proof.CRun.lean ====
module

public import proofs.«01_k».proof.Proof.Gen.ContextIdeal.Frame

@[expose] public section

noncomputable section

namespace Cert.Ctx

open Cert.ContextIdeal Cert.ContextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the program's run is stated over. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program over any float values: it runs, its five results hold what the last stretch of @main leaves in them, its
    arguments end unchanged, nothing is left signalled. -/
theorem run : θ_run defs (onTc (τ := τ) (main (F := F))) ⟨m, fun _ => 0, ρ⟩ (fun r => (∀ c : Dev nD,
      (r.2.mem ((c.tc : Thread nD τ).loc main_v12_0) = W5 m ρ c (Proc.devRef .tc main_v12_0)
      ∧ r.2.mem ((c.tc : Thread nD τ).loc main_v13) = W5 m ρ c (Proc.devRef .tc main_v13)
      ∧ r.2.mem ((c.tc : Thread nD τ).loc main_v14) = W5 m ρ c (Proc.devRef .tc main_v14)
      ∧ r.2.mem ((c.tc : Thread nD τ).loc main_v12_3) = W5 m ρ c (Proc.devRef .tc main_v12_3)
      ∧ r.2.mem ((c.tc : Thread nD τ).loc main_v12_4) = W5 m ρ c (Proc.devRef .tc main_v12_4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨⟨h c _ (mem_uc main_v12_0 (by decide)),
       h c _ (mem_uc main_v13 (by decide)),
       h c _ (mem_uc main_v14 (by decide)),
       h c _ (mem_uc main_v12_3 (by decide)),
       h c _ (mem_uc main_v12_4 (by decide))⟩,
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩), funext fun g => hz g (.inr (no_unscoped g.2))⟩)

end Cert.Ctx

end
-- ==== Proof.CTwin.lean ====
/-
  The context projection and its idealization are the same program text: a run of one is a run of the other, over any float values.
-/
module

public import proofs.«01_k».proof.Context
public import proofs.«01_k».proof.ContextIdeal
public import proofs.«01_k».proof.Proof.Gen.Context
public import proofs.«01_k».proof.Proof.Gen.ContextIdeal

@[expose] public section

noncomputable section

namespace Cert.Ctx

open Idealize.ShloMosaic Idealize.SL.Sem

variable {F : FTy → Type} [FloatOps F]

theorem body_twin0 (t : Fin Cert.Context.grid0.N) (s) :
    Cert.Context.defs₀ (F := F) .tc 0 (t, s) = Cert.ContextIdeal.defs₀ (F := F) .tc 0 (t, s) := rfl
theorem body_twin1 (t : Fin Cert.Context.grid1.N) (s) :
    Cert.Context.defs₀ (F := F) .tc 1 (t, s) = Cert.ContextIdeal.defs₀ (F := F) .tc 1 (t, s) := rfl

set_option maxHeartbeats 2000000 in
theorem defs₀_twin : Cert.Context.defs₀ (F := F) = Cert.ContextIdeal.defs₀ (F := F) := by
  funext p ℓ a
  match p, ℓ, a with
  | .tc, 0, (t, s) => exact body_twin0 t s
  | .tc, 1, (t, s) => exact body_twin1 t s
  | .scScalar _, _, _ => rfl
  | .scVector _ _, _, _ => rfl

theorem defs_twin : Cert.Context.defs (F := F) = Cert.ContextIdeal.defs (F := F) :=
  congrArg (Pipeline.defs (Cert.ContextIdeal.pcfgs (F := F))) defs₀_twin

theorem θ_twin (s : MemSt Cert.ContextIdeal.nD Cert.ContextIdeal.τ Cert.ContextIdeal.sig (Elt F))
    (Q : PUnit × MemSt Cert.ContextIdeal.nD Cert.ContextIdeal.τ Cert.ContextIdeal.sig (Elt F) → Prop) :
    θ_run (Cert.Context.defs (F := F)) (onTc (τ := Cert.Context.τ) (Cert.Context.main (F := F))) s Q
      = θ_run (Cert.ContextIdeal.defs (F := F)) (onTc (τ := Cert.ContextIdeal.τ) (Cert.ContextIdeal.main (F := F))) s Q :=
  congrArg (fun d => θ_run d (onTc (τ := Cert.ContextIdeal.τ) (Cert.ContextIdeal.main (F := F))) s Q) defs_twin

end Cert.Ctx

end
-- ==== Proof.CSpec.lean ====
module

public import proofs.«01_k».proof.Proof.Gen.StatesIdeal
public import proofs.«01_k».proof.Proof.Gen.StatesIdeal.Run
public import Idealize.ShloMosaic.Lib.ValueIdx
public import Idealize.ShloMosaic.Lib.Pipeline.Value
public import Idealize.ShloMosaic.Lib.IdealHost
public import Idealize.ShloMosaic.Lib.StackMember
public import Idealize.ShloMosaic.Lib.Pointwise.Contract
public import Idealize.ShloMosaic.PureOps.Ideal.Laws

@[expose] public section

noncomputable section

namespace Cert.Ctx

open Cert.StatesIdeal Cert.StatesIdeal.Gen
open Idealize.ShloMosaic hiding ix1 ix2 ix3 ix4 ix5
open Idealize.ShloMosaic.TcCoe Idealize.ShloMosaic.ValueIdx Idealize.SL.Sem
open scoped BigOperators

/-! ## The layer's mathematics, by coordinates -/

section Math
variable (X : S32x256x2048.Idx → EReal) (Cc : S2048.Idx → EReal) (Wa : S1x2048x12288.Idx → EReal) (Ba : S1x12288.Idx → EReal)
variable (Nw : S1x2048.Idx → EReal) (Wi : S1x2048x3584.Idx → EReal)

/-- Entry `n` of the context's modulation: the gated conditioning vector through the modulation's matrix, plus its offset. -/
def modv (n : Fin 12288) : EReal :=
  (∑ d : Fin 2048, (Cc (ix1 d) * Ideal.logistic (Cc (ix1 d))) * Wa (ix3 (0 : Fin 1) d n)) + Ba (ix2 (0 : Fin 1) n)

/-- One over the root mean square of a token. -/
def rsv (b : Fin 32) (l : Fin 256) : EReal :=
  Ideal.rsqrt (Ideal.div (∑ d : Fin 2048, X (ix3 b l d) * X (ix3 b l d)) (Ideal.ofBits .f32 0x45000000#32) + Ideal.ofBits .f32 0x358637BD#32)

/-- The modulated token. -/
def hv (b : Fin 32) (l : Fin 256) (d : Fin 2048) : EReal :=
  X (ix3 b l d) * rsv X b l * Nw (ix2 (0 : Fin 1) d) * (1 + modv Cc Wa Ba ⟨2048 + d.val, by have := d.isLt; omega⟩)
    + modv Cc Wa Ba ⟨d.val, by have := d.isLt; omega⟩

/-- Its projection. -/
def zv (b : Fin 32) (l : Fin 256) (e : Fin 3584) : EReal :=
  ∑ d : Fin 2048, hv X Cc Wa Ba Nw b l d * Wi (ix3 (0 : Fin 1) d e)

end Math

/-! ## The reference's operations at an index -/

section Ref
variable (X : (⟨S32x256x2048, .f32⟩ : BufTy).Contents (Elt Ideal)) (Cc : (⟨S2048, .f32⟩ : BufTy).Contents (Elt Ideal))
variable (Wa : (⟨S1x2048x12288, .f32⟩ : BufTy).Contents (Elt Ideal)) (Ba : (⟨S1x12288, .f32⟩ : BufTy).Contents (Elt Ideal))
variable (Nw : (⟨S1x2048, .f32⟩ : BufTy).Contents (Elt Ideal)) (Wi : (⟨S1x2048x3584, .f32⟩ : BufTy).Contents (Elt Ideal))

def refC : (⟨S1x2048, .f32⟩ : BufTy).Contents (Elt Ideal) := broadcastInDim S1x2048 ![1] bcast_S2048_S1x2048_1 Cc

theorem refC_apply (d : Fin 2048) : refC Cc (ix2 (0 : Fin 1) d) = Cc (ix1 d) := by
  unfold refC
  exact broadcastInDim_apply _ bcast_S2048_S1x2048_1 Cc _ _ fun a => by match a with | 0 => rfl

def refSilu : (⟨S1x2048, .f32⟩ : BufTy).Contents (Elt Ideal) :=
  mulf (F := Ideal) (φ := .f32) (refC Cc) (Host.divf (F := Ideal) (φ := .f32)
    (broadcastInDim S1x2048 ![] bcast_S_S1x2048 (constant (F := Ideal) S_ .f32 0x3F800000#32))
    (addf (F := Ideal) (φ := .f32) (broadcastInDim S1x2048 ![] bcast_S_S1x2048 (constant (F := Ideal) S_ .f32 0x3F800000#32))
      (Host.exp (F := Ideal) (φ := .f32) (Host.negf (F := Ideal) (φ := .f32) (refC Cc)))))

theorem refSilu_apply (d : Fin 2048) :
    refSilu Cc (ix2 (0 : Fin 1) d) = (Cc (ix1 d) : EReal) * Ideal.logistic (Cc (ix1 d)) := by
  unfold refSilu
  show (refC Cc (ix2 (0 : Fin 1) d) : EReal)
    * Ideal.div (Ideal.ofBits .f32 0x3F800000#32) (Ideal.ofBits .f32 0x3F800000#32 + Ideal.exp (-(refC Cc (ix2 (0 : Fin 1) d)))) = _
  rw [refC_apply, Ideal.ofBits_one_f32]
  rfl

def refWa : (⟨S2048x12288, .f32⟩ : BufTy).Contents (Elt Ideal) := shapeCast _ Wa shapeCasts_S1x2048x12288_S2048x12288
theorem refWa_apply (d : Fin 2048) (n : Fin 12288) : refWa Wa (ix2 d n) = Wa (ix3 (0 : Fin 1) d n) := by
  unfold refWa
  refine shapeCast_apply Wa shapeCasts_S1x2048x12288_S2048x12288 _ _ ?_
  rw [Shape.rowMajor_val_three, Shape.rowMajor_val_two]
  show (0 * 2048 + d.val) * 12288 + n.val = d.val * 12288 + n.val
  omega

def refBa : (⟨S1x12288, .f32⟩ : BufTy).Contents (Elt Ideal) :=
  broadcastInDim S1x12288 ![1] bcast_S12288_S1x12288_1 (shapeCast S12288 Ba shapeCasts_S1x12288_S12288)
theorem refBa_apply (n : Fin 12288) : refBa Ba (ix2 (0 : Fin 1) n) = Ba (ix2 (0 : Fin 1) n) := by
  unfold refBa
  refine (broadcastInDim_apply _ bcast_S12288_S1x12288_1 _ _ (ix1 n) fun a => by match a with | 0 => rfl).trans ?_
  refine shapeCast_apply Ba shapeCasts_S1x12288_S12288 _ _ ?_
  rw [Shape.rowMajor_val_two, Shape.rowMajor_val_one]
  show 0 * 12288 + n.val = n.val
  omega

def refMod : (⟨S1x1x12288, .f32⟩ : BufTy).Contents (Elt Ideal) :=
  broadcastInDim S1x1x12288 ![0, 2] bcast_S1x12288_S1x1x12288_0_2 (addf (F := Ideal) (φ := .f32)
    (Host.dotGeneral (F := Ideal) (φ₁ := .f32) (φ₂ := .f32) dot_S1x2048_S2048x12288_S1x12288_1_0_0_1_n_n none (refSilu Cc) (refWa Wa))
    (refBa Ba))

theorem refMod_apply (n : Fin 12288) : refMod Cc Wa Ba (ix3 (0 : Fin 1) (0 : Fin 1) n) = modv Cc Wa Ba n := by
  unfold refMod modv
  refine (broadcastInDim_apply _ bcast_S1x12288_S1x1x12288_0_2 _ _ (ix2 (0 : Fin 1) n) fun a => by
    match a with | 0 => rfl | 1 => rfl).trans ?_
  refine congrArg₂ (fun a b : EReal => a + b) ((StackMember.dotGeneral_plain_apply (m := 1) (k := 2048) (n := 12288) (φ₁ := .f32) (φ₂ := .f32)
    none (refSilu Cc) (refWa Wa) (0 : Fin 1) n).trans ?_) (refBa_apply Ba n)
  exact Finset.sum_congr rfl fun d _ => by rw [refSilu_apply, refWa_apply]

def refShift : (⟨S1x1x2048, .f32⟩ : BufTy).Contents (Elt Ideal) :=
  extractStridedSlice S1x1x2048 ![0, 0, 0] (refMod Cc Wa Ba) slices_S1x1x12288_S1x1x2048_0_0_0
def refScale : (⟨S1x1x2048, .f32⟩ : BufTy).Contents (Elt Ideal) :=
  extractStridedSlice S1x1x2048 ![0, 0, 2048] (refMod Cc Wa Ba) slices_S1x1x12288_S1x1x2048_0_0_2048

theorem refShift_apply (d : Fin 2048) :
    refShift Cc Wa Ba (ix3 (0 : Fin 1) (0 : Fin 1) d) = modv Cc Wa Ba ⟨d.val, by have := d.isLt; omega⟩ := by
  unfold refShift
  refine (extractStridedSlice_apply _ _ slices_S1x1x12288_S1x1x2048_0_0_0 _
    (ix3 (0 : Fin 1) (0 : Fin 1) ⟨d.val, by have := d.isLt; omega⟩) fun a => ?_).trans (refMod_apply Cc Wa Ba _)
  match a with
  | 0 => rfl
  | 1 => rfl
  | 2 => show d.val = 0 + d.val; omega
theorem refScale_apply (d : Fin 2048) :
    refScale Cc Wa Ba (ix3 (0 : Fin 1) (0 : Fin 1) d) = modv Cc Wa Ba ⟨2048 + d.val, by have := d.isLt; omega⟩ := by
  unfold refScale
  refine (extractStridedSlice_apply _ _ slices_S1x1x12288_S1x1x2048_0_0_2048 _
    (ix3 (0 : Fin 1) (0 : Fin 1) ⟨2048 + d.val, by have := d.isLt; omega⟩) fun a => ?_).trans (refMod_apply Cc Wa Ba _)
  match a with
  | 0 => rfl
  | 1 => rfl
  | 2 => rfl

def refRs : (⟨S32x256x1, .f32⟩ : BufTy).Contents (Elt Ideal) :=
  Host.rsqrt (F := Ideal) (φ := .f32) (addf (F := Ideal) (φ := .f32) (Host.divf (F := Ideal) (φ := .f32)
    (broadcastInDim S32x256x1 ![0, 1] bcast_S32x256_S32x256x1_0_1
      (Host.reduceAdd (F := Ideal) (φ := .f32) (mulf (F := Ideal) (φ := .f32) X X) (constant (F := Ideal) S_ .f32 0x00000000#32)
        reducesTo_S32x256x2048_S32x256_d2 h_S_))
    (broadcastInDim S32x256x1 ![] bcast_S_S32x256x1 (constant (F := Ideal) S_ .f32 0x45000000#32)))
    (broadcastInDim S32x256x1 ![] bcast_S_S32x256x1 (constant (F := Ideal) S_ .f32 0x358637BD#32)))

theorem reduces_x : S32x256x2048.Reduces [2] S32x256 := by decide

theorem refSum_apply (b : Fin 32) (l : Fin 256) :
    Host.reduceAdd (F := Ideal) (φ := .f32) (mulf (F := Ideal) (φ := .f32) X X) (constant (F := Ideal) S_ .f32 0x00000000#32)
        reducesTo_S32x256x2048_S32x256_d2 h_S_ (ix2 b l) = ∑ d : Fin 2048, (X (ix3 b l d) : EReal) * X (ix3 b l d) := by
  rw [hostReduceAdd_apply, Ideal.hostReduceAdd_single _ reduces_x]
  show Ideal.ofBits .f32 0x00000000#32 + _ = _
  rw [Ideal.ofBits_zero_f32, zero_add]
  refine Finset.sum_congr rfl fun d _ => ?_
  have h : reduces_x.lift (ix2 b l) d = ix3 b l d := funext fun a => Fin.ext (by match a with | 0 => rfl | 1 => rfl | 2 => rfl)
  rw [h]
  rfl

theorem refRs_apply (b : Fin 32) (l : Fin 256) : refRs X (ix3 b l (0 : Fin 1)) = rsv X b l := by
  unfold refRs rsv
  refine congrArg (fun s : EReal => Ideal.rsqrt (Ideal.div s (Ideal.ofBits .f32 0x45000000#32) + Ideal.ofBits .f32 0x358637BD#32)) ?_
  exact (broadcastInDim_apply _ bcast_S32x256_S32x256x1_0_1 _ _ (ix2 b l) fun a => by
    match a with | 0 => rfl | 1 => rfl).trans (refSum_apply X b l)

def refNw : (⟨S1x1x2048, .f32⟩ : BufTy).Contents (Elt Ideal) :=
  broadcastInDim S1x1x2048 ![2] bcast_S2048_S1x1x2048_2 (shapeCast S2048 Nw shapeCasts_S1x2048_S2048)
theorem refNw_apply (d : Fin 2048) : refNw Nw (ix3 (0 : Fin 1) (0 : Fin 1) d) = Nw (ix2 (0 : Fin 1) d) := by
  unfold refNw
  refine (broadcastInDim_apply _ bcast_S2048_S1x1x2048_2 _ _ (ix1 d) fun a => by match a with | 0 => rfl).trans ?_
  refine shapeCast_apply Nw shapeCasts_S1x2048_S2048 _ _ ?_
  rw [Shape.rowMajor_val_two, Shape.rowMajor_val_one]
  show 0 * 2048 + d.val = d.val
  omega

/-- A row laid along every token. -/
def along (v : (⟨S1x1x2048, .f32⟩ : BufTy).Contents (Elt Ideal)) : (⟨S32x256x2048, .f32⟩ : BufTy).Contents (Elt Ideal) :=
  broadcastInDim S32x256x2048 ![0, 1, 2] bcast_S1x1x2048_S32x256x2048_0_1_2 v
theorem along_apply (v : (⟨S1x1x2048, .f32⟩ : BufTy).Contents (Elt Ideal)) (b : Fin 32) (l : Fin 256) (d : Fin 2048) :
    along v (ix3 b l d) = v (ix3 (0 : Fin 1) (0 : Fin 1) d) :=
  broadcastInDim_apply _ bcast_S1x1x2048_S32x256x2048_0_1_2 v _ _ fun a => by match a with | 0 => rfl | 1 => rfl | 2 => rfl

def refH : (⟨S32x256x2048, .f32⟩ : BufTy).Contents (Elt Ideal) :=
  addf (F := Ideal) (φ := .f32) (mulf (F := Ideal) (φ := .f32) (mulf (F := Ideal) (φ := .f32) (mulf (F := Ideal) (φ := .f32) X
      (broadcastInDim S32x256x2048 ![0, 1, 2] bcast_S32x256x1_S32x256x2048_0_1_2 (refRs X))) (along (refNw Nw)))
    (along (addf (F := Ideal) (φ := .f32) (broadcastInDim S1x1x2048 ![] bcast_S_S1x1x2048 (constant (F := Ideal) S_ .f32 0x3F800000#32))
      (refScale Cc Wa Ba)))) (along (refShift Cc Wa Ba))

theorem refH_apply (b : Fin 32) (l : Fin 256) (d : Fin 2048) : refH X Cc Wa Ba Nw (ix3 b l d) = hv X Cc Wa Ba Nw b l d := by
  unfold refH hv
  have hr : broadcastInDim S32x256x2048 ![0, 1, 2] bcast_S32x256x1_S32x256x2048_0_1_2 (refRs X) (ix3 b l d) = rsv X b l :=
    (broadcastInDim_apply _ bcast_S32x256x1_S32x256x2048_0_1_2 _ (ix3 b l d) (ix3 b l (0 : Fin 1)) fun a => by
      match a with | 0 => rfl | 1 => rfl | 2 => rfl).trans (refRs_apply X b l)
  have hn := (along_apply (refNw Nw) b l d).trans (refNw_apply Nw d)
  have hs := (along_apply (refShift Cc Wa Ba) b l d).trans (refShift_apply Cc Wa Ba d)
  have hc : along (addf (F := Ideal) (φ := .f32) (broadcastInDim S1x1x2048 ![] bcast_S_S1x1x2048 (constant (F := Ideal) S_ .f32 0x3F800000#32))
      (refScale Cc Wa Ba)) (ix3 b l d) = (1 : EReal) + modv Cc Wa Ba ⟨2048 + d.val, by have := d.isLt; omega⟩ := by
    rw [along_apply]
    show Ideal.ofBits .f32 0x3F800000#32 + (refScale Cc Wa Ba (ix3 (0 : Fin 1) (0 : Fin 1) d) : EReal) = _
    rw [Ideal.ofBits_one_f32, refScale_apply]
  rw [← hr, ← hn, ← hs, ← hc]
  rfl

def refWi : (⟨S2048x3584, .f32⟩ : BufTy).Contents (Elt Ideal) := shapeCast _ Wi shapeCasts_S1x2048x3584_S2048x3584
theorem refWi_apply (d : Fin 2048) (e : Fin 3584) : refWi Wi (ix2 d e) = Wi (ix3 (0 : Fin 1) d e) := by
  unfold refWi
  refine shapeCast_apply Wi shapeCasts_S1x2048x3584_S2048x3584 _ _ ?_
  rw [Shape.rowMajor_val_three, Shape.rowMajor_val_two]
  show (0 * 2048 + d.val) * 3584 + e.val = d.val * 3584 + e.val
  omega

def refZ : (⟨S32x256x3584, .f32⟩ : BufTy).Contents (Elt Ideal) :=
  Host.dotGeneral (F := Ideal) (φ₁ := .f32) (φ₂ := .f32) dot_S32x256x2048_S2048x3584_S32x256x3584_2_0_01_1_n_n none
    (refH X Cc Wa Ba Nw) (refWi Wi)

theorem proj_apply (A : (⟨S32x256x2048, .f32⟩ : BufTy).Contents (Elt Ideal)) (B : (⟨S2048x3584, .f32⟩ : BufTy).Contents (Elt Ideal))
    (b : Fin 32) (l : Fin 256) (e : Fin 3584) :
    Host.dotGeneral (F := Ideal) (φ₁ := .f32) (φ₂ := .f32) dot_S32x256x2048_S2048x3584_S32x256x3584_2_0_01_1_n_n none A B (ix3 b l e)
      = ∑ d : Fin 2048, (A (ix3 b l d) : EReal) * B (ix2 d e) := by
  refine (Ideal.matmul_apply₁_of dot_S32x256x2048_S2048x3584_S32x256x3584_2_0_01_1_n_n (a := 2) rfl (K := 2048) rfl A B (fun _ => 0)
    (ix3 b l e) (fun d => ix3 b l d) (fun d => ix2 d e) (fun d => ?_) (fun d => ?_)).trans (zero_add _)
  · funext a
    match a with
    | 0 => rfl
    | 1 => rfl
    | 2 => rfl
  · funext a
    match a with
    | 0 => rfl
    | 1 => rfl

theorem refZ_apply (b : Fin 32) (l : Fin 256) (e : Fin 3584) : refZ X Cc Wa Ba Nw Wi (ix3 b l e) = zv X Cc Wa Ba Nw Wi b l e := by
  unfold refZ zv
  rw [proj_apply]
  exact Finset.sum_congr rfl fun d _ => by rw [refH_apply, refWi_apply]

/-! ### The five results -/

def refQ : (⟨S8192x1024, .bf16⟩ : BufTy).Contents (Elt Ideal) :=
  truncf (F := Ideal) (φ := .f32) .bf16 (shapeCast S8192x1024 (extractStridedSlice S32x256x1024 ![0, 0, 0] (refZ X Cc Wa Ba Nw Wi)
    slices_S32x256x3584_S32x256x1024_0_0_0) shapeCasts_S32x256x1024_S8192x1024) bitsLt_bf16_f32
def refK : (⟨S32x1x256x2x128, .f32⟩ : BufTy).Contents (Elt Ideal) :=
  broadcastInDim S32x1x256x2x128 ![0, 2, 3, 4] bcast_S32x256x2x128_S32x1x256x2x128_0_2_3_4 (shapeCast S32x256x2x128
    (extractStridedSlice S32x256x256 ![0, 0, 1024] (refZ X Cc Wa Ba Nw Wi) slices_S32x256x3584_S32x256x256_0_0_1024)
    shapeCasts_S32x256x256_S32x256x2x128)
def refV : (⟨S32x1x256x2x128, .f32⟩ : BufTy).Contents (Elt Ideal) :=
  broadcastInDim S32x1x256x2x128 ![0, 2, 3, 4] bcast_S32x256x2x128_S32x1x256x2x128_0_2_3_4 (shapeCast S32x256x2x128
    (extractStridedSlice S32x256x256 ![0, 0, 1280] (refZ X Cc Wa Ba Nw Wi) slices_S32x256x3584_S32x256x256_0_0_1280)
    shapeCasts_S32x256x256_S32x256x2x128)
def refU : (⟨S8192x1024, .f32⟩ : BufTy).Contents (Elt Ideal) :=
  shapeCast S8192x1024 (extractStridedSlice S32x256x1024 ![0, 0, 1536] (refZ X Cc Wa Ba Nw Wi)
    slices_S32x256x3584_S32x256x1024_0_0_1536) shapeCasts_S32x256x1024_S8192x1024
def refG : (⟨S8192x1024, .f32⟩ : BufTy).Contents (Elt Ideal) :=
  shapeCast S8192x1024 (extractStridedSlice S32x256x1024 ![0, 0, 2560] (refZ X Cc Wa Ba Nw Wi)
    slices_S32x256x3584_S32x256x1024_0_0_2560) shapeCasts_S32x256x1024_S8192x1024

/-- Column `off + f` of the projection, its tokens in one row: what a wide result reads. -/
theorem wide_apply (off : Fin 3 → Nat) (o : Nat) (h0 : off 0 = 0) (h1 : off 1 = 0) (h2 : off 2 = o) (ho : o + 1024 ≤ 3584)
    (hs : S32x256x3584.Slices off S32x256x1024) (b : Fin 32) (l : Fin 256) (f : Fin 1024) :
    shapeCast S8192x1024 (extractStridedSlice S32x256x1024 off (refZ X Cc Wa Ba Nw Wi) hs) shapeCasts_S32x256x1024_S8192x1024
      (ix2 ⟨b.val * 256 + l.val, by have := b.isLt; have := l.isLt; omega⟩ f)
      = zv X Cc Wa Ba Nw Wi b l ⟨o + f.val, by have := f.isLt; omega⟩ := by
  refine (shapeCast_apply _ shapeCasts_S32x256x1024_S8192x1024 _ (ix3 b l f) ?_).trans ?_
  · rw [Shape.rowMajor_val_three, Shape.rowMajor_val_two]
    rfl
  refine (extractStridedSlice_apply off _ hs (ix3 b l f) (ix3 b l ⟨o + f.val, by have := f.isLt; omega⟩) fun a => ?_).trans
    (refZ_apply X Cc Wa Ba Nw Wi _ _ _)
  match a with
  | 0 => show b.val = off 0 + b.val; omega
  | 1 => show l.val = off 1 + l.val; omega
  | 2 => show o + f.val = off 2 + f.val; omega

/-- The same for a result split in two heads of 128. -/
theorem heads_apply (off : Fin 3 → Nat) (o : Nat) (h0 : off 0 = 0) (h1 : off 1 = 0) (h2 : off 2 = o) (ho : o + 256 ≤ 3584)
    (hs : S32x256x3584.Slices off S32x256x256) (b : Fin 32) (l : Fin 256) (f : Fin 256) (y : S32x256x2x128.Idx)
    (hy : (S32x256x256.rowMajor (ix3 b l f)).val = (S32x256x2x128.rowMajor y).val) :
    shapeCast S32x256x2x128 (extractStridedSlice S32x256x256 off (refZ X Cc Wa Ba Nw Wi) hs) shapeCasts_S32x256x256_S32x256x2x128 y
      = zv X Cc Wa Ba Nw Wi b l ⟨o + f.val, by have := f.isLt; omega⟩ := by
  refine (shapeCast_apply _ shapeCasts_S32x256x256_S32x256x2x128 _ (ix3 b l f) hy).trans ?_
  refine (extractStridedSlice_apply off _ hs (ix3 b l f) (ix3 b l ⟨o + f.val, by have := f.isLt; omega⟩) fun a => ?_).trans
    (refZ_apply X Cc Wa Ba Nw Wi _ _ _)
  match a with
  | 0 => show b.val = off 0 + b.val; omega
  | 1 => show l.val = off 1 + l.val; omega
  | 2 => show o + f.val = off 2 + f.val; omega

/-! ### The results as functions of the projection -/

/-- Columns `o` to `o + 1024` of the projection, a token a row. -/
def wide (o : Nat) (ho : o + 1024 ≤ 3584) : S8192x1024.Idx → EReal := fun y =>
  zv X Cc Wa Ba Nw Wi ⟨(y 0).val / 256, by have : (y 0).val < 8192 := (y 0).isLt; omega⟩ ⟨(y 0).val % 256, Nat.mod_lt _ (by decide)⟩
    ⟨o + (y 1).val, by have : (y 1).val < 1024 := (y 1).isLt; omega⟩

theorem wide_eq (off : Fin 3 → Nat) (o : Nat) (h0 : off 0 = 0) (h1 : off 1 = 0) (h2 : off 2 = o) (ho : o + 1024 ≤ 3584)
    (hs : S32x256x3584.Slices off S32x256x1024) :
    shapeCast S8192x1024 (extractStridedSlice S32x256x1024 off (refZ X Cc Wa Ba Nw Wi) hs) shapeCasts_S32x256x1024_S8192x1024
      = wide X Cc Wa Ba Nw Wi o ho := by
  funext y
  have hy0 : (y 0).val < 8192 := (y 0).isLt
  have hy1 : (y 1).val < 1024 := (y 1).isLt
  have h := wide_apply X Cc Wa Ba Nw Wi off o h0 h1 h2 ho hs ⟨(y 0).val / 256, by omega⟩ ⟨(y 0).val % 256, Nat.mod_lt _ (by decide)⟩ ⟨(y 1).val, hy1⟩
  refine Eq.trans (congrArg _ (funext fun a => Fin.ext ?_)) h
  match a with
  | 0 => show (y 0).val = (y 0).val / 256 * 256 + (y 0).val % 256; omega
  | 1 => rfl

/-- The heads' columns `o` to `o + 256`. -/
def heads (o : Nat) (ho : o + 256 ≤ 3584) : S32x1x256x2x128.Idx → EReal := fun y =>
  zv X Cc Wa Ba Nw Wi (y 0) (y 2) ⟨o + ((y 3).val * 128 + (y 4).val), by
    have : (y 3).val < 2 := (y 3).isLt
    have : (y 4).val < 128 := (y 4).isLt
    omega⟩

theorem heads_eq (off : Fin 3 → Nat) (o : Nat) (h0 : off 0 = 0) (h1 : off 1 = 0) (h2 : off 2 = o) (ho : o + 256 ≤ 3584)
    (hs : S32x256x3584.Slices off S32x256x256) :
    broadcastInDim S32x1x256x2x128 ![0, 2, 3, 4] bcast_S32x256x2x128_S32x1x256x2x128_0_2_3_4 (shapeCast S32x256x2x128
      (extractStridedSlice S32x256x256 off (refZ X Cc Wa Ba Nw Wi) hs) shapeCasts_S32x256x256_S32x256x2x128)
      = heads X Cc Wa Ba Nw Wi o ho := by
  funext y
  have hy3 : (y 3).val < 2 := (y 3).isLt
  have hy4 : (y 4).val < 128 := (y 4).isLt
  refine (broadcastInDim_apply _ bcast_S32x256x2x128_S32x1x256x2x128_0_2_3_4 _ y (ix4 (y 0) (y 2) (y 3) (y 4)) fun a => by
    match a with | 0 => rfl | 1 => rfl | 2 => rfl | 3 => rfl).trans ?_
  refine heads_apply X Cc Wa Ba Nw Wi off o h0 h1 h2 ho hs (y 0) (y 2) ⟨(y 3).val * 128 + (y 4).val, by omega⟩ _ ?_
  rw [Shape.rowMajor_val_three, Shape.rowMajor_val_four]
  show ((y 0).val * 256 + (y 2).val) * 256 + ((y 3).val * 128 + (y 4).val) = (((y 0).val * 256 + (y 2).val) * 2 + (y 3).val) * 128 + (y 4).val
  omega

theorem refQ_eq : refQ X Cc Wa Ba Nw Wi = wide X Cc Wa Ba Nw Wi 0 (by decide) :=
  wide_eq X Cc Wa Ba Nw Wi ![0, 0, 0] 0 rfl rfl rfl (by decide) slices_S32x256x3584_S32x256x1024_0_0_0
theorem refU_eq : refU X Cc Wa Ba Nw Wi = wide X Cc Wa Ba Nw Wi 1536 (by decide) :=
  wide_eq X Cc Wa Ba Nw Wi ![0, 0, 1536] 1536 rfl rfl rfl (by decide) slices_S32x256x3584_S32x256x1024_0_0_1536
theorem refG_eq : refG X Cc Wa Ba Nw Wi = wide X Cc Wa Ba Nw Wi 2560 (by decide) :=
  wide_eq X Cc Wa Ba Nw Wi ![0, 0, 2560] 2560 rfl rfl rfl (by decide) slices_S32x256x3584_S32x256x1024_0_0_2560
theorem refK_eq : refK X Cc Wa Ba Nw Wi = heads X Cc Wa Ba Nw Wi 1024 (by decide) :=
  heads_eq X Cc Wa Ba Nw Wi ![0, 0, 1024] 1024 rfl rfl rfl (by decide) slices_S32x256x3584_S32x256x256_0_0_1024
theorem refV_eq : refV X Cc Wa Ba Nw Wi = heads X Cc Wa Ba Nw Wi 1280 (by decide) :=
  heads_eq X Cc Wa Ba Nw Wi ![0, 0, 1280] 1280 rfl rfl rfl (by decide) slices_S32x256x3584_S32x256x256_0_0_1280

end Ref

/-- The reference over the extended reals: its five results are these functions of its arguments. -/
theorem states_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      (r.2.mem ((c.tc : Thread nD τ).loc main_v42) = refQ (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v44) = refK (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v46) = refV (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v47) = refU (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v48) = refG (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run (defs (F := Ideal)) _ _).mono (fun _ h c => ?_) (Cert.StatesIdeal.Value.run m g)
  obtain ⟨hq, hk, hv, hu, hg, ha⟩ := h c
  refine ⟨⟨hq.trans ?_, hk.trans ?_, hv.trans ?_, hu.trans ?_, hg.trans ?_⟩, ha⟩
  · unfold refQ refZ refH along refRs refNw refShift refScale refMod refSilu refC refWa refBa refWi; rfl
  · unfold refK refZ refH along refRs refNw refShift refScale refMod refSilu refC refWa refBa refWi; rfl
  · unfold refV refZ refH along refRs refNw refShift refScale refMod refSilu refC refWa refBa refWi; rfl
  · unfold refU refZ refH along refRs refNw refShift refScale refMod refSilu refC refWa refBa refWi; rfl
  · unfold refG refZ refH along refRs refNw refShift refScale refMod refSilu refC refWa refBa refWi; rfl

end Cert.Ctx

end
-- ==== Proof.CPay.lean ====
module

public import proofs.«01_k».proof.Proof.CRun
public import proofs.«01_k».proof.Proof.CSpec
public import Idealize.ShloMosaic.Lib.MatmulPlain
public import Idealize.ShloMosaic.Lib.Pointwise.Sums

@[expose] public section

noncomputable section

namespace Cert.Ctx

open Cert.ContextIdeal Cert.ContextIdeal.Gen
open Idealize.ShloMosaic hiding ix1 ix2 ix3 ix4 ix5
open Idealize.ShloMosaic.TcCoe Idealize.ShloMosaic.ValueIdx
open scoped BigOperators

/-! ## The two kernels' stored values at an index, over the extended reals -/

theorem mod_mat (x : FVec Ideal S8x2048 .bf16) (w : FVec Ideal S2048x1024 .bf16) (r : Fin 8) (f : Fin 1024) :
    matmul dot_S8x2048_S2048x1024_S8x1024_1_0_0_1_n_n none x w (constant (F := Ideal) S8x1024 .f32 0x00000000#32) (ix2 r f)
      = ∑ k : Fin 2048, (x (ix2 r k) : EReal) * (w (ix2 k f) : EReal) := by
  refine (Ideal.matmul_plain_apply (M := 8) (K := 2048) (N := 1024) none x w _ r f).trans ?_
  show Ideal.ofBits .f32 0x00000000#32 + _ = _
  rw [Ideal.ofBits_zero_f32, zero_add]

theorem in_mat (x : FVec Ideal S256x2048 .bf16) (w : FVec Ideal S2048x3584 .bf16) (r : Fin 256) (f : Fin 3584) :
    matmul dot_S256x2048_S2048x3584_S256x3584_1_0_0_1_n_n none x w (constant (F := Ideal) S256x3584 .f32 0x00000000#32) (ix2 r f)
      = ∑ k : Fin 2048, (x (ix2 r k) : EReal) * (w (ix2 k f) : EReal) := by
  refine (Ideal.matmul_plain_apply (M := 256) (K := 2048) (N := 3584) none x w _ r f).trans ?_
  show Ideal.ofBits .f32 0x00000000#32 + _ = _
  rw [Ideal.ofBits_zero_f32, zero_add]

/-- A stretch of the modulation: the gated rows through the matrix's columns, plus the offset. -/
theorem mod_apply (x : Vec Ideal S8x2048 .f32) (w : Vec Ideal S2048x1024 .f32) (b : Vec Ideal S1x1024 .f32) (r : Fin 8) (f : Fin 1024) :
    k0_pay1 (F := Ideal) x w b (ix2 r f)
      = (∑ d : Fin 2048, ((x (ix2 r d) : EReal) * Ideal.logistic (x (ix2 r d))) * (w (ix2 d f) : EReal)) + (b (ix2 (0 : Fin 1) f) : EReal) := by
  unfold k0_pay1
  simp only [shapeCast_self]
  refine congrArg₂ (fun a b : EReal => a + b) ((mod_mat _ _ r f).trans ?_)
    (broadcastTo_apply b broadcasts_S1x1024_S8x1024 _ _ fun a => by match a with | 0 => rfl | 1 => rfl)
  rfl

/-- One over the root mean square of a block's row. -/
def rsRow (x : Vec Ideal S256x2048 .f32) (r : Fin 256) : EReal :=
  Ideal.rsqrt (Ideal.div (∑ d : Fin 2048, (x (ix2 r d) : EReal) * (x (ix2 r d) : EReal)) (Ideal.ofBits .f32 0x45000000#32)
    + Ideal.ofBits .f32 0x358637BD#32)

def rsVec (x : Vec Ideal S256x2048 .f32) : FVec Ideal S256x1 .f32 :=
  rsqrt (addf (F := Ideal) (φ := .f32) (divf (shapeCast S256x1 (multiReduction (F := Ideal) (φ := .f32) .add [1] S256 (mulf (F := Ideal) (φ := .f32) x x) 0x00000000#32
    reduces_S256x2048_S256 (.inl rfl) rfl) shapeCasts_S256_S256x1) (broadcast S256x1 (Scalar.ofBits .f32 0x45000000#32)))
    (broadcast S256x1 (Scalar.ofBits .f32 0x358637BD#32)))

theorem rsRow_apply (x : Vec Ideal S256x2048 .f32) (r : Fin 256) : rsVec x (ix2 r (0 : Fin 1)) = rsRow x r := by
  unfold rsRow rsVec
  refine congrArg (fun s : EReal => Ideal.rsqrt (Ideal.div s (Ideal.ofBits .f32 0x45000000#32) + Ideal.ofBits .f32 0x358637BD#32)) ?_
  refine (shapeCast_apply _ shapeCasts_S256_S256x1 _ (ix1 r) (by
    rw [Shape.rowMajor_val_one, Shape.rowMajor_val_two]
    show r.val = r.val * 1 + 0
    omega)).trans ?_
  refine (Ideal.multiReduction_add_single (φ := .f32) _ _ reduces_S256x2048_S256 (.inl rfl) rfl (ix1 r)).trans ?_
  refine Finset.sum_congr rfl fun d _ => ?_
  have hl : reduces_S256x2048_S256.lift (ix1 r) d = ix2 r d := funext fun a => Fin.ext (match a with | 0 => rfl | 1 => rfl)
  rw [hl]
  rfl

theorem lay_row (v : Vec Ideal S1x2048 .f32) (r : Fin 256) (d : Fin 2048) :
    broadcastTo S256x2048 v broadcasts_S1x2048_S256x2048 (ix2 r d) = v (ix2 (0 : Fin 1) d) :=
  broadcastTo_apply v broadcasts_S1x2048_S256x2048 _ _ fun a => by match a with | 0 => rfl | 1 => rfl
theorem lay_col (v : FVec Ideal S256x1 .f32) (r : Fin 256) (d : Fin 2048) :
    broadcastTo S256x2048 v broadcasts_S256x1_S256x2048 (ix2 r d) = v (ix2 r (0 : Fin 1)) :=
  broadcastTo_apply v broadcasts_S256x1_S256x2048 _ _ fun a => by match a with | 0 => rfl | 1 => rfl

/-- The block's projection. -/
theorem in_apply (sh sc : Vec Ideal S1x2048 .f32) (x : Vec Ideal S256x2048 .f32) (nw : Vec Ideal S1x2048 .f32)
    (w : Vec Ideal S2048x3584 .bf16) (r : Fin 256) (e : Fin 3584) :
    k1_pay3 (F := Ideal) sh sc x nw w (ix2 r e)
      = ∑ d : Fin 2048, ((x (ix2 r d) : EReal) * rsRow x r * (nw (ix2 (0 : Fin 1) d) : EReal) * (1 + (sc (ix2 (0 : Fin 1) d) : EReal))
          + (sh (ix2 (0 : Fin 1) d) : EReal)) * (w (ix2 d e) : EReal) := by
  unfold k1_pay3
  simp only [shapeCast_self]
  refine (in_mat _ _ r e).trans (Finset.sum_congr rfl fun d _ => ?_)
  rw [← rsRow_apply x r, ← lay_col (rsVec x) r d, ← lay_row nw r d, ← lay_row sh r d]
  have h1 : (1 + (sc (ix2 (0 : Fin 1) d) : EReal)) = broadcastTo S256x2048 (addf (F := Ideal) (φ := .f32)
      (broadcast S1x2048 (Scalar.ofBits .f32 0x3F800000#32)) sc) broadcasts_S1x2048_S256x2048 (ix2 r d) := by
    refine Eq.symm ((lay_row _ r d).trans ?_)
    show Ideal.ofBits .f32 0x3F800000#32 + _ = _
    rw [Ideal.ofBits_one_f32]
  rw [h1]
  unfold rsVec
  rfl

end Cert.Ctx

end
-- ==== Proof.CKernel.lean ====
module

public import proofs.«01_k».proof.Proof.CPay
public import Idealize.ShloMosaic.Lib.Pipeline.ValueKit.Geometry
public import Idealize.ShloMosaic.Lib.Pipeline.ValueKit.Basic
public import Idealize.ShloMosaic.Lib.StableHlo.Run

@[expose] public section

noncomputable section

namespace Cert.Ctx

open Cert.ContextIdeal Cert.ContextIdeal.Gen
open Idealize.ShloMosaic hiding ix1 ix2 ix3 ix4 ix5
open Idealize.ShloMosaic.TcCoe Idealize.ShloMosaic.ValueIdx
open Idealize.ShloMosaic.Pipeline (Dat)
open scoped BigOperators

section Regions
variable (V : (c : Dev nD) → (b : Ref sig .tc) → Buf (Elt Ideal) ((c : Thread nD τ).loc b))

/-! ## The first call: the modulation -/

def bC (c : Dev nD) : S8x2048.Idx → EReal := V c main_v2
def bWa (c : Dev nD) : S2048x12288.Idx → EReal := V c main_v3
def bBa (c : Dev nD) : S1x12288.Idx → EReal := V c main_v5

theorem ix00 : ∀ t : Fin cfg0.N, (cfg0.win 0).index t = ![0, 0] := by decide +kernel
theorem ix01 : ∀ t : Fin cfg0.N, (cfg0.win 1).index t = ![0, t.val] := by decide +kernel
theorem ix02 : ∀ t : Fin cfg0.N, (cfg0.win 2).index t = ![0, t.val] := by decide +kernel
theorem ix03 : ∀ t : Fin cfg0.N, (cfg0.win 3).index t = ![0, t.val] := by decide +kernel

theorem blk00 (c : Dev nD) (t : Fin cfg0.N) (r : Fin 8) (d : Fin 2048) : iblk0 V c 0 t (ix2 r d) = bC V c (ix2 r d) := by
  show bC V c (((cfg0.win 0).rect t).emb (ix2 r d)) = _
  refine congrArg (bC V c) (funext fun a => Fin.ext ?_)
  refine (Pipeline.Window.rect_emb_val (cfg0.win 0) t _ a (hk := rfl)).trans ?_
  rw [ix00]
  match a with
  | 0 => show 0 * 8 + r.val = r.val; omega
  | 1 => show 0 * 2048 + d.val = d.val; omega
theorem blk01 (c : Dev nD) (t : Fin cfg0.N) (d : Fin 2048) (f : Fin 1024) :
    iblk0 V c 1 t (ix2 d f) = bWa V c (ix2 d ⟨t.val * 1024 + f.val, by have : t.val < 12 := t.isLt; have := f.isLt; omega⟩) := by
  show bWa V c (((cfg0.win 1).rect t).emb (ix2 d f)) = _
  refine congrArg (bWa V c) (funext fun a => Fin.ext ?_)
  refine (Pipeline.Window.rect_emb_val (cfg0.win 1) t _ a (hk := rfl)).trans ?_
  rw [ix01]
  match a with
  | 0 => show 0 * 2048 + d.val = d.val; omega
  | 1 => rfl
theorem blk02 (c : Dev nD) (t : Fin cfg0.N) (f : Fin 1024) :
    iblk0 V c 2 t (ix2 (0 : Fin 1) f) = bBa V c (ix2 (0 : Fin 1) ⟨t.val * 1024 + f.val, by have : t.val < 12 := t.isLt; have := f.isLt; omega⟩) := by
  show bBa V c (((cfg0.win 2).rect t).emb (ix2 (0 : Fin 1) f)) = _
  refine congrArg (bBa V c) (funext fun a => Fin.ext ?_)
  refine (Pipeline.Window.rect_emb_val (cfg0.win 2) t _ a (hk := rfl)).trans ?_
  rw [ix02]
  match a with
  | 0 => rfl
  | 1 => rfl

/-- A row of the modulation. -/
def modRow (A : S8x2048.Idx → EReal) (W : S2048x12288.Idx → EReal) (B : S1x12288.Idx → EReal) (r : Fin 8) (n : Fin 12288) : EReal :=
  (∑ d : Fin 2048, (A (ix2 r d) * Ideal.logistic (A (ix2 r d))) * W (ix2 d n)) + B (ix2 (0 : Fin 1) n)

def modAll (A : S8x2048.Idx → EReal) (W : S2048x12288.Idx → EReal) (B : S1x12288.Idx → EReal) : S8x12288.Idx → EReal :=
  fun y => modRow A W B (y 0) (y 1)

theorem out0_apply (x0 : Vec Ideal S8x2048 .f32) (x1 : Vec Ideal S2048x1024 .f32) (x2 : Vec Ideal S1x1024 .f32) :
    out0_3 (F := Ideal) x0 x1 x2 = k0_pay1 (F := Ideal) x0 x1 x2 := by
  unfold out0_3
  refine (View.canon_unit_zero (by funext a; match a with | 0 => rfl | 1 => rfl) _ _).trans ?_
  refine congr (congr (congrArg (k0_pay1 (F := Ideal)) ?_) ?_) ?_
  · exact View.ld_unit_zero (by funext a; match a with | 0 => rfl | 1 => rfl) _ _
  · exact View.ld_unit_zero (by funext a; match a with | 0 => rfl | 1 => rfl) _ _
  · exact View.ld_unit_zero (by funext a; match a with | 0 => rfl | 1 => rfl) _ _

theorem after0_apply (c : Dev nD) (t : Fin cfg0.N) (r : Fin 8) (f : Fin 1024) :
    out0_3 (F := Ideal) (iblk0 V c 0 t) (iblk0 V c 1 t) (iblk0 V c 2 t) (ix2 r f)
      = modRow (bC V c) (bWa V c) (bBa V c) r ⟨t.val * 1024 + f.val, by have : t.val < 12 := t.isLt; have := f.isLt; omega⟩ := by
  rw [out0_apply]
  refine (mod_apply (iblk0 V c 0 t) (iblk0 V c 1 t) (iblk0 V c 2 t) r f).trans ?_
  unfold modRow
  refine congrArg₂ (fun a b : EReal => a + b) (Finset.sum_congr rfl fun d _ => ?_) (blk02 V c t f)
  exact congrArg₂ (fun a b : EReal => (a * Ideal.logistic a) * b) (blk00 V c t r d) (blk01 V c t d f)

/-- What point `t` of the first call leaves. -/
def o3 (c : Dev nD) (t : Fin cfg0.N) : S8x1024.Idx → EReal := out0_3 (F := Ideal) (iblk0 V c 0 t) (iblk0 V c 1 t) (iblk0 V c 2 t)
theorem o3_eq (c : Dev nD) (t : Fin cfg0.N) : (dat0 V c).after 3 t = o3 V c t := after0_3 V c t
theorem o3_apply (c : Dev nD) (t : Fin cfg0.N) (y : S8x1024.Idx) :
    o3 V c t y = modAll (bC V c) (bWa V c) (bBa V c) (((cfg0.win 3).rect t).emb y) := by
  have htN : t.val < 12 := t.isLt
  have hy0 : (y 0).val < 8 := (y 0).isLt
  have hy1 : (y 1).val < 1024 := (y 1).isLt
  have hy : y = ix2 (⟨(y 0).val, hy0⟩ : Fin 8) (⟨(y 1).val, hy1⟩ : Fin 1024) := ValueIdx.eq_ix2 y
  have hO := after0_apply V c t ⟨(y 0).val, hy0⟩ ⟨(y 1).val, hy1⟩
  have hL := (congrArg (o3 V c t) hy).trans hO
  refine hL.trans (congrArg (modAll (bC V c) (bWa V c) (bBa V c))
    (a₁ := ix2 (⟨(y 0).val, hy0⟩ : Fin 8) ⟨t.val * 1024 + (y 1).val, by omega⟩) (funext fun a => Fin.ext ?_))
  show _ = (((cfg0.win 3).rect t).emb y a).val
  refine Eq.symm ?_
  refine (Pipeline.Window.rect_emb_val (cfg0.win 3) t _ a (hk := rfl)).trans ?_
  rw [ix03]
  match a with
  | 0 => show 0 * 8 + (y 0).val = (y 0).val; omega
  | 1 => rfl
theorem arr0 (c : Dev nD) : (dat0 V c).arrAt 3 cfg0.N = modAll (bC V c) (bWa V c) (bBa V c) :=
  (dat0 V c).arrAt_eq_of_covers 3 _ (by decide +kernel) fun t hf y => (congrFun (o3_eq V c t) _).trans (o3_apply V c t y)

/-! ## The second call: the projection -/

def bX (c : Dev nD) : S8192x2048.Idx → EReal := V c main_v9
def bM (c : Dev nD) : S8x12288.Idx → EReal := V c main_v6
def bN (c : Dev nD) : S1x2048.Idx → EReal := V c main_v11
def bWi (c : Dev nD) : S2048x3584.Idx → EReal := V c main_v8

theorem ix10 : ∀ t : Fin cfg1.N, (cfg1.win 0).index t = ![t.val, 0] := by decide +kernel
theorem ix11 : ∀ t : Fin cfg1.N, (cfg1.win 1).index t = ![0, 0] := by decide +kernel
theorem ix12 : ∀ t : Fin cfg1.N, (cfg1.win 2).index t = ![0, 0] := by decide +kernel
theorem ix13 : ∀ t : Fin cfg1.N, (cfg1.win 3).index t = ![0, 0] := by decide +kernel
theorem ix14 : ∀ t : Fin cfg1.N, (cfg1.win 4).index t = ![t.val, 0] := by decide +kernel
theorem ix15 : ∀ t : Fin cfg1.N, (cfg1.win 5).index t = ![t.val, 0] := by decide +kernel
theorem ix16 : ∀ t : Fin cfg1.N, (cfg1.win 6).index t = ![t.val, 0] := by decide +kernel
theorem ix17 : ∀ t : Fin cfg1.N, (cfg1.win 7).index t = ![t.val, 0] := by decide +kernel
theorem ix18 : ∀ t : Fin cfg1.N, (cfg1.win 8).index t = ![t.val, 0] := by decide +kernel

theorem blk10 (c : Dev nD) (t : Fin cfg1.N) (r : Fin 256) (d : Fin 2048) :
    iblk1 V c 0 t (ix2 r d) = bX V c (ix2 ⟨t.val * 256 + r.val, by have : t.val < 32 := t.isLt; have := r.isLt; omega⟩ d) := by
  show bX V c (((cfg1.win 0).rect t).emb (ix2 r d)) = _
  refine congrArg (bX V c) (funext fun a => Fin.ext ?_)
  refine (Pipeline.Window.rect_emb_val (cfg1.win 0) t _ a (hk := rfl)).trans ?_
  rw [ix10]
  match a with
  | 0 => rfl
  | 1 => show 0 * 2048 + d.val = d.val; omega
theorem blk11 (c : Dev nD) (t : Fin cfg1.N) : iblk1 V c 1 t = bM V c := by
  funext y
  show bM V c (((cfg1.win 1).rect t).emb y) = _
  refine congrArg (bM V c) (funext fun a => Fin.ext ?_)
  refine (Pipeline.Window.rect_emb_val (cfg1.win 1) t _ a (hk := rfl)).trans ?_
  rw [ix11]
  match a with
  | 0 => show 0 * 8 + (y 0).val = (y 0).val; omega
  | 1 => show 0 * 12288 + (y 1).val = (y 1).val; omega
theorem blk12 (c : Dev nD) (t : Fin cfg1.N) : iblk1 V c 2 t = bN V c := by
  funext y
  show bN V c (((cfg1.win 2).rect t).emb y) = _
  refine congrArg (bN V c) (funext fun a => Fin.ext ?_)
  refine (Pipeline.Window.rect_emb_val (cfg1.win 2) t _ a (hk := rfl)).trans ?_
  rw [ix12]
  match a with
  | 0 => show 0 * 1 + (y 0).val = (y 0).val; omega
  | 1 => show 0 * 2048 + (y 1).val = (y 1).val; omega
theorem blk13 (c : Dev nD) (t : Fin cfg1.N) : iblk1 V c 3 t = bWi V c := by
  funext y
  show bWi V c (((cfg1.win 3).rect t).emb y) = _
  refine congrArg (bWi V c) (funext fun a => Fin.ext ?_)
  refine (Pipeline.Window.rect_emb_val (cfg1.win 3) t _ a (hk := rfl)).trans ?_
  rw [ix13]
  match a with
  | 0 => show 0 * 2048 + (y 0).val = (y 0).val; omega
  | 1 => show 0 * 3584 + (y 1).val = (y 1).val; omega

/-- The projection of row `r` of the tokens `A`, under modulation `M`. -/
def projRow (A : S8192x2048.Idx → EReal) (M : S8x12288.Idx → EReal) (N : S1x2048.Idx → EReal) (W : S2048x3584.Idx → EReal)
    (r : Fin 8192) (e : Fin 3584) : EReal :=
  ∑ d : Fin 2048, (A (ix2 r d)
      * Ideal.rsqrt (Ideal.div (∑ d : Fin 2048, A (ix2 r d) * A (ix2 r d)) (Ideal.ofBits .f32 0x45000000#32) + Ideal.ofBits .f32 0x358637BD#32)
      * N (ix2 (0 : Fin 1) d) * (1 + M (ix2 (0 : Fin 8) ⟨2048 + d.val, by have := d.isLt; omega⟩))
      + M (ix2 (0 : Fin 8) ⟨d.val, by have := d.isLt; omega⟩)) * W (ix2 d e)

theorem pay_eq (x0 : Vec Ideal S256x2048 .f32) (x1 : Vec Ideal S8x12288 .f32) (x2 : Vec Ideal S1x2048 .f32) (x3 : Vec Ideal S2048x3584 .bf16) :
    k1_pay3 (F := Ideal) (View.ld x1 r1_0) (View.ld x1 r1_1) (View.ld x0 r1_2) (View.ld x2 r1_3) (View.ld x3 r1_4)
      = k1_pay3 (F := Ideal) (View.ld x1 r1_0) (View.ld x1 r1_1) x0 x2 x3 := by
  refine congr (congr (congrArg (k1_pay3 (F := Ideal) (View.ld x1 r1_0) (View.ld x1 r1_1)) ?_) ?_) ?_
  · exact View.ld_unit_zero (by funext a; match a with | 0 => rfl | 1 => rfl) _ _
  · exact View.ld_unit_zero (by funext a; match a with | 0 => rfl | 1 => rfl) _ _
  · exact View.ld_unit_zero (by funext a; match a with | 0 => rfl | 1 => rfl) _ _

/-- The value the second call slices its results from. -/
def zB (c : Dev nD) (t : Fin cfg1.N) : FVec Ideal S256x3584 .f32 :=
  k1_pay3 (F := Ideal) (View.ld (iblk1 V c 1 t) r1_0) (View.ld (iblk1 V c 1 t) r1_1) (View.ld (iblk1 V c 0 t) r1_2)
    (View.ld (iblk1 V c 2 t) r1_3) (View.ld (iblk1 V c 3 t) r1_4)

theorem shift_apply (M : Vec Ideal S8x12288 .f32) (d : Fin 2048) :
    View.ld M r1_0 (ix2 (0 : Fin 1) d) = M (ix2 (0 : Fin 8) ⟨d.val, by have := d.isLt; omega⟩) := by
  refine congrArg M (funext fun a => Fin.ext ?_)
  match a with
  | 0 => rfl
  | 1 => show 0 + 1 * d.val = d.val; omega
theorem scale_apply (M : Vec Ideal S8x12288 .f32) (d : Fin 2048) :
    View.ld M r1_1 (ix2 (0 : Fin 1) d) = M (ix2 (0 : Fin 8) ⟨2048 + d.val, by have := d.isLt; omega⟩) := by
  refine congrArg M (funext fun a => Fin.ext ?_)
  match a with
  | 0 => rfl
  | 1 => show 2048 + 1 * d.val = 2048 + d.val; omega

theorem zB_apply (c : Dev nD) (t : Fin cfg1.N) (r : Fin 256) (e : Fin 3584) :
    zB V c t (ix2 r e) = projRow (bX V c) (bM V c) (bN V c) (bWi V c) ⟨t.val * 256 + r.val, by have : t.val < 32 := t.isLt; have := r.isLt; omega⟩ e := by
  unfold zB
  refine (congrFun (pay_eq (iblk1 V c 0 t) (iblk1 V c 1 t) (iblk1 V c 2 t) (iblk1 V c 3 t)) (ix2 r e)).trans ?_
  refine (in_apply _ _ (iblk1 V c 0 t) (iblk1 V c 2 t) (iblk1 V c 3 t) r e).trans ?_
  unfold projRow
  refine Finset.sum_congr rfl fun d _ => ?_
  have hrs : rsRow (iblk1 V c 0 t) r = Ideal.rsqrt (Ideal.div (∑ d : Fin 2048,
      bX V c (ix2 ⟨t.val * 256 + r.val, by have : t.val < 32 := t.isLt; have := r.isLt; omega⟩ d)
        * bX V c (ix2 ⟨t.val * 256 + r.val, by have : t.val < 32 := t.isLt; have := r.isLt; omega⟩ d)) (Ideal.ofBits .f32 0x45000000#32)
      + Ideal.ofBits .f32 0x358637BD#32) := by
    unfold rsRow
    refine congrArg (fun s : EReal => Ideal.rsqrt (Ideal.div s (Ideal.ofBits .f32 0x45000000#32) + Ideal.ofBits .f32 0x358637BD#32)) ?_
    exact Finset.sum_congr rfl fun d _ => congrArg₂ (fun a b : EReal => a * b) (blk10 V c t r d) (blk10 V c t r d)
  have hsh := (shift_apply (iblk1 V c 1 t) d).trans (congrFun (blk11 V c t) _)
  have hsc := (scale_apply (iblk1 V c 1 t) d).trans (congrFun (blk11 V c t) _)
  have hn := congrFun (blk12 V c t) (ix2 (0 : Fin 1) d)
  have hw := congrFun (blk13 V c t) (ix2 d e)
  rw [hrs]
  refine congrArg₂ (fun a b : EReal => a * b) (congrArg₂ (fun a b : EReal => a + b) (congrArg₂ (fun a b : EReal => a * b)
    (congrArg₂ (fun a b : EReal => a * b) (congrArg (fun a : EReal => a * _) (blk10 V c t r d)) hn)
    (congrArg (fun a : EReal => 1 + a) hsc)) hsh) hw

/-- Columns `o` on of the projection. -/
def projW (A : S8192x2048.Idx → EReal) (M : S8x12288.Idx → EReal) (N : S1x2048.Idx → EReal) (W : S2048x3584.Idx → EReal)
    (o : Nat) (ho : o + 1024 ≤ 3584) : S8192x1024.Idx → EReal := fun y =>
  projRow A M N W (y 0) ⟨o + (y 1).val, by have : (y 1).val < 1024 := (y 1).isLt; omega⟩
def projN (A : S8192x2048.Idx → EReal) (M : S8x12288.Idx → EReal) (N : S1x2048.Idx → EReal) (W : S2048x3584.Idx → EReal)
    (o : Nat) (ho : o + 256 ≤ 3584) : S8192x256.Idx → EReal := fun y =>
  projRow A M N W (y 0) ⟨o + (y 1).val, by have : (y 1).val < 256 := (y 1).isLt; omega⟩

theorem cutW_apply (c : Dev nD) (t : Fin cfg1.N) (off : Fin 2 → Nat) (o : Nat) (h0 : off 0 = 0) (h1 : off 1 = o) (ho : o + 1024 ≤ 3584)
    (hs : S256x3584.Slices off S256x1024) (y : S256x1024.Idx) :
    extractStridedSlice S256x1024 off (zB V c t) hs y = projW (bX V c) (bM V c) (bN V c) (bWi V c) o ho
      (ix2 ⟨t.val * 256 + (y 0).val, by have : t.val < 32 := t.isLt; have : (y 0).val < 256 := (y 0).isLt; omega⟩ (y 1)) := by
  have hy1 : (y 1).val < 1024 := (y 1).isLt
  refine (extractStridedSlice_apply off _ hs y (ix2 (y 0) (⟨o + (y 1).val, by omega⟩ : Fin 3584)) fun a => ?_).trans (zB_apply V c t _ _)
  match a with
  | 0 => show (y 0).val = off 0 + (y 0).val; omega
  | 1 => show o + (y 1).val = off 1 + (y 1).val; omega
theorem cutN_apply (c : Dev nD) (t : Fin cfg1.N) (off : Fin 2 → Nat) (o : Nat) (h0 : off 0 = 0) (h1 : off 1 = o) (ho : o + 256 ≤ 3584)
    (hs : S256x3584.Slices off S256x256) (y : S256x256.Idx) :
    extractStridedSlice S256x256 off (zB V c t) hs y = projN (bX V c) (bM V c) (bN V c) (bWi V c) o ho
      (ix2 ⟨t.val * 256 + (y 0).val, by have : t.val < 32 := t.isLt; have : (y 0).val < 256 := (y 0).isLt; omega⟩ (y 1)) := by
  have hy1 : (y 1).val < 256 := (y 1).isLt
  refine (extractStridedSlice_apply off _ hs y (ix2 (y 0) (⟨o + (y 1).val, by omega⟩ : Fin 3584)) fun a => ?_).trans (zB_apply V c t _ _)
  match a with
  | 0 => show (y 0).val = off 0 + (y 0).val; omega
  | 1 => show o + (y 1).val = off 1 + (y 1).val; omega

def o4 (c : Dev nD) (t : Fin cfg1.N) : S256x1024.Idx → EReal :=
  out1_4 (F := Ideal) (iblk1 V c 0 t) (iblk1 V c 1 t) (iblk1 V c 2 t) (iblk1 V c 3 t)
theorem o4_eq (c : Dev nD) (t : Fin cfg1.N) : (dat1 V c).after 4 t = o4 V c t := after1_4 V c t
theorem o4_cut (c : Dev nD) (t : Fin cfg1.N) : o4 V c t
    = extractStridedSlice S256x1024 ![0, 0] (zB V c t) slices_S256x3584_o0_0_S256x1024 := by
  unfold o4
  unfold out1_4
  refine (View.canon_unit_zero (by funext a; match a with | 0 => rfl | 1 => rfl) _ _).trans ?_
  unfold k1_pay5 zB
  rfl
theorem o4_apply (c : Dev nD) (t : Fin cfg1.N) (y : S256x1024.Idx) :
    o4 V c t y = projW (bX V c) (bM V c) (bN V c) (bWi V c) 0 (by decide) (((cfg1.win 4).rect t).emb y) := by
  refine (congrFun (o4_cut V c t) y).trans ((cutW_apply V c t ![0, 0] 0 rfl rfl (by decide) _ y).trans (congrArg (projW _ _ _ _ 0 _) (funext fun a => Fin.ext ?_)))
  show _ = (((cfg1.win 4).rect t).emb y a).val
  refine Eq.symm ?_
  refine (Pipeline.Window.rect_emb_val (cfg1.win 4) t _ a (hk := rfl)).trans ?_
  rw [ix14]
  match a with
  | 0 => rfl
  | 1 => show 0 * 1024 + (y 1).val = (y 1).val; omega
theorem arr4 (c : Dev nD) : (dat1 V c).arrAt 4 cfg1.N = projW (bX V c) (bM V c) (bN V c) (bWi V c) 0 (by decide) :=
  (dat1 V c).arrAt_eq_of_covers 4 _ (by decide +kernel) fun t hf y => (congrFun (o4_eq V c t) _).trans (o4_apply V c t y)

def o5 (c : Dev nD) (t : Fin cfg1.N) : S256x256.Idx → EReal :=
  out1_5 (F := Ideal) (iblk1 V c 0 t) (iblk1 V c 1 t) (iblk1 V c 2 t) (iblk1 V c 3 t)
theorem o5_eq (c : Dev nD) (t : Fin cfg1.N) : (dat1 V c).after 5 t = o5 V c t := after1_5 V c t
theorem o5_cut (c : Dev nD) (t : Fin cfg1.N) : o5 V c t
    = extractStridedSlice S256x256 ![0, 1024] (zB V c t) slices_S256x3584_o0_1024_S256x256 := by
  unfold o5
  unfold out1_5
  refine (View.canon_unit_zero (by funext a; match a with | 0 => rfl | 1 => rfl) _ _).trans ?_
  unfold k1_pay4 zB
  rfl
theorem o5_apply (c : Dev nD) (t : Fin cfg1.N) (y : S256x256.Idx) :
    o5 V c t y = projN (bX V c) (bM V c) (bN V c) (bWi V c) 1024 (by decide) (((cfg1.win 5).rect t).emb y) := by
  refine (congrFun (o5_cut V c t) y).trans ((cutN_apply V c t ![0, 1024] 1024 rfl rfl (by decide) _ y).trans (congrArg (projN _ _ _ _ 1024 _) (funext fun a => Fin.ext ?_)))
  show _ = (((cfg1.win 5).rect t).emb y a).val
  refine Eq.symm ?_
  refine (Pipeline.Window.rect_emb_val (cfg1.win 5) t _ a (hk := rfl)).trans ?_
  rw [ix15]
  match a with
  | 0 => rfl
  | 1 => show 0 * 256 + (y 1).val = (y 1).val; omega
theorem arr5 (c : Dev nD) : (dat1 V c).arrAt 5 cfg1.N = projN (bX V c) (bM V c) (bN V c) (bWi V c) 1024 (by decide) :=
  (dat1 V c).arrAt_eq_of_covers 5 _ (by decide +kernel) fun t hf y => (congrFun (o5_eq V c t) _).trans (o5_apply V c t y)

def o6 (c : Dev nD) (t : Fin cfg1.N) : S256x256.Idx → EReal :=
  out1_6 (F := Ideal) (iblk1 V c 0 t) (iblk1 V c 1 t) (iblk1 V c 2 t) (iblk1 V c 3 t)
theorem o6_eq (c : Dev nD) (t : Fin cfg1.N) : (dat1 V c).after 6 t = o6 V c t := after1_6 V c t
theorem o6_cut (c : Dev nD) (t : Fin cfg1.N) : o6 V c t
    = extractStridedSlice S256x256 ![0, 1280] (zB V c t) slices_S256x3584_o0_1280_S256x256 := by
  unfold o6
  unfold out1_6
  refine (View.canon_unit_zero (by funext a; match a with | 0 => rfl | 1 => rfl) _ _).trans ?_
  unfold k1_pay6 zB
  rfl
theorem o6_apply (c : Dev nD) (t : Fin cfg1.N) (y : S256x256.Idx) :
    o6 V c t y = projN (bX V c) (bM V c) (bN V c) (bWi V c) 1280 (by decide) (((cfg1.win 6).rect t).emb y) := by
  refine (congrFun (o6_cut V c t) y).trans ((cutN_apply V c t ![0, 1280] 1280 rfl rfl (by decide) _ y).trans (congrArg (projN _ _ _ _ 1280 _) (funext fun a => Fin.ext ?_)))
  show _ = (((cfg1.win 6).rect t).emb y a).val
  refine Eq.symm ?_
  refine (Pipeline.Window.rect_emb_val (cfg1.win 6) t _ a (hk := rfl)).trans ?_
  rw [ix16]
  match a with
  | 0 => rfl
  | 1 => show 0 * 256 + (y 1).val = (y 1).val; omega
theorem arr6 (c : Dev nD) : (dat1 V c).arrAt 6 cfg1.N = projN (bX V c) (bM V c) (bN V c) (bWi V c) 1280 (by decide) :=
  (dat1 V c).arrAt_eq_of_covers 6 _ (by decide +kernel) fun t hf y => (congrFun (o6_eq V c t) _).trans (o6_apply V c t y)

def o7 (c : Dev nD) (t : Fin cfg1.N) : S256x1024.Idx → EReal :=
  out1_7 (F := Ideal) (iblk1 V c 0 t) (iblk1 V c 1 t) (iblk1 V c 2 t) (iblk1 V c 3 t)
theorem o7_eq (c : Dev nD) (t : Fin cfg1.N) : (dat1 V c).after 7 t = o7 V c t := after1_7 V c t
theorem o7_cut (c : Dev nD) (t : Fin cfg1.N) : o7 V c t
    = extractStridedSlice S256x1024 ![0, 1536] (zB V c t) slices_S256x3584_o0_1536_S256x1024 := by
  unfold o7
  unfold out1_7
  refine (View.canon_unit_zero (by funext a; match a with | 0 => rfl | 1 => rfl) _ _).trans ?_
  unfold k1_pay1 k1_pay7 zB
  rfl
theorem o7_apply (c : Dev nD) (t : Fin cfg1.N) (y : S256x1024.Idx) :
    o7 V c t y = projW (bX V c) (bM V c) (bN V c) (bWi V c) 1536 (by decide) (((cfg1.win 7).rect t).emb y) := by
  refine (congrFun (o7_cut V c t) y).trans ((cutW_apply V c t ![0, 1536] 1536 rfl rfl (by decide) _ y).trans (congrArg (projW _ _ _ _ 1536 _) (funext fun a => Fin.ext ?_)))
  show _ = (((cfg1.win 7).rect t).emb y a).val
  refine Eq.symm ?_
  refine (Pipeline.Window.rect_emb_val (cfg1.win 7) t _ a (hk := rfl)).trans ?_
  rw [ix17]
  match a with
  | 0 => rfl
  | 1 => show 0 * 1024 + (y 1).val = (y 1).val; omega
theorem arr7 (c : Dev nD) : (dat1 V c).arrAt 7 cfg1.N = projW (bX V c) (bM V c) (bN V c) (bWi V c) 1536 (by decide) :=
  (dat1 V c).arrAt_eq_of_covers 7 _ (by decide +kernel) fun t hf y => (congrFun (o7_eq V c t) _).trans (o7_apply V c t y)

def o8 (c : Dev nD) (t : Fin cfg1.N) : S256x1024.Idx → EReal :=
  out1_8 (F := Ideal) (iblk1 V c 0 t) (iblk1 V c 1 t) (iblk1 V c 2 t) (iblk1 V c 3 t)
theorem o8_eq (c : Dev nD) (t : Fin cfg1.N) : (dat1 V c).after 8 t = o8 V c t := after1_8 V c t
theorem o8_cut (c : Dev nD) (t : Fin cfg1.N) : o8 V c t
    = extractStridedSlice S256x1024 ![0, 2560] (zB V c t) slices_S256x3584_o0_2560_S256x1024 := by
  unfold o8
  unfold out1_8
  refine (View.canon_unit_zero (by funext a; match a with | 0 => rfl | 1 => rfl) _ _).trans ?_
  unfold k1_pay2 k1_pay7 zB
  rfl
theorem o8_apply (c : Dev nD) (t : Fin cfg1.N) (y : S256x1024.Idx) :
    o8 V c t y = projW (bX V c) (bM V c) (bN V c) (bWi V c) 2560 (by decide) (((cfg1.win 8).rect t).emb y) := by
  refine (congrFun (o8_cut V c t) y).trans ((cutW_apply V c t ![0, 2560] 2560 rfl rfl (by decide) _ y).trans (congrArg (projW _ _ _ _ 2560 _) (funext fun a => Fin.ext ?_)))
  show _ = (((cfg1.win 8).rect t).emb y a).val
  refine Eq.symm ?_
  refine (Pipeline.Window.rect_emb_val (cfg1.win 8) t _ a (hk := rfl)).trans ?_
  rw [ix18]
  match a with
  | 0 => rfl
  | 1 => show 0 * 1024 + (y 1).val = (y 1).val; omega
theorem arr8 (c : Dev nD) : (dat1 V c).arrAt 8 cfg1.N = projW (bX V c) (bM V c) (bN V c) (bWi V c) 2560 (by decide) :=
  (dat1 V c).arrAt_eq_of_covers 8 _ (by decide +kernel) fun t hf y => (congrFun (o8_eq V c t) _).trans (o8_apply V c t y)

end Regions

end Cert.Ctx

end
-- ==== Proof.CValue.lean ====
module

public import proofs.«01_k».proof.Proof.CKernel

@[expose] public section

noncomputable section

namespace Cert.Ctx

open Cert.ContextIdeal Cert.ContextIdeal.Gen
open Idealize.ShloMosaic hiding ix1 ix2 ix3 ix4 ix5
open Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-! ## The program's arguments -/

def cX (c : Dev nD) : S32x256x2048.Idx → EReal := m ((c.tc : Thread nD τ).loc main_arg0)
def cE (c : Dev nD) : S4x2048.Idx → EReal := m ((c.tc : Thread nD τ).loc main_arg1)
def cC (c : Dev nD) : S2048.Idx → EReal := m ((c.tc : Thread nD τ).loc main_arg2)
def cWa (c : Dev nD) : S1x2048x12288.Idx → EReal := m ((c.tc : Thread nD τ).loc main_arg3)
def cBa (c : Dev nD) : S1x12288.Idx → EReal := m ((c.tc : Thread nD τ).loc main_arg4)
def cN (c : Dev nD) : S1x2048.Idx → EReal := m ((c.tc : Thread nD τ).loc main_arg5)
def cWi (c : Dev nD) : S1x2048x3584.Idx → EReal := m ((c.tc : Thread nD τ).loc main_arg6)

/-! ## What the host operations hand the calls -/

theorem bC_eq (c : Dev nD) : bC (V1 m ρ) c = concatenate S8x2048 0 [⟨S1x2048, broadcastInDim S1x2048 ![1] bcast_S2048_S1x2048_1 (cC m c)⟩,
    ⟨S4x2048, cE m c⟩, ⟨S3x2048, broadcastInDim S3x2048 ![] bcast_S_S3x2048 (constant (F := Ideal) S_ .f32 0x00000000#32)⟩]
    concatenates_S1x2048_S4x2048_S3x2048_S8x2048_d0 := by
  show StableHlo.after hostOps0 (W0 m ρ c) (Proc.devRef .tc main_v2) = _
  simp only [hostOps0]
  after_results_simp <;> rfl
theorem bWa_eq (c : Dev nD) : bWa (V1 m ρ) c = shapeCast S2048x12288 (cWa m c) shapeCasts_S1x2048x12288_S2048x12288 := by
  show StableHlo.after hostOps0 (W0 m ρ c) (Proc.devRef .tc main_v3) = _
  simp only [hostOps0]
  after_results_simp <;> rfl
theorem bBa_eq (c : Dev nD) : bBa (V1 m ρ) c = broadcastInDim S1x12288 ![1] bcast_S12288_S1x12288_1
    (shapeCast S12288 (cBa m c) shapeCasts_S1x12288_S12288) := by
  show StableHlo.after hostOps0 (W0 m ρ c) (Proc.devRef .tc main_v5) = _
  simp only [hostOps0]
  after_results_simp <;> rfl

theorem bC_apply (c : Dev nD) (d : Fin 2048) : bC (V1 m ρ) c (ix2 (0 : Fin 8) d) = cC m c (ix1 d) := by
  rw [bC_eq]
  refine (concatenate_apply_piece (0 : Fin S8x2048.rank) [⟨S1x2048, broadcastInDim S1x2048 ![1] bcast_S2048_S1x2048_1 (cC m c)⟩,
    ⟨S4x2048, cE m c⟩, ⟨S3x2048, broadcastInDim S3x2048 ![] bcast_S_S3x2048 (constant (F := Ideal) S_ .f32 0x00000000#32)⟩]
    concatenates_S1x2048_S4x2048_S3x2048_S8x2048_d0 (ix2 (0 : Fin 8) d) 0 (Nat.zero_lt_succ _) S1x2048 _ rfl rfl 0 rfl
    (ix2 (0 : Fin 1) d) (fun b hb => ?_) rfl).trans ?_
  · match b with
    | 0 => exact absurd rfl hb
    | 1 => rfl
  exact broadcastInDim_apply _ bcast_S2048_S1x2048_1 (cC m c) _ _ fun a => by match a with | 0 => rfl

theorem bWa_apply (c : Dev nD) (d : Fin 2048) (n : Fin 12288) : bWa (V1 m ρ) c (ix2 d n) = cWa m c (ix3 (0 : Fin 1) d n) := by
  rw [bWa_eq]
  refine shapeCast_apply (cWa m c) shapeCasts_S1x2048x12288_S2048x12288 _ _ ?_
  rw [Shape.rowMajor_val_three, Shape.rowMajor_val_two]
  show (0 * 2048 + d.val) * 12288 + n.val = d.val * 12288 + n.val
  omega

theorem bBa_apply (c : Dev nD) (n : Fin 12288) : bBa (V1 m ρ) c (ix2 (0 : Fin 1) n) = cBa m c (ix2 (0 : Fin 1) n) := by
  rw [bBa_eq]
  refine (broadcastInDim_apply _ bcast_S12288_S1x12288_1 _ _ (ix1 n) fun a => by match a with | 0 => rfl).trans ?_
  refine shapeCast_apply (cBa m c) shapeCasts_S1x12288_S12288 _ _ ?_
  rw [Shape.rowMajor_val_two, Shape.rowMajor_val_one]
  show 0 * 12288 + n.val = n.val
  omega

/-- The modulation the second call reads. -/
theorem bM_apply (c : Dev nD) (n : Fin 12288) :
    bM (V3 m ρ) c (ix2 (0 : Fin 8) n) = modv (cC m c) (cWa m c) (cBa m c) n := by
  have h : bM (V3 m ρ) c = modAll (bC (V1 m ρ) c) (bWa (V1 m ρ) c) (bBa (V1 m ρ) c) :=
    (W3_of m ρ c main_v6 (by decide)).trans ((W2_arr m ρ c 3).trans (arr0 (V1 m ρ) c))
  rw [h]
  show modRow _ _ _ (0 : Fin 8) n = _
  unfold modRow modv
  rw [bBa_apply]
  exact congrArg (fun s : EReal => s + _) (Finset.sum_congr rfl fun d _ => by rw [bC_apply, bWa_apply])

theorem bX_eq (c : Dev nD) : bX (V3 m ρ) c = shapeCast S8192x2048 (cX m c) shapeCasts_S32x256x2048_S8192x2048 := by
  have h : W2 m ρ c (Proc.devRef .tc main_arg0) = m ((c.tc : Thread nD τ).loc main_arg0) := W2_args m ρ c main_arg0 (by decide)
  unfold cX
  rw [← h]
  show StableHlo.after hostOps1 (W2 m ρ c) (Proc.devRef .tc main_v9) = _
  simp only [hostOps1]
  after_results_simp <;> rfl
theorem bN_eq (c : Dev nD) : bN (V3 m ρ) c = shapeCast S1x2048 (shapeCast S2048 (cN m c) shapeCasts_S1x2048_S2048) shapeCasts_S2048_S1x2048 := by
  have h : W2 m ρ c (Proc.devRef .tc main_arg5) = m ((c.tc : Thread nD τ).loc main_arg5) := W2_args m ρ c main_arg5 (by decide)
  unfold cN
  rw [← h]
  show StableHlo.after hostOps1 (W2 m ρ c) (Proc.devRef .tc main_v11) = _
  simp only [hostOps1]
  after_results_simp <;> rfl
theorem bWi_eq (c : Dev nD) : bWi (V3 m ρ) c = shapeCast S2048x3584 (cWi m c) shapeCasts_S1x2048x3584_S2048x3584 := by
  have h : W2 m ρ c (Proc.devRef .tc main_arg6) = m ((c.tc : Thread nD τ).loc main_arg6) := W2_args m ρ c main_arg6 (by decide)
  unfold cWi
  rw [← h]
  show StableHlo.after hostOps1 (W2 m ρ c) (Proc.devRef .tc main_v8) = _
  simp only [hostOps1]
  after_results_simp <;> rfl

theorem bX_apply (c : Dev nD) (r : Fin 8192) (d : Fin 2048) : bX (V3 m ρ) c (ix2 r d)
    = cX m c (ix3 ⟨r.val / 256, by have := r.isLt; omega⟩ ⟨r.val % 256, Nat.mod_lt _ (by decide)⟩ d) := by
  rw [bX_eq]
  refine shapeCast_apply (cX m c) shapeCasts_S32x256x2048_S8192x2048 _ _ ?_
  rw [Shape.rowMajor_val_three, Shape.rowMajor_val_two]
  show (r.val / 256 * 256 + r.val % 256) * 2048 + d.val = r.val * 2048 + d.val
  omega
theorem bN_apply (c : Dev nD) (d : Fin 2048) : bN (V3 m ρ) c (ix2 (0 : Fin 1) d) = cN m c (ix2 (0 : Fin 1) d) := by
  rw [bN_eq]
  refine (shapeCast_apply _ shapeCasts_S2048_S1x2048 _ (ix1 d) ?_).trans (shapeCast_apply (cN m c) shapeCasts_S1x2048_S2048 _ _ ?_)
  · rw [Shape.rowMajor_val_two, Shape.rowMajor_val_one]
    show d.val = 0 * 2048 + d.val
    omega
  · rw [Shape.rowMajor_val_two, Shape.rowMajor_val_one]
    show 0 * 2048 + d.val = d.val
    omega
theorem bWi_apply (c : Dev nD) (d : Fin 2048) (e : Fin 3584) : bWi (V3 m ρ) c (ix2 d e) = cWi m c (ix3 (0 : Fin 1) d e) := by
  rw [bWi_eq]
  refine shapeCast_apply (cWi m c) shapeCasts_S1x2048x3584_S2048x3584 _ _ ?_
  rw [Shape.rowMajor_val_three, Shape.rowMajor_val_two]
  show (0 * 2048 + d.val) * 3584 + e.val = d.val * 3584 + e.val
  omega

/-- Each row of the kernel's projection is a token's. -/
theorem row_eq (c : Dev nD) (r : Fin 8192) (e : Fin 3584) :
    projRow (bX (V3 m ρ) c) (bM (V3 m ρ) c) (bN (V3 m ρ) c) (bWi (V3 m ρ) c) r e
      = zv (cX m c) (cC m c) (cWa m c) (cBa m c) (cN m c) (cWi m c) ⟨r.val / 256, by have := r.isLt; omega⟩ ⟨r.val % 256, Nat.mod_lt _ (by decide)⟩ e := by
  unfold projRow zv hv rsv
  have hs : (∑ d : Fin 2048, bX (V3 m ρ) c (ix2 r d) * bX (V3 m ρ) c (ix2 r d))
      = ∑ d : Fin 2048, cX m c (ix3 ⟨r.val / 256, by have := r.isLt; omega⟩ ⟨r.val % 256, Nat.mod_lt _ (by decide)⟩ d)
        * cX m c (ix3 ⟨r.val / 256, by have := r.isLt; omega⟩ ⟨r.val % 256, Nat.mod_lt _ (by decide)⟩ d) :=
    Finset.sum_congr rfl fun d _ => by rw [bX_apply]
  rw [hs]
  exact Finset.sum_congr rfl fun d _ => by rw [bX_apply, bM_apply, bM_apply, bN_apply, bWi_apply]

theorem wide_row (c : Dev nD) (o : Nat) (ho : o + 1024 ≤ 3584) :
    projW (bX (V3 m ρ) c) (bM (V3 m ρ) c) (bN (V3 m ρ) c) (bWi (V3 m ρ) c) o ho
      = wide (cX m c) (cC m c) (cWa m c) (cBa m c) (cN m c) (cWi m c) o ho :=
  funext fun y => row_eq m ρ c _ _

theorem heads_row (c : Dev nD) (o : Nat) (ho : o + 256 ≤ 3584) :
    shapeCast S32x1x256x2x128 (projN (bX (V3 m ρ) c) (bM (V3 m ρ) c) (bN (V3 m ρ) c) (bWi (V3 m ρ) c) o ho)
      shapeCasts_S8192x256_S32x1x256x2x128 = heads (cX m c) (cC m c) (cWa m c) (cBa m c) (cN m c) (cWi m c) o ho := by
  funext y
  have hy0 : (y 0).val < 32 := (y 0).isLt
  have hy1 : (y 1).val < 1 := (y 1).isLt
  have hy2 : (y 2).val < 256 := (y 2).isLt
  have hy3 : (y 3).val < 2 := (y 3).isLt
  have hy4 : (y 4).val < 128 := (y 4).isLt
  refine (shapeCast_apply _ shapeCasts_S8192x256_S32x1x256x2x128 y (ix2 (⟨(y 0).val * 256 + (y 2).val, by omega⟩ : Fin 8192)
    (⟨(y 3).val * 128 + (y 4).val, by omega⟩ : Fin 256)) ?_).trans ?_
  · rw [Shape.rowMajor_val_two, Shape.rowMajor_val_five]
    show ((y 0).val * 256 + (y 2).val) * 256 + ((y 3).val * 128 + (y 4).val)
      = ((((y 0).val * 1 + (y 1).val) * 256 + (y 2).val) * 2 + (y 3).val) * 128 + (y 4).val
    omega
  refine (row_eq m ρ c _ _).trans ?_
  unfold heads
  refine congrArg₂ (fun b l => zv (cX m c) (cC m c) (cWa m c) (cBa m c) (cN m c) (cWi m c) b l
    ⟨o + ((y 3).val * 128 + (y 4).val), by omega⟩) (Fin.ext ?_) (Fin.ext ?_)
  · show ((y 0).val * 256 + (y 2).val) / 256 = (y 0).val
    omega
  · show ((y 0).val * 256 + (y 2).val) % 256 = (y 2).val
    omega

/-! ## The five results -/

theorem resQ (c : Dev nD) : W5 m ρ c (Proc.devRef .tc main_v12_0) = wide (cX m c) (cC m c) (cWa m c) (cBa m c) (cN m c) (cWi m c) 0 (by decide) :=
  (W5_of m ρ c main_v12_0 (by decide)).trans ((W4_arr m ρ c 4).trans ((arr4 (V3 m ρ) c).trans (wide_row m ρ c 0 (by decide))))
theorem resU (c : Dev nD) : W5 m ρ c (Proc.devRef .tc main_v12_3) = wide (cX m c) (cC m c) (cWa m c) (cBa m c) (cN m c) (cWi m c) 1536 (by decide) :=
  (W5_of m ρ c main_v12_3 (by decide)).trans ((W4_arr m ρ c 7).trans ((arr7 (V3 m ρ) c).trans (wide_row m ρ c 1536 (by decide))))
theorem resG (c : Dev nD) : W5 m ρ c (Proc.devRef .tc main_v12_4) = wide (cX m c) (cC m c) (cWa m c) (cBa m c) (cN m c) (cWi m c) 2560 (by decide) :=
  (W5_of m ρ c main_v12_4 (by decide)).trans ((W4_arr m ρ c 8).trans ((arr8 (V3 m ρ) c).trans (wide_row m ρ c 2560 (by decide))))
theorem resK (c : Dev nD) : W5 m ρ c (Proc.devRef .tc main_v13) = heads (cX m c) (cC m c) (cWa m c) (cBa m c) (cN m c) (cWi m c) 1024 (by decide) := by
  have h : W4 m ρ c (Proc.devRef .tc main_v12_1) = projN (bX (V3 m ρ) c) (bM (V3 m ρ) c) (bN (V3 m ρ) c) (bWi (V3 m ρ) c) 1024 (by decide) :=
    (W4_arr m ρ c 5).trans (arr5 (V3 m ρ) c)
  rw [← heads_row m ρ c 1024 (by decide), ← h]
  show StableHlo.after hostOps2 (W4 m ρ c) (Proc.devRef .tc main_v13) = _
  simp only [hostOps2]
  after_results_simp <;> rfl
theorem resV (c : Dev nD) : W5 m ρ c (Proc.devRef .tc main_v14) = heads (cX m c) (cC m c) (cWa m c) (cBa m c) (cN m c) (cWi m c) 1280 (by decide) := by
  have h : W4 m ρ c (Proc.devRef .tc main_v12_2) = projN (bX (V3 m ρ) c) (bM (V3 m ρ) c) (bN (V3 m ρ) c) (bWi (V3 m ρ) c) 1280 (by decide) :=
    (W4_arr m ρ c 6).trans (arr6 (V3 m ρ) c)
  rw [← heads_row m ρ c 1280 (by decide), ← h]
  show StableHlo.after hostOps2 (W4 m ρ c) (Proc.devRef .tc main_v14) = _
  simp only [hostOps2]
  after_results_simp <;> rfl

end Cert.Ctx

end
-- ==== Proof.LTwin.lean ====
/-
  The latent projection and its idealization are the same program text: a run of one is a run of the other, over any float values.
-/
module

public import proofs.«01_k».proof.Latent
public import proofs.«01_k».proof.LatentIdeal
public import proofs.«01_k».proof.Proof.Gen.Latent
public import proofs.«01_k».proof.Proof.Gen.LatentIdeal

@[expose] public section

noncomputable section

namespace Cert.Lat

open Idealize.ShloMosaic Idealize.SL.Sem

variable {F : FTy → Type} [FloatOps F]

set_option maxHeartbeats 20000000 in
theorem body_twin0 (t : Fin Cert.Latent.grid0.N) (s) :
    Cert.Latent.defs₀ (F := F) .tc 0 (t, s) = Cert.LatentIdeal.defs₀ (F := F) .tc 0 (t, s) := rfl
set_option maxHeartbeats 20000000 in
theorem part1_twin : Cert.Latent.k1_part1 (F := F) = Cert.LatentIdeal.k1_part1 (F := F) := rfl
set_option maxHeartbeats 20000000 in
theorem part2_twin : Cert.Latent.k1_part2 (F := F) = Cert.LatentIdeal.k1_part2 (F := F) := rfl
set_option maxHeartbeats 20000000 in
theorem part3_twin : Cert.Latent.k1_part3 (F := F) = Cert.LatentIdeal.k1_part3 (F := F) := rfl
set_option maxHeartbeats 20000000 in
theorem proj_twin : Cert.Latent.cc1_inproj_lat (F := F) = Cert.LatentIdeal.cc1_inproj_lat (F := F) := by
  unfold Cert.Latent.cc1_inproj_lat
  rw [part1_twin, part2_twin, part3_twin]
  rfl
set_option maxHeartbeats 20000000 in
theorem body_twin1 (t : Fin Cert.Latent.grid1.N) (s) :
    Cert.Latent.defs₀ (F := F) .tc 1 (t, s) = Cert.LatentIdeal.defs₀ (F := F) .tc 1 (t, s) := rfl

set_option maxHeartbeats 20000000 in
theorem defs₀_twin : Cert.Latent.defs₀ (F := F) = Cert.LatentIdeal.defs₀ (F := F) := by
  funext p ℓ a
  match p, ℓ, a with
  | .tc, 0, (t, s) => exact body_twin0 t s
  | .tc, 1, (t, s) => exact body_twin1 t s
  | .scScalar _, _, _ => rfl
  | .scVector _ _, _, _ => rfl

set_option maxHeartbeats 20000000 in
theorem defs_twin : Cert.Latent.defs (F := F) = Cert.LatentIdeal.defs (F := F) :=
  congrArg (Pipeline.defs (Cert.LatentIdeal.pcfgs (F := F))) defs₀_twin

set_option maxHeartbeats 20000000 in
theorem θ_twin (s : MemSt Cert.LatentIdeal.nD Cert.LatentIdeal.τ Cert.LatentIdeal.sig (Elt F))
    (Q : PUnit × MemSt Cert.LatentIdeal.nD Cert.LatentIdeal.τ Cert.LatentIdeal.sig (Elt F) → Prop) :
    θ_run (Cert.Latent.defs (F := F)) (onTc (τ := Cert.Latent.τ) (Cert.Latent.main (F := F))) s Q
      = θ_run (Cert.LatentIdeal.defs (F := F)) (onTc (τ := Cert.LatentIdeal.τ) (Cert.LatentIdeal.main (F := F))) s Q :=
  congrArg (fun d => θ_run d (onTc (τ := Cert.LatentIdeal.τ) (Cert.LatentIdeal.main (F := F))) s Q) defs_twin

end Cert.Lat

end
-- ==== Proof.LSpec.lean ====
module

public import proofs.«01_k».proof.Proof.Gen.TurnedIdeal
public import proofs.«01_k».proof.Proof.Gen.TurnedIdeal.Run
public import Idealize.ShloMosaic.Lib.ValueIdx
public import Idealize.ShloMosaic.Lib.Pipeline.Value
public import Idealize.ShloMosaic.Lib.IdealHost
public import Idealize.ShloMosaic.Lib.StackMember
public import Idealize.ShloMosaic.Lib.Pointwise.Contract
public import Idealize.ShloMosaic.PureOps.Ideal.Laws

@[expose] public section

noncomputable section

namespace Cert.Lat

open Cert.TurnedIdeal Cert.TurnedIdeal.Gen
open Idealize.ShloMosaic hiding ix1 ix2 ix3 ix4 ix5
open Idealize.ShloMosaic.TcCoe Idealize.ShloMosaic.ValueIdx Idealize.SL.Sem
open scoped BigOperators

/-! ## The layer's mathematics, by coordinates -/

section Math
variable (X : S4x1024x2048.Idx → EReal) (Cc : S4x2048.Idx → EReal) (Wa : S1x2048x12288.Idx → EReal) (Ba : S1x12288.Idx → EReal)
variable (Nw : S1x2048.Idx → EReal) (Wi : S1x2048x3584.Idx → EReal)

/-- Entry `n` of the modulation of stream `b`: its gated conditioning vector through the modulation's matrix, plus its offset. -/
def modv (b : Fin 4) (n : Fin 12288) : EReal :=
  (∑ d : Fin 2048, (Cc (ix2 b d) * Ideal.logistic (Cc (ix2 b d))) * Wa (ix3 (0 : Fin 1) d n)) + Ba (ix2 (0 : Fin 1) n)

/-- One over the root mean square of a token. -/
def rsv (b : Fin 4) (l : Fin 1024) : EReal :=
  Ideal.rsqrt (Ideal.div (∑ d : Fin 2048, X (ix3 b l d) * X (ix3 b l d)) (Ideal.ofBits .f32 0x45000000#32) + Ideal.ofBits .f32 0x358637BD#32)

/-- The modulated token. -/
def hv (b : Fin 4) (l : Fin 1024) (d : Fin 2048) : EReal :=
  X (ix3 b l d) * rsv X b l * Nw (ix2 (0 : Fin 1) d) * (1 + modv Cc Wa Ba b ⟨2048 + d.val, by have := d.isLt; omega⟩)
    + modv Cc Wa Ba b ⟨d.val, by have := d.isLt; omega⟩

/-- Its projection. -/
def zv (b : Fin 4) (l : Fin 1024) (e : Fin 3584) : EReal :=
  ∑ d : Fin 2048, hv X Cc Wa Ba Nw b l d * Wi (ix3 (0 : Fin 1) d e)

end Math

/-! ## The reference's operations at an index -/

section Ref
variable (X : (⟨S4x1024x2048, .f32⟩ : BufTy).Contents (Elt Ideal)) (Cc : (⟨S4x2048, .f32⟩ : BufTy).Contents (Elt Ideal))
variable (Wa : (⟨S1x2048x12288, .f32⟩ : BufTy).Contents (Elt Ideal)) (Ba : (⟨S1x12288, .f32⟩ : BufTy).Contents (Elt Ideal))
variable (Nw : (⟨S1x2048, .f32⟩ : BufTy).Contents (Elt Ideal)) (Wi : (⟨S1x2048x3584, .f32⟩ : BufTy).Contents (Elt Ideal))

def refSilu : (⟨S4x2048, .f32⟩ : BufTy).Contents (Elt Ideal) :=
  mulf (F := Ideal) (φ := .f32) Cc (Host.divf (F := Ideal) (φ := .f32)
    (broadcastInDim S4x2048 ![] bcast_S_S4x2048 (constant (F := Ideal) S_ .f32 0x3F800000#32))
    (addf (F := Ideal) (φ := .f32) (broadcastInDim S4x2048 ![] bcast_S_S4x2048 (constant (F := Ideal) S_ .f32 0x3F800000#32))
      (Host.exp (F := Ideal) (φ := .f32) (Host.negf (F := Ideal) (φ := .f32) Cc))))

theorem refSilu_apply (b : Fin 4) (d : Fin 2048) :
    refSilu Cc (ix2 b d) = (Cc (ix2 b d) : EReal) * Ideal.logistic (Cc (ix2 b d)) := by
  unfold refSilu
  show (Cc (ix2 b d) : EReal)
    * Ideal.div (Ideal.ofBits .f32 0x3F800000#32) (Ideal.ofBits .f32 0x3F800000#32 + Ideal.exp (-(Cc (ix2 b d)))) = _
  rw [Ideal.ofBits_one_f32]
  rfl

def refWa : (⟨S2048x12288, .f32⟩ : BufTy).Contents (Elt Ideal) := shapeCast _ Wa shapeCasts_S1x2048x12288_S2048x12288
theorem refWa_apply (d : Fin 2048) (n : Fin 12288) : refWa Wa (ix2 d n) = Wa (ix3 (0 : Fin 1) d n) := by
  unfold refWa
  refine shapeCast_apply Wa shapeCasts_S1x2048x12288_S2048x12288 _ _ ?_
  rw [Shape.rowMajor_val_three, Shape.rowMajor_val_two]
  show (0 * 2048 + d.val) * 12288 + n.val = d.val * 12288 + n.val
  omega

def refBa : (⟨S4x12288, .f32⟩ : BufTy).Contents (Elt Ideal) :=
  broadcastInDim S4x12288 ![0, 1] bcast_S1x12288_S4x12288_0_1
    (broadcastInDim S1x12288 ![1] bcast_S12288_S1x12288_1 (shapeCast S12288 Ba shapeCasts_S1x12288_S12288))
theorem refBa_apply (b : Fin 4) (n : Fin 12288) : refBa Ba (ix2 b n) = Ba (ix2 (0 : Fin 1) n) := by
  unfold refBa
  refine (broadcastInDim_apply _ bcast_S1x12288_S4x12288_0_1 _ _ (ix2 (0 : Fin 1) n) fun a => by
    match a with | 0 => rfl | 1 => rfl).trans ?_
  refine (broadcastInDim_apply _ bcast_S12288_S1x12288_1 _ _ (ix1 n) fun a => by match a with | 0 => rfl).trans ?_
  refine shapeCast_apply Ba shapeCasts_S1x12288_S12288 _ _ ?_
  rw [Shape.rowMajor_val_two, Shape.rowMajor_val_one]
  show 0 * 12288 + n.val = n.val
  omega

def refMod : (⟨S4x1x12288, .f32⟩ : BufTy).Contents (Elt Ideal) :=
  broadcastInDim S4x1x12288 ![0, 2] bcast_S4x12288_S4x1x12288_0_2 (addf (F := Ideal) (φ := .f32)
    (Host.dotGeneral (F := Ideal) (φ₁ := .f32) (φ₂ := .f32) dot_S4x2048_S2048x12288_S4x12288_1_0_0_1_n_n none (refSilu Cc) (refWa Wa))
    (refBa Ba))

theorem refMod_apply (b : Fin 4) (n : Fin 12288) : refMod Cc Wa Ba (ix3 b (0 : Fin 1) n) = modv Cc Wa Ba b n := by
  unfold refMod modv
  refine (broadcastInDim_apply _ bcast_S4x12288_S4x1x12288_0_2 _ _ (ix2 b n) fun a => by
    match a with | 0 => rfl | 1 => rfl).trans ?_
  refine congrArg₂ (fun a b : EReal => a + b) ((StackMember.dotGeneral_plain_apply (m := 4) (k := 2048) (n := 12288) (φ₁ := .f32) (φ₂ := .f32)
    none (refSilu Cc) (refWa Wa) b n).trans ?_) (refBa_apply Ba b n)
  exact Finset.sum_congr rfl fun d _ => by rw [refSilu_apply, refWa_apply]

def refShift : (⟨S4x1x2048, .f32⟩ : BufTy).Contents (Elt Ideal) :=
  extractStridedSlice S4x1x2048 ![0, 0, 0] (refMod Cc Wa Ba) slices_S4x1x12288_S4x1x2048_0_0_0
def refScale : (⟨S4x1x2048, .f32⟩ : BufTy).Contents (Elt Ideal) :=
  extractStridedSlice S4x1x2048 ![0, 0, 2048] (refMod Cc Wa Ba) slices_S4x1x12288_S4x1x2048_0_0_2048

theorem refShift_apply (b : Fin 4) (d : Fin 2048) :
    refShift Cc Wa Ba (ix3 b (0 : Fin 1) d) = modv Cc Wa Ba b ⟨d.val, by have := d.isLt; omega⟩ := by
  unfold refShift
  refine (extractStridedSlice_apply _ _ slices_S4x1x12288_S4x1x2048_0_0_0 _
    (ix3 b (0 : Fin 1) ⟨d.val, by have := d.isLt; omega⟩) fun a => ?_).trans (refMod_apply Cc Wa Ba b _)
  match a with
  | 0 => show b.val = 0 + b.val; omega
  | 1 => rfl
  | 2 => show d.val = 0 + d.val; omega
theorem refScale_apply (b : Fin 4) (d : Fin 2048) :
    refScale Cc Wa Ba (ix3 b (0 : Fin 1) d) = modv Cc Wa Ba b ⟨2048 + d.val, by have := d.isLt; omega⟩ := by
  unfold refScale
  refine (extractStridedSlice_apply _ _ slices_S4x1x12288_S4x1x2048_0_0_2048 _
    (ix3 b (0 : Fin 1) ⟨2048 + d.val, by have := d.isLt; omega⟩) fun a => ?_).trans (refMod_apply Cc Wa Ba b _)
  match a with
  | 0 => show b.val = 0 + b.val; omega
  | 1 => rfl
  | 2 => rfl

def refRs : (⟨S4x1024x1, .f32⟩ : BufTy).Contents (Elt Ideal) :=
  Host.rsqrt (F := Ideal) (φ := .f32) (addf (F := Ideal) (φ := .f32) (Host.divf (F := Ideal) (φ := .f32)
    (broadcastInDim S4x1024x1 ![0, 1] bcast_S4x1024_S4x1024x1_0_1
      (Host.reduceAdd (F := Ideal) (φ := .f32) (mulf (F := Ideal) (φ := .f32) X X) (constant (F := Ideal) S_ .f32 0x00000000#32)
        reducesTo_S4x1024x2048_S4x1024_d2 h_S_))
    (broadcastInDim S4x1024x1 ![] bcast_S_S4x1024x1 (constant (F := Ideal) S_ .f32 0x45000000#32)))
    (broadcastInDim S4x1024x1 ![] bcast_S_S4x1024x1 (constant (F := Ideal) S_ .f32 0x358637BD#32)))

theorem reduces_x : S4x1024x2048.Reduces [2] S4x1024 := by decide

theorem refSum_apply (b : Fin 4) (l : Fin 1024) :
    Host.reduceAdd (F := Ideal) (φ := .f32) (mulf (F := Ideal) (φ := .f32) X X) (constant (F := Ideal) S_ .f32 0x00000000#32)
        reducesTo_S4x1024x2048_S4x1024_d2 h_S_ (ix2 b l) = ∑ d : Fin 2048, (X (ix3 b l d) : EReal) * X (ix3 b l d) := by
  rw [hostReduceAdd_apply, Ideal.hostReduceAdd_single _ reduces_x]
  show Ideal.ofBits .f32 0x00000000#32 + _ = _
  rw [Ideal.ofBits_zero_f32, zero_add]
  refine Finset.sum_congr rfl fun d _ => ?_
  have h : reduces_x.lift (ix2 b l) d = ix3 b l d := funext fun a => Fin.ext (by match a with | 0 => rfl | 1 => rfl | 2 => rfl)
  rw [h]
  rfl

theorem refRs_apply (b : Fin 4) (l : Fin 1024) : refRs X (ix3 b l (0 : Fin 1)) = rsv X b l := by
  unfold refRs rsv
  refine congrArg (fun s : EReal => Ideal.rsqrt (Ideal.div s (Ideal.ofBits .f32 0x45000000#32) + Ideal.ofBits .f32 0x358637BD#32)) ?_
  exact (broadcastInDim_apply _ bcast_S4x1024_S4x1024x1_0_1 _ _ (ix2 b l) fun a => by
    match a with | 0 => rfl | 1 => rfl).trans (refSum_apply X b l)

def refNw : (⟨S1x1x2048, .f32⟩ : BufTy).Contents (Elt Ideal) :=
  broadcastInDim S1x1x2048 ![2] bcast_S2048_S1x1x2048_2 (shapeCast S2048 Nw shapeCasts_S1x2048_S2048)
theorem refNw_apply (d : Fin 2048) : refNw Nw (ix3 (0 : Fin 1) (0 : Fin 1) d) = Nw (ix2 (0 : Fin 1) d) := by
  unfold refNw
  refine (broadcastInDim_apply _ bcast_S2048_S1x1x2048_2 _ _ (ix1 d) fun a => by match a with | 0 => rfl).trans ?_
  refine shapeCast_apply Nw shapeCasts_S1x2048_S2048 _ _ ?_
  rw [Shape.rowMajor_val_two, Shape.rowMajor_val_one]
  show 0 * 2048 + d.val = d.val
  omega

/-- A row laid along every token. -/
def along (v : (⟨S1x1x2048, .f32⟩ : BufTy).Contents (Elt Ideal)) : (⟨S4x1024x2048, .f32⟩ : BufTy).Contents (Elt Ideal) :=
  broadcastInDim S4x1024x2048 ![0, 1, 2] bcast_S1x1x2048_S4x1024x2048_0_1_2 v
theorem along_apply (v : (⟨S1x1x2048, .f32⟩ : BufTy).Contents (Elt Ideal)) (b : Fin 4) (l : Fin 1024) (d : Fin 2048) :
    along v (ix3 b l d) = v (ix3 (0 : Fin 1) (0 : Fin 1) d) :=
  broadcastInDim_apply _ bcast_S1x1x2048_S4x1024x2048_0_1_2 v _ _ fun a => by match a with | 0 => rfl | 1 => rfl | 2 => rfl

/-- A row of each stream laid along its tokens. -/
def alongB (v : (⟨S4x1x2048, .f32⟩ : BufTy).Contents (Elt Ideal)) : (⟨S4x1024x2048, .f32⟩ : BufTy).Contents (Elt Ideal) :=
  broadcastInDim S4x1024x2048 ![0, 1, 2] bcast_S4x1x2048_S4x1024x2048_0_1_2 v
theorem alongB_apply (v : (⟨S4x1x2048, .f32⟩ : BufTy).Contents (Elt Ideal)) (b : Fin 4) (l : Fin 1024) (d : Fin 2048) :
    alongB v (ix3 b l d) = v (ix3 b (0 : Fin 1) d) :=
  broadcastInDim_apply _ bcast_S4x1x2048_S4x1024x2048_0_1_2 v _ _ fun a => by match a with | 0 => rfl | 1 => rfl | 2 => rfl

def refH : (⟨S4x1024x2048, .f32⟩ : BufTy).Contents (Elt Ideal) :=
  addf (F := Ideal) (φ := .f32) (mulf (F := Ideal) (φ := .f32) (mulf (F := Ideal) (φ := .f32) (mulf (F := Ideal) (φ := .f32) X
      (broadcastInDim S4x1024x2048 ![0, 1, 2] bcast_S4x1024x1_S4x1024x2048_0_1_2 (refRs X))) (along (refNw Nw)))
    (alongB (addf (F := Ideal) (φ := .f32) (broadcastInDim S4x1x2048 ![] bcast_S_S4x1x2048 (constant (F := Ideal) S_ .f32 0x3F800000#32))
      (refScale Cc Wa Ba)))) (alongB (refShift Cc Wa Ba))

theorem refH_apply (b : Fin 4) (l : Fin 1024) (d : Fin 2048) : refH X Cc Wa Ba Nw (ix3 b l d) = hv X Cc Wa Ba Nw b l d := by
  unfold refH hv
  have hr : broadcastInDim S4x1024x2048 ![0, 1, 2] bcast_S4x1024x1_S4x1024x2048_0_1_2 (refRs X) (ix3 b l d) = rsv X b l :=
    (broadcastInDim_apply _ bcast_S4x1024x1_S4x1024x2048_0_1_2 _ (ix3 b l d) (ix3 b l (0 : Fin 1)) fun a => by
      match a with | 0 => rfl | 1 => rfl | 2 => rfl).trans (refRs_apply X b l)
  have hn := (along_apply (refNw Nw) b l d).trans (refNw_apply Nw d)
  have hs := (alongB_apply (refShift Cc Wa Ba) b l d).trans (refShift_apply Cc Wa Ba b d)
  have hc : alongB (addf (F := Ideal) (φ := .f32) (broadcastInDim S4x1x2048 ![] bcast_S_S4x1x2048 (constant (F := Ideal) S_ .f32 0x3F800000#32))
      (refScale Cc Wa Ba)) (ix3 b l d) = (1 : EReal) + modv Cc Wa Ba b ⟨2048 + d.val, by have := d.isLt; omega⟩ := by
    rw [alongB_apply]
    show Ideal.ofBits .f32 0x3F800000#32 + (refScale Cc Wa Ba (ix3 b (0 : Fin 1) d) : EReal) = _
    rw [Ideal.ofBits_one_f32, refScale_apply]
  rw [← hr, ← hn, ← hs, ← hc]
  rfl

def refWi : (⟨S2048x3584, .f32⟩ : BufTy).Contents (Elt Ideal) := shapeCast _ Wi shapeCasts_S1x2048x3584_S2048x3584
theorem refWi_apply (d : Fin 2048) (e : Fin 3584) : refWi Wi (ix2 d e) = Wi (ix3 (0 : Fin 1) d e) := by
  unfold refWi
  refine shapeCast_apply Wi shapeCasts_S1x2048x3584_S2048x3584 _ _ ?_
  rw [Shape.rowMajor_val_three, Shape.rowMajor_val_two]
  show (0 * 2048 + d.val) * 3584 + e.val = d.val * 3584 + e.val
  omega

def refZ : (⟨S4x1024x3584, .f32⟩ : BufTy).Contents (Elt Ideal) :=
  Host.dotGeneral (F := Ideal) (φ₁ := .f32) (φ₂ := .f32) dot_S4x1024x2048_S2048x3584_S4x1024x3584_2_0_01_1_n_n none
    (refH X Cc Wa Ba Nw) (refWi Wi)

theorem proj_apply (A : (⟨S4x1024x2048, .f32⟩ : BufTy).Contents (Elt Ideal)) (B : (⟨S2048x3584, .f32⟩ : BufTy).Contents (Elt Ideal))
    (b : Fin 4) (l : Fin 1024) (e : Fin 3584) :
    Host.dotGeneral (F := Ideal) (φ₁ := .f32) (φ₂ := .f32) dot_S4x1024x2048_S2048x3584_S4x1024x3584_2_0_01_1_n_n none A B (ix3 b l e)
      = ∑ d : Fin 2048, (A (ix3 b l d) : EReal) * B (ix2 d e) := by
  refine (Ideal.matmul_apply₁_of dot_S4x1024x2048_S2048x3584_S4x1024x3584_2_0_01_1_n_n (a := 2) rfl (K := 2048) rfl A B (fun _ => 0)
    (ix3 b l e) (fun d => ix3 b l d) (fun d => ix2 d e) (fun d => ?_) (fun d => ?_)).trans (zero_add _)
  · funext a
    match a with
    | 0 => rfl
    | 1 => rfl
    | 2 => rfl
  · funext a
    match a with
    | 0 => rfl
    | 1 => rfl

theorem refZ_apply (b : Fin 4) (l : Fin 1024) (e : Fin 3584) : refZ X Cc Wa Ba Nw Wi (ix3 b l e) = zv X Cc Wa Ba Nw Wi b l e := by
  unfold refZ zv
  rw [proj_apply]
  exact Finset.sum_congr rfl fun d _ => by rw [refH_apply, refWi_apply]

end Ref

end Cert.Lat

end
-- ==== Proof.LTurn.lean ====
module

public import proofs.«01_k».proof.Proof.LSpec

@[expose] public section

noncomputable section

namespace Cert.Lat

open Cert.TurnedIdeal Cert.TurnedIdeal.Gen
open Idealize.ShloMosaic hiding ix1 ix2 ix3 ix4 ix5
open Idealize.ShloMosaic.TcCoe Idealize.ShloMosaic.ValueIdx Idealize.SL.Sem
open scoped BigOperators

/-! ## Turning a head by a token's position -/

/-- The angles' rates. -/
def frq : S32.Idx → EReal :=
  Host.powf (F := Ideal) (φ := .f32) (broadcastInDim S32 ![] bcast_S_S32 (constant (F := Ideal) S_ .f32 0x461C4000#32))
    (Host.divf (F := Ideal) (φ := .f32) (Host.negf (F := Ideal) (φ := .f32) (addf (F := Ideal) (φ := .f32)
      (broadcastInDim S32 ![] bcast_S_S32 (constant (F := Ideal) S_ .f32 0x00000000#32))
      (mulf (F := Ideal) (φ := .f32) (broadcastInDim S32 ![] bcast_S_S32 (constant (F := Ideal) S_ .f32 0x40000000#32))
        (sitofp (F := Ideal) .f32 (iotaInDim S32 32 0)))))
      (broadcastInDim S32 ![] bcast_S_S32 (constant (F := Ideal) S_ .f32 0x42800000#32)))

/-- A whole number as a real. -/
def posn (n : Nat) : EReal := FloatOps.sitofp (F := Ideal) .f32 (BitVec.ofNat 32 n)

/-- The angle token `l` turns column `g` by: its row in a head's first half, its column in the second. -/
def angle (l g : Nat) : EReal :=
  posn (if g % 128 < 64 then l / 64 else l % 64) * frq (ix1 ⟨g % 32, Nat.mod_lt _ (by decide)⟩)

/-- Column `g` of a turned row. -/
def turn (x : Nat → EReal) (a : EReal) (g : Nat) : EReal :=
  if g % 64 < 32 then x g * Ideal.cos a - x (g + 32) * Ideal.sin a else x g * Ideal.cos a + x (g - 32) * Ideal.sin a

/-! ### The reference's positions and angles -/

def refRow : (⟨S1024, .i32⟩ : BufTy).Contents (Elt Ideal) :=
  shapeCast S1024 (broadcastInDim S16x64 ![0] bcast_S16_S16x64_0 (iotaInDim S16 32 0)) shapeCasts_S16x64_S1024
def refCol : (⟨S1024, .i32⟩ : BufTy).Contents (Elt Ideal) :=
  shapeCast S1024 (broadcastInDim S16x64 ![0, 1] bcast_S1x64_S16x64_0_1 (shapeCast S1x64 (iotaInDim S64 32 0) shapeCasts_S64_S1x64))
    shapeCasts_S16x64_S1024

theorem refRow_apply (l : Fin 1024) : refRow (ix1 l) = BitVec.ofNat 32 (l.val / 64) := by
  unfold refRow
  refine (shapeCast_apply _ shapeCasts_S16x64_S1024 _ (ix2 ⟨l.val / 64, by have := l.isLt; omega⟩ ⟨l.val % 64, Nat.mod_lt _ (by decide)⟩) ?_).trans ?_
  · rw [Shape.rowMajor_val_one, Shape.rowMajor_val_two]
    show l.val / 64 * 64 + l.val % 64 = l.val
    omega
  exact (broadcastInDim_apply _ bcast_S16_S16x64_0 _ _ (ix1 ⟨l.val / 64, by have := l.isLt; omega⟩) fun a => by match a with | 0 => rfl).trans rfl

theorem refCol_apply (l : Fin 1024) : refCol (ix1 l) = BitVec.ofNat 32 (l.val % 64) := by
  unfold refCol
  refine (shapeCast_apply _ shapeCasts_S16x64_S1024 _ (ix2 ⟨l.val / 64, by have := l.isLt; omega⟩ ⟨l.val % 64, Nat.mod_lt _ (by decide)⟩) ?_).trans ?_
  · rw [Shape.rowMajor_val_one, Shape.rowMajor_val_two]
    show l.val / 64 * 64 + l.val % 64 = l.val
    omega
  refine (broadcastInDim_apply _ bcast_S1x64_S16x64_0_1 _ _ (ix2 (0 : Fin 1) ⟨l.val % 64, Nat.mod_lt _ (by decide)⟩) fun a => by
    match a with | 0 => rfl | 1 => rfl).trans ?_
  refine (shapeCast_apply _ shapeCasts_S64_S1x64 _ (ix1 ⟨l.val % 64, Nat.mod_lt _ (by decide)⟩) ?_).trans rfl
  rw [Shape.rowMajor_val_one, Shape.rowMajor_val_two]
  show l.val % 64 = 0 * 64 + l.val % 64
  omega

/-- The angles of the tokens at positions `p`. -/
def refAng (p : (⟨S1024, .i32⟩ : BufTy).Contents (Elt Ideal)) : (⟨S1x1024x1x32, .f32⟩ : BufTy).Contents (Elt Ideal) :=
  shapeCast S1x1024x1x32 (mulf (F := Ideal) (φ := .f32)
    (broadcastInDim S1024x32 ![0, 1] bcast_S1024x1_S1024x32_0_1 (broadcastInDim S1024x1 ![0] bcast_S1024_S1024x1_0 (sitofp (F := Ideal) .f32 p)))
    (broadcastInDim S1024x32 ![0, 1] bcast_S1x32_S1024x32_0_1 (broadcastInDim S1x32 ![1] bcast_S32_S1x32_1 frq))) shapeCasts_S1024x32_S1x1024x1x32

theorem refAng_apply (p : (⟨S1024, .i32⟩ : BufTy).Contents (Elt Ideal)) (l : Fin 1024) (j : Fin 32) :
    refAng p (ix4 (0 : Fin 1) l (0 : Fin 1) j) = FloatOps.sitofp (F := Ideal) .f32 (p (ix1 l)) * frq (ix1 j) := by
  unfold refAng
  refine (shapeCast_apply _ shapeCasts_S1024x32_S1x1024x1x32 _ (ix2 l j) ?_).trans ?_
  · rw [Shape.rowMajor_val_two, Shape.rowMajor_val_four]
    show l.val * 32 + j.val = ((0 * 1024 + l.val) * 1 + 0) * 32 + j.val
    omega
  refine congrArg₂ (fun a b : EReal => a * b) ?_ ?_
  · refine (broadcastInDim_apply _ bcast_S1024x1_S1024x32_0_1 _ _ (ix2 l (0 : Fin 1)) fun a => by match a with | 0 => rfl | 1 => rfl).trans ?_
    exact (broadcastInDim_apply _ bcast_S1024_S1024x1_0 _ _ (ix1 l) fun a => by match a with | 0 => rfl).trans rfl
  · refine (broadcastInDim_apply _ bcast_S1x32_S1024x32_0_1 _ _ (ix2 (0 : Fin 1) j) fun a => by match a with | 0 => rfl | 1 => rfl).trans ?_
    exact broadcastInDim_apply _ bcast_S32_S1x32_1 _ _ (ix1 j) fun a => by match a with | 0 => rfl

/-! ### A projection of 8 heads turned -/

def lay8 (v : (⟨S1x1024x1x32, .f32⟩ : BufTy).Contents (Elt Ideal)) : (⟨S4x1024x8x32, .f32⟩ : BufTy).Contents (Elt Ideal) :=
  broadcastInDim S4x1024x8x32 ![0, 1, 2, 3] bcast_S1x1024x1x32_S4x1024x8x32_0_1_2_3 v
theorem lay8_apply (v : (⟨S1x1024x1x32, .f32⟩ : BufTy).Contents (Elt Ideal)) (b : Fin 4) (l : Fin 1024) (h : Fin 8) (j : Fin 32) :
    lay8 v (ix4 b l h j) = v (ix4 (0 : Fin 1) l (0 : Fin 1) j) :=
  broadcastInDim_apply _ bcast_S1x1024x1x32_S4x1024x8x32_0_1_2_3 v _ _ fun a => by match a with | 0 => rfl | 1 => rfl | 2 => rfl | 3 => rfl

def lo8 (x : (⟨S4x1024x8x64, .f32⟩ : BufTy).Contents (Elt Ideal)) : (⟨S4x1024x8x32, .f32⟩ : BufTy).Contents (Elt Ideal) :=
  extractStridedSlice S4x1024x8x32 ![0, 0, 0, 0] x slices_S4x1024x8x64_S4x1024x8x32_0_0_0_0
def hi8 (x : (⟨S4x1024x8x64, .f32⟩ : BufTy).Contents (Elt Ideal)) : (⟨S4x1024x8x32, .f32⟩ : BufTy).Contents (Elt Ideal) :=
  extractStridedSlice S4x1024x8x32 ![0, 0, 0, 32] x slices_S4x1024x8x64_S4x1024x8x32_0_0_0_32
theorem lo8_apply (x : (⟨S4x1024x8x64, .f32⟩ : BufTy).Contents (Elt Ideal)) (b : Fin 4) (l : Fin 1024) (h : Fin 8) (j : Fin 32) :
    lo8 x (ix4 b l h j) = x (ix4 b l h ⟨j.val, by have := j.isLt; omega⟩) :=
  extractStridedSlice_apply _ x slices_S4x1024x8x64_S4x1024x8x32_0_0_0_0 _ _ fun a => by
    match a with
    | 0 => show b.val = 0 + b.val; omega
    | 1 => show l.val = 0 + l.val; omega
    | 2 => show h.val = 0 + h.val; omega
    | 3 => show j.val = 0 + j.val; omega
theorem hi8_apply (x : (⟨S4x1024x8x64, .f32⟩ : BufTy).Contents (Elt Ideal)) (b : Fin 4) (l : Fin 1024) (h : Fin 8) (j : Fin 32) :
    hi8 x (ix4 b l h j) = x (ix4 b l h ⟨32 + j.val, by have := j.isLt; omega⟩) :=
  extractStridedSlice_apply _ x slices_S4x1024x8x64_S4x1024x8x32_0_0_0_32 _ _ fun a => by
    match a with
    | 0 => show b.val = 0 + b.val; omega
    | 1 => show l.val = 0 + l.val; omega
    | 2 => show h.val = 0 + h.val; omega
    | 3 => rfl

/-- Half a head turned. -/
def half8 (x : (⟨S4x1024x8x64, .f32⟩ : BufTy).Contents (Elt Ideal)) (a : (⟨S1x1024x1x32, .f32⟩ : BufTy).Contents (Elt Ideal)) :
    (⟨S4x1024x8x64, .f32⟩ : BufTy).Contents (Elt Ideal) :=
  concatenate S4x1024x8x64 3
    [⟨S4x1024x8x32, subf (F := Ideal) (φ := .f32) (mulf (F := Ideal) (φ := .f32) (lo8 x) (lay8 (Host.cos (F := Ideal) (φ := .f32) a)))
      (mulf (F := Ideal) (φ := .f32) (hi8 x) (lay8 (Host.sin (F := Ideal) (φ := .f32) a)))⟩,
     ⟨S4x1024x8x32, addf (F := Ideal) (φ := .f32) (mulf (F := Ideal) (φ := .f32) (hi8 x) (lay8 (Host.cos (F := Ideal) (φ := .f32) a)))
      (mulf (F := Ideal) (φ := .f32) (lo8 x) (lay8 (Host.sin (F := Ideal) (φ := .f32) a)))⟩]
    concatenates_S4x1024x8x32_S4x1024x8x32_S4x1024x8x64_d3

theorem half8_lo (x : (⟨S4x1024x8x64, .f32⟩ : BufTy).Contents (Elt Ideal)) (a : (⟨S1x1024x1x32, .f32⟩ : BufTy).Contents (Elt Ideal))
    (b : Fin 4) (l : Fin 1024) (h : Fin 8) (j : Fin 32) :
    half8 x a (ix4 b l h ⟨j.val, by have := j.isLt; omega⟩)
      = (x (ix4 b l h ⟨j.val, by have := j.isLt; omega⟩) : EReal) * Ideal.cos (a (ix4 (0 : Fin 1) l (0 : Fin 1) j))
        - (x (ix4 b l h ⟨32 + j.val, by have := j.isLt; omega⟩) : EReal) * Ideal.sin (a (ix4 (0 : Fin 1) l (0 : Fin 1) j)) := by
  unfold half8
  refine (concatenate_apply_piece (3 : Fin S4x1024x8x64.rank) [⟨S4x1024x8x32, _⟩, ⟨S4x1024x8x32, _⟩] concatenates_S4x1024x8x32_S4x1024x8x32_S4x1024x8x64_d3
    (ix4 b l h ⟨j.val, by have := j.isLt; omega⟩) 0 (Nat.zero_lt_succ _) S4x1024x8x32 _ rfl rfl 0 rfl (ix4 b l h j)
    (fun c hc => by match c, hc with | 0, _ => rfl | 1, _ => rfl | 2, _ => rfl | 3, hc => exact absurd rfl hc) (by
      show 0 + j.val = j.val
      omega)).trans ?_
  rw [← lo8_apply x b l h j, ← hi8_apply x b l h j, ← lay8_apply a b l h j]
  refine congrArg₂ (fun a b : EReal => a - b) (congrArg₂ (fun a b : EReal => a * b) rfl ?_) (congrArg₂ (fun a b : EReal => a * b) rfl ?_)
  · rw [lay8_apply, lay8_apply]; rfl
  · rw [lay8_apply, lay8_apply]; rfl

theorem half8_hi (x : (⟨S4x1024x8x64, .f32⟩ : BufTy).Contents (Elt Ideal)) (a : (⟨S1x1024x1x32, .f32⟩ : BufTy).Contents (Elt Ideal))
    (b : Fin 4) (l : Fin 1024) (h : Fin 8) (j : Fin 32) :
    half8 x a (ix4 b l h ⟨32 + j.val, by have := j.isLt; omega⟩)
      = (x (ix4 b l h ⟨32 + j.val, by have := j.isLt; omega⟩) : EReal) * Ideal.cos (a (ix4 (0 : Fin 1) l (0 : Fin 1) j))
        + (x (ix4 b l h ⟨j.val, by have := j.isLt; omega⟩) : EReal) * Ideal.sin (a (ix4 (0 : Fin 1) l (0 : Fin 1) j)) := by
  unfold half8
  refine (concatenate_apply_piece (3 : Fin S4x1024x8x64.rank) [⟨S4x1024x8x32, _⟩, ⟨S4x1024x8x32, _⟩] concatenates_S4x1024x8x32_S4x1024x8x32_S4x1024x8x64_d3
    (ix4 b l h ⟨32 + j.val, by have := j.isLt; omega⟩) 1 (Nat.succ_lt_succ (Nat.zero_lt_succ _)) S4x1024x8x32 _ rfl rfl 32 rfl (ix4 b l h j)
    (fun c hc => by match c, hc with | 0, _ => rfl | 1, _ => rfl | 2, _ => rfl | 3, hc => exact absurd rfl hc) rfl).trans ?_
  rw [← lo8_apply x b l h j, ← hi8_apply x b l h j, ← lay8_apply a b l h j]
  refine congrArg₂ (fun a b : EReal => a + b) (congrArg₂ (fun a b : EReal => a * b) rfl ?_) (congrArg₂ (fun a b : EReal => a * b) rfl ?_)
  · rw [lay8_apply, lay8_apply]; rfl
  · rw [lay8_apply, lay8_apply]; rfl

/-- The heads of a projection. -/
def split8 (x : (⟨S4x1024x1024, .f32⟩ : BufTy).Contents (Elt Ideal)) : (⟨S4x1024x8x128, .f32⟩ : BufTy).Contents (Elt Ideal) :=
  shapeCast S4x1024x8x128 x shapeCasts_S4x1024x1024_S4x1024x8x128
def first8 (x : (⟨S4x1024x1024, .f32⟩ : BufTy).Contents (Elt Ideal)) : (⟨S4x1024x8x64, .f32⟩ : BufTy).Contents (Elt Ideal) :=
  extractStridedSlice S4x1024x8x64 ![0, 0, 0, 0] (split8 x) slices_S4x1024x8x128_S4x1024x8x64_0_0_0_0
def second8 (x : (⟨S4x1024x1024, .f32⟩ : BufTy).Contents (Elt Ideal)) : (⟨S4x1024x8x64, .f32⟩ : BufTy).Contents (Elt Ideal) :=
  extractStridedSlice S4x1024x8x64 ![0, 0, 0, 64] (split8 x) slices_S4x1024x8x128_S4x1024x8x64_0_0_0_64

theorem split8_apply (x : (⟨S4x1024x1024, .f32⟩ : BufTy).Contents (Elt Ideal)) (b : Fin 4) (l : Fin 1024) (h : Fin 8) (j : Fin 128) :
    split8 x (ix4 b l h j) = x (ix3 b l ⟨h.val * 128 + j.val, by have := h.isLt; have := j.isLt; omega⟩) := by
  unfold split8
  refine shapeCast_apply x shapeCasts_S4x1024x1024_S4x1024x8x128 _ _ ?_
  rw [Shape.rowMajor_val_three, Shape.rowMajor_val_four]
  show (b.val * 1024 + l.val) * 1024 + (h.val * 128 + j.val) = ((b.val * 1024 + l.val) * 8 + h.val) * 128 + j.val
  omega
theorem first8_apply (x : (⟨S4x1024x1024, .f32⟩ : BufTy).Contents (Elt Ideal)) (b : Fin 4) (l : Fin 1024) (h : Fin 8) (j : Fin 64) :
    first8 x (ix4 b l h j) = x (ix3 b l ⟨h.val * 128 + j.val, by have := h.isLt; have := j.isLt; omega⟩) := by
  unfold first8
  refine (extractStridedSlice_apply _ _ slices_S4x1024x8x128_S4x1024x8x64_0_0_0_0 _ (ix4 b l h ⟨j.val, by have := j.isLt; omega⟩) fun a => ?_).trans
    (split8_apply x b l h _)
  match a with
  | 0 => show b.val = 0 + b.val; omega
  | 1 => show l.val = 0 + l.val; omega
  | 2 => show h.val = 0 + h.val; omega
  | 3 => show j.val = 0 + j.val; omega
theorem second8_apply (x : (⟨S4x1024x1024, .f32⟩ : BufTy).Contents (Elt Ideal)) (b : Fin 4) (l : Fin 1024) (h : Fin 8) (j : Fin 64) :
    second8 x (ix4 b l h j) = x (ix3 b l ⟨h.val * 128 + (64 + j.val), by have := h.isLt; have := j.isLt; omega⟩) := by
  unfold second8
  refine (extractStridedSlice_apply _ _ slices_S4x1024x8x128_S4x1024x8x64_0_0_0_64 _ (ix4 b l h ⟨64 + j.val, by have := j.isLt; omega⟩) fun a => ?_).trans
    (split8_apply x b l h _)
  match a with
  | 0 => show b.val = 0 + b.val; omega
  | 1 => show l.val = 0 + l.val; omega
  | 2 => show h.val = 0 + h.val; omega
  | 3 => rfl

/-- The projection turned, a token a row. -/
def rope8 (x : (⟨S4x1024x1024, .f32⟩ : BufTy).Contents (Elt Ideal)) : (⟨S4096x1024, .f32⟩ : BufTy).Contents (Elt Ideal) :=
  shapeCast S4096x1024 (concatenate S4x1024x8x128 3
    [⟨S4x1024x8x64, half8 (first8 x) (refAng refRow)⟩, ⟨S4x1024x8x64, half8 (second8 x) (refAng refCol)⟩]
    concatenates_S4x1024x8x64_S4x1024x8x64_S4x1024x8x128_d3) shapeCasts_S4x1024x8x128_S4096x1024

/-- A row of the projection by column number. -/
def row8 (x : (⟨S4x1024x1024, .f32⟩ : BufTy).Contents (Elt Ideal)) (b : Fin 4) (l : Fin 1024) (g : Nat) : EReal :=
  if h : g < 1024 then x (ix3 b l ⟨g, h⟩) else 0

theorem rope8_apply (x : (⟨S4x1024x1024, .f32⟩ : BufTy).Contents (Elt Ideal)) (b : Fin 4) (l : Fin 1024) (g : Fin 1024) :
    rope8 x (ix2 ⟨b.val * 1024 + l.val, by have := b.isLt; have := l.isLt; omega⟩ g) = turn (row8 x b l) (angle l.val g.val) g.val := by
  have hg := g.isLt
  unfold rope8
  refine (shapeCast_apply _ shapeCasts_S4x1024x8x128_S4096x1024 _ (ix4 b l (⟨g.val / 128, by omega⟩ : Fin 8) (⟨g.val % 128, Nat.mod_lt _ (by decide)⟩ : Fin 128)) ?_).trans ?_
  · rw [Shape.rowMajor_val_two, Shape.rowMajor_val_four]
    show ((b.val * 1024 + l.val) * 8 + g.val / 128) * 128 + g.val % 128 = (b.val * 1024 + l.val) * 1024 + g.val
    omega
  unfold turn angle
  by_cases h1 : g.val % 128 < 64
  · refine (concatenate_apply_piece (3 : Fin S4x1024x8x128.rank) [⟨S4x1024x8x64, _⟩, ⟨S4x1024x8x64, _⟩] concatenates_S4x1024x8x64_S4x1024x8x64_S4x1024x8x128_d3
      _ 0 (Nat.zero_lt_succ _) S4x1024x8x64 _ rfl rfl 0 rfl (ix4 b l (⟨g.val / 128, by omega⟩ : Fin 8) (⟨g.val % 128, h1⟩ : Fin 64))
      (fun c hc => by match c, hc with | 0, _ => rfl | 1, _ => rfl | 2, _ => rfl | 3, hc => exact absurd rfl hc) (by
        show 0 + g.val % 128 = g.val % 128
        omega)).trans ?_
    rw [if_pos h1]
    by_cases h2 : g.val % 64 < 32
    · rw [if_pos h2]
      have e : (ix4 b l (⟨g.val / 128, by omega⟩ : Fin 8) (⟨g.val % 128, h1⟩ : Fin 64) : S4x1024x8x64.Idx)
          = ix4 b l (⟨g.val / 128, by omega⟩ : Fin 8) ⟨(⟨g.val % 32, Nat.mod_lt _ (by decide)⟩ : Fin 32).val, by show g.val % 32 < 64; omega⟩ :=
        congrArg (fun j => ix4 b l (⟨g.val / 128, by omega⟩ : Fin 8) j) (Fin.ext (show g.val % 128 = g.val % 32 by omega))
      rw [e]
      refine (half8_lo _ _ b l _ _).trans ?_
      rw [first8_apply, first8_apply, refAng_apply, refRow_apply]
      unfold row8 posn
      rw [dif_pos hg, dif_pos (show g.val + 32 < 1024 by omega)]
      refine congrArg₂ (fun a b : EReal => a - b) (congrArg (fun a : EReal => a * _) (congrArg x ?_)) (congrArg (fun a : EReal => a * _) (congrArg x ?_))
      · exact congrArg (fun j => ix3 b l j) (Fin.ext (show g.val / 128 * 128 + g.val % 32 = g.val by omega))
      · exact congrArg (fun j => ix3 b l j) (Fin.ext (show g.val / 128 * 128 + (32 + g.val % 32) = g.val + 32 by omega))
    · rw [if_neg h2]
      have e : (ix4 b l (⟨g.val / 128, by omega⟩ : Fin 8) (⟨g.val % 128, h1⟩ : Fin 64) : S4x1024x8x64.Idx)
          = ix4 b l (⟨g.val / 128, by omega⟩ : Fin 8) ⟨32 + (⟨g.val % 32, Nat.mod_lt _ (by decide)⟩ : Fin 32).val, by show 32 + g.val % 32 < 64; omega⟩ :=
        congrArg (fun j => ix4 b l (⟨g.val / 128, by omega⟩ : Fin 8) j) (Fin.ext (show g.val % 128 = 32 + g.val % 32 by omega))
      rw [e]
      refine (half8_hi _ _ b l _ _).trans ?_
      rw [first8_apply, first8_apply, refAng_apply, refRow_apply]
      unfold row8 posn
      rw [dif_pos hg, dif_pos (show g.val - 32 < 1024 by omega)]
      refine congrArg₂ (fun a b : EReal => a + b) (congrArg (fun a : EReal => a * _) (congrArg x ?_)) (congrArg (fun a : EReal => a * _) (congrArg x ?_))
      · exact congrArg (fun j => ix3 b l j) (Fin.ext (show g.val / 128 * 128 + (32 + g.val % 32) = g.val by omega))
      · exact congrArg (fun j => ix3 b l j) (Fin.ext (show g.val / 128 * 128 + g.val % 32 = g.val - 32 by omega))
  · refine (concatenate_apply_piece (3 : Fin S4x1024x8x128.rank) [⟨S4x1024x8x64, _⟩, ⟨S4x1024x8x64, _⟩] concatenates_S4x1024x8x64_S4x1024x8x64_S4x1024x8x128_d3
      _ 1 (Nat.succ_lt_succ (Nat.zero_lt_succ _)) S4x1024x8x64 _ rfl rfl 64 rfl (ix4 b l (⟨g.val / 128, by omega⟩ : Fin 8) (⟨g.val % 128 - 64, by omega⟩ : Fin 64))
      (fun c hc => by match c, hc with | 0, _ => rfl | 1, _ => rfl | 2, _ => rfl | 3, hc => exact absurd rfl hc) (by
        show 64 + (g.val % 128 - 64) = g.val % 128
        omega)).trans ?_
    rw [if_neg h1]
    by_cases h2 : g.val % 64 < 32
    · rw [if_pos h2]
      have e : (ix4 b l (⟨g.val / 128, by omega⟩ : Fin 8) (⟨g.val % 128 - 64, by omega⟩ : Fin 64) : S4x1024x8x64.Idx)
          = ix4 b l (⟨g.val / 128, by omega⟩ : Fin 8) ⟨(⟨g.val % 32, Nat.mod_lt _ (by decide)⟩ : Fin 32).val, by show g.val % 32 < 64; omega⟩ :=
        congrArg (fun j => ix4 b l (⟨g.val / 128, by omega⟩ : Fin 8) j) (Fin.ext (show g.val % 128 - 64 = g.val % 32 by omega))
      rw [e]
      refine (half8_lo _ _ b l _ _).trans ?_
      rw [second8_apply, second8_apply, refAng_apply, refCol_apply]
      unfold row8 posn
      rw [dif_pos hg, dif_pos (show g.val + 32 < 1024 by omega)]
      refine congrArg₂ (fun a b : EReal => a - b) (congrArg (fun a : EReal => a * _) (congrArg x ?_)) (congrArg (fun a : EReal => a * _) (congrArg x ?_))
      · exact congrArg (fun j => ix3 b l j) (Fin.ext (show g.val / 128 * 128 + (64 + g.val % 32) = g.val by omega))
      · exact congrArg (fun j => ix3 b l j) (Fin.ext (show g.val / 128 * 128 + (64 + (32 + g.val % 32)) = g.val + 32 by omega))
    · rw [if_neg h2]
      have e : (ix4 b l (⟨g.val / 128, by omega⟩ : Fin 8) (⟨g.val % 128 - 64, by omega⟩ : Fin 64) : S4x1024x8x64.Idx)
          = ix4 b l (⟨g.val / 128, by omega⟩ : Fin 8) ⟨32 + (⟨g.val % 32, Nat.mod_lt _ (by decide)⟩ : Fin 32).val, by show 32 + g.val % 32 < 64; omega⟩ :=
        congrArg (fun j => ix4 b l (⟨g.val / 128, by omega⟩ : Fin 8) j) (Fin.ext (show g.val % 128 - 64 = 32 + g.val % 32 by omega))
      rw [e]
      refine (half8_hi _ _ b l _ _).trans ?_
      rw [second8_apply, second8_apply, refAng_apply, refCol_apply]
      unfold row8 posn
      rw [dif_pos hg, dif_pos (show g.val - 32 < 1024 by omega)]
      refine congrArg₂ (fun a b : EReal => a + b) (congrArg (fun a : EReal => a * _) (congrArg x ?_)) (congrArg (fun a : EReal => a * _) (congrArg x ?_))
      · exact congrArg (fun j => ix3 b l j) (Fin.ext (show g.val / 128 * 128 + (64 + (32 + g.val % 32)) = g.val by omega))
      · exact congrArg (fun j => ix3 b l j) (Fin.ext (show g.val / 128 * 128 + (64 + g.val % 32) = g.val - 32 by omega))

/-! ### A projection of 2 heads turned -/

def lay2 (v : (⟨S1x1024x1x32, .f32⟩ : BufTy).Contents (Elt Ideal)) : (⟨S4x1024x2x32, .f32⟩ : BufTy).Contents (Elt Ideal) :=
  broadcastInDim S4x1024x2x32 ![0, 1, 2, 3] bcast_S1x1024x1x32_S4x1024x2x32_0_1_2_3 v
theorem lay2_apply (v : (⟨S1x1024x1x32, .f32⟩ : BufTy).Contents (Elt Ideal)) (b : Fin 4) (l : Fin 1024) (h : Fin 2) (j : Fin 32) :
    lay2 v (ix4 b l h j) = v (ix4 (0 : Fin 1) l (0 : Fin 1) j) :=
  broadcastInDim_apply _ bcast_S1x1024x1x32_S4x1024x2x32_0_1_2_3 v _ _ fun a => by match a with | 0 => rfl | 1 => rfl | 2 => rfl | 3 => rfl

def lo2 (x : (⟨S4x1024x2x64, .f32⟩ : BufTy).Contents (Elt Ideal)) : (⟨S4x1024x2x32, .f32⟩ : BufTy).Contents (Elt Ideal) :=
  extractStridedSlice S4x1024x2x32 ![0, 0, 0, 0] x slices_S4x1024x2x64_S4x1024x2x32_0_0_0_0
def hi2 (x : (⟨S4x1024x2x64, .f32⟩ : BufTy).Contents (Elt Ideal)) : (⟨S4x1024x2x32, .f32⟩ : BufTy).Contents (Elt Ideal) :=
  extractStridedSlice S4x1024x2x32 ![0, 0, 0, 32] x slices_S4x1024x2x64_S4x1024x2x32_0_0_0_32
theorem lo2_apply (x : (⟨S4x1024x2x64, .f32⟩ : BufTy).Contents (Elt Ideal)) (b : Fin 4) (l : Fin 1024) (h : Fin 2) (j : Fin 32) :
    lo2 x (ix4 b l h j) = x (ix4 b l h ⟨j.val, by have := j.isLt; omega⟩) :=
  extractStridedSlice_apply _ x slices_S4x1024x2x64_S4x1024x2x32_0_0_0_0 _ _ fun a => by
    match a with
    | 0 => show b.val = 0 + b.val; omega
    | 1 => show l.val = 0 + l.val; omega
    | 2 => show h.val = 0 + h.val; omega
    | 3 => show j.val = 0 + j.val; omega
theorem hi2_apply (x : (⟨S4x1024x2x64, .f32⟩ : BufTy).Contents (Elt Ideal)) (b : Fin 4) (l : Fin 1024) (h : Fin 2) (j : Fin 32) :
    hi2 x (ix4 b l h j) = x (ix4 b l h ⟨32 + j.val, by have := j.isLt; omega⟩) :=
  extractStridedSlice_apply _ x slices_S4x1024x2x64_S4x1024x2x32_0_0_0_32 _ _ fun a => by
    match a with
    | 0 => show b.val = 0 + b.val; omega
    | 1 => show l.val = 0 + l.val; omega
    | 2 => show h.val = 0 + h.val; omega
    | 3 => rfl

/-- Half a head turned. -/
def half2 (x : (⟨S4x1024x2x64, .f32⟩ : BufTy).Contents (Elt Ideal)) (a : (⟨S1x1024x1x32, .f32⟩ : BufTy).Contents (Elt Ideal)) :
    (⟨S4x1024x2x64, .f32⟩ : BufTy).Contents (Elt Ideal) :=
  concatenate S4x1024x2x64 3
    [⟨S4x1024x2x32, subf (F := Ideal) (φ := .f32) (mulf (F := Ideal) (φ := .f32) (lo2 x) (lay2 (Host.cos (F := Ideal) (φ := .f32) a)))
      (mulf (F := Ideal) (φ := .f32) (hi2 x) (lay2 (Host.sin (F := Ideal) (φ := .f32) a)))⟩,
     ⟨S4x1024x2x32, addf (F := Ideal) (φ := .f32) (mulf (F := Ideal) (φ := .f32) (hi2 x) (lay2 (Host.cos (F := Ideal) (φ := .f32) a)))
      (mulf (F := Ideal) (φ := .f32) (lo2 x) (lay2 (Host.sin (F := Ideal) (φ := .f32) a)))⟩]
    concatenates_S4x1024x2x32_S4x1024x2x32_S4x1024x2x64_d3

theorem half2_lo (x : (⟨S4x1024x2x64, .f32⟩ : BufTy).Contents (Elt Ideal)) (a : (⟨S1x1024x1x32, .f32⟩ : BufTy).Contents (Elt Ideal))
    (b : Fin 4) (l : Fin 1024) (h : Fin 2) (j : Fin 32) :
    half2 x a (ix4 b l h ⟨j.val, by have := j.isLt; omega⟩)
      = (x (ix4 b l h ⟨j.val, by have := j.isLt; omega⟩) : EReal) * Ideal.cos (a (ix4 (0 : Fin 1) l (0 : Fin 1) j))
        - (x (ix4 b l h ⟨32 + j.val, by have := j.isLt; omega⟩) : EReal) * Ideal.sin (a (ix4 (0 : Fin 1) l (0 : Fin 1) j)) := by
  unfold half2
  refine (concatenate_apply_piece (3 : Fin S4x1024x2x64.rank) [⟨S4x1024x2x32, _⟩, ⟨S4x1024x2x32, _⟩] concatenates_S4x1024x2x32_S4x1024x2x32_S4x1024x2x64_d3
    (ix4 b l h ⟨j.val, by have := j.isLt; omega⟩) 0 (Nat.zero_lt_succ _) S4x1024x2x32 _ rfl rfl 0 rfl (ix4 b l h j)
    (fun c hc => by match c, hc with | 0, _ => rfl | 1, _ => rfl | 2, _ => rfl | 3, hc => exact absurd rfl hc) (by
      show 0 + j.val = j.val
      omega)).trans ?_
  rw [← lo2_apply x b l h j, ← hi2_apply x b l h j, ← lay2_apply a b l h j]
  refine congrArg₂ (fun a b : EReal => a - b) (congrArg₂ (fun a b : EReal => a * b) rfl ?_) (congrArg₂ (fun a b : EReal => a * b) rfl ?_)
  · rw [lay2_apply, lay2_apply]; rfl
  · rw [lay2_apply, lay2_apply]; rfl

theorem half2_hi (x : (⟨S4x1024x2x64, .f32⟩ : BufTy).Contents (Elt Ideal)) (a : (⟨S1x1024x1x32, .f32⟩ : BufTy).Contents (Elt Ideal))
    (b : Fin 4) (l : Fin 1024) (h : Fin 2) (j : Fin 32) :
    half2 x a (ix4 b l h ⟨32 + j.val, by have := j.isLt; omega⟩)
      = (x (ix4 b l h ⟨32 + j.val, by have := j.isLt; omega⟩) : EReal) * Ideal.cos (a (ix4 (0 : Fin 1) l (0 : Fin 1) j))
        + (x (ix4 b l h ⟨j.val, by have := j.isLt; omega⟩) : EReal) * Ideal.sin (a (ix4 (0 : Fin 1) l (0 : Fin 1) j)) := by
  unfold half2
  refine (concatenate_apply_piece (3 : Fin S4x1024x2x64.rank) [⟨S4x1024x2x32, _⟩, ⟨S4x1024x2x32, _⟩] concatenates_S4x1024x2x32_S4x1024x2x32_S4x1024x2x64_d3
    (ix4 b l h ⟨32 + j.val, by have := j.isLt; omega⟩) 1 (Nat.succ_lt_succ (Nat.zero_lt_succ _)) S4x1024x2x32 _ rfl rfl 32 rfl (ix4 b l h j)
    (fun c hc => by match c, hc with | 0, _ => rfl | 1, _ => rfl | 2, _ => rfl | 3, hc => exact absurd rfl hc) rfl).trans ?_
  rw [← lo2_apply x b l h j, ← hi2_apply x b l h j, ← lay2_apply a b l h j]
  refine congrArg₂ (fun a b : EReal => a + b) (congrArg₂ (fun a b : EReal => a * b) rfl ?_) (congrArg₂ (fun a b : EReal => a * b) rfl ?_)
  · rw [lay2_apply, lay2_apply]; rfl
  · rw [lay2_apply, lay2_apply]; rfl

/-- The heads of a projection. -/
def split2 (x : (⟨S4x1024x256, .f32⟩ : BufTy).Contents (Elt Ideal)) : (⟨S4x1024x2x128, .f32⟩ : BufTy).Contents (Elt Ideal) :=
  shapeCast S4x1024x2x128 x shapeCasts_S4x1024x256_S4x1024x2x128
def first2 (x : (⟨S4x1024x256, .f32⟩ : BufTy).Contents (Elt Ideal)) : (⟨S4x1024x2x64, .f32⟩ : BufTy).Contents (Elt Ideal) :=
  extractStridedSlice S4x1024x2x64 ![0, 0, 0, 0] (split2 x) slices_S4x1024x2x128_S4x1024x2x64_0_0_0_0
def second2 (x : (⟨S4x1024x256, .f32⟩ : BufTy).Contents (Elt Ideal)) : (⟨S4x1024x2x64, .f32⟩ : BufTy).Contents (Elt Ideal) :=
  extractStridedSlice S4x1024x2x64 ![0, 0, 0, 64] (split2 x) slices_S4x1024x2x128_S4x1024x2x64_0_0_0_64

theorem split2_apply (x : (⟨S4x1024x256, .f32⟩ : BufTy).Contents (Elt Ideal)) (b : Fin 4) (l : Fin 1024) (h : Fin 2) (j : Fin 128) :
    split2 x (ix4 b l h j) = x (ix3 b l ⟨h.val * 128 + j.val, by have := h.isLt; have := j.isLt; omega⟩) := by
  unfold split2
  refine shapeCast_apply x shapeCasts_S4x1024x256_S4x1024x2x128 _ _ ?_
  rw [Shape.rowMajor_val_three, Shape.rowMajor_val_four]
  show (b.val * 1024 + l.val) * 256 + (h.val * 128 + j.val) = ((b.val * 1024 + l.val) * 2 + h.val) * 128 + j.val
  omega
theorem first2_apply (x : (⟨S4x1024x256, .f32⟩ : BufTy).Contents (Elt Ideal)) (b : Fin 4) (l : Fin 1024) (h : Fin 2) (j : Fin 64) :
    first2 x (ix4 b l h j) = x (ix3 b l ⟨h.val * 128 + j.val, by have := h.isLt; have := j.isLt; omega⟩) := by
  unfold first2
  refine (extractStridedSlice_apply _ _ slices_S4x1024x2x128_S4x1024x2x64_0_0_0_0 _ (ix4 b l h ⟨j.val, by have := j.isLt; omega⟩) fun a => ?_).trans
    (split2_apply x b l h _)
  match a with
  | 0 => show b.val = 0 + b.val; omega
  | 1 => show l.val = 0 + l.val; omega
  | 2 => show h.val = 0 + h.val; omega
  | 3 => show j.val = 0 + j.val; omega
theorem second2_apply (x : (⟨S4x1024x256, .f32⟩ : BufTy).Contents (Elt Ideal)) (b : Fin 4) (l : Fin 1024) (h : Fin 2) (j : Fin 64) :
    second2 x (ix4 b l h j) = x (ix3 b l ⟨h.val * 128 + (64 + j.val), by have := h.isLt; have := j.isLt; omega⟩) := by
  unfold second2
  refine (extractStridedSlice_apply _ _ slices_S4x1024x2x128_S4x1024x2x64_0_0_0_64 _ (ix4 b l h ⟨64 + j.val, by have := j.isLt; omega⟩) fun a => ?_).trans
    (split2_apply x b l h _)
  match a with
  | 0 => show b.val = 0 + b.val; omega
  | 1 => show l.val = 0 + l.val; omega
  | 2 => show h.val = 0 + h.val; omega
  | 3 => rfl

/-- The projection turned, a token a row. -/
def rope2 (x : (⟨S4x1024x256, .f32⟩ : BufTy).Contents (Elt Ideal)) : (⟨S4096x256, .f32⟩ : BufTy).Contents (Elt Ideal) :=
  shapeCast S4096x256 (concatenate S4x1024x2x128 3
    [⟨S4x1024x2x64, half2 (first2 x) (refAng refRow)⟩, ⟨S4x1024x2x64, half2 (second2 x) (refAng refCol)⟩]
    concatenates_S4x1024x2x64_S4x1024x2x64_S4x1024x2x128_d3) shapeCasts_S4x1024x2x128_S4096x256

/-- A row of the projection by column number. -/
def row2 (x : (⟨S4x1024x256, .f32⟩ : BufTy).Contents (Elt Ideal)) (b : Fin 4) (l : Fin 1024) (g : Nat) : EReal :=
  if h : g < 256 then x (ix3 b l ⟨g, h⟩) else 0

theorem rope2_apply (x : (⟨S4x1024x256, .f32⟩ : BufTy).Contents (Elt Ideal)) (b : Fin 4) (l : Fin 1024) (g : Fin 256) :
    rope2 x (ix2 ⟨b.val * 1024 + l.val, by have := b.isLt; have := l.isLt; omega⟩ g) = turn (row2 x b l) (angle l.val g.val) g.val := by
  have hg := g.isLt
  unfold rope2
  refine (shapeCast_apply _ shapeCasts_S4x1024x2x128_S4096x256 _ (ix4 b l (⟨g.val / 128, by omega⟩ : Fin 2) (⟨g.val % 128, Nat.mod_lt _ (by decide)⟩ : Fin 128)) ?_).trans ?_
  · rw [Shape.rowMajor_val_two, Shape.rowMajor_val_four]
    show ((b.val * 1024 + l.val) * 2 + g.val / 128) * 128 + g.val % 128 = (b.val * 1024 + l.val) * 256 + g.val
    omega
  unfold turn angle
  by_cases h1 : g.val % 128 < 64
  · refine (concatenate_apply_piece (3 : Fin S4x1024x2x128.rank) [⟨S4x1024x2x64, _⟩, ⟨S4x1024x2x64, _⟩] concatenates_S4x1024x2x64_S4x1024x2x64_S4x1024x2x128_d3
      _ 0 (Nat.zero_lt_succ _) S4x1024x2x64 _ rfl rfl 0 rfl (ix4 b l (⟨g.val / 128, by omega⟩ : Fin 2) (⟨g.val % 128, h1⟩ : Fin 64))
      (fun c hc => by match c, hc with | 0, _ => rfl | 1, _ => rfl | 2, _ => rfl | 3, hc => exact absurd rfl hc) (by
        show 0 + g.val % 128 = g.val % 128
        omega)).trans ?_
    rw [if_pos h1]
    by_cases h2 : g.val % 64 < 32
    · rw [if_pos h2]
      have e : (ix4 b l (⟨g.val / 128, by omega⟩ : Fin 2) (⟨g.val % 128, h1⟩ : Fin 64) : S4x1024x2x64.Idx)
          = ix4 b l (⟨g.val / 128, by omega⟩ : Fin 2) ⟨(⟨g.val % 32, Nat.mod_lt _ (by decide)⟩ : Fin 32).val, by show g.val % 32 < 64; omega⟩ :=
        congrArg (fun j => ix4 b l (⟨g.val / 128, by omega⟩ : Fin 2) j) (Fin.ext (show g.val % 128 = g.val % 32 by omega))
      rw [e]
      refine (half2_lo _ _ b l _ _).trans ?_
      rw [first2_apply, first2_apply, refAng_apply, refRow_apply]
      unfold row2 posn
      rw [dif_pos hg, dif_pos (show g.val + 32 < 256 by omega)]
      refine congrArg₂ (fun a b : EReal => a - b) (congrArg (fun a : EReal => a * _) (congrArg x ?_)) (congrArg (fun a : EReal => a * _) (congrArg x ?_))
      · exact congrArg (fun j => ix3 b l j) (Fin.ext (show g.val / 128 * 128 + g.val % 32 = g.val by omega))
      · exact congrArg (fun j => ix3 b l j) (Fin.ext (show g.val / 128 * 128 + (32 + g.val % 32) = g.val + 32 by omega))
    · rw [if_neg h2]
      have e : (ix4 b l (⟨g.val / 128, by omega⟩ : Fin 2) (⟨g.val % 128, h1⟩ : Fin 64) : S4x1024x2x64.Idx)
          = ix4 b l (⟨g.val / 128, by omega⟩ : Fin 2) ⟨32 + (⟨g.val % 32, Nat.mod_lt _ (by decide)⟩ : Fin 32).val, by show 32 + g.val % 32 < 64; omega⟩ :=
        congrArg (fun j => ix4 b l (⟨g.val / 128, by omega⟩ : Fin 2) j) (Fin.ext (show g.val % 128 = 32 + g.val % 32 by omega))
      rw [e]
      refine (half2_hi _ _ b l _ _).trans ?_
      rw [first2_apply, first2_apply, refAng_apply, refRow_apply]
      unfold row2 posn
      rw [dif_pos hg, dif_pos (show g.val - 32 < 256 by omega)]
      refine congrArg₂ (fun a b : EReal => a + b) (congrArg (fun a : EReal => a * _) (congrArg x ?_)) (congrArg (fun a : EReal => a * _) (congrArg x ?_))
      · exact congrArg (fun j => ix3 b l j) (Fin.ext (show g.val / 128 * 128 + (32 + g.val % 32) = g.val by omega))
      · exact congrArg (fun j => ix3 b l j) (Fin.ext (show g.val / 128 * 128 + g.val % 32 = g.val - 32 by omega))
  · refine (concatenate_apply_piece (3 : Fin S4x1024x2x128.rank) [⟨S4x1024x2x64, _⟩, ⟨S4x1024x2x64, _⟩] concatenates_S4x1024x2x64_S4x1024x2x64_S4x1024x2x128_d3
      _ 1 (Nat.succ_lt_succ (Nat.zero_lt_succ _)) S4x1024x2x64 _ rfl rfl 64 rfl (ix4 b l (⟨g.val / 128, by omega⟩ : Fin 2) (⟨g.val % 128 - 64, by omega⟩ : Fin 64))
      (fun c hc => by match c, hc with | 0, _ => rfl | 1, _ => rfl | 2, _ => rfl | 3, hc => exact absurd rfl hc) (by
        show 64 + (g.val % 128 - 64) = g.val % 128
        omega)).trans ?_
    rw [if_neg h1]
    by_cases h2 : g.val % 64 < 32
    · rw [if_pos h2]
      have e : (ix4 b l (⟨g.val / 128, by omega⟩ : Fin 2) (⟨g.val % 128 - 64, by omega⟩ : Fin 64) : S4x1024x2x64.Idx)
          = ix4 b l (⟨g.val / 128, by omega⟩ : Fin 2) ⟨(⟨g.val % 32, Nat.mod_lt _ (by decide)⟩ : Fin 32).val, by show g.val % 32 < 64; omega⟩ :=
        congrArg (fun j => ix4 b l (⟨g.val / 128, by omega⟩ : Fin 2) j) (Fin.ext (show g.val % 128 - 64 = g.val % 32 by omega))
      rw [e]
      refine (half2_lo _ _ b l _ _).trans ?_
      rw [second2_apply, second2_apply, refAng_apply, refCol_apply]
      unfold row2 posn
      rw [dif_pos hg, dif_pos (show g.val + 32 < 256 by omega)]
      refine congrArg₂ (fun a b : EReal => a - b) (congrArg (fun a : EReal => a * _) (congrArg x ?_)) (congrArg (fun a : EReal => a * _) (congrArg x ?_))
      · exact congrArg (fun j => ix3 b l j) (Fin.ext (show g.val / 128 * 128 + (64 + g.val % 32) = g.val by omega))
      · exact congrArg (fun j => ix3 b l j) (Fin.ext (show g.val / 128 * 128 + (64 + (32 + g.val % 32)) = g.val + 32 by omega))
    · rw [if_neg h2]
      have e : (ix4 b l (⟨g.val / 128, by omega⟩ : Fin 2) (⟨g.val % 128 - 64, by omega⟩ : Fin 64) : S4x1024x2x64.Idx)
          = ix4 b l (⟨g.val / 128, by omega⟩ : Fin 2) ⟨32 + (⟨g.val % 32, Nat.mod_lt _ (by decide)⟩ : Fin 32).val, by show 32 + g.val % 32 < 64; omega⟩ :=
        congrArg (fun j => ix4 b l (⟨g.val / 128, by omega⟩ : Fin 2) j) (Fin.ext (show g.val % 128 - 64 = 32 + g.val % 32 by omega))
      rw [e]
      refine (half2_hi _ _ b l _ _).trans ?_
      rw [second2_apply, second2_apply, refAng_apply, refCol_apply]
      unfold row2 posn
      rw [dif_pos hg, dif_pos (show g.val - 32 < 256 by omega)]
      refine congrArg₂ (fun a b : EReal => a + b) (congrArg (fun a : EReal => a * _) (congrArg x ?_)) (congrArg (fun a : EReal => a * _) (congrArg x ?_))
      · exact congrArg (fun j => ix3 b l j) (Fin.ext (show g.val / 128 * 128 + (64 + (32 + g.val % 32)) = g.val by omega))
      · exact congrArg (fun j => ix3 b l j) (Fin.ext (show g.val / 128 * 128 + (64 + g.val % 32) = g.val - 32 by omega))

end Cert.Lat

end
-- ==== Proof.LRef.lean ====
module

public import proofs.«01_k».proof.Proof.LTurn

@[expose] public section

noncomputable section

namespace Cert.Lat

open Cert.TurnedIdeal Cert.TurnedIdeal.Gen
open Idealize.ShloMosaic hiding ix1 ix2 ix3 ix4 ix5
open Idealize.ShloMosaic.TcCoe Idealize.ShloMosaic.ValueIdx Idealize.SL.Sem
open scoped BigOperators

/-! ## The five results as functions of the projection -/

/-- `W` columns of a projected row from column `o` on. -/
def cols (o W : Nat) (ho : o + W ≤ 3584) (z : Fin 3584 → EReal) (g : Nat) : EReal :=
  if h : g < W then z ⟨o + g, by omega⟩ else 0

section Results
variable (Z : Fin 4 → Fin 1024 → Fin 3584 → EReal)

def strm (n : Nat) (h : n < 4096) : Fin 4 := ⟨n / 1024, by omega⟩
def tok (n : Nat) : Fin 1024 := ⟨n % 1024, Nat.mod_lt _ (by decide)⟩

/-- Columns `o` to `o + 1024`, a token a row. -/
def plain1024 (o : Nat) (ho : o + 1024 ≤ 3584) : S4096x1024.Idx → EReal := fun y =>
  Z (strm (y 0).val (y 0).isLt) (tok (y 0).val) ⟨o + (y 1).val, by have : (y 1).val < 1024 := (y 1).isLt; omega⟩
/-- The same columns turned. -/
def turned1024 (o : Nat) (ho : o + 1024 ≤ 3584) : S4096x1024.Idx → EReal := fun y =>
  turn (cols o 1024 ho (Z (strm (y 0).val (y 0).isLt) (tok (y 0).val))) (angle (tok (y 0).val).val (y 1).val) (y 1).val

/-- Columns `o` to `o + 256`, a token a row. -/
def plain256 (o : Nat) (ho : o + 256 ≤ 3584) : S4096x256.Idx → EReal := fun y =>
  Z (strm (y 0).val (y 0).isLt) (tok (y 0).val) ⟨o + (y 1).val, by have : (y 1).val < 256 := (y 1).isLt; omega⟩
/-- The same columns turned. -/
def turned256 (o : Nat) (ho : o + 256 ≤ 3584) : S4096x256.Idx → EReal := fun y =>
  turn (cols o 256 ho (Z (strm (y 0).val (y 0).isLt) (tok (y 0).val))) (angle (tok (y 0).val).val (y 1).val) (y 1).val

end Results

section Ref
variable (X : (⟨S4x1024x2048, .f32⟩ : BufTy).Contents (Elt Ideal)) (Cc : (⟨S4x2048, .f32⟩ : BufTy).Contents (Elt Ideal))
  (Wa : (⟨S1x2048x12288, .f32⟩ : BufTy).Contents (Elt Ideal)) (Ba : (⟨S1x12288, .f32⟩ : BufTy).Contents (Elt Ideal))
  (Nw : (⟨S1x2048, .f32⟩ : BufTy).Contents (Elt Ideal)) (Wi : (⟨S1x2048x3584, .f32⟩ : BufTy).Contents (Elt Ideal))

/-- A stretch of 1024 columns of the projection. -/
def part1024 (off : Fin 3 → Nat) (hs : S4x1024x3584.Slices off S4x1024x1024) : (⟨S4x1024x1024, .f32⟩ : BufTy).Contents (Elt Ideal) :=
  extractStridedSlice S4x1024x1024 off (refZ X Cc Wa Ba Nw Wi) hs

theorem part1024_apply (off : Fin 3 → Nat) (o : Nat) (h0 : off 0 = 0) (h1 : off 1 = 0) (h2 : off 2 = o) (ho : o + 1024 ≤ 3584)
    (hs : S4x1024x3584.Slices off S4x1024x1024) (b : Fin 4) (l : Fin 1024) (f : Fin 1024) :
    part1024 X Cc Wa Ba Nw Wi off hs (ix3 b l f) = zv X Cc Wa Ba Nw Wi b l ⟨o + f.val, by have := f.isLt; omega⟩ := by
  unfold part1024
  refine (extractStridedSlice_apply off _ hs (ix3 b l f) (ix3 b l ⟨o + f.val, by have := f.isLt; omega⟩) fun a => ?_).trans
    (refZ_apply X Cc Wa Ba Nw Wi _ _ _)
  match a with
  | 0 => show b.val = off 0 + b.val; omega
  | 1 => show l.val = off 1 + l.val; omega
  | 2 => show o + f.val = off 2 + f.val; omega

theorem plain1024_eq (off : Fin 3 → Nat) (o : Nat) (h0 : off 0 = 0) (h1 : off 1 = 0) (h2 : off 2 = o) (ho : o + 1024 ≤ 3584)
    (hs : S4x1024x3584.Slices off S4x1024x1024) :
    shapeCast S4096x1024 (part1024 X Cc Wa Ba Nw Wi off hs) shapeCasts_S4x1024x1024_S4096x1024 = plain1024 (zv X Cc Wa Ba Nw Wi) o ho := by
  funext y
  have hy0 : (y 0).val < 4096 := (y 0).isLt
  have hy1 : (y 1).val < 1024 := (y 1).isLt
  refine (shapeCast_apply _ shapeCasts_S4x1024x1024_S4096x1024 _ (ix3 (strm (y 0).val hy0) (tok (y 0).val) ⟨(y 1).val, hy1⟩) ?_).trans
    (part1024_apply X Cc Wa Ba Nw Wi off o h0 h1 h2 ho hs _ _ _)
  rw [Shape.rowMajor_val_three, Shape.rowMajor_val_two]
  show ((y 0).val / 1024 * 1024 + (y 0).val % 1024) * 1024 + (y 1).val = (y 0).val * 1024 + (y 1).val
  omega

theorem turned1024_eq (off : Fin 3 → Nat) (o : Nat) (h0 : off 0 = 0) (h1 : off 1 = 0) (h2 : off 2 = o) (ho : o + 1024 ≤ 3584)
    (hs : S4x1024x3584.Slices off S4x1024x1024) : rope8 (part1024 X Cc Wa Ba Nw Wi off hs) = turned1024 (zv X Cc Wa Ba Nw Wi) o ho := by
  funext y
  have hy0 : (y 0).val < 4096 := (y 0).isLt
  have hy1 : (y 1).val < 1024 := (y 1).isLt
  have e : row8 (part1024 X Cc Wa Ba Nw Wi off hs) (strm (y 0).val hy0) (tok (y 0).val)
      = cols o 1024 ho (zv X Cc Wa Ba Nw Wi (strm (y 0).val hy0) (tok (y 0).val)) := by
    funext g
    unfold row8 cols
    by_cases h : g < 1024
    · rw [dif_pos h, dif_pos h]
      exact part1024_apply X Cc Wa Ba Nw Wi off o h0 h1 h2 ho hs _ _ ⟨g, h⟩
    · rw [dif_neg h, dif_neg h]
  have h := rope8_apply (part1024 X Cc Wa Ba Nw Wi off hs) (strm (y 0).val hy0) (tok (y 0).val) ⟨(y 1).val, hy1⟩
  rw [e] at h
  refine Eq.trans (congrArg _ (funext fun a => Fin.ext ?_)) h
  match a with
  | 0 => show (y 0).val = (y 0).val / 1024 * 1024 + (y 0).val % 1024; omega
  | 1 => rfl

/-- A stretch of 256 columns of the projection. -/
def part256 (off : Fin 3 → Nat) (hs : S4x1024x3584.Slices off S4x1024x256) : (⟨S4x1024x256, .f32⟩ : BufTy).Contents (Elt Ideal) :=
  extractStridedSlice S4x1024x256 off (refZ X Cc Wa Ba Nw Wi) hs

theorem part256_apply (off : Fin 3 → Nat) (o : Nat) (h0 : off 0 = 0) (h1 : off 1 = 0) (h2 : off 2 = o) (ho : o + 256 ≤ 3584)
    (hs : S4x1024x3584.Slices off S4x1024x256) (b : Fin 4) (l : Fin 1024) (f : Fin 256) :
    part256 X Cc Wa Ba Nw Wi off hs (ix3 b l f) = zv X Cc Wa Ba Nw Wi b l ⟨o + f.val, by have := f.isLt; omega⟩ := by
  unfold part256
  refine (extractStridedSlice_apply off _ hs (ix3 b l f) (ix3 b l ⟨o + f.val, by have := f.isLt; omega⟩) fun a => ?_).trans
    (refZ_apply X Cc Wa Ba Nw Wi _ _ _)
  match a with
  | 0 => show b.val = off 0 + b.val; omega
  | 1 => show l.val = off 1 + l.val; omega
  | 2 => show o + f.val = off 2 + f.val; omega

theorem plain256_eq (off : Fin 3 → Nat) (o : Nat) (h0 : off 0 = 0) (h1 : off 1 = 0) (h2 : off 2 = o) (ho : o + 256 ≤ 3584)
    (hs : S4x1024x3584.Slices off S4x1024x256) :
    shapeCast S4096x256 (part256 X Cc Wa Ba Nw Wi off hs) shapeCasts_S4x1024x256_S4096x256 = plain256 (zv X Cc Wa Ba Nw Wi) o ho := by
  funext y
  have hy0 : (y 0).val < 4096 := (y 0).isLt
  have hy1 : (y 1).val < 256 := (y 1).isLt
  refine (shapeCast_apply _ shapeCasts_S4x1024x256_S4096x256 _ (ix3 (strm (y 0).val hy0) (tok (y 0).val) ⟨(y 1).val, hy1⟩) ?_).trans
    (part256_apply X Cc Wa Ba Nw Wi off o h0 h1 h2 ho hs _ _ _)
  rw [Shape.rowMajor_val_three, Shape.rowMajor_val_two]
  show ((y 0).val / 1024 * 1024 + (y 0).val % 1024) * 256 + (y 1).val = (y 0).val * 256 + (y 1).val
  omega

theorem turned256_eq (off : Fin 3 → Nat) (o : Nat) (h0 : off 0 = 0) (h1 : off 1 = 0) (h2 : off 2 = o) (ho : o + 256 ≤ 3584)
    (hs : S4x1024x3584.Slices off S4x1024x256) : rope2 (part256 X Cc Wa Ba Nw Wi off hs) = turned256 (zv X Cc Wa Ba Nw Wi) o ho := by
  funext y
  have hy0 : (y 0).val < 4096 := (y 0).isLt
  have hy1 : (y 1).val < 256 := (y 1).isLt
  have e : row2 (part256 X Cc Wa Ba Nw Wi off hs) (strm (y 0).val hy0) (tok (y 0).val)
      = cols o 256 ho (zv X Cc Wa Ba Nw Wi (strm (y 0).val hy0) (tok (y 0).val)) := by
    funext g
    unfold row2 cols
    by_cases h : g < 256
    · rw [dif_pos h, dif_pos h]
      exact part256_apply X Cc Wa Ba Nw Wi off o h0 h1 h2 ho hs _ _ ⟨g, h⟩
    · rw [dif_neg h, dif_neg h]
  have h := rope2_apply (part256 X Cc Wa Ba Nw Wi off hs) (strm (y 0).val hy0) (tok (y 0).val) ⟨(y 1).val, hy1⟩
  rw [e] at h
  refine Eq.trans (congrArg _ (funext fun a => Fin.ext ?_)) h
  match a with
  | 0 => show (y 0).val = (y 0).val / 1024 * 1024 + (y 0).val % 1024; omega
  | 1 => rfl

def refQ : (⟨S4096x1024, .bf16⟩ : BufTy).Contents (Elt Ideal) :=
  truncf (F := Ideal) (φ := .f32) .bf16 (rope8 (part1024 X Cc Wa Ba Nw Wi ![0, 0, 0] slices_S4x1024x3584_S4x1024x1024_0_0_0)) bitsLt_bf16_f32
theorem refQ_eq : refQ X Cc Wa Ba Nw Wi = turned1024 (zv X Cc Wa Ba Nw Wi) 0 (by decide) :=
  turned1024_eq X Cc Wa Ba Nw Wi ![0, 0, 0] 0 rfl rfl rfl (by decide) slices_S4x1024x3584_S4x1024x1024_0_0_0

def refK : (⟨S4096x256, .f32⟩ : BufTy).Contents (Elt Ideal) :=
  rope2 (part256 X Cc Wa Ba Nw Wi ![0, 0, 1024] slices_S4x1024x3584_S4x1024x256_0_0_1024)
theorem refK_eq : refK X Cc Wa Ba Nw Wi = turned256 (zv X Cc Wa Ba Nw Wi) 1024 (by decide) :=
  turned256_eq X Cc Wa Ba Nw Wi ![0, 0, 1024] 1024 rfl rfl rfl (by decide) slices_S4x1024x3584_S4x1024x256_0_0_1024

def refV : (⟨S4096x256, .f32⟩ : BufTy).Contents (Elt Ideal) :=
  shapeCast S4096x256 (part256 X Cc Wa Ba Nw Wi ![0, 0, 1280] slices_S4x1024x3584_S4x1024x256_0_0_1280) shapeCasts_S4x1024x256_S4096x256
theorem refV_eq : refV X Cc Wa Ba Nw Wi = plain256 (zv X Cc Wa Ba Nw Wi) 1280 (by decide) :=
  plain256_eq X Cc Wa Ba Nw Wi ![0, 0, 1280] 1280 rfl rfl rfl (by decide) slices_S4x1024x3584_S4x1024x256_0_0_1280

def refU : (⟨S4096x1024, .f32⟩ : BufTy).Contents (Elt Ideal) :=
  shapeCast S4096x1024 (part1024 X Cc Wa Ba Nw Wi ![0, 0, 1536] slices_S4x1024x3584_S4x1024x1024_0_0_1536) shapeCasts_S4x1024x1024_S4096x1024
theorem refU_eq : refU X Cc Wa Ba Nw Wi = plain1024 (zv X Cc Wa Ba Nw Wi) 1536 (by decide) :=
  plain1024_eq X Cc Wa Ba Nw Wi ![0, 0, 1536] 1536 rfl rfl rfl (by decide) slices_S4x1024x3584_S4x1024x1024_0_0_1536

def refG : (⟨S4096x1024, .f32⟩ : BufTy).Contents (Elt Ideal) :=
  shapeCast S4096x1024 (part1024 X Cc Wa Ba Nw Wi ![0, 0, 2560] slices_S4x1024x3584_S4x1024x1024_0_0_2560) shapeCasts_S4x1024x1024_S4096x1024
theorem refG_eq : refG X Cc Wa Ba Nw Wi = plain1024 (zv X Cc Wa Ba Nw Wi) 2560 (by decide) :=
  plain1024_eq X Cc Wa Ba Nw Wi ![0, 0, 2560] 2560 rfl rfl rfl (by decide) slices_S4x1024x3584_S4x1024x1024_0_0_2560

end Ref

/-- The reference over the extended reals: its five results are these functions of its arguments. -/
theorem turned_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      (r.2.mem ((c.tc : Thread nD τ).loc main_v107) = refQ (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v156) = refK (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v157) = refV (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v158) = refU (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v159) = refG (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run (defs (F := Ideal)) _ _).mono (fun _ h c => ?_) (Cert.TurnedIdeal.Value.run m g)
  obtain ⟨hq, hk, hv, hu, hg, ha⟩ := h c
  refine ⟨⟨hq.trans ?_, hk.trans ?_, hv.trans ?_, hu.trans ?_, hg.trans ?_⟩, ha⟩
  · unfold Cert.TurnedIdeal.Value.res_main_v107 refQ rope8 half8 first8 second8 split8 lay8 lo8 hi8 refAng refRow refCol frq part1024 refZ refH along alongB refRs refNw refShift refScale refMod refSilu refWa refBa refWi; rfl
  · unfold Cert.TurnedIdeal.Value.res_main_v156 refK rope2 half2 first2 second2 split2 lay2 lo2 hi2 refAng refRow refCol frq part256 refZ refH along alongB refRs refNw refShift refScale refMod refSilu refWa refBa refWi; rfl
  · unfold refV part256 refZ refH along alongB refRs refNw refShift refScale refMod refSilu refWa refBa refWi; rfl
  · unfold refU part1024 refZ refH along alongB refRs refNw refShift refScale refMod refSilu refWa refBa refWi; rfl
  · unfold refG part1024 refZ refH along alongB refRs refNw refShift refScale refMod refSilu refWa refBa refWi; rfl

end Cert.Lat

end
-- ==== Proof.LRun.lean ====
module

public import proofs.«01_k».proof.Proof.Gen.LatentIdeal.Frame

@[expose] public section

noncomputable section

namespace Cert.Lat

open Cert.LatentIdeal Cert.LatentIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the program's run is stated over. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program over any float values: it runs, its five results hold what its second call leaves in them, its
    arguments end unchanged, nothing is left signalled. -/
theorem run : θ_run defs (onTc (τ := τ) (main (F := F))) ⟨m, fun _ => 0, ρ⟩ (fun r => (∀ c : Dev nD,
      (r.2.mem ((c.tc : Thread nD τ).loc main_v47_0) = W8 m ρ c (Proc.devRef .tc main_v47_0)
      ∧ r.2.mem ((c.tc : Thread nD τ).loc main_v47_1) = W8 m ρ c (Proc.devRef .tc main_v47_1)
      ∧ r.2.mem ((c.tc : Thread nD τ).loc main_v47_2) = W8 m ρ c (Proc.devRef .tc main_v47_2)
      ∧ r.2.mem ((c.tc : Thread nD τ).loc main_v47_3) = W8 m ρ c (Proc.devRef .tc main_v47_3)
      ∧ r.2.mem ((c.tc : Thread nD τ).loc main_v47_4) = W8 m ρ c (Proc.devRef .tc main_v47_4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨⟨h c _ (mem_uc main_v47_0 (by decide)),
       h c _ (mem_uc main_v47_1 (by decide)),
       h c _ (mem_uc main_v47_2 (by decide)),
       h c _ (mem_uc main_v47_3 (by decide)),
       h c _ (mem_uc main_v47_4 (by decide))⟩,
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩), funext fun g => hz g (.inr (no_unscoped g.2))⟩)

end Cert.Lat

end
-- ==== Proof.LPay.lean ====
module

public import proofs.«01_k».proof.Proof.LRun
public import proofs.«01_k».proof.Proof.LRef
public import Idealize.ShloMosaic.Lib.MatmulPlain
public import Idealize.ShloMosaic.Lib.Pointwise.Sums
public import Idealize.ShloMosaic.Lib.KernelVsHost

@[expose] public section

noncomputable section

namespace Cert.Lat

open Cert.LatentIdeal Cert.LatentIdeal.Gen
open Idealize.ShloMosaic hiding ix1 ix2 ix3 ix4 ix5
open Idealize.ShloMosaic.TcCoe Idealize.ShloMosaic.ValueIdx
open scoped BigOperators

/-! ## The two kernels' stored values at an index, over the extended reals -/

theorem mod_mat (x : FVec Ideal S8x2048 .bf16) (w : FVec Ideal S2048x1024 .bf16) (r : Fin 8) (f : Fin 1024) :
    matmul dot_S8x2048_S2048x1024_S8x1024_1_0_0_1_n_n none x w (constant (F := Ideal) S8x1024 .f32 0x00000000#32) (ix2 r f)
      = ∑ k : Fin 2048, (x (ix2 r k) : EReal) * (w (ix2 k f) : EReal) := by
  refine (Ideal.matmul_plain_apply (M := 8) (K := 2048) (N := 1024) none x w _ r f).trans ?_
  show Ideal.ofBits .f32 0x00000000#32 + _ = _
  rw [Ideal.ofBits_zero_f32, zero_add]

theorem in_mat (x : FVec Ideal S256x2048 .bf16) (w : FVec Ideal S2048x3584 .bf16) (r : Fin 256) (f : Fin 3584) :
    matmul dot_S256x2048_S2048x3584_S256x3584_1_0_0_1_n_n none x w (constant (F := Ideal) S256x3584 .f32 0x00000000#32) (ix2 r f)
      = ∑ k : Fin 2048, (x (ix2 r k) : EReal) * (w (ix2 k f) : EReal) := by
  refine (Ideal.matmul_plain_apply (M := 256) (K := 2048) (N := 3584) none x w _ r f).trans ?_
  show Ideal.ofBits .f32 0x00000000#32 + _ = _
  rw [Ideal.ofBits_zero_f32, zero_add]

/-- A stretch of the modulation: the gated rows through the matrix's columns, plus the offset. -/
theorem mod_apply (x : Vec Ideal S8x2048 .f32) (w : Vec Ideal S2048x1024 .f32) (b : Vec Ideal S1x1024 .f32) (r : Fin 8) (f : Fin 1024) :
    k0_pay1 (F := Ideal) x w b (ix2 r f)
      = (∑ d : Fin 2048, ((x (ix2 r d) : EReal) * Ideal.logistic (x (ix2 r d))) * (w (ix2 d f) : EReal)) + (b (ix2 (0 : Fin 1) f) : EReal) := by
  unfold k0_pay1
  simp only [shapeCast_self]
  refine congrArg₂ (fun a b : EReal => a + b) ((mod_mat _ _ r f).trans ?_)
    (broadcastTo_apply b broadcasts_S1x1024_S8x1024 _ _ fun a => by match a with | 0 => rfl | 1 => rfl)
  rfl

/-- One over the root mean square of a block's row. -/
def rsRow (x : Vec Ideal S256x2048 .f32) (r : Fin 256) : EReal :=
  Ideal.rsqrt (Ideal.div (∑ d : Fin 2048, (x (ix2 r d) : EReal) * (x (ix2 r d) : EReal)) (Ideal.ofBits .f32 0x45000000#32)
    + Ideal.ofBits .f32 0x358637BD#32)

def rsVec (x : Vec Ideal S256x2048 .f32) : FVec Ideal S256x1 .f32 :=
  rsqrt (addf (F := Ideal) (φ := .f32) (divf (shapeCast S256x1 (multiReduction (F := Ideal) (φ := .f32) .add [1] S256 (mulf (F := Ideal) (φ := .f32) x x) 0x00000000#32
    reduces_S256x2048_S256 (.inl rfl) rfl) shapeCasts_S256_S256x1) (broadcast S256x1 (Scalar.ofBits .f32 0x45000000#32)))
    (broadcast S256x1 (Scalar.ofBits .f32 0x358637BD#32)))

theorem rsRow_apply (x : Vec Ideal S256x2048 .f32) (r : Fin 256) : rsVec x (ix2 r (0 : Fin 1)) = rsRow x r := by
  unfold rsRow rsVec
  refine congrArg (fun s : EReal => Ideal.rsqrt (Ideal.div s (Ideal.ofBits .f32 0x45000000#32) + Ideal.ofBits .f32 0x358637BD#32)) ?_
  refine (shapeCast_apply _ shapeCasts_S256_S256x1 _ (ix1 r) (by
    rw [Shape.rowMajor_val_one, Shape.rowMajor_val_two]
    show r.val = r.val * 1 + 0
    omega)).trans ?_
  refine (Ideal.multiReduction_add_single (φ := .f32) _ _ reduces_S256x2048_S256 (.inl rfl) rfl (ix1 r)).trans ?_
  refine Finset.sum_congr rfl fun d _ => ?_
  have hl : reduces_S256x2048_S256.lift (ix1 r) d = ix2 r d := funext fun a => Fin.ext (match a with | 0 => rfl | 1 => rfl)
  rw [hl]
  rfl

theorem lay_row (v : Vec Ideal S1x2048 .f32) (r : Fin 256) (d : Fin 2048) :
    broadcastTo S256x2048 v broadcasts_S1x2048_S256x2048 (ix2 r d) = v (ix2 (0 : Fin 1) d) :=
  broadcastTo_apply v broadcasts_S1x2048_S256x2048 _ _ fun a => by match a with | 0 => rfl | 1 => rfl
theorem lay_col (v : FVec Ideal S256x1 .f32) (r : Fin 256) (d : Fin 2048) :
    broadcastTo S256x2048 v broadcasts_S256x1_S256x2048 (ix2 r d) = v (ix2 r (0 : Fin 1)) :=
  broadcastTo_apply v broadcasts_S256x1_S256x2048 _ _ fun a => by match a with | 0 => rfl | 1 => rfl

/-- The block's projection. -/
def inProj (sh sc : Vec Ideal S1x2048 .f32) (x : Vec Ideal S256x2048 .f32) (nw : Vec Ideal S1x2048 .f32) (w : Vec Ideal S2048x3584 .bf16) :
    FVec Ideal S256x3584 .f32 :=
  k1_pay10 (F := Ideal) (k1_pay6 sh) (k1_pay7 sc) (k1_pay8 x nw) k1_pay9 w

theorem inProj_apply (sh sc : Vec Ideal S1x2048 .f32) (x : Vec Ideal S256x2048 .f32) (nw : Vec Ideal S1x2048 .f32)
    (w : Vec Ideal S2048x3584 .bf16) (r : Fin 256) (e : Fin 3584) :
    inProj sh sc x nw w (ix2 r e)
      = ∑ d : Fin 2048, ((x (ix2 r d) : EReal) * rsRow x r * (nw (ix2 (0 : Fin 1) d) : EReal) * (1 + (sc (ix2 (0 : Fin 1) d) : EReal))
          + (sh (ix2 (0 : Fin 1) d) : EReal)) * (w (ix2 d e) : EReal) := by
  unfold inProj k1_pay10 k1_pay6 k1_pay7 k1_pay8 k1_pay9
  simp only [shapeCast_self]
  refine (in_mat _ _ r e).trans (Finset.sum_congr rfl fun d _ => ?_)
  rw [← rsRow_apply x r, ← lay_col (rsVec x) r d, ← lay_row nw r d, ← lay_row sh r d]
  have h1 : (1 + (sc (ix2 (0 : Fin 1) d) : EReal)) = broadcastTo S256x2048 (addf (F := Ideal) (φ := .f32)
      (broadcast S1x2048 (Scalar.ofBits .f32 0x3F800000#32)) sc) broadcasts_S1x2048_S256x2048 (ix2 r d) := by
    refine Eq.symm ((lay_row _ r d).trans ?_)
    show Ideal.ofBits .f32 0x3F800000#32 + _ = _
    rw [Ideal.ofBits_one_f32]
  rw [h1]
  unfold rsVec
  rfl

/-! ### Turning a head -/

/-- A head times the cosines, plus its partner columns times the signed sines. -/
def headTurned (x cs sn : FVec Ideal S256x128 .f32) : FVec Ideal S256x128 .f32 :=
  addf (F := Ideal) (φ := .f32) (mulf (F := Ideal) (φ := .f32) x cs) (mulf (F := Ideal) (φ := .f32)
    (select k1_pay15 (dynamicRotate 1 96#32 none x rotates_S256x128_d1) (dynamicRotate 1 32#32 none x rotates_S256x128_d1)) sn)

theorem mask_bit : ∀ j : Fin 128, IntOp.cmpi .eq (IntOp.andi (BitVec.ofNat 32 j.val) 32#32) 0#32 = if j.val % 64 < 32 then 1#1 else 0#1 := by
  decide +kernel

theorem mask_apply (r : Fin 256) (j : Fin 128) : k1_pay15 (ix2 r j) = if j.val % 64 < 32 then 1#1 else 0#1 := by
  unfold k1_pay15
  show IntOp.cmpi .eq (IntOp.andi (iota .tc S256x128 32 [1] iota_S256x128_d1_w32 (ix2 r j)) 32#32) 0#32 = _
  rw [iota_single_apply]
  exact mask_bit j

theorem headTurned_apply (x cs sn : FVec Ideal S256x128 .f32) (r : Fin 256) (j : Fin 128) :
    headTurned x cs sn (ix2 r j) = (x (ix2 r j) : EReal) * (cs (ix2 r j) : EReal)
      + (if j.val % 64 < 32 then (x (ix2 r ⟨(j.val + 32) % 128, Nat.mod_lt _ (by decide)⟩) : EReal)
          else (x (ix2 r ⟨(j.val + 96) % 128, Nat.mod_lt _ (by decide)⟩) : EReal)) * (sn (ix2 r j) : EReal) := by
  have h96 : dynamicRotate 1 96#32 none x rotates_S256x128_d1 (ix2 r j) = x (ix2 r ⟨(j.val + 32) % 128, Nat.mod_lt _ (by decide)⟩) :=
    dynamicRotate_apply _ _ x rotates_S256x128_d1 _ _ fun b => by
      match b with
      | 0 => rfl
      | 1 =>
        show (j.val + 32) % 128 = (j.val + 128 - 96 % 128) % 128
        omega
  have h32 : dynamicRotate 1 32#32 none x rotates_S256x128_d1 (ix2 r j) = x (ix2 r ⟨(j.val + 96) % 128, Nat.mod_lt _ (by decide)⟩) :=
    dynamicRotate_apply _ _ x rotates_S256x128_d1 _ _ fun b => by
      match b with
      | 0 => rfl
      | 1 =>
        show (j.val + 96) % 128 = (j.val + 128 - 32 % 128) % 128
        omega
  rw [← h96, ← h32]
  unfold headTurned
  refine congrArg (fun a : EReal => (x (ix2 r j) : EReal) * (cs (ix2 r j) : EReal) + a * (sn (ix2 r j) : EReal)) ?_
  show (if k1_pay15 (ix2 r j) = 1#1 then _ else _) = _
  rw [mask_apply]
  by_cases h : j.val % 64 < 32
  · rw [if_pos h, if_pos h, if_pos rfl]
  · rw [if_neg h, if_neg h, if_neg (by decide)]

/-- A head of a row, turned by angle `a`. -/
theorem headTurned_turn (x cs sn : FVec Ideal S256x128 .f32) (u a : Nat → EReal) (h : Nat) (r : Fin 256)
    (hx : ∀ j : Fin 128, x (ix2 r j) = u (h * 128 + j.val)) (hc : ∀ j : Fin 128, cs (ix2 r j) = Ideal.cos (a j.val))
    (hs : ∀ j : Fin 128, sn (ix2 r j) = if j.val % 64 < 32 then -Ideal.sin (a j.val) else Ideal.sin (a j.val)) (j : Fin 128) :
    headTurned x cs sn (ix2 r j) = turn u (a j.val) (h * 128 + j.val) := by
  have hj := j.isLt
  rw [headTurned_apply, hx, hc, hs]
  unfold turn
  by_cases hl : j.val % 64 < 32
  · rw [if_pos hl, if_pos hl, if_pos (show (h * 128 + j.val) % 64 < 32 by omega), hx]
    have e : h * 128 + (j.val + 32) % 128 = h * 128 + j.val + 32 := by omega
    rw [e, sub_eq_add_neg, mul_neg]
  · rw [if_neg hl, if_neg hl, if_neg (show ¬ (h * 128 + j.val) % 64 < 32 by omega), hx]
    have e : h * 128 + (j.val + 96) % 128 = h * 128 + j.val - 32 := by omega
    rw [e]

theorem angle_head (l h j : Nat) : angle l (h * 128 + j) = angle l j := by
  unfold angle
  have e : (h * 128 + j) % 128 = j % 128 := by omega
  have e' : (⟨(h * 128 + j) % 32, Nat.mod_lt _ (by decide)⟩ : Fin 32) = ⟨j % 32, Nat.mod_lt _ (by decide)⟩ :=
    Fin.ext (show (h * 128 + j) % 32 = j % 32 by omega)
  rw [e, e']

def qHead (Q : FVec Ideal S256x1024 .f32) (cs sn : FVec Ideal S256x128 .f32) (off : Fin 2 → Nat) (hs : S256x1024.Slices off S256x128) :
    FVec Ideal S256x128 .f32 :=
  headTurned (extractStridedSlice S256x128 off Q hs) cs sn

theorem qHead_apply (Q : FVec Ideal S256x1024 .f32) (cs sn : FVec Ideal S256x128 .f32) (off : Fin 2 → Nat) (hs : S256x1024.Slices off S256x128)
    (h : Nat) (hh : h < 8) (h0 : off 0 = 0) (h1 : off 1 = h * 128) (u : Nat → EReal) (l : Nat) (r : Fin 256)
    (hQ : ∀ g : Fin 1024, Q (ix2 r g) = u g.val) (hc : ∀ j : Fin 128, cs (ix2 r j) = Ideal.cos (angle l j.val))
    (hn : ∀ j : Fin 128, sn (ix2 r j) = if j.val % 64 < 32 then -Ideal.sin (angle l j.val) else Ideal.sin (angle l j.val)) (g : Fin 1024)
    (j : Fin 128) (hg : g.val = h * 128 + j.val) : qHead Q cs sn off hs (ix2 r j) = turn u (angle l g.val) g.val := by
  unfold qHead
  refine (headTurned_turn _ cs sn u (angle l) h r (fun j => ?_) hc hn j).trans ?_
  · refine (extractStridedSlice_apply off Q hs (ix2 r j) (ix2 r ⟨h * 128 + j.val, by have := j.isLt; omega⟩) fun a => ?_).trans (hQ _)
    match a with
    | 0 => show r.val = off 0 + r.val; omega
    | 1 => show h * 128 + j.val = off 1 + j.val; omega
  · rw [hg, angle_head]

/-- All heads turned. -/
def qAll (Q : FVec Ideal S256x1024 .f32) (cs sn : FVec Ideal S256x128 .f32) : FVec Ideal S256x1024 .f32 :=
  concatenate S256x1024 1 [⟨S256x128, qHead Q cs sn ![0, 0] slices_S256x1024_o0_0_S256x128⟩,
    ⟨S256x128, qHead Q cs sn ![0, 128] slices_S256x1024_o0_128_S256x128⟩,
    ⟨S256x128, qHead Q cs sn ![0, 256] slices_S256x1024_o0_256_S256x128⟩,
    ⟨S256x128, qHead Q cs sn ![0, 384] slices_S256x1024_o0_384_S256x128⟩,
    ⟨S256x128, qHead Q cs sn ![0, 512] slices_S256x1024_o0_512_S256x128⟩,
    ⟨S256x128, qHead Q cs sn ![0, 640] slices_S256x1024_o0_640_S256x128⟩,
    ⟨S256x128, qHead Q cs sn ![0, 768] slices_S256x1024_o0_768_S256x128⟩,
    ⟨S256x128, qHead Q cs sn ![0, 896] slices_S256x1024_o0_896_S256x128⟩]
    concatenates_S256x128_S256x128_S256x128_S256x128_S256x128_S256x128_S256x128_S256x128_S256x1024_d1

theorem qAll_apply (Q : FVec Ideal S256x1024 .f32) (cs sn : FVec Ideal S256x128 .f32) (u : Nat → EReal) (l : Nat) (r : Fin 256)
    (hQ : ∀ g : Fin 1024, Q (ix2 r g) = u g.val) (hc : ∀ j : Fin 128, cs (ix2 r j) = Ideal.cos (angle l j.val))
    (hn : ∀ j : Fin 128, sn (ix2 r j) = if j.val % 64 < 32 then -Ideal.sin (angle l j.val) else Ideal.sin (angle l j.val)) (g : Fin 1024) :
    qAll Q cs sn (ix2 r g) = turn u (angle l g.val) g.val := by
  have hg := g.isLt
  have hm : g.val % 128 < 128 := Nat.mod_lt _ (by decide)
  unfold qAll
  have hd : g.val / 128 = 0 ∨ g.val / 128 = 1 ∨ g.val / 128 = 2 ∨ g.val / 128 = 3 ∨ g.val / 128 = 4 ∨ g.val / 128 = 5 ∨ g.val / 128 = 6 ∨ g.val / 128 = 7 := by omega
  rcases hd with h0 | h1 | h2 | h3 | h4 | h5 | h6 | h7
  · refine (concatenate_apply_piece (1 : Fin S256x1024.rank) [⟨S256x128, _⟩, ⟨S256x128, _⟩, ⟨S256x128, _⟩, ⟨S256x128, _⟩, ⟨S256x128, _⟩, ⟨S256x128, _⟩, ⟨S256x128, _⟩, ⟨S256x128, _⟩] concatenates_S256x128_S256x128_S256x128_S256x128_S256x128_S256x128_S256x128_S256x128_S256x1024_d1
      (ix2 r g) 0 (Nat.zero_lt_succ _) S256x128 _ rfl rfl 0 rfl (ix2 r ⟨g.val % 128, hm⟩)
      (fun c hc => by match c, hc with | 0, _ => rfl | 1, hc => exact absurd rfl hc) (by
        show 0 + g.val % 128 = g.val
        omega)).trans ?_
    exact qHead_apply Q cs sn ![0, 0] slices_S256x1024_o0_0_S256x128 0 (by decide) rfl rfl u l r hQ hc hn g ⟨g.val % 128, hm⟩ (by
      show g.val = 0 * 128 + g.val % 128
      omega)
  · refine (concatenate_apply_piece (1 : Fin S256x1024.rank) [⟨S256x128, _⟩, ⟨S256x128, _⟩, ⟨S256x128, _⟩, ⟨S256x128, _⟩, ⟨S256x128, _⟩, ⟨S256x128, _⟩, ⟨S256x128, _⟩, ⟨S256x128, _⟩] concatenates_S256x128_S256x128_S256x128_S256x128_S256x128_S256x128_S256x128_S256x128_S256x1024_d1
      (ix2 r g) 1 (Nat.succ_lt_succ (Nat.zero_lt_succ _)) S256x128 _ rfl rfl 128 rfl (ix2 r ⟨g.val % 128, hm⟩)
      (fun c hc => by match c, hc with | 0, _ => rfl | 1, hc => exact absurd rfl hc) (by
        show 128 + g.val % 128 = g.val
        omega)).trans ?_
    exact qHead_apply Q cs sn ![0, 128] slices_S256x1024_o0_128_S256x128 1 (by decide) rfl rfl u l r hQ hc hn g ⟨g.val % 128, hm⟩ (by
      show g.val = 1 * 128 + g.val % 128
      omega)
  · refine (concatenate_apply_piece (1 : Fin S256x1024.rank) [⟨S256x128, _⟩, ⟨S256x128, _⟩, ⟨S256x128, _⟩, ⟨S256x128, _⟩, ⟨S256x128, _⟩, ⟨S256x128, _⟩, ⟨S256x128, _⟩, ⟨S256x128, _⟩] concatenates_S256x128_S256x128_S256x128_S256x128_S256x128_S256x128_S256x128_S256x128_S256x1024_d1
      (ix2 r g) 2 (Nat.succ_lt_succ (Nat.succ_lt_succ (Nat.zero_lt_succ _))) S256x128 _ rfl rfl 256 rfl (ix2 r ⟨g.val % 128, hm⟩)
      (fun c hc => by match c, hc with | 0, _ => rfl | 1, hc => exact absurd rfl hc) (by
        show 256 + g.val % 128 = g.val
        omega)).trans ?_
    exact qHead_apply Q cs sn ![0, 256] slices_S256x1024_o0_256_S256x128 2 (by decide) rfl rfl u l r hQ hc hn g ⟨g.val % 128, hm⟩ (by
      show g.val = 2 * 128 + g.val % 128
      omega)
  · refine (concatenate_apply_piece (1 : Fin S256x1024.rank) [⟨S256x128, _⟩, ⟨S256x128, _⟩, ⟨S256x128, _⟩, ⟨S256x128, _⟩, ⟨S256x128, _⟩, ⟨S256x128, _⟩, ⟨S256x128, _⟩, ⟨S256x128, _⟩] concatenates_S256x128_S256x128_S256x128_S256x128_S256x128_S256x128_S256x128_S256x128_S256x1024_d1
      (ix2 r g) 3 (Nat.succ_lt_succ (Nat.succ_lt_succ (Nat.succ_lt_succ (Nat.zero_lt_succ _)))) S256x128 _ rfl rfl 384 rfl (ix2 r ⟨g.val % 128, hm⟩)
      (fun c hc => by match c, hc with | 0, _ => rfl | 1, hc => exact absurd rfl hc) (by
        show 384 + g.val % 128 = g.val
        omega)).trans ?_
    exact qHead_apply Q cs sn ![0, 384] slices_S256x1024_o0_384_S256x128 3 (by decide) rfl rfl u l r hQ hc hn g ⟨g.val % 128, hm⟩ (by
      show g.val = 3 * 128 + g.val % 128
      omega)
  · refine (concatenate_apply_piece (1 : Fin S256x1024.rank) [⟨S256x128, _⟩, ⟨S256x128, _⟩, ⟨S256x128, _⟩, ⟨S256x128, _⟩, ⟨S256x128, _⟩, ⟨S256x128, _⟩, ⟨S256x128, _⟩, ⟨S256x128, _⟩] concatenates_S256x128_S256x128_S256x128_S256x128_S256x128_S256x128_S256x128_S256x128_S256x1024_d1
      (ix2 r g) 4 (Nat.succ_lt_succ (Nat.succ_lt_succ (Nat.succ_lt_succ (Nat.succ_lt_succ (Nat.zero_lt_succ _))))) S256x128 _ rfl rfl 512 rfl (ix2 r ⟨g.val % 128, hm⟩)
      (fun c hc => by match c, hc with | 0, _ => rfl | 1, hc => exact absurd rfl hc) (by
        show 512 + g.val % 128 = g.val
        omega)).trans ?_
    exact qHead_apply Q cs sn ![0, 512] slices_S256x1024_o0_512_S256x128 4 (by decide) rfl rfl u l r hQ hc hn g ⟨g.val % 128, hm⟩ (by
      show g.val = 4 * 128 + g.val % 128
      omega)
  · refine (concatenate_apply_piece (1 : Fin S256x1024.rank) [⟨S256x128, _⟩, ⟨S256x128, _⟩, ⟨S256x128, _⟩, ⟨S256x128, _⟩, ⟨S256x128, _⟩, ⟨S256x128, _⟩, ⟨S256x128, _⟩, ⟨S256x128, _⟩] concatenates_S256x128_S256x128_S256x128_S256x128_S256x128_S256x128_S256x128_S256x128_S256x1024_d1
      (ix2 r g) 5 (Nat.succ_lt_succ (Nat.succ_lt_succ (Nat.succ_lt_succ (Nat.succ_lt_succ (Nat.succ_lt_succ (Nat.zero_lt_succ _)))))) S256x128 _ rfl rfl 640 rfl (ix2 r ⟨g.val % 128, hm⟩)
      (fun c hc => by match c, hc with | 0, _ => rfl | 1, hc => exact absurd rfl hc) (by
        show 640 + g.val % 128 = g.val
        omega)).trans ?_
    exact qHead_apply Q cs sn ![0, 640] slices_S256x1024_o0_640_S256x128 5 (by decide) rfl rfl u l r hQ hc hn g ⟨g.val % 128, hm⟩ (by
      show g.val = 5 * 128 + g.val % 128
      omega)
  · refine (concatenate_apply_piece (1 : Fin S256x1024.rank) [⟨S256x128, _⟩, ⟨S256x128, _⟩, ⟨S256x128, _⟩, ⟨S256x128, _⟩, ⟨S256x128, _⟩, ⟨S256x128, _⟩, ⟨S256x128, _⟩, ⟨S256x128, _⟩] concatenates_S256x128_S256x128_S256x128_S256x128_S256x128_S256x128_S256x128_S256x128_S256x1024_d1
      (ix2 r g) 6 (Nat.succ_lt_succ (Nat.succ_lt_succ (Nat.succ_lt_succ (Nat.succ_lt_succ (Nat.succ_lt_succ (Nat.succ_lt_succ (Nat.zero_lt_succ _))))))) S256x128 _ rfl rfl 768 rfl (ix2 r ⟨g.val % 128, hm⟩)
      (fun c hc => by match c, hc with | 0, _ => rfl | 1, hc => exact absurd rfl hc) (by
        show 768 + g.val % 128 = g.val
        omega)).trans ?_
    exact qHead_apply Q cs sn ![0, 768] slices_S256x1024_o0_768_S256x128 6 (by decide) rfl rfl u l r hQ hc hn g ⟨g.val % 128, hm⟩ (by
      show g.val = 6 * 128 + g.val % 128
      omega)
  · refine (concatenate_apply_piece (1 : Fin S256x1024.rank) [⟨S256x128, _⟩, ⟨S256x128, _⟩, ⟨S256x128, _⟩, ⟨S256x128, _⟩, ⟨S256x128, _⟩, ⟨S256x128, _⟩, ⟨S256x128, _⟩, ⟨S256x128, _⟩] concatenates_S256x128_S256x128_S256x128_S256x128_S256x128_S256x128_S256x128_S256x128_S256x1024_d1
      (ix2 r g) 7 (Nat.succ_lt_succ (Nat.succ_lt_succ (Nat.succ_lt_succ (Nat.succ_lt_succ (Nat.succ_lt_succ (Nat.succ_lt_succ (Nat.succ_lt_succ (Nat.zero_lt_succ _)))))))) S256x128 _ rfl rfl 896 rfl (ix2 r ⟨g.val % 128, hm⟩)
      (fun c hc => by match c, hc with | 0, _ => rfl | 1, hc => exact absurd rfl hc) (by
        show 896 + g.val % 128 = g.val
        omega)).trans ?_
    exact qHead_apply Q cs sn ![0, 896] slices_S256x1024_o0_896_S256x128 7 (by decide) rfl rfl u l r hQ hc hn g ⟨g.val % 128, hm⟩ (by
      show g.val = 7 * 128 + g.val % 128
      omega)

def kHead (Q : FVec Ideal S256x256 .f32) (cs sn : FVec Ideal S256x128 .f32) (off : Fin 2 → Nat) (hs : S256x256.Slices off S256x128) :
    FVec Ideal S256x128 .f32 :=
  headTurned (extractStridedSlice S256x128 off Q hs) cs sn

theorem kHead_apply (Q : FVec Ideal S256x256 .f32) (cs sn : FVec Ideal S256x128 .f32) (off : Fin 2 → Nat) (hs : S256x256.Slices off S256x128)
    (h : Nat) (hh : h < 2) (h0 : off 0 = 0) (h1 : off 1 = h * 128) (u : Nat → EReal) (l : Nat) (r : Fin 256)
    (hQ : ∀ g : Fin 256, Q (ix2 r g) = u g.val) (hc : ∀ j : Fin 128, cs (ix2 r j) = Ideal.cos (angle l j.val))
    (hn : ∀ j : Fin 128, sn (ix2 r j) = if j.val % 64 < 32 then -Ideal.sin (angle l j.val) else Ideal.sin (angle l j.val)) (g : Fin 256)
    (j : Fin 128) (hg : g.val = h * 128 + j.val) : kHead Q cs sn off hs (ix2 r j) = turn u (angle l g.val) g.val := by
  unfold kHead
  refine (headTurned_turn _ cs sn u (angle l) h r (fun j => ?_) hc hn j).trans ?_
  · refine (extractStridedSlice_apply off Q hs (ix2 r j) (ix2 r ⟨h * 128 + j.val, by have := j.isLt; omega⟩) fun a => ?_).trans (hQ _)
    match a with
    | 0 => show r.val = off 0 + r.val; omega
    | 1 => show h * 128 + j.val = off 1 + j.val; omega
  · rw [hg, angle_head]

/-- All heads turned. -/
def kAll (Q : FVec Ideal S256x256 .f32) (cs sn : FVec Ideal S256x128 .f32) : FVec Ideal S256x256 .f32 :=
  concatenate S256x256 1 [⟨S256x128, kHead Q cs sn ![0, 0] slices_S256x256_o0_0_S256x128⟩,
    ⟨S256x128, kHead Q cs sn ![0, 128] slices_S256x256_o0_128_S256x128⟩]
    concatenates_S256x128_S256x128_S256x256_d1

theorem kAll_apply (Q : FVec Ideal S256x256 .f32) (cs sn : FVec Ideal S256x128 .f32) (u : Nat → EReal) (l : Nat) (r : Fin 256)
    (hQ : ∀ g : Fin 256, Q (ix2 r g) = u g.val) (hc : ∀ j : Fin 128, cs (ix2 r j) = Ideal.cos (angle l j.val))
    (hn : ∀ j : Fin 128, sn (ix2 r j) = if j.val % 64 < 32 then -Ideal.sin (angle l j.val) else Ideal.sin (angle l j.val)) (g : Fin 256) :
    kAll Q cs sn (ix2 r g) = turn u (angle l g.val) g.val := by
  have hg := g.isLt
  have hm : g.val % 128 < 128 := Nat.mod_lt _ (by decide)
  unfold kAll
  have hd : g.val / 128 = 0 ∨ g.val / 128 = 1 := by omega
  rcases hd with h0 | h1
  · refine (concatenate_apply_piece (1 : Fin S256x256.rank) [⟨S256x128, _⟩, ⟨S256x128, _⟩] concatenates_S256x128_S256x128_S256x256_d1
      (ix2 r g) 0 (Nat.zero_lt_succ _) S256x128 _ rfl rfl 0 rfl (ix2 r ⟨g.val % 128, hm⟩)
      (fun c hc => by match c, hc with | 0, _ => rfl | 1, hc => exact absurd rfl hc) (by
        show 0 + g.val % 128 = g.val
        omega)).trans ?_
    exact kHead_apply Q cs sn ![0, 0] slices_S256x256_o0_0_S256x128 0 (by decide) rfl rfl u l r hQ hc hn g ⟨g.val % 128, hm⟩ (by
      show g.val = 0 * 128 + g.val % 128
      omega)
  · refine (concatenate_apply_piece (1 : Fin S256x256.rank) [⟨S256x128, _⟩, ⟨S256x128, _⟩] concatenates_S256x128_S256x128_S256x256_d1
      (ix2 r g) 1 (Nat.succ_lt_succ (Nat.zero_lt_succ _)) S256x128 _ rfl rfl 128 rfl (ix2 r ⟨g.val % 128, hm⟩)
      (fun c hc => by match c, hc with | 0, _ => rfl | 1, hc => exact absurd rfl hc) (by
        show 128 + g.val % 128 = g.val
        omega)).trans ?_
    exact kHead_apply Q cs sn ![0, 128] slices_S256x256_o0_128_S256x128 1 (by decide) rfl rfl u l r hQ hc hn g ⟨g.val % 128, hm⟩ (by
      show g.val = 1 * 128 + g.val % 128
      omega)

theorem pay13_eq (x : Vec Ideal S256x128 .f32) : k1_pay13 (F := Ideal) x = x := shapeCast_self x _
theorem pay14_eq (x : Vec Ideal S256x128 .f32) : k1_pay14 (F := Ideal) x = x := shapeCast_self x _

/-- The kernel's queries: all eight heads of the projection's first columns turned. -/
theorem q_eq (v20 v23 : FVec Ideal S1x2048 .f32) (v39 : FVec Ideal S256x2048 .f32) (v40 : FVec Ideal S1x2048 .f32) (v47 : Vec Ideal S2048x3584 .bf16)
    (cs sn : Vec Ideal S256x128 .f32) :
    k1_pay21 (F := Ideal) (k1_pay11 v20 v23 v39 v40 v47) (k1_pay13 cs) (k1_pay14 sn) k1_pay15 (k1_pay16 v20 v23 v39 v40 v47 cs sn)
        (k1_pay17 v20 v23 v39 v40 v47 cs sn) (k1_pay18 v20 v23 v39 v40 v47 cs sn) (k1_pay19 v20 v23 v39 v40 v47) (k1_pay20 v20 v23 v39 v40 v47) 32#32
      = qAll (k1_pay11 v20 v23 v39 v40 v47) cs sn := by
  unfold k1_pay21 k1_pay16 k1_pay17 k1_pay18 k1_pay20 k1_pay19
  rw [pay13_eq, pay14_eq]
  unfold qAll qHead headTurned
  rfl

theorem k_eq (v51 : FVec Ideal S256x256 .f32) (cs sn : Vec Ideal S256x128 .f32) :
    k1_pay1 (F := Ideal) (k1_pay13 cs) (k1_pay14 sn) k1_pay22 (k1_pay23 v51 (k1_pay13 cs) (k1_pay14 sn)) (k1_pay24 v51) 96#32
      = kAll v51 cs sn := by
  unfold k1_pay1 k1_pay23 k1_pay24
  rw [pay13_eq, pay14_eq]
  unfold kAll kHead headTurned
  rfl

end Cert.Lat

end
-- ==== Proof.LKernel.lean ====
module

public import proofs.«01_k».proof.Proof.LPay
public import Idealize.ShloMosaic.Lib.Pipeline.ValueKit.Acc
public import Idealize.ShloMosaic.Lib.Pipeline.ValueKit.Geometry
public import Idealize.ShloMosaic.Lib.Pipeline.ValueKit.Basic
public import Idealize.ShloMosaic.Lib.StableHlo.Run

@[expose] public section

noncomputable section

namespace Cert.Lat

open Cert.LatentIdeal Cert.LatentIdeal.Gen
open Idealize.ShloMosaic hiding ix1 ix2 ix3 ix4 ix5
open Idealize.ShloMosaic.TcCoe Idealize.ShloMosaic.ValueIdx
open Idealize.ShloMosaic.Pipeline (Dat)
open scoped BigOperators

section Regions
variable (V : (c : Dev nD) → (b : Ref sig .tc) → Buf (Elt Ideal) ((c : Thread nD τ).loc b))

/-! ## The first call: the modulation -/

def bC (c : Dev nD) : S8x2048.Idx → EReal := V c main_v2
def bWa (c : Dev nD) : S2048x12288.Idx → EReal := V c main_v3
def bBa (c : Dev nD) : S1x12288.Idx → EReal := V c main_v5

theorem ix00 : ∀ t : Fin cfg0.N, (cfg0.win 0).index t = ![0, 0] := by decide +kernel
theorem ix01 : ∀ t : Fin cfg0.N, (cfg0.win 1).index t = ![0, t.val] := by decide +kernel
theorem ix02 : ∀ t : Fin cfg0.N, (cfg0.win 2).index t = ![0, t.val] := by decide +kernel
theorem ix03 : ∀ t : Fin cfg0.N, (cfg0.win 3).index t = ![0, t.val] := by decide +kernel

theorem blk00 (c : Dev nD) (t : Fin cfg0.N) (r : Fin 8) (d : Fin 2048) : iblk0 V c 0 t (ix2 r d) = bC V c (ix2 r d) := by
  show bC V c (((cfg0.win 0).rect t).emb (ix2 r d)) = _
  refine congrArg (bC V c) (funext fun a => Fin.ext ?_)
  refine (Pipeline.Window.rect_emb_val (cfg0.win 0) t _ a (hk := rfl)).trans ?_
  rw [ix00]
  match a with
  | 0 => show 0 * 8 + r.val = r.val; omega
  | 1 => show 0 * 2048 + d.val = d.val; omega
theorem blk01 (c : Dev nD) (t : Fin cfg0.N) (d : Fin 2048) (f : Fin 1024) :
    iblk0 V c 1 t (ix2 d f) = bWa V c (ix2 d ⟨t.val * 1024 + f.val, by have : t.val < 12 := t.isLt; have := f.isLt; omega⟩) := by
  show bWa V c (((cfg0.win 1).rect t).emb (ix2 d f)) = _
  refine congrArg (bWa V c) (funext fun a => Fin.ext ?_)
  refine (Pipeline.Window.rect_emb_val (cfg0.win 1) t _ a (hk := rfl)).trans ?_
  rw [ix01]
  match a with
  | 0 => show 0 * 2048 + d.val = d.val; omega
  | 1 => rfl
theorem blk02 (c : Dev nD) (t : Fin cfg0.N) (f : Fin 1024) :
    iblk0 V c 2 t (ix2 (0 : Fin 1) f) = bBa V c (ix2 (0 : Fin 1) ⟨t.val * 1024 + f.val, by have : t.val < 12 := t.isLt; have := f.isLt; omega⟩) := by
  show bBa V c (((cfg0.win 2).rect t).emb (ix2 (0 : Fin 1) f)) = _
  refine congrArg (bBa V c) (funext fun a => Fin.ext ?_)
  refine (Pipeline.Window.rect_emb_val (cfg0.win 2) t _ a (hk := rfl)).trans ?_
  rw [ix02]
  match a with
  | 0 => rfl
  | 1 => rfl

/-- A row of the modulation. -/
def modRow (A : S8x2048.Idx → EReal) (W : S2048x12288.Idx → EReal) (B : S1x12288.Idx → EReal) (r : Fin 8) (n : Fin 12288) : EReal :=
  (∑ d : Fin 2048, (A (ix2 r d) * Ideal.logistic (A (ix2 r d))) * W (ix2 d n)) + B (ix2 (0 : Fin 1) n)

def modAll (A : S8x2048.Idx → EReal) (W : S2048x12288.Idx → EReal) (B : S1x12288.Idx → EReal) : S8x12288.Idx → EReal :=
  fun y => modRow A W B (y 0) (y 1)

theorem out0_apply (x0 : Vec Ideal S8x2048 .f32) (x1 : Vec Ideal S2048x1024 .f32) (x2 : Vec Ideal S1x1024 .f32) :
    out0_3 (F := Ideal) x0 x1 x2 = k0_pay1 (F := Ideal) x0 x1 x2 := by
  unfold out0_3
  refine (View.canon_unit_zero (by funext a; match a with | 0 => rfl | 1 => rfl) _ _).trans ?_
  refine congr (congr (congrArg (k0_pay1 (F := Ideal)) ?_) ?_) ?_
  · exact View.ld_unit_zero (by funext a; match a with | 0 => rfl | 1 => rfl) _ _
  · exact View.ld_unit_zero (by funext a; match a with | 0 => rfl | 1 => rfl) _ _
  · exact View.ld_unit_zero (by funext a; match a with | 0 => rfl | 1 => rfl) _ _

theorem after0_apply (c : Dev nD) (t : Fin cfg0.N) (r : Fin 8) (f : Fin 1024) :
    out0_3 (F := Ideal) (iblk0 V c 0 t) (iblk0 V c 1 t) (iblk0 V c 2 t) (ix2 r f)
      = modRow (bC V c) (bWa V c) (bBa V c) r ⟨t.val * 1024 + f.val, by have : t.val < 12 := t.isLt; have := f.isLt; omega⟩ := by
  rw [out0_apply]
  refine (mod_apply (iblk0 V c 0 t) (iblk0 V c 1 t) (iblk0 V c 2 t) r f).trans ?_
  unfold modRow
  refine congrArg₂ (fun a b : EReal => a + b) (Finset.sum_congr rfl fun d _ => ?_) (blk02 V c t f)
  exact congrArg₂ (fun a b : EReal => (a * Ideal.logistic a) * b) (blk00 V c t r d) (blk01 V c t d f)

/-- What point `t` of the first call leaves. -/
def o3 (c : Dev nD) (t : Fin cfg0.N) : S8x1024.Idx → EReal := out0_3 (F := Ideal) (iblk0 V c 0 t) (iblk0 V c 1 t) (iblk0 V c 2 t)
theorem o3_eq (c : Dev nD) (t : Fin cfg0.N) : (dat0 V c).after 3 t = o3 V c t := after0_3 V c t
theorem o3_apply (c : Dev nD) (t : Fin cfg0.N) (y : S8x1024.Idx) :
    o3 V c t y = modAll (bC V c) (bWa V c) (bBa V c) (((cfg0.win 3).rect t).emb y) := by
  have htN : t.val < 12 := t.isLt
  have hy0 : (y 0).val < 8 := (y 0).isLt
  have hy1 : (y 1).val < 1024 := (y 1).isLt
  have hy : y = ix2 (⟨(y 0).val, hy0⟩ : Fin 8) (⟨(y 1).val, hy1⟩ : Fin 1024) := ValueIdx.eq_ix2 y
  have hO := after0_apply V c t ⟨(y 0).val, hy0⟩ ⟨(y 1).val, hy1⟩
  have hL := (congrArg (o3 V c t) hy).trans hO
  refine hL.trans (congrArg (modAll (bC V c) (bWa V c) (bBa V c))
    (a₁ := ix2 (⟨(y 0).val, hy0⟩ : Fin 8) ⟨t.val * 1024 + (y 1).val, by omega⟩) (funext fun a => Fin.ext ?_))
  show _ = (((cfg0.win 3).rect t).emb y a).val
  refine Eq.symm ?_
  refine (Pipeline.Window.rect_emb_val (cfg0.win 3) t _ a (hk := rfl)).trans ?_
  rw [ix03]
  match a with
  | 0 => show 0 * 8 + (y 0).val = (y 0).val; omega
  | 1 => rfl
theorem arr0 (c : Dev nD) : (dat0 V c).arrAt 3 cfg0.N = modAll (bC V c) (bWa V c) (bBa V c) :=
  (dat0 V c).arrAt_eq_of_covers 3 _ (by decide +kernel) fun t hf y => (congrFun (o3_eq V c t) _).trans (o3_apply V c t y)

/-! ## The second call: the projection -/

def bX (c : Dev nD) : S4096x2048.Idx → EReal := V c main_v9
def bM (c : Dev nD) : S8x12288.Idx → EReal := V c main_v6
def bN (c : Dev nD) : S1x2048.Idx → EReal := V c main_v11
def bWi (c : Dev nD) : S2048x3584.Idx → EReal := V c main_v8
def bCos (c : Dev nD) : S1024x128.Idx → EReal := V c main_v39
def bSin (c : Dev nD) : S1024x128.Idx → EReal := V c main_v46

theorem ix10 : ∀ t : Fin cfg1.N, (cfg1.win 0).index t = ![t.val, 0] := by decide +kernel
theorem ix11 : ∀ t : Fin cfg1.N, (cfg1.win 1).index t = ![0, 0] := by decide +kernel
theorem ix12 : ∀ t : Fin cfg1.N, (cfg1.win 2).index t = ![0, 0] := by decide +kernel
theorem ix13 : ∀ t : Fin cfg1.N, (cfg1.win 3).index t = ![0, 0] := by decide +kernel
theorem ix14 : ∀ t : Fin cfg1.N, (cfg1.win 4).index t = ![t.val % 4, 0] := by decide +kernel
theorem ix15 : ∀ t : Fin cfg1.N, (cfg1.win 5).index t = ![t.val % 4, 0] := by decide +kernel
theorem ix1_6 : ∀ t : Fin cfg1.N, (cfg1.win 6).index t = ![t.val, 0] := by decide +kernel
theorem ix1_7 : ∀ t : Fin cfg1.N, (cfg1.win 7).index t = ![t.val, 0] := by decide +kernel
theorem ix1_8 : ∀ t : Fin cfg1.N, (cfg1.win 8).index t = ![t.val, 0] := by decide +kernel
theorem ix1_9 : ∀ t : Fin cfg1.N, (cfg1.win 9).index t = ![t.val, 0] := by decide +kernel
theorem ix1_10 : ∀ t : Fin cfg1.N, (cfg1.win 10).index t = ![t.val, 0] := by decide +kernel

theorem blk10 (c : Dev nD) (t : Fin cfg1.N) (r : Fin 256) (d : Fin 2048) :
    iblk1 V c 0 t (ix2 r d) = bX V c (ix2 ⟨t.val * 256 + r.val, by have : t.val < 16 := t.isLt; have := r.isLt; omega⟩ d) := by
  show bX V c (((cfg1.win 0).rect t).emb (ix2 r d)) = _
  refine congrArg (bX V c) (funext fun a => Fin.ext ?_)
  refine (Pipeline.Window.rect_emb_val (cfg1.win 0) t _ a (hk := rfl)).trans ?_
  rw [ix10]
  match a with
  | 0 => rfl
  | 1 => show 0 * 2048 + d.val = d.val; omega
theorem blk11 (c : Dev nD) (t : Fin cfg1.N) : iblk1 V c 1 t = bM V c := by
  funext y
  show bM V c (((cfg1.win 1).rect t).emb y) = _
  refine congrArg (bM V c) (funext fun a => Fin.ext ?_)
  refine (Pipeline.Window.rect_emb_val (cfg1.win 1) t _ a (hk := rfl)).trans ?_
  rw [ix11]
  match a with
  | 0 => show 0 * 8 + (y 0).val = (y 0).val; omega
  | 1 => show 0 * 12288 + (y 1).val = (y 1).val; omega
theorem blk12 (c : Dev nD) (t : Fin cfg1.N) : iblk1 V c 2 t = bN V c := by
  funext y
  show bN V c (((cfg1.win 2).rect t).emb y) = _
  refine congrArg (bN V c) (funext fun a => Fin.ext ?_)
  refine (Pipeline.Window.rect_emb_val (cfg1.win 2) t _ a (hk := rfl)).trans ?_
  rw [ix12]
  match a with
  | 0 => show 0 * 1 + (y 0).val = (y 0).val; omega
  | 1 => show 0 * 2048 + (y 1).val = (y 1).val; omega
theorem blk13 (c : Dev nD) (t : Fin cfg1.N) : iblk1 V c 3 t = bWi V c := by
  funext y
  show bWi V c (((cfg1.win 3).rect t).emb y) = _
  refine congrArg (bWi V c) (funext fun a => Fin.ext ?_)
  refine (Pipeline.Window.rect_emb_val (cfg1.win 3) t _ a (hk := rfl)).trans ?_
  rw [ix13]
  match a with
  | 0 => show 0 * 2048 + (y 0).val = (y 0).val; omega
  | 1 => show 0 * 3584 + (y 1).val = (y 1).val; omega

theorem blk14 (c : Dev nD) (t : Fin cfg1.N) (r : Fin 256) (j : Fin 128) :
    iblk1 V c 4 t (ix2 r j) = bCos V c (ix2 ⟨t.val % 4 * 256 + r.val, by have := r.isLt; omega⟩ j) := by
  show bCos V c (((cfg1.win 4).rect t).emb (ix2 r j)) = _
  refine congrArg (bCos V c) (funext fun a => Fin.ext ?_)
  refine (Pipeline.Window.rect_emb_val (cfg1.win 4) t _ a (hk := rfl)).trans ?_
  rw [ix14]
  match a with
  | 0 => rfl
  | 1 => show 0 * 128 + j.val = j.val; omega
theorem blk15 (c : Dev nD) (t : Fin cfg1.N) (r : Fin 256) (j : Fin 128) :
    iblk1 V c 5 t (ix2 r j) = bSin V c (ix2 ⟨t.val % 4 * 256 + r.val, by have := r.isLt; omega⟩ j) := by
  show bSin V c (((cfg1.win 5).rect t).emb (ix2 r j)) = _
  refine congrArg (bSin V c) (funext fun a => Fin.ext ?_)
  refine (Pipeline.Window.rect_emb_val (cfg1.win 5) t _ a (hk := rfl)).trans ?_
  rw [ix15]
  match a with
  | 0 => rfl
  | 1 => show 0 * 128 + j.val = j.val; omega

/-- The row of the modulation a block's stream takes its shift, and its scale, from. -/
def shiftLd (i : grid1.Coords) (M : Vec Ideal S8x12288 .f32) : Vec Ideal S1x2048 .f32 := View.ld M (Rect.unit (k1_off1 i) ![1, 2048] (k1_off1_inb i))
def scaleLd (i : grid1.Coords) (M : Vec Ideal S8x12288 .f32) : Vec Ideal S1x2048 .f32 := View.ld M (Rect.unit (k1_off2 i) ![1, 2048] (k1_off2_inb i))

theorem off1_eq : ∀ t : Fin cfg1.N, k1_off1 (grid1.coords t) = ![1 + t.val / 4, 0] := by decide +kernel
theorem off2_eq : ∀ t : Fin cfg1.N, k1_off2 (grid1.coords t) = ![1 + t.val / 4, 2048] := by decide +kernel

/-- The value the second call makes its results from. -/
def zK (i : grid1.Coords) (x0 : Vec Ideal S256x2048 .f32) (x1 : Vec Ideal S8x12288 .f32) (x2 : Vec Ideal S1x2048 .f32) (x3 : Vec Ideal S2048x3584 .bf16) :
    FVec Ideal S256x3584 .f32 := inProj (shiftLd i x1) (scaleLd i x1) x0 x2 x3

section Outs
variable (c : Dev nD) (i : grid1.Coords) (arg1 : Memref sig .tc .vmem S256x2048 .f32) (harg1 : arg1.IsWhole) (arg2 : Memref sig .tc .vmem S8x12288 .f32) (harg2 : arg2.IsWhole) (arg3 : Memref sig .tc .vmem S1x2048 .f32) (harg3 : arg3.IsWhole) (arg4 : Memref sig .tc .vmem S2048x3584 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1024 .bf16) (harg7 : arg7.IsWhole) (arg8 : Memref sig .tc .vmem S256x256 .f32) (harg8 : arg8.IsWhole) (arg9 : Memref sig .tc .vmem S256x256 .f32) (harg9 : arg9.IsWhole) (arg10 : Memref sig .tc .vmem S256x1024 .f32) (harg10 : arg10.IsWhole) (arg11 : Memref sig .tc .vmem S256x1024 .f32) (harg11 : arg11.IsWhole)
  (x0 : Vec Ideal S256x2048 .f32) (x1 : Vec Ideal S8x12288 .f32) (x2 : Vec Ideal S1x2048 .f32) (x3 : Vec Ideal S2048x3584 .bf16) (x4 : Vec Ideal S256x128 .f32) (x5 : Vec Ideal S256x128 .f32)

theorem out_6 : out1_A_6 (F := Ideal) c i arg1 harg1 arg2 harg2 arg3 harg3 arg4 harg4 arg5 harg5 arg6 harg6 arg7 harg7 arg8 harg8 arg9 harg9 arg10 harg10 arg11 harg11 x0 x1 x2 x3 x4 x5
    = k1_pay2 (F := Ideal) (qAll (extractStridedSlice S256x1024 ![0, 0] (zK i x0 x1 x2 x3) slices_S256x3584_o0_0_S256x1024) x4 x5) := by
  frame_out
  refine congrArg (k1_pay2 (F := Ideal)) ((q_eq _ _ _ _ _ _ _).trans ?_)
  unfold k1_pay11 zK inProj shiftLd scaleLd
  rfl

theorem out_7 : out1_A_7 (F := Ideal) c i arg1 harg1 arg2 harg2 arg3 harg3 arg4 harg4 arg5 harg5 arg6 harg6 arg7 harg7 arg8 harg8 arg9 harg9 arg10 harg10 arg11 harg11 x0 x1 x2 x3 x4 x5
    = kAll (extractStridedSlice S256x256 ![0, 1024] (zK i x0 x1 x2 x3) slices_S256x3584_o0_1024_S256x256) x4 x5 := by
  frame_out
  refine (k_eq _ _ _).trans ?_
  unfold k1_pay12 zK inProj shiftLd scaleLd
  rfl

theorem out_8 : out1_A_8 (F := Ideal) c i arg1 harg1 arg2 harg2 arg3 harg3 arg4 harg4 arg5 harg5 arg6 harg6 arg7 harg7 arg8 harg8 arg9 harg9 arg10 harg10 arg11 harg11 x0 x1 x2 x3 x4 x5
    = extractStridedSlice S256x256 ![0, 1280] (zK i x0 x1 x2 x3) slices_S256x3584_o0_1280_S256x256 := by
  frame_out
  unfold k1_pay3 zK inProj shiftLd scaleLd
  rfl

theorem out_9 : out1_A_9 (F := Ideal) c i arg1 harg1 arg2 harg2 arg3 harg3 arg4 harg4 arg5 harg5 arg6 harg6 arg7 harg7 arg8 harg8 arg9 harg9 arg10 harg10 arg11 harg11 x0 x1 x2 x3 x4 x5
    = extractStridedSlice S256x1024 ![0, 1536] (zK i x0 x1 x2 x3) slices_S256x3584_o0_1536_S256x1024 := by
  frame_out
  unfold k1_pay4 zK inProj shiftLd scaleLd
  rfl

theorem out_10 : out1_A_10 (F := Ideal) c i arg1 harg1 arg2 harg2 arg3 harg3 arg4 harg4 arg5 harg5 arg6 harg6 arg7 harg7 arg8 harg8 arg9 harg9 arg10 harg10 arg11 harg11 x0 x1 x2 x3 x4 x5
    = extractStridedSlice S256x1024 ![0, 2560] (zK i x0 x1 x2 x3) slices_S256x3584_o0_2560_S256x1024 := by
  frame_out
  unfold k1_pay5 zK inProj shiftLd scaleLd
  rfl

end Outs

/-- The projection of row `r` of the tokens `A`, under modulation `M`. -/
def projRow (A : S4096x2048.Idx → EReal) (M : S8x12288.Idx → EReal) (N : S1x2048.Idx → EReal) (W : S2048x3584.Idx → EReal)
    (r : Fin 4096) (e : Fin 3584) : EReal :=
  ∑ d : Fin 2048, (A (ix2 r d)
      * Ideal.rsqrt (Ideal.div (∑ d : Fin 2048, A (ix2 r d) * A (ix2 r d)) (Ideal.ofBits .f32 0x45000000#32) + Ideal.ofBits .f32 0x358637BD#32)
      * N (ix2 (0 : Fin 1) d)
      * (1 + M (ix2 (⟨1 + r.val / 1024, by have := r.isLt; omega⟩ : Fin 8) ⟨2048 + d.val, by have := d.isLt; omega⟩))
      + M (ix2 (⟨1 + r.val / 1024, by have := r.isLt; omega⟩ : Fin 8) ⟨d.val, by have := d.isLt; omega⟩)) * W (ix2 d e)

/-- The block's value. -/
def zB (c : Dev nD) (t : Fin cfg1.N) : FVec Ideal S256x3584 .f32 :=
  zK (grid1.coords t) (iblk1 V c 0 t) (iblk1 V c 1 t) (iblk1 V c 2 t) (iblk1 V c 3 t)

theorem shift_apply (t : Fin cfg1.N) (M : Vec Ideal S8x12288 .f32) (d : Fin 2048) :
    shiftLd (grid1.coords t) M (ix2 (0 : Fin 1) d)
      = M (ix2 (⟨1 + t.val / 4, by have : t.val < 16 := t.isLt; omega⟩ : Fin 8) ⟨d.val, by have := d.isLt; omega⟩) := by
  unfold shiftLd
  refine congrArg M (funext fun a => Fin.ext ?_)
  show k1_off1 (grid1.coords t) a + 1 * (ix2 (0 : Fin 1) d a).val = _
  rw [off1_eq]
  match a with
  | 0 => rfl
  | 1 => show 0 + 1 * d.val = d.val; omega
theorem scale_apply (t : Fin cfg1.N) (M : Vec Ideal S8x12288 .f32) (d : Fin 2048) :
    scaleLd (grid1.coords t) M (ix2 (0 : Fin 1) d)
      = M (ix2 (⟨1 + t.val / 4, by have : t.val < 16 := t.isLt; omega⟩ : Fin 8) ⟨2048 + d.val, by have := d.isLt; omega⟩) := by
  unfold scaleLd
  refine congrArg M (funext fun a => Fin.ext ?_)
  show k1_off2 (grid1.coords t) a + 1 * (ix2 (0 : Fin 1) d a).val = _
  rw [off2_eq]
  match a with
  | 0 => rfl
  | 1 => show 2048 + 1 * d.val = 2048 + d.val; omega

theorem zB_apply (c : Dev nD) (t : Fin cfg1.N) (r : Fin 256) (e : Fin 3584) :
    zB V c t (ix2 r e) = projRow (bX V c) (bM V c) (bN V c) (bWi V c) ⟨t.val * 256 + r.val, by have : t.val < 16 := t.isLt; have := r.isLt; omega⟩ e := by
  unfold zB zK
  refine (inProj_apply _ _ (iblk1 V c 0 t) (iblk1 V c 2 t) (iblk1 V c 3 t) r e).trans ?_
  unfold projRow
  refine Finset.sum_congr rfl fun d _ => ?_
  have hrs : rsRow (iblk1 V c 0 t) r = Ideal.rsqrt (Ideal.div (∑ d : Fin 2048,
      bX V c (ix2 ⟨t.val * 256 + r.val, by have : t.val < 16 := t.isLt; have := r.isLt; omega⟩ d)
        * bX V c (ix2 ⟨t.val * 256 + r.val, by have : t.val < 16 := t.isLt; have := r.isLt; omega⟩ d)) (Ideal.ofBits .f32 0x45000000#32)
      + Ideal.ofBits .f32 0x358637BD#32) := by
    unfold rsRow
    refine congrArg (fun s : EReal => Ideal.rsqrt (Ideal.div s (Ideal.ofBits .f32 0x45000000#32) + Ideal.ofBits .f32 0x358637BD#32)) ?_
    exact Finset.sum_congr rfl fun d _ => congrArg₂ (fun a b : EReal => a * b) (blk10 V c t r d) (blk10 V c t r d)
  have hrow : (⟨1 + t.val / 4, by have : t.val < 16 := t.isLt; omega⟩ : Fin 8)
      = ⟨1 + (t.val * 256 + r.val) / 1024, by have : t.val < 16 := t.isLt; have := r.isLt; omega⟩ :=
    Fin.ext (show 1 + t.val / 4 = 1 + (t.val * 256 + r.val) / 1024 by have := r.isLt; omega)
  have hsh := (shift_apply t (iblk1 V c 1 t) d).trans ((congrFun (blk11 V c t) _).trans (congrArg (fun k : Fin 8 => bM V c (ix2 k ⟨d.val, by have := d.isLt; omega⟩)) hrow))
  have hsc := (scale_apply t (iblk1 V c 1 t) d).trans ((congrFun (blk11 V c t) _).trans (congrArg (fun k : Fin 8 => bM V c (ix2 k ⟨2048 + d.val, by have := d.isLt; omega⟩)) hrow))
  have hn := congrFun (blk12 V c t) (ix2 (0 : Fin 1) d)
  have hw := congrFun (blk13 V c t) (ix2 d e)
  rw [hrs]
  refine congrArg₂ (fun a b : EReal => a * b) (congrArg₂ (fun a b : EReal => a + b) (congrArg₂ (fun a b : EReal => a * b)
    (congrArg₂ (fun a b : EReal => a * b) (congrArg (fun a : EReal => a * _) (blk10 V c t r d)) hn)
    (congrArg (fun a : EReal => 1 + a) hsc)) hsh) hw

/-- Columns `o` on of the projection. -/
def projW (A : S4096x2048.Idx → EReal) (M : S8x12288.Idx → EReal) (N : S1x2048.Idx → EReal) (W : S2048x3584.Idx → EReal)
    (o : Nat) (ho : o + 1024 ≤ 3584) : S4096x1024.Idx → EReal := fun y =>
  projRow A M N W (y 0) ⟨o + (y 1).val, by have : (y 1).val < 1024 := (y 1).isLt; omega⟩
def projN (A : S4096x2048.Idx → EReal) (M : S8x12288.Idx → EReal) (N : S1x2048.Idx → EReal) (W : S2048x3584.Idx → EReal)
    (o : Nat) (ho : o + 256 ≤ 3584) : S4096x256.Idx → EReal := fun y =>
  projRow A M N W (y 0) ⟨o + (y 1).val, by have : (y 1).val < 256 := (y 1).isLt; omega⟩

theorem cutW_apply (c : Dev nD) (t : Fin cfg1.N) (off : Fin 2 → Nat) (o : Nat) (h0 : off 0 = 0) (h1 : off 1 = o) (ho : o + 1024 ≤ 3584)
    (hs : S256x3584.Slices off S256x1024) (y : S256x1024.Idx) :
    extractStridedSlice S256x1024 off (zB V c t) hs y = projW (bX V c) (bM V c) (bN V c) (bWi V c) o ho
      (ix2 ⟨t.val * 256 + (y 0).val, by have : t.val < 16 := t.isLt; have : (y 0).val < 256 := (y 0).isLt; omega⟩ (y 1)) := by
  have hy1 : (y 1).val < 1024 := (y 1).isLt
  refine (extractStridedSlice_apply off _ hs y (ix2 (y 0) (⟨o + (y 1).val, by omega⟩ : Fin 3584)) fun a => ?_).trans (zB_apply V c t _ _)
  match a with
  | 0 => show (y 0).val = off 0 + (y 0).val; omega
  | 1 => show o + (y 1).val = off 1 + (y 1).val; omega
theorem cutN_apply (c : Dev nD) (t : Fin cfg1.N) (off : Fin 2 → Nat) (o : Nat) (h0 : off 0 = 0) (h1 : off 1 = o) (ho : o + 256 ≤ 3584)
    (hs : S256x3584.Slices off S256x256) (y : S256x256.Idx) :
    extractStridedSlice S256x256 off (zB V c t) hs y = projN (bX V c) (bM V c) (bN V c) (bWi V c) o ho
      (ix2 ⟨t.val * 256 + (y 0).val, by have : t.val < 16 := t.isLt; have : (y 0).val < 256 := (y 0).isLt; omega⟩ (y 1)) := by
  have hy1 : (y 1).val < 256 := (y 1).isLt
  refine (extractStridedSlice_apply off _ hs y (ix2 (y 0) (⟨o + (y 1).val, by omega⟩ : Fin 3584)) fun a => ?_).trans (zB_apply V c t _ _)
  match a with
  | 0 => show (y 0).val = off 0 + (y 0).val; omega
  | 1 => show o + (y 1).val = off 1 + (y 1).val; omega

/-- Columns `o` on of the projection, turned. -/
def turn1024 (A : S4096x2048.Idx → EReal) (M : S8x12288.Idx → EReal) (N : S1x2048.Idx → EReal) (W : S2048x3584.Idx → EReal)
    (o : Nat) (ho : o + 1024 ≤ 3584) : S4096x1024.Idx → EReal := fun y =>
  turn (cols o 1024 ho (projRow A M N W (y 0))) (angle ((y 0).val % 1024) (y 1).val) (y 1).val

theorem tbl1024_apply (c : Dev nD) (hC : ∀ (l : Fin 1024) (j : Fin 128), bCos V c (ix2 l j) = Ideal.cos (angle l.val j.val))
    (hS : ∀ (l : Fin 1024) (j : Fin 128), bSin V c (ix2 l j) = if j.val % 64 < 32 then -Ideal.sin (angle l.val j.val) else Ideal.sin (angle l.val j.val))
    (t : Fin cfg1.N) (off : Fin 2 → Nat) (o : Nat) (h0 : off 0 = 0) (h1 : off 1 = o) (ho : o + 1024 ≤ 3584)
    (hs : S256x3584.Slices off S256x1024) (y : S256x1024.Idx) :
    qAll (extractStridedSlice S256x1024 off (zB V c t) hs) (iblk1 V c 4 t) (iblk1 V c 5 t) y = turn1024 (bX V c) (bM V c) (bN V c) (bWi V c) o ho
      (ix2 ⟨t.val * 256 + (y 0).val, by have : t.val < 16 := t.isLt; have : (y 0).val < 256 := (y 0).isLt; omega⟩ (y 1)) := by
  have ht : t.val < 16 := t.isLt
  have hy0 : (y 0).val < 256 := (y 0).isLt
  have hy1 : (y 1).val < 1024 := (y 1).isLt
  have hy : y = ix2 (⟨(y 0).val, hy0⟩ : Fin 256) (⟨(y 1).val, hy1⟩ : Fin 1024) := ValueIdx.eq_ix2 y
  have hl : t.val % 4 * 256 + (y 0).val = (t.val * 256 + (y 0).val) % 1024 := by omega
  have h := qAll_apply (extractStridedSlice S256x1024 off (zB V c t) hs) (iblk1 V c 4 t) (iblk1 V c 5 t)
    (cols o 1024 ho (projRow (bX V c) (bM V c) (bN V c) (bWi V c) ⟨t.val * 256 + (y 0).val, by omega⟩)) (t.val % 4 * 256 + (y 0).val)
    ⟨(y 0).val, hy0⟩ (fun g => by
      unfold cols
      rw [dif_pos g.isLt]
      refine (extractStridedSlice_apply off _ hs _ (ix2 (⟨(y 0).val, hy0⟩ : Fin 256) (⟨o + g.val, by have := g.isLt; omega⟩ : Fin 3584)) fun a => ?_).trans
        (zB_apply V c t _ _)
      match a with
      | 0 => show (y 0).val = off 0 + (y 0).val; omega
      | 1 => show o + g.val = off 1 + g.val; omega)
    (fun j => (blk14 V c t _ j).trans (hC _ j)) (fun j => (blk15 V c t _ j).trans (hS _ j)) ⟨(y 1).val, hy1⟩
  refine (congrArg _ hy).trans (h.trans ?_)
  unfold turn1024
  show turn _ (angle (t.val % 4 * 256 + (y 0).val) (y 1).val) (y 1).val = turn _ (angle ((t.val * 256 + (y 0).val) % 1024) (y 1).val) (y 1).val
  rw [hl]

/-- Columns `o` on of the projection, turned. -/
def turn256 (A : S4096x2048.Idx → EReal) (M : S8x12288.Idx → EReal) (N : S1x2048.Idx → EReal) (W : S2048x3584.Idx → EReal)
    (o : Nat) (ho : o + 256 ≤ 3584) : S4096x256.Idx → EReal := fun y =>
  turn (cols o 256 ho (projRow A M N W (y 0))) (angle ((y 0).val % 1024) (y 1).val) (y 1).val

theorem tbl256_apply (c : Dev nD) (hC : ∀ (l : Fin 1024) (j : Fin 128), bCos V c (ix2 l j) = Ideal.cos (angle l.val j.val))
    (hS : ∀ (l : Fin 1024) (j : Fin 128), bSin V c (ix2 l j) = if j.val % 64 < 32 then -Ideal.sin (angle l.val j.val) else Ideal.sin (angle l.val j.val))
    (t : Fin cfg1.N) (off : Fin 2 → Nat) (o : Nat) (h0 : off 0 = 0) (h1 : off 1 = o) (ho : o + 256 ≤ 3584)
    (hs : S256x3584.Slices off S256x256) (y : S256x256.Idx) :
    kAll (extractStridedSlice S256x256 off (zB V c t) hs) (iblk1 V c 4 t) (iblk1 V c 5 t) y = turn256 (bX V c) (bM V c) (bN V c) (bWi V c) o ho
      (ix2 ⟨t.val * 256 + (y 0).val, by have : t.val < 16 := t.isLt; have : (y 0).val < 256 := (y 0).isLt; omega⟩ (y 1)) := by
  have ht : t.val < 16 := t.isLt
  have hy0 : (y 0).val < 256 := (y 0).isLt
  have hy1 : (y 1).val < 256 := (y 1).isLt
  have hy : y = ix2 (⟨(y 0).val, hy0⟩ : Fin 256) (⟨(y 1).val, hy1⟩ : Fin 256) := ValueIdx.eq_ix2 y
  have hl : t.val % 4 * 256 + (y 0).val = (t.val * 256 + (y 0).val) % 1024 := by omega
  have h := kAll_apply (extractStridedSlice S256x256 off (zB V c t) hs) (iblk1 V c 4 t) (iblk1 V c 5 t)
    (cols o 256 ho (projRow (bX V c) (bM V c) (bN V c) (bWi V c) ⟨t.val * 256 + (y 0).val, by omega⟩)) (t.val % 4 * 256 + (y 0).val)
    ⟨(y 0).val, hy0⟩ (fun g => by
      unfold cols
      rw [dif_pos g.isLt]
      refine (extractStridedSlice_apply off _ hs _ (ix2 (⟨(y 0).val, hy0⟩ : Fin 256) (⟨o + g.val, by have := g.isLt; omega⟩ : Fin 3584)) fun a => ?_).trans
        (zB_apply V c t _ _)
      match a with
      | 0 => show (y 0).val = off 0 + (y 0).val; omega
      | 1 => show o + g.val = off 1 + g.val; omega)
    (fun j => (blk14 V c t _ j).trans (hC _ j)) (fun j => (blk15 V c t _ j).trans (hS _ j)) ⟨(y 1).val, hy1⟩
  refine (congrArg _ hy).trans (h.trans ?_)
  unfold turn256
  show turn _ (angle (t.val % 4 * 256 + (y 0).val) (y 1).val) (y 1).val = turn _ (angle ((t.val * 256 + (y 0).val) % 1024) (y 1).val) (y 1).val
  rw [hl]

def o6 (c : Dev nD) (t : Fin cfg1.N) : S256x1024.Idx → EReal := (outsAt1 (F := Ideal) V c t).1
theorem o6_eq (c : Dev nD) (t : Fin cfg1.N) : (dat1 V c).after 6 t = o6 V c t := after1_6 V c t
theorem o6_cut (c : Dev nD) (t : Fin cfg1.N) : o6 V c t
    = k1_pay2 (F := Ideal) (qAll (extractStridedSlice S256x1024 ![0, 0] (zB V c t) slices_S256x3584_o0_0_S256x1024) (iblk1 V c 4 t) (iblk1 V c 5 t)) := by
  unfold o6 outsAt1 zB
  dsimp only
  rw [out_6]
theorem o6_apply (c : Dev nD) (hC : ∀ (l : Fin 1024) (j : Fin 128), bCos V c (ix2 l j) = Ideal.cos (angle l.val j.val))
    (hS : ∀ (l : Fin 1024) (j : Fin 128), bSin V c (ix2 l j) = if j.val % 64 < 32 then -Ideal.sin (angle l.val j.val) else Ideal.sin (angle l.val j.val)) (t : Fin cfg1.N) (y : S256x1024.Idx) :
    o6 V c t y = turn1024 (bX V c) (bM V c) (bN V c) (bWi V c) 0 (by decide) (((cfg1.win 6).rect t).emb y) := by
  refine (congrFun (o6_cut V c t) y).trans ((tbl1024_apply V c hC hS t ![0, 0] 0 rfl rfl (by decide) _ y).trans (congrArg (turn1024 _ _ _ _ 0 _) (funext fun a => Fin.ext ?_)))
  show _ = (((cfg1.win 6).rect t).emb y a).val
  refine Eq.symm ?_
  refine (Pipeline.Window.rect_emb_val (cfg1.win 6) t _ a (hk := rfl)).trans ?_
  rw [ix1_6]
  match a with
  | 0 => rfl
  | 1 => show 0 * 1024 + (y 1).val = (y 1).val; omega
theorem arr6 (c : Dev nD) (hC : ∀ (l : Fin 1024) (j : Fin 128), bCos V c (ix2 l j) = Ideal.cos (angle l.val j.val))
    (hS : ∀ (l : Fin 1024) (j : Fin 128), bSin V c (ix2 l j) = if j.val % 64 < 32 then -Ideal.sin (angle l.val j.val) else Ideal.sin (angle l.val j.val)) : (dat1 V c).arrAt 6 cfg1.N = turn1024 (bX V c) (bM V c) (bN V c) (bWi V c) 0 (by decide) :=
  (dat1 V c).arrAt_eq_of_covers 6 _ (by decide +kernel) fun t hf y => (congrFun (o6_eq V c t) _).trans (o6_apply V c hC hS t y)

def o7 (c : Dev nD) (t : Fin cfg1.N) : S256x256.Idx → EReal := (outsAt1 (F := Ideal) V c t).2.1
theorem o7_eq (c : Dev nD) (t : Fin cfg1.N) : (dat1 V c).after 7 t = o7 V c t := after1_7 V c t
theorem o7_cut (c : Dev nD) (t : Fin cfg1.N) : o7 V c t
    = kAll (extractStridedSlice S256x256 ![0, 1024] (zB V c t) slices_S256x3584_o0_1024_S256x256) (iblk1 V c 4 t) (iblk1 V c 5 t) := by
  unfold o7 outsAt1 zB
  dsimp only
  rw [out_7]
theorem o7_apply (c : Dev nD) (hC : ∀ (l : Fin 1024) (j : Fin 128), bCos V c (ix2 l j) = Ideal.cos (angle l.val j.val))
    (hS : ∀ (l : Fin 1024) (j : Fin 128), bSin V c (ix2 l j) = if j.val % 64 < 32 then -Ideal.sin (angle l.val j.val) else Ideal.sin (angle l.val j.val)) (t : Fin cfg1.N) (y : S256x256.Idx) :
    o7 V c t y = turn256 (bX V c) (bM V c) (bN V c) (bWi V c) 1024 (by decide) (((cfg1.win 7).rect t).emb y) := by
  refine (congrFun (o7_cut V c t) y).trans ((tbl256_apply V c hC hS t ![0, 1024] 1024 rfl rfl (by decide) _ y).trans (congrArg (turn256 _ _ _ _ 1024 _) (funext fun a => Fin.ext ?_)))
  show _ = (((cfg1.win 7).rect t).emb y a).val
  refine Eq.symm ?_
  refine (Pipeline.Window.rect_emb_val (cfg1.win 7) t _ a (hk := rfl)).trans ?_
  rw [ix1_7]
  match a with
  | 0 => rfl
  | 1 => show 0 * 256 + (y 1).val = (y 1).val; omega
theorem arr7 (c : Dev nD) (hC : ∀ (l : Fin 1024) (j : Fin 128), bCos V c (ix2 l j) = Ideal.cos (angle l.val j.val))
    (hS : ∀ (l : Fin 1024) (j : Fin 128), bSin V c (ix2 l j) = if j.val % 64 < 32 then -Ideal.sin (angle l.val j.val) else Ideal.sin (angle l.val j.val)) : (dat1 V c).arrAt 7 cfg1.N = turn256 (bX V c) (bM V c) (bN V c) (bWi V c) 1024 (by decide) :=
  (dat1 V c).arrAt_eq_of_covers 7 _ (by decide +kernel) fun t hf y => (congrFun (o7_eq V c t) _).trans (o7_apply V c hC hS t y)

def o8 (c : Dev nD) (t : Fin cfg1.N) : S256x256.Idx → EReal := (outsAt1 (F := Ideal) V c t).2.2.1
theorem o8_eq (c : Dev nD) (t : Fin cfg1.N) : (dat1 V c).after 8 t = o8 V c t := after1_8 V c t
theorem o8_cut (c : Dev nD) (t : Fin cfg1.N) : o8 V c t
    = extractStridedSlice S256x256 ![0, 1280] (zB V c t) slices_S256x3584_o0_1280_S256x256 := by
  unfold o8 outsAt1 zB
  dsimp only
  rw [out_8]
theorem o8_apply (c : Dev nD) (t : Fin cfg1.N) (y : S256x256.Idx) :
    o8 V c t y = projN (bX V c) (bM V c) (bN V c) (bWi V c) 1280 (by decide) (((cfg1.win 8).rect t).emb y) := by
  refine (congrFun (o8_cut V c t) y).trans ((cutN_apply V c t ![0, 1280] 1280 rfl rfl (by decide) _ y).trans (congrArg (projN _ _ _ _ 1280 _) (funext fun a => Fin.ext ?_)))
  show _ = (((cfg1.win 8).rect t).emb y a).val
  refine Eq.symm ?_
  refine (Pipeline.Window.rect_emb_val (cfg1.win 8) t _ a (hk := rfl)).trans ?_
  rw [ix1_8]
  match a with
  | 0 => rfl
  | 1 => show 0 * 256 + (y 1).val = (y 1).val; omega
theorem arr8 (c : Dev nD) : (dat1 V c).arrAt 8 cfg1.N = projN (bX V c) (bM V c) (bN V c) (bWi V c) 1280 (by decide) :=
  (dat1 V c).arrAt_eq_of_covers 8 _ (by decide +kernel) fun t hf y => (congrFun (o8_eq V c t) _).trans (o8_apply V c t y)

def o9 (c : Dev nD) (t : Fin cfg1.N) : S256x1024.Idx → EReal := (outsAt1 (F := Ideal) V c t).2.2.2.1
theorem o9_eq (c : Dev nD) (t : Fin cfg1.N) : (dat1 V c).after 9 t = o9 V c t := after1_9 V c t
theorem o9_cut (c : Dev nD) (t : Fin cfg1.N) : o9 V c t
    = extractStridedSlice S256x1024 ![0, 1536] (zB V c t) slices_S256x3584_o0_1536_S256x1024 := by
  unfold o9 outsAt1 zB
  dsimp only
  rw [out_9]
theorem o9_apply (c : Dev nD) (t : Fin cfg1.N) (y : S256x1024.Idx) :
    o9 V c t y = projW (bX V c) (bM V c) (bN V c) (bWi V c) 1536 (by decide) (((cfg1.win 9).rect t).emb y) := by
  refine (congrFun (o9_cut V c t) y).trans ((cutW_apply V c t ![0, 1536] 1536 rfl rfl (by decide) _ y).trans (congrArg (projW _ _ _ _ 1536 _) (funext fun a => Fin.ext ?_)))
  show _ = (((cfg1.win 9).rect t).emb y a).val
  refine Eq.symm ?_
  refine (Pipeline.Window.rect_emb_val (cfg1.win 9) t _ a (hk := rfl)).trans ?_
  rw [ix1_9]
  match a with
  | 0 => rfl
  | 1 => show 0 * 1024 + (y 1).val = (y 1).val; omega
theorem arr9 (c : Dev nD) : (dat1 V c).arrAt 9 cfg1.N = projW (bX V c) (bM V c) (bN V c) (bWi V c) 1536 (by decide) :=
  (dat1 V c).arrAt_eq_of_covers 9 _ (by decide +kernel) fun t hf y => (congrFun (o9_eq V c t) _).trans (o9_apply V c t y)

def o10 (c : Dev nD) (t : Fin cfg1.N) : S256x1024.Idx → EReal := (outsAt1 (F := Ideal) V c t).2.2.2.2
theorem o10_eq (c : Dev nD) (t : Fin cfg1.N) : (dat1 V c).after 10 t = o10 V c t := after1_10 V c t
theorem o10_cut (c : Dev nD) (t : Fin cfg1.N) : o10 V c t
    = extractStridedSlice S256x1024 ![0, 2560] (zB V c t) slices_S256x3584_o0_2560_S256x1024 := by
  unfold o10 outsAt1 zB
  dsimp only
  rw [out_10]
theorem o10_apply (c : Dev nD) (t : Fin cfg1.N) (y : S256x1024.Idx) :
    o10 V c t y = projW (bX V c) (bM V c) (bN V c) (bWi V c) 2560 (by decide) (((cfg1.win 10).rect t).emb y) := by
  refine (congrFun (o10_cut V c t) y).trans ((cutW_apply V c t ![0, 2560] 2560 rfl rfl (by decide) _ y).trans (congrArg (projW _ _ _ _ 2560 _) (funext fun a => Fin.ext ?_)))
  show _ = (((cfg1.win 10).rect t).emb y a).val
  refine Eq.symm ?_
  refine (Pipeline.Window.rect_emb_val (cfg1.win 10) t _ a (hk := rfl)).trans ?_
  rw [ix1_10]
  match a with
  | 0 => rfl
  | 1 => show 0 * 1024 + (y 1).val = (y 1).val; omega
theorem arr10 (c : Dev nD) : (dat1 V c).arrAt 10 cfg1.N = projW (bX V c) (bM V c) (bN V c) (bWi V c) 2560 (by decide) :=
  (dat1 V c).arrAt_eq_of_covers 10 _ (by decide +kernel) fun t hf y => (congrFun (o10_eq V c t) _).trans (o10_apply V c t y)

end Regions

end Cert.Lat

end
-- ==== Proof.LHost.lean ====
module

public import proofs.«01_k».proof.Proof.LKernel

@[expose] public section

noncomputable section

namespace Cert.Lat

open Cert.LatentIdeal Cert.LatentIdeal.Gen
open Idealize.ShloMosaic hiding ix1 ix2 ix3 ix4 ix5
open Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-! ## The tokens' positions: integers -/

/-- The quotient, rounded down, of the tokens' numbers. -/
def rowsOf (a : (⟨S1024, .i32⟩ : BufTy).Contents (Elt Ideal)) (k : (⟨S_, .i32⟩ : BufTy).Contents (Elt Ideal)) :
    (⟨S1024, .i32⟩ : BufTy).Contents (Elt Ideal) :=
  select (andi (cmpi .ne (signi a) (broadcastInDim S1024 ![] bcast_S_S1024 (signi k)))
      (cmpi .ne (Host.remsi a (broadcastInDim S1024 ![] bcast_S_S1024 k)) (broadcastInDim S1024 ![] bcast_S_S1024 (constantI S_ 32 0#32))))
    (subi (Host.divsi a (broadcastInDim S1024 ![] bcast_S_S1024 k)) (broadcastInDim S1024 ![] bcast_S_S1024 (constantI S_ 32 1#32)))
    (Host.divsi a (broadcastInDim S1024 ![] bcast_S_S1024 k))

/-- The divisor of the remainder: one in the place of zero. -/
def modOf (k : (⟨S_, .i32⟩ : BufTy).Contents (Elt Ideal)) : (⟨S_, .i32⟩ : BufTy).Contents (Elt Ideal) :=
  select (cmpi .eq k (constantI S_ 32 0#32)) (constantI S_ 32 1#32) k

/-- The remainder, of the divisor's sign, of the tokens' numbers. -/
def colsOf (a : (⟨S1024, .i32⟩ : BufTy).Contents (Elt Ideal)) (k : (⟨S_, .i32⟩ : BufTy).Contents (Elt Ideal)) :
    (⟨S1024, .i32⟩ : BufTy).Contents (Elt Ideal) :=
  select (andi (cmpi .ne (cmpi .slt (Host.remsi a (broadcastInDim S1024 ![] bcast_S_S1024 (modOf k)))
        (broadcastInDim S1024 ![] bcast_S_S1024 (constantI S_ 32 0#32)))
        (broadcastInDim S1024 ![] bcast_S_S1024 (cmpi .slt (modOf k) (constantI S_ 32 0#32))))
      (cmpi .ne (Host.remsi a (broadcastInDim S1024 ![] bcast_S_S1024 (modOf k))) (broadcastInDim S1024 ![] bcast_S_S1024 (constantI S_ 32 0#32))))
    (addi (Host.remsi a (broadcastInDim S1024 ![] bcast_S_S1024 (modOf k))) (broadcastInDim S1024 ![] bcast_S_S1024 (modOf k)))
    (Host.remsi a (broadcastInDim S1024 ![] bcast_S_S1024 (modOf k)))

theorem rowsOf_apply : ∀ l : Fin 1024, rowsOf (iotaInDim S1024 32 0) (constantI S_ 32 64#32) (ix1 l) = BitVec.ofNat 32 (l.val / 64) := by
  decide +kernel
theorem colsOf_apply : ∀ l : Fin 1024, colsOf (iotaInDim S1024 32 0) (constantI S_ 32 64#32) (ix1 l) = BitVec.ofNat 32 (l.val % 64) := by
  decide +kernel

theorem w3_v12 (c : Dev nD) : W3 m ρ c (Proc.devRef .tc main_v12) = (iotaInDim S1024 32 0 : (⟨S1024, .i32⟩ : BufTy).Contents (Elt Ideal)) := by
  show StableHlo.after hostOps1 (W2 m ρ c) (Proc.devRef .tc main_v12) = _
  simp only [hostOps1]
  after_results_simp <;> rfl
theorem w3_c (c : Dev nD) : W3 m ρ c (Proc.devRef .tc main_c) = (constantI S_ 32 64#32 : (⟨S_, .i32⟩ : BufTy).Contents (Elt Ideal)) := by
  show StableHlo.after hostOps1 (W2 m ρ c) (Proc.devRef .tc main_c) = _
  simp only [hostOps1]
  after_results_simp <;> rfl
theorem w3_v22 (c : Dev nD) : W3 m ρ c (Proc.devRef .tc main_v22) = frq := by
  show StableHlo.after hostOps1 (W2 m ρ c) (Proc.devRef .tc main_v22) = _
  simp only [hostOps1]
  after_results_simp <;> rfl

theorem w4_v23 (c : Dev nD) : W4 m ρ c (Proc.devRef .tc main_v23)
    = rowsOf (W3 m ρ c (Proc.devRef .tc main_v12)) (W3 m ρ c (Proc.devRef .tc main_c)) := by
  show StableHlo.after hostOps1_1 (W3 m ρ c) (Proc.devRef .tc main_v23) = _
  simp only [hostOps1_1]
  after_results_simp <;> rfl
theorem w6_v30 (c : Dev nD) : W6 m ρ c (Proc.devRef .tc main_v30)
    = colsOf (W5 m ρ c (Proc.devRef .tc main_v12)) (W5 m ρ c (Proc.devRef .tc main_c_4)) := by
  show StableHlo.after hostOps1_3 (W5 m ρ c) (Proc.devRef .tc main_v30) = _
  simp only [hostOps1_3]
  after_results_simp <;> rfl

/-! ## The tables -/

/-- The angles of the positions `p`. -/
def angOf (p : (⟨S1024, .i32⟩ : BufTy).Contents (Elt Ideal)) (f : (⟨S32, .f32⟩ : BufTy).Contents (Elt Ideal)) :
    (⟨S1024x32, .f32⟩ : BufTy).Contents (Elt Ideal) :=
  mulf (F := Ideal) (φ := .f32)
    (broadcastInDim S1024x32 ![0, 1] bcast_S1024x1_S1024x32_0_1 (broadcastInDim S1024x1 ![0] bcast_S1024_S1024x1_0 (sitofp (F := Ideal) .f32 p)))
    (broadcastInDim S1024x32 ![0, 1] bcast_S1x32_S1024x32_0_1 (broadcastInDim S1x32 ![1] bcast_S32_S1x32_1 f))

theorem angOf_apply (p : (⟨S1024, .i32⟩ : BufTy).Contents (Elt Ideal)) (f : (⟨S32, .f32⟩ : BufTy).Contents (Elt Ideal)) (l : Fin 1024) (j : Fin 32) :
    angOf p f (ix2 l j) = (FloatOps.sitofp (F := Ideal) .f32 (p (ix1 l)) : EReal) * f (ix1 j) := by
  have h1 : broadcastInDim S1024x32 ![0, 1] bcast_S1024x1_S1024x32_0_1
      (broadcastInDim S1024x1 ![0] bcast_S1024_S1024x1_0 (sitofp (F := Ideal) .f32 p)) (ix2 l j) = FloatOps.sitofp (F := Ideal) .f32 (p (ix1 l)) :=
    (broadcastInDim_apply _ bcast_S1024x1_S1024x32_0_1 _ (ix2 l j) (ix2 l (0 : Fin 1)) fun a => by match a with | 0 => rfl | 1 => rfl).trans
      (broadcastInDim_apply _ bcast_S1024_S1024x1_0 _ (ix2 l (0 : Fin 1)) (ix1 l) fun a => by match a with | 0 => rfl)
  have h2 : broadcastInDim S1024x32 ![0, 1] bcast_S1x32_S1024x32_0_1 (broadcastInDim S1x32 ![1] bcast_S32_S1x32_1 f) (ix2 l j) = f (ix1 j) :=
    (broadcastInDim_apply _ bcast_S1x32_S1024x32_0_1 _ (ix2 l j) (ix2 (0 : Fin 1) j) fun a => by match a with | 0 => rfl | 1 => rfl).trans
      (broadcastInDim_apply _ bcast_S32_S1x32_1 f (ix2 (0 : Fin 1) j) (ix1 j) fun a => by match a with | 0 => rfl)
  unfold angOf
  exact congrArg₂ (fun u v : EReal => u * v) h1 h2

theorem w5_v29 (c : Dev nD) : W5 m ρ c (Proc.devRef .tc main_v29)
    = angOf (W4 m ρ c (Proc.devRef .tc main_v23)) (W4 m ρ c (Proc.devRef .tc main_v22)) := by
  show StableHlo.after hostOps1_2 (W4 m ρ c) (Proc.devRef .tc main_v29) = _
  simp only [hostOps1_2]
  after_results_simp <;> rfl
theorem w5_c4 (c : Dev nD) : W5 m ρ c (Proc.devRef .tc main_c_4) = (constantI S_ 32 64#32 : (⟨S_, .i32⟩ : BufTy).Contents (Elt Ideal)) := by
  show StableHlo.after hostOps1_2 (W4 m ρ c) (Proc.devRef .tc main_c_4) = _
  simp only [hostOps1_2]
  after_results_simp <;> rfl

/-- Four tables side by side. -/
def four (a b c d : (⟨S1024x32, .f32⟩ : BufTy).Contents (Elt Ideal)) : (⟨S1024x128, .f32⟩ : BufTy).Contents (Elt Ideal) :=
  concatenate S1024x128 1 [⟨S1024x32, a⟩, ⟨S1024x32, b⟩, ⟨S1024x32, c⟩, ⟨S1024x32, d⟩] concatenates_S1024x32_S1024x32_S1024x32_S1024x32_S1024x128_d1

section Four
variable (a b c d : (⟨S1024x32, .f32⟩ : BufTy).Contents (Elt Ideal)) (l : Fin 1024) (j : Fin 32)
theorem four_0 : four a b c d (ix2 l ⟨0 + j.val, by have := j.isLt; omega⟩) = a (ix2 l j) := by
  unfold four
  refine concatenate_apply_piece (1 : Fin S1024x128.rank) [⟨S1024x32, a⟩, ⟨S1024x32, b⟩, ⟨S1024x32, c⟩, ⟨S1024x32, d⟩]
    concatenates_S1024x32_S1024x32_S1024x32_S1024x32_S1024x128_d1 _ 0 (show 0 < 4 by decide) S1024x32 _ rfl rfl 0 rfl
    (ix2 l j) (fun e he => ?_) rfl
  match e with
  | 0 => rfl
  | 1 => exact absurd rfl he
theorem four_1 : four a b c d (ix2 l ⟨32 + j.val, by have := j.isLt; omega⟩) = b (ix2 l j) := by
  unfold four
  refine concatenate_apply_piece (1 : Fin S1024x128.rank) [⟨S1024x32, a⟩, ⟨S1024x32, b⟩, ⟨S1024x32, c⟩, ⟨S1024x32, d⟩]
    concatenates_S1024x32_S1024x32_S1024x32_S1024x32_S1024x128_d1 _ 1 (show 1 < 4 by decide) S1024x32 _ rfl rfl 32 rfl
    (ix2 l j) (fun e he => ?_) rfl
  match e with
  | 0 => rfl
  | 1 => exact absurd rfl he
theorem four_2 : four a b c d (ix2 l ⟨64 + j.val, by have := j.isLt; omega⟩) = c (ix2 l j) := by
  unfold four
  refine concatenate_apply_piece (1 : Fin S1024x128.rank) [⟨S1024x32, a⟩, ⟨S1024x32, b⟩, ⟨S1024x32, c⟩, ⟨S1024x32, d⟩]
    concatenates_S1024x32_S1024x32_S1024x32_S1024x32_S1024x128_d1 _ 2 (show 2 < 4 by decide) S1024x32 _ rfl rfl 64 rfl
    (ix2 l j) (fun e he => ?_) rfl
  match e with
  | 0 => rfl
  | 1 => exact absurd rfl he
theorem four_3 : four a b c d (ix2 l ⟨96 + j.val, by have := j.isLt; omega⟩) = d (ix2 l j) := by
  unfold four
  refine concatenate_apply_piece (1 : Fin S1024x128.rank) [⟨S1024x32, a⟩, ⟨S1024x32, b⟩, ⟨S1024x32, c⟩, ⟨S1024x32, d⟩]
    concatenates_S1024x32_S1024x32_S1024x32_S1024x32_S1024x128_d1 _ 3 (show 3 < 4 by decide) S1024x32 _ rfl rfl 96 rfl
    (ix2 l j) (fun e he => ?_) rfl
  match e with
  | 0 => rfl
  | 1 => exact absurd rfl he
end Four

theorem w7_v39 (c : Dev nD) : bCos (V7 m ρ) c
    = four (Host.cos (F := Ideal) (φ := .f32) (W6 m ρ c (Proc.devRef .tc main_v29))) (Host.cos (F := Ideal) (φ := .f32) (W6 m ρ c (Proc.devRef .tc main_v29)))
      (Host.cos (F := Ideal) (φ := .f32) (angOf (W6 m ρ c (Proc.devRef .tc main_v30)) (W6 m ρ c (Proc.devRef .tc main_v22))))
      (Host.cos (F := Ideal) (φ := .f32) (angOf (W6 m ρ c (Proc.devRef .tc main_v30)) (W6 m ρ c (Proc.devRef .tc main_v22)))) := by
  show StableHlo.after hostOps1_4 (W6 m ρ c) (Proc.devRef .tc main_v39) = _
  generalize W6 m ρ c = w
  simp only [hostOps1_4]
  after_results_simp <;> rfl
theorem w7_v46 (c : Dev nD) : bSin (V7 m ρ) c
    = four (Host.negf (F := Ideal) (φ := .f32) (Host.sin (F := Ideal) (φ := .f32) (W6 m ρ c (Proc.devRef .tc main_v29))))
      (Host.sin (F := Ideal) (φ := .f32) (W6 m ρ c (Proc.devRef .tc main_v29)))
      (Host.negf (F := Ideal) (φ := .f32) (Host.sin (F := Ideal) (φ := .f32)
        (angOf (W6 m ρ c (Proc.devRef .tc main_v30)) (W6 m ρ c (Proc.devRef .tc main_v22)))))
      (Host.sin (F := Ideal) (φ := .f32) (angOf (W6 m ρ c (Proc.devRef .tc main_v30)) (W6 m ρ c (Proc.devRef .tc main_v22)))) := by
  show StableHlo.after hostOps1_4 (W6 m ρ c) (Proc.devRef .tc main_v46) = _
  generalize W6 m ρ c = w
  simp only [hostOps1_4]
  after_results_simp <;> rfl

theorem w6_v29_apply (c : Dev nD) (l : Fin 1024) (j : Fin 32) :
    (W6 m ρ c (Proc.devRef .tc main_v29) : S1024x32.Idx → EReal) (ix2 l j) = posn (l.val / 64) * frq (ix1 j) := by
  have h : W6 m ρ c (Proc.devRef .tc main_v29) = angOf (rowsOf (iotaInDim S1024 32 0) (constantI S_ 32 64#32)) frq := by
    refine (W6_of m ρ c main_v29 (by decide)).trans ((w5_v29 m ρ c).trans (congrArg₂ angOf ?_ ?_))
    · exact (w4_v23 m ρ c).trans (congrArg₂ rowsOf (w3_v12 m ρ c) (w3_c m ρ c))
    · exact (W4_of m ρ c main_v22 (by decide)).trans (w3_v22 m ρ c)
  refine (congrFun h (ix2 l j)).trans ((angOf_apply _ _ l j).trans ?_)
  rw [rowsOf_apply]
  rfl
theorem w6_v36_apply (c : Dev nD) (l : Fin 1024) (j : Fin 32) :
    angOf (W6 m ρ c (Proc.devRef .tc main_v30)) (W6 m ρ c (Proc.devRef .tc main_v22)) (ix2 l j) = posn (l.val % 64) * frq (ix1 j) := by
  have h0 : W6 m ρ c (Proc.devRef .tc main_v30) = colsOf (iotaInDim S1024 32 0) (constantI S_ 32 64#32) :=
    (w6_v30 m ρ c).trans (congrArg₂ colsOf ((W5_of m ρ c main_v12 (by decide)).trans ((W4_of m ρ c main_v12 (by decide)).trans (w3_v12 m ρ c)))
      (w5_c4 m ρ c))
  have h1 : W6 m ρ c (Proc.devRef .tc main_v22) = frq :=
    (W6_of m ρ c main_v22 (by decide)).trans ((W5_of m ρ c main_v22 (by decide)).trans ((W4_of m ρ c main_v22 (by decide)).trans (w3_v22 m ρ c)))
  refine (congrFun (congrArg₂ angOf h0 h1) (ix2 l j)).trans ((angOf_apply _ _ l j).trans ?_)
  rw [colsOf_apply]
  rfl

/-- Which quarter of the table a column is in. -/
theorem quarter (P : Fin 128 → Prop) (h0 : ∀ j : Fin 32, P ⟨0 + j.val, by have := j.isLt; omega⟩) (h1 : ∀ j : Fin 32, P ⟨32 + j.val, by have := j.isLt; omega⟩)
    (h2 : ∀ j : Fin 32, P ⟨64 + j.val, by have := j.isLt; omega⟩) (h3 : ∀ j : Fin 32, P ⟨96 + j.val, by have := j.isLt; omega⟩) (g : Fin 128) : P g := by
  have hg := g.isLt
  rcases Nat.lt_or_ge g.val 32 with h | h
  · exact (Fin.ext (show g.val = 0 + g.val by omega) : g = ⟨0 + (⟨g.val, h⟩ : Fin 32).val, by show 0 + g.val < 128; omega⟩) ▸ h0 ⟨g.val, h⟩
  rcases Nat.lt_or_ge g.val 64 with h' | h'
  · exact (Fin.ext (show g.val = 32 + (g.val - 32) by omega) : g = ⟨32 + (⟨g.val - 32, by omega⟩ : Fin 32).val, by show 32 + (g.val - 32) < 128; omega⟩) ▸ h1 ⟨g.val - 32, by omega⟩
  rcases Nat.lt_or_ge g.val 96 with h'' | h''
  · exact (Fin.ext (show g.val = 64 + (g.val - 64) by omega) : g = ⟨64 + (⟨g.val - 64, by omega⟩ : Fin 32).val, by show 64 + (g.val - 64) < 128; omega⟩) ▸ h2 ⟨g.val - 64, by omega⟩
  · exact (Fin.ext (show g.val = 96 + (g.val - 96) by omega) : g = ⟨96 + (⟨g.val - 96, by omega⟩ : Fin 32).val, by show 96 + (g.val - 96) < 128; omega⟩) ▸ h3 ⟨g.val - 96, by omega⟩

theorem angle_first (l : Nat) (k : Nat) (hk : k % 128 < 64) (j : Fin 32) (hj : k % 32 = j.val) : posn (l / 64) * frq (ix1 j) = angle l k := by
  unfold angle
  rw [if_pos hk]
  exact congrArg (fun i : Fin 32 => posn (l / 64) * frq (ix1 i)) (Fin.ext hj.symm)
theorem angle_second (l : Nat) (k : Nat) (hk : ¬ k % 128 < 64) (j : Fin 32) (hj : k % 32 = j.val) : posn (l % 64) * frq (ix1 j) = angle l k := by
  unfold angle
  rw [if_neg hk]
  exact congrArg (fun i : Fin 32 => posn (l % 64) * frq (ix1 i)) (Fin.ext hj.symm)

theorem cos_four (A B : (⟨S1024x32, .f32⟩ : BufTy).Contents (Elt Ideal)) (l : Fin 1024)
    (hA : ∀ j : Fin 32, A (ix2 l j) = posn (l.val / 64) * frq (ix1 j)) (hB : ∀ j : Fin 32, B (ix2 l j) = posn (l.val % 64) * frq (ix1 j)) :
    ∀ g : Fin 128, four (Host.cos (F := Ideal) (φ := .f32) A) (Host.cos (F := Ideal) (φ := .f32) A) (Host.cos (F := Ideal) (φ := .f32) B)
      (Host.cos (F := Ideal) (φ := .f32) B) (ix2 l g) = Ideal.cos (angle l.val g.val) := by
  refine quarter _ (fun j => ?_) (fun j => ?_) (fun j => ?_) (fun j => ?_) <;> have hj := j.isLt
  · exact (four_0 _ _ _ _ l j).trans (congrArg Ideal.cos ((hA j).trans (angle_first l.val (0 + j.val) (by omega) j (by omega))))
  · exact (four_1 _ _ _ _ l j).trans (congrArg Ideal.cos ((hA j).trans (angle_first l.val (32 + j.val) (by omega) j (by omega))))
  · exact (four_2 _ _ _ _ l j).trans (congrArg Ideal.cos ((hB j).trans (angle_second l.val (64 + j.val) (by omega) j (by omega))))
  · exact (four_3 _ _ _ _ l j).trans (congrArg Ideal.cos ((hB j).trans (angle_second l.val (96 + j.val) (by omega) j (by omega))))

theorem sin_four (A B : (⟨S1024x32, .f32⟩ : BufTy).Contents (Elt Ideal)) (l : Fin 1024)
    (hA : ∀ j : Fin 32, A (ix2 l j) = posn (l.val / 64) * frq (ix1 j)) (hB : ∀ j : Fin 32, B (ix2 l j) = posn (l.val % 64) * frq (ix1 j)) :
    ∀ g : Fin 128, four (Host.negf (F := Ideal) (φ := .f32) (Host.sin (F := Ideal) (φ := .f32) A)) (Host.sin (F := Ideal) (φ := .f32) A)
      (Host.negf (F := Ideal) (φ := .f32) (Host.sin (F := Ideal) (φ := .f32) B)) (Host.sin (F := Ideal) (φ := .f32) B) (ix2 l g)
      = if g.val % 64 < 32 then -Ideal.sin (angle l.val g.val) else Ideal.sin (angle l.val g.val) := by
  refine quarter _ (fun j => ?_) (fun j => ?_) (fun j => ?_) (fun j => ?_) <;> have hj := j.isLt
  · refine (four_0 _ _ _ _ l j).trans ?_
    exact (congrArg (fun e : EReal => -Ideal.sin e) ((hA j).trans (angle_first l.val (0 + j.val) (by omega) j (by omega)))).trans
      (if_pos (by show (0 + j.val) % 64 < 32; omega)).symm
  · refine (four_1 _ _ _ _ l j).trans ?_
    exact (congrArg Ideal.sin ((hA j).trans (angle_first l.val (32 + j.val) (by omega) j (by omega)))).trans
      (if_neg (by show ¬ (32 + j.val) % 64 < 32; omega)).symm
  · refine (four_2 _ _ _ _ l j).trans ?_
    exact (congrArg (fun e : EReal => -Ideal.sin e) ((hB j).trans (angle_second l.val (64 + j.val) (by omega) j (by omega)))).trans
      (if_pos (by show (64 + j.val) % 64 < 32; omega)).symm
  · refine (four_3 _ _ _ _ l j).trans ?_
    exact (congrArg Ideal.sin ((hB j).trans (angle_second l.val (96 + j.val) (by omega) j (by omega)))).trans
      (if_neg (by show ¬ (96 + j.val) % 64 < 32; omega)).symm

theorem cos_table (c : Dev nD) (l : Fin 1024) (g : Fin 128) : bCos (V7 m ρ) c (ix2 l g) = Ideal.cos (angle l.val g.val) :=
  (congrFun (w7_v39 m ρ c) (ix2 l g)).trans (cos_four _ _ l (w6_v29_apply m ρ c l) (w6_v36_apply m ρ c l) g)
theorem sin_table (c : Dev nD) (l : Fin 1024) (g : Fin 128) : bSin (V7 m ρ) c (ix2 l g)
    = if g.val % 64 < 32 then -Ideal.sin (angle l.val g.val) else Ideal.sin (angle l.val g.val) :=
  (congrFun (w7_v46 m ρ c) (ix2 l g)).trans (sin_four _ _ l (w6_v29_apply m ρ c l) (w6_v36_apply m ρ c l) g)

end Cert.Lat

end
-- ==== Proof.LValue.lean ====
module

public import proofs.«01_k».proof.Proof.LHost
public import proofs.«01_k».proof.Proof.LRef

@[expose] public section

noncomputable section

namespace Cert.Lat

open Cert.LatentIdeal Cert.LatentIdeal.Gen
open Idealize.ShloMosaic hiding ix1 ix2 ix3 ix4 ix5
open Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-! ## The program's arguments -/

def cX (c : Dev nD) : S4x1024x2048.Idx → EReal := m ((c.tc : Thread nD τ).loc main_arg0)
def cE (c : Dev nD) : S4x2048.Idx → EReal := m ((c.tc : Thread nD τ).loc main_arg1)
def cC (c : Dev nD) : S2048.Idx → EReal := m ((c.tc : Thread nD τ).loc main_arg2)
def cWa (c : Dev nD) : S1x2048x12288.Idx → EReal := m ((c.tc : Thread nD τ).loc main_arg3)
def cBa (c : Dev nD) : S1x12288.Idx → EReal := m ((c.tc : Thread nD τ).loc main_arg4)
def cN (c : Dev nD) : S1x2048.Idx → EReal := m ((c.tc : Thread nD τ).loc main_arg5)
def cWi (c : Dev nD) : S1x2048x3584.Idx → EReal := m ((c.tc : Thread nD τ).loc main_arg6)

/-! ## What the host operations hand the calls -/

theorem bC_eq (c : Dev nD) : bC (V1 m ρ) c = concatenate S8x2048 0 [⟨S1x2048, broadcastInDim S1x2048 ![1] bcast_S2048_S1x2048_1 (cC m c)⟩,
    ⟨S4x2048, cE m c⟩, ⟨S3x2048, broadcastInDim S3x2048 ![] bcast_S_S3x2048 (constant (F := Ideal) S_ .f32 0x00000000#32)⟩]
    concatenates_S1x2048_S4x2048_S3x2048_S8x2048_d0 := by
  show StableHlo.after hostOps0 (W0 m ρ c) (Proc.devRef .tc main_v2) = _
  simp only [hostOps0]
  after_results_simp <;> rfl
theorem bWa_eq (c : Dev nD) : bWa (V1 m ρ) c = shapeCast S2048x12288 (cWa m c) shapeCasts_S1x2048x12288_S2048x12288 := by
  show StableHlo.after hostOps0 (W0 m ρ c) (Proc.devRef .tc main_v3) = _
  simp only [hostOps0]
  after_results_simp <;> rfl
theorem bBa_eq (c : Dev nD) : bBa (V1 m ρ) c = broadcastInDim S1x12288 ![1] bcast_S12288_S1x12288_1
    (shapeCast S12288 (cBa m c) shapeCasts_S1x12288_S12288) := by
  show StableHlo.after hostOps0 (W0 m ρ c) (Proc.devRef .tc main_v5) = _
  simp only [hostOps0]
  after_results_simp <;> rfl

theorem bC_apply (c : Dev nD) (b : Fin 4) (d : Fin 2048) :
    bC (V1 m ρ) c (ix2 (⟨1 + b.val, by have := b.isLt; omega⟩ : Fin 8) d) = cE m c (ix2 b d) := by
  rw [bC_eq]
  refine concatenate_apply_piece (0 : Fin S8x2048.rank) [⟨S1x2048, broadcastInDim S1x2048 ![1] bcast_S2048_S1x2048_1 (cC m c)⟩,
    ⟨S4x2048, cE m c⟩, ⟨S3x2048, broadcastInDim S3x2048 ![] bcast_S_S3x2048 (constant (F := Ideal) S_ .f32 0x00000000#32)⟩]
    concatenates_S1x2048_S4x2048_S3x2048_S8x2048_d0 (ix2 (⟨1 + b.val, by have := b.isLt; omega⟩ : Fin 8) d) 1 (show 1 < 3 by decide) S4x2048 _ rfl rfl 1 rfl
    (ix2 b d) (fun e he => ?_) rfl
  match e with
  | 0 => exact absurd rfl he
  | 1 => rfl

theorem bWa_apply (c : Dev nD) (d : Fin 2048) (n : Fin 12288) : bWa (V1 m ρ) c (ix2 d n) = cWa m c (ix3 (0 : Fin 1) d n) := by
  rw [bWa_eq]
  refine shapeCast_apply (cWa m c) shapeCasts_S1x2048x12288_S2048x12288 _ _ ?_
  rw [Shape.rowMajor_val_three, Shape.rowMajor_val_two]
  show (0 * 2048 + d.val) * 12288 + n.val = d.val * 12288 + n.val
  omega

theorem bBa_apply (c : Dev nD) (n : Fin 12288) : bBa (V1 m ρ) c (ix2 (0 : Fin 1) n) = cBa m c (ix2 (0 : Fin 1) n) := by
  rw [bBa_eq]
  refine (broadcastInDim_apply _ bcast_S12288_S1x12288_1 _ _ (ix1 n) fun a => by match a with | 0 => rfl).trans ?_
  refine shapeCast_apply (cBa m c) shapeCasts_S1x12288_S12288 _ _ ?_
  rw [Shape.rowMajor_val_two, Shape.rowMajor_val_one]
  show 0 * 12288 + n.val = n.val
  omega

/-- What the later host operations leave. -/
theorem later (c : Dev nD) (r : Ref sig .tc) (h4 : r ∉ hostOps1_1_W) (h5 : r ∉ hostOps1_2_W) (h6 : r ∉ hostOps1_3_W) (h7 : r ∉ hostOps1_4_W) :
    W7 m ρ c (Proc.devRef .tc r) = W3 m ρ c (Proc.devRef .tc r) :=
  (W7_of m ρ c r h7).trans ((W6_of m ρ c r h6).trans ((W5_of m ρ c r h5).trans (W4_of m ρ c r h4)))

/-- The modulation the second call reads. -/
theorem bM_apply (c : Dev nD) (b : Fin 4) (n : Fin 12288) :
    bM (V7 m ρ) c (ix2 (⟨1 + b.val, by have := b.isLt; omega⟩ : Fin 8) n) = modv (cE m c) (cWa m c) (cBa m c) b n := by
  have h : bM (V7 m ρ) c = modAll (bC (V1 m ρ) c) (bWa (V1 m ρ) c) (bBa (V1 m ρ) c) :=
    (later m ρ c main_v6 (by decide) (by decide) (by decide) (by decide)).trans
      ((W3_of m ρ c main_v6 (by decide)).trans ((W2_arr m ρ c 3).trans (arr0 (V1 m ρ) c)))
  rw [h]
  show modRow _ _ _ (⟨1 + b.val, by have := b.isLt; omega⟩ : Fin 8) n = _
  unfold modRow modv
  rw [bBa_apply]
  exact congrArg (fun s : EReal => s + _) (Finset.sum_congr rfl fun d _ => by rw [bC_apply, bWa_apply])

theorem bX_eq (c : Dev nD) : bX (V7 m ρ) c = shapeCast S4096x2048 (cX m c) shapeCasts_S4x1024x2048_S4096x2048 := by
  have h : W2 m ρ c (Proc.devRef .tc main_arg0) = m ((c.tc : Thread nD τ).loc main_arg0) := W2_args m ρ c main_arg0 (by decide)
  unfold cX
  rw [← h]
  refine (later m ρ c main_v9 (by decide) (by decide) (by decide) (by decide)).trans ?_
  show StableHlo.after hostOps1 (W2 m ρ c) (Proc.devRef .tc main_v9) = _
  generalize W2 m ρ c = w
  simp only [hostOps1]
  after_results_simp <;> rfl
theorem bN_eq (c : Dev nD) : bN (V7 m ρ) c = shapeCast S1x2048 (shapeCast S2048 (cN m c) shapeCasts_S1x2048_S2048) shapeCasts_S2048_S1x2048 := by
  have h : W2 m ρ c (Proc.devRef .tc main_arg5) = m ((c.tc : Thread nD τ).loc main_arg5) := W2_args m ρ c main_arg5 (by decide)
  unfold cN
  rw [← h]
  refine (later m ρ c main_v11 (by decide) (by decide) (by decide) (by decide)).trans ?_
  show StableHlo.after hostOps1 (W2 m ρ c) (Proc.devRef .tc main_v11) = _
  generalize W2 m ρ c = w
  simp only [hostOps1]
  after_results_simp <;> rfl
theorem bWi_eq (c : Dev nD) : bWi (V7 m ρ) c = shapeCast S2048x3584 (cWi m c) shapeCasts_S1x2048x3584_S2048x3584 := by
  have h : W2 m ρ c (Proc.devRef .tc main_arg6) = m ((c.tc : Thread nD τ).loc main_arg6) := W2_args m ρ c main_arg6 (by decide)
  unfold cWi
  rw [← h]
  refine (later m ρ c main_v8 (by decide) (by decide) (by decide) (by decide)).trans ?_
  show StableHlo.after hostOps1 (W2 m ρ c) (Proc.devRef .tc main_v8) = _
  generalize W2 m ρ c = w
  simp only [hostOps1]
  after_results_simp <;> rfl

theorem bX_apply (c : Dev nD) (r : Fin 4096) (d : Fin 2048) : bX (V7 m ρ) c (ix2 r d)
    = cX m c (ix3 ⟨r.val / 1024, by have := r.isLt; omega⟩ ⟨r.val % 1024, Nat.mod_lt _ (by decide)⟩ d) := by
  rw [bX_eq]
  refine shapeCast_apply (cX m c) shapeCasts_S4x1024x2048_S4096x2048 _ _ ?_
  rw [Shape.rowMajor_val_three, Shape.rowMajor_val_two]
  show (r.val / 1024 * 1024 + r.val % 1024) * 2048 + d.val = r.val * 2048 + d.val
  omega
theorem bN_apply (c : Dev nD) (d : Fin 2048) : bN (V7 m ρ) c (ix2 (0 : Fin 1) d) = cN m c (ix2 (0 : Fin 1) d) := by
  rw [bN_eq]
  refine (shapeCast_apply _ shapeCasts_S2048_S1x2048 _ (ix1 d) ?_).trans (shapeCast_apply (cN m c) shapeCasts_S1x2048_S2048 _ _ ?_)
  · rw [Shape.rowMajor_val_two, Shape.rowMajor_val_one]
    show d.val = 0 * 2048 + d.val
    omega
  · rw [Shape.rowMajor_val_two, Shape.rowMajor_val_one]
    show 0 * 2048 + d.val = d.val
    omega
theorem bWi_apply (c : Dev nD) (d : Fin 2048) (e : Fin 3584) : bWi (V7 m ρ) c (ix2 d e) = cWi m c (ix3 (0 : Fin 1) d e) := by
  rw [bWi_eq]
  refine shapeCast_apply (cWi m c) shapeCasts_S1x2048x3584_S2048x3584 _ _ ?_
  rw [Shape.rowMajor_val_three, Shape.rowMajor_val_two]
  show (0 * 2048 + d.val) * 3584 + e.val = d.val * 3584 + e.val
  omega

/-- Each row of the kernel's projection is a token's. -/
theorem row_eq (c : Dev nD) (r : Fin 4096) (e : Fin 3584) :
    projRow (bX (V7 m ρ) c) (bM (V7 m ρ) c) (bN (V7 m ρ) c) (bWi (V7 m ρ) c) r e
      = zv (cX m c) (cE m c) (cWa m c) (cBa m c) (cN m c) (cWi m c) (strm r.val r.isLt) (tok r.val) e := by
  unfold projRow zv hv rsv
  have hs : (∑ d : Fin 2048, bX (V7 m ρ) c (ix2 r d) * bX (V7 m ρ) c (ix2 r d))
      = ∑ d : Fin 2048, cX m c (ix3 (strm r.val r.isLt) (tok r.val) d) * cX m c (ix3 (strm r.val r.isLt) (tok r.val) d) :=
    Finset.sum_congr rfl fun d _ => by rw [bX_apply]; rfl
  rw [hs]
  refine Finset.sum_congr rfl fun d _ => ?_
  have hx : bX (V7 m ρ) c (ix2 r d) = cX m c (ix3 (strm r.val r.isLt) (tok r.val) d) := bX_apply m ρ c r d
  have hsh : bM (V7 m ρ) c (ix2 (⟨1 + r.val / 1024, by have := r.isLt; omega⟩ : Fin 8) ⟨d.val, by have := d.isLt; omega⟩)
      = modv (cE m c) (cWa m c) (cBa m c) (strm r.val r.isLt) ⟨d.val, by have := d.isLt; omega⟩ := bM_apply m ρ c (strm r.val r.isLt) _
  have hsc : bM (V7 m ρ) c (ix2 (⟨1 + r.val / 1024, by have := r.isLt; omega⟩ : Fin 8) ⟨2048 + d.val, by have := d.isLt; omega⟩)
      = modv (cE m c) (cWa m c) (cBa m c) (strm r.val r.isLt) ⟨2048 + d.val, by have := d.isLt; omega⟩ := bM_apply m ρ c (strm r.val r.isLt) _
  rw [hx, hsh, hsc, bN_apply, bWi_apply]

theorem plain1024_row (c : Dev nD) (o : Nat) (ho : o + 1024 ≤ 3584) :
    projW (bX (V7 m ρ) c) (bM (V7 m ρ) c) (bN (V7 m ρ) c) (bWi (V7 m ρ) c) o ho
      = plain1024 (zv (cX m c) (cE m c) (cWa m c) (cBa m c) (cN m c) (cWi m c)) o ho :=
  funext fun y => row_eq m ρ c _ _
theorem turned1024_row (c : Dev nD) (o : Nat) (ho : o + 1024 ≤ 3584) :
    turn1024 (bX (V7 m ρ) c) (bM (V7 m ρ) c) (bN (V7 m ρ) c) (bWi (V7 m ρ) c) o ho
      = turned1024 (zv (cX m c) (cE m c) (cWa m c) (cBa m c) (cN m c) (cWi m c)) o ho := by
  funext y
  have h : projRow (bX (V7 m ρ) c) (bM (V7 m ρ) c) (bN (V7 m ρ) c) (bWi (V7 m ρ) c) (y 0)
      = zv (cX m c) (cE m c) (cWa m c) (cBa m c) (cN m c) (cWi m c) (strm (y 0).val (y 0).isLt) (tok (y 0).val) :=
    funext fun e => row_eq m ρ c (y 0) e
  unfold turn1024 turned1024
  exact congrArg (fun f : Fin 3584 → EReal => turn (cols o 1024 ho f) (angle ((y 0).val % 1024) (y 1).val) (y 1).val) h

theorem plain256_row (c : Dev nD) (o : Nat) (ho : o + 256 ≤ 3584) :
    projN (bX (V7 m ρ) c) (bM (V7 m ρ) c) (bN (V7 m ρ) c) (bWi (V7 m ρ) c) o ho
      = plain256 (zv (cX m c) (cE m c) (cWa m c) (cBa m c) (cN m c) (cWi m c)) o ho :=
  funext fun y => row_eq m ρ c _ _
theorem turned256_row (c : Dev nD) (o : Nat) (ho : o + 256 ≤ 3584) :
    turn256 (bX (V7 m ρ) c) (bM (V7 m ρ) c) (bN (V7 m ρ) c) (bWi (V7 m ρ) c) o ho
      = turned256 (zv (cX m c) (cE m c) (cWa m c) (cBa m c) (cN m c) (cWi m c)) o ho := by
  funext y
  have h : projRow (bX (V7 m ρ) c) (bM (V7 m ρ) c) (bN (V7 m ρ) c) (bWi (V7 m ρ) c) (y 0)
      = zv (cX m c) (cE m c) (cWa m c) (cBa m c) (cN m c) (cWi m c) (strm (y 0).val (y 0).isLt) (tok (y 0).val) :=
    funext fun e => row_eq m ρ c (y 0) e
  unfold turn256 turned256
  exact congrArg (fun f : Fin 3584 → EReal => turn (cols o 256 ho f) (angle ((y 0).val % 1024) (y 1).val) (y 1).val) h

/-! ## The five results -/

theorem resQ (c : Dev nD) : W8 m ρ c (Proc.devRef .tc main_v47_0)
    = turned1024 (zv (cX m c) (cE m c) (cWa m c) (cBa m c) (cN m c) (cWi m c)) 0 (by decide) :=
  (W8_arr m ρ c 6).trans ((arr6 (V7 m ρ) c (cos_table m ρ c) (sin_table m ρ c)).trans (turned1024_row m ρ c 0 (by decide)))
theorem resK (c : Dev nD) : W8 m ρ c (Proc.devRef .tc main_v47_1)
    = turned256 (zv (cX m c) (cE m c) (cWa m c) (cBa m c) (cN m c) (cWi m c)) 1024 (by decide) :=
  (W8_arr m ρ c 7).trans ((arr7 (V7 m ρ) c (cos_table m ρ c) (sin_table m ρ c)).trans (turned256_row m ρ c 1024 (by decide)))
theorem resV (c : Dev nD) : W8 m ρ c (Proc.devRef .tc main_v47_2)
    = plain256 (zv (cX m c) (cE m c) (cWa m c) (cBa m c) (cN m c) (cWi m c)) 1280 (by decide) :=
  (W8_arr m ρ c 8).trans ((arr8 (V7 m ρ) c).trans (plain256_row m ρ c 1280 (by decide)))
theorem resU (c : Dev nD) : W8 m ρ c (Proc.devRef .tc main_v47_3)
    = plain1024 (zv (cX m c) (cE m c) (cWa m c) (cBa m c) (cN m c) (cWi m c)) 1536 (by decide) :=
  (W8_arr m ρ c 9).trans ((arr9 (V7 m ρ) c).trans (plain1024_row m ρ c 1536 (by decide)))
theorem resG (c : Dev nD) : W8 m ρ c (Proc.devRef .tc main_v47_4)
    = plain1024 (zv (cX m c) (cE m c) (cWa m c) (cBa m c) (cN m c) (cWi m c)) 2560 (by decide) :=
  (W8_arr m ρ c 10).trans ((arr10 (V7 m ρ) c).trans (plain1024_row m ρ c 2560 (by decide)))

end Cert.Lat

end
-- ==== Proof.KWords.lean ====
/-
  What the combining kernel computes on words: how often its loops run for a count read from the table, and where the
  offsets of its accesses lie.
-/
module

public import proofs.«01_k».proof.Proof.Gen.CombineIdeal.Skeleton
public import proofs.«01_k».proof.Proof.Words

@[expose] public section

namespace Cert.Comb

open Cert.CombineIdeal Cert.CombineIdeal.Gen
open Idealize.ShloMosaic
open Cert.Hand (toInt_of_small ub_word unit_trips unit_ok iv_word)

theorem t2_trips {v : BitVec 32} (h : v.toNat < 2147483648) : (k0_t2_loop v).trips = v.toNat := by
  show Scf.trips 0#32 (Scalar.addi 0#32 (Scalar.muli (Scalar.divsi (Scalar.subi v 0#32) 1#32) 1#32)) 1#32 = _
  rw [ub_word, unit_trips h]

theorem t4_trips {v : BitVec 32} (h : v.toNat < 2147483648) : (k0_t4_loop v).trips = v.toNat := by
  show Scf.trips 0#32 (Scalar.addi 0#32 (Scalar.muli (Scalar.divsi (Scalar.subi v 0#32) 1#32) 1#32)) 1#32 = _
  rw [ub_word, unit_trips h]

theorem t6_trips {v : BitVec 32} (h : v.toNat < 2147483648) : (k0_t6_loop v).trips = v.toNat := by
  show Scf.trips 0#32 (Scalar.addi 0#32 (Scalar.muli (Scalar.divsi (Scalar.subi v 0#32) 1#32) 1#32)) 1#32 = _
  rw [ub_word, unit_trips h]

theorem word_ok (v : BitVec 32) :
    Scf.OK 0#32 (Scalar.addi 0#32 (Scalar.muli (Scalar.divsi (Scalar.subi v 0#32) 1#32) 1#32)) 1#32 := by
  rw [ub_word]; exact unit_ok v

theorem t1_trips : k0_t1_loop.trips = 128 := by decide

theorem off2_eq (a : Fin k0_t1_loop.trips) (v : BitVec 32) (hv : v.toNat < 2147483648) (k : Fin (k0_t2_loop v).trips) :
    k0_off2 a v k = ![k.val, a.val] := by
  have h1 := k.isLt
  have h2 := a.isLt
  have e1 := t2_trips hv
  have e2 := t1_trips
  have i1 := iv_word (k := k.val) (by omega)
  have i2 := iv_word (k := a.val) (by omega)
  show ![(Scf.iv 0#32 1#32 k.val).toNat, (Scf.iv 0#32 1#32 a.val).toNat] = _
  rw [i1, i2]

theorem off3_eq (a : Fin k0_t1_loop.trips) (v : BitVec 32) (hv : v.toNat < 2147483648) (k : Fin (k0_t2_loop v).trips) :
    k0_off3 a v k = ![k.val, a.val, 0] := by
  have h1 := k.isLt
  have h2 := a.isLt
  have e1 := t2_trips hv
  have e2 := t1_trips
  have i1 := iv_word (k := k.val) (by omega)
  have i2 := iv_word (k := a.val) (by omega)
  show ![(Scf.iv 0#32 1#32 k.val).toNat, (Scf.iv 0#32 1#32 a.val).toNat, 0] = _
  rw [i1, i2]

theorem off4_eq (v : BitVec 32) : k0_off4 v = ![v.toNat, 0] := rfl

theorem off8_eq (v : BitVec 32) (hv : v.toNat < 2147483648) (k : Fin (k0_t6_loop v).trips) :
    k0_off8 v k = ![k.val, 0, 0] := by
  have h1 := k.isLt
  have e1 := t6_trips hv
  have i1 := iv_word (k := k.val) (by omega)
  show ![(Scf.iv 0#32 1#32 k.val).toNat, 0, 0] = _
  rw [i1]

/-- The side condition after the count's load: the loops are loops and their accesses stay inside. -/
theorem chk1 (a : Fin k0_t1_loop.trips) (v : BitVec 32) (hv : v.toNat ≤ 16) : k0_chk1 a v := by
  have h2 := a.isLt
  have e2 := t1_trips
  refine ⟨word_ok v, fun k x => ?_, fun k x => ?_, Scf.rem_ok _ _, fun k => (Scf.rem_no_trip _ _ k).elim,
    fun k => (Scf.rem_no_trip _ _ k).elim⟩
  · have h1 := k.isLt
    have e1 := t2_trips (v := v) (by omega)
    rw [off2_eq a v (by omega) k]
    fin_cases x
    · show k.val + 1 ≤ 16; omega
    · show a.val + 1 ≤ 128; omega
  · have h1 := k.isLt
    have e1 := t2_trips (v := v) (by omega)
    rw [off3_eq a v (by omega) k]
    fin_cases x
    · show k.val + 1 ≤ 16; omega
    · show a.val + 1 ≤ 128; omega
    · show 0 + 2048 ≤ 2048; omega

theorem chk2 (v : BitVec 32) (hv : v.toNat < 16384) : k0_chk2 v := by
  intro x
  rw [off4_eq]
  fin_cases x
  · show v.toNat + 1 ≤ 16384; omega
  · show 0 + 2048 ≤ 2048; omega

theorem chk4 (v : BitVec 32) : k0_chk4 v := ⟨word_ok v, Scf.rem_ok _ _⟩

theorem chk5 (v : BitVec 32) (hv : v.toNat ≤ 16) : k0_chk5 v := by
  refine ⟨word_ok v, fun k x => ?_, Scf.rem_ok _ _, fun k => (Scf.rem_no_trip _ _ k).elim⟩
  have h1 := k.isLt
  have e1 := t6_trips (v := v) (by omega)
  rw [off8_eq v (by omega) k]
  fin_cases x
  · show k.val + 1 ≤ 16; omega
  · show 0 + 128 ≤ 128; omega
  · show 0 + 2048 ≤ 2048; omega

/-- The larger of two small words, read as numbers. -/
theorem max_word {u v : BitVec 32} (hu : u.toNat < 2147483648) (hv : v.toNat < 2147483648) :
    (Scalar.maxsi u v).toNat = max u.toNat v.toNat := by
  have h1 := toInt_of_small hu
  have h2 := toInt_of_small hv
  simp only [Scalar.maxsi, IntOp.maxsi]
  split <;> rename_i h
  · rw [BitVec.slt_eq_decide] at h; simp at h; omega
  · rw [BitVec.slt_eq_decide] at h; simp at h; omega

end Cert.Comb
-- ==== Proof.KRows.lean ====
/-
  One row of the combination: the copy of an expert's row of a slot into a token's place of the gathering buffer. The
  rows as sets of elements, and the rule that issues one copy as the next transfer of a batch.
-/
module

public import proofs.«01_k».proof.Proof.Route
public import proofs.«01_k».proof.Proof.KWords
public import proofs.«01_k».proof.Proof.Gen.CombineIdeal.Launch
public import proofs.«01_k».proof.Proof.Gen.CombineIdeal.Points
public import Idealize.ShloMosaic.Lib.Pipeline.Routed
public import Idealize.ShloMosaic.Lib.Batch
public import Idealize.ShloMosaic.Lib.Ring
public import Idealize.ShloMosaic.Lib.ValueIdx
public import Idealize.ShloMosaic.Lib.ValueLayout
public import Idealize.ShloMosaic.Lib.Tactic

@[expose] public section

noncomputable section

namespace Cert.Comb

open Cert.CombineIdeal Cert.CombineIdeal.Gen
open Cert.Hand (Tables)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The resources of the run: the pipeline library's beside the transfers' counters. -/
local notation "𝕄" => MT nD τ sig Unit (Elt F) ℕ (Pipeline.UC sig nD τ) ℕ

/-- Where the transfers' counters live in it. -/
abbrev EC : UEmb Counters 𝕄 := countersEmb (U := Pipeline.UC sig nD τ)

/-- The elements of row `s` of the experts' rows. -/
def inRow (s : ℕ) : Finset S16384x2048.Idx := Finset.univ.filter fun y => (y 0).val = s
/-- The place slot `s` is gathered to in the window that starts at token `b`. -/
def cell (T : Tables) (b s : ℕ) : Finset S16x128x2048.Idx :=
  Finset.univ.filter fun y => (y 0).val < T.cnt (b + (y 1).val) ∧ T.dst (y 0).val (b + (y 1).val) = s

theorem mem_inRow {n : ℕ} {y : S16384x2048.Idx} : y ∈ inRow n ↔ (y 0).val = n := by simp [inRow]
theorem mem_cell {T : Tables} {b s : ℕ} {y : S16x128x2048.Idx} :
    y ∈ cell T b s ↔ (y 0).val < T.cnt (b + (y 1).val) ∧ T.dst (y 0).val (b + (y 1).val) = s := by simp [cell]

theorem cell_disjoint {T : Tables} {b s s' : ℕ} (h : s ≠ s') : Disjoint (cell T b s) (cell T b s') := by
  rw [Finset.disjoint_left]; intro y h1 h2; rw [mem_cell] at h1 h2; exact h (h1.2.symm.trans h2.2)

/-- The rows as the kernel slices them. -/
theorem in_set {n : ℕ} (h : ∀ a, (![n, 0] : Fin 2 → ℕ) a + S1x2048.size a ≤ S16384x2048.size a) :
    (Rect.unit (s := S16384x2048) ![n, 0] S1x2048.size h).set = inRow n := by
  ext y
  rw [Rect.mem_set_unit, mem_inRow]
  have h2 : (y 1).val < 2048 := (y 1).isLt
  constructor
  · intro H; have a0 : n ≤ (y 0).val ∧ (y 0).val < n + 1 := H 0; omega
  · intro H a; fin_cases a
    · show n ≤ (y 0).val ∧ (y 0).val < n + 1; omega
    · show 0 ≤ (y 1).val ∧ (y 1).val < 0 + 2048; omega

theorem cell_set {T : Tables} (hT : T.OK) {b a k : ℕ} (ha : a < 128) (hb : b + 128 ≤ 8192) (hk : k < T.cnt (b + a))
    (h : ∀ x, (![k, a, 0] : Fin 3 → ℕ) x + S1x1x2048.size x ≤ S16x128x2048.size x) :
    (Rect.unit (s := S16x128x2048) ![k, a, 0] S1x1x2048.size h).set = cell T b (T.dst k (b + a)) := by
  ext y
  rw [Rect.mem_set_unit, mem_cell]
  have h1 : (y 1).val < 128 := (y 1).isLt
  have h2 : (y 2).val < 2048 := (y 2).isLt
  constructor
  · intro H
    have a0 : k ≤ (y 0).val ∧ (y 0).val < k + 1 := H 0
    have a1 : a ≤ (y 1).val ∧ (y 1).val < a + 1 := H 1
    rw [show (y 0).val = k by omega, show (y 1).val = a by omega]
    exact ⟨hk, rfl⟩
  · rintro ⟨H1, H2⟩
    have e1 := hT.fed (b + (y 1).val) (by omega) _ H1
    have e2 := hT.fed (b + a) (by omega) k hk
    rw [H2, e2] at e1
    have e3 : (y 1).val = a := by omega
    rw [e3] at H1 H2
    have e4 := hT.inj (b + a) (by omega) _ H1 k hk H2
    intro x; fin_cases x
    · show k ≤ (y 0).val ∧ (y 0).val < k + 1; omega
    · show a ≤ (y 1).val ∧ (y 1).val < a + 1; omega
    · show 0 ≤ (y 2).val ∧ (y 2).val < 0 + 2048; omega

/-- The row and the place, as the kernel names them. -/
def inMem (n : ℕ) (h : ∀ a, (![n, 0] : Fin 2 → ℕ) a + S1x2048.size a ≤ S16384x2048.size a) : Memref sig .tc .hbm S1x2048 .f32 :=
  (Memref.whole main_arg3).slice (Rect.unit (s := S16384x2048) ![n, 0] S1x2048.size h) (fun _ => rfl)
def cellMem (k a : ℕ) (h : ∀ x, (![k, a, 0] : Fin 3 → ℕ) x + S1x1x2048.size x ≤ S16x128x2048.size x) : Memref sig .tc .vmem S1x2048 .f32 :=
  ((Memref.whole cc0_scratch0).slice (Rect.unit (s := S16x128x2048) ![k, a, 0] S1x1x2048.size h) (fun _ => rfl)).squeeze S1x2048 squeezes_S1x1x2048_S1x2048

theorem inMem_set {n : ℕ} (h) : (inMem n h).view.set = inRow n := (View.set_slice_whole _ _).trans (in_set h)
theorem cellMem_set {T : Tables} (hT : T.OK) {b a k : ℕ} (ha : a < 128) (hb : b + 128 ≤ 8192) (hk : k < T.cnt (b + a)) (h) :
    (cellMem k a h).view.set = cell T b (T.dst k (b + a)) :=
  (View.set_reshape _ _).trans ((View.set_slice_whole _ _).trans (cell_set hT ha hb hk h))

/-- The gathering buffer once the window's rows lie in it, at `f0` elsewhere. -/
def fill (T : Tables) (b : ℕ) (fe : S16384x2048.Idx → F .f32) (f0 : S16x128x2048.Idx → F .f32) : S16x128x2048.Idx → F .f32 :=
  fun y => if (y 0).val < T.cnt (b + (y 1).val) then
    fe (ix2 (Fin.ofNat 16384 (T.dst (y 0).val (b + (y 1).val))) (y 2 : Fin 2048)) else f0 y

/-- Where the place's elements lie in the buffer. -/
theorem cell_emb {k a : ℕ} (h') (j : Fin 2048) (x : Fin 3) :
    (((cellMem k a h').view.emb (ix2 (0 : Fin 1) j) : S16x128x2048.Idx) x : ℕ) = (![k, a, j.val] : Fin 3 → ℕ) x := by
  have e : (cellMem k a h').view.emb (ix2 (0 : Fin 1) j)
      = (Rect.unit (s := S16x128x2048) ![k, a, 0] S1x1x2048.size h').emb
        (Shape.reshapeEquiv squeezes_S1x1x2048_S1x2048.numel_eq (ix2 (0 : Fin 1) j)) := rfl
  rw [e, reshapeEquiv_ix2_1ab]
  fin_cases x
  · show k + 1 * 0 = k; omega
  · show a + 1 * 0 = a; omega
  · show 0 + 1 * j.val = j.val; omega

/-- What the copy leaves in the place. -/
theorem copied {T : Tables} (hT : T.OK) {b a k : ℕ} (ha : a < 128) (hb : b + 128 ≤ 8192) (hk : k < T.cnt (b + a)) (h h')
    (fe : S16384x2048.Idx → F .f32) (f0 : S16x128x2048.Idx → F .f32) :
    ∀ y ∈ cell T b (T.dst k (b + a)),
      (cellMem k a h').view.write (Elt F) f0 ((inMem (T.dst k (b + a)) h).view.read (Elt F) fe) Finset.univ y = fill T b fe f0 y := by
  intro y hy
  have hy' := mem_cell.mp hy
  rw [← cellMem_set hT ha hb hk h'] at hy
  obtain ⟨x, -, rfl⟩ := Finset.mem_map.mp hy
  have e := View.write_emb_of_mem (v := (cellMem k a h').view) (Val := Elt F) f0 ((inMem (T.dst k (b + a)) h).view.read (Elt F) fe) (Finset.mem_univ x)
  refine e.trans ?_
  unfold fill
  rw [if_pos hy'.1]
  obtain ⟨u, j, rfl⟩ : ∃ (u : Fin 1) (j : Fin 2048), x = ix2 u j := ⟨x 0, x 1, by funext c; fin_cases c <;> rfl⟩
  obtain rfl : u = 0 := Subsingleton.elim _ _
  refine congrArg fe (a₁ := ((inMem (T.dst k (b + a)) h).view.emb (ix2 (0 : Fin 1) j) : S16384x2048.Idx)) ?_
  have hlt := hT.dst_lt (b + a) (by omega) k hk
  have e2 := cell_emb (k := k) (a := a) h' j 2
  funext c
  apply Fin.ext
  revert c
  show ∀ c : Fin 2, _
  intro c
  fin_cases c
  · show T.dst k (b + a) + 1 * 0 = _ % 16384
    rw [hy'.2, Nat.mod_eq_of_lt hlt]; omega
  · refine Eq.trans ?_ e2.symm
    show 0 + 1 * j.val = j.val
    omega

/-- What one copy's number stands for: the slot's place and a share of its row. -/
def piece (c : Dev nD) (T : Tables) (b : ℕ) (fe : S16384x2048.Idx → F .f32) (f : S16x128x2048.Idx → F .f32) (s t : ℕ) : sProp 𝕄 :=
  iprop((((c : Thread nD τ).loc cc0_scratch0) ↦[cell T b s]{fullShare} f)
    ∗ (((c : Thread nD τ).loc main_arg3) ↦[inRow s]{Transfers.shareTokN fullShare t} fe))

instance piece_storable (c : Dev nD) (T : Tables) (b : ℕ) (fe f) (s t : ℕ) : BI.Storable (upEmb : UEmb _ 𝕄) (piece (F := F) c T b fe f s t) := by
  unfold piece; infer_instance

/-- What one row's copy adds to the semaphore. -/
def amt : ℕ := (cellMem 0 0 inb_S16x128x2048_S1x1x2048_0_0_0).view.dmaCredit
theorem amt_pos : 0 < amt := View.dmaCredit_pos _ (by decide)
theorem cell_amount {k a : ℕ} (h) : (cellMem k a h).view.dmaCredit = amt := rfl

/-- One copy, issued as transfer `j` of a batch. -/
theorem wp_issue (c : Dev nD) {T : Tables} (hT : T.OK) {b a k : ℕ} (ha : a < 128) (hb : b + 128 ≤ 8192) (hk : k < T.cnt (b + a))
    (h h') (fe : S16384x2048.Idx → F .f32) (f0 : S16x128x2048.Idx → F .f32)
    {N t : ℕ} {D : Fin N → sProp 𝕄} {j : ℕ} (hj : j < N) (hD : D ⟨j, hj⟩ = piece c T b fe (fill T b fe f0) (T.dst k (b + a)) t)
    {α : Type} {Q : α → sProp 𝕄} {kk : PUnit → Prog (TpuEff nD τ sig (Elt F) Λ₀ .tc) α} {hsrc hdst hsem} :
    iprop(piece c T b fe f0 (T.dst k (b + a)) t ∗ Transfers.Batch EC (c : Thread nD τ) (.dma cc0_scratch1.sem) () amt D j 0)
      ⊢ iprop((Transfers.Batch EC (c : Thread nD τ) (.dma cc0_scratch1.sem) () amt D (j + 1) 0 -∗ wp frame (wpE (defs₀ (F := F)) Variants.none (c : Thread nD τ) none) Set.univ (kk ⟨⟩) Q)
        -∗ wp frame (wpE (defs₀ (F := F)) Variants.none (c : Thread nD τ) none) Set.univ
          (.op (.enqueueDma (inMem (T.dst k (b + a)) h) (.here (cellMem k a h')) (.dma cc0_scratch1.sem) hsrc hdst hsem) kk) Q) := by
  have key := Transfers.wp_dmaBatch (Lvl := ℕ) (defs := defs₀ (F := F)) (Q := Q) EC Variants.none (c : Thread nD τ) none
    (src := inMem (T.dst k (b + a)) h) (dst := cellMem k a h') (via := .same)
    (sm := .dma cc0_scratch1.sem) (hsrc := hsrc) (hdst := hdst) (hsem := hsem) (k := kk) (q := Transfers.shareTokN fullShare t) (fs := fe)
    (Sd := (cellMem k a h').view.set) (fd := f0) (D := D) (j := j) (u := 0) () amt (cell_amount h') (Finset.Subset.refl _) hj (Nat.zero_le _)
    (by
      rw [hD, inMem_set, cellMem_set hT ha hb hk]
      unfold piece
      exact sep_mono (Entails.of_eq (pointsTo_congr fun y hy => copied hT ha hb hk h h' fe f0 y hy)) .rfl)
  rw [inMem_set, cellMem_set hT ha hb hk] at key
  unfold piece
  iintro ⟨⟨Ho, Hi⟩, HB⟩
  iapply key
  isplitl [Hi]; · iexact Hi
  isplitl [Ho]; · iexact Ho
  iexact HB

/-- The same at the offsets the kernel computes. -/
theorem wp_issue_at (c : Dev nD) {T : Tables} (hT : T.OK) {b a k : ℕ} (ha : a < 128) (hb : b + 128 ≤ 8192) (hk : k < T.cnt (b + a))
    {o : Fin 2 → ℕ} {o' : Fin 3 → ℕ} (ho : o = ![T.dst k (b + a), 0]) (ho' : o' = ![k, a, 0])
    (h h') (fe : S16384x2048.Idx → F .f32) (f0 : S16x128x2048.Idx → F .f32)
    {N t : ℕ} {D : Fin N → sProp 𝕄} {j : ℕ} (hj : j < N) (hD : D ⟨j, hj⟩ = piece c T b fe (fill T b fe f0) (T.dst k (b + a)) t)
    {α : Type} {Q : α → sProp 𝕄} {kk : PUnit → Prog (TpuEff nD τ sig (Elt F) Λ₀ .tc) α} {hsrc hdst hsem} :
    iprop(piece c T b fe f0 (T.dst k (b + a)) t ∗ Transfers.Batch EC (c : Thread nD τ) (.dma cc0_scratch1.sem) () amt D j 0)
      ⊢ iprop((Transfers.Batch EC (c : Thread nD τ) (.dma cc0_scratch1.sem) () amt D (j + 1) 0 -∗ wp frame (wpE (defs₀ (F := F)) Variants.none (c : Thread nD τ) none) Set.univ (kk ⟨⟩) Q)
        -∗ wp frame (wpE (defs₀ (F := F)) Variants.none (c : Thread nD τ) none) Set.univ
          (.op (.enqueueDma ((Memref.whole main_arg3).slice (Rect.unit (s := S16384x2048) o S1x2048.size h) (fun _ => rfl))
            (.here (((Memref.whole cc0_scratch0).slice (Rect.unit (s := S16x128x2048) o' S1x1x2048.size h') (fun _ => rfl)).squeeze S1x2048 squeezes_S1x1x2048_S1x2048))
            (.dma cc0_scratch1.sem) hsrc hdst hsem) kk) Q) := by
  subst ho ho'
  exact wp_issue c hT ha hb hk h h' fe f0 hj hD

end Cert.Comb
-- ==== Proof.KIssue.lean ====
/-
  The two nested loops of one grid point that issue its copies: token by token, and within a token slot by slot, each
  copy the next transfer of one batch; and the loop that awaits them.
-/
module

public import proofs.«01_k».proof.Proof.KRows
public import proofs.«01_k».proof.Proof.Gen.CombineIdeal.Loops

@[expose] public section

noncomputable section

namespace Cert.Comb

open Cert.CombineIdeal Cert.CombineIdeal.Gen
open Cert.Hand (Tables)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UC sig nD τ) ℕ

/-- The copies of a window are pieces by number. -/
def pieces (c : Dev nD) (T : Tables) (b : ℕ) (fe : S16384x2048.Idx → F .f32) (f : S16x128x2048.Idx → F .f32) :
    Fin (T.slots b 128).length → sProp 𝕄 :=
  fun j => piece c T b fe f (T.slots b 128)[j.val] j.val

instance pieces_storable (c : Dev nD) (T : Tables) (b : ℕ) (fe f) (j) : BI.Storable (upEmb : UEmb _ 𝕄) (pieces (F := F) c T b fe f j) := by
  unfold pieces; infer_instance

/-- The batch of a window's copies with `j` issued and `u` units awaited. -/
def flight (c : Dev nD) (T : Tables) (b : ℕ) (fe : S16384x2048.Idx → F .f32) (f : S16x128x2048.Idx → F .f32) (j u : ℕ) : sProp 𝕄 :=
  Transfers.Batch EC (c : Thread nD τ) (.dma cc0_scratch1.sem) () amt (pieces c T b fe f) j u

/-- A table's block in its staging buffer. -/
def held {s : Shape} (c : Dev nD) (a : Memref sig .tc .smem s .i32) (g : Buf (Elt F) (a.view.loc (c : Thread nD τ))) : sProp 𝕄 :=
  iprop(a.view.loc (c : Thread nD τ) ↦[a.view.set]{fullShare} g)

/-- What the tables' blocks of a window hold. -/
structure Blocks (T : Tables) (b : ℕ) (d0 : S1x128.Idx → BitVec 32) (d1 : S16x128.Idx → BitVec 32) : Prop where
  cnt : ∀ a (ha : a < 128), (d0 (ix2 (0 : Fin 1) (⟨a, ha⟩ : Fin 128))).toNat = T.cnt (b + a)
  dst : ∀ k (hk : k < 16) a (ha : a < 128), k < T.cnt (b + a) →
    (d1 (ix2 (⟨k, hk⟩ : Fin 16) (⟨a, ha⟩ : Fin 128))).toNat = T.dst k (b + a)

/-- The largest count of the first `a` tokens of the window that starts at token `b`. -/
def most (T : Tables) (b a : ℕ) : ℕ := (Finset.range a).sup fun a' => T.cnt (b + a')

theorem most_succ (T : Tables) (b a : ℕ) : most T b (a + 1) = max (most T b a) (T.cnt (b + a)) := by
  unfold most; rw [Finset.range_add_one, Finset.sup_insert, max_comm]

theorem most_le {T : Tables} (hT : T.OK) {b a : ℕ} (h : b + a ≤ 8192) : most T b a ≤ 16 :=
  Finset.sup_le fun a' h' => hT.cnt_le _ (by have := Finset.mem_range.mp h'; omega)

theorem le_most (T : Tables) (b : ℕ) {a a' : ℕ} (h : a' < a) : T.cnt (b + a') ≤ most T b a :=
  Finset.le_sup (f := fun a' => T.cnt (b + a')) (Finset.mem_range.mpr h)

section Loops

variable (c : Dev nD) (T : Tables) (i : grid0.Coords)
  (arg1 : Memref sig .tc .smem S1x128 .i32) (harg1 : arg1.IsWhole) (arg2 : Memref sig .tc .smem S16x128 .i32) (harg2 : arg2.IsWhole)
  (arg3 : Memref sig .tc .vmem S128x1 .i32) (harg3 : arg3.IsWhole)
  (harg4 : (Memref.whole main_arg3 : Memref sig .tc .hbm S16384x2048 .f32).IsWhole)
  (arg5 : Memref sig .tc .vmem S128x2048 .f32) (harg5 : arg5.IsWhole) (arg6 : Memref sig .tc .vmem S8x12288 .f32) (harg6 : arg6.IsWhole)
  (arg7 : Memref sig .tc .vmem S1x2048 .f32) (harg7 : arg7.IsWhole) (arg8 : Memref sig .tc .vmem S128x2048 .f32) (harg8 : arg8.IsWhole)
  (harg9 : (Memref.whole cc0_scratch0 : Memref sig .tc .vmem S16x128x2048 .f32).IsWhole)
  (g0 : Buf (Elt F) (arg1.view.loc (c : Thread nD τ))) (g1 : Buf (Elt F) (arg2.view.loc (c : Thread nD τ)))
  (fe : S16384x2048.Idx → F .f32) (f0 : S16x128x2048.Idx → F .f32)

/-- The first token of the point's window. -/
abbrev base (i : grid0.Coords) : ℕ := 128 * (i 0).val

theorem base_le : base i + 128 ≤ 8192 := by
  have : (i 0).val < 64 := (i 0).isLt
  unfold base; omega

/-- Copy `k` of token `a`, issued as the next transfer of the window's batch. -/
theorem wp_issue_slot (hT : T.OK) {a k : ℕ} (ha : a < 128) (hk : k < T.cnt (base i + a))
    {o : Fin 2 → ℕ} {o' : Fin 3 → ℕ} (ho : o = ![T.dst k (base i + a), 0]) (ho' : o' = ![k, a, 0]) (h h')
    {α : Type} {Q : α → sProp 𝕄} {kk : PUnit → Prog (TpuEff nD τ sig (Elt F) Λ₀ .tc) α} {hsrc hdst hsem} :
    iprop(pieces c T (base i) fe f0 ⟨(T.slots (base i) a).length + k, T.number_lt (base i) ha hk⟩
        ∗ flight c T (base i) fe (fill T (base i) fe f0) ((T.slots (base i) a).length + k) 0)
      ⊢ iprop((flight c T (base i) fe (fill T (base i) fe f0) ((T.slots (base i) a).length + k + 1) 0
          -∗ wp frame (wpE (defs₀ (F := F)) Variants.none (c : Thread nD τ) none) Set.univ (kk ⟨⟩) Q)
        -∗ wp frame (wpE (defs₀ (F := F)) Variants.none (c : Thread nD τ) none) Set.univ
          (.op (.enqueueDma ((Memref.whole main_arg3).slice (Rect.unit (s := S16384x2048) o S1x2048.size h) (fun _ => rfl))
            (.here (((Memref.whole cc0_scratch0).slice (Rect.unit (s := S16x128x2048) o' S1x1x2048.size h') (fun _ => rfl)).squeeze S1x2048 squeezes_S1x1x2048_S1x2048))
            (.dma cc0_scratch1.sem) hsrc hdst hsem) kk) Q) := by
  have hget := T.number_get (base i) (A := 128) ha hk (T.number_lt (base i) ha hk)
  have hpc (f) : pieces (F := F) c T (base i) fe f ⟨(T.slots (base i) a).length + k, T.number_lt (base i) ha hk⟩
      = piece c T (base i) fe f (T.dst k (base i + a)) ((T.slots (base i) a).length + k) := by
    unfold pieces; simp only [hget]
  rw [hpc]
  unfold flight
  exact wp_issue_at c hT ha (base_le i) hk ho ho' h h' fe f0 (T.number_lt (base i) ha hk) (hpc _)

/-- Before copy `k` of token `a`. -/
def slotInv (a : ℕ) (k : ℕ) (_ : Unit) : sProp 𝕄 :=
  iprop(flight c T (base i) fe (fill T (base i) fe f0) ((T.slots (base i) a).length + k) 0
    ∗ bigSep (Ring.rangeSet (T.slots (base i) 128).length ((T.slots (base i) a).length + k) (T.slots (base i) 128).length) (pieces c T (base i) fe f0)
    ∗ held c arg2 g1)

theorem slot_step (hT : T.OK) (hB : Blocks T (base i) (arg1.view.read (Elt F) g0) (arg2.view.read (Elt F) g1))
    (a : Fin k0_t1_loop.trips) (v9 : BitVec 32) (hv9 : v9.toNat = T.cnt (base i + a.val)) (hw1 : k0_chk1 a v9)
    (k : Fin (k0_t2_loop v9).trips) (acc : Unit) :
    slotInv c T i arg2 g1 fe f0 a.val k.val acc
      ⊢ wp frame (wpE (defs₀ (F := F)) Variants.none (c : Thread nD τ) none) Set.univ
        (k0_t2_body i arg1 harg1 arg2 harg2 arg3 harg3 (Memref.whole main_arg3) harg4 arg5 harg5 arg6 harg6 arg7 harg7 arg8 harg8
          (Memref.whole cc0_scratch0) harg9 cc0_scratch1 a v9 hw1 k acc)
        (slotInv c T i arg2 g1 fe f0 a.val (k.val + 1)) := by
  have ha : a.val < 128 := lt_of_lt_of_eq a.isLt t1_trips
  have hb := base_le i
  have hc16 := hT.cnt_le (base i + a.val) (by omega)
  have hk : k.val < T.cnt (base i + a.val) := lt_of_lt_of_eq k.isLt ((t2_trips (by omega)).trans hv9)
  have hlt := T.number_lt (base i) (A := 128) ha hk
  unfold slotInv held
  rw [Ring.bigSep_rangeSet_head hlt hlt]
  iintro ⟨HB, ⟨Hp, HPs⟩, H2⟩
  sl_unfold [k0_t2_body]
  sl_exec
  have hs : (slot_step.sl.r c arg2 g1 a v9 hw1 k).toNat = T.dst k.val (base i + a.val) := by
    unfold slot_step.sl.r
    rw [← hB.dst k.val (by omega) a.val ha hk]
    congr 1
    show arg2.view.read (Elt F) g1 _ = arg2.view.read (Elt F) g1 _
    congr 1
    funext x
    apply Fin.ext
    have e := off2_eq a v9 (by omega) k
    fin_cases x
    · show k0_off2 a v9 k 0 + 1 * 0 = k.val
      rw [e]; rfl
    · show k0_off2 a v9 k 1 + 1 * 0 = a.val
      rw [e]; rfl
  have hlt' := hT.dst_lt (base i + a.val) (by omega) k.val hk
  iapply (wp_assume Variants.none (c : Thread nD τ) none Set.univ (chk2 _ (by rw [hs]; exact hlt')))
  sl_exec
  iapply (wp_issue_slot c T i fe f0 hT ha hk ((off4_eq _).trans (by rw [hs])) (off3_eq a v9 (by omega) k) _ _) $$ [Hp HB]
  · isplitl [Hp] <;> iassumption
  iintro HB
  sl_step
  isplitl [HB]; · iexact HB
  isplitl [HPs]; · iexact HPs
  iexact H2

/-- Before token `a`: the carried total counts the copies issued, the carried maximum is the largest count so far. -/
def tokInv (a : ℕ) (u : BitVec 32 × BitVec 32) : sProp 𝕄 :=
  iprop(⌜u.1.toNat = (T.slots (base i) a).length ∧ u.2.toNat = most T (base i) a⌝
    ∗ flight c T (base i) fe (fill T (base i) fe f0) (T.slots (base i) a).length 0
    ∗ bigSep (Ring.rangeSet (T.slots (base i) 128).length (T.slots (base i) a).length (T.slots (base i) 128).length) (pieces c T (base i) fe f0)
    ∗ held c arg1 g0 ∗ held c arg2 g1)

theorem tok_step (hT : T.OK) (hB : Blocks T (base i) (arg1.view.read (Elt F) g0) (arg2.view.read (Elt F) g1))
    (a : Fin k0_t1_loop.trips) (u : BitVec 32 × BitVec 32) :
    tokInv c T i arg1 arg2 g0 g1 fe f0 a.val u
      ⊢ wp frame (wpE (defs₀ (F := F)) Variants.none (c : Thread nD τ) none) Set.univ
        (k0_t1_body i arg1 harg1 arg2 harg2 arg3 harg3 (Memref.whole main_arg3) harg4 arg5 harg5 arg6 harg6 arg7 harg7 arg8 harg8
          (Memref.whole cc0_scratch0) harg9 cc0_scratch1 a u)
        (tokInv c T i arg1 arg2 g0 g1 fe f0 (a.val + 1)) := by
  obtain ⟨total, kmax⟩ := u
  have ha : a.val < 128 := lt_of_lt_of_eq a.isLt t1_trips
  have hb := base_le i
  have hc16 := hT.cnt_le (base i + a.val) (by omega)
  have hm16 := most_le hT (b := base i) (a := a.val) (by omega)
  have hlen := hT.slots_length_le (b := base i) (a := a.val) (by omega)
  have hsucc := T.slots_succ_length (base i) a.val
  unfold tokInv
  iintro ⟨%htot, HB, HPs, H1, H2⟩
  unfold held
  sl_unfold [k0_t1_body]
  sl_exec
  have hs : (tok_step.sl.r c arg1 g0 a).toNat = T.cnt (base i + a.val) := by
    unfold tok_step.sl.r
    rw [← hB.cnt a.val ha]
    congr 1
    show arg1.view.read (Elt F) g0 _ = arg1.view.read (Elt F) g0 _
    congr 1
    funext x
    apply Fin.ext
    have e := k0_off1_eq a
    fin_cases x
    · show k0_off1 a 0 + 1 * 0 = 0
      rw [e]; rfl
    · show k0_off1 a 1 + 1 * 0 = a.val
      rw [e]; rfl
  have hw := chk1 a (tok_step.sl.r c arg1 g0 a) (by omega)
  iapply (wp_assume Variants.none (c : Thread nD τ) none Set.univ hw)
  sl_exec
  sl_for (slotInv c T i arg2 g1 fe f0 a.val) $$ [HB HPs H2]
  · intro k acc
    exact slot_step c T i arg1 harg1 arg2 harg2 arg3 harg3 harg4 arg5 harg5 arg6 harg6 arg7 harg7 arg8 harg8 harg9 g0 g1 fe f0 hT hB a _ hs hw k acc
  · unfold slotInv held
    isplitl [HB]; · iexact HB
    isplitl [HPs]; · iexact HPs
    iexact H2
  iintro %acc HL
  sl_exec
  sl_step
  ihave HL' := (show slotInv c T i arg2 g1 fe f0 a.val (k0_t2_loop (tok_step.sl.r c arg1 g0 a)).trips acc
      ⊢ iprop(flight c T (base i) fe (fill T (base i) fe f0) (T.slots (base i) (a.val + 1)).length 0
    ∗ bigSep (Ring.rangeSet (T.slots (base i) 128).length (T.slots (base i) (a.val + 1)).length (T.slots (base i) 128).length) (pieces c T (base i) fe f0)
    ∗ held c arg2 g1) from by
      unfold slotInv
      rw [t2_trips (by omega), hs, hsucc]) $$ HL
  icases HL' with ⟨HB, HPs, H2⟩
  unfold held
  isplitr
  · ipureintro
    constructor
    · show (total + tok_step.sl.r c arg1 g0 a).toNat = _
      rw [BitVec.toNat_add, htot.1, hs, hsucc]
      omega
    · refine (max_word (by rw [htot.2]; omega) (by rw [hs]; omega)).trans ?_
      rw [htot.2, hs, most_succ]
  isplitl [HB]; · iexact HB
  isplitl [HPs]; · iexact HPs
  isplitl [H1]; · iexact H1
  iexact H2

/-- After `k` waits of the drain. -/
def drainInv (f1 : S16x128x2048.Idx → F .f32) (k : ℕ) (_ : Unit) : sProp 𝕄 :=
  iprop(flight c T (base i) fe f1 (T.slots (base i) 128).length (k * amt) ∗ ∃ W, owes (c : Thread nD τ) 0 W)

theorem drain_step (f1 : S16x128x2048.Idx → F .f32) (v2 : BitVec 32) (hv2 : v2.toNat = (T.slots (base i) 128).length) (hlt : v2.toNat < 2147483648) (hw4 : k0_chk4 v2)
    (k : Fin (k0_t4_loop v2).trips) (acc : Unit) :
    drainInv c T i fe f1 k.val acc
      ⊢ wp frame (wpE (defs₀ (F := F)) Variants.none (c : Thread nD τ) none) Set.univ
        (k0_t4_body i arg1 harg1 arg2 harg2 arg3 harg3 (Memref.whole main_arg3) harg4 arg5 harg5 arg6 harg6 arg7 harg7 arg8 harg8
          (Memref.whole cc0_scratch0) harg9 cc0_scratch1 v2 hw4 k acc)
        (drainInv c T i fe f1 (k.val + 1)) := by
  have hk : k.val < (T.slots (base i) 128).length := lt_of_lt_of_eq k.isLt ((t4_trips hlt).trans hv2)
  have hu : k.val * amt + 1 * amt ≤ amt * (T.slots (base i) 128).length := by
    rw [← Nat.add_mul, Nat.mul_comm]; exact Nat.mul_le_mul_left _ hk
  unfold drainInv
  iintro ⟨HB, ⟨%W, HW⟩⟩
  sl_unfold [k0_t4_body]
  sl_exec
  unfold flight
  iapply (Transfers.wp_waitBatchMul (Lvl := ℕ) (defs := defs₀ (F := F)) EC Variants.none (c : Thread nD τ) none () (N := amt) 1
    ((cell_amount inb_S16x128x2048_S1x1x2048_0_0_0).trans (Nat.one_mul _).symm) hu) $$ [HB HW]
  · isplitl [HB] <;> iassumption
  iintro ⟨HB, HW⟩
  sl_step
  isplitl [HB]
  · rw [Nat.add_mul]; iexact HB
  iexists _; iexact HW

end Loops

end Cert.Comb
-- ==== Proof.KCut.lean ====
/-
  One grid point of the combination: the gathering buffer and the experts' rows are cut into the pieces of the window's
  copies, the copies issued and awaited, and the pieces put back.
-/
module

public import proofs.«01_k».proof.Proof.KIssue

@[expose] public section

noncomputable section

namespace Cert.Comb

open Cert.CombineIdeal Cert.CombineIdeal.Gen
open Cert.Hand (Tables)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UC sig nD τ) ℕ

section Cut

variable (c : Dev nD) (T : Tables) (b : ℕ) (fe : S16384x2048.Idx → F .f32) (f : S16x128x2048.Idx → F .f32)

/-- The places of the window's slots. -/
def places : Finset S16x128x2048.Idx :=
  (Finset.univ : Finset (Fin (T.slots b 128).length)).biUnion fun j => cell T b (T.slots b 128)[j.val]

/-- What no copy of the window needs: the other places, the other rows of each copy's share of the experts' rows, and
    what is left of their share. -/
def rest : sProp 𝕄 :=
  iprop((((c : Thread nD τ).loc cc0_scratch0) ↦[Finset.univ \ places T b]{fullShare} f)
    ∗ (((c : Thread nD τ).loc main_arg3) ↦{Transfers.shareDrop fullShare (T.slots b 128).length} fe)
    ∗ bigSep Finset.univ fun j : Fin (T.slots b 128).length =>
        ((c : Thread nD τ).loc main_arg3) ↦[Finset.univ \ inRow (T.slots b 128)[j.val]]{Transfers.shareTokN fullShare j.val} fe)

theorem cut_out (hnd : (T.slots b 128).Nodup) :
    (((c : Thread nD τ).loc cc0_scratch0) ↦{fullShare} f : sProp 𝕄)
      = iprop((bigSep Finset.univ fun j : Fin (T.slots b 128).length => ((c : Thread nD τ).loc cc0_scratch0) ↦[cell T b (T.slots b 128)[j.val]]{fullShare} f)
          ∗ (((c : Thread nD τ).loc cc0_scratch0) ↦[Finset.univ \ places T b]{fullShare} f)) := by
  have h1 := pointsTo_split_subset (Ix := Unit) (Name := ℕ) (U := Pipeline.UC sig nD τ) (Lvl := ℕ) (Val := Elt F)
    (ℓ := (c : Thread nD τ).loc cc0_scratch0) (q := fullShare) (f := f) (Finset.subset_univ (places T b))
  refine (Entails.antisymm h1.1 h1.2).trans ?_
  congr 1
  refine pointsTo_biUnion (ℓ := (c : Thread nD τ).loc cc0_scratch0) (Finset.univ : Finset (Fin (T.slots b 128).length)) _ ?_
  intro j _ j' _ hne
  refine cell_disjoint fun e => hne (Fin.ext ?_)
  exact (List.Nodup.getElem_inj_iff hnd).mp e

theorem cut_in :
    (((c : Thread nD τ).loc main_arg3) ↦{fullShare} fe : sProp 𝕄)
      = iprop((((c : Thread nD τ).loc main_arg3) ↦{Transfers.shareDrop fullShare (T.slots b 128).length} fe)
        ∗ ((bigSep Finset.univ fun j : Fin (T.slots b 128).length =>
          ((c : Thread nD τ).loc main_arg3) ↦[inRow (T.slots b 128)[j.val]]{Transfers.shareTokN fullShare j.val} fe)
        ∗ bigSep Finset.univ fun j : Fin (T.slots b 128).length =>
          ((c : Thread nD τ).loc main_arg3) ↦[Finset.univ \ inRow (T.slots b 128)[j.val]]{Transfers.shareTokN fullShare j.val} fe)) := by
  have h1 := Transfers.pointsTo_toks_range (Ix := Unit) (Name := ℕ) (U := Pipeline.UC sig nD τ) (Lvl := ℕ) (Val := Elt F)
    (ℓ := (c : Thread nD τ).loc main_arg3) (S := Finset.univ) (f := fe) fullShare (T.slots b 128).length
  refine (Entails.antisymm h1.1 h1.2).trans ?_
  congr 1
  refine (Ring.bigSep_fin_eq_range (T.slots b 128).length (fun j => ((c : Thread nD τ).loc main_arg3) ↦{Transfers.shareTokN fullShare j.val} fe) _
    (fun _ _ => rfl)).symm.trans ?_
  refine (bigSep_congr fun j _ => ?_).trans (bigSep_sep _ _ _)
  have h2 := pointsTo_split_subset (Ix := Unit) (Name := ℕ) (U := Pipeline.UC sig nD τ) (Lvl := ℕ) (Val := Elt F)
    (ℓ := (c : Thread nD τ).loc main_arg3) (q := Transfers.shareTokN fullShare j.val) (f := fe)
    (Finset.subset_univ (inRow (T.slots b 128)[j.val]))
  exact Entails.antisymm h2.1 h2.2

theorem pieces_eq :
    (bigSep Finset.univ (pieces c T b fe f) : sProp 𝕄)
      = iprop((bigSep Finset.univ fun j : Fin (T.slots b 128).length => ((c : Thread nD τ).loc cc0_scratch0) ↦[cell T b (T.slots b 128)[j.val]]{fullShare} f)
        ∗ bigSep Finset.univ fun j : Fin (T.slots b 128).length =>
          ((c : Thread nD τ).loc main_arg3) ↦[inRow (T.slots b 128)[j.val]]{Transfers.shareTokN fullShare j.val} fe) :=
  bigSep_sep Finset.univ _ _

theorem cut (hnd : (T.slots b 128).Nodup) :
    iprop((((c : Thread nD τ).loc main_arg3) ↦{fullShare} fe) ∗ (((c : Thread nD τ).loc cc0_scratch0) ↦{fullShare} f))
      ⊢ (iprop(bigSep Finset.univ (pieces c T b fe f) ∗ rest c T b fe f) : sProp 𝕄) := by
  rw [cut_out c T b f hnd, cut_in c T b fe, pieces_eq]
  unfold rest
  iintro ⟨⟨Hd, Hi, Hir⟩, Ho, Hor⟩
  isplitl [Hi Ho]
  · isplitl [Ho] <;> iassumption
  isplitl [Hor]; · iexact Hor
  isplitl [Hd] <;> iassumption

theorem uncut (hnd : (T.slots b 128).Nodup) :
    (iprop(bigSep Finset.univ (pieces c T b fe f) ∗ rest c T b fe f) : sProp 𝕄)
      ⊢ iprop((((c : Thread nD τ).loc main_arg3) ↦{fullShare} fe) ∗ (((c : Thread nD τ).loc cc0_scratch0) ↦{fullShare} f)) := by
  rw [cut_out c T b f hnd, cut_in c T b fe, pieces_eq]
  unfold rest
  iintro ⟨⟨Ho, Hi⟩, Hor, Hd, Hir⟩
  isplitl [Hi Hir Hd]
  · isplitl [Hd]; · iexact Hd
    isplitl [Hi] <;> iassumption
  isplitl [Ho] <;> iassumption

theorem rest_congr {f f' : S16x128x2048.Idx → F .f32} (h : ∀ y, y ∉ places T b → f y = f' y) :
    (rest c T b fe f : sProp 𝕄) = rest c T b fe f' := by
  unfold rest
  rw [pointsTo_congr fun y hy => h y (Finset.mem_sdiff.mp hy).2]

theorem mem_places (hT : T.OK) (hb : b + 128 ≤ 8192) (y : S16x128x2048.Idx) (hy : (y 0).val < T.cnt (b + (y 1).val)) :
    y ∈ places T b := by
  have h1 : (y 1).val < 128 := (y 1).isLt
  have hm : T.dst (y 0).val (b + (y 1).val) ∈ T.slots b 128 :=
    (hT.mem_slots hb).mpr ⟨hT.dst_lt _ (by omega) _ hy, by rw [hT.fed _ (by omega) _ hy]; omega, by rw [hT.fed _ (by omega) _ hy]; omega⟩
  obtain ⟨j, hj, e⟩ := List.mem_iff_getElem.mp hm
  unfold places
  simp only [Finset.mem_biUnion, Finset.mem_univ, true_and, mem_cell]
  exact ⟨⟨j, hj⟩, hy, e.symm⟩

end Cut

end Cert.Comb
-- ==== Proof.KAcc.lean ====
/-
  The sum over a token's slots that the body accumulates, and what it stores.
-/
module

public import proofs.«01_k».proof.Proof.KCut
public import Idealize.ShloMosaic.Lib.Pipeline.Frame
public import Idealize.ShloMosaic.Lib.Pipeline.ValueKit.Tiles

@[expose] public section

noncomputable section

namespace Cert.Comb

open Cert.CombineIdeal Cert.CombineIdeal.Gen
open Cert.Hand (Tables)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UC sig nD τ) ℕ

section Acc

variable (T : Tables) (b : ℕ) (fe : S16384x2048.Idx → F .f32)

/-- A token's sum over the first `K` of its slots. -/
def accAt : ℕ → FVec F S128x2048 .f32
  | 0 => k0_pay4
  | K + 1 => fun j => FloatOps.addf (accAt K j)
      (if K < T.cnt (b + (j 0).val) then fe (ix2 (Fin.ofNat 16384 (T.dst K (b + (j 0).val))) (j 1 : Fin 2048)) else FloatOps.ofBits .f32 0x00000000#32)

theorem acc_step (hT : T.OK) (hb : b + 128 ≤ 8192) (d2 : Vec F S128x1 .i32)
    (h2 : ∀ a (ha : a < 128), ((d2 (ix2 (⟨a, ha⟩ : Fin 128) (0 : Fin 1)) : BitVec 32)).toNat = T.cnt (b + a))
    (v : BitVec 32) (hv : v.toNat ≤ 16) (k : Fin (k0_t6_loop v).trips) (f0 : S16x128x2048.Idx → F .f32) (inb)
    (p : Vec F S1x128x2048 .f32)
    (hp : p = View.ld (Val := Elt F) (e' := .f32) (fill T b fe f0) (Rect.unit (s := S16x128x2048) (k0_off8 v k) S1x128x2048.size inb)) :
    k0_pay5 v d2 k (accAt T b fe k.val) p = accAt T b fe (k.val + 1) := by
  have hk : k.val < 16 := lt_of_lt_of_le (lt_of_lt_of_eq k.isLt (t6_trips (by omega))) hv
  have ho := off8_eq v (by omega) k
  funext j
  obtain ⟨r, d, rfl⟩ : ∃ (r : Fin 128) (d : Fin 2048), j = ix2 r d := ⟨j 0, j 1, by funext c; fin_cases c <;> rfl⟩
  show FloatOps.addf _ _ = FloatOps.addf _ _
  refine congrArg (FloatOps.addf (accAt T b fe k.val (ix2 r d))) ?_
  rw [select_apply]
  have hm : (broadcastTo S128x2048 (shapeCast S128x1 (cmpi .sgt (k0_pay3 d2) (broadcast S128x1 (Scf.iv 0#32 1#32 k.val))) shapeCasts_S128x1_S128x1)
      broadcasts_S128x1_S128x2048) (ix2 r d) = BitVec.ofBool (decide (k.val < T.cnt (b + r.val))) := by
    refine (broadcastTo_apply _ broadcasts_S128x1_S128x2048 (ix2 r d) (ix2 r (0 : Fin 1)) fun a => by match a with | 0 => rfl | 1 => rfl).trans ?_
    rw [shapeCast_self]
    unfold k0_pay3
    rw [shapeCast_self]
    show BitVec.ofBool ((Scf.iv 0#32 1#32 k.val).slt (d2 (ix2 r (0 : Fin 1)) : BitVec 32)) = _
    have e1 := Cert.Hand.iv_word (k := k.val) (by omega)
    have e2 := h2 r.val r.isLt
    have c16 := hT.cnt_le (b + r.val) (by have := r.isLt; omega)
    rw [BitVec.slt_eq_decide, Cert.Hand.toInt_of_small (by omega), Cert.Hand.toInt_of_small (by rw [e2]; omega), e1, e2]
    congr 1
    exact decide_eq_decide.mpr Int.ofNat_lt
  rw [hm]
  show (if _ then _ else _) = if k.val < T.cnt (b + r.val) then _ else _
  by_cases hc : k.val < T.cnt (b + r.val)
  · rw [if_pos hc, decide_eq_true hc, if_pos (by decide)]
    refine (shapeCast_apply p shapeCasts_S1x128x2048_S128x2048 (ix2 r d) (ix3 (0 : Fin 1) r d) (by
      rw [Shape.rowMajor_val_three, Shape.rowMajor_val_two]
      show (0 * 128 + r.val) * 2048 + d.val = r.val * 2048 + d.val
      omega)).trans ?_
    rw [hp]
    refine (View.ld_unit_apply_of (Val := Elt F) (e := .f32) (fill T b fe f0) _ _ _ _ (ix3 (⟨k.val, hk⟩ : Fin 16) r d) fun a => ?_).trans ?_
    · have hoa := congrFun ho a
      match a with
      | 0 => exact (congrArg (· + 0) hoa).symm
      | 1 => exact ((congrArg (· + r.val) hoa).trans (Nat.zero_add _)).symm
      | 2 => exact ((congrArg (· + d.val) hoa).trans (Nat.zero_add _)).symm
    · unfold fill
      exact if_pos hc
  · rw [if_neg hc, decide_eq_false hc, if_neg (by decide)]
    rfl

/-- What the body stores: the gated sum added to the rows and the whole normalized. -/
def outB (x : Vec F S128x2048 .f32) (w : Vec F S8x12288 .f32) (g : Vec F S1x2048 .f32) : FVec F S128x2048 .f32 :=
  k0_pay1 (k0_pay7 (accAt T b fe (most T b 128)) (View.ld (Val := Elt F) (e' := .f32) w (Rect.unit (s := S8x12288) ![0, 10240] S1x2048.size inb_S8x12288_S1x2048_0_10240)) x)
    (k0_pay8 (accAt T b fe (most T b 128)) (View.ld (Val := Elt F) (e' := .f32) w (Rect.unit (s := S8x12288) ![0, 10240] S1x2048.size inb_S8x12288_S1x2048_0_10240)) x)
    (Scalar.ofBits .f32 0x45000000#32) g

end Acc

end Cert.Comb
-- ==== Proof.KBody.lean ====
/-
  One grid point of the combination: the window's rows are gathered, summed token by token, and the result stored.
-/
module

public import proofs.«01_k».proof.Proof.KAcc
public import Idealize.ShloMosaic.Lib.Pipeline.Frame
public import Idealize.ShloMosaic.Lib.Pipeline.ValueKit.Tiles

@[expose] public section

noncomputable section

namespace Cert.Comb

open Cert.CombineIdeal Cert.CombineIdeal.Gen
open Cert.Hand (Tables)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UC sig nD τ) ℕ

theorem zero2 : ∀ a : Fin 2, (![0, 0] : Fin 2 → ℕ) a = 0 := by decide

theorem read_store {S : Shape} {sp : Space} {e : EltTy} (v : View sig .tc sp S e) (f : v.ty.Contents (Elt F))
    (off : Fin S.rank → ℕ) (h0 : ∀ a, off a = 0) (inb) (w : S.Idx → Elt F e) :
    v.read (Elt F) (v.writes (Elt F) f [(⟨Rect.unit (s := S) off S.size inb, w⟩ : View.Piece (Elt F) S e)]) = w := by
  funext y
  refine View.read_writes_apply_of_pieces _ _ w _ ?_ y ?_
  · rintro q hq x
    obtain rfl := List.mem_singleton.mp hq
    refine congrArg w (funext fun a => Fin.ext ?_)
    exact ((Rect.idx_unit_val off S.size inb x a).trans (by rw [h0 a, Nat.zero_add])).symm
  · refine ⟨_, List.mem_singleton.mpr rfl, ?_⟩
    rw [Rect.mem_set_unit]
    intro a
    rw [h0 a]
    exact ⟨Nat.zero_le _, by rw [Nat.zero_add]; exact (y a).isLt⟩

/-- The gathering buffer, as the body names it, at contents `f`. -/
def heldX (c : Dev nD) (f : S16x128x2048.Idx → F .f32) : sProp 𝕄 :=
  iprop((Memref.whole cc0_scratch0 : Memref sig .tc .vmem S16x128x2048 .f32).view.loc (c : Thread nD τ)
    ↦[(Memref.whole cc0_scratch0 : Memref sig .tc .vmem S16x128x2048 .f32).view.set]{fullShare} f)

theorem heldX_eq (c : Dev nD) (f : S16x128x2048.Idx → F .f32) :
    heldX c f = (((c : Thread nD τ).loc cc0_scratch0) ↦{fullShare} f : sProp 𝕄) := by
  unfold heldX
  rw [show (Memref.whole cc0_scratch0 : Memref sig .tc .vmem S16x128x2048 .f32).view.set = Finset.univ from View.set_whole _]

theorem heldX_intro (c : Dev nD) (f : S16x128x2048.Idx → F .f32) :
    iprop((Memref.whole cc0_scratch0 : Memref sig .tc .vmem S16x128x2048 .f32).view.loc (c : Thread nD τ)
      ↦[(Memref.whole cc0_scratch0 : Memref sig .tc .vmem S16x128x2048 .f32).view.set]{fullShare} f)
    ⊢ (iprop(∃ f : S16x128x2048.Idx → F .f32, ((c : Thread nD τ).loc cc0_scratch0) ↦{fullShare} f) : sProp 𝕄) := by
  iintro H
  iexists f
  rw [← heldX_eq]
  unfold heldX
  iexact H

section Body

variable (c : Dev nD) (T : Tables) (i : grid0.Coords)
  (arg1 : Memref sig .tc .smem S1x128 .i32) (harg1 : arg1.IsWhole) (arg2 : Memref sig .tc .smem S16x128 .i32) (harg2 : arg2.IsWhole)
  (arg3 : Memref sig .tc .vmem S128x1 .i32) (harg3 : arg3.IsWhole)
  (harg4 : (Memref.whole main_arg3 : Memref sig .tc .hbm S16384x2048 .f32).IsWhole)
  (arg5 : Memref sig .tc .vmem S128x2048 .f32) (harg5 : arg5.IsWhole) (arg6 : Memref sig .tc .vmem S8x12288 .f32) (harg6 : arg6.IsWhole)
  (arg7 : Memref sig .tc .vmem S1x2048 .f32) (harg7 : arg7.IsWhole) (arg8 : Memref sig .tc .vmem S128x2048 .f32) (harg8 : arg8.IsWhole)
  (harg9 : (Memref.whole cc0_scratch0 : Memref sig .tc .vmem S16x128x2048 .f32).IsWhole)
  (g0 : Buf (Elt F) (arg1.view.loc (c : Thread nD τ))) (g1 : Buf (Elt F) (arg2.view.loc (c : Thread nD τ)))
  (fe : S16384x2048.Idx → F .f32)

/-- Before slot `k` of the sum. -/
def accInv (f1 : S16x128x2048.Idx → F .f32) (k : ℕ) (acc : FVec F S128x2048 .f32) : sProp 𝕄 :=
  iprop(⌜acc = accAt T (base i) fe k⌝ ∗ heldX c f1)

theorem acc_loop (hT : T.OK) (f0 : S16x128x2048.Idx → F .f32) (d2 : Vec F S128x1 .i32)
    (h2 : ∀ a (ha : a < 128), ((d2 (ix2 (⟨a, ha⟩ : Fin 128) (0 : Fin 1)) : BitVec 32)).toNat = T.cnt (base i + a))
    (v : BitVec 32) (hv : v.toNat ≤ 16) (hw5 : k0_chk5 v) (k : Fin (k0_t6_loop v).trips) (acc : FVec F S128x2048 .f32) :
    accInv c T i fe (fill T (base i) fe f0) k.val acc
      ⊢ wp frame (wpE (defs₀ (F := F)) Variants.none (c : Thread nD τ) none) Set.univ
        (k0_t6_body i arg1 harg1 arg2 harg2 arg3 harg3 (Memref.whole main_arg3) harg4 arg5 harg5 arg6 harg6 arg7 harg7 arg8 harg8
          (Memref.whole cc0_scratch0) harg9 cc0_scratch1 v hw5 d2 k acc)
        (accInv c T i fe (fill T (base i) fe f0) (k.val + 1)) := by
  unfold accInv heldX
  iintro ⟨%ha, HX⟩
  sl_unfold [k0_t6_body]
  sl_exec
  sl_step
  isplitr
  · ipureintro
    rw [ha]
    exact acc_step T (base i) fe hT (base_le i) d2 h2 v hv k f0 _ _ rfl
  iexact HX

set_option maxHeartbeats 2000000 in
/-- ONE GRID POINT: the body stores the block and leaves the rest as it was, the gathering buffer at some contents. -/
theorem body_run (hT : T.OK) (hB : Blocks T (base i) (arg1.view.read (Elt F) g0) (arg2.view.read (Elt F) g1))
    (d2 : Vec F S128x1 .i32)
    (h2 : ∀ a (ha : a < 128), ((d2 (ix2 (⟨a, ha⟩ : Fin 128) (0 : Fin 1)) : BitVec 32)).toNat = T.cnt (base i + a))
    (x : Vec F S128x2048 .f32) (w : Vec F S8x12288 .f32) (g : Vec F S1x2048 .f32) (o : Vec F S128x2048 .f32)
    (W : Waits sig Unit) :
    iprop(held c arg1 g0 ∗ held c arg2 g1 ∗ owns (c : Thread nD τ) arg3 fullShare d2
        ∗ (((c : Thread nD τ).loc main_arg3) ↦{fullShare} fe)
        ∗ owns (c : Thread nD τ) arg5 fullShare x ∗ owns (c : Thread nD τ) arg6 fullShare w ∗ owns (c : Thread nD τ) arg7 fullShare g
        ∗ owns (c : Thread nD τ) arg8 fullShare o
        ∗ (∃ f : S16x128x2048.Idx → F .f32, heldX c f)
        ∗ semVal ((c : Thread nD τ), SemLoc.dma cc0_scratch1.sem) 0
        ∗ owes (c : Thread nD τ) 0 W)
      ⊢ wp frame (wpE (defs₀ (F := F)) Variants.none (c : Thread nD τ) none) Set.univ
        (cc0_combine_ctx i arg1 harg1 arg2 harg2 arg3 harg3 (Memref.whole main_arg3) harg4 arg5 harg5 arg6 harg6 arg7 harg7 arg8 harg8
          (Memref.whole cc0_scratch0) harg9 cc0_scratch1)
        (fun _ => iprop(held c arg1 g0 ∗ held c arg2 g1 ∗ owns (c : Thread nD τ) arg3 fullShare d2
        ∗ (((c : Thread nD τ).loc main_arg3) ↦{fullShare} fe)
        ∗ owns (c : Thread nD τ) arg5 fullShare x ∗ owns (c : Thread nD τ) arg6 fullShare w ∗ owns (c : Thread nD τ) arg7 fullShare g
        ∗ owns (c : Thread nD τ) arg8 fullShare (outB T (base i) fe x w g)
        ∗ (∃ f : S16x128x2048.Idx → F .f32, heldX c f)
        ∗ semVal ((c : Thread nD τ), SemLoc.dma cc0_scratch1.sem) 0
        ∗ ∃ W', owes (c : Thread nD τ) 0 W')) := by
  have hb := base_le i
  have hnd := hT.slots_nodup (b := base i) (a := 128) hb
  have hlen : (T.slots (base i) 128).length ≤ 16 * 128 := hT.slots_length_le (b := base i) (a := 128) hb
  have hm16 : most T (base i) 128 ≤ 16 := most_le hT (b := base i) (a := 128) hb
  rw [cc0_combine_ctx_eq_skeleton]
  unfold cc0_combine_ctx_skel
  simp only [k0_part1_eq_skeleton]
  unfold k0_part1_skel
  unfold owns
  iintro ⟨H1, H2, ⟨%f3, %e3, H3⟩, Hp, ⟨%f5, %e5, H5⟩, ⟨%f6, %e6, H6⟩, ⟨%f7, %e7, H7⟩, ⟨%f8, %e8, H8⟩, ⟨%fs, HX⟩, Hs, HW⟩
  by_cases h1 : Scalar.cmpi .ne (Scalar.extui (Scalar.cmpi .eq (BitVec.ofNat 32 (i 0).val) 0#32) : BitVec 32) 0#32 = 1#1
  all_goals
    unfold heldX
    sl_exec (disch := sl_exact h1)
    ihave HX' := (heldX_intro c _) $$ HX
    icases HX' with ⟨%f0, HX⟩
    ihave Hc := (cut c T (base i) fe f0 hnd) $$ [Hp HX]
    · isplitl [Hp] <;> iassumption
    icases Hc with ⟨HPs, Hr⟩
    imod (Transfers.batch_alloc' (Lvl := ℕ) EC (c : Thread nD τ) () amt (pieces c T (base i) fe (fill T (base i) fe f0)) (sm := .dma cc0_scratch1.sem) (E := Set.univ)) $$ Hs with HB
    simp only [bind_assoc]
    sl_for (tokInv c T i arg1 arg2 g0 g1 fe f0) $$ [HB HPs H1 H2]
    · intro k acc
      exact tok_step c T i arg1 harg1 arg2 harg2 arg3 harg3 harg4 arg5 harg5 arg6 harg6 arg7 harg7 arg8 harg8 harg9 g0 g1 fe f0 hT hB k acc
    · unfold tokInv
      isplitr; · ipureintro; exact ⟨rfl, rfl⟩
      isplitl [HB]; · unfold flight; iexact HB
      isplitl [HPs]
      · rw [T.slots_zero, List.length_nil, Ring.rangeSet_univ]; iexact HPs
      isplitl [H1] <;> iassumption
    iintro %u HL
    obtain ⟨v2, v3⟩ := u
    ihave HL' := (show tokInv c T i arg1 arg2 g0 g1 fe f0 k0_t1_loop.trips (v2, v3)
        ⊢ iprop(⌜v2.toNat = (T.slots (base i) 128).length ∧ v3.toNat = most T (base i) 128⌝ ∗ flight c T (base i) fe (fill T (base i) fe f0) (T.slots (base i) 128).length 0
          ∗ held c arg1 g0 ∗ held c arg2 g1) from by
        unfold tokInv
        rw [t1_trips]
        iintro ⟨Hv, HB, -, H1, H2⟩
        isplitl [Hv]; · iexact Hv
        isplitl [HB]; · iexact HB
        isplitl [H1] <;> iassumption) $$ HL
    icases HL' with ⟨%hv, HB, H1, H2⟩
    obtain ⟨hv2, hv3⟩ := hv
    have hw5 := chk5 v3 (by omega)
    have hw4 := chk4 v2
    sl_exec
    dsimp only
    sl_for (drainInv c T i fe (fill T (base i) fe f0)) $$ [HB HW]
    · intro k acc
      exact drain_step c T i arg1 harg1 arg2 harg2 arg3 harg3 harg4 arg5 harg5 arg6 harg6 arg7 harg7 arg8 harg8 harg9 fe _ v2 hv2 (by omega) hw4 k acc
    · unfold drainInv
      isplitl [HB]
      · rw [Nat.zero_mul]; iexact HB
      iexists W; iexact HW
    iintro %acc HL
    ihave HL' := (show drainInv c T i fe (fill T (base i) fe f0) (k0_t4_loop v2).trips acc
        ⊢ iprop(Transfers.Batch EC (c : Thread nD τ) (.dma cc0_scratch1.sem) () amt (pieces c T (base i) fe (fill T (base i) fe f0))
            (T.slots (base i) 128).length (amt * (T.slots (base i) 128).length) ∗ ∃ W, owes (c : Thread nD τ) 0 W) from by
        unfold drainInv flight
        rw [t4_trips (by omega), hv2, Nat.mul_comm]) $$ HL
    icases HL' with ⟨HB, HW⟩
    imod (Transfers.batch_collect' EC (c : Thread nD τ) amt_pos) $$ HB with ⟨HPs, Hs⟩
    ihave Hr' := (show rest c T (base i) fe f0 ⊢ rest c T (base i) fe (fill T (base i) fe f0) from by
        rw [rest_congr c T (base i) fe (f := f0) (f' := fill T (base i) fe f0) fun y hy =>
          (if_neg fun h => hy (mem_places T (base i) hT hb y h)).symm]) $$ Hr
    ihave Hc := (uncut c T (base i) fe (fill T (base i) fe f0) hnd) $$ [HPs Hr']
    · isplitl [HPs] <;> iassumption
    icases Hc with ⟨Hp, HX⟩
    sl_exec
    have ev : View.readAt (Elt F) arg3.view (Rect.unit (s := S128x1) ![0, 0] S128x1.size inb_S128x1_S128x1_0_0).toLoadRect f3 = d2 := by
      rw [View.readAt_eq_ld, e3]; exact View.ld_unit_lit _ _ zero2
    sl_for (accInv c T i fe (fill T (base i) fe f0)) $$ [HX]
    · intro k acc
      exact acc_loop c T i arg1 harg1 arg2 harg2 arg3 harg3 harg4 arg5 harg5 arg6 harg6 arg7 harg7 arg8 harg8 harg9 fe hT f0 _
        (by rw [ev]; exact h2) v3 (by omega) hw5 k acc
    · unfold accInv
      isplitr; · ipureintro; rfl
      rw [heldX_eq]; iexact HX
    iintro %s HL
    ihave HL' := (show accInv c T i fe (fill T (base i) fe f0) (k0_t6_loop v3).trips s
        ⊢ iprop(⌜s = accAt T (base i) fe (most T (base i) 128)⌝ ∗ heldX c (fill T (base i) fe f0)) from by
        unfold accInv
        rw [t6_trips (by omega), hv3]) $$ HL
    icases HL' with ⟨%es, HX⟩
    sl_exec
    sl_step
    isplitl [H1]; · iexact H1
    isplitl [H2]; · iexact H2
    isplitl [H3]
    · iexists _; isplitr; · ipureintro; exact e3
      iexact H3
    isplitl [Hp]; · iexact Hp
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr
      rotate_left
      · iexact H8
      ipureintro
      refine (read_store arg8.view f8 _ zero2 _ _).trans ?_
      unfold outB
      rw [View.readAt_eq_ld, View.readAt_eq_ld, View.readAt_eq_ld, e5, e6, e7, es]
      dsimp only
      rw [View.ld_unit_lit (e := .f32) (Val := Elt F) inb_S128x2048_S128x2048_0_0 x zero2,
        View.ld_unit_lit (e := .f32) (Val := Elt F) inb_S1x2048_S1x2048_0_0 g zero2]
    isplitl [HX]
    · ihave HX := (show heldX c (fill T (base i) fe f0) ⊢ iprop((Memref.whole cc0_scratch0 : Memref sig .tc .vmem S16x128x2048 .f32).view.loc (c : Thread nD τ)
          ↦[(Memref.whole cc0_scratch0 : Memref sig .tc .vmem S16x128x2048 .f32).view.set]{fullShare} fill T (base i) fe f0) from by
        unfold heldX; exact .rfl) $$ HX
      iexists (fill T (base i) fe f0); iexact HX
    isplitl [Hs]; · iexact Hs
    iexact HW

end Body

end Cert.Comb
-- ==== Proof.KRun.lean ====
/-
  The run of the combine: at every grid point the window's rows are gathered and added, so that the result's blocks
  hold each token's normed sum, the experts' rows are as they were and the semaphore is at zero.
-/
module

public import proofs.«01_k».proof.Proof.KBody
public import proofs.«01_k».proof.Proof.Run
public import proofs.«01_k».proof.Proof.Gen.CombineIdeal.Frame
public import Idealize.ShloMosaic.Lib.Pipeline.Routed
public import Idealize.ShloMosaic.Lib.Pipeline.Value

@[expose] public section

noncomputable section

namespace Cert.Comb

open Cert.CombineIdeal Cert.CombineIdeal.Gen
open Cert.Hand (Tables tab)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UC sig nD τ) ℕ

/-! ## The proof data -/

variable (m : (ℓ : Loc nD τ sig) → Buf (Elt F) ℓ) (ρ : Dev nD → PrngReg)

abbrev mCnt (c : Dev nD) : S1x8192.Idx → BitVec 32 := m ((c : Thread nD τ).loc main_arg0)
abbrev mDst (c : Dev nD) : S16x8192.Idx → BitVec 32 := m ((c : Thread nD τ).loc main_arg1)
abbrev mTok (c : Dev nD) : S16x1024.Idx → BitVec 32 := m ((c : Thread nD τ).loc main_arg2)
abbrev mEo (c : Dev nD) : S16384x2048.Idx → F .f32 := m ((c : Thread nD τ).loc main_arg3)
/-- Core `c`'s tables. -/
abbrev mTab (c : Dev nD) : Tables := tab (mCnt m c) (mDst m c) (mTok m c)

/-- What the body holds before any grid point beside the windows. -/
def Mid (c : Dev nD) : sProp 𝕄 :=
  iprop((((c : Thread nD τ).loc main_arg3) ↦{fullShare} mEo m c) ∗ (∃ f : S16x128x2048.Idx → F .f32, ((c : Thread nD τ).loc cc0_scratch0) ↦{fullShare} f)
    ∗ semVal ((c : Thread nD τ), SemLoc.dma cc0_scratch1.sem) 0 ∗ ∃ r, prngReg c r)

/-- The result's block at a grid point. -/
def oBlk (c : Dev nD) (t : Fin cfg0.N) : Vec F S128x2048 .f32 :=
  outB (mTab m c) (base (grid0.coords t)) (mEo m c) (iblk m c 3 t) (iblk m c 4 t) (iblk m c 5 t)

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oBlk m c t
  Φ _ := Mid m c
  q _ := fullShare
  owed _ := 0

theorem A_eq (c : Dev nD) (w : Fin cfg0.W) : (dats m 0 c).A w = V m c (Pipeline.arrRef spec0 w) := by dsimp only [dats]
theorem before0 (c : Dev nD) (t : Fin cfg0.N) (d) : (dats m 0 c).before 0 t d = iblk m c 0 t :=
  ((dats m 0 c).before_in_eq_fetched 0 rfl (fun _ => rfl) (fun _ _ _ => rfl)
    (fun t => by dsimp only [dats]; unfold Dat.blockOf iblk; rfl) t d).trans (by unfold Dat.fetched Dat.blockOf iblk; rw [A_eq]; rfl)
theorem before1 (c : Dev nD) (t : Fin cfg0.N) (d) : (dats m 0 c).before 1 t d = iblk m c 1 t :=
  ((dats m 0 c).before_in_eq_fetched 1 rfl (fun _ => rfl) (fun _ _ _ => rfl)
    (fun t => by dsimp only [dats]; unfold Dat.blockOf iblk; rfl) t d).trans (by unfold Dat.fetched Dat.blockOf iblk; rw [A_eq]; rfl)
theorem before2 (c : Dev nD) (t : Fin cfg0.N) (d) : (dats m 0 c).before 2 t d = iblk m c 2 t :=
  ((dats m 0 c).before_in_eq_fetched 2 rfl (fun _ => rfl) (fun _ _ _ => rfl)
    (fun t => by dsimp only [dats]; unfold Dat.blockOf iblk; rfl) t d).trans (by unfold Dat.fetched Dat.blockOf iblk; rw [A_eq]; rfl)
theorem before3 (c : Dev nD) (t : Fin cfg0.N) (d) : (dats m 0 c).before 3 t d = iblk m c 3 t :=
  ((dats m 0 c).before_in_eq_fetched 3 rfl (fun _ => rfl) (fun _ _ _ => rfl)
    (fun t => by dsimp only [dats]; unfold Dat.blockOf iblk; rfl) t d).trans (by unfold Dat.fetched Dat.blockOf iblk; rw [A_eq]; rfl)
theorem before4 (c : Dev nD) (t : Fin cfg0.N) (d) : (dats m 0 c).before 4 t d = iblk m c 4 t :=
  ((dats m 0 c).before_in_eq_fetched 4 rfl (fun _ => rfl) (fun _ _ _ => rfl)
    (fun t => by dsimp only [dats]; unfold Dat.blockOf iblk; rfl) t d).trans (by unfold Dat.fetched Dat.blockOf iblk; rw [A_eq]; rfl)
theorem before5 (c : Dev nD) (t : Fin cfg0.N) (d) : (dats m 0 c).before 5 t d = iblk m c 5 t :=
  ((dats m 0 c).before_in_eq_fetched 5 rfl (fun _ => rfl) (fun _ _ _ => rfl)
    (fun t => by dsimp only [dats]; unfold Dat.blockOf iblk; rfl) t d).trans (by unfold Dat.fetched Dat.blockOf iblk; rw [A_eq]; rfl)

/-! ## The blocks -/

theorem coord_eq : ∀ t : Fin cfg0.N, ((grid0.coords t) 0).val = t.val := by decide
theorem index0 : ∀ t : Fin cfg0.N, (cfg0.win 0).index t (0 : Fin 2) = 0 ∧ (cfg0.win 0).index t (1 : Fin 2) = t.val := by decide
theorem index1 : ∀ t : Fin cfg0.N, (cfg0.win 1).index t (0 : Fin 2) = 0 ∧ (cfg0.win 1).index t (1 : Fin 2) = t.val := by decide
theorem index2 : ∀ t : Fin cfg0.N, (cfg0.win 2).index t (0 : Fin 2) = t.val ∧ (cfg0.win 2).index t (1 : Fin 2) = 0 := by decide

theorem base_eq (t : Fin cfg0.N) : base (grid0.coords t) = 128 * t.val := by unfold base; rw [coord_eq]

theorem iblk0_eq (c : Dev nD) (t : Fin cfg0.N) (a : ℕ) (ha : a < 128) (hn : 128 * t.val + a < 8192) :
    iblk m c 0 t (ix2 (0 : Fin 1) (⟨a, ha⟩ : Fin 128)) = mCnt m c (ix2 (0 : Fin 1) (⟨128 * t.val + a, hn⟩ : Fin 8192)) := by
  unfold iblk
  refine Eq.trans ?_ (congrFun (V_main_arg0 m c) _)
  refine congrArg (V m c main_arg0) ?_
  funext b
  apply Fin.ext
  have h := (cfg0.win 0).rect_emb_val t (ix2 (0 : Fin 1) (⟨a, ha⟩ : Fin 128)) b
  refine h.trans ?_
  match b with
  | ⟨0, _⟩ => exact (congrArg (fun z => z * 1 + 0) (index0 t).1).trans rfl
  | ⟨1, _⟩ => exact (congrArg (fun z => z * 128 + a) (index0 t).2).trans (by show t.val * 128 + a = 128 * t.val + a; omega)

theorem iblk1_eq (c : Dev nD) (t : Fin cfg0.N) (k : ℕ) (hk : k < 16) (a : ℕ) (ha : a < 128) (hn : 128 * t.val + a < 8192) :
    iblk m c 1 t (ix2 (⟨k, hk⟩ : Fin 16) (⟨a, ha⟩ : Fin 128)) = mDst m c (ix2 (⟨k, hk⟩ : Fin 16) (⟨128 * t.val + a, hn⟩ : Fin 8192)) := by
  unfold iblk
  refine Eq.trans ?_ (congrFun (V_main_arg1 m c) _)
  refine congrArg (V m c main_arg1) ?_
  funext b
  apply Fin.ext
  have h := (cfg0.win 1).rect_emb_val t (ix2 (⟨k, hk⟩ : Fin 16) (⟨a, ha⟩ : Fin 128)) b
  refine h.trans ?_
  match b with
  | ⟨0, _⟩ => exact (congrArg (fun z => z * 16 + k) (index1 t).1).trans (by show 0 * 16 + k = k; omega)
  | ⟨1, _⟩ => exact (congrArg (fun z => z * 128 + a) (index1 t).2).trans (by show t.val * 128 + a = 128 * t.val + a; omega)

theorem V_main_v0 (c : Dev nD) : V m c main_v0 = shapeCast S8192x1 (mCnt m c) shapeCasts_S1x8192_S8192x1 := by
  show StableHlo.after hostOps0 (fun b => m (c, b)) (Proc.devRef .tc main_v0) = _
  simp only [hostOps0]
  after_results_simp <;> rfl
theorem V_main_v1 (c : Dev nD) : V m c main_v1
    = shapeCast S1x2048 (m ((c : Thread nD τ).loc main_arg6) : S2048.Idx → F .f32) shapeCasts_S2048_S1x2048 := by
  show StableHlo.after hostOps0 (fun b => m (c, b)) (Proc.devRef .tc main_v1) = _
  simp only [hostOps0]
  after_results_simp <;> rfl

theorem iblk2_eq (c : Dev nD) (t : Fin cfg0.N) (a : ℕ) (ha : a < 128) (hn : 128 * t.val + a < 8192) :
    iblk m c 2 t (ix2 (⟨a, ha⟩ : Fin 128) (0 : Fin 1)) = mCnt m c (ix2 (0 : Fin 1) (⟨128 * t.val + a, hn⟩ : Fin 8192)) := by
  unfold iblk
  refine Eq.trans (b := V m c main_v0 (ix2 (⟨128 * t.val + a, hn⟩ : Fin 8192) (0 : Fin 1))) ?_ ?_
  · refine congrArg (V m c main_v0) ?_
    funext b
    apply Fin.ext
    have h := (cfg0.win 2).rect_emb_val t (ix2 (⟨a, ha⟩ : Fin 128) (0 : Fin 1)) b
    refine h.trans ?_
    match b with
    | ⟨0, _⟩ => exact (congrArg (fun z => z * 128 + a) (index2 t).1).trans (by show t.val * 128 + a = 128 * t.val + a; omega)
    | ⟨1, _⟩ => exact (congrArg (fun z => z * 1 + 0) (index2 t).2).trans rfl
  · rw [V_main_v0]
    refine shapeCast_apply _ shapeCasts_S1x8192_S8192x1 _ _ ?_
    rw [Shape.rowMajor_val_two, Shape.rowMajor_val_two]
    show 0 * 8192 + (128 * t.val + a) = (128 * t.val + a) * 1 + 0
    omega

theorem cnt_tab (c : Dev nD) (n : ℕ) (hn : n < 8192) : (mCnt m c (ix2 (0 : Fin 1) (⟨n, hn⟩ : Fin 8192))).toNat = (mTab m c).cnt n := by
  show _ = (tab _ _ _).cnt _
  unfold tab; dsimp only
  rw [dif_pos hn]

theorem blocks (c : Dev nD) (t : Fin cfg0.N) : Blocks (mTab m c) (base (grid0.coords t)) (iblk m c 0 t) (iblk m c 1 t) := by
  have hN : t.val < 64 := lt_of_lt_of_eq t.isLt N_0
  rw [base_eq]
  constructor
  · intro a ha
    rw [iblk0_eq m c t a ha (by omega)]
    exact cnt_tab m c _ _
  · intro k hk a ha _
    rw [iblk1_eq m c t k hk a ha (by omega)]
    show _ = (tab _ _ _).dst _ _
    unfold tab; dsimp only
    rw [dif_pos (⟨hk, by omega⟩ : k < 16 ∧ 128 * t.val + a < 8192)]

theorem counts (c : Dev nD) (t : Fin cfg0.N) (a : ℕ) (ha : a < 128) :
    ((iblk m c 2 t (ix2 (⟨a, ha⟩ : Fin 128) (0 : Fin 1)) : BitVec 32)).toNat = (mTab m c).cnt (base (grid0.coords t) + a) := by
  have hN : t.val < 64 := lt_of_lt_of_eq t.isLt N_0
  rw [base_eq, iblk2_eq m c t a ha (by omega)]
  exact cnt_tab m c _ _

/-! ## The body's triple -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem held_of (c : Dev nD) {S : Shape} (r : Memref sig .tc .smem S .i32) (x : S.Idx → BitVec 32) :
    (owns (c : Thread nD τ) r fullShare x : sProp 𝕄) ⊢ iprop(∃ g, ⌜r.view.read (Elt F) g = x⌝ ∗ held c r g) := by
  unfold owns held; exact .rfl
theorem of_held (c : Dev nD) {S : Shape} (r : Memref sig .tc .smem S .i32) (x : S.Idx → BitVec 32) (g)
    (hg : r.view.read (Elt F) g = x) : (held c r g : sProp 𝕄) ⊢ owns (c : Thread nD τ) r fullShare x := by
  unfold owns held
  iintro H
  iexists g
  isplitr; · ipureintro; exact hg
  iexact H

theorem sound_body (c : Dev nD) (hT : (mTab m c).OK) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = Mid m c from rfl, show (dats m 0 c).Φ t.succ = Mid m c from rfl,
    show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl, show (dats m 0 c).after 5 t = iblk m c 5 t from rfl,
    show (dats m 0 c).after 6 t = oBlk m c t from rfl]
  simp only [before0, before1, before2, before3, before4, before5]
  unfold Dat.owesAt Pipeline.owesWithin Mid
  rw [show (dats m 0 c).owed t.castSucc = 0 from rfl, show (dats m 0 c).owed t.succ = 0 from rfl]
  iintro ⟨⟨Hp, HX, Hs, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  ihave H0' := (held_of c (st0_0 t) (iblk m c 0 t)) $$ H0
  ihave H1' := (held_of c (st0_1 t) (iblk m c 1 t)) $$ H1
  icases H0' with ⟨%g0, %hg0, H0⟩
  icases H1' with ⟨%g1, %hg1, H1⟩
  have hB := blocks m c t
  rw [← hg0, ← hg1] at hB
  ihave Hwp := (body_run c (mTab m c) (grid0.coords t) _ (hstage0_0 ((cfg0.slots t 0).cast nbuf0_0)) _ (hstage0_1 ((cfg0.slots t 1).cast nbuf0_1))
    _ (hstage0_2 ((cfg0.slots t 2).cast nbuf0_2)) (Memref.isWhole_whole _) _ (hstage0_3 ((cfg0.slots t 3).cast nbuf0_3))
    _ (hstage0_4 ((cfg0.slots t 4).cast nbuf0_4)) _ (hstage0_5 ((cfg0.slots t 5).cast nbuf0_5)) _ (hstage0_6 ((cfg0.slots t 6).cast nbuf0_6))
    (Memref.isWhole_whole _) g0 g1 (mEo m c) hT hB (iblk m c 2 t) (counts m c t) (iblk m c 3 t) (iblk m c 4 t) (iblk m c 5 t) _ W)
    $$ [H0 H1 H2 H3 H4 H5 H6 Hp HX Hs HW]
  · isplitl [H0]; · iexact H0
    isplitl [H1]; · iexact H1
    isplitl [H2]; · iexact H2
    isplitl [Hp]; · iexact Hp
    isplitl [H3]; · iexact H3
    isplitl [H4]; · iexact H4
    isplitl [H5]; · iexact H5
    isplitl [H6]; · iexact H6
    isplitl [HX]
    · icases HX with ⟨%f, HX⟩
      iexists f; rw [heldX_eq]; iexact HX
    isplitl [Hs] <;> iassumption
  iapply (wp_wand_r Idealize.ShloMosaic.frame (wpE (defs₀ (F := F)) Variants.none (c : Thread nD τ) none) (E := Set.univ))
  isplitl [Hwp]; · iexact Hwp
  iintro %_ ⟨H0, H1, H2, Hp, H3, H4, H5, H6, HX, Hs, ⟨%W', HW'⟩⟩
  isplitl [Hp HX Hs Hg]
  · isplitl [Hp]; · iexact Hp
    isplitl [HX]
    · icases HX with ⟨%f, HX⟩
      iexists f; rw [← heldX_eq]; iexact HX
    isplitl [Hs] <;> iassumption
  isplitl [HW']
  · iexists W'; isplitr; · ipureintro; exact fun _ _ => Or.inl trivial
    iexact HW'
  isplitl [H0]
  · iapply (of_held c (st0_0 t) _ g0 hg0); iexact H0
  isplitl [H1]
  · iapply (of_held c (st0_1 t) _ g1 hg1); iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) (hT : (mTab m c).OK) :
    BodyObligation (dats (F := F) m 0 c) (defs₀ (F := F)) Variants.none () Set.univ := fun t => by
  rw [bigSep_W0, bigSep_W0, defs₀_row]
  exact triple_restated (sound_body m c hT t) rfl .rfl fun _ => .rfl

/-! ## The run -/

abbrev osem0 : Fin 1 → SemLoc sig := fun _ => SemLoc.dma cc0_scratch1.sem
theorem ownSemFacts0 : Pipeline.OwnSemFacts spec0 osem0 := by decide
theorem ownSems00_eq (c : Dev nD) :
    (Pipeline.ownSems0 (Ix := Unit) (Name := ℕ) (U := Pipeline.UC sig nD τ) (Lvl := ℕ) (Val := Elt F) osem0 c : sProp 𝕄)
      = semVal ((c : Thread nD τ), SemLoc.dma cc0_scratch1.sem) 0 := by
  rw [Pipeline.ownSems0_eq_of_list c osem0 [0] (by decide) (by decide)]; rfl

/-- The buffer the body's own copies read. -/
def R0 : Finset (Ref sig .tc) := {main_arg3}

theorem routed0_eq (c : Dev nD) (W : (b : Ref sig .tc) → Buf (Elt F) ((c.tc : Thread nD τ).loc b)) :
    (Pipeline.routed R0 c W : sProp 𝕄) = (((c : Thread nD τ).loc main_arg3) ↦{fullShare} W main_arg3) := by
  unfold Pipeline.routed
  rw [BI.bigSep_eq_bigSepL_of_eq [main_arg3] (by decide) (by decide)]; rfl

theorem hin (c : Dev nD) : Pipeline.Ends spec0 osem0 R0 c (V m c) ⊢ (dats m 0 c).Φ 0 := by
  rw [show (dats m 0 c).Φ 0 = Mid m c from rfl]
  unfold Pipeline.Ends Mid
  rw [routed0_eq, ownSems00_eq, scopedRest0_eq, V_main_arg3]
  iintro ⟨Hp, Hs, HX, Hg⟩
  isplitl [Hp]; · iexact Hp
  isplitl [HX]; · iexact HX
  isplitl [Hs] <;> iassumption

theorem hout (c : Dev nD) : (dats m 0 c).Φ (Fin.last cfg0.N) ⊢ Pipeline.Ends spec0 osem0 R0 c (V m c) := by
  rw [show (dats m 0 c).Φ (Fin.last cfg0.N) = Mid m c from rfl]
  unfold Pipeline.Ends Mid
  rw [routed0_eq, ownSems00_eq, scopedRest0_eq, V_main_arg3]
  iintro ⟨Hp, HX, Hs, Hg⟩
  isplitl [Hp]; · iexact Hp
  isplitl [Hs]; · iexact Hs
  isplitl [HX] <;> iassumption

set_option backward.isDefEq.respectTransparency.types false in
theorem run_main (hT : ∀ c, (mTab m c).OK) :
    θ_run defs (onTc (τ := τ) (main (F := F))) (s₀ m ρ)
      (fun r => Pipeline.RoutedPost cfgs (dats m) 0 R0 (V m) (V m) r ∧ r.2.sem = fun _ => 0) :=
  Pipeline.θ_run_frame_routed (Q' := _) cfgs (dats m) (0 : Fin 1) launch0 ownSemFacts0 defs₀ Variants.none m ρ main
    (hbody := fun c => (body_obligation m c (hT c)).loose) (hshare := fun c => (dats m 0 c).share_full fun _ => rfl)
    (howed := fun _ _ => rfl) (V := V m)
    (hmain := Pipeline.hmain_prefix cfgs 0 defs₀ Variants.none m main hostOps0 hostOps0_sub hostOps0_fresh main_chain) (hA := A_eq m)
    (R := R0) (hR := by decide) (Y := V m) (hin := hin m) (hout := hout m) (hQ' := fun _ h => h)

/-- THE RUN, read at the program's arrays. -/
theorem run (hT : ∀ c, (mTab m c).OK) :
    θ_run defs (onTc (τ := τ) (main (F := F))) ⟨m, fun _ => 0, ρ⟩ (fun r => (∀ c : Dev nD,
      r.2.mem ((c.tc : Thread nD τ).loc main_v2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ ⟨h, hz⟩ => ⟨fun c => ⟨(h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2.2 main_arg2 (Finset.mem_sdiff.mpr ⟨Pipeline.mem_restRefs_of main_arg2 (by decide) (by decide), by decide⟩)).trans (V_main_arg2 m c),
      ((h c).2.1 main_arg3 (by decide)).trans (V_main_arg3 m c),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).2.2 main_arg6 (Finset.mem_sdiff.mpr ⟨Pipeline.mem_restRefs_of main_arg6 (by decide) (by decide), by decide⟩)).trans (V_main_arg6 m c)⟩, hz⟩)
    (run_main m ρ hT)

end Cert.Comb
-- ==== Proof.KPre.lean ====
/-
  The combine's precondition is the dispatch's, of the same tables.
-/
module

public import proofs.«01_k».proof.Pre_assigned
public import proofs.«01_k».proof.Proof.Gen.Pre_assigned
public import proofs.«01_k».proof.Proof.Pre
public import proofs.«01_k».proof.Proof.Gen.Pre_routed

@[expose] public section

noncomputable section

namespace Cert.Comb

open Idealize.ShloMosaic

/-- Under the combine's precondition the tables are one assignment's. -/
theorem tables_ok {F : FTy → Type} [FloatOps F] {a0 : Cert.Pre_assigned.S1x8192.Idx → BitVec 32} {a1 : Cert.Pre_assigned.S16x8192.Idx → BitVec 32}
    {a2 : Cert.Pre_assigned.S16x1024.Idx → BitVec 32} {a3 : Cert.Pre_assigned.S16384x2048.Idx → F .f32} {a4 : Cert.Pre_assigned.S8192x2048.Idx → F .f32}
    {a5 : Cert.Pre_assigned.S8x12288.Idx → F .f32} {a6 : Cert.Pre_assigned.S2048.Idx → F .f32}
    (h : Cert.Pre_assigned.fn (F := F) a0 a1 a2 a3 a4 a5 a6 = fun _ => 1#1) : (Cert.Hand.tab a0 a1 a2).OK :=
  Cert.Hand.tables_ok a0 a1 (fun _ => 0#32) a2 (F := F) h

end Cert.Comb
-- ==== Proof.KTwin.lean ====
/-
  The combine and its idealization are the same program text: a run of one is a run of the other, over any float values.
-/
module

public import proofs.«01_k».proof.Combine
public import proofs.«01_k».proof.CombineIdeal
public import proofs.«01_k».proof.Proof.Gen.Combine
public import proofs.«01_k».proof.Proof.Gen.CombineIdeal

@[expose] public section

noncomputable section

namespace Cert.Comb

open Idealize.ShloMosaic Idealize.SL.Sem

variable {F : FTy → Type} [FloatOps F]

theorem body_twin (t : Fin Cert.Combine.grid0.N) (s) :
    Cert.Combine.defs₀ (F := F) .tc 0 (t, s) = Cert.CombineIdeal.defs₀ (F := F) .tc 0 (t, s) := rfl

theorem defs₀_twin : Cert.Combine.defs₀ (F := F) = Cert.CombineIdeal.defs₀ (F := F) := by
  funext p ℓ a
  match p, ℓ, a with
  | .tc, 0, (t, s) => exact body_twin t s
  | .scScalar _, _, _ => rfl
  | .scVector _ _, _, _ => rfl

theorem defs_twin : Cert.Combine.defs (F := F) = Cert.CombineIdeal.defs (F := F) :=
  congrArg (Pipeline.defs (Cert.CombineIdeal.pcfgs (F := F))) defs₀_twin

theorem θ_twin (s : MemSt Cert.CombineIdeal.nD Cert.CombineIdeal.τ Cert.CombineIdeal.sig (Elt F))
    (Q : PUnit × MemSt Cert.CombineIdeal.nD Cert.CombineIdeal.τ Cert.CombineIdeal.sig (Elt F) → Prop) :
    θ_run (Cert.Combine.defs (F := F)) (onTc (τ := Cert.Combine.τ) (Cert.Combine.main (F := F))) s Q
      = θ_run (Cert.CombineIdeal.defs (F := F)) (onTc (τ := Cert.CombineIdeal.τ) (Cert.CombineIdeal.main (F := F))) s Q :=
  congrArg (fun d => θ_run d (onTc (τ := Cert.CombineIdeal.τ) (Cert.CombineIdeal.main (F := F))) s Q) defs_twin

end Cert.Comb
-- ==== Proof.KSpec.lean ====
/-
  The combine's reference: every slot's row is added to its token's sum, the sum is gated and added to the token,
  and the token is divided by its root mean square. Its run, and its result by coordinates.
-/
module

public import proofs.«01_k».proof.ScatteredIdeal
public import proofs.«01_k».proof.Proof.Gen.ScatteredIdeal
public import proofs.«01_k».proof.Proof.Gen.ScatteredIdeal.Run
public import proofs.«01_k».proof.Proof.Pre
public import Idealize.ShloMosaic.Lib.ValueIdx
public import Idealize.ShloMosaic.Lib.Pipeline.Value
public import Idealize.ShloMosaic.Lib.IdealHost
public import Idealize.ShloMosaic.Lib.Pointwise.Contract
public import Idealize.ShloMosaic.PureOps.Ideal.Laws

@[expose] public section

noncomputable section

namespace Cert.Comb

open Cert.ScatteredIdeal Cert.ScatteredIdeal.Gen
open Cert.Hand (Tables tab wrap_word toNat_ofNat_small)
open Idealize.ShloMosaic hiding ix1 ix2 ix3 ix4 ix5
open Idealize.ShloMosaic.TcCoe Idealize.ShloMosaic.ValueIdx Idealize.ShloMosaic.Routing Idealize.SL.Sem
open scoped BigOperators

/-! ## The mathematics, by coordinates -/

section Math
variable (ix : ℕ → ℕ) (E : S16384x2048.Idx → EReal) (X : S8192x2048.Idx → EReal) (M : S8x12288.Idx → EReal) (G : S2048.Idx → EReal)

/-- What the experts give token `n` at column `d`: the sum over its slots. -/
def yv (n : Fin 8192) (d : Fin 2048) : EReal := ∑ s : Fin 16384, if ix s.val = n.val then E (ix2 s d) else 0

/-- The token with the experts' gated part added. -/
def xv (n : Fin 8192) (d : Fin 2048) : EReal :=
  X (ix2 n d) + M (ix2 (0 : Fin 8) ⟨10240 + d.val, by have := d.isLt; omega⟩) * yv ix E n d

/-- One over the root mean square of a token. -/
def rv (n : Fin 8192) : EReal :=
  Ideal.rsqrt (Ideal.div (∑ d : Fin 2048, xv ix E X M n d * xv ix E X M n d) (Ideal.ofBits .f32 0x45000000#32)
    + Ideal.ofBits .f32 0x358637BD#32)

/-- The token, normed and weighted. -/
def ov (n : Fin 8192) (d : Fin 2048) : EReal := xv ix E X M n d * rv ix E X M n * G (ix1 d)

end Math

/-! ## Adding rows at their tokens -/

theorem scatter_lands (I : IVec S16384x1 32) (j : S16384x2048.Idx) (n : Fin 8192) (d : Fin 2048) (v : ℕ)
    (hI : (I (ix2 (j 0 : Fin 16384) (0 : Fin 1))).toInt = (v : ℤ)) :
    scatter_S8192x2048_S16384x1_S16384x2048_1_0_0_1.resultIdx? j I = some (ix2 n d) ↔ v = n.val ∧ (j 1 : Fin 2048) = d := by
  have hs0 : scatter_S8192x2048_S16384x1_S16384x2048_1_0_0_1.start j I (0 : Fin 2) = (v : ℤ) := by
    refine Eq.trans ?_ hI
    unfold ScatterDims.start
    rw [dif_pos (show (0 : Fin 2) ∈ scatter_S8192x2048_S16384x1_S16384x2048_1_0_0_1.scatterDimsToOperandDims from by decide)]
    refine congrArg (fun i => (I i).toInt) (funext fun b => Fin.ext ?_)
    match b with
    | 0 => rfl
    | 1 => rfl
  have hs1 : scatter_S8192x2048_S16384x1_S16384x2048_1_0_0_1.start j I (1 : Fin 2) = 0 := by
    unfold ScatterDims.start
    rw [dif_neg (show ¬ (1 : Fin 2) ∈ scatter_S8192x2048_S16384x1_S16384x2048_1_0_0_1.scatterDimsToOperandDims from by decide)]
  have hw0 : scatter_S8192x2048_S16384x1_S16384x2048_1_0_0_1.window j (0 : Fin 2) = 0 := rfl
  have hw1 : scatter_S8192x2048_S16384x1_S16384x2048_1_0_0_1.window j (1 : Fin 2) = (j 1).val := rfl
  have hj1 : (j 1).val < 2048 := (j 1).isLt
  have hn := n.isLt
  unfold ScatterDims.resultIdx?
  constructor
  · intro h
    split at h
    · rename_i hb
      have h' := Option.some.inj h
      have e0 := congrArg Fin.val (congrFun h' (0 : Fin 2))
      have e1 := congrArg Fin.val (congrFun h' (1 : Fin 2))
      dsimp only at e0 e1
      rw [hs0, hw0] at e0
      rw [hs1, hw1] at e1
      refine ⟨?_, Fin.ext ?_⟩
      · have : ((v : ℤ) + ((0 : ℕ) : ℤ)).toNat = n.val := e0
        omega
      · have : ((0 : ℤ) + (((j 1).val : ℕ) : ℤ)).toNat = d.val := e1
        omega
    · exact absurd h (by simp)
  · rintro ⟨hv, hd⟩
    have hd' : (j 1).val = d.val := congrArg Fin.val hd
    have hb : ∀ a : Fin 2, 0 ≤ scatter_S8192x2048_S16384x1_S16384x2048_1_0_0_1.start j I a + scatter_S8192x2048_S16384x1_S16384x2048_1_0_0_1.window j a
        ∧ scatter_S8192x2048_S16384x1_S16384x2048_1_0_0_1.start j I a + scatter_S8192x2048_S16384x1_S16384x2048_1_0_0_1.window j a < S8192x2048.size a := by
      intro a
      match a with
      | 0 => rw [hs0, hw0]; show _ ∧ _ < ((8192 : ℕ) : ℤ); omega
      | 1 => rw [hs1, hw1]; show _ ∧ _ < ((2048 : ℕ) : ℤ); omega
    rw [dif_pos hb]
    refine congrArg some (funext fun a => Fin.ext ?_)
    match a with
    | 0 =>
      show (scatter_S8192x2048_S16384x1_S16384x2048_1_0_0_1.start j I (0 : Fin 2) + scatter_S8192x2048_S16384x1_S16384x2048_1_0_0_1.window j (0 : Fin 2)).toNat = n.val
      rw [hs0, hw0]; omega
    | 1 =>
      show (scatter_S8192x2048_S16384x1_S16384x2048_1_0_0_1.start j I (1 : Fin 2) + scatter_S8192x2048_S16384x1_S16384x2048_1_0_0_1.window j (1 : Fin 2)).toNat = d.val
      rw [hs1, hw1]; omega

theorem scatter_apply (X0 : FVec Ideal S8192x2048 .f32) (I : IVec S16384x1 32) (E : FVec Ideal S16384x2048 .f32) (ix : ℕ → ℕ)
    (hI : ∀ s : Fin 16384, (I (ix2 s (0 : Fin 1))).toInt = (ix s.val : ℤ)) (n : Fin 8192) (d : Fin 2048) :
    Host.scatterAdd (F := Ideal) (φ := .f32) scatter_S8192x2048_S16384x1_S16384x2048_1_0_0_1 X0 I E (ix2 n d)
      = (X0 (ix2 n d) : EReal) + yv ix E n d := by
  classical
  show (X0 (ix2 n d) : EReal) + (∑ j ∈ Finset.univ.filter (fun j => scatter_S8192x2048_S16384x1_S16384x2048_1_0_0_1.resultIdx? j I = some (ix2 n d)), (E j : EReal)) = _
  refine congrArg (fun z : EReal => (X0 (ix2 n d) : EReal) + z) ?_
  unfold yv
  rw [← Finset.sum_filter]
  refine Finset.sum_bij' (fun j _ => (j 0 : Fin 16384)) (fun s _ => ix2 s d) ?_ ?_ ?_ ?_ ?_
  · intro j hj
    have h := (scatter_lands I j n d _ (hI (j 0))).mp (Finset.mem_filter.mp hj).2
    exact Finset.mem_filter.mpr ⟨Finset.mem_univ _, h.1⟩
  · intro s hs
    exact Finset.mem_filter.mpr ⟨Finset.mem_univ _, (scatter_lands I (ix2 s d) n d _ (hI s)).mpr ⟨(Finset.mem_filter.mp hs).2, rfl⟩⟩
  · intro j hj
    have h := (scatter_lands I j n d _ (hI (j 0))).mp (Finset.mem_filter.mp hj).2
    exact (congrArg (ix2 (j 0 : Fin 16384)) h.2.symm).trans (ValueIdx.eq_ix2 j).symm
  · intro s hs; rfl
  · intro j hj
    have h := (scatter_lands I j n d _ (hI (j 0))).mp (Finset.mem_filter.mp hj).2
    exact congrArg (fun i => (E i : EReal)) ((ValueIdx.eq_ix2 j).trans (congrArg (ix2 (j 0 : Fin 16384)) h.2))

/-! ## The reference's operations at an index -/

section Ref
variable (tok : S16x1024.Idx → BitVec 32) (E : FVec Ideal S16384x2048 .f32) (X : FVec Ideal S8192x2048 .f32)
variable (M : FVec Ideal S8x12288 .f32) (G : FVec Ideal S2048 .f32)

/-- The slots' tokens, as the column of indices the reference adds at. -/
def refCol : IVec S16384x1 32 :=
  broadcastInDim S16384x1 ![0] bcast_S16384_S16384x1_0 (select (cmpi .slt (shapeCast S16384 tok shapeCasts_S16x1024_S16384) (broadcastInDim S16384 ![] bcast_S_S16384 (constantI S_ 32 0#32)))
    (addi (shapeCast S16384 tok shapeCasts_S16x1024_S16384) (broadcastInDim S16384 ![] bcast_S_S16384 (constantI S_ 32 8192#32))) (shapeCast S16384 tok shapeCasts_S16x1024_S16384))

theorem refCol_apply {a0 : S1x8192.Idx → BitVec 32} {a1 : S16x8192.Idx → BitVec 32} (hT : (tab a0 a1 tok).OK) (s : Fin 16384) :
    (refCol tok (ix2 s (0 : Fin 1))).toInt = ((tab a0 a1 tok).idx s.val : ℤ) := by
  have hs : s.val < 16384 := s.isLt
  obtain ⟨hn, -⟩ := hT.full _ hs
  have hcast : shapeCast S16384 tok shapeCasts_S16x1024_S16384 (ix1 s) = BitVec.ofNat 32 ((tab a0 a1 tok).idx s.val) := by
    rw [cast21 (a := 16) (b := 1024) (n := 16384) tok _ ⟨s.val / 1024, by omega⟩ ⟨s.val % 1024, by omega⟩ s
      (by show s.val = s.val / 1024 * 1024 + s.val % 1024; omega)]
    have : (tab a0 a1 tok).idx s.val = (tok (ix2 ⟨s.val / 1024, by omega⟩ ⟨s.val % 1024, by omega⟩)).toNat := by
      show dite _ _ _ = _
      rw [dif_pos hs]
    rw [this, BitVec.ofNat_toNat, BitVec.setWidth_eq]
  have h : refCol tok (ix2 s (0 : Fin 1)) = BitVec.ofNat 32 ((tab a0 a1 tok).idx s.val) := by
    unfold refCol
    refine (bcCol (n := 16384) _ _ _).trans ?_
    show Scalar.select (IntOp.cmpi .slt (shapeCast S16384 tok shapeCasts_S16x1024_S16384 (ix1 s)) 0#32) _ (shapeCast S16384 tok shapeCasts_S16x1024_S16384 (ix1 s)) = _
    rw [hcast, wrap_word (by rw [toNat_ofNat_small (by omega)]; omega)]
  rw [h, BitVec.toInt_eq_toNat_of_lt (by rw [toNat_ofNat_small (by omega)]; omega), toNat_ofNat_small (by omega)]

def refY : FVec Ideal S8192x2048 .f32 :=
  Host.scatterAdd (F := Ideal) (φ := .f32) scatter_S8192x2048_S16384x1_S16384x2048_1_0_0_1
    (broadcastInDim S8192x2048 ![] bcast_S_S8192x2048 (constant (F := Ideal) S_ .f32 0x00000000#32)) (refCol tok) E

theorem refY_apply {a0 : S1x8192.Idx → BitVec 32} {a1 : S16x8192.Idx → BitVec 32} (hT : (tab a0 a1 tok).OK) (n : Fin 8192) (d : Fin 2048) :
    refY tok E (ix2 n d) = yv (tab a0 a1 tok).idx E n d := by
  unfold refY
  refine (scatter_apply _ _ _ _ (refCol_apply tok hT) n d).trans ?_
  show Ideal.ofBits .f32 0x00000000#32 + _ = _
  rw [Ideal.ofBits_zero_f32, zero_add]

def refGate : FVec Ideal S8192x2048 .f32 :=
  broadcastInDim S8192x2048 ![0, 1] bcast_S1x2048_S8192x2048_0_1 (broadcastInDim S1x2048 ![1] bcast_S2048_S1x2048_1
    (shapeCast S2048 (extractStridedSlice S1x2048 ![0, 10240] M slices_S8x12288_S1x2048_0_10240) shapeCasts_S1x2048_S2048))

theorem refGate_apply (n : Fin 8192) (d : Fin 2048) :
    refGate M (ix2 n d) = M (ix2 (0 : Fin 8) ⟨10240 + d.val, by have := d.isLt; omega⟩) := by
  unfold refGate
  refine (broadcastInDim_apply _ bcast_S1x2048_S8192x2048_0_1 _ _ (ix2 (0 : Fin 1) d) fun a => by match a with | 0 => rfl | 1 => rfl).trans ?_
  refine (broadcastInDim_apply _ bcast_S2048_S1x2048_1 _ _ (ix1 d) fun a => by match a with | 0 => rfl).trans ?_
  refine (shapeCast_apply _ shapeCasts_S1x2048_S2048 _ (ix2 (0 : Fin 1) d) (by
    rw [Shape.rowMajor_val_two, Shape.rowMajor_val_one]
    show 0 * 2048 + d.val = d.val
    omega)).trans ?_
  refine extractStridedSlice_apply _ _ slices_S8x12288_S1x2048_0_10240 _ _ fun a => ?_
  match a with
  | 0 => rfl
  | 1 => rfl

def refX : FVec Ideal S8192x2048 .f32 := addf (F := Ideal) (φ := .f32) X (mulf (F := Ideal) (φ := .f32) (refGate M) (refY tok E))

theorem refX_apply {a0 : S1x8192.Idx → BitVec 32} {a1 : S16x8192.Idx → BitVec 32} (hT : (tab a0 a1 tok).OK) (n : Fin 8192) (d : Fin 2048) :
    refX tok E X M (ix2 n d) = xv (tab a0 a1 tok).idx E X M n d := by
  unfold refX xv
  rw [← refY_apply tok E hT n d, ← refGate_apply M n d]
  rfl

def refRs (Z : FVec Ideal S8192x2048 .f32) : FVec Ideal S8192x1 .f32 :=
  Host.rsqrt (F := Ideal) (φ := .f32) (addf (F := Ideal) (φ := .f32) (Host.divf (F := Ideal) (φ := .f32)
    (broadcastInDim S8192x1 ![0] bcast_S8192_S8192x1_0 (Host.reduceAdd (F := Ideal) (φ := .f32) (mulf (F := Ideal) (φ := .f32) Z Z)
      (constant (F := Ideal) S_ .f32 0x00000000#32) reducesTo_S8192x2048_S8192_d1 h_S_))
    (broadcastInDim S8192x1 ![] bcast_S_S8192x1 (constant (F := Ideal) S_ .f32 0x45000000#32)))
    (broadcastInDim S8192x1 ![] bcast_S_S8192x1 (constant (F := Ideal) S_ .f32 0x358637BD#32)))

theorem reduces_z : S8192x2048.Reduces [1] S8192 := by decide

theorem refRs_apply (Z : FVec Ideal S8192x2048 .f32) (n : Fin 8192) :
    refRs Z (ix2 n (0 : Fin 1)) = Ideal.rsqrt (Ideal.div (∑ d : Fin 2048, (Z (ix2 n d) : EReal) * Z (ix2 n d)) (Ideal.ofBits .f32 0x45000000#32)
      + Ideal.ofBits .f32 0x358637BD#32) := by
  unfold refRs
  refine congrArg (fun s : EReal => Ideal.rsqrt (Ideal.div s (Ideal.ofBits .f32 0x45000000#32) + Ideal.ofBits .f32 0x358637BD#32)) ?_
  refine (broadcastInDim_apply _ bcast_S8192_S8192x1_0 _ _ (ix1 n) fun a => by match a with | 0 => rfl).trans ?_
  rw [hostReduceAdd_apply, Ideal.hostReduceAdd_single _ reduces_z]
  show Ideal.ofBits .f32 0x00000000#32 + _ = _
  rw [Ideal.ofBits_zero_f32, zero_add]
  refine Finset.sum_congr rfl fun d _ => ?_
  have h : reduces_z.lift (ix1 n) d = ix2 n d := funext fun a => Fin.ext (by match a with | 0 => rfl | 1 => rfl)
  rw [h]
  rfl

/-- The reference's result. -/
def scattered : FVec Ideal S8192x2048 .f32 :=
  mulf (F := Ideal) (φ := .f32) (mulf (F := Ideal) (φ := .f32) (refX tok E X M)
    (broadcastInDim S8192x2048 ![0, 1] bcast_S8192x1_S8192x2048_0_1 (refRs (refX tok E X M))))
    (broadcastInDim S8192x2048 ![0, 1] bcast_S1x2048_S8192x2048_0_1 (broadcastInDim S1x2048 ![1] bcast_S2048_S1x2048_1 G))

theorem scattered_apply {a0 : S1x8192.Idx → BitVec 32} {a1 : S16x8192.Idx → BitVec 32} (hT : (tab a0 a1 tok).OK) (n : Fin 8192) (d : Fin 2048) :
    scattered tok E X M G (ix2 n d) = ov (tab a0 a1 tok).idx E X M G n d := by
  have h1 : broadcastInDim S8192x2048 ![0, 1] bcast_S8192x1_S8192x2048_0_1 (refRs (refX tok E X M)) (ix2 n d)
      = rv (tab a0 a1 tok).idx E X M n := by
    refine (broadcastInDim_apply _ bcast_S8192x1_S8192x2048_0_1 _ _ (ix2 n (0 : Fin 1)) fun a => by match a with | 0 => rfl | 1 => rfl).trans ?_
    rw [refRs_apply]
    unfold rv
    simp only [refX_apply tok E X M hT]
  have h2 : broadcastInDim S8192x2048 ![0, 1] bcast_S1x2048_S8192x2048_0_1 (broadcastInDim S1x2048 ![1] bcast_S2048_S1x2048_1 G) (ix2 n d) = G (ix1 d) :=
    (broadcastInDim_apply _ bcast_S1x2048_S8192x2048_0_1 _ _ (ix2 (0 : Fin 1) d) fun a => by match a with | 0 => rfl | 1 => rfl).trans
      (broadcastInDim_apply _ bcast_S2048_S1x2048_1 _ _ (ix1 d) fun a => by match a with | 0 => rfl)
  unfold scattered ov
  rw [← refX_apply tok E X M hT n d, ← h1, ← h2]
  rfl

end Ref

theorem scatter_run (m : (ℓ : Loc nD τ sig) → Buf (Elt Ideal) ℓ) (g : Dev nD → PrngReg) :
    θ_run (defs (F := Ideal)) (onTc (τ := τ) (main (F := Ideal))) ⟨m, fun _ => 0, g⟩ (fun r =>
      (∀ c : Dev nD, r.2.mem ((c.tc : Thread nD τ).loc main_v27)
          = scattered (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0) :=
  (θ_run (defs (F := Ideal)) _ _).mono (fun r h => ⟨fun c => ⟨(h c).1.trans (by unfold scattered refX refRs refGate refY refCol; rfl), (h c).2⟩,
      sem_eq_zero_of_no_sems (by decide) r.2⟩)
    (Cert.ScatteredIdeal.Value.run (F := Ideal) m g)

end Cert.Comb

end
-- ==== Proof.KValue.lean ====
/-
  The combine's value: each token's sum over its rows is the reference's sum over its slots, and the block the body
  stores is the reference's result at the block's tokens.
-/
module

public import proofs.«01_k».proof.Proof.KRun
public import proofs.«01_k».proof.Proof.KSpec
public import Idealize.ShloMosaic.Lib.Pipeline.ValueKit.Geometry

@[expose] public section

noncomputable section

namespace Cert.Comb

open Cert.CombineIdeal Cert.CombineIdeal.Gen
open Cert.Hand (Tables tab)
open Idealize.ShloMosaic hiding ix1 ix2 ix3 ix4 ix5
open Idealize.ShloMosaic.TcCoe Idealize.ShloMosaic.ValueIdx
open Idealize.ShloMosaic.Pipeline (Dat)
open scoped BigOperators

/-! ## A token's sum -/

theorem acc_apply (T : Tables) (b : ℕ) (fe : S16384x2048.Idx → EReal) (K : ℕ) (r : Fin 128) (d : Fin 2048) :
    accAt (F := Ideal) T b fe K (ix2 r d)
      = ∑ k ∈ Finset.range K, if k < T.cnt (b + r.val) then fe (ix2 (Fin.ofNat 16384 (T.dst k (b + r.val))) d) else 0 := by
  induction K with
  | zero =>
    rw [Finset.sum_range_zero]
    show Ideal.ofBits .f32 0x00000000#32 = 0
    exact Ideal.ofBits_zero_f32
  | succ K ih =>
    rw [Finset.sum_range_succ, ← ih]
    show accAt (F := Ideal) T b fe K (ix2 r d) + (if K < T.cnt (b + r.val) then fe (ix2 (Fin.ofNat 16384 (T.dst K (b + r.val))) d) else Ideal.ofBits .f32 0x00000000#32) = _
    rw [Ideal.ofBits_zero_f32]

theorem sum_slots {T : Tables} (hT : T.OK) (fe : S16384x2048.Idx → EReal) {K : ℕ} (n : Fin 8192) (hK : T.cnt n.val ≤ K) (d : Fin 2048) :
    (∑ k ∈ Finset.range K, if k < T.cnt n.val then fe (ix2 (Fin.ofNat 16384 (T.dst k n.val)) d) else 0) = yv T.idx fe n d := by
  unfold yv
  rw [← Finset.sum_filter, ← Finset.sum_filter]
  have hn := n.isLt
  have hv : ∀ k, k < T.cnt n.val → (Fin.ofNat 16384 (T.dst k n.val)).val = T.dst k n.val := fun k hk =>
    Nat.mod_eq_of_lt (hT.dst_lt n.val hn k hk)
  refine Finset.sum_bij (fun k _ => Fin.ofNat 16384 (T.dst k n.val)) ?_ ?_ ?_ ?_
  · intro k hk
    have hk' := (Finset.mem_filter.mp hk).2
    refine Finset.mem_filter.mpr ⟨Finset.mem_univ _, ?_⟩
    rw [hv k hk']
    exact hT.fed n.val hn k hk'
  · intro k hk k' hk' e
    have h1 := (Finset.mem_filter.mp hk).2
    have h2 := (Finset.mem_filter.mp hk').2
    have e' := congrArg Fin.val e
    rw [hv k h1, hv k' h2] at e'
    exact hT.inj n.val hn k h1 k' h2 e'
  · intro s hs
    have hs' := (Finset.mem_filter.mp hs).2
    obtain ⟨-, k, hk, e⟩ := hT.full s.val s.isLt
    rw [hs'] at hk e
    exact ⟨k, Finset.mem_filter.mpr ⟨Finset.mem_range.mpr (by omega), hk⟩, Fin.ext ((hv k hk).trans e)⟩
  · intro k _; rfl

theorem most_sum {T : Tables} (hT : T.OK) (fe : S16384x2048.Idx → EReal) (b : ℕ) (hb : b + 128 ≤ 8192) (r : Fin 128) (d : Fin 2048) :
    accAt (F := Ideal) T b fe (most T b 128) (ix2 r d) = yv T.idx fe ⟨b + r.val, by have := r.isLt; omega⟩ d :=
  (acc_apply T b fe _ r d).trans (sum_slots hT fe (⟨b + r.val, by have := r.isLt; omega⟩ : Fin 8192) (le_most T b r.isLt) d)

/-! ## The stored block at an index -/

theorem lay_row (v : FVec Ideal S1x2048 .f32) (r : Fin 128) (d : Fin 2048) :
    broadcastTo S128x2048 v broadcasts_S1x2048_S128x2048 (ix2 r d) = v (ix2 (0 : Fin 1) d) :=
  broadcastTo_apply v broadcasts_S1x2048_S128x2048 _ _ fun a => by match a with | 0 => rfl | 1 => rfl
theorem lay_col (v : FVec Ideal S128x1 .f32) (r : Fin 128) (d : Fin 2048) :
    broadcastTo S128x2048 v broadcasts_S128x1_S128x2048 (ix2 r d) = v (ix2 r (0 : Fin 1)) :=
  broadcastTo_apply v broadcasts_S128x1_S128x2048 _ _ fun a => by match a with | 0 => rfl | 1 => rfl

theorem pay7_apply (y : FVec Ideal S128x2048 .f32) (w : Vec Ideal S1x2048 .f32) (x : Vec Ideal S128x2048 .f32) (r : Fin 128) (d : Fin 2048) :
    k0_pay7 (F := Ideal) y w x (ix2 r d) = (x (ix2 r d) : EReal) + (w (ix2 (0 : Fin 1) d) : EReal) * (y (ix2 r d) : EReal) := by
  rw [← lay_row w r d]
  rfl

theorem pay8_apply (y : FVec Ideal S128x2048 .f32) (w : Vec Ideal S1x2048 .f32) (x : Vec Ideal S128x2048 .f32) (r : Fin 128) :
    k0_pay8 (F := Ideal) y w x (ix2 r (0 : Fin 1))
      = ∑ d : Fin 2048, (k0_pay7 (F := Ideal) y w x (ix2 r d) : EReal) * (k0_pay7 (F := Ideal) y w x (ix2 r d) : EReal) := by
  unfold k0_pay8
  refine (shapeCast_apply _ shapeCasts_S128_S128x1 _ (ix1 r) (by
    rw [Shape.rowMajor_val_one, Shape.rowMajor_val_two]
    show r.val = r.val * 1 + 0
    omega)).trans ?_
  refine (Ideal.multiReduction_add_single (φ := .f32) _ _ reduces_S128x2048_S128 (.inl rfl) rfl (ix1 r)).trans ?_
  refine Finset.sum_congr rfl fun d _ => ?_
  have hl : reduces_S128x2048_S128.lift (ix1 r) d = ix2 r d := funext fun a => Fin.ext (match a with | 0 => rfl | 1 => rfl)
  rw [hl]
  rfl

theorem pay1_apply (z : FVec Ideal S128x2048 .f32) (q : FVec Ideal S128x1 .f32) (g : Vec Ideal S1x2048 .f32) (r : Fin 128) (d : Fin 2048) :
    k0_pay1 (F := Ideal) z q (Scalar.ofBits .f32 0x45000000#32) g (ix2 r d)
      = (z (ix2 r d) : EReal) * Ideal.rsqrt (Ideal.div (q (ix2 r (0 : Fin 1))) (Ideal.ofBits .f32 0x45000000#32) + Ideal.ofBits .f32 0x358637BD#32)
        * (g (ix2 (0 : Fin 1) d) : EReal) := by
  unfold k0_pay1
  simp only [shapeCast_self]
  rw [← lay_row g r d]
  refine congrArg (fun s : EReal => (z (ix2 r d) : EReal) * s * (broadcastTo S128x2048 g broadcasts_S1x2048_S128x2048 (ix2 r d) : EReal)) ?_
  exact lay_col _ r d

/-! ## The blocks the body reads -/

section Blocks
variable (m : (ℓ : Loc nD τ sig) → Buf (Elt Ideal) ℓ)

abbrev mX (c : Dev nD) : S8192x2048.Idx → EReal := m ((c : Thread nD τ).loc main_arg4)
abbrev mM (c : Dev nD) : S8x12288.Idx → EReal := m ((c : Thread nD τ).loc main_arg5)
abbrev mG (c : Dev nD) : S2048.Idx → EReal := m ((c : Thread nD τ).loc main_arg6)

theorem index3 : ∀ t : Fin cfg0.N, (cfg0.win 3).index t (0 : Fin 2) = t.val ∧ (cfg0.win 3).index t (1 : Fin 2) = 0 := by decide
theorem index4 : ∀ t : Fin cfg0.N, (cfg0.win 4).index t (0 : Fin 2) = 0 ∧ (cfg0.win 4).index t (1 : Fin 2) = 0 := by decide
theorem index5 : ∀ t : Fin cfg0.N, (cfg0.win 5).index t (0 : Fin 2) = 0 ∧ (cfg0.win 5).index t (1 : Fin 2) = 0 := by decide
theorem index6 : ∀ t : Fin cfg0.N, (cfg0.win 6).index t (0 : Fin 2) = t.val ∧ (cfg0.win 6).index t (1 : Fin 2) = 0 := by decide

/-- Row `r` of a grid point's block, as a token. -/
def token (t : Fin cfg0.N) (r : Fin 128) : Fin 8192 := ⟨128 * t.val + r.val, by
  have h : t.val < 64 := lt_of_lt_of_eq t.isLt N_0
  have := r.isLt
  omega⟩

theorem iblk3_eq (c : Dev nD) (t : Fin cfg0.N) (r : Fin 128) (d : Fin 2048) :
    iblk m c 3 t (ix2 r d) = mX m c (ix2 (token t r) d) := by
  unfold iblk
  refine Eq.trans ?_ (congrFun (V_main_arg4 m c) _)
  refine congrArg (V m c main_arg4) ?_
  funext b
  apply Fin.ext
  have h := (cfg0.win 3).rect_emb_val t (ix2 r d) b
  refine h.trans ?_
  match b with
  | ⟨0, _⟩ => exact (congrArg (fun z => z * 128 + r.val) (index3 t).1).trans (by show t.val * 128 + r.val = 128 * t.val + r.val; omega)
  | ⟨1, _⟩ => exact (congrArg (fun z => z * 2048 + d.val) (index3 t).2).trans (by show 0 * 2048 + d.val = d.val; omega)

theorem iblk4_eq (c : Dev nD) (t : Fin cfg0.N) (r : Fin 8) (e : Fin 12288) : iblk m c 4 t (ix2 r e) = mM m c (ix2 r e) := by
  unfold iblk
  refine Eq.trans ?_ (congrFun (V_main_arg5 m c) _)
  refine congrArg (V m c main_arg5) ?_
  funext b
  apply Fin.ext
  have h := (cfg0.win 4).rect_emb_val t (ix2 r e) b
  refine h.trans ?_
  have hz : (cfg0.win 4).index t b = 0 := by
    clear h
    revert b
    show ∀ b : Fin 2, (cfg0.win 4).index t b = 0
    intro b
    match b with
    | 0 => exact (index4 t).1
    | 1 => exact (index4 t).2
  rw [hz, Nat.zero_mul, Nat.zero_add]

theorem iblk5_eq (c : Dev nD) (t : Fin cfg0.N) (d : Fin 2048) : iblk m c 5 t (ix2 (0 : Fin 1) d) = mG m c (ix1 d) := by
  unfold iblk
  refine Eq.trans (b := V m c main_v1 (ix2 (0 : Fin 1) d)) ?_ ?_
  · refine congrArg (V m c main_v1) ?_
    funext b
    apply Fin.ext
    have h := (cfg0.win 5).rect_emb_val t (ix2 (0 : Fin 1) d) b
    refine h.trans ?_
    match b with
    | ⟨0, _⟩ => exact (congrArg (fun z => z * 1 + 0) (index5 t).1).trans rfl
    | ⟨1, _⟩ => exact (congrArg (fun z => z * 2048 + d.val) (index5 t).2).trans (by show 0 * 2048 + d.val = d.val; omega)
  · rw [V_main_v1]
    refine shapeCast_apply _ shapeCasts_S2048_S1x2048 _ _ ?_
    rw [Shape.rowMajor_val_one, Shape.rowMajor_val_two]
    show d.val = 0 * 2048 + d.val
    omega

theorem gate_eq (w : Vec Ideal S8x12288 .f32) (d : Fin 2048) :
    View.ld (Val := Elt Ideal) (e' := .f32) w (Rect.unit (s := S8x12288) ![0, 10240] S1x2048.size inb_S8x12288_S1x2048_0_10240) (ix2 (0 : Fin 1) d)
      = w (ix2 (0 : Fin 8) ⟨10240 + d.val, by have := d.isLt; omega⟩) := by
  refine congrArg w (funext fun b => Fin.ext ?_)
  match b with
  | ⟨0, _⟩ => rfl
  | ⟨1, _⟩ => show 10240 + 1 * d.val = 10240 + d.val; omega

/-! ## The result -/

theorem x_apply (hT : ∀ c, (mTab m c).OK) (c : Dev nD) (t : Fin cfg0.N) (r : Fin 128) (d : Fin 2048) :
    k0_pay7 (F := Ideal) (accAt (mTab m c) (base (grid0.coords t)) (mEo m c) (most (mTab m c) (base (grid0.coords t)) 128))
      (View.ld (Val := Elt Ideal) (e' := .f32) (iblk m c 4 t) (Rect.unit (s := S8x12288) ![0, 10240] S1x2048.size inb_S8x12288_S1x2048_0_10240))
      (iblk m c 3 t) (ix2 r d) = xv (mTab m c).idx (mEo m c) (mX m c) (mM m c) (token t r) d := by
  have h64 : t.val < 64 := lt_of_lt_of_eq t.isLt N_0
  refine (pay7_apply _ _ _ r d).trans ?_
  unfold xv
  refine congrArg₂ (fun a b : EReal => a + b) (iblk3_eq m c t r d) (congrArg₂ (fun a b : EReal => a * b) ?_ ?_)
  · exact (gate_eq _ d).trans (iblk4_eq m c t _ _)
  · rw [base_eq]
    exact most_sum (hT c) (mEo m c) (128 * t.val) (by omega) r d

theorem oBlk_apply (hT : ∀ c, (mTab m c).OK) (c : Dev nD) (t : Fin cfg0.N) (r : Fin 128) (d : Fin 2048) :
    oBlk m c t (ix2 r d) = ov (mTab m c).idx (mEo m c) (mX m c) (mM m c) (mG m c) (token t r) d := by
  unfold oBlk outB
  refine (pay1_apply _ _ _ r d).trans ?_
  unfold ov rv
  refine congrArg₂ (fun a b : EReal => a * b) (congrArg₂ (fun a b : EReal => a * b) (x_apply m hT c t r d)
    (congrArg (fun s : EReal => Ideal.rsqrt (Ideal.div s (Ideal.ofBits .f32 0x45000000#32) + Ideal.ofBits .f32 0x358637BD#32)) ?_)) (iblk5_eq m c t d)
  refine (pay8_apply _ _ _ r).trans (Finset.sum_congr rfl fun d' _ => ?_)
  exact congrArg₂ (fun a b : EReal => a * b) (x_apply m hT c t r d') (x_apply m hT c t r d')

theorem out_eq (hT : ∀ c, (mTab m c).OK) (c : Dev nD) :
    (dats m 0 c).arrAt 6 cfg0.N = scattered (mTok m c) (mEo m c) (mX m c) (mM m c) (mG m c) := by
  refine (dats m 0 c).arrAt_eq_of_covers 6 _ (by decide +kernel) fun t hf y => ?_
  have hy0 : (y 0).val < 128 := (y 0).isLt
  have hy1 : (y 1).val < 2048 := (y 1).isLt
  have hy : y = ix2 (⟨(y 0).val, hy0⟩ : Fin 128) (⟨(y 1).val, hy1⟩ : Fin 2048) := ValueIdx.eq_ix2 y
  have hG := scattered_apply (mTok m c) (mEo m c) (mX m c) (mM m c) (mG m c) (hT c) (token t ⟨(y 0).val, hy0⟩) ⟨(y 1).val, hy1⟩
  have hO := oBlk_apply m hT c t ⟨(y 0).val, hy0⟩ ⟨(y 1).val, hy1⟩
  have hL : oBlk m c t y = _ := (congrArg (oBlk m c t) hy).trans (hO.trans hG.symm)
  refine hL.trans (congrArg (scattered (mTok m c) (mEo m c) (mX m c) (mM m c) (mG m c)) (funext fun a => Fin.ext ?_))
  show _ = (((cfg0.win 6).rect t).emb y a).val
  refine Eq.symm ?_
  refine ((cfg0.win 6).rect_emb_val t y a).trans ?_
  match a with
  | ⟨0, _⟩ => exact (congrArg (fun z => z * 128 + (y 0).val) (index6 t).1).trans (by show t.val * 128 + (y 0).val = 128 * t.val + (y 0).val; omega)
  | ⟨1, _⟩ => exact (congrArg (fun z => z * 2048 + (y 1).val) (index6 t).2).trans (by show 0 * 2048 + (y 1).val = (y 1).val; omega)

end Blocks

end Cert.Comb

end
-- ==== Proof.lean ====
module

public import proofs.«01_k».proof.Defs
public import proofs.«01_k».proof.Proof.Gen.Dispatch
public import proofs.«01_k».proof.Proof.Gen.DispatchIdeal
public import proofs.«01_k».proof.Proof.Gen.DispatchIdeal.Frame
public import proofs.«01_k».proof.Proof.Gen.GatherIdeal
public import proofs.«01_k».proof.Proof.Gen.GatherIdeal.Run
public import proofs.«01_k».proof.Proof.Gen.Gather
public import proofs.«01_k».proof.Proof.Gen.Pre_routed
public import proofs.«01_k».proof.Proof.Gen.Dislat
public import proofs.«01_k».proof.Proof.Gen.DislatIdeal
public import proofs.«01_k».proof.Proof.Gen.DislatIdeal.Frame
public import proofs.«01_k».proof.Proof.Gen.GatlatIdeal
public import proofs.«01_k».proof.Proof.Gen.GatlatIdeal.Run
public import proofs.«01_k».proof.Proof.Gen.Gatlat
public import proofs.«01_k».proof.Proof.Gen.Pre_routed_lat
public import proofs.«01_k».proof.Proof.Gen.Experts
public import proofs.«01_k».proof.Proof.Gen.ExpertsIdeal
public import proofs.«01_k».proof.Proof.Gen.ExpertsIdeal.Frame
public import proofs.«01_k».proof.Proof.Gen.ExpertsIdeal.Skeleton
public import proofs.«01_k».proof.Proof.Gen.MoeIdeal
public import proofs.«01_k».proof.Proof.Gen.MoeIdeal.Run
public import proofs.«01_k».proof.Proof.Gen.Context
public import proofs.«01_k».proof.Proof.Gen.ContextIdeal
public import proofs.«01_k».proof.Proof.Gen.ContextIdeal.Frame
public import proofs.«01_k».proof.Proof.Gen.ContextIdeal.Skeleton
public import proofs.«01_k».proof.Proof.Gen.StatesIdeal
public import proofs.«01_k».proof.Proof.Gen.StatesIdeal.Run
public import proofs.«01_k».proof.Proof.Gen.Latent
public import proofs.«01_k».proof.Proof.Gen.LatentIdeal
public import proofs.«01_k».proof.Proof.Gen.LatentIdeal.Frame
public import proofs.«01_k».proof.Proof.Gen.LatentIdeal.Skeleton
public import proofs.«01_k».proof.Proof.Gen.TurnedIdeal
public import proofs.«01_k».proof.Proof.Gen.TurnedIdeal.Run
public import proofs.«01_k».proof.Proof.Gen.Combine
public import proofs.«01_k».proof.Proof.Gen.CombineIdeal
public import proofs.«01_k».proof.Proof.Gen.CombineIdeal.Frame
public import proofs.«01_k».proof.Proof.Gen.CombineIdeal.Skeleton
public import proofs.«01_k».proof.Proof.Gen.CombineIdeal.Loops
public import proofs.«01_k».proof.Proof.Gen.ScatteredIdeal
public import proofs.«01_k».proof.Proof.Gen.ScatteredIdeal.Run
public import proofs.«01_k».proof.Proof.Gen.Pre_assigned
public import proofs.«01_k».proof.Proof.Gathered
public import proofs.«01_k».proof.Proof.Twin
public import proofs.«01_k».proof.Proof.DGathered
public import proofs.«01_k».proof.Proof.DPre
public import proofs.«01_k».proof.Proof.DTwin
public import proofs.«01_k».proof.Proof.EObl
public import proofs.«01_k».proof.Proof.EKernel
public import proofs.«01_k».proof.Proof.ETwin
public import proofs.«01_k».proof.Proof.CRun
public import proofs.«01_k».proof.Proof.CTwin
public import proofs.«01_k».proof.Proof.CSpec
public import proofs.«01_k».proof.Proof.CValue
public import proofs.«01_k».proof.Proof.LTwin
public import proofs.«01_k».proof.Proof.LRef
public import proofs.«01_k».proof.Proof.LValue
public import proofs.«01_k».proof.Proof.KRun
public import proofs.«01_k».proof.Proof.KPre
public import proofs.«01_k».proof.Proof.KTwin
public import proofs.«01_k».proof.Proof.KSpec
public import proofs.«01_k».proof.Proof.KValue
public import Idealize.ShloMosaic.Lib.Claim

@[expose] public section

noncomputable section

namespace Cert.Proof

open Idealize.ShloMosaic Idealize.SL.Sem Cert.Hand

/-- Under the precondition every device's arrays are the tables of one assignment. -/
theorem tabs_ok {F : FTy → Type} [FloatOps F] (m : (ℓ : Loc Cert.DispatchIdeal.nD Cert.DispatchIdeal.τ Cert.DispatchIdeal.sig) → Buf (Elt F) ℓ)
    (h : ∀ c, Cert.Pre_routed.fn (F := F) (mCnt m c) (mDst m c) (mRows m c) (mTok m c) = fun _ => 1#1) : ∀ c, (mTab m c).OK :=
  fun c => tables_ok _ _ _ _ (h c)

theorem frame_p : Cert.quiescent_Dispatch := fun m g h => (θ_twin (F := Bits) ⟨m, fun _ => 0, g⟩ _).mpr
  ((θ_run (Cert.DispatchIdeal.defs (F := Bits)) _ _).mono (fun _ hr => ⟨fun c => (hr.1 c).2, hr.2⟩) (run (F := Bits) m g (tabs_ok (F := Bits) m h)))

theorem frame_pi : Cert.quiescent_DispatchIdeal := fun m g h =>
  (θ_run (Cert.DispatchIdeal.defs (F := Ideal)) _ _).mono (fun _ hr => ⟨fun c => (hr.1 c).2, hr.2⟩) (run (F := Ideal) m g (tabs_ok m h))

theorem frame_ri : Cert.quiescent_GatherIdeal := fun m g _ =>
  (θ_run (Cert.GatherIdeal.defs (F := Ideal)) _ _).mono (fun _ hr => ⟨fun c => (hr.1 c).2, hr.2⟩) (gather_run (F := Ideal) m g)

theorem frame_r : Cert.quiescent_Gather := fun m g _ =>
  (θ_run (Cert.GatherIdeal.defs (F := Bits)) _ _).mono (fun _ hr => ⟨fun c => (hr.1 c).2, hr.2⟩) (gather_run (F := Bits) m g)

theorem algebraic : Cert.algebraic_DispatchIdeal_GatherIdeal := fun m g m' g' h hagree =>
  ⟨fun c => outAt (F := Ideal) m c 16,
    (θ_run (Cert.DispatchIdeal.defs (F := Ideal)) _ _).mono (fun _ hr => hr.1) (run (F := Ideal) m g (tabs_ok m h)),
    (θ_run (Cert.GatherIdeal.defs (F := Ideal)) _ _).mono (fun _ hr c => ⟨by
        rw [(hr.1 c).1, (hagree c).2.2.1, (hagree c).2.2.2]
        exact (gathered_eq _ _ _ _ _ (tabs_ok m h c)).symm, (hr.1 c).2⟩) (gather_run (F := Ideal) m' g')⟩

theorem bitexact : Cert.bitexact_Dispatch_Gather := fun m g m' g' h hagree =>
  ⟨fun c => outAt (F := Bits) m c 16,
    (θ_twin (F := Bits) ⟨m, fun _ => 0, g⟩ _).mpr
      ((θ_run (Cert.DispatchIdeal.defs (F := Bits)) _ _).mono (fun _ hr => hr.1) (run (F := Bits) m g (tabs_ok (F := Bits) m h))),
    (θ_run (Cert.GatherIdeal.defs (F := Bits)) _ _).mono (fun _ hr c => ⟨((hr.1 c).1.trans
        (congrArg₂ gathered (hagree c).2.2.1 (hagree c).2.2.2)).trans (gathered_eq _ _ _ _ _ (tabs_ok (F := Bits) m h c)).symm,
        (hr.1 c).2⟩) (gather_run (F := Bits) m' g')⟩

/-! ## The latents' dispatch -/

/-- Under the precondition every device's arrays are the tables of one assignment. -/
theorem tabs_ok_lat {F : FTy → Type} [FloatOps F] (m : (ℓ : Loc Cert.DislatIdeal.nD Cert.DislatIdeal.τ Cert.DislatIdeal.sig) → Buf (Elt F) ℓ)
    (h : ∀ c, Cert.Pre_routed_lat.fn (F := F) (Cert.HandL.mCnt m c) (Cert.HandL.mDst m c) (Cert.HandL.mRows m c) (Cert.HandL.mTok m c) = fun _ => 1#1) : ∀ c, (Cert.HandL.mTab m c).OK :=
  fun c => Cert.HandL.tables_ok _ _ _ _ (h c)

theorem frame_p_lat : Cert.quiescent_Dislat := fun m g h => (Cert.HandL.θ_twin (F := Bits) ⟨m, fun _ => 0, g⟩ _).mpr
  ((θ_run (Cert.DislatIdeal.defs (F := Bits)) _ _).mono (fun _ hr => ⟨fun c => (hr.1 c).2, hr.2⟩) (Cert.HandL.run (F := Bits) m g (tabs_ok_lat (F := Bits) m h)))

theorem frame_pi_lat : Cert.quiescent_DislatIdeal := fun m g h =>
  (θ_run (Cert.DislatIdeal.defs (F := Ideal)) _ _).mono (fun _ hr => ⟨fun c => (hr.1 c).2, hr.2⟩) (Cert.HandL.run (F := Ideal) m g (tabs_ok_lat m h))

theorem frame_ri_lat : Cert.quiescent_GatlatIdeal := fun m g _ =>
  (θ_run (Cert.GatlatIdeal.defs (F := Ideal)) _ _).mono (fun _ hr => ⟨fun c => (hr.1 c).2, hr.2⟩) (Cert.HandL.gather_run (F := Ideal) m g)

theorem frame_r_lat : Cert.quiescent_Gatlat := fun m g _ =>
  (θ_run (Cert.GatlatIdeal.defs (F := Bits)) _ _).mono (fun _ hr => ⟨fun c => (hr.1 c).2, hr.2⟩) (Cert.HandL.gather_run (F := Bits) m g)

theorem algebraic_lat : Cert.algebraic_DislatIdeal_GatlatIdeal := fun m g m' g' h hagree =>
  ⟨fun c => Cert.HandL.outAt (F := Ideal) m c 8,
    (θ_run (Cert.DislatIdeal.defs (F := Ideal)) _ _).mono (fun _ hr => hr.1) (Cert.HandL.run (F := Ideal) m g (tabs_ok_lat m h)),
    (θ_run (Cert.GatlatIdeal.defs (F := Ideal)) _ _).mono (fun _ hr c => ⟨by
        rw [(hr.1 c).1, (hagree c).2.2.1, (hagree c).2.2.2]
        exact (Cert.HandL.gathered_eq _ _ _ _ _ (tabs_ok_lat m h c)).symm, (hr.1 c).2⟩) (Cert.HandL.gather_run (F := Ideal) m' g')⟩

theorem bitexact_lat : Cert.bitexact_Dislat_Gatlat := fun m g m' g' h hagree =>
  ⟨fun c => Cert.HandL.outAt (F := Bits) m c 8,
    (Cert.HandL.θ_twin (F := Bits) ⟨m, fun _ => 0, g⟩ _).mpr
      ((θ_run (Cert.DislatIdeal.defs (F := Bits)) _ _).mono (fun _ hr => hr.1) (Cert.HandL.run (F := Bits) m g (tabs_ok_lat (F := Bits) m h))),
    (θ_run (Cert.GatlatIdeal.defs (F := Bits)) _ _).mono (fun _ hr c => ⟨((hr.1 c).1.trans
        (congrArg₂ Cert.HandL.gathered (hagree c).2.2.1 (hagree c).2.2.2)).trans (Cert.HandL.gathered_eq _ _ _ _ _ (tabs_ok_lat (F := Bits) m h c)).symm,
        (hr.1 c).2⟩) (Cert.HandL.gather_run (F := Bits) m' g')⟩

/-! ## The experts call -/

/-- The experts call over any float values: it runs, its two results are the flushed blocks, its arguments end unchanged, nothing is left signalled. -/
theorem experts_run {F : FTy → Type} [FloatOps F] (m : (ℓ : Loc Cert.ExpertsIdeal.nD Cert.ExpertsIdeal.τ Cert.ExpertsIdeal.sig) → Buf (Elt F) ℓ)
    (g : Dev Cert.ExpertsIdeal.nD → PrngReg) :
    θ_run (Cert.ExpertsIdeal.defs (F := F)) (onTc (τ := Cert.ExpertsIdeal.τ) (Cert.ExpertsIdeal.main (F := F))) ⟨m, fun _ => 0, g⟩
      (fun r => (∀ c : Dev Cert.ExpertsIdeal.nD,
        (r.2.mem ((c.tc : Thread Cert.ExpertsIdeal.nD Cert.ExpertsIdeal.τ).loc Cert.ExpertsIdeal.main_v0_0) = (Cert.Moe.dats m 0 c).arrAt 5 Cert.ExpertsIdeal.cfg0.N
        ∧ r.2.mem ((c.tc : Thread Cert.ExpertsIdeal.nD Cert.ExpertsIdeal.τ).loc Cert.ExpertsIdeal.main_v0_1) = (Cert.Moe.dats m 0 c).arrAt 6 Cert.ExpertsIdeal.cfg0.N)
        ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
        ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
        ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
        ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
        ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
        ∧ r.2.sem = fun _ => 0) := by
  have h := Cert.Moe.run_main m g
  have hf := Cert.ExpertsIdeal.Gen.frame_of m g (Cert.Moe.dats m) (Cert.Moe.A_eq m)
    ((θ_run (Cert.ExpertsIdeal.defs (F := F)) _ _).mono (fun _ hr => hr.1) h)
  exact (θ_run (Cert.ExpertsIdeal.defs (F := F)) _ _).mono
    (fun _ hr => ⟨fun c => ⟨⟨(hr.1.1 c).1 5, (hr.1.1 c).1 6⟩, hr.2 c⟩, hr.1.2⟩) (θ_run_and h hf)

theorem frame_p2 : Cert.quiescent_Experts := fun m g _ => (Cert.Moe.θ_twin (F := Bits) ⟨m, fun _ => 0, g⟩ _).mpr
  ((θ_run (Cert.ExpertsIdeal.defs (F := Bits)) _ _).mono (fun _ hr => ⟨fun c => (hr.1 c).2, hr.2⟩) (experts_run (F := Bits) m g))

theorem frame_pi2 : Cert.quiescent_ExpertsIdeal := fun m g _ =>
  (θ_run (Cert.ExpertsIdeal.defs (F := Ideal)) _ _).mono (fun _ hr => ⟨fun c => (hr.1 c).2, hr.2⟩) (experts_run (F := Ideal) m g)

theorem frame_ri2 : Cert.quiescent_MoeIdeal := fun m g _ =>
  (θ_run (Cert.MoeIdeal.defs (F := Ideal)) _ _).mono
    (fun r hr => ⟨fun c => (hr c).2.2, sem_eq_zero_of_no_sems (by decide) r.2⟩) (Cert.MoeIdeal.Value.run m g)

theorem algebraic2 : Cert.algebraic_ExpertsIdeal_MoeIdeal := fun m g m' g' _ hagree =>
  ⟨fun c => (Cert.Moe.dats m 0 c).arrAt 5 Cert.ExpertsIdeal.cfg0.N, fun c => (Cert.Moe.dats m 0 c).arrAt 6 Cert.ExpertsIdeal.cfg0.N,
    (θ_run (Cert.ExpertsIdeal.defs (F := Ideal)) _ _).mono (fun _ hr c => ⟨(hr.1 c).1.1, (hr.1 c).1.2, (hr.1 c).2⟩) (experts_run (F := Ideal) m g),
    (θ_run (Cert.MoeIdeal.defs (F := Ideal)) _ _).mono (fun _ hr c => by
      obtain ⟨e0, e1, e2, e3, e4⟩ := hagree c
      refine ⟨(hr c).1.trans ?_, (hr c).2.1.trans ?_, (hr c).2.2⟩
      · rw [Cert.Moe.res0_eq, e0, e1, e2, e3, e4]
        exact (Cert.Moe.arr5 m c).symm
      · rw [Cert.Moe.res1_eq, e0, e1, e2, e3, e4]
        exact (Cert.Moe.arr6 m c).symm) (Cert.MoeIdeal.Value.run m' g')⟩

/-! ## The context's states -/

theorem frame_p3 : Cert.quiescent_Context := fun m g _ => (Cert.Ctx.θ_twin (F := Bits) ⟨m, fun _ => 0, g⟩ _).mpr
  ((θ_run (Cert.ContextIdeal.defs (F := Bits)) _ _).mono (fun _ hr => ⟨fun c => (hr.1 c).2, hr.2⟩) (Cert.Ctx.run (F := Bits) m g))

theorem frame_pi3 : Cert.quiescent_ContextIdeal := fun m g _ =>
  (θ_run (Cert.ContextIdeal.defs (F := Ideal)) _ _).mono (fun _ hr => ⟨fun c => (hr.1 c).2, hr.2⟩) (Cert.Ctx.run (F := Ideal) m g)

theorem frame_ri3 : Cert.quiescent_StatesIdeal := fun m g _ =>
  (θ_run (Cert.StatesIdeal.defs (F := Ideal)) _ _).mono
    (fun r hr => ⟨fun c => (hr c).2, sem_eq_zero_of_no_sems (by decide) r.2⟩) (Cert.Ctx.states_run m g)

theorem algebraic3 : Cert.algebraic_ContextIdeal_StatesIdeal := fun m g m' g' _ hagree =>
  ⟨fun c => Cert.ContextIdeal.Gen.W5 m g c (Proc.devRef .tc Cert.ContextIdeal.main_v12_0),
    fun c => Cert.ContextIdeal.Gen.W5 m g c (Proc.devRef .tc Cert.ContextIdeal.main_v13),
    fun c => Cert.ContextIdeal.Gen.W5 m g c (Proc.devRef .tc Cert.ContextIdeal.main_v14),
    fun c => Cert.ContextIdeal.Gen.W5 m g c (Proc.devRef .tc Cert.ContextIdeal.main_v12_3),
    fun c => Cert.ContextIdeal.Gen.W5 m g c (Proc.devRef .tc Cert.ContextIdeal.main_v12_4),
    (θ_run (Cert.ContextIdeal.defs (F := Ideal)) _ _).mono (fun _ hr c =>
      ⟨(hr.1 c).1.1, (hr.1 c).1.2.1, (hr.1 c).1.2.2.1, (hr.1 c).1.2.2.2.1, (hr.1 c).1.2.2.2.2, (hr.1 c).2⟩) (Cert.Ctx.run (F := Ideal) m g),
    (θ_run (Cert.StatesIdeal.defs (F := Ideal)) _ _).mono (fun _ hr c => by
      obtain ⟨e0, e1, e2, e3, e4, e5, e6⟩ := hagree c
      obtain ⟨⟨hq, hk, hv, hu, hg⟩, ha⟩ := hr c
      refine ⟨hq.trans ?_, hk.trans ?_, hv.trans ?_, hu.trans ?_, hg.trans ?_, ha⟩
      · rw [e0, e2, e3, e4, e5, e6]
        exact (Cert.Ctx.refQ_eq _ _ _ _ _ _).trans (Cert.Ctx.resQ m g c).symm
      · rw [e0, e2, e3, e4, e5, e6]
        exact (Cert.Ctx.refK_eq _ _ _ _ _ _).trans (Cert.Ctx.resK m g c).symm
      · rw [e0, e2, e3, e4, e5, e6]
        exact (Cert.Ctx.refV_eq _ _ _ _ _ _).trans (Cert.Ctx.resV m g c).symm
      · rw [e0, e2, e3, e4, e5, e6]
        exact (Cert.Ctx.refU_eq _ _ _ _ _ _).trans (Cert.Ctx.resU m g c).symm
      · rw [e0, e2, e3, e4, e5, e6]
        exact (Cert.Ctx.refG_eq _ _ _ _ _ _).trans (Cert.Ctx.resG m g c).symm) (Cert.Ctx.states_run m' g')⟩

/-! ## The latent streams' states, turned -/

theorem frame_p4 : Cert.quiescent_Latent := fun m g _ => (Cert.Lat.θ_twin (F := Bits) ⟨m, fun _ => 0, g⟩ _).mpr
  ((θ_run (Cert.LatentIdeal.defs (F := Bits)) _ _).mono (fun _ hr => ⟨fun c => (hr.1 c).2, hr.2⟩) (Cert.Lat.run (F := Bits) m g))

theorem frame_pi4 : Cert.quiescent_LatentIdeal := fun m g _ =>
  (θ_run (Cert.LatentIdeal.defs (F := Ideal)) _ _).mono (fun _ hr => ⟨fun c => (hr.1 c).2, hr.2⟩) (Cert.Lat.run (F := Ideal) m g)

theorem frame_ri4 : Cert.quiescent_TurnedIdeal := fun m g _ =>
  (θ_run (Cert.TurnedIdeal.defs (F := Ideal)) _ _).mono
    (fun r hr => ⟨fun c => (hr c).2, sem_eq_zero_of_no_sems (by decide) r.2⟩) (Cert.Lat.turned_run m g)

theorem algebraic4 : Cert.algebraic_LatentIdeal_TurnedIdeal := fun m g m' g' _ hagree =>
  ⟨fun c => Cert.LatentIdeal.Gen.W8 m g c (Proc.devRef .tc Cert.LatentIdeal.main_v47_0),
    fun c => Cert.LatentIdeal.Gen.W8 m g c (Proc.devRef .tc Cert.LatentIdeal.main_v47_1),
    fun c => Cert.LatentIdeal.Gen.W8 m g c (Proc.devRef .tc Cert.LatentIdeal.main_v47_2),
    fun c => Cert.LatentIdeal.Gen.W8 m g c (Proc.devRef .tc Cert.LatentIdeal.main_v47_3),
    fun c => Cert.LatentIdeal.Gen.W8 m g c (Proc.devRef .tc Cert.LatentIdeal.main_v47_4),
    (θ_run (Cert.LatentIdeal.defs (F := Ideal)) _ _).mono (fun _ hr c =>
      ⟨(hr.1 c).1.1, (hr.1 c).1.2.1, (hr.1 c).1.2.2.1, (hr.1 c).1.2.2.2.1, (hr.1 c).1.2.2.2.2, (hr.1 c).2⟩) (Cert.Lat.run (F := Ideal) m g),
    (θ_run (Cert.TurnedIdeal.defs (F := Ideal)) _ _).mono (fun _ hr c => by
      obtain ⟨e0, e1, e2, e3, e4, e5, e6⟩ := hagree c
      obtain ⟨⟨hq, hk, hv, hu, hg⟩, ha⟩ := hr c
      refine ⟨hq.trans ?_, hk.trans ?_, hv.trans ?_, hu.trans ?_, hg.trans ?_, ha⟩
      · rw [e0, e1, e3, e4, e5, e6]
        exact (Cert.Lat.refQ_eq _ _ _ _ _ _).trans (Cert.Lat.resQ m g c).symm
      · rw [e0, e1, e3, e4, e5, e6]
        exact (Cert.Lat.refK_eq _ _ _ _ _ _).trans (Cert.Lat.resK m g c).symm
      · rw [e0, e1, e3, e4, e5, e6]
        exact (Cert.Lat.refV_eq _ _ _ _ _ _).trans (Cert.Lat.resV m g c).symm
      · rw [e0, e1, e3, e4, e5, e6]
        exact (Cert.Lat.refU_eq _ _ _ _ _ _).trans (Cert.Lat.resU m g c).symm
      · rw [e0, e1, e3, e4, e5, e6]
        exact (Cert.Lat.refG_eq _ _ _ _ _ _).trans (Cert.Lat.resG m g c).symm) (Cert.Lat.turned_run m' g')⟩

/-! ## The combine of the context -/

/-- Under the precondition every device's arrays are the tables of one assignment. -/
theorem tabs_ok_comb {F : FTy → Type} [FloatOps F] (m : (ℓ : Loc Cert.CombineIdeal.nD Cert.CombineIdeal.τ Cert.CombineIdeal.sig) → Buf (Elt F) ℓ)
    (h : ∀ c : Dev Cert.CombineIdeal.nD, Cert.Pre_assigned.fn (F := F) (m ((c.tc : Thread Cert.CombineIdeal.nD Cert.CombineIdeal.τ).loc Cert.CombineIdeal.main_arg0))
      (m ((c.tc : Thread Cert.CombineIdeal.nD Cert.CombineIdeal.τ).loc Cert.CombineIdeal.main_arg1))
      (m ((c.tc : Thread Cert.CombineIdeal.nD Cert.CombineIdeal.τ).loc Cert.CombineIdeal.main_arg2))
      (m ((c.tc : Thread Cert.CombineIdeal.nD Cert.CombineIdeal.τ).loc Cert.CombineIdeal.main_arg3))
      (m ((c.tc : Thread Cert.CombineIdeal.nD Cert.CombineIdeal.τ).loc Cert.CombineIdeal.main_arg4))
      (m ((c.tc : Thread Cert.CombineIdeal.nD Cert.CombineIdeal.τ).loc Cert.CombineIdeal.main_arg5))
      (m ((c.tc : Thread Cert.CombineIdeal.nD Cert.CombineIdeal.τ).loc Cert.CombineIdeal.main_arg6)) = fun _ => 1#1) :
    ∀ c, (Cert.Comb.mTab m c).OK :=
  fun c => Cert.Comb.tables_ok (F := F) (h c)

theorem frame_p5 : Cert.quiescent_Combine := fun m g h => (Cert.Comb.θ_twin (F := Bits) ⟨m, fun _ => 0, g⟩ _).mpr
  ((θ_run (Cert.CombineIdeal.defs (F := Bits)) _ _).mono (fun _ hr => ⟨fun c => (hr.1 c).2, hr.2⟩) (Cert.Comb.run (F := Bits) m g (tabs_ok_comb (F := Bits) m h)))

theorem frame_pi5 : Cert.quiescent_CombineIdeal := fun m g h =>
  (θ_run (Cert.CombineIdeal.defs (F := Ideal)) _ _).mono (fun _ hr => ⟨fun c => (hr.1 c).2, hr.2⟩) (Cert.Comb.run (F := Ideal) m g (tabs_ok_comb m h))

theorem frame_ri5 : Cert.quiescent_ScatteredIdeal := fun m g _ =>
  (θ_run (Cert.ScatteredIdeal.defs (F := Ideal)) _ _).mono (fun _ hr => ⟨fun c => (hr.1 c).2, hr.2⟩) (Cert.Comb.scatter_run m g)

theorem algebraic5 : Cert.algebraic_CombineIdeal_ScatteredIdeal := fun m g m' g' h hagree =>
  ⟨fun c => (Cert.Comb.dats m 0 c).arrAt 6 Cert.CombineIdeal.cfg0.N,
    (θ_run (Cert.CombineIdeal.defs (F := Ideal)) _ _).mono (fun _ hr => hr.1) (Cert.Comb.run (F := Ideal) m g (tabs_ok_comb m h)),
    (θ_run (Cert.ScatteredIdeal.defs (F := Ideal)) _ _).mono (fun _ hr c => by
      obtain ⟨e0, e1, e2, e3, e4, e5, e6⟩ := hagree c
      refine ⟨(hr.1 c).1.trans ?_, (hr.1 c).2⟩
      rw [e2, e3, e4, e5, e6]
      exact (Cert.Comb.out_eq m (tabs_ok_comb m h) c).symm) (Cert.Comb.scatter_run m' g')⟩

theorem claim : Cert.Claim := ⟨Cert.Dispatch.Gen.facts, Cert.DispatchIdeal.Gen.facts, Cert.GatherIdeal.Gen.facts, Cert.Gather.Gen.facts,
  Cert.Dislat.Gen.facts, Cert.DislatIdeal.Gen.facts, Cert.GatlatIdeal.Gen.facts, Cert.Gatlat.Gen.facts,
  Cert.Experts.Gen.facts, Cert.ExpertsIdeal.Gen.facts, Cert.MoeIdeal.Gen.facts,
  Cert.Context.Gen.facts, Cert.ContextIdeal.Gen.facts, Cert.StatesIdeal.Gen.facts,
  Cert.Latent.Gen.facts, Cert.LatentIdeal.Gen.facts, Cert.TurnedIdeal.Gen.facts,
  Cert.Combine.Gen.facts, Cert.CombineIdeal.Gen.facts, Cert.ScatteredIdeal.Gen.facts,
  Cert.Pre_routed.Gen.facts, Cert.Pre_routed_lat.Gen.facts, Cert.Pre_assigned.Gen.facts, frame_p, frame_pi, frame_ri, frame_r,
  frame_p_lat, frame_pi_lat, frame_ri_lat, frame_r_lat, frame_p2, frame_pi2, frame_ri2, frame_p3, frame_pi3, frame_ri3,
  frame_p4, frame_pi4, frame_ri4, frame_p5, frame_pi5, frame_ri5,
  trivial, algebraic, bitexact, trivial, algebraic_lat, bitexact_lat, trivial, algebraic2, trivial, algebraic3, trivial, algebraic4, trivial, algebraic5⟩

end Cert.Proof

end
